-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_normal [hPre_normal : Cert.Pre_normal.Facts] (m : (ℓ : Loc Cert.NormIdeal.nD Cert.NormIdeal.τ Cert.NormIdeal.sig) → Buf (Elt Ideal) ℓ) : Prop :=
  ∀ c : Dev Cert.NormIdeal.nD,
    (Cert.Pre_normal.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1))).1 = (fun _ => 1#1)
    ∧ (Cert.Pre_normal.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1))).2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_normal [hPre_normal : Cert.Pre_normal.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_normal.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1))).1 = (fun _ => 1#1)
    ∧ (Cert.Pre_normal.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormIdeal_pre_normal [hNormIdeal : Cert.NormIdeal.Facts] [hPre_normal : Cert.Pre_normal.Facts] : Prop :=
  ∀ (m : (ℓ : Loc Cert.NormIdeal.nD Cert.NormIdeal.τ Cert.NormIdeal.sig) → Buf (Elt Ideal) ℓ) (g : Dev Cert.NormIdeal.nD → PrngReg), Pre_NormIdeal_normal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormReferenceIdeal_pre_normal [hNormReferenceIdeal : Cert.NormReferenceIdeal.Facts] [hPre_normal : Cert.Pre_normal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_normal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Norm_NormIdeal : Prop :=
  True

def algebraic_NormIdeal_NormReferenceIdeal_pre_normal [hNormIdeal : Cert.NormIdeal.Facts] [hNormReferenceIdeal : Cert.NormReferenceIdeal.Facts] [hPre_normal : Cert.Pre_normal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_normal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v0_0) = v0 c
          ∧ r.2.mem ((c.tc : Thread Cert.NormReferenceIdeal.nD Cert.NormReferenceIdeal.τ).loc Cert.NormReferenceIdeal.main_v0_1) = v1 c
          ∧ r.2.mem ((c.tc : Thread Cert.NormReferenceIdeal.nD Cert.NormReferenceIdeal.τ).loc Cert.NormReferenceIdeal.main_v0_2) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hPre_tame : Cert.Pre_tame.Facts) (hPre_normal : Cert.Pre_normal.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Norm (hNorm := hNorm)
    ∧ quiescent_NormIdeal (hNormIdeal := hNormIdeal)
    ∧ quiescent_NormIdeal_pre_normal (hNormIdeal := hNormIdeal) (hPre_normal := hPre_normal)
    ∧ quiescent_NormReferenceIdeal (hNormReferenceIdeal := hNormReferenceIdeal)
    ∧ quiescent_NormReferenceIdeal_pre_normal (hNormReferenceIdeal := hNormReferenceIdeal) (hPre_normal := hPre_normal)
    ∧ preserves_Kernel_KernelIdeal
    ∧ algebraic_KernelIdeal_ReferenceIdeal_pre_tame (hKernelIdeal := hKernelIdeal) (hReferenceIdeal := hReferenceIdeal) (hPre_tame := hPre_tame)
    ∧ preserves_Norm_NormIdeal
    ∧ algebraic_NormIdeal_NormReferenceIdeal_pre_normal (hNormIdeal := hNormIdeal) (hNormReferenceIdeal := hNormReferenceIdeal) (hPre_normal := hPre_normal)
-- ==== Pre_normal.lean ====
abbrev S2x128x2304 : Shape := ⟨3, ![2, 128, 2304]⟩
abbrev S2x128x18 : Shape := ⟨3, ![2, 128, 18]⟩
abbrev S_ : Shape := ⟨0, ![]⟩

class Facts : Prop where
  bcast_S_S2x128x18 : S_.BroadcastsInDim S2x128x18 (![] : Fin 0 → Fin S2x128x18.rank)

variable [Facts]

def fn {F : FTy → Type} [FloatOps F] (main_arg0 : FVec F S2x128x2304 .bf16) (main_arg1 : IVec S2x128x18 32) : IVec S2x128x18 1 × IVec S2x128x18 1 :=
  let main_c : IVec S_ 32 := constantI S_ 32 4294967170#32
  let main_v0 : IVec S2x128x18 32 := broadcastInDim S2x128x18 ![] bcast_S_S2x128x18 main_c
  let main_v1 : IVec S2x128x18 1 := cmpi .sge main_arg1 main_v0
  let main_c_0 : IVec S_ 32 := constantI S_ 32 126#32
  let main_v2 : IVec S2x128x18 32 := broadcastInDim S2x128x18 ![] bcast_S_S2x128x18 main_c_0
  let main_v3 : IVec S2x128x18 1 := cmpi .sle main_arg1 main_v2
  (main_v1, main_v3)
-- ==== Pre_tame.lean ====
abbrev S2x128x2304 : Shape := ⟨3, ![2, 128, 2304]⟩
abbrev S2x2304 : Shape := ⟨2, ![2, 2304]⟩
abbrev S2304x9216 : Shape := ⟨2, ![2304, 9216]⟩
abbrev S18x72 : Shape := ⟨2, ![18, 72]⟩
abbrev S9216 : Shape := ⟨1, ![9216]⟩
abbrev S2x18x72 : Shape := ⟨3, ![2, 18, 72]⟩
abbrev S_ : Shape := ⟨0, ![]⟩
abbrev S1x18x72 : Shape := ⟨3, ![1, 18, 72]⟩

class Facts : Prop where
  bcast_S_S18x72 : S_.BroadcastsInDim S18x72 (![] : Fin 0 → Fin S18x72.rank)
  bcast_S_S2x2304 : S_.BroadcastsInDim S2x2304 (![] : Fin 0 → Fin S2x2304.rank)
  bcast_S_S2x18x72 : S_.BroadcastsInDim S2x18x72 (![] : Fin 0 → Fin S2x18x72.rank)
  bcast_S18x72_S1x18x72_1_2 : S18x72.BroadcastsInDim S1x18x72 (![1, 2] : Fin 2 → Fin S1x18x72.rank)
  bcast_S1x18x72_S2x18x72_0_1_2 : S1x18x72.BroadcastsInDim S2x18x72 (![0, 1, 2] : Fin 3 → Fin S2x18x72.rank)

variable [Facts]

def fn_part1 {F : FTy → Type} [FloatOps F] (main_arg6 : IVec S2x18x72 32) (main_v1 : IVec S18x72 32) (main_v4 : IVec S2x2304 1) (main_v8 : IVec S18x72 1) (main_v10 : IVec S18x72 1) (main_v12 : IVec S18x72 1) (main_v14 : IVec S2x18x72 1) (main_v15 : IVec S2x18x72 32) : IVec S2x2304 1 × IVec S18x72 1 × IVec S18x72 1 × IVec S18x72 1 × IVec S2x18x72 1 × IVec S2x18x72 1 × IVec S2x18x72 1 × IVec S2x18x72 1 :=
  let main_v16 : IVec S2x18x72 1 := cmpi .sle main_arg6 main_v15
  let main_v17 : IVec S1x18x72 32 := broadcastInDim S1x18x72 ![1, 2] bcast_S18x72_S1x18x72_1_2 main_v1
  let main_v18 : IVec S2x18x72 32 := broadcastInDim S2x18x72 ![0, 1, 2] bcast_S1x18x72_S2x18x72_0_1_2 main_v17
  let main_v19 : IVec S2x18x72 32 := addi main_v18 main_arg6
  let main_c_6 : IVec S_ 32 := constantI S_ 32 1#32
  let main_v20 : IVec S2x18x72 32 := broadcastInDim S2x18x72 ![] bcast_S_S2x18x72 main_c_6
  let main_v21 : IVec S2x18x72 1 := cmpi .sge main_v19 main_v20
  let main_v22 : IVec S1x18x72 32 := broadcastInDim S1x18x72 ![1, 2] bcast_S18x72_S1x18x72_1_2 main_v1
  let main_v23 : IVec S2x18x72 32 := broadcastInDim S2x18x72 ![0, 1, 2] bcast_S1x18x72_S2x18x72_0_1_2 main_v22
  let main_v24 : IVec S2x18x72 32 := addi main_v23 main_arg6
  let main_c_7 : IVec S_ 32 := constantI S_ 32 254#32
  let main_v25 : IVec S2x18x72 32 := broadcastInDim S2x18x72 ![] bcast_S_S2x18x72 main_c_7
  let main_v26 : IVec S2x18x72 1 := cmpi .sle main_v24 main_v25
  (main_v4, main_v8, main_v10, main_v12, main_v14, main_v16, main_v21, main_v26)

def fn {F : FTy → Type} [FloatOps F] (main_arg0 : FVec F S2x128x2304 .bf16) (main_arg1 : FVec F S2x2304 .f32) (main_arg2 : FVec F S2x2304 .f32) (main_arg3 : FVec F S2304x9216 .fp8e4m3) (main_arg4 : IVec S18x72 32) (main_arg5 : FVec F S9216 .f32) (main_arg6 : IVec S2x18x72 32) : IVec S2x2304 1 × IVec S18x72 1 × IVec S18x72 1 × IVec S18x72 1 × IVec S2x18x72 1 × IVec S2x18x72 1 × IVec S2x18x72 1 × IVec S2x18x72 1 :=
  let main_c : IVec S_ 32 := constantI S_ 32 23#32
  let main_v0 : IVec S18x72 32 := broadcastInDim S18x72 ![] bcast_S_S18x72 main_c
  let main_v1 : IVec S18x72 32 := Host.shrsi main_arg4 main_v0
  let main_v2 : FVec F S2x2304 .f32 := subf main_arg2 main_arg2
  let main_cst : FVec F S_ .f32 := constant S_ .f32 0x00000000#32
  let main_v3 : FVec F S2x2304 .f32 := broadcastInDim S2x2304 ![] bcast_S_S2x2304 main_cst
  let main_v4 : IVec S2x2304 1 := cmpf .oeq main_v2 main_v3
  let main_c_0 : IVec S_ 32 := constantI S_ 32 8388607#32
  let main_v5 : IVec S18x72 32 := broadcastInDim S18x72 ![] bcast_S_S18x72 main_c_0
  let main_v6 : IVec S18x72 32 := andi main_arg4 main_v5
  let main_c_1 : IVec S_ 32 := constantI S_ 32 0#32
  let main_v7 : IVec S18x72 32 := broadcastInDim S18x72 ![] bcast_S_S18x72 main_c_1
  let main_v8 : IVec S18x72 1 := cmpi .eq main_v6 main_v7
  let main_c_2 : IVec S_ 32 := constantI S_ 32 1#32
  let main_v9 : IVec S18x72 32 := broadcastInDim S18x72 ![] bcast_S_S18x72 main_c_2
  let main_v10 : IVec S18x72 1 := cmpi .sge main_v1 main_v9
  let main_c_3 : IVec S_ 32 := constantI S_ 32 254#32
  let main_v11 : IVec S18x72 32 := broadcastInDim S18x72 ![] bcast_S_S18x72 main_c_3
  let main_v12 : IVec S18x72 1 := cmpi .sle main_v1 main_v11
  let main_c_4 : IVec S_ 32 := constantI S_ 32 4294967169#32
  let main_v13 : IVec S2x18x72 32 := broadcastInDim S2x18x72 ![] bcast_S_S2x18x72 main_c_4
  let main_v14 : IVec S2x18x72 1 := cmpi .sge main_arg6 main_v13
  let main_c_5 : IVec S_ 32 := constantI S_ 32 126#32
  let main_v15 : IVec S2x18x72 32 := broadcastInDim S2x18x72 ![] bcast_S_S2x18x72 main_c_5
  fn_part1 (F := F) main_arg6 main_v1 main_v4 main_v8 main_v10 main_v12 main_v14 main_v15
-- ==== Kernel.lean ====
abbrev S2x128x2304 : Shape := ⟨3, ![2, 128, 2304]⟩
abbrev S2x2304 : Shape := ⟨2, ![2, 2304]⟩
abbrev S2304x9216 : Shape := ⟨2, ![2304, 9216]⟩
abbrev S18x72 : Shape := ⟨2, ![18, 72]⟩
abbrev S9216 : Shape := ⟨1, ![9216]⟩
abbrev S2x18x72 : Shape := ⟨3, ![2, 18, 72]⟩
abbrev S72x128 : Shape := ⟨2, ![72, 128]⟩
abbrev S_ : Shape := ⟨0, ![]⟩
abbrev S2x20x72 : Shape := ⟨3, ![2, 20, 72]⟩
abbrev S2x5x4x72 : Shape := ⟨4, ![2, 5, 4, 72]⟩
abbrev S72x4x2x5 : Shape := ⟨4, ![72, 4, 2, 5]⟩
abbrev S72x4x10 : Shape := ⟨3, ![72, 4, 10]⟩
abbrev S72x4x32 : Shape := ⟨3, ![72, 4, 32]⟩
abbrev S9x8x128 : Shape := ⟨3, ![9, 8, 128]⟩
abbrev S2x128x9216 : Shape := ⟨3, ![2, 128, 9216]⟩
abbrev S2x2304x9216 : Shape := ⟨3, ![2, 2304, 9216]⟩
abbrev S36x2304x256 : Shape := ⟨3, ![36, 2304, 256]⟩
abbrev S2x2304x128 : Shape := ⟨3, ![2, 2304, 128]⟩
abbrev S8x2304 : Shape := ⟨2, ![8, 2304]⟩
abbrev S3x2x2304x256 : Shape := ⟨4, ![3, 2, 2304, 256]⟩
abbrev S3x2x128x256 : Shape := ⟨4, ![3, 2, 128, 256]⟩
abbrev S36 : Shape := ⟨1, ![36]⟩
abbrev S9 : Shape := ⟨1, ![9]⟩
abbrev S3 : Shape := ⟨1, ![3]⟩
abbrev S1 : Shape := ⟨1, ![1]⟩
abbrev S1x2304x256 : Shape := ⟨3, ![1, 2304, 256]⟩
abbrev S2304x256 : Shape := ⟨2, ![2304, 256]⟩
abbrev S1x128 : Shape := ⟨2, ![1, 128]⟩
abbrev S128x128 : Shape := ⟨2, ![128, 128]⟩
abbrev S1x128x128 : Shape := ⟨3, ![1, 128, 128]⟩
abbrev S1x2304 : Shape := ⟨2, ![1, 2304]⟩
abbrev S1x8x128 : Shape := ⟨3, ![1, 8, 128]⟩
abbrev S8x128 : Shape := ⟨2, ![8, 128]⟩
abbrev S2x2304x256 : Shape := ⟨3, ![2, 2304, 256]⟩
abbrev S1x2x2304x256 : Shape := ⟨4, ![1, 2, 2304, 256]⟩
abbrev S2x128x256 : Shape := ⟨3, ![2, 128, 256]⟩
abbrev S1x2x128x256 : Shape := ⟨4, ![1, 2, 128, 256]⟩
abbrev S128x256 : Shape := ⟨2, ![128, 256]⟩
abbrev S16x256 : Shape := ⟨2, ![16, 256]⟩
abbrev S1x1 : Shape := ⟨2, ![1, 1]⟩
abbrev S1x1x1 : Shape := ⟨3, ![1, 1, 1]⟩
abbrev S64x128 : Shape := ⟨2, ![64, 128]⟩
abbrev S1x1x128x128 : Shape := ⟨4, ![1, 1, 128, 128]⟩
abbrev S8x256 : Shape := ⟨2, ![8, 256]⟩
abbrev S1x256x256 : Shape := ⟨3, ![1, 256, 256]⟩
abbrev S256x256 : Shape := ⟨2, ![256, 256]⟩
abbrev S1x128x256 : Shape := ⟨3, ![1, 128, 256]⟩

abbrev nBuf : Space → Nat
  | .hbm => 22
  | .vmem => 11
  | .smem => 3
  | _ => 0

abbrev bufTy : (tb : Table) → Fin (tcTables nBuf tb) → BufTy
  | .hbm, ⟨0, _⟩ => ⟨S2x128x2304, .bf16⟩
  | .hbm, ⟨1, _⟩ => ⟨S2x2304, .f32⟩
  | .hbm, ⟨2, _⟩ => ⟨S2x2304, .f32⟩
  | .hbm, ⟨3, _⟩ => ⟨S2304x9216, .fp8e4m3⟩
  | .hbm, ⟨4, _⟩ => ⟨S18x72, .i32⟩
  | .hbm, ⟨5, _⟩ => ⟨S9216, .f32⟩
  | .hbm, ⟨6, _⟩ => ⟨S2x18x72, .i32⟩
  | .hbm, ⟨7, _⟩ => ⟨S72x128, .f32⟩
  | .hbm, ⟨8, _⟩ => ⟨S_, .i32⟩
  | .hbm, ⟨9, _⟩ => ⟨S_, .i32⟩
  | .hbm, ⟨10, _⟩ => ⟨S2x20x72, .i32⟩
  | .hbm, ⟨11, _⟩ => ⟨S2x5x4x72, .i32⟩
  | .hbm, ⟨12, _⟩ => ⟨S72x4x2x5, .i32⟩
  | .hbm, ⟨13, _⟩ => ⟨S72x4x10, .i32⟩
  | .hbm, ⟨14, _⟩ => ⟨S_, .i32⟩
  | .hbm, ⟨15, _⟩ => ⟨S_, .i32⟩
  | .hbm, ⟨16, _⟩ => ⟨S72x4x32, .i32⟩
  | .hbm, ⟨17, _⟩ => ⟨S9x8x128, .i32⟩
  | .hbm, ⟨18, _⟩ => ⟨S2x128x9216, .bf16⟩
  | .hbm, ⟨19, _⟩ => ⟨S2x2304x9216, .fp8e4m3⟩
  | .hbm, ⟨20, _⟩ => ⟨S2x18x72, .i32⟩
  | .hbm, ⟨21, _⟩ => ⟨S2x18x72, .f32⟩
  | .local _ .vmem, ⟨0, _⟩ => ⟨S2x2304, .f32⟩
  | .local _ .vmem, ⟨1, _⟩ => ⟨S2x2304, .f32⟩
  | .local _ .vmem, ⟨2, _⟩ => ⟨S72x128, .f32⟩
  | .local _ .vmem, ⟨3, _⟩ => ⟨S9x8x128, .i32⟩
  | .local _ .vmem, ⟨4, _⟩ => ⟨S36x2304x256, .fp8e4m3⟩
  | .local _ .vmem, ⟨5, _⟩ => ⟨S2x128x2304, .bf16⟩
  | .local _ .vmem, ⟨6, _⟩ => ⟨S2x2304x128, .f32⟩
  | .local _ .vmem, ⟨7, _⟩ => ⟨S8x2304, .f32⟩
  | .local _ .vmem, ⟨8, _⟩ => ⟨S9x8x128, .i32⟩
  | .local _ .vmem, ⟨9, _⟩ => ⟨S3x2x2304x256, .fp8e4m3⟩
  | .local _ .vmem, ⟨10, _⟩ => ⟨S3x2x128x256, .bf16⟩
  | .local _ .smem, ⟨0, _⟩ => ⟨S18x72, .i32⟩
  | .local _ .smem, ⟨1, _⟩ => ⟨S2x18x72, .i32⟩
  | .local _ .smem, ⟨2, _⟩ => ⟨S9x8x128, .i32⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch6 : Ref sig .tc := ⟨.vmem, 9, rfl⟩
abbrev cc0_scratch7 : Ref sig .tc := ⟨.vmem, 10, rfl⟩
abbrev cc0_stg2_0 : Ref sig .tc := ⟨.smem, 0, rfl⟩
abbrev cc0_stg5_0 : Ref sig .tc := ⟨.smem, 1, rfl⟩
abbrev cc0_scratch5 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c36_i32 : BitVec 32 := 36#32
  let v0 : BitVec 32 := Scalar.addi c0_i32 c36_i32
  let c1_i32 : BitVec 32 := 1#32
  ⟨c0_i32, v0, c1_i32⟩
def k0_mult1 (k0_t1 : Fin k0_t1_loop.trips) : BitVec 32 :=
  let c0_i32_262 : BitVec 32 := 0#32
  let c0_i32 : BitVec 32 := 0#32
  let c1_i32 : BitVec 32 := 1#32
  let arg23 : BitVec 32 := Scf.iv c0_i32 c1_i32 k0_t1
  let c1_i32_261 : BitVec 32 := 1#32
  let v400 : BitVec 32 := Scalar.muli arg23 c1_i32_261
  let v401 : BitVec 32 := Scalar.addi c0_i32_262 v400
  let c256_i32 : BitVec 32 := 256#32
  let v402 : BitVec 32 := Scalar.muli v401 c256_i32
  v402
def k0_off1 (k0_t1 : Fin k0_t1_loop.trips) : Fin 1 → Nat :=
  let c0_i32_262 : BitVec 32 := 0#32
  let c0_i32 : BitVec 32 := 0#32
  let c1_i32 : BitVec 32 := 1#32
  let arg23 : BitVec 32 := Scf.iv c0_i32 c1_i32 k0_t1
  let c1_i32_261 : BitVec 32 := 1#32
  let v400 : BitVec 32 := Scalar.muli arg23 c1_i32_261
  let v401 : BitVec 32 := Scalar.addi c0_i32_262 v400
  ![v401.toNat]
def k0_off2 (k0_t1 : Fin k0_t1_loop.trips) : Fin 3 → Nat :=
  let c0_i32_262 : BitVec 32 := 0#32
  let c0_i32 : BitVec 32 := 0#32
  let c1_i32 : BitVec 32 := 1#32
  let arg23 : BitVec 32 := Scf.iv c0_i32 c1_i32 k0_t1
  let c1_i32_261 : BitVec 32 := 1#32
  let v400 : BitVec 32 := Scalar.muli arg23 c1_i32_261
  let v401 : BitVec 32 := Scalar.addi c0_i32_262 v400
  let c0_i32_263 : BitVec 32 := 0#32
  let c0_i32_264 : BitVec 32 := 0#32
  ![v401.toNat, 0, 0]
def k0_off3 (k0_t1 : Fin k0_t1_loop.trips) : Fin 2 → Nat :=
  let c0_i32_265 : BitVec 32 := 0#32
  let c0_i32_262 : BitVec 32 := 0#32
  let c0_i32 : BitVec 32 := 0#32
  let c1_i32 : BitVec 32 := 1#32
  let arg23 : BitVec 32 := Scf.iv c0_i32 c1_i32 k0_t1
  let c1_i32_261 : BitVec 32 := 1#32
  let v400 : BitVec 32 := Scalar.muli arg23 c1_i32_261
  let v401 : BitVec 32 := Scalar.addi c0_i32_262 v400
  let c256_i32 : BitVec 32 := 256#32
  let v402 : BitVec 32 := Scalar.muli v401 c256_i32
  let v403 : BitVec 32 := v402
  ![0, v403.toNat]
@[reducible] def k0_t2_loop : Scf.Loop 32 :=
  let c0_i32_210 : BitVec 32 := 0#32
  let c9_i32 : BitVec 32 := 9#32
  let v362 : BitVec 32 := Scalar.addi c0_i32_210 c9_i32
  let c1_i32_211 : BitVec 32 := 1#32
  ⟨c0_i32_210, v362, c1_i32_211⟩
def k0_mult2 (k0_t2 : Fin k0_t2_loop.trips) : BitVec 32 :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32 : BitVec 32 := 4#32
  let v402 : BitVec 32 := Scalar.muli v401 c4_i32
  let c0_i32_263 : BitVec 32 := 0#32
  let v403 : BitVec 32 := Scalar.addi v402 c0_i32_263
  let c256_i32 : BitVec 32 := 256#32
  let v404 : BitVec 32 := Scalar.muli v403 c256_i32
  v404
def k0_off4 (k0_t2 : Fin k0_t2_loop.trips) (c0_i32_263 : BitVec 32) : Fin 1 → Nat :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32 : BitVec 32 := 4#32
  let v402 : BitVec 32 := Scalar.muli v401 c4_i32
  let v403 : BitVec 32 := Scalar.addi v402 c0_i32_263
  ![v403.toNat]
def k0_off5 (k0_t2 : Fin k0_t2_loop.trips) (c0_i32_263 : BitVec 32) : Fin 3 → Nat :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32 : BitVec 32 := 4#32
  let v402 : BitVec 32 := Scalar.muli v401 c4_i32
  let v403 : BitVec 32 := Scalar.addi v402 c0_i32_263
  let c0_i32_264 : BitVec 32 := 0#32
  let c0_i32_265 : BitVec 32 := 0#32
  ![v403.toNat, 0, 0]
def k0_off6 (k0_t2 : Fin k0_t2_loop.trips) (c0_i32_263 : BitVec 32) : Fin 2 → Nat :=
  let c0_i32_266 : BitVec 32 := 0#32
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32 : BitVec 32 := 4#32
  let v402 : BitVec 32 := Scalar.muli v401 c4_i32
  let v403 : BitVec 32 := Scalar.addi v402 c0_i32_263
  let c256_i32 : BitVec 32 := 256#32
  let v404 : BitVec 32 := Scalar.muli v403 c256_i32
  let v405 : BitVec 32 := v404
  ![0, v405.toNat]
def k0_mult3 (k0_t2 : Fin k0_t2_loop.trips) : BitVec 32 :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32_267 : BitVec 32 := 4#32
  let v411 : BitVec 32 := Scalar.muli v401 c4_i32_267
  let c1_i32_268 : BitVec 32 := 1#32
  let v412 : BitVec 32 := Scalar.addi v411 c1_i32_268
  let c256_i32_269 : BitVec 32 := 256#32
  let v413 : BitVec 32 := Scalar.muli v412 c256_i32_269
  v413
def k0_mult4 (k0_t2 : Fin k0_t2_loop.trips) : BitVec 32 :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32_273 : BitVec 32 := 4#32
  let v420 : BitVec 32 := Scalar.muli v401 c4_i32_273
  let c2_i32_274 : BitVec 32 := 2#32
  let v421 : BitVec 32 := Scalar.addi v420 c2_i32_274
  let c256_i32_275 : BitVec 32 := 256#32
  let v422 : BitVec 32 := Scalar.muli v421 c256_i32_275
  v422
def k0_mult5 (k0_t2 : Fin k0_t2_loop.trips) : BitVec 32 :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c4_i32_279 : BitVec 32 := 4#32
  let v429 : BitVec 32 := Scalar.muli v401 c4_i32_279
  let c3_i32 : BitVec 32 := 3#32
  let v430 : BitVec 32 := Scalar.addi v429 c3_i32
  let c256_i32_280 : BitVec 32 := 256#32
  let v431 : BitVec 32 := Scalar.muli v430 c256_i32_280
  v431
def k0_off7 (k0_t2 : Fin k0_t2_loop.trips) : Fin 3 → Nat :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let v438 : Index := Scalar.indexCast v401
  let c0_284 : Index := 0#32
  let c0_285 : Index := 0#32
  ![v438.toNat, 0, 0]
def k0_off8 (k0_t2 : Fin k0_t2_loop.trips) : Fin 1 → Nat :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  ![v401.toNat]
def k0_off9 (k0_t2 : Fin k0_t2_loop.trips) : Fin 3 → Nat :=
  let c0_i32_262 : BitVec 32 := 0#32
  let c0_i32_210 : BitVec 32 := 0#32
  let c1_i32_211 : BitVec 32 := 1#32
  let arg23 : BitVec 32 := Scf.iv c0_i32_210 c1_i32_211 k0_t2
  let c1_i32_261 : BitVec 32 := 1#32
  let v400 : BitVec 32 := Scalar.muli arg23 c1_i32_261
  let v401 : BitVec 32 := Scalar.addi c0_i32_262 v400
  let c0_i32_288 : BitVec 32 := 0#32
  let c0_i32_289 : BitVec 32 := 0#32
  ![v401.toNat, 0, 0]
@[reducible] def k0_t3_loop : Scf.Loop 32 :=
  let c0_i32_213 : BitVec 32 := 0#32
  let c36_i32_214 : BitVec 32 := 36#32
  let v363 : BitVec 32 := Scalar.addi c0_i32_213 c36_i32_214
  let c1_i32_215 : BitVec 32 := 1#32
  ⟨c0_i32_213, v363, c1_i32_215⟩
def k0_cond1 (k0_t3 : Fin k0_t3_loop.trips) : BitVec 1 :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32_268 : BitVec 32 := 3#32
  let v412 : BitVec 1 := Scalar.cmpi .sge v401 c3_i32_268
  let v413 : BitVec 32 := Scalar.extui v412
  let c0_i32_269 : BitVec 32 := 0#32
  let v414 : BitVec 1 := Scalar.cmpi .ne v413 c0_i32_269
  v414

def k0_mult6 (k0_t3 : Fin k0_t3_loop.trips) : BitVec 32 :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32_2639 : BitVec 32 := 3#32
  let v4557 : BitVec 32 := Scalar.subi v401 c3_i32_2639
  let c256_i32_2640 : BitVec 32 := 256#32
  let v4558 : BitVec 32 := Scalar.muli v4557 c256_i32_2640
  v4558
def k0_off10 (k0_t3 : Fin k0_t3_loop.trips) : Fin 1 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  ![v411.toNat]
def k0_off11 (k0_t3 : Fin k0_t3_loop.trips) : Fin 3 → Nat :=
  let c0_i32_2641 : BitVec 32 := 0#32
  let c0_i32_2642 : BitVec 32 := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32_2639 : BitVec 32 := 3#32
  let v4557 : BitVec 32 := Scalar.subi v401 c3_i32_2639
  let c256_i32_2640 : BitVec 32 := 256#32
  let v4558 : BitVec 32 := Scalar.muli v4557 c256_i32_2640
  let v4559 : BitVec 32 := v4558
  ![0, 0, v4559.toNat]
def k0_off12 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let c0_i32_2643 : BitVec 32 := 0#32
  let c0_i32_2644 : BitVec 32 := 0#32
  let c0_i32_2645 : BitVec 32 := 0#32
  ![v411.toNat, 0, 0, 0]
def k0_mult7 (k0_t3 : Fin k0_t3_loop.trips) : BitVec 32 :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32_2646 : BitVec 32 := 3#32
  let v4565 : BitVec 32 := Scalar.subi v401 c3_i32_2646
  let c256_i32_2647 : BitVec 32 := 256#32
  let v4566 : BitVec 32 := Scalar.muli v4565 c256_i32_2647
  v4566
def k0_off13 (k0_t3 : Fin k0_t3_loop.trips) : Fin 3 → Nat :=
  let c0_i32_2648 : BitVec 32 := 0#32
  let c0_i32_2649 : BitVec 32 := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32_2646 : BitVec 32 := 3#32
  let v4565 : BitVec 32 := Scalar.subi v401 c3_i32_2646
  let c256_i32_2647 : BitVec 32 := 256#32
  let v4566 : BitVec 32 := Scalar.muli v4565 c256_i32_2647
  let v4567 : BitVec 32 := v4566
  ![0, 0, v4567.toNat]
def k0_off14 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let c0_i32_2650 : BitVec 32 := 0#32
  let c0_i32_2651 : BitVec 32 := 0#32
  let c0_i32_2652 : BitVec 32 := 0#32
  ![v411.toNat, 0, 0, 0]
def k0_off15 (k0_t3 : Fin k0_t3_loop.trips) (c0_i32_280 : BitVec 32) : Fin 2 → Nat :=
  let c0_281 : Index := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_279 : BitVec 32 := 2#32
  let v435 : BitVec 32 := Scalar.muli v401 c2_i32_279
  let v436 : BitVec 32 := Scalar.addi v435 c0_i32_280
  let v437 : Index := Scalar.indexCast v436
  ![0, v437.toNat]
def k0_off16 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v443 : Index := Scalar.indexCast v401
  let c0_284 : Index := 0#32
  let c0_285 : Index := 0#32
  ![v443.toNat, 0, 0]
def k0_off17 (k0_t3 : Fin k0_t3_loop.trips) (c0_i32_293 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v459 : Index := Scalar.indexCast v431
  let c4_i32_286 : BitVec 32 := 4#32
  let c0_i32_287 : BitVec 32 := 0#32
  let v447 : BitVec 1 := Scalar.cmpi .eq c4_i32_286 c0_i32_287
  let c1_i32_288 : BitVec 32 := 1#32
  let v448 : BitVec 32 := Scalar.select v447 c1_i32_288 c4_i32_286
  let v449 : BitVec 32 := Scalar.remsi v401 v448
  let c0_i32_290 : BitVec 32 := 0#32
  let v451 : BitVec 1 := Scalar.cmpi .slt v449 c0_i32_290
  let c0_i32_291 : BitVec 32 := 0#32
  let v452 : BitVec 1 := Scalar.cmpi .slt v448 c0_i32_291
  let v453 : BitVec 1 := Scalar.xori v451 v452
  let c0_i32_289 : BitVec 32 := 0#32
  let v450 : BitVec 1 := Scalar.cmpi .ne v449 c0_i32_289
  let v454 : BitVec 1 := Scalar.andi v453 v450
  let v455 : BitVec 32 := Scalar.addi v449 v448
  let v456 : BitVec 32 := Scalar.select v454 v455 v449
  let c2_i32_292 : BitVec 32 := 2#32
  let v457 : BitVec 32 := Scalar.muli v456 c2_i32_292
  let v458 : BitVec 32 := Scalar.addi v457 c0_i32_293
  let v460 : Index := Scalar.indexCast v458
  let c0_294 : Index := 0#32
  ![v459.toNat, v460.toNat, 0]
def k0_off18 (k0_t3 : Fin k0_t3_loop.trips) (c0_i32_299 : BitVec 32) : Fin 3 → Nat :=
  let c0_300 : Index := 0#32
  let c0_301 : Index := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_298 : BitVec 32 := 2#32
  let v469 : BitVec 32 := Scalar.muli v401 c2_i32_298
  let v470 : BitVec 32 := Scalar.addi v469 c0_i32_299
  let v471 : Index := Scalar.indexCast v470
  ![0, 0, v471.toNat]
def k0_off19 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v487 : Index := Scalar.indexCast v411
  let c0_307 : Index := 0#32
  let c0_308 : Index := 0#32
  let c0_309 : Index := 0#32
  ![v487.toNat, 0, 0, 0]
def k0_off20 (k0_t3 : Fin k0_t3_loop.trips) (c0_i32_317 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v506 : Index := Scalar.indexCast v431
  let c4_i32_310 : BitVec 32 := 4#32
  let c0_i32_311 : BitVec 32 := 0#32
  let v494 : BitVec 1 := Scalar.cmpi .eq c4_i32_310 c0_i32_311
  let c1_i32_312 : BitVec 32 := 1#32
  let v495 : BitVec 32 := Scalar.select v494 c1_i32_312 c4_i32_310
  let v496 : BitVec 32 := Scalar.remsi v401 v495
  let c0_i32_314 : BitVec 32 := 0#32
  let v498 : BitVec 1 := Scalar.cmpi .slt v496 c0_i32_314
  let c0_i32_315 : BitVec 32 := 0#32
  let v499 : BitVec 1 := Scalar.cmpi .slt v495 c0_i32_315
  let v500 : BitVec 1 := Scalar.xori v498 v499
  let c0_i32_313 : BitVec 32 := 0#32
  let v497 : BitVec 1 := Scalar.cmpi .ne v496 c0_i32_313
  let v501 : BitVec 1 := Scalar.andi v500 v497
  let v502 : BitVec 32 := Scalar.addi v496 v495
  let v503 : BitVec 32 := Scalar.select v501 v502 v496
  let c2_i32_316 : BitVec 32 := 2#32
  let v504 : BitVec 32 := Scalar.muli v503 c2_i32_316
  let v505 : BitVec 32 := Scalar.addi v504 c0_i32_317
  let v507 : Index := Scalar.indexCast v505
  let c5_318 : Index := 5#32
  ![v506.toNat, v507.toNat, 5]
def k0_off21 (k0_t3 : Fin k0_t3_loop.trips) (c0_i32_326 : BitVec 32) : Fin 3 → Nat :=
  let c1_327 : Index := 1#32
  let c0_328 : Index := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_325 : BitVec 32 := 2#32
  let v516 : BitVec 32 := Scalar.muli v401 c2_i32_325
  let v517 : BitVec 32 := Scalar.addi v516 c0_i32_326
  let v518 : Index := Scalar.indexCast v517
  ![1, 0, v518.toNat]
def k0_off22 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v534 : Index := Scalar.indexCast v411
  let c1_335 : Index := 1#32
  let c0_336 : Index := 0#32
  let c0_337 : Index := 0#32
  ![v534.toNat, 1, 0, 0]
def k0_off23 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v549 : Index := Scalar.indexCast v401
  let c0_343 : Index := 0#32
  let c128_344 : Index := 128#32
  ![v549.toNat, 0, 128]
def k0_off24 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v593 : Index := Scalar.indexCast v411
  let c0_370 : Index := 0#32
  let c0_371 : Index := 0#32
  let c128_372 : Index := 128#32
  ![v593.toNat, 0, 0, 128]
def k0_off25 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v640 : Index := Scalar.indexCast v411
  let c1_398 : Index := 1#32
  let c0_399 : Index := 0#32
  let c128_400 : Index := 128#32
  ![v640.toNat, 1, 0, 128]
def k0_off26 (k0_t3 : Fin k0_t3_loop.trips) (c0_i32_402 : BitVec 32) : Fin 2 → Nat :=
  let c1_403 : Index := 1#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_401 : BitVec 32 := 2#32
  let v647 : BitVec 32 := Scalar.muli v401 c2_i32_401
  let v648 : BitVec 32 := Scalar.addi v647 c0_i32_402
  let v649 : Index := Scalar.indexCast v648
  ![1, v649.toNat]
def k0_off27 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v655 : Index := Scalar.indexCast v401
  let c128_406 : Index := 128#32
  let c0_407 : Index := 0#32
  ![v655.toNat, 128, 0]
def k0_off28 (k0_t3 : Fin k0_t3_loop.trips) (c0_i32_415 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v671 : Index := Scalar.indexCast v431
  let c4_i32_408 : BitVec 32 := 4#32
  let c0_i32_409 : BitVec 32 := 0#32
  let v659 : BitVec 1 := Scalar.cmpi .eq c4_i32_408 c0_i32_409
  let c1_i32_410 : BitVec 32 := 1#32
  let v660 : BitVec 32 := Scalar.select v659 c1_i32_410 c4_i32_408
  let v661 : BitVec 32 := Scalar.remsi v401 v660
  let c0_i32_412 : BitVec 32 := 0#32
  let v663 : BitVec 1 := Scalar.cmpi .slt v661 c0_i32_412
  let c0_i32_413 : BitVec 32 := 0#32
  let v664 : BitVec 1 := Scalar.cmpi .slt v660 c0_i32_413
  let v665 : BitVec 1 := Scalar.xori v663 v664
  let c0_i32_411 : BitVec 32 := 0#32
  let v662 : BitVec 1 := Scalar.cmpi .ne v661 c0_i32_411
  let v666 : BitVec 1 := Scalar.andi v665 v662
  let v667 : BitVec 32 := Scalar.addi v661 v660
  let v668 : BitVec 32 := Scalar.select v666 v667 v661
  let c2_i32_414 : BitVec 32 := 2#32
  let v669 : BitVec 32 := Scalar.muli v668 c2_i32_414
  let v670 : BitVec 32 := Scalar.addi v669 c0_i32_415
  let v672 : Index := Scalar.indexCast v670
  let c32 : Index := 32#32
  ![v671.toNat, v672.toNat, 32]
def k0_off29 (k0_t3 : Fin k0_t3_loop.trips) (c0_i32_423 : BitVec 32) : Fin 3 → Nat :=
  let c0_424 : Index := 0#32
  let c1_425 : Index := 1#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_422 : BitVec 32 := 2#32
  let v681 : BitVec 32 := Scalar.muli v401 c2_i32_422
  let v682 : BitVec 32 := Scalar.addi v681 c0_i32_423
  let v683 : Index := Scalar.indexCast v682
  ![0, 1, v683.toNat]
def k0_off30 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v699 : Index := Scalar.indexCast v411
  let c0_432 : Index := 0#32
  let c128_433 : Index := 128#32
  let c0_434 : Index := 0#32
  ![v699.toNat, 0, 128, 0]
def k0_off31 (k0_t3 : Fin k0_t3_loop.trips) (c0_i32_442 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v718 : Index := Scalar.indexCast v431
  let c4_i32_435 : BitVec 32 := 4#32
  let c0_i32_436 : BitVec 32 := 0#32
  let v706 : BitVec 1 := Scalar.cmpi .eq c4_i32_435 c0_i32_436
  let c1_i32_437 : BitVec 32 := 1#32
  let v707 : BitVec 32 := Scalar.select v706 c1_i32_437 c4_i32_435
  let v708 : BitVec 32 := Scalar.remsi v401 v707
  let c0_i32_439 : BitVec 32 := 0#32
  let v710 : BitVec 1 := Scalar.cmpi .slt v708 c0_i32_439
  let c0_i32_440 : BitVec 32 := 0#32
  let v711 : BitVec 1 := Scalar.cmpi .slt v707 c0_i32_440
  let v712 : BitVec 1 := Scalar.xori v710 v711
  let c0_i32_438 : BitVec 32 := 0#32
  let v709 : BitVec 1 := Scalar.cmpi .ne v708 c0_i32_438
  let v713 : BitVec 1 := Scalar.andi v712 v709
  let v714 : BitVec 32 := Scalar.addi v708 v707
  let v715 : BitVec 32 := Scalar.select v713 v714 v708
  let c2_i32_441 : BitVec 32 := 2#32
  let v716 : BitVec 32 := Scalar.muli v715 c2_i32_441
  let v717 : BitVec 32 := Scalar.addi v716 c0_i32_442
  let v719 : Index := Scalar.indexCast v717
  let c37 : Index := 37#32
  ![v718.toNat, v719.toNat, 37]
def k0_off32 (k0_t3 : Fin k0_t3_loop.trips) (c0_i32_450 : BitVec 32) : Fin 3 → Nat :=
  let c1_451 : Index := 1#32
  let c1_452 : Index := 1#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_449 : BitVec 32 := 2#32
  let v728 : BitVec 32 := Scalar.muli v401 c2_i32_449
  let v729 : BitVec 32 := Scalar.addi v728 c0_i32_450
  let v730 : Index := Scalar.indexCast v729
  ![1, 1, v730.toNat]
def k0_off33 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v746 : Index := Scalar.indexCast v411
  let c1_459 : Index := 1#32
  let c128_460 : Index := 128#32
  let c0_461 : Index := 0#32
  ![v746.toNat, 1, 128, 0]
def k0_off34 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v761 : Index := Scalar.indexCast v401
  let c128_467 : Index := 128#32
  let c128_468 : Index := 128#32
  ![v761.toNat, 128, 128]
def k0_off35 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v805 : Index := Scalar.indexCast v411
  let c0_494 : Index := 0#32
  let c128_495 : Index := 128#32
  let c128_496 : Index := 128#32
  ![v805.toNat, 0, 128, 128]
def k0_off36 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v852 : Index := Scalar.indexCast v411
  let c1_522 : Index := 1#32
  let c128_523 : Index := 128#32
  let c128_524 : Index := 128#32
  ![v852.toNat, 1, 128, 128]
def k0_off37 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v863 : Index := Scalar.indexCast v401
  let c0_525 : Index := 0#32
  let c0_526 : Index := 0#32
  ![v863.toNat, 0, 0]
def k0_off38 (k0_t3 : Fin k0_t3_loop.trips) (c0_i32_537 : BitVec 32) : Fin 2 → Nat :=
  let c2_538 : Index := 2#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_536 : BitVec 32 := 2#32
  let v883 : BitVec 32 := Scalar.muli v401 c2_i32_536
  let v884 : BitVec 32 := Scalar.addi v883 c0_i32_537
  let v885 : Index := Scalar.indexCast v884
  ![2, v885.toNat]
def k0_off39 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v891 : Index := Scalar.indexCast v401
  let c256_541 : Index := 256#32
  let c0_542 : Index := 0#32
  ![v891.toNat, 256, 0]
def k0_off40 (k0_t3 : Fin k0_t3_loop.trips) (c0_i32_550 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v907 : Index := Scalar.indexCast v431
  let c4_i32_543 : BitVec 32 := 4#32
  let c0_i32_544 : BitVec 32 := 0#32
  let v895 : BitVec 1 := Scalar.cmpi .eq c4_i32_543 c0_i32_544
  let c1_i32_545 : BitVec 32 := 1#32
  let v896 : BitVec 32 := Scalar.select v895 c1_i32_545 c4_i32_543
  let v897 : BitVec 32 := Scalar.remsi v401 v896
  let c0_i32_547 : BitVec 32 := 0#32
  let v899 : BitVec 1 := Scalar.cmpi .slt v897 c0_i32_547
  let c0_i32_548 : BitVec 32 := 0#32
  let v900 : BitVec 1 := Scalar.cmpi .slt v896 c0_i32_548
  let v901 : BitVec 1 := Scalar.xori v899 v900
  let c0_i32_546 : BitVec 32 := 0#32
  let v898 : BitVec 1 := Scalar.cmpi .ne v897 c0_i32_546
  let v902 : BitVec 1 := Scalar.andi v901 v898
  let v903 : BitVec 32 := Scalar.addi v897 v896
  let v904 : BitVec 32 := Scalar.select v902 v903 v897
  let c2_i32_549 : BitVec 32 := 2#32
  let v905 : BitVec 32 := Scalar.muli v904 c2_i32_549
  let v906 : BitVec 32 := Scalar.addi v905 c0_i32_550
  let v908 : Index := Scalar.indexCast v906
  let c64 : Index := 64#32
  ![v907.toNat, v908.toNat, 64]
def k0_off41 (k0_t3 : Fin k0_t3_loop.trips) (c0_i32_558 : BitVec 32) : Fin 3 → Nat :=
  let c0_559 : Index := 0#32
  let c2_560 : Index := 2#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_557 : BitVec 32 := 2#32
  let v917 : BitVec 32 := Scalar.muli v401 c2_i32_557
  let v918 : BitVec 32 := Scalar.addi v917 c0_i32_558
  let v919 : Index := Scalar.indexCast v918
  ![0, 2, v919.toNat]
def k0_off42 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v935 : Index := Scalar.indexCast v411
  let c0_567 : Index := 0#32
  let c256_568 : Index := 256#32
  let c0_569 : Index := 0#32
  ![v935.toNat, 0, 256, 0]
def k0_off43 (k0_t3 : Fin k0_t3_loop.trips) (c0_i32_577 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v954 : Index := Scalar.indexCast v431
  let c4_i32_570 : BitVec 32 := 4#32
  let c0_i32_571 : BitVec 32 := 0#32
  let v942 : BitVec 1 := Scalar.cmpi .eq c4_i32_570 c0_i32_571
  let c1_i32_572 : BitVec 32 := 1#32
  let v943 : BitVec 32 := Scalar.select v942 c1_i32_572 c4_i32_570
  let v944 : BitVec 32 := Scalar.remsi v401 v943
  let c0_i32_574 : BitVec 32 := 0#32
  let v946 : BitVec 1 := Scalar.cmpi .slt v944 c0_i32_574
  let c0_i32_575 : BitVec 32 := 0#32
  let v947 : BitVec 1 := Scalar.cmpi .slt v943 c0_i32_575
  let v948 : BitVec 1 := Scalar.xori v946 v947
  let c0_i32_573 : BitVec 32 := 0#32
  let v945 : BitVec 1 := Scalar.cmpi .ne v944 c0_i32_573
  let v949 : BitVec 1 := Scalar.andi v948 v945
  let v950 : BitVec 32 := Scalar.addi v944 v943
  let v951 : BitVec 32 := Scalar.select v949 v950 v944
  let c2_i32_576 : BitVec 32 := 2#32
  let v952 : BitVec 32 := Scalar.muli v951 c2_i32_576
  let v953 : BitVec 32 := Scalar.addi v952 c0_i32_577
  let v955 : Index := Scalar.indexCast v953
  let c69 : Index := 69#32
  ![v954.toNat, v955.toNat, 69]
def k0_off44 (k0_t3 : Fin k0_t3_loop.trips) (c0_i32_585 : BitVec 32) : Fin 3 → Nat :=
  let c1_586 : Index := 1#32
  let c2_587 : Index := 2#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_584 : BitVec 32 := 2#32
  let v964 : BitVec 32 := Scalar.muli v401 c2_i32_584
  let v965 : BitVec 32 := Scalar.addi v964 c0_i32_585
  let v966 : Index := Scalar.indexCast v965
  ![1, 2, v966.toNat]
def k0_off45 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v982 : Index := Scalar.indexCast v411
  let c1_594 : Index := 1#32
  let c256_595 : Index := 256#32
  let c0_596 : Index := 0#32
  ![v982.toNat, 1, 256, 0]
def k0_off46 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v997 : Index := Scalar.indexCast v401
  let c256_602 : Index := 256#32
  let c128_603 : Index := 128#32
  ![v997.toNat, 256, 128]
def k0_off47 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1041 : Index := Scalar.indexCast v411
  let c0_629 : Index := 0#32
  let c256_630 : Index := 256#32
  let c128_631 : Index := 128#32
  ![v1041.toNat, 0, 256, 128]
def k0_off48 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1088 : Index := Scalar.indexCast v411
  let c1_657 : Index := 1#32
  let c256_658 : Index := 256#32
  let c128_659 : Index := 128#32
  ![v1088.toNat, 1, 256, 128]
def k0_off49 (k0_t3 : Fin k0_t3_loop.trips) (c0_i32_661 : BitVec 32) : Fin 2 → Nat :=
  let c3_662 : Index := 3#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_660 : BitVec 32 := 2#32
  let v1095 : BitVec 32 := Scalar.muli v401 c2_i32_660
  let v1096 : BitVec 32 := Scalar.addi v1095 c0_i32_661
  let v1097 : Index := Scalar.indexCast v1096
  ![3, v1097.toNat]
def k0_off50 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1103 : Index := Scalar.indexCast v401
  let c384_665 : Index := 384#32
  let c0_666 : Index := 0#32
  ![v1103.toNat, 384, 0]
def k0_off51 (k0_t3 : Fin k0_t3_loop.trips) (c0_i32_674 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1119 : Index := Scalar.indexCast v431
  let c4_i32_667 : BitVec 32 := 4#32
  let c0_i32_668 : BitVec 32 := 0#32
  let v1107 : BitVec 1 := Scalar.cmpi .eq c4_i32_667 c0_i32_668
  let c1_i32_669 : BitVec 32 := 1#32
  let v1108 : BitVec 32 := Scalar.select v1107 c1_i32_669 c4_i32_667
  let v1109 : BitVec 32 := Scalar.remsi v401 v1108
  let c0_i32_671 : BitVec 32 := 0#32
  let v1111 : BitVec 1 := Scalar.cmpi .slt v1109 c0_i32_671
  let c0_i32_672 : BitVec 32 := 0#32
  let v1112 : BitVec 1 := Scalar.cmpi .slt v1108 c0_i32_672
  let v1113 : BitVec 1 := Scalar.xori v1111 v1112
  let c0_i32_670 : BitVec 32 := 0#32
  let v1110 : BitVec 1 := Scalar.cmpi .ne v1109 c0_i32_670
  let v1114 : BitVec 1 := Scalar.andi v1113 v1110
  let v1115 : BitVec 32 := Scalar.addi v1109 v1108
  let v1116 : BitVec 32 := Scalar.select v1114 v1115 v1109
  let c2_i32_673 : BitVec 32 := 2#32
  let v1117 : BitVec 32 := Scalar.muli v1116 c2_i32_673
  let v1118 : BitVec 32 := Scalar.addi v1117 c0_i32_674
  let v1120 : Index := Scalar.indexCast v1118
  let c96 : Index := 96#32
  ![v1119.toNat, v1120.toNat, 96]
def k0_off52 (k0_t3 : Fin k0_t3_loop.trips) (c0_i32_682 : BitVec 32) : Fin 3 → Nat :=
  let c0_683 : Index := 0#32
  let c3_684 : Index := 3#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_681 : BitVec 32 := 2#32
  let v1129 : BitVec 32 := Scalar.muli v401 c2_i32_681
  let v1130 : BitVec 32 := Scalar.addi v1129 c0_i32_682
  let v1131 : Index := Scalar.indexCast v1130
  ![0, 3, v1131.toNat]
def k0_off53 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1147 : Index := Scalar.indexCast v411
  let c0_691 : Index := 0#32
  let c384_692 : Index := 384#32
  let c0_693 : Index := 0#32
  ![v1147.toNat, 0, 384, 0]
def k0_off54 (k0_t3 : Fin k0_t3_loop.trips) (c0_i32_701 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1166 : Index := Scalar.indexCast v431
  let c4_i32_694 : BitVec 32 := 4#32
  let c0_i32_695 : BitVec 32 := 0#32
  let v1154 : BitVec 1 := Scalar.cmpi .eq c4_i32_694 c0_i32_695
  let c1_i32_696 : BitVec 32 := 1#32
  let v1155 : BitVec 32 := Scalar.select v1154 c1_i32_696 c4_i32_694
  let v1156 : BitVec 32 := Scalar.remsi v401 v1155
  let c0_i32_698 : BitVec 32 := 0#32
  let v1158 : BitVec 1 := Scalar.cmpi .slt v1156 c0_i32_698
  let c0_i32_699 : BitVec 32 := 0#32
  let v1159 : BitVec 1 := Scalar.cmpi .slt v1155 c0_i32_699
  let v1160 : BitVec 1 := Scalar.xori v1158 v1159
  let c0_i32_697 : BitVec 32 := 0#32
  let v1157 : BitVec 1 := Scalar.cmpi .ne v1156 c0_i32_697
  let v1161 : BitVec 1 := Scalar.andi v1160 v1157
  let v1162 : BitVec 32 := Scalar.addi v1156 v1155
  let v1163 : BitVec 32 := Scalar.select v1161 v1162 v1156
  let c2_i32_700 : BitVec 32 := 2#32
  let v1164 : BitVec 32 := Scalar.muli v1163 c2_i32_700
  let v1165 : BitVec 32 := Scalar.addi v1164 c0_i32_701
  let v1167 : Index := Scalar.indexCast v1165
  let c101 : Index := 101#32
  ![v1166.toNat, v1167.toNat, 101]
def k0_off55 (k0_t3 : Fin k0_t3_loop.trips) (c0_i32_709 : BitVec 32) : Fin 3 → Nat :=
  let c1_710 : Index := 1#32
  let c3_711 : Index := 3#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_708 : BitVec 32 := 2#32
  let v1176 : BitVec 32 := Scalar.muli v401 c2_i32_708
  let v1177 : BitVec 32 := Scalar.addi v1176 c0_i32_709
  let v1178 : Index := Scalar.indexCast v1177
  ![1, 3, v1178.toNat]
def k0_off56 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1194 : Index := Scalar.indexCast v411
  let c1_718 : Index := 1#32
  let c384_719 : Index := 384#32
  let c0_720 : Index := 0#32
  ![v1194.toNat, 1, 384, 0]
def k0_off57 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1209 : Index := Scalar.indexCast v401
  let c384_726 : Index := 384#32
  let c128_727 : Index := 128#32
  ![v1209.toNat, 384, 128]
def k0_off58 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1253 : Index := Scalar.indexCast v411
  let c0_753 : Index := 0#32
  let c384_754 : Index := 384#32
  let c128_755 : Index := 128#32
  ![v1253.toNat, 0, 384, 128]
def k0_off59 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1300 : Index := Scalar.indexCast v411
  let c1_781 : Index := 1#32
  let c384_782 : Index := 384#32
  let c128_783 : Index := 128#32
  ![v1300.toNat, 1, 384, 128]
def k0_off60 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1311 : Index := Scalar.indexCast v401
  let c256_784 : Index := 256#32
  let c0_785 : Index := 0#32
  ![v1311.toNat, 256, 0]
def k0_off61 (k0_t3 : Fin k0_t3_loop.trips) (c0_i32_796 : BitVec 32) : Fin 2 → Nat :=
  let c4_797 : Index := 4#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_795 : BitVec 32 := 2#32
  let v1331 : BitVec 32 := Scalar.muli v401 c2_i32_795
  let v1332 : BitVec 32 := Scalar.addi v1331 c0_i32_796
  let v1333 : Index := Scalar.indexCast v1332
  ![4, v1333.toNat]
def k0_off62 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1339 : Index := Scalar.indexCast v401
  let c512_800 : Index := 512#32
  let c0_801 : Index := 0#32
  ![v1339.toNat, 512, 0]
def k0_off63 (k0_t3 : Fin k0_t3_loop.trips) (c0_i32_809 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1355 : Index := Scalar.indexCast v431
  let c4_i32_802 : BitVec 32 := 4#32
  let c0_i32_803 : BitVec 32 := 0#32
  let v1343 : BitVec 1 := Scalar.cmpi .eq c4_i32_802 c0_i32_803
  let c1_i32_804 : BitVec 32 := 1#32
  let v1344 : BitVec 32 := Scalar.select v1343 c1_i32_804 c4_i32_802
  let v1345 : BitVec 32 := Scalar.remsi v401 v1344
  let c0_i32_806 : BitVec 32 := 0#32
  let v1347 : BitVec 1 := Scalar.cmpi .slt v1345 c0_i32_806
  let c0_i32_807 : BitVec 32 := 0#32
  let v1348 : BitVec 1 := Scalar.cmpi .slt v1344 c0_i32_807
  let v1349 : BitVec 1 := Scalar.xori v1347 v1348
  let c0_i32_805 : BitVec 32 := 0#32
  let v1346 : BitVec 1 := Scalar.cmpi .ne v1345 c0_i32_805
  let v1350 : BitVec 1 := Scalar.andi v1349 v1346
  let v1351 : BitVec 32 := Scalar.addi v1345 v1344
  let v1352 : BitVec 32 := Scalar.select v1350 v1351 v1345
  let c2_i32_808 : BitVec 32 := 2#32
  let v1353 : BitVec 32 := Scalar.muli v1352 c2_i32_808
  let v1354 : BitVec 32 := Scalar.addi v1353 c0_i32_809
  let v1356 : Index := Scalar.indexCast v1354
  let c1_810 : Index := 1#32
  ![v1355.toNat, v1356.toNat, 1]
def k0_off64 (k0_t3 : Fin k0_t3_loop.trips) (c0_i32_818 : BitVec 32) : Fin 3 → Nat :=
  let c0_819 : Index := 0#32
  let c4_820 : Index := 4#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_817 : BitVec 32 := 2#32
  let v1365 : BitVec 32 := Scalar.muli v401 c2_i32_817
  let v1366 : BitVec 32 := Scalar.addi v1365 c0_i32_818
  let v1367 : Index := Scalar.indexCast v1366
  ![0, 4, v1367.toNat]
def k0_off65 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1383 : Index := Scalar.indexCast v411
  let c0_827 : Index := 0#32
  let c512_828 : Index := 512#32
  let c0_829 : Index := 0#32
  ![v1383.toNat, 0, 512, 0]
def k0_off66 (k0_t3 : Fin k0_t3_loop.trips) (c0_i32_837 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1402 : Index := Scalar.indexCast v431
  let c4_i32_830 : BitVec 32 := 4#32
  let c0_i32_831 : BitVec 32 := 0#32
  let v1390 : BitVec 1 := Scalar.cmpi .eq c4_i32_830 c0_i32_831
  let c1_i32_832 : BitVec 32 := 1#32
  let v1391 : BitVec 32 := Scalar.select v1390 c1_i32_832 c4_i32_830
  let v1392 : BitVec 32 := Scalar.remsi v401 v1391
  let c0_i32_834 : BitVec 32 := 0#32
  let v1394 : BitVec 1 := Scalar.cmpi .slt v1392 c0_i32_834
  let c0_i32_835 : BitVec 32 := 0#32
  let v1395 : BitVec 1 := Scalar.cmpi .slt v1391 c0_i32_835
  let v1396 : BitVec 1 := Scalar.xori v1394 v1395
  let c0_i32_833 : BitVec 32 := 0#32
  let v1393 : BitVec 1 := Scalar.cmpi .ne v1392 c0_i32_833
  let v1397 : BitVec 1 := Scalar.andi v1396 v1393
  let v1398 : BitVec 32 := Scalar.addi v1392 v1391
  let v1399 : BitVec 32 := Scalar.select v1397 v1398 v1392
  let c2_i32_836 : BitVec 32 := 2#32
  let v1400 : BitVec 32 := Scalar.muli v1399 c2_i32_836
  let v1401 : BitVec 32 := Scalar.addi v1400 c0_i32_837
  let v1403 : Index := Scalar.indexCast v1401
  let c6 : Index := 6#32
  ![v1402.toNat, v1403.toNat, 6]
def k0_off67 (k0_t3 : Fin k0_t3_loop.trips) (c0_i32_845 : BitVec 32) : Fin 3 → Nat :=
  let c1_846 : Index := 1#32
  let c4_847 : Index := 4#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_844 : BitVec 32 := 2#32
  let v1412 : BitVec 32 := Scalar.muli v401 c2_i32_844
  let v1413 : BitVec 32 := Scalar.addi v1412 c0_i32_845
  let v1414 : Index := Scalar.indexCast v1413
  ![1, 4, v1414.toNat]
def k0_off68 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1430 : Index := Scalar.indexCast v411
  let c1_854 : Index := 1#32
  let c512_855 : Index := 512#32
  let c0_856 : Index := 0#32
  ![v1430.toNat, 1, 512, 0]
def k0_off69 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1445 : Index := Scalar.indexCast v401
  let c512_862 : Index := 512#32
  let c128_863 : Index := 128#32
  ![v1445.toNat, 512, 128]
def k0_off70 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1489 : Index := Scalar.indexCast v411
  let c0_889 : Index := 0#32
  let c512_890 : Index := 512#32
  let c128_891 : Index := 128#32
  ![v1489.toNat, 0, 512, 128]
def k0_off71 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1536 : Index := Scalar.indexCast v411
  let c1_917 : Index := 1#32
  let c512_918 : Index := 512#32
  let c128_919 : Index := 128#32
  ![v1536.toNat, 1, 512, 128]
def k0_off72 (k0_t3 : Fin k0_t3_loop.trips) (c0_i32_921 : BitVec 32) : Fin 2 → Nat :=
  let c5_922 : Index := 5#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_920 : BitVec 32 := 2#32
  let v1543 : BitVec 32 := Scalar.muli v401 c2_i32_920
  let v1544 : BitVec 32 := Scalar.addi v1543 c0_i32_921
  let v1545 : Index := Scalar.indexCast v1544
  ![5, v1545.toNat]
def k0_off73 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1551 : Index := Scalar.indexCast v401
  let c640_925 : Index := 640#32
  let c0_926 : Index := 0#32
  ![v1551.toNat, 640, 0]
def k0_off74 (k0_t3 : Fin k0_t3_loop.trips) (c0_i32_934 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1567 : Index := Scalar.indexCast v431
  let c4_i32_927 : BitVec 32 := 4#32
  let c0_i32_928 : BitVec 32 := 0#32
  let v1555 : BitVec 1 := Scalar.cmpi .eq c4_i32_927 c0_i32_928
  let c1_i32_929 : BitVec 32 := 1#32
  let v1556 : BitVec 32 := Scalar.select v1555 c1_i32_929 c4_i32_927
  let v1557 : BitVec 32 := Scalar.remsi v401 v1556
  let c0_i32_931 : BitVec 32 := 0#32
  let v1559 : BitVec 1 := Scalar.cmpi .slt v1557 c0_i32_931
  let c0_i32_932 : BitVec 32 := 0#32
  let v1560 : BitVec 1 := Scalar.cmpi .slt v1556 c0_i32_932
  let v1561 : BitVec 1 := Scalar.xori v1559 v1560
  let c0_i32_930 : BitVec 32 := 0#32
  let v1558 : BitVec 1 := Scalar.cmpi .ne v1557 c0_i32_930
  let v1562 : BitVec 1 := Scalar.andi v1561 v1558
  let v1563 : BitVec 32 := Scalar.addi v1557 v1556
  let v1564 : BitVec 32 := Scalar.select v1562 v1563 v1557
  let c2_i32_933 : BitVec 32 := 2#32
  let v1565 : BitVec 32 := Scalar.muli v1564 c2_i32_933
  let v1566 : BitVec 32 := Scalar.addi v1565 c0_i32_934
  let v1568 : Index := Scalar.indexCast v1566
  let c33 : Index := 33#32
  ![v1567.toNat, v1568.toNat, 33]
def k0_off75 (k0_t3 : Fin k0_t3_loop.trips) (c0_i32_942 : BitVec 32) : Fin 3 → Nat :=
  let c0_943 : Index := 0#32
  let c5_944 : Index := 5#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_941 : BitVec 32 := 2#32
  let v1577 : BitVec 32 := Scalar.muli v401 c2_i32_941
  let v1578 : BitVec 32 := Scalar.addi v1577 c0_i32_942
  let v1579 : Index := Scalar.indexCast v1578
  ![0, 5, v1579.toNat]
def k0_off76 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1595 : Index := Scalar.indexCast v411
  let c0_951 : Index := 0#32
  let c640_952 : Index := 640#32
  let c0_953 : Index := 0#32
  ![v1595.toNat, 0, 640, 0]
def k0_off77 (k0_t3 : Fin k0_t3_loop.trips) (c0_i32_961 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1614 : Index := Scalar.indexCast v431
  let c4_i32_954 : BitVec 32 := 4#32
  let c0_i32_955 : BitVec 32 := 0#32
  let v1602 : BitVec 1 := Scalar.cmpi .eq c4_i32_954 c0_i32_955
  let c1_i32_956 : BitVec 32 := 1#32
  let v1603 : BitVec 32 := Scalar.select v1602 c1_i32_956 c4_i32_954
  let v1604 : BitVec 32 := Scalar.remsi v401 v1603
  let c0_i32_958 : BitVec 32 := 0#32
  let v1606 : BitVec 1 := Scalar.cmpi .slt v1604 c0_i32_958
  let c0_i32_959 : BitVec 32 := 0#32
  let v1607 : BitVec 1 := Scalar.cmpi .slt v1603 c0_i32_959
  let v1608 : BitVec 1 := Scalar.xori v1606 v1607
  let c0_i32_957 : BitVec 32 := 0#32
  let v1605 : BitVec 1 := Scalar.cmpi .ne v1604 c0_i32_957
  let v1609 : BitVec 1 := Scalar.andi v1608 v1605
  let v1610 : BitVec 32 := Scalar.addi v1604 v1603
  let v1611 : BitVec 32 := Scalar.select v1609 v1610 v1604
  let c2_i32_960 : BitVec 32 := 2#32
  let v1612 : BitVec 32 := Scalar.muli v1611 c2_i32_960
  let v1613 : BitVec 32 := Scalar.addi v1612 c0_i32_961
  let v1615 : Index := Scalar.indexCast v1613
  let c38 : Index := 38#32
  ![v1614.toNat, v1615.toNat, 38]
def k0_off78 (k0_t3 : Fin k0_t3_loop.trips) (c0_i32_969 : BitVec 32) : Fin 3 → Nat :=
  let c1_970 : Index := 1#32
  let c5_971 : Index := 5#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_968 : BitVec 32 := 2#32
  let v1624 : BitVec 32 := Scalar.muli v401 c2_i32_968
  let v1625 : BitVec 32 := Scalar.addi v1624 c0_i32_969
  let v1626 : Index := Scalar.indexCast v1625
  ![1, 5, v1626.toNat]
def k0_off79 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1642 : Index := Scalar.indexCast v411
  let c1_978 : Index := 1#32
  let c640_979 : Index := 640#32
  let c0_980 : Index := 0#32
  ![v1642.toNat, 1, 640, 0]
def k0_off80 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1657 : Index := Scalar.indexCast v401
  let c640_986 : Index := 640#32
  let c128_987 : Index := 128#32
  ![v1657.toNat, 640, 128]
def k0_off81 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1701 : Index := Scalar.indexCast v411
  let c0_1013 : Index := 0#32
  let c640_1014 : Index := 640#32
  let c128_1015 : Index := 128#32
  ![v1701.toNat, 0, 640, 128]
def k0_off82 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1748 : Index := Scalar.indexCast v411
  let c1_1041 : Index := 1#32
  let c640_1042 : Index := 640#32
  let c128_1043 : Index := 128#32
  ![v1748.toNat, 1, 640, 128]
def k0_off83 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1759 : Index := Scalar.indexCast v401
  let c512_1044 : Index := 512#32
  let c0_1045 : Index := 0#32
  ![v1759.toNat, 512, 0]
def k0_off84 (k0_t3 : Fin k0_t3_loop.trips) (c0_i32_1056 : BitVec 32) : Fin 2 → Nat :=
  let c6_1057 : Index := 6#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1055 : BitVec 32 := 2#32
  let v1779 : BitVec 32 := Scalar.muli v401 c2_i32_1055
  let v1780 : BitVec 32 := Scalar.addi v1779 c0_i32_1056
  let v1781 : Index := Scalar.indexCast v1780
  ![6, v1781.toNat]
def k0_off85 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1787 : Index := Scalar.indexCast v401
  let c768_1060 : Index := 768#32
  let c0_1061 : Index := 0#32
  ![v1787.toNat, 768, 0]
def k0_off86 (k0_t3 : Fin k0_t3_loop.trips) (c0_i32_1069 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1803 : Index := Scalar.indexCast v431
  let c4_i32_1062 : BitVec 32 := 4#32
  let c0_i32_1063 : BitVec 32 := 0#32
  let v1791 : BitVec 1 := Scalar.cmpi .eq c4_i32_1062 c0_i32_1063
  let c1_i32_1064 : BitVec 32 := 1#32
  let v1792 : BitVec 32 := Scalar.select v1791 c1_i32_1064 c4_i32_1062
  let v1793 : BitVec 32 := Scalar.remsi v401 v1792
  let c0_i32_1066 : BitVec 32 := 0#32
  let v1795 : BitVec 1 := Scalar.cmpi .slt v1793 c0_i32_1066
  let c0_i32_1067 : BitVec 32 := 0#32
  let v1796 : BitVec 1 := Scalar.cmpi .slt v1792 c0_i32_1067
  let v1797 : BitVec 1 := Scalar.xori v1795 v1796
  let c0_i32_1065 : BitVec 32 := 0#32
  let v1794 : BitVec 1 := Scalar.cmpi .ne v1793 c0_i32_1065
  let v1798 : BitVec 1 := Scalar.andi v1797 v1794
  let v1799 : BitVec 32 := Scalar.addi v1793 v1792
  let v1800 : BitVec 32 := Scalar.select v1798 v1799 v1793
  let c2_i32_1068 : BitVec 32 := 2#32
  let v1801 : BitVec 32 := Scalar.muli v1800 c2_i32_1068
  let v1802 : BitVec 32 := Scalar.addi v1801 c0_i32_1069
  let v1804 : Index := Scalar.indexCast v1802
  let c65 : Index := 65#32
  ![v1803.toNat, v1804.toNat, 65]
def k0_off87 (k0_t3 : Fin k0_t3_loop.trips) (c0_i32_1077 : BitVec 32) : Fin 3 → Nat :=
  let c0_1078 : Index := 0#32
  let c6_1079 : Index := 6#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1076 : BitVec 32 := 2#32
  let v1813 : BitVec 32 := Scalar.muli v401 c2_i32_1076
  let v1814 : BitVec 32 := Scalar.addi v1813 c0_i32_1077
  let v1815 : Index := Scalar.indexCast v1814
  ![0, 6, v1815.toNat]
def k0_off88 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1831 : Index := Scalar.indexCast v411
  let c0_1086 : Index := 0#32
  let c768_1087 : Index := 768#32
  let c0_1088 : Index := 0#32
  ![v1831.toNat, 0, 768, 0]
def k0_off89 (k0_t3 : Fin k0_t3_loop.trips) (c0_i32_1096 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v1850 : Index := Scalar.indexCast v431
  let c4_i32_1089 : BitVec 32 := 4#32
  let c0_i32_1090 : BitVec 32 := 0#32
  let v1838 : BitVec 1 := Scalar.cmpi .eq c4_i32_1089 c0_i32_1090
  let c1_i32_1091 : BitVec 32 := 1#32
  let v1839 : BitVec 32 := Scalar.select v1838 c1_i32_1091 c4_i32_1089
  let v1840 : BitVec 32 := Scalar.remsi v401 v1839
  let c0_i32_1093 : BitVec 32 := 0#32
  let v1842 : BitVec 1 := Scalar.cmpi .slt v1840 c0_i32_1093
  let c0_i32_1094 : BitVec 32 := 0#32
  let v1843 : BitVec 1 := Scalar.cmpi .slt v1839 c0_i32_1094
  let v1844 : BitVec 1 := Scalar.xori v1842 v1843
  let c0_i32_1092 : BitVec 32 := 0#32
  let v1841 : BitVec 1 := Scalar.cmpi .ne v1840 c0_i32_1092
  let v1845 : BitVec 1 := Scalar.andi v1844 v1841
  let v1846 : BitVec 32 := Scalar.addi v1840 v1839
  let v1847 : BitVec 32 := Scalar.select v1845 v1846 v1840
  let c2_i32_1095 : BitVec 32 := 2#32
  let v1848 : BitVec 32 := Scalar.muli v1847 c2_i32_1095
  let v1849 : BitVec 32 := Scalar.addi v1848 c0_i32_1096
  let v1851 : Index := Scalar.indexCast v1849
  let c70 : Index := 70#32
  ![v1850.toNat, v1851.toNat, 70]
def k0_off90 (k0_t3 : Fin k0_t3_loop.trips) (c0_i32_1104 : BitVec 32) : Fin 3 → Nat :=
  let c1_1105 : Index := 1#32
  let c6_1106 : Index := 6#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1103 : BitVec 32 := 2#32
  let v1860 : BitVec 32 := Scalar.muli v401 c2_i32_1103
  let v1861 : BitVec 32 := Scalar.addi v1860 c0_i32_1104
  let v1862 : Index := Scalar.indexCast v1861
  ![1, 6, v1862.toNat]
def k0_off91 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1878 : Index := Scalar.indexCast v411
  let c1_1113 : Index := 1#32
  let c768_1114 : Index := 768#32
  let c0_1115 : Index := 0#32
  ![v1878.toNat, 1, 768, 0]
def k0_off92 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1893 : Index := Scalar.indexCast v401
  let c768_1121 : Index := 768#32
  let c128_1122 : Index := 128#32
  ![v1893.toNat, 768, 128]
def k0_off93 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1937 : Index := Scalar.indexCast v411
  let c0_1148 : Index := 0#32
  let c768_1149 : Index := 768#32
  let c128_1150 : Index := 128#32
  ![v1937.toNat, 0, 768, 128]
def k0_off94 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v1984 : Index := Scalar.indexCast v411
  let c1_1176 : Index := 1#32
  let c768_1177 : Index := 768#32
  let c128_1178 : Index := 128#32
  ![v1984.toNat, 1, 768, 128]
def k0_off95 (k0_t3 : Fin k0_t3_loop.trips) (c0_i32_1180 : BitVec 32) : Fin 2 → Nat :=
  let c7 : Index := 7#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1179 : BitVec 32 := 2#32
  let v1991 : BitVec 32 := Scalar.muli v401 c2_i32_1179
  let v1992 : BitVec 32 := Scalar.addi v1991 c0_i32_1180
  let v1993 : Index := Scalar.indexCast v1992
  ![7, v1993.toNat]
def k0_off96 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v1999 : Index := Scalar.indexCast v401
  let c896_1183 : Index := 896#32
  let c0_1184 : Index := 0#32
  ![v1999.toNat, 896, 0]
def k0_off97 (k0_t3 : Fin k0_t3_loop.trips) (c0_i32_1192 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2015 : Index := Scalar.indexCast v431
  let c4_i32_1185 : BitVec 32 := 4#32
  let c0_i32_1186 : BitVec 32 := 0#32
  let v2003 : BitVec 1 := Scalar.cmpi .eq c4_i32_1185 c0_i32_1186
  let c1_i32_1187 : BitVec 32 := 1#32
  let v2004 : BitVec 32 := Scalar.select v2003 c1_i32_1187 c4_i32_1185
  let v2005 : BitVec 32 := Scalar.remsi v401 v2004
  let c0_i32_1189 : BitVec 32 := 0#32
  let v2007 : BitVec 1 := Scalar.cmpi .slt v2005 c0_i32_1189
  let c0_i32_1190 : BitVec 32 := 0#32
  let v2008 : BitVec 1 := Scalar.cmpi .slt v2004 c0_i32_1190
  let v2009 : BitVec 1 := Scalar.xori v2007 v2008
  let c0_i32_1188 : BitVec 32 := 0#32
  let v2006 : BitVec 1 := Scalar.cmpi .ne v2005 c0_i32_1188
  let v2010 : BitVec 1 := Scalar.andi v2009 v2006
  let v2011 : BitVec 32 := Scalar.addi v2005 v2004
  let v2012 : BitVec 32 := Scalar.select v2010 v2011 v2005
  let c2_i32_1191 : BitVec 32 := 2#32
  let v2013 : BitVec 32 := Scalar.muli v2012 c2_i32_1191
  let v2014 : BitVec 32 := Scalar.addi v2013 c0_i32_1192
  let v2016 : Index := Scalar.indexCast v2014
  let c97 : Index := 97#32
  ![v2015.toNat, v2016.toNat, 97]
def k0_off98 (k0_t3 : Fin k0_t3_loop.trips) (c0_i32_1200 : BitVec 32) : Fin 3 → Nat :=
  let c0_1201 : Index := 0#32
  let c7_1202 : Index := 7#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1199 : BitVec 32 := 2#32
  let v2025 : BitVec 32 := Scalar.muli v401 c2_i32_1199
  let v2026 : BitVec 32 := Scalar.addi v2025 c0_i32_1200
  let v2027 : Index := Scalar.indexCast v2026
  ![0, 7, v2027.toNat]
def k0_off99 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2043 : Index := Scalar.indexCast v411
  let c0_1209 : Index := 0#32
  let c896_1210 : Index := 896#32
  let c0_1211 : Index := 0#32
  ![v2043.toNat, 0, 896, 0]
def k0_off100 (k0_t3 : Fin k0_t3_loop.trips) (c0_i32_1219 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2062 : Index := Scalar.indexCast v431
  let c4_i32_1212 : BitVec 32 := 4#32
  let c0_i32_1213 : BitVec 32 := 0#32
  let v2050 : BitVec 1 := Scalar.cmpi .eq c4_i32_1212 c0_i32_1213
  let c1_i32_1214 : BitVec 32 := 1#32
  let v2051 : BitVec 32 := Scalar.select v2050 c1_i32_1214 c4_i32_1212
  let v2052 : BitVec 32 := Scalar.remsi v401 v2051
  let c0_i32_1216 : BitVec 32 := 0#32
  let v2054 : BitVec 1 := Scalar.cmpi .slt v2052 c0_i32_1216
  let c0_i32_1217 : BitVec 32 := 0#32
  let v2055 : BitVec 1 := Scalar.cmpi .slt v2051 c0_i32_1217
  let v2056 : BitVec 1 := Scalar.xori v2054 v2055
  let c0_i32_1215 : BitVec 32 := 0#32
  let v2053 : BitVec 1 := Scalar.cmpi .ne v2052 c0_i32_1215
  let v2057 : BitVec 1 := Scalar.andi v2056 v2053
  let v2058 : BitVec 32 := Scalar.addi v2052 v2051
  let v2059 : BitVec 32 := Scalar.select v2057 v2058 v2052
  let c2_i32_1218 : BitVec 32 := 2#32
  let v2060 : BitVec 32 := Scalar.muli v2059 c2_i32_1218
  let v2061 : BitVec 32 := Scalar.addi v2060 c0_i32_1219
  let v2063 : Index := Scalar.indexCast v2061
  let c102 : Index := 102#32
  ![v2062.toNat, v2063.toNat, 102]
def k0_off101 (k0_t3 : Fin k0_t3_loop.trips) (c0_i32_1227 : BitVec 32) : Fin 3 → Nat :=
  let c1_1228 : Index := 1#32
  let c7_1229 : Index := 7#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1226 : BitVec 32 := 2#32
  let v2072 : BitVec 32 := Scalar.muli v401 c2_i32_1226
  let v2073 : BitVec 32 := Scalar.addi v2072 c0_i32_1227
  let v2074 : Index := Scalar.indexCast v2073
  ![1, 7, v2074.toNat]
def k0_off102 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2090 : Index := Scalar.indexCast v411
  let c1_1236 : Index := 1#32
  let c896_1237 : Index := 896#32
  let c0_1238 : Index := 0#32
  ![v2090.toNat, 1, 896, 0]
def k0_off103 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2105 : Index := Scalar.indexCast v401
  let c896_1244 : Index := 896#32
  let c128_1245 : Index := 128#32
  ![v2105.toNat, 896, 128]
def k0_off104 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2149 : Index := Scalar.indexCast v411
  let c0_1271 : Index := 0#32
  let c896_1272 : Index := 896#32
  let c128_1273 : Index := 128#32
  ![v2149.toNat, 0, 896, 128]
def k0_off105 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2196 : Index := Scalar.indexCast v411
  let c1_1299 : Index := 1#32
  let c896_1300 : Index := 896#32
  let c128_1301 : Index := 128#32
  ![v2196.toNat, 1, 896, 128]
def k0_off106 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2207 : Index := Scalar.indexCast v401
  let c768_1302 : Index := 768#32
  let c0_1303 : Index := 0#32
  ![v2207.toNat, 768, 0]
def k0_off107 (k0_t3 : Fin k0_t3_loop.trips) (c0_i32_1314 : BitVec 32) : Fin 2 → Nat :=
  let c8 : Index := 8#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1313 : BitVec 32 := 2#32
  let v2227 : BitVec 32 := Scalar.muli v401 c2_i32_1313
  let v2228 : BitVec 32 := Scalar.addi v2227 c0_i32_1314
  let v2229 : Index := Scalar.indexCast v2228
  ![8, v2229.toNat]
def k0_off108 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2235 : Index := Scalar.indexCast v401
  let c1024_1317 : Index := 1024#32
  let c0_1318 : Index := 0#32
  ![v2235.toNat, 1024, 0]
def k0_off109 (k0_t3 : Fin k0_t3_loop.trips) (c0_i32_1326 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2251 : Index := Scalar.indexCast v431
  let c4_i32_1319 : BitVec 32 := 4#32
  let c0_i32_1320 : BitVec 32 := 0#32
  let v2239 : BitVec 1 := Scalar.cmpi .eq c4_i32_1319 c0_i32_1320
  let c1_i32_1321 : BitVec 32 := 1#32
  let v2240 : BitVec 32 := Scalar.select v2239 c1_i32_1321 c4_i32_1319
  let v2241 : BitVec 32 := Scalar.remsi v401 v2240
  let c0_i32_1323 : BitVec 32 := 0#32
  let v2243 : BitVec 1 := Scalar.cmpi .slt v2241 c0_i32_1323
  let c0_i32_1324 : BitVec 32 := 0#32
  let v2244 : BitVec 1 := Scalar.cmpi .slt v2240 c0_i32_1324
  let v2245 : BitVec 1 := Scalar.xori v2243 v2244
  let c0_i32_1322 : BitVec 32 := 0#32
  let v2242 : BitVec 1 := Scalar.cmpi .ne v2241 c0_i32_1322
  let v2246 : BitVec 1 := Scalar.andi v2245 v2242
  let v2247 : BitVec 32 := Scalar.addi v2241 v2240
  let v2248 : BitVec 32 := Scalar.select v2246 v2247 v2241
  let c2_i32_1325 : BitVec 32 := 2#32
  let v2249 : BitVec 32 := Scalar.muli v2248 c2_i32_1325
  let v2250 : BitVec 32 := Scalar.addi v2249 c0_i32_1326
  let v2252 : Index := Scalar.indexCast v2250
  let c2_1327 : Index := 2#32
  ![v2251.toNat, v2252.toNat, 2]
def k0_off110 (k0_t3 : Fin k0_t3_loop.trips) (c0_i32_1335 : BitVec 32) : Fin 3 → Nat :=
  let c0_1336 : Index := 0#32
  let c8_1337 : Index := 8#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1334 : BitVec 32 := 2#32
  let v2261 : BitVec 32 := Scalar.muli v401 c2_i32_1334
  let v2262 : BitVec 32 := Scalar.addi v2261 c0_i32_1335
  let v2263 : Index := Scalar.indexCast v2262
  ![0, 8, v2263.toNat]
def k0_off111 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2279 : Index := Scalar.indexCast v411
  let c0_1344 : Index := 0#32
  let c1024_1345 : Index := 1024#32
  let c0_1346 : Index := 0#32
  ![v2279.toNat, 0, 1024, 0]
def k0_off112 (k0_t3 : Fin k0_t3_loop.trips) (c0_i32_1354 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2298 : Index := Scalar.indexCast v431
  let c4_i32_1347 : BitVec 32 := 4#32
  let c0_i32_1348 : BitVec 32 := 0#32
  let v2286 : BitVec 1 := Scalar.cmpi .eq c4_i32_1347 c0_i32_1348
  let c1_i32_1349 : BitVec 32 := 1#32
  let v2287 : BitVec 32 := Scalar.select v2286 c1_i32_1349 c4_i32_1347
  let v2288 : BitVec 32 := Scalar.remsi v401 v2287
  let c0_i32_1351 : BitVec 32 := 0#32
  let v2290 : BitVec 1 := Scalar.cmpi .slt v2288 c0_i32_1351
  let c0_i32_1352 : BitVec 32 := 0#32
  let v2291 : BitVec 1 := Scalar.cmpi .slt v2287 c0_i32_1352
  let v2292 : BitVec 1 := Scalar.xori v2290 v2291
  let c0_i32_1350 : BitVec 32 := 0#32
  let v2289 : BitVec 1 := Scalar.cmpi .ne v2288 c0_i32_1350
  let v2293 : BitVec 1 := Scalar.andi v2292 v2289
  let v2294 : BitVec 32 := Scalar.addi v2288 v2287
  let v2295 : BitVec 32 := Scalar.select v2293 v2294 v2288
  let c2_i32_1353 : BitVec 32 := 2#32
  let v2296 : BitVec 32 := Scalar.muli v2295 c2_i32_1353
  let v2297 : BitVec 32 := Scalar.addi v2296 c0_i32_1354
  let v2299 : Index := Scalar.indexCast v2297
  let c7_1355 : Index := 7#32
  ![v2298.toNat, v2299.toNat, 7]
def k0_off113 (k0_t3 : Fin k0_t3_loop.trips) (c0_i32_1363 : BitVec 32) : Fin 3 → Nat :=
  let c1_1364 : Index := 1#32
  let c8_1365 : Index := 8#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1362 : BitVec 32 := 2#32
  let v2308 : BitVec 32 := Scalar.muli v401 c2_i32_1362
  let v2309 : BitVec 32 := Scalar.addi v2308 c0_i32_1363
  let v2310 : Index := Scalar.indexCast v2309
  ![1, 8, v2310.toNat]
def k0_off114 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2326 : Index := Scalar.indexCast v411
  let c1_1372 : Index := 1#32
  let c1024_1373 : Index := 1024#32
  let c0_1374 : Index := 0#32
  ![v2326.toNat, 1, 1024, 0]
def k0_off115 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2341 : Index := Scalar.indexCast v401
  let c1024_1380 : Index := 1024#32
  let c128_1381 : Index := 128#32
  ![v2341.toNat, 1024, 128]
def k0_off116 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2385 : Index := Scalar.indexCast v411
  let c0_1407 : Index := 0#32
  let c1024_1408 : Index := 1024#32
  let c128_1409 : Index := 128#32
  ![v2385.toNat, 0, 1024, 128]
def k0_off117 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2432 : Index := Scalar.indexCast v411
  let c1_1435 : Index := 1#32
  let c1024_1436 : Index := 1024#32
  let c128_1437 : Index := 128#32
  ![v2432.toNat, 1, 1024, 128]
def k0_off118 (k0_t3 : Fin k0_t3_loop.trips) (c0_i32_1439 : BitVec 32) : Fin 2 → Nat :=
  let c9 : Index := 9#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1438 : BitVec 32 := 2#32
  let v2439 : BitVec 32 := Scalar.muli v401 c2_i32_1438
  let v2440 : BitVec 32 := Scalar.addi v2439 c0_i32_1439
  let v2441 : Index := Scalar.indexCast v2440
  ![9, v2441.toNat]
def k0_off119 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2447 : Index := Scalar.indexCast v401
  let c1152_1442 : Index := 1152#32
  let c0_1443 : Index := 0#32
  ![v2447.toNat, 1152, 0]
def k0_off120 (k0_t3 : Fin k0_t3_loop.trips) (c0_i32_1451 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2463 : Index := Scalar.indexCast v431
  let c4_i32_1444 : BitVec 32 := 4#32
  let c0_i32_1445 : BitVec 32 := 0#32
  let v2451 : BitVec 1 := Scalar.cmpi .eq c4_i32_1444 c0_i32_1445
  let c1_i32_1446 : BitVec 32 := 1#32
  let v2452 : BitVec 32 := Scalar.select v2451 c1_i32_1446 c4_i32_1444
  let v2453 : BitVec 32 := Scalar.remsi v401 v2452
  let c0_i32_1448 : BitVec 32 := 0#32
  let v2455 : BitVec 1 := Scalar.cmpi .slt v2453 c0_i32_1448
  let c0_i32_1449 : BitVec 32 := 0#32
  let v2456 : BitVec 1 := Scalar.cmpi .slt v2452 c0_i32_1449
  let v2457 : BitVec 1 := Scalar.xori v2455 v2456
  let c0_i32_1447 : BitVec 32 := 0#32
  let v2454 : BitVec 1 := Scalar.cmpi .ne v2453 c0_i32_1447
  let v2458 : BitVec 1 := Scalar.andi v2457 v2454
  let v2459 : BitVec 32 := Scalar.addi v2453 v2452
  let v2460 : BitVec 32 := Scalar.select v2458 v2459 v2453
  let c2_i32_1450 : BitVec 32 := 2#32
  let v2461 : BitVec 32 := Scalar.muli v2460 c2_i32_1450
  let v2462 : BitVec 32 := Scalar.addi v2461 c0_i32_1451
  let v2464 : Index := Scalar.indexCast v2462
  let c34 : Index := 34#32
  ![v2463.toNat, v2464.toNat, 34]
def k0_off121 (k0_t3 : Fin k0_t3_loop.trips) (c0_i32_1459 : BitVec 32) : Fin 3 → Nat :=
  let c0_1460 : Index := 0#32
  let c9_1461 : Index := 9#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1458 : BitVec 32 := 2#32
  let v2473 : BitVec 32 := Scalar.muli v401 c2_i32_1458
  let v2474 : BitVec 32 := Scalar.addi v2473 c0_i32_1459
  let v2475 : Index := Scalar.indexCast v2474
  ![0, 9, v2475.toNat]
def k0_off122 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2491 : Index := Scalar.indexCast v411
  let c0_1468 : Index := 0#32
  let c1152_1469 : Index := 1152#32
  let c0_1470 : Index := 0#32
  ![v2491.toNat, 0, 1152, 0]
def k0_off123 (k0_t3 : Fin k0_t3_loop.trips) (c0_i32_1478 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2510 : Index := Scalar.indexCast v431
  let c4_i32_1471 : BitVec 32 := 4#32
  let c0_i32_1472 : BitVec 32 := 0#32
  let v2498 : BitVec 1 := Scalar.cmpi .eq c4_i32_1471 c0_i32_1472
  let c1_i32_1473 : BitVec 32 := 1#32
  let v2499 : BitVec 32 := Scalar.select v2498 c1_i32_1473 c4_i32_1471
  let v2500 : BitVec 32 := Scalar.remsi v401 v2499
  let c0_i32_1475 : BitVec 32 := 0#32
  let v2502 : BitVec 1 := Scalar.cmpi .slt v2500 c0_i32_1475
  let c0_i32_1476 : BitVec 32 := 0#32
  let v2503 : BitVec 1 := Scalar.cmpi .slt v2499 c0_i32_1476
  let v2504 : BitVec 1 := Scalar.xori v2502 v2503
  let c0_i32_1474 : BitVec 32 := 0#32
  let v2501 : BitVec 1 := Scalar.cmpi .ne v2500 c0_i32_1474
  let v2505 : BitVec 1 := Scalar.andi v2504 v2501
  let v2506 : BitVec 32 := Scalar.addi v2500 v2499
  let v2507 : BitVec 32 := Scalar.select v2505 v2506 v2500
  let c2_i32_1477 : BitVec 32 := 2#32
  let v2508 : BitVec 32 := Scalar.muli v2507 c2_i32_1477
  let v2509 : BitVec 32 := Scalar.addi v2508 c0_i32_1478
  let v2511 : Index := Scalar.indexCast v2509
  let c39 : Index := 39#32
  ![v2510.toNat, v2511.toNat, 39]
def k0_off124 (k0_t3 : Fin k0_t3_loop.trips) (c0_i32_1486 : BitVec 32) : Fin 3 → Nat :=
  let c1_1487 : Index := 1#32
  let c9_1488 : Index := 9#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1485 : BitVec 32 := 2#32
  let v2520 : BitVec 32 := Scalar.muli v401 c2_i32_1485
  let v2521 : BitVec 32 := Scalar.addi v2520 c0_i32_1486
  let v2522 : Index := Scalar.indexCast v2521
  ![1, 9, v2522.toNat]
def k0_off125 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2538 : Index := Scalar.indexCast v411
  let c1_1495 : Index := 1#32
  let c1152_1496 : Index := 1152#32
  let c0_1497 : Index := 0#32
  ![v2538.toNat, 1, 1152, 0]
def k0_off126 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2553 : Index := Scalar.indexCast v401
  let c1152_1503 : Index := 1152#32
  let c128_1504 : Index := 128#32
  ![v2553.toNat, 1152, 128]
def k0_off127 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2597 : Index := Scalar.indexCast v411
  let c0_1530 : Index := 0#32
  let c1152_1531 : Index := 1152#32
  let c128_1532 : Index := 128#32
  ![v2597.toNat, 0, 1152, 128]
def k0_off128 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2644 : Index := Scalar.indexCast v411
  let c1_1558 : Index := 1#32
  let c1152_1559 : Index := 1152#32
  let c128_1560 : Index := 128#32
  ![v2644.toNat, 1, 1152, 128]
def k0_off129 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2655 : Index := Scalar.indexCast v401
  let c1024_1561 : Index := 1024#32
  let c0_1562 : Index := 0#32
  ![v2655.toNat, 1024, 0]
def k0_off130 (k0_t3 : Fin k0_t3_loop.trips) (c0_i32_1573 : BitVec 32) : Fin 2 → Nat :=
  let c10 : Index := 10#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1572 : BitVec 32 := 2#32
  let v2675 : BitVec 32 := Scalar.muli v401 c2_i32_1572
  let v2676 : BitVec 32 := Scalar.addi v2675 c0_i32_1573
  let v2677 : Index := Scalar.indexCast v2676
  ![10, v2677.toNat]
def k0_off131 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2683 : Index := Scalar.indexCast v401
  let c1280_1576 : Index := 1280#32
  let c0_1577 : Index := 0#32
  ![v2683.toNat, 1280, 0]
def k0_off132 (k0_t3 : Fin k0_t3_loop.trips) (c0_i32_1585 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2699 : Index := Scalar.indexCast v431
  let c4_i32_1578 : BitVec 32 := 4#32
  let c0_i32_1579 : BitVec 32 := 0#32
  let v2687 : BitVec 1 := Scalar.cmpi .eq c4_i32_1578 c0_i32_1579
  let c1_i32_1580 : BitVec 32 := 1#32
  let v2688 : BitVec 32 := Scalar.select v2687 c1_i32_1580 c4_i32_1578
  let v2689 : BitVec 32 := Scalar.remsi v401 v2688
  let c0_i32_1582 : BitVec 32 := 0#32
  let v2691 : BitVec 1 := Scalar.cmpi .slt v2689 c0_i32_1582
  let c0_i32_1583 : BitVec 32 := 0#32
  let v2692 : BitVec 1 := Scalar.cmpi .slt v2688 c0_i32_1583
  let v2693 : BitVec 1 := Scalar.xori v2691 v2692
  let c0_i32_1581 : BitVec 32 := 0#32
  let v2690 : BitVec 1 := Scalar.cmpi .ne v2689 c0_i32_1581
  let v2694 : BitVec 1 := Scalar.andi v2693 v2690
  let v2695 : BitVec 32 := Scalar.addi v2689 v2688
  let v2696 : BitVec 32 := Scalar.select v2694 v2695 v2689
  let c2_i32_1584 : BitVec 32 := 2#32
  let v2697 : BitVec 32 := Scalar.muli v2696 c2_i32_1584
  let v2698 : BitVec 32 := Scalar.addi v2697 c0_i32_1585
  let v2700 : Index := Scalar.indexCast v2698
  let c66 : Index := 66#32
  ![v2699.toNat, v2700.toNat, 66]
def k0_off133 (k0_t3 : Fin k0_t3_loop.trips) (c0_i32_1593 : BitVec 32) : Fin 3 → Nat :=
  let c0_1594 : Index := 0#32
  let c10_1595 : Index := 10#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1592 : BitVec 32 := 2#32
  let v2709 : BitVec 32 := Scalar.muli v401 c2_i32_1592
  let v2710 : BitVec 32 := Scalar.addi v2709 c0_i32_1593
  let v2711 : Index := Scalar.indexCast v2710
  ![0, 10, v2711.toNat]
def k0_off134 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2727 : Index := Scalar.indexCast v411
  let c0_1602 : Index := 0#32
  let c1280_1603 : Index := 1280#32
  let c0_1604 : Index := 0#32
  ![v2727.toNat, 0, 1280, 0]
def k0_off135 (k0_t3 : Fin k0_t3_loop.trips) (c0_i32_1612 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2746 : Index := Scalar.indexCast v431
  let c4_i32_1605 : BitVec 32 := 4#32
  let c0_i32_1606 : BitVec 32 := 0#32
  let v2734 : BitVec 1 := Scalar.cmpi .eq c4_i32_1605 c0_i32_1606
  let c1_i32_1607 : BitVec 32 := 1#32
  let v2735 : BitVec 32 := Scalar.select v2734 c1_i32_1607 c4_i32_1605
  let v2736 : BitVec 32 := Scalar.remsi v401 v2735
  let c0_i32_1609 : BitVec 32 := 0#32
  let v2738 : BitVec 1 := Scalar.cmpi .slt v2736 c0_i32_1609
  let c0_i32_1610 : BitVec 32 := 0#32
  let v2739 : BitVec 1 := Scalar.cmpi .slt v2735 c0_i32_1610
  let v2740 : BitVec 1 := Scalar.xori v2738 v2739
  let c0_i32_1608 : BitVec 32 := 0#32
  let v2737 : BitVec 1 := Scalar.cmpi .ne v2736 c0_i32_1608
  let v2741 : BitVec 1 := Scalar.andi v2740 v2737
  let v2742 : BitVec 32 := Scalar.addi v2736 v2735
  let v2743 : BitVec 32 := Scalar.select v2741 v2742 v2736
  let c2_i32_1611 : BitVec 32 := 2#32
  let v2744 : BitVec 32 := Scalar.muli v2743 c2_i32_1611
  let v2745 : BitVec 32 := Scalar.addi v2744 c0_i32_1612
  let v2747 : Index := Scalar.indexCast v2745
  let c71 : Index := 71#32
  ![v2746.toNat, v2747.toNat, 71]
def k0_off136 (k0_t3 : Fin k0_t3_loop.trips) (c0_i32_1620 : BitVec 32) : Fin 3 → Nat :=
  let c1_1621 : Index := 1#32
  let c10_1622 : Index := 10#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1619 : BitVec 32 := 2#32
  let v2756 : BitVec 32 := Scalar.muli v401 c2_i32_1619
  let v2757 : BitVec 32 := Scalar.addi v2756 c0_i32_1620
  let v2758 : Index := Scalar.indexCast v2757
  ![1, 10, v2758.toNat]
def k0_off137 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2774 : Index := Scalar.indexCast v411
  let c1_1629 : Index := 1#32
  let c1280_1630 : Index := 1280#32
  let c0_1631 : Index := 0#32
  ![v2774.toNat, 1, 1280, 0]
def k0_off138 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2789 : Index := Scalar.indexCast v401
  let c1280_1637 : Index := 1280#32
  let c128_1638 : Index := 128#32
  ![v2789.toNat, 1280, 128]
def k0_off139 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2833 : Index := Scalar.indexCast v411
  let c0_1664 : Index := 0#32
  let c1280_1665 : Index := 1280#32
  let c128_1666 : Index := 128#32
  ![v2833.toNat, 0, 1280, 128]
def k0_off140 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2880 : Index := Scalar.indexCast v411
  let c1_1692 : Index := 1#32
  let c1280_1693 : Index := 1280#32
  let c128_1694 : Index := 128#32
  ![v2880.toNat, 1, 1280, 128]
def k0_off141 (k0_t3 : Fin k0_t3_loop.trips) (c0_i32_1696 : BitVec 32) : Fin 2 → Nat :=
  let c11 : Index := 11#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1695 : BitVec 32 := 2#32
  let v2887 : BitVec 32 := Scalar.muli v401 c2_i32_1695
  let v2888 : BitVec 32 := Scalar.addi v2887 c0_i32_1696
  let v2889 : Index := Scalar.indexCast v2888
  ![11, v2889.toNat]
def k0_off142 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v2895 : Index := Scalar.indexCast v401
  let c1408_1699 : Index := 1408#32
  let c0_1700 : Index := 0#32
  ![v2895.toNat, 1408, 0]
def k0_off143 (k0_t3 : Fin k0_t3_loop.trips) (c0_i32_1708 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2911 : Index := Scalar.indexCast v431
  let c4_i32_1701 : BitVec 32 := 4#32
  let c0_i32_1702 : BitVec 32 := 0#32
  let v2899 : BitVec 1 := Scalar.cmpi .eq c4_i32_1701 c0_i32_1702
  let c1_i32_1703 : BitVec 32 := 1#32
  let v2900 : BitVec 32 := Scalar.select v2899 c1_i32_1703 c4_i32_1701
  let v2901 : BitVec 32 := Scalar.remsi v401 v2900
  let c0_i32_1705 : BitVec 32 := 0#32
  let v2903 : BitVec 1 := Scalar.cmpi .slt v2901 c0_i32_1705
  let c0_i32_1706 : BitVec 32 := 0#32
  let v2904 : BitVec 1 := Scalar.cmpi .slt v2900 c0_i32_1706
  let v2905 : BitVec 1 := Scalar.xori v2903 v2904
  let c0_i32_1704 : BitVec 32 := 0#32
  let v2902 : BitVec 1 := Scalar.cmpi .ne v2901 c0_i32_1704
  let v2906 : BitVec 1 := Scalar.andi v2905 v2902
  let v2907 : BitVec 32 := Scalar.addi v2901 v2900
  let v2908 : BitVec 32 := Scalar.select v2906 v2907 v2901
  let c2_i32_1707 : BitVec 32 := 2#32
  let v2909 : BitVec 32 := Scalar.muli v2908 c2_i32_1707
  let v2910 : BitVec 32 := Scalar.addi v2909 c0_i32_1708
  let v2912 : Index := Scalar.indexCast v2910
  let c98 : Index := 98#32
  ![v2911.toNat, v2912.toNat, 98]
def k0_off144 (k0_t3 : Fin k0_t3_loop.trips) (c0_i32_1716 : BitVec 32) : Fin 3 → Nat :=
  let c0_1717 : Index := 0#32
  let c11_1718 : Index := 11#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1715 : BitVec 32 := 2#32
  let v2921 : BitVec 32 := Scalar.muli v401 c2_i32_1715
  let v2922 : BitVec 32 := Scalar.addi v2921 c0_i32_1716
  let v2923 : Index := Scalar.indexCast v2922
  ![0, 11, v2923.toNat]
def k0_off145 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2939 : Index := Scalar.indexCast v411
  let c0_1725 : Index := 0#32
  let c1408_1726 : Index := 1408#32
  let c0_1727 : Index := 0#32
  ![v2939.toNat, 0, 1408, 0]
def k0_off146 (k0_t3 : Fin k0_t3_loop.trips) (c0_i32_1735 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v2958 : Index := Scalar.indexCast v431
  let c4_i32_1728 : BitVec 32 := 4#32
  let c0_i32_1729 : BitVec 32 := 0#32
  let v2946 : BitVec 1 := Scalar.cmpi .eq c4_i32_1728 c0_i32_1729
  let c1_i32_1730 : BitVec 32 := 1#32
  let v2947 : BitVec 32 := Scalar.select v2946 c1_i32_1730 c4_i32_1728
  let v2948 : BitVec 32 := Scalar.remsi v401 v2947
  let c0_i32_1732 : BitVec 32 := 0#32
  let v2950 : BitVec 1 := Scalar.cmpi .slt v2948 c0_i32_1732
  let c0_i32_1733 : BitVec 32 := 0#32
  let v2951 : BitVec 1 := Scalar.cmpi .slt v2947 c0_i32_1733
  let v2952 : BitVec 1 := Scalar.xori v2950 v2951
  let c0_i32_1731 : BitVec 32 := 0#32
  let v2949 : BitVec 1 := Scalar.cmpi .ne v2948 c0_i32_1731
  let v2953 : BitVec 1 := Scalar.andi v2952 v2949
  let v2954 : BitVec 32 := Scalar.addi v2948 v2947
  let v2955 : BitVec 32 := Scalar.select v2953 v2954 v2948
  let c2_i32_1734 : BitVec 32 := 2#32
  let v2956 : BitVec 32 := Scalar.muli v2955 c2_i32_1734
  let v2957 : BitVec 32 := Scalar.addi v2956 c0_i32_1735
  let v2959 : Index := Scalar.indexCast v2957
  let c103 : Index := 103#32
  ![v2958.toNat, v2959.toNat, 103]
def k0_off147 (k0_t3 : Fin k0_t3_loop.trips) (c0_i32_1743 : BitVec 32) : Fin 3 → Nat :=
  let c1_1744 : Index := 1#32
  let c11_1745 : Index := 11#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1742 : BitVec 32 := 2#32
  let v2968 : BitVec 32 := Scalar.muli v401 c2_i32_1742
  let v2969 : BitVec 32 := Scalar.addi v2968 c0_i32_1743
  let v2970 : Index := Scalar.indexCast v2969
  ![1, 11, v2970.toNat]
def k0_off148 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v2986 : Index := Scalar.indexCast v411
  let c1_1752 : Index := 1#32
  let c1408_1753 : Index := 1408#32
  let c0_1754 : Index := 0#32
  ![v2986.toNat, 1, 1408, 0]
def k0_off149 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3001 : Index := Scalar.indexCast v401
  let c1408_1760 : Index := 1408#32
  let c128_1761 : Index := 128#32
  ![v3001.toNat, 1408, 128]
def k0_off150 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3045 : Index := Scalar.indexCast v411
  let c0_1787 : Index := 0#32
  let c1408_1788 : Index := 1408#32
  let c128_1789 : Index := 128#32
  ![v3045.toNat, 0, 1408, 128]
def k0_off151 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3092 : Index := Scalar.indexCast v411
  let c1_1815 : Index := 1#32
  let c1408_1816 : Index := 1408#32
  let c128_1817 : Index := 128#32
  ![v3092.toNat, 1, 1408, 128]
def k0_off152 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3103 : Index := Scalar.indexCast v401
  let c1280_1818 : Index := 1280#32
  let c0_1819 : Index := 0#32
  ![v3103.toNat, 1280, 0]
def k0_off153 (k0_t3 : Fin k0_t3_loop.trips) (c0_i32_1830 : BitVec 32) : Fin 2 → Nat :=
  let c12 : Index := 12#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1829 : BitVec 32 := 2#32
  let v3123 : BitVec 32 := Scalar.muli v401 c2_i32_1829
  let v3124 : BitVec 32 := Scalar.addi v3123 c0_i32_1830
  let v3125 : Index := Scalar.indexCast v3124
  ![12, v3125.toNat]
def k0_off154 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3131 : Index := Scalar.indexCast v401
  let c1536_1833 : Index := 1536#32
  let c0_1834 : Index := 0#32
  ![v3131.toNat, 1536, 0]
def k0_off155 (k0_t3 : Fin k0_t3_loop.trips) (c0_i32_1842 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3147 : Index := Scalar.indexCast v431
  let c4_i32_1835 : BitVec 32 := 4#32
  let c0_i32_1836 : BitVec 32 := 0#32
  let v3135 : BitVec 1 := Scalar.cmpi .eq c4_i32_1835 c0_i32_1836
  let c1_i32_1837 : BitVec 32 := 1#32
  let v3136 : BitVec 32 := Scalar.select v3135 c1_i32_1837 c4_i32_1835
  let v3137 : BitVec 32 := Scalar.remsi v401 v3136
  let c0_i32_1839 : BitVec 32 := 0#32
  let v3139 : BitVec 1 := Scalar.cmpi .slt v3137 c0_i32_1839
  let c0_i32_1840 : BitVec 32 := 0#32
  let v3140 : BitVec 1 := Scalar.cmpi .slt v3136 c0_i32_1840
  let v3141 : BitVec 1 := Scalar.xori v3139 v3140
  let c0_i32_1838 : BitVec 32 := 0#32
  let v3138 : BitVec 1 := Scalar.cmpi .ne v3137 c0_i32_1838
  let v3142 : BitVec 1 := Scalar.andi v3141 v3138
  let v3143 : BitVec 32 := Scalar.addi v3137 v3136
  let v3144 : BitVec 32 := Scalar.select v3142 v3143 v3137
  let c2_i32_1841 : BitVec 32 := 2#32
  let v3145 : BitVec 32 := Scalar.muli v3144 c2_i32_1841
  let v3146 : BitVec 32 := Scalar.addi v3145 c0_i32_1842
  let v3148 : Index := Scalar.indexCast v3146
  let c3_1843 : Index := 3#32
  ![v3147.toNat, v3148.toNat, 3]
def k0_off156 (k0_t3 : Fin k0_t3_loop.trips) (c0_i32_1851 : BitVec 32) : Fin 3 → Nat :=
  let c0_1852 : Index := 0#32
  let c12_1853 : Index := 12#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1850 : BitVec 32 := 2#32
  let v3157 : BitVec 32 := Scalar.muli v401 c2_i32_1850
  let v3158 : BitVec 32 := Scalar.addi v3157 c0_i32_1851
  let v3159 : Index := Scalar.indexCast v3158
  ![0, 12, v3159.toNat]
def k0_off157 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3175 : Index := Scalar.indexCast v411
  let c0_1860 : Index := 0#32
  let c1536_1861 : Index := 1536#32
  let c0_1862 : Index := 0#32
  ![v3175.toNat, 0, 1536, 0]
def k0_off158 (k0_t3 : Fin k0_t3_loop.trips) (c0_i32_1870 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3194 : Index := Scalar.indexCast v431
  let c4_i32_1863 : BitVec 32 := 4#32
  let c0_i32_1864 : BitVec 32 := 0#32
  let v3182 : BitVec 1 := Scalar.cmpi .eq c4_i32_1863 c0_i32_1864
  let c1_i32_1865 : BitVec 32 := 1#32
  let v3183 : BitVec 32 := Scalar.select v3182 c1_i32_1865 c4_i32_1863
  let v3184 : BitVec 32 := Scalar.remsi v401 v3183
  let c0_i32_1867 : BitVec 32 := 0#32
  let v3186 : BitVec 1 := Scalar.cmpi .slt v3184 c0_i32_1867
  let c0_i32_1868 : BitVec 32 := 0#32
  let v3187 : BitVec 1 := Scalar.cmpi .slt v3183 c0_i32_1868
  let v3188 : BitVec 1 := Scalar.xori v3186 v3187
  let c0_i32_1866 : BitVec 32 := 0#32
  let v3185 : BitVec 1 := Scalar.cmpi .ne v3184 c0_i32_1866
  let v3189 : BitVec 1 := Scalar.andi v3188 v3185
  let v3190 : BitVec 32 := Scalar.addi v3184 v3183
  let v3191 : BitVec 32 := Scalar.select v3189 v3190 v3184
  let c2_i32_1869 : BitVec 32 := 2#32
  let v3192 : BitVec 32 := Scalar.muli v3191 c2_i32_1869
  let v3193 : BitVec 32 := Scalar.addi v3192 c0_i32_1870
  let v3195 : Index := Scalar.indexCast v3193
  let c8_1871 : Index := 8#32
  ![v3194.toNat, v3195.toNat, 8]
def k0_off159 (k0_t3 : Fin k0_t3_loop.trips) (c0_i32_1879 : BitVec 32) : Fin 3 → Nat :=
  let c1_1880 : Index := 1#32
  let c12_1881 : Index := 12#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1878 : BitVec 32 := 2#32
  let v3204 : BitVec 32 := Scalar.muli v401 c2_i32_1878
  let v3205 : BitVec 32 := Scalar.addi v3204 c0_i32_1879
  let v3206 : Index := Scalar.indexCast v3205
  ![1, 12, v3206.toNat]
def k0_off160 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3222 : Index := Scalar.indexCast v411
  let c1_1888 : Index := 1#32
  let c1536_1889 : Index := 1536#32
  let c0_1890 : Index := 0#32
  ![v3222.toNat, 1, 1536, 0]
def k0_off161 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3237 : Index := Scalar.indexCast v401
  let c1536_1896 : Index := 1536#32
  let c128_1897 : Index := 128#32
  ![v3237.toNat, 1536, 128]
def k0_off162 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3281 : Index := Scalar.indexCast v411
  let c0_1923 : Index := 0#32
  let c1536_1924 : Index := 1536#32
  let c128_1925 : Index := 128#32
  ![v3281.toNat, 0, 1536, 128]
def k0_off163 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3328 : Index := Scalar.indexCast v411
  let c1_1951 : Index := 1#32
  let c1536_1952 : Index := 1536#32
  let c128_1953 : Index := 128#32
  ![v3328.toNat, 1, 1536, 128]
def k0_off164 (k0_t3 : Fin k0_t3_loop.trips) (c0_i32_1955 : BitVec 32) : Fin 2 → Nat :=
  let c13 : Index := 13#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1954 : BitVec 32 := 2#32
  let v3335 : BitVec 32 := Scalar.muli v401 c2_i32_1954
  let v3336 : BitVec 32 := Scalar.addi v3335 c0_i32_1955
  let v3337 : Index := Scalar.indexCast v3336
  ![13, v3337.toNat]
def k0_off165 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3343 : Index := Scalar.indexCast v401
  let c1664_1958 : Index := 1664#32
  let c0_1959 : Index := 0#32
  ![v3343.toNat, 1664, 0]
def k0_off166 (k0_t3 : Fin k0_t3_loop.trips) (c0_i32_1967 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3359 : Index := Scalar.indexCast v431
  let c4_i32_1960 : BitVec 32 := 4#32
  let c0_i32_1961 : BitVec 32 := 0#32
  let v3347 : BitVec 1 := Scalar.cmpi .eq c4_i32_1960 c0_i32_1961
  let c1_i32_1962 : BitVec 32 := 1#32
  let v3348 : BitVec 32 := Scalar.select v3347 c1_i32_1962 c4_i32_1960
  let v3349 : BitVec 32 := Scalar.remsi v401 v3348
  let c0_i32_1964 : BitVec 32 := 0#32
  let v3351 : BitVec 1 := Scalar.cmpi .slt v3349 c0_i32_1964
  let c0_i32_1965 : BitVec 32 := 0#32
  let v3352 : BitVec 1 := Scalar.cmpi .slt v3348 c0_i32_1965
  let v3353 : BitVec 1 := Scalar.xori v3351 v3352
  let c0_i32_1963 : BitVec 32 := 0#32
  let v3350 : BitVec 1 := Scalar.cmpi .ne v3349 c0_i32_1963
  let v3354 : BitVec 1 := Scalar.andi v3353 v3350
  let v3355 : BitVec 32 := Scalar.addi v3349 v3348
  let v3356 : BitVec 32 := Scalar.select v3354 v3355 v3349
  let c2_i32_1966 : BitVec 32 := 2#32
  let v3357 : BitVec 32 := Scalar.muli v3356 c2_i32_1966
  let v3358 : BitVec 32 := Scalar.addi v3357 c0_i32_1967
  let v3360 : Index := Scalar.indexCast v3358
  let c35 : Index := 35#32
  ![v3359.toNat, v3360.toNat, 35]
def k0_off167 (k0_t3 : Fin k0_t3_loop.trips) (c0_i32_1975 : BitVec 32) : Fin 3 → Nat :=
  let c0_1976 : Index := 0#32
  let c13_1977 : Index := 13#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_1974 : BitVec 32 := 2#32
  let v3369 : BitVec 32 := Scalar.muli v401 c2_i32_1974
  let v3370 : BitVec 32 := Scalar.addi v3369 c0_i32_1975
  let v3371 : Index := Scalar.indexCast v3370
  ![0, 13, v3371.toNat]
def k0_off168 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3387 : Index := Scalar.indexCast v411
  let c0_1984 : Index := 0#32
  let c1664_1985 : Index := 1664#32
  let c0_1986 : Index := 0#32
  ![v3387.toNat, 0, 1664, 0]
def k0_off169 (k0_t3 : Fin k0_t3_loop.trips) (c0_i32_1994 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3406 : Index := Scalar.indexCast v431
  let c4_i32_1987 : BitVec 32 := 4#32
  let c0_i32_1988 : BitVec 32 := 0#32
  let v3394 : BitVec 1 := Scalar.cmpi .eq c4_i32_1987 c0_i32_1988
  let c1_i32_1989 : BitVec 32 := 1#32
  let v3395 : BitVec 32 := Scalar.select v3394 c1_i32_1989 c4_i32_1987
  let v3396 : BitVec 32 := Scalar.remsi v401 v3395
  let c0_i32_1991 : BitVec 32 := 0#32
  let v3398 : BitVec 1 := Scalar.cmpi .slt v3396 c0_i32_1991
  let c0_i32_1992 : BitVec 32 := 0#32
  let v3399 : BitVec 1 := Scalar.cmpi .slt v3395 c0_i32_1992
  let v3400 : BitVec 1 := Scalar.xori v3398 v3399
  let c0_i32_1990 : BitVec 32 := 0#32
  let v3397 : BitVec 1 := Scalar.cmpi .ne v3396 c0_i32_1990
  let v3401 : BitVec 1 := Scalar.andi v3400 v3397
  let v3402 : BitVec 32 := Scalar.addi v3396 v3395
  let v3403 : BitVec 32 := Scalar.select v3401 v3402 v3396
  let c2_i32_1993 : BitVec 32 := 2#32
  let v3404 : BitVec 32 := Scalar.muli v3403 c2_i32_1993
  let v3405 : BitVec 32 := Scalar.addi v3404 c0_i32_1994
  let v3407 : Index := Scalar.indexCast v3405
  let c40 : Index := 40#32
  ![v3406.toNat, v3407.toNat, 40]
def k0_off170 (k0_t3 : Fin k0_t3_loop.trips) (c0_i32_2002 : BitVec 32) : Fin 3 → Nat :=
  let c1_2003 : Index := 1#32
  let c13_2004 : Index := 13#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2001 : BitVec 32 := 2#32
  let v3416 : BitVec 32 := Scalar.muli v401 c2_i32_2001
  let v3417 : BitVec 32 := Scalar.addi v3416 c0_i32_2002
  let v3418 : Index := Scalar.indexCast v3417
  ![1, 13, v3418.toNat]
def k0_off171 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3434 : Index := Scalar.indexCast v411
  let c1_2011 : Index := 1#32
  let c1664_2012 : Index := 1664#32
  let c0_2013 : Index := 0#32
  ![v3434.toNat, 1, 1664, 0]
def k0_off172 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3449 : Index := Scalar.indexCast v401
  let c1664_2019 : Index := 1664#32
  let c128_2020 : Index := 128#32
  ![v3449.toNat, 1664, 128]
def k0_off173 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3493 : Index := Scalar.indexCast v411
  let c0_2046 : Index := 0#32
  let c1664_2047 : Index := 1664#32
  let c128_2048 : Index := 128#32
  ![v3493.toNat, 0, 1664, 128]
def k0_off174 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3540 : Index := Scalar.indexCast v411
  let c1_2074 : Index := 1#32
  let c1664_2075 : Index := 1664#32
  let c128_2076 : Index := 128#32
  ![v3540.toNat, 1, 1664, 128]
def k0_off175 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3551 : Index := Scalar.indexCast v401
  let c1536_2077 : Index := 1536#32
  let c0_2078 : Index := 0#32
  ![v3551.toNat, 1536, 0]
def k0_off176 (k0_t3 : Fin k0_t3_loop.trips) (c0_i32_2089 : BitVec 32) : Fin 2 → Nat :=
  let c14 : Index := 14#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2088 : BitVec 32 := 2#32
  let v3571 : BitVec 32 := Scalar.muli v401 c2_i32_2088
  let v3572 : BitVec 32 := Scalar.addi v3571 c0_i32_2089
  let v3573 : Index := Scalar.indexCast v3572
  ![14, v3573.toNat]
def k0_off177 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3579 : Index := Scalar.indexCast v401
  let c1792_2092 : Index := 1792#32
  let c0_2093 : Index := 0#32
  ![v3579.toNat, 1792, 0]
def k0_off178 (k0_t3 : Fin k0_t3_loop.trips) (c0_i32_2101 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3595 : Index := Scalar.indexCast v431
  let c4_i32_2094 : BitVec 32 := 4#32
  let c0_i32_2095 : BitVec 32 := 0#32
  let v3583 : BitVec 1 := Scalar.cmpi .eq c4_i32_2094 c0_i32_2095
  let c1_i32_2096 : BitVec 32 := 1#32
  let v3584 : BitVec 32 := Scalar.select v3583 c1_i32_2096 c4_i32_2094
  let v3585 : BitVec 32 := Scalar.remsi v401 v3584
  let c0_i32_2098 : BitVec 32 := 0#32
  let v3587 : BitVec 1 := Scalar.cmpi .slt v3585 c0_i32_2098
  let c0_i32_2099 : BitVec 32 := 0#32
  let v3588 : BitVec 1 := Scalar.cmpi .slt v3584 c0_i32_2099
  let v3589 : BitVec 1 := Scalar.xori v3587 v3588
  let c0_i32_2097 : BitVec 32 := 0#32
  let v3586 : BitVec 1 := Scalar.cmpi .ne v3585 c0_i32_2097
  let v3590 : BitVec 1 := Scalar.andi v3589 v3586
  let v3591 : BitVec 32 := Scalar.addi v3585 v3584
  let v3592 : BitVec 32 := Scalar.select v3590 v3591 v3585
  let c2_i32_2100 : BitVec 32 := 2#32
  let v3593 : BitVec 32 := Scalar.muli v3592 c2_i32_2100
  let v3594 : BitVec 32 := Scalar.addi v3593 c0_i32_2101
  let v3596 : Index := Scalar.indexCast v3594
  let c67 : Index := 67#32
  ![v3595.toNat, v3596.toNat, 67]
def k0_off179 (k0_t3 : Fin k0_t3_loop.trips) (c0_i32_2109 : BitVec 32) : Fin 3 → Nat :=
  let c0_2110 : Index := 0#32
  let c14_2111 : Index := 14#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2108 : BitVec 32 := 2#32
  let v3605 : BitVec 32 := Scalar.muli v401 c2_i32_2108
  let v3606 : BitVec 32 := Scalar.addi v3605 c0_i32_2109
  let v3607 : Index := Scalar.indexCast v3606
  ![0, 14, v3607.toNat]
def k0_off180 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3623 : Index := Scalar.indexCast v411
  let c0_2118 : Index := 0#32
  let c1792_2119 : Index := 1792#32
  let c0_2120 : Index := 0#32
  ![v3623.toNat, 0, 1792, 0]
def k0_off181 (k0_t3 : Fin k0_t3_loop.trips) (c0_i32_2128 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3642 : Index := Scalar.indexCast v431
  let c4_i32_2121 : BitVec 32 := 4#32
  let c0_i32_2122 : BitVec 32 := 0#32
  let v3630 : BitVec 1 := Scalar.cmpi .eq c4_i32_2121 c0_i32_2122
  let c1_i32_2123 : BitVec 32 := 1#32
  let v3631 : BitVec 32 := Scalar.select v3630 c1_i32_2123 c4_i32_2121
  let v3632 : BitVec 32 := Scalar.remsi v401 v3631
  let c0_i32_2125 : BitVec 32 := 0#32
  let v3634 : BitVec 1 := Scalar.cmpi .slt v3632 c0_i32_2125
  let c0_i32_2126 : BitVec 32 := 0#32
  let v3635 : BitVec 1 := Scalar.cmpi .slt v3631 c0_i32_2126
  let v3636 : BitVec 1 := Scalar.xori v3634 v3635
  let c0_i32_2124 : BitVec 32 := 0#32
  let v3633 : BitVec 1 := Scalar.cmpi .ne v3632 c0_i32_2124
  let v3637 : BitVec 1 := Scalar.andi v3636 v3633
  let v3638 : BitVec 32 := Scalar.addi v3632 v3631
  let v3639 : BitVec 32 := Scalar.select v3637 v3638 v3632
  let c2_i32_2127 : BitVec 32 := 2#32
  let v3640 : BitVec 32 := Scalar.muli v3639 c2_i32_2127
  let v3641 : BitVec 32 := Scalar.addi v3640 c0_i32_2128
  let v3643 : Index := Scalar.indexCast v3641
  let c72 : Index := 72#32
  ![v3642.toNat, v3643.toNat, 72]
def k0_off182 (k0_t3 : Fin k0_t3_loop.trips) (c0_i32_2136 : BitVec 32) : Fin 3 → Nat :=
  let c1_2137 : Index := 1#32
  let c14_2138 : Index := 14#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2135 : BitVec 32 := 2#32
  let v3652 : BitVec 32 := Scalar.muli v401 c2_i32_2135
  let v3653 : BitVec 32 := Scalar.addi v3652 c0_i32_2136
  let v3654 : Index := Scalar.indexCast v3653
  ![1, 14, v3654.toNat]
def k0_off183 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3670 : Index := Scalar.indexCast v411
  let c1_2145 : Index := 1#32
  let c1792_2146 : Index := 1792#32
  let c0_2147 : Index := 0#32
  ![v3670.toNat, 1, 1792, 0]
def k0_off184 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3685 : Index := Scalar.indexCast v401
  let c1792_2153 : Index := 1792#32
  let c128_2154 : Index := 128#32
  ![v3685.toNat, 1792, 128]
def k0_off185 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3729 : Index := Scalar.indexCast v411
  let c0_2180 : Index := 0#32
  let c1792_2181 : Index := 1792#32
  let c128_2182 : Index := 128#32
  ![v3729.toNat, 0, 1792, 128]
def k0_off186 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3776 : Index := Scalar.indexCast v411
  let c1_2208 : Index := 1#32
  let c1792_2209 : Index := 1792#32
  let c128_2210 : Index := 128#32
  ![v3776.toNat, 1, 1792, 128]
def k0_off187 (k0_t3 : Fin k0_t3_loop.trips) (c0_i32_2212 : BitVec 32) : Fin 2 → Nat :=
  let c15 : Index := 15#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2211 : BitVec 32 := 2#32
  let v3783 : BitVec 32 := Scalar.muli v401 c2_i32_2211
  let v3784 : BitVec 32 := Scalar.addi v3783 c0_i32_2212
  let v3785 : Index := Scalar.indexCast v3784
  ![15, v3785.toNat]
def k0_off188 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3791 : Index := Scalar.indexCast v401
  let c1920_2215 : Index := 1920#32
  let c0_2216 : Index := 0#32
  ![v3791.toNat, 1920, 0]
def k0_off189 (k0_t3 : Fin k0_t3_loop.trips) (c0_i32_2224 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3807 : Index := Scalar.indexCast v431
  let c4_i32_2217 : BitVec 32 := 4#32
  let c0_i32_2218 : BitVec 32 := 0#32
  let v3795 : BitVec 1 := Scalar.cmpi .eq c4_i32_2217 c0_i32_2218
  let c1_i32_2219 : BitVec 32 := 1#32
  let v3796 : BitVec 32 := Scalar.select v3795 c1_i32_2219 c4_i32_2217
  let v3797 : BitVec 32 := Scalar.remsi v401 v3796
  let c0_i32_2221 : BitVec 32 := 0#32
  let v3799 : BitVec 1 := Scalar.cmpi .slt v3797 c0_i32_2221
  let c0_i32_2222 : BitVec 32 := 0#32
  let v3800 : BitVec 1 := Scalar.cmpi .slt v3796 c0_i32_2222
  let v3801 : BitVec 1 := Scalar.xori v3799 v3800
  let c0_i32_2220 : BitVec 32 := 0#32
  let v3798 : BitVec 1 := Scalar.cmpi .ne v3797 c0_i32_2220
  let v3802 : BitVec 1 := Scalar.andi v3801 v3798
  let v3803 : BitVec 32 := Scalar.addi v3797 v3796
  let v3804 : BitVec 32 := Scalar.select v3802 v3803 v3797
  let c2_i32_2223 : BitVec 32 := 2#32
  let v3805 : BitVec 32 := Scalar.muli v3804 c2_i32_2223
  let v3806 : BitVec 32 := Scalar.addi v3805 c0_i32_2224
  let v3808 : Index := Scalar.indexCast v3806
  let c99 : Index := 99#32
  ![v3807.toNat, v3808.toNat, 99]
def k0_off190 (k0_t3 : Fin k0_t3_loop.trips) (c0_i32_2232 : BitVec 32) : Fin 3 → Nat :=
  let c0_2233 : Index := 0#32
  let c15_2234 : Index := 15#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2231 : BitVec 32 := 2#32
  let v3817 : BitVec 32 := Scalar.muli v401 c2_i32_2231
  let v3818 : BitVec 32 := Scalar.addi v3817 c0_i32_2232
  let v3819 : Index := Scalar.indexCast v3818
  ![0, 15, v3819.toNat]
def k0_off191 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3835 : Index := Scalar.indexCast v411
  let c0_2241 : Index := 0#32
  let c1920_2242 : Index := 1920#32
  let c0_2243 : Index := 0#32
  ![v3835.toNat, 0, 1920, 0]
def k0_off192 (k0_t3 : Fin k0_t3_loop.trips) (c0_i32_2251 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v3854 : Index := Scalar.indexCast v431
  let c4_i32_2244 : BitVec 32 := 4#32
  let c0_i32_2245 : BitVec 32 := 0#32
  let v3842 : BitVec 1 := Scalar.cmpi .eq c4_i32_2244 c0_i32_2245
  let c1_i32_2246 : BitVec 32 := 1#32
  let v3843 : BitVec 32 := Scalar.select v3842 c1_i32_2246 c4_i32_2244
  let v3844 : BitVec 32 := Scalar.remsi v401 v3843
  let c0_i32_2248 : BitVec 32 := 0#32
  let v3846 : BitVec 1 := Scalar.cmpi .slt v3844 c0_i32_2248
  let c0_i32_2249 : BitVec 32 := 0#32
  let v3847 : BitVec 1 := Scalar.cmpi .slt v3843 c0_i32_2249
  let v3848 : BitVec 1 := Scalar.xori v3846 v3847
  let c0_i32_2247 : BitVec 32 := 0#32
  let v3845 : BitVec 1 := Scalar.cmpi .ne v3844 c0_i32_2247
  let v3849 : BitVec 1 := Scalar.andi v3848 v3845
  let v3850 : BitVec 32 := Scalar.addi v3844 v3843
  let v3851 : BitVec 32 := Scalar.select v3849 v3850 v3844
  let c2_i32_2250 : BitVec 32 := 2#32
  let v3852 : BitVec 32 := Scalar.muli v3851 c2_i32_2250
  let v3853 : BitVec 32 := Scalar.addi v3852 c0_i32_2251
  let v3855 : Index := Scalar.indexCast v3853
  let c104 : Index := 104#32
  ![v3854.toNat, v3855.toNat, 104]
def k0_off193 (k0_t3 : Fin k0_t3_loop.trips) (c0_i32_2259 : BitVec 32) : Fin 3 → Nat :=
  let c1_2260 : Index := 1#32
  let c15_2261 : Index := 15#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2258 : BitVec 32 := 2#32
  let v3864 : BitVec 32 := Scalar.muli v401 c2_i32_2258
  let v3865 : BitVec 32 := Scalar.addi v3864 c0_i32_2259
  let v3866 : Index := Scalar.indexCast v3865
  ![1, 15, v3866.toNat]
def k0_off194 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3882 : Index := Scalar.indexCast v411
  let c1_2268 : Index := 1#32
  let c1920_2269 : Index := 1920#32
  let c0_2270 : Index := 0#32
  ![v3882.toNat, 1, 1920, 0]
def k0_off195 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3897 : Index := Scalar.indexCast v401
  let c1920_2276 : Index := 1920#32
  let c128_2277 : Index := 128#32
  ![v3897.toNat, 1920, 128]
def k0_off196 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3941 : Index := Scalar.indexCast v411
  let c0_2303 : Index := 0#32
  let c1920_2304 : Index := 1920#32
  let c128_2305 : Index := 128#32
  ![v3941.toNat, 0, 1920, 128]
def k0_off197 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v3988 : Index := Scalar.indexCast v411
  let c1_2331 : Index := 1#32
  let c1920_2332 : Index := 1920#32
  let c128_2333 : Index := 128#32
  ![v3988.toNat, 1, 1920, 128]
def k0_off198 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v3999 : Index := Scalar.indexCast v401
  let c1792_2334 : Index := 1792#32
  let c0_2335 : Index := 0#32
  ![v3999.toNat, 1792, 0]
def k0_off199 (k0_t3 : Fin k0_t3_loop.trips) (c0_i32_2346 : BitVec 32) : Fin 2 → Nat :=
  let c16 : Index := 16#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2345 : BitVec 32 := 2#32
  let v4019 : BitVec 32 := Scalar.muli v401 c2_i32_2345
  let v4020 : BitVec 32 := Scalar.addi v4019 c0_i32_2346
  let v4021 : Index := Scalar.indexCast v4020
  ![16, v4021.toNat]
def k0_off200 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v4027 : Index := Scalar.indexCast v401
  let c2048_2349 : Index := 2048#32
  let c0_2350 : Index := 0#32
  ![v4027.toNat, 2048, 0]
def k0_off201 (k0_t3 : Fin k0_t3_loop.trips) (c0_i32_2358 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v4043 : Index := Scalar.indexCast v431
  let c4_i32_2351 : BitVec 32 := 4#32
  let c0_i32_2352 : BitVec 32 := 0#32
  let v4031 : BitVec 1 := Scalar.cmpi .eq c4_i32_2351 c0_i32_2352
  let c1_i32_2353 : BitVec 32 := 1#32
  let v4032 : BitVec 32 := Scalar.select v4031 c1_i32_2353 c4_i32_2351
  let v4033 : BitVec 32 := Scalar.remsi v401 v4032
  let c0_i32_2355 : BitVec 32 := 0#32
  let v4035 : BitVec 1 := Scalar.cmpi .slt v4033 c0_i32_2355
  let c0_i32_2356 : BitVec 32 := 0#32
  let v4036 : BitVec 1 := Scalar.cmpi .slt v4032 c0_i32_2356
  let v4037 : BitVec 1 := Scalar.xori v4035 v4036
  let c0_i32_2354 : BitVec 32 := 0#32
  let v4034 : BitVec 1 := Scalar.cmpi .ne v4033 c0_i32_2354
  let v4038 : BitVec 1 := Scalar.andi v4037 v4034
  let v4039 : BitVec 32 := Scalar.addi v4033 v4032
  let v4040 : BitVec 32 := Scalar.select v4038 v4039 v4033
  let c2_i32_2357 : BitVec 32 := 2#32
  let v4041 : BitVec 32 := Scalar.muli v4040 c2_i32_2357
  let v4042 : BitVec 32 := Scalar.addi v4041 c0_i32_2358
  let v4044 : Index := Scalar.indexCast v4042
  let c4_2359 : Index := 4#32
  ![v4043.toNat, v4044.toNat, 4]
def k0_off202 (k0_t3 : Fin k0_t3_loop.trips) (c0_i32_2367 : BitVec 32) : Fin 3 → Nat :=
  let c0_2368 : Index := 0#32
  let c16_2369 : Index := 16#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2366 : BitVec 32 := 2#32
  let v4053 : BitVec 32 := Scalar.muli v401 c2_i32_2366
  let v4054 : BitVec 32 := Scalar.addi v4053 c0_i32_2367
  let v4055 : Index := Scalar.indexCast v4054
  ![0, 16, v4055.toNat]
def k0_off203 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4071 : Index := Scalar.indexCast v411
  let c0_2376 : Index := 0#32
  let c2048_2377 : Index := 2048#32
  let c0_2378 : Index := 0#32
  ![v4071.toNat, 0, 2048, 0]
def k0_off204 (k0_t3 : Fin k0_t3_loop.trips) (c0_i32_2386 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v4090 : Index := Scalar.indexCast v431
  let c4_i32_2379 : BitVec 32 := 4#32
  let c0_i32_2380 : BitVec 32 := 0#32
  let v4078 : BitVec 1 := Scalar.cmpi .eq c4_i32_2379 c0_i32_2380
  let c1_i32_2381 : BitVec 32 := 1#32
  let v4079 : BitVec 32 := Scalar.select v4078 c1_i32_2381 c4_i32_2379
  let v4080 : BitVec 32 := Scalar.remsi v401 v4079
  let c0_i32_2383 : BitVec 32 := 0#32
  let v4082 : BitVec 1 := Scalar.cmpi .slt v4080 c0_i32_2383
  let c0_i32_2384 : BitVec 32 := 0#32
  let v4083 : BitVec 1 := Scalar.cmpi .slt v4079 c0_i32_2384
  let v4084 : BitVec 1 := Scalar.xori v4082 v4083
  let c0_i32_2382 : BitVec 32 := 0#32
  let v4081 : BitVec 1 := Scalar.cmpi .ne v4080 c0_i32_2382
  let v4085 : BitVec 1 := Scalar.andi v4084 v4081
  let v4086 : BitVec 32 := Scalar.addi v4080 v4079
  let v4087 : BitVec 32 := Scalar.select v4085 v4086 v4080
  let c2_i32_2385 : BitVec 32 := 2#32
  let v4088 : BitVec 32 := Scalar.muli v4087 c2_i32_2385
  let v4089 : BitVec 32 := Scalar.addi v4088 c0_i32_2386
  let v4091 : Index := Scalar.indexCast v4089
  let c9_2387 : Index := 9#32
  ![v4090.toNat, v4091.toNat, 9]
def k0_off205 (k0_t3 : Fin k0_t3_loop.trips) (c0_i32_2395 : BitVec 32) : Fin 3 → Nat :=
  let c1_2396 : Index := 1#32
  let c16_2397 : Index := 16#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2394 : BitVec 32 := 2#32
  let v4100 : BitVec 32 := Scalar.muli v401 c2_i32_2394
  let v4101 : BitVec 32 := Scalar.addi v4100 c0_i32_2395
  let v4102 : Index := Scalar.indexCast v4101
  ![1, 16, v4102.toNat]
def k0_off206 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4118 : Index := Scalar.indexCast v411
  let c1_2404 : Index := 1#32
  let c2048_2405 : Index := 2048#32
  let c0_2406 : Index := 0#32
  ![v4118.toNat, 1, 2048, 0]
def k0_off207 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v4133 : Index := Scalar.indexCast v401
  let c2048_2412 : Index := 2048#32
  let c128_2413 : Index := 128#32
  ![v4133.toNat, 2048, 128]
def k0_off208 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4177 : Index := Scalar.indexCast v411
  let c0_2439 : Index := 0#32
  let c2048_2440 : Index := 2048#32
  let c128_2441 : Index := 128#32
  ![v4177.toNat, 0, 2048, 128]
def k0_off209 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4224 : Index := Scalar.indexCast v411
  let c1_2467 : Index := 1#32
  let c2048_2468 : Index := 2048#32
  let c128_2469 : Index := 128#32
  ![v4224.toNat, 1, 2048, 128]
def k0_off210 (k0_t3 : Fin k0_t3_loop.trips) (c0_i32_2471 : BitVec 32) : Fin 2 → Nat :=
  let c17 : Index := 17#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2470 : BitVec 32 := 2#32
  let v4231 : BitVec 32 := Scalar.muli v401 c2_i32_2470
  let v4232 : BitVec 32 := Scalar.addi v4231 c0_i32_2471
  let v4233 : Index := Scalar.indexCast v4232
  ![17, v4233.toNat]
def k0_off211 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v4239 : Index := Scalar.indexCast v401
  let c2176_2474 : Index := 2176#32
  let c0_2475 : Index := 0#32
  ![v4239.toNat, 2176, 0]
def k0_off212 (k0_t3 : Fin k0_t3_loop.trips) (c0_i32_2483 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v4255 : Index := Scalar.indexCast v431
  let c4_i32_2476 : BitVec 32 := 4#32
  let c0_i32_2477 : BitVec 32 := 0#32
  let v4243 : BitVec 1 := Scalar.cmpi .eq c4_i32_2476 c0_i32_2477
  let c1_i32_2478 : BitVec 32 := 1#32
  let v4244 : BitVec 32 := Scalar.select v4243 c1_i32_2478 c4_i32_2476
  let v4245 : BitVec 32 := Scalar.remsi v401 v4244
  let c0_i32_2480 : BitVec 32 := 0#32
  let v4247 : BitVec 1 := Scalar.cmpi .slt v4245 c0_i32_2480
  let c0_i32_2481 : BitVec 32 := 0#32
  let v4248 : BitVec 1 := Scalar.cmpi .slt v4244 c0_i32_2481
  let v4249 : BitVec 1 := Scalar.xori v4247 v4248
  let c0_i32_2479 : BitVec 32 := 0#32
  let v4246 : BitVec 1 := Scalar.cmpi .ne v4245 c0_i32_2479
  let v4250 : BitVec 1 := Scalar.andi v4249 v4246
  let v4251 : BitVec 32 := Scalar.addi v4245 v4244
  let v4252 : BitVec 32 := Scalar.select v4250 v4251 v4245
  let c2_i32_2482 : BitVec 32 := 2#32
  let v4253 : BitVec 32 := Scalar.muli v4252 c2_i32_2482
  let v4254 : BitVec 32 := Scalar.addi v4253 c0_i32_2483
  let v4256 : Index := Scalar.indexCast v4254
  let c36 : Index := 36#32
  ![v4255.toNat, v4256.toNat, 36]
def k0_off213 (k0_t3 : Fin k0_t3_loop.trips) (c0_i32_2491 : BitVec 32) : Fin 3 → Nat :=
  let c0_2492 : Index := 0#32
  let c17_2493 : Index := 17#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2490 : BitVec 32 := 2#32
  let v4265 : BitVec 32 := Scalar.muli v401 c2_i32_2490
  let v4266 : BitVec 32 := Scalar.addi v4265 c0_i32_2491
  let v4267 : Index := Scalar.indexCast v4266
  ![0, 17, v4267.toNat]
def k0_off214 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4283 : Index := Scalar.indexCast v411
  let c0_2500 : Index := 0#32
  let c2176_2501 : Index := 2176#32
  let c0_2502 : Index := 0#32
  ![v4283.toNat, 0, 2176, 0]
def k0_off215 (k0_t3 : Fin k0_t3_loop.trips) (c0_i32_2510 : BitVec 32) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c0_i32_270 : BitVec 32 := 0#32
  let v416 : BitVec 1 := Scalar.cmpi .sgt v401 c0_i32_270
  let v417 : BitVec 32 := Scalar.extui v416
  let c0_i32_271 : BitVec 32 := 0#32
  let v418 : BitVec 1 := Scalar.cmpi .slt v401 c0_i32_271
  let v419 : BitVec 32 := Scalar.extui v418
  let v420 : BitVec 32 := Scalar.subi v417 v419
  let c4_i32 : BitVec 32 := 4#32
  let c0_i32_272 : BitVec 32 := 0#32
  let v421 : BitVec 1 := Scalar.cmpi .sgt c4_i32 c0_i32_272
  let v422 : BitVec 32 := Scalar.extui v421
  let c0_i32_273 : BitVec 32 := 0#32
  let v423 : BitVec 1 := Scalar.cmpi .slt c4_i32 c0_i32_273
  let v424 : BitVec 32 := Scalar.extui v423
  let v425 : BitVec 32 := Scalar.subi v422 v424
  let v426 : BitVec 1 := Scalar.cmpi .ne v420 v425
  let v427 : BitVec 32 := Scalar.remsi v401 c4_i32
  let c0_i32_274 : BitVec 32 := 0#32
  let v428 : BitVec 1 := Scalar.cmpi .ne v427 c0_i32_274
  let v429 : BitVec 1 := Scalar.andi v426 v428
  let v415 : BitVec 32 := Scalar.divsi v401 c4_i32
  let c1_i32_275 : BitVec 32 := 1#32
  let v430 : BitVec 32 := Scalar.subi v415 c1_i32_275
  let v431 : BitVec 32 := Scalar.select v429 v430 v415
  let v4302 : Index := Scalar.indexCast v431
  let c4_i32_2503 : BitVec 32 := 4#32
  let c0_i32_2504 : BitVec 32 := 0#32
  let v4290 : BitVec 1 := Scalar.cmpi .eq c4_i32_2503 c0_i32_2504
  let c1_i32_2505 : BitVec 32 := 1#32
  let v4291 : BitVec 32 := Scalar.select v4290 c1_i32_2505 c4_i32_2503
  let v4292 : BitVec 32 := Scalar.remsi v401 v4291
  let c0_i32_2507 : BitVec 32 := 0#32
  let v4294 : BitVec 1 := Scalar.cmpi .slt v4292 c0_i32_2507
  let c0_i32_2508 : BitVec 32 := 0#32
  let v4295 : BitVec 1 := Scalar.cmpi .slt v4291 c0_i32_2508
  let v4296 : BitVec 1 := Scalar.xori v4294 v4295
  let c0_i32_2506 : BitVec 32 := 0#32
  let v4293 : BitVec 1 := Scalar.cmpi .ne v4292 c0_i32_2506
  let v4297 : BitVec 1 := Scalar.andi v4296 v4293
  let v4298 : BitVec 32 := Scalar.addi v4292 v4291
  let v4299 : BitVec 32 := Scalar.select v4297 v4298 v4292
  let c2_i32_2509 : BitVec 32 := 2#32
  let v4300 : BitVec 32 := Scalar.muli v4299 c2_i32_2509
  let v4301 : BitVec 32 := Scalar.addi v4300 c0_i32_2510
  let v4303 : Index := Scalar.indexCast v4301
  let c41 : Index := 41#32
  ![v4302.toNat, v4303.toNat, 41]
def k0_off216 (k0_t3 : Fin k0_t3_loop.trips) (c0_i32_2518 : BitVec 32) : Fin 3 → Nat :=
  let c1_2519 : Index := 1#32
  let c17_2520 : Index := 17#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2517 : BitVec 32 := 2#32
  let v4312 : BitVec 32 := Scalar.muli v401 c2_i32_2517
  let v4313 : BitVec 32 := Scalar.addi v4312 c0_i32_2518
  let v4314 : Index := Scalar.indexCast v4313
  ![1, 17, v4314.toNat]
def k0_off217 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4330 : Index := Scalar.indexCast v411
  let c1_2527 : Index := 1#32
  let c2176_2528 : Index := 2176#32
  let c0_2529 : Index := 0#32
  ![v4330.toNat, 1, 2176, 0]
def k0_off218 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v4345 : Index := Scalar.indexCast v401
  let c2176_2535 : Index := 2176#32
  let c128_2536 : Index := 128#32
  ![v4345.toNat, 2176, 128]
def k0_off219 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4389 : Index := Scalar.indexCast v411
  let c0_2562 : Index := 0#32
  let c2176_2563 : Index := 2176#32
  let c128_2564 : Index := 128#32
  ![v4389.toNat, 0, 2176, 128]
def k0_off220 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4436 : Index := Scalar.indexCast v411
  let c1_2590 : Index := 1#32
  let c2176_2591 : Index := 2176#32
  let c128_2592 : Index := 128#32
  ![v4436.toNat, 1, 2176, 128]
def k0_off221 (k0_t3 : Fin k0_t3_loop.trips) : Fin 3 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let v4447 : Index := Scalar.indexCast v401
  let c2048_2593 : Index := 2048#32
  let c0_2594 : Index := 0#32
  ![v4447.toNat, 2048, 0]
def k0_off222 (k0_t3 : Fin k0_t3_loop.trips) (c0_i32_2605 : BitVec 32) : Fin 2 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c2_i32_2604 : BitVec 32 := 2#32
  let v4472 : BitVec 32 := Scalar.muli v401 c2_i32_2604
  let v4473 : BitVec 32 := Scalar.addi v4472 c0_i32_2605
  let v4474 : Index := Scalar.indexCast v4473
  let c0_2606 : Index := 0#32
  ![v4474.toNat, 0]
def k0_off223 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4482 : Index := Scalar.indexCast v411
  let c0_2607 : Index := 0#32
  let c0_2608 : Index := 0#32
  let c0_2609 : Index := 0#32
  ![v4482.toNat, 0, 0, 0]
def k0_off224 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4501 : Index := Scalar.indexCast v411
  let c0_2613 : Index := 0#32
  let c0_2614 : Index := 0#32
  let c128_2615 : Index := 128#32
  ![v4501.toNat, 0, 0, 128]
def k0_off225 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4520 : Index := Scalar.indexCast v411
  let c1_2619 : Index := 1#32
  let c0_2620 : Index := 0#32
  let c0_2621 : Index := 0#32
  ![v4520.toNat, 1, 0, 0]
def k0_off226 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let v4539 : Index := Scalar.indexCast v411
  let c1_2625 : Index := 1#32
  let c0_2626 : Index := 0#32
  let c128_2627 : Index := 128#32
  ![v4539.toNat, 1, 0, 128]
def k0_mult8 (k0_t3 : Fin k0_t3_loop.trips) : BitVec 32 :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c256_i32 : BitVec 32 := 256#32
  let v4543 : BitVec 32 := Scalar.muli v401 c256_i32
  v4543
def k0_off227 (k0_t3 : Fin k0_t3_loop.trips) : Fin 1 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  ![v411.toNat]
def k0_off228 (k0_t3 : Fin k0_t3_loop.trips) : Fin 3 → Nat :=
  let c0_i32_2628 : BitVec 32 := 0#32
  let c0_i32_2629 : BitVec 32 := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c256_i32 : BitVec 32 := 256#32
  let v4543 : BitVec 32 := Scalar.muli v401 c256_i32
  let v4544 : BitVec 32 := v4543
  ![0, 0, v4544.toNat]
def k0_off229 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let c0_i32_2630 : BitVec 32 := 0#32
  let c0_i32_2631 : BitVec 32 := 0#32
  let c0_i32_2632 : BitVec 32 := 0#32
  ![v411.toNat, 0, 0, 0]
def k0_mult9 (k0_t3 : Fin k0_t3_loop.trips) : BitVec 32 :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c256_i32_2633 : BitVec 32 := 256#32
  let v4550 : BitVec 32 := Scalar.muli v401 c256_i32_2633
  v4550
def k0_off230 (k0_t3 : Fin k0_t3_loop.trips) : Fin 3 → Nat :=
  let c0_i32_2634 : BitVec 32 := 0#32
  let c0_i32_2635 : BitVec 32 := 0#32
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c256_i32_2633 : BitVec 32 := 256#32
  let v4550 : BitVec 32 := Scalar.muli v401 c256_i32_2633
  let v4551 : BitVec 32 := v4550
  ![0, 0, v4551.toNat]
def k0_off231 (k0_t3 : Fin k0_t3_loop.trips) : Fin 4 → Nat :=
  let c0_i32_262 : BitVec 32 := 0#32
  let c0_i32_213 : BitVec 32 := 0#32
  let c1_i32_215 : BitVec 32 := 1#32
  let arg23 : BitVec 32 := Scf.iv c0_i32_213 c1_i32_215 k0_t3
  let c1_i32_261 : BitVec 32 := 1#32
  let v400 : BitVec 32 := Scalar.muli arg23 c1_i32_261
  let v401 : BitVec 32 := Scalar.addi c0_i32_262 v400
  let c3_i32 : BitVec 32 := 3#32
  let c0_i32_263 : BitVec 32 := 0#32
  let v402 : BitVec 1 := Scalar.cmpi .eq c3_i32 c0_i32_263
  let c1_i32_264 : BitVec 32 := 1#32
  let v403 : BitVec 32 := Scalar.select v402 c1_i32_264 c3_i32
  let v404 : BitVec 32 := Scalar.remsi v401 v403
  let c0_i32_266 : BitVec 32 := 0#32
  let v406 : BitVec 1 := Scalar.cmpi .slt v404 c0_i32_266
  let c0_i32_267 : BitVec 32 := 0#32
  let v407 : BitVec 1 := Scalar.cmpi .slt v403 c0_i32_267
  let v408 : BitVec 1 := Scalar.xori v406 v407
  let c0_i32_265 : BitVec 32 := 0#32
  let v405 : BitVec 1 := Scalar.cmpi .ne v404 c0_i32_265
  let v409 : BitVec 1 := Scalar.andi v408 v405
  let v410 : BitVec 32 := Scalar.addi v404 v403
  let v411 : BitVec 32 := Scalar.select v409 v410 v404
  let c0_i32_2636 : BitVec 32 := 0#32
  let c0_i32_2637 : BitVec 32 := 0#32
  let c0_i32_2638 : BitVec 32 := 0#32
  ![v411.toNat, 0, 0, 0]
def k0_mult10 : BitVec 32 :=
  let c8448_i32 : BitVec 32 := 8448#32
  c8448_i32
def k0_mult11 : BitVec 32 :=
  let c8448_i32_224 : BitVec 32 := 8448#32
  c8448_i32_224
def k0_mult12 : BitVec 32 :=
  let c8704_i32 : BitVec 32 := 8704#32
  c8704_i32
def k0_mult13 : BitVec 32 :=
  let c8704_i32_239 : BitVec 32 := 8704#32
  c8704_i32_239
def k0_mult14 : BitVec 32 :=
  let c8960_i32 : BitVec 32 := 8960#32
  c8960_i32
def k0_mult15 : BitVec 32 :=
  let c8960_i32_253 : BitVec 32 := 8960#32
  c8960_i32_253
abbrev stage0_0 : Fin 1 → Memref sig .tc .vmem S2x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S18x72 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S2x18x72 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x2304 : Shape := ⟨3, ![2, 128, 2304]⟩
abbrev S2x2304 : Shape := ⟨2, ![2, 2304]⟩
abbrev S2304x9216 : Shape := ⟨2, ![2304, 9216]⟩
abbrev S18x72 : Shape := ⟨2, ![18, 72]⟩
abbrev S9216 : Shape := ⟨1, ![9216]⟩
abbrev S2x18x72 : Shape := ⟨3, ![2, 18, 72]⟩
abbrev S1x9216 : Shape := ⟨2, ![1, 9216]⟩
abbrev S2x128x9216 : Shape := ⟨3, ![2, 128, 9216]⟩
abbrev S2x2304x9216 : Shape := ⟨3, ![2, 2304, 9216]⟩
abbrev S18x1x72x1 : Shape := ⟨4, ![18, 1, 72, 1]⟩
abbrev S18x128x72x128 : Shape := ⟨4, ![18, 128, 72, 128]⟩
abbrev S1x18x72 : Shape := ⟨3, ![1, 18, 72]⟩
abbrev S2x2304x1 : Shape := ⟨3, ![2, 2304, 1]⟩
abbrev S1x2304x9216 : Shape := ⟨3, ![1, 2304, 9216]⟩
abbrev S2x18x1x72x1 : Shape := ⟨5, ![2, 18, 1, 72, 1]⟩
abbrev S2x18x128x72x128 : Shape := ⟨5, ![2, 18, 128, 72, 128]⟩
abbrev S2x9216 : Shape := ⟨2, ![2, 9216]⟩
abbrev S2x1x9216 : Shape := ⟨3, ![2, 1, 9216]⟩

abbrev nBuf : Space → Nat
  | .hbm => 11
  | .vmem => 10
  | .smem => 0
  | _ => 0

abbrev bufTy : (tb : Table) → Fin (tcTables nBuf tb) → BufTy
  | .hbm, ⟨0, _⟩ => ⟨S2x128x2304, .bf16⟩
  | .hbm, ⟨1, _⟩ => ⟨S2x2304, .f32⟩
  | .hbm, ⟨2, _⟩ => ⟨S2x2304, .f32⟩
  | .hbm, ⟨3, _⟩ => ⟨S2304x9216, .fp8e4m3⟩
  | .hbm, ⟨4, _⟩ => ⟨S18x72, .i32⟩
  | .hbm, ⟨5, _⟩ => ⟨S9216, .f32⟩
  | .hbm, ⟨6, _⟩ => ⟨S2x18x72, .i32⟩
  | .hbm, ⟨7, _⟩ => ⟨S1x9216, .f32⟩
  | .hbm, ⟨8, _⟩ => ⟨S2x128x9216, .bf16⟩
  | .hbm, ⟨9, _⟩ => ⟨S2x2304x9216, .fp8e4m3⟩
  | .hbm, ⟨10, _⟩ => ⟨S2x18x72, .f32⟩
  | .local _ .vmem, ⟨0, _⟩ => ⟨S2x128x2304, .bf16⟩
  | .local _ .vmem, ⟨1, _⟩ => ⟨S2x2304, .f32⟩
  | .local _ .vmem, ⟨2, _⟩ => ⟨S2x2304, .f32⟩
  | .local _ .vmem, ⟨3, _⟩ => ⟨S2304x9216, .fp8e4m3⟩
  | .local _ .vmem, ⟨4, _⟩ => ⟨S18x72, .i32⟩
  | .local _ .vmem, ⟨5, _⟩ => ⟨S1x9216, .f32⟩
  | .local _ .vmem, ⟨6, _⟩ => ⟨S2x18x72, .i32⟩
  | .local _ .vmem, ⟨7, _⟩ => ⟨S2x128x9216, .bf16⟩
  | .local _ .vmem, ⟨8, _⟩ => ⟨S2x2304x9216, .fp8e4m3⟩
  | .local _ .vmem, ⟨9, _⟩ => ⟨S2x18x72, .f32⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x128x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x72 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x18x72 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2304x9216 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x18x72 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Norm.lean ====
abbrev S2x128x2304 : Shape := ⟨3, ![2, 128, 2304]⟩
abbrev S2x128x18 : Shape := ⟨3, ![2, 128, 18]⟩
abbrev S_ : Shape := ⟨0, ![]⟩
abbrev S1x32x2304 : Shape := ⟨3, ![1, 32, 2304]⟩
abbrev S32x2304 : Shape := ⟨2, ![32, 2304]⟩
abbrev S32 : Shape := ⟨1, ![32]⟩
abbrev S32x1 : Shape := ⟨2, ![32, 1]⟩
abbrev S32x128 : Shape := ⟨2, ![32, 128]⟩
abbrev S1x32x18 : Shape := ⟨3, ![1, 32, 18]⟩
abbrev S32x18 : Shape := ⟨2, ![32, 18]⟩
abbrev S1x32x128 : Shape := ⟨3, ![1, 32, 128]⟩

abbrev nBuf : Space → Nat
  | .hbm => 5
  | .vmem => 5
  | .smem => 0
  | _ => 0

abbrev bufTy : (tb : Table) → Fin (tcTables nBuf tb) → BufTy
  | .hbm, ⟨0, _⟩ => ⟨S2x128x2304, .bf16⟩
  | .hbm, ⟨1, _⟩ => ⟨S2x128x18, .i32⟩
  | .hbm, ⟨2, _⟩ => ⟨S2x128x2304, .fp8e4m3⟩
  | .hbm, ⟨3, _⟩ => ⟨S2x128x18, .f32⟩
  | .hbm, ⟨4, _⟩ => ⟨S2x128x2304, .bf16⟩
  | .local _ .vmem, ⟨0, _⟩ => ⟨S2x128x18, .i32⟩
  | .local _ .vmem, ⟨1, _⟩ => ⟨S2x128x2304, .fp8e4m3⟩
  | .local _ .vmem, ⟨2, _⟩ => ⟨S2x128x18, .f32⟩
  | .local _ .vmem, ⟨3, _⟩ => ⟨S2x128x2304, .bf16⟩
  | .local _ .vmem, ⟨4, _⟩ => ⟨S2x128x2304, .bf16⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  v30
def k0_off1 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v32 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v33 : Index := Scalar.indexCast v31
  let c0 : Index := 0#32
  ![v32.toNat, v33.toNat, 0]
def k0_off2 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v55 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v56 : Index := Scalar.indexCast v31
  let c0_20 : Index := 0#32
  ![v55.toNat, v56.toNat, 0]
def k0_off3 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v80 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v81 : Index := Scalar.indexCast v31
  let c0_26 : Index := 0#32
  ![v80.toNat, v81.toNat, 0]
def k0_off4 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v120 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v121 : Index := Scalar.indexCast v31
  let c128 : Index := 128#32
  ![v120.toNat, v121.toNat, 128]
def k0_off5 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v160 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v161 : Index := Scalar.indexCast v31
  let c256 : Index := 256#32
  ![v160.toNat, v161.toNat, 256]
def k0_off6 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v200 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v201 : Index := Scalar.indexCast v31
  let c384 : Index := 384#32
  ![v200.toNat, v201.toNat, 384]
def k0_off7 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v240 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v241 : Index := Scalar.indexCast v31
  let c512 : Index := 512#32
  ![v240.toNat, v241.toNat, 512]
def k0_off8 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v280 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v281 : Index := Scalar.indexCast v31
  let c640 : Index := 640#32
  ![v280.toNat, v281.toNat, 640]
def k0_off9 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v320 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v321 : Index := Scalar.indexCast v31
  let c768 : Index := 768#32
  ![v320.toNat, v321.toNat, 768]
def k0_off10 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v360 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v361 : Index := Scalar.indexCast v31
  let c896 : Index := 896#32
  ![v360.toNat, v361.toNat, 896]
def k0_off11 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v400 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v401 : Index := Scalar.indexCast v31
  let c1024 : Index := 1024#32
  ![v400.toNat, v401.toNat, 1024]
def k0_off12 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v440 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v441 : Index := Scalar.indexCast v31
  let c1152 : Index := 1152#32
  ![v440.toNat, v441.toNat, 1152]
def k0_off13 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v480 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v481 : Index := Scalar.indexCast v31
  let c1280 : Index := 1280#32
  ![v480.toNat, v481.toNat, 1280]
def k0_off14 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v520 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v521 : Index := Scalar.indexCast v31
  let c1408 : Index := 1408#32
  ![v520.toNat, v521.toNat, 1408]
def k0_off15 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v560 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v561 : Index := Scalar.indexCast v31
  let c1536 : Index := 1536#32
  ![v560.toNat, v561.toNat, 1536]
def k0_off16 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v600 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v601 : Index := Scalar.indexCast v31
  let c1664 : Index := 1664#32
  ![v600.toNat, v601.toNat, 1664]
def k0_off17 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v640 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v641 : Index := Scalar.indexCast v31
  let c1792 : Index := 1792#32
  ![v640.toNat, v641.toNat, 1792]
def k0_off18 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v680 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v681 : Index := Scalar.indexCast v31
  let c1920 : Index := 1920#32
  ![v680.toNat, v681.toNat, 1920]
def k0_off19 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v720 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v721 : Index := Scalar.indexCast v31
  let c2048 : Index := 2048#32
  ![v720.toNat, v721.toNat, 2048]
def k0_off20 (k0_t1 : Fin k0_t1_loop.trips) : Fin 3 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c0_i32_3 : BitVec 32 := 0#32
  let v4 : BitVec 1 := Scalar.cmpi .sgt v2 c0_i32_3
  let v5 : BitVec 32 := Scalar.extui v4
  let c0_i32_4 : BitVec 32 := 0#32
  let v6 : BitVec 1 := Scalar.cmpi .slt v2 c0_i32_4
  let v7 : BitVec 32 := Scalar.extui v6
  let v8 : BitVec 32 := Scalar.subi v5 v7
  let c4_i32 : BitVec 32 := 4#32
  let c0_i32_5 : BitVec 32 := 0#32
  let v9 : BitVec 1 := Scalar.cmpi .sgt c4_i32 c0_i32_5
  let v10 : BitVec 32 := Scalar.extui v9
  let c0_i32_6 : BitVec 32 := 0#32
  let v11 : BitVec 1 := Scalar.cmpi .slt c4_i32 c0_i32_6
  let v12 : BitVec 32 := Scalar.extui v11
  let v13 : BitVec 32 := Scalar.subi v10 v12
  let v14 : BitVec 1 := Scalar.cmpi .ne v8 v13
  let v15 : BitVec 32 := Scalar.remsi v2 c4_i32
  let c0_i32_7 : BitVec 32 := 0#32
  let v16 : BitVec 1 := Scalar.cmpi .ne v15 c0_i32_7
  let v17 : BitVec 1 := Scalar.andi v14 v16
  let v3 : BitVec 32 := Scalar.divsi v2 c4_i32
  let c1_i32_8 : BitVec 32 := 1#32
  let v18 : BitVec 32 := Scalar.subi v3 c1_i32_8
  let v19 : BitVec 32 := Scalar.select v17 v18 v3
  let v760 : Index := Scalar.indexCast v19
  let c4_i32_9 : BitVec 32 := 4#32
  let c0_i32_10 : BitVec 32 := 0#32
  let v20 : BitVec 1 := Scalar.cmpi .eq c4_i32_9 c0_i32_10
  let c1_i32_11 : BitVec 32 := 1#32
  let v21 : BitVec 32 := Scalar.select v20 c1_i32_11 c4_i32_9
  let v22 : BitVec 32 := Scalar.remsi v2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c32_i32 : BitVec 32 := 32#32
  let v30 : BitVec 32 := Scalar.muli v29 c32_i32
  let v31 : BitVec 32 := v30
  let v761 : Index := Scalar.indexCast v31
  let c2176 : Index := 2176#32
  ![v760.toNat, v761.toNat, 2176]
abbrev stage0_0 : Fin 1 → Memref sig .tc .vmem S2x128x18 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== NormReferenceIdeal.lean ====
abbrev S2x128x2304 : Shape := ⟨3, ![2, 128, 2304]⟩
abbrev S2x128x18 : Shape := ⟨3, ![2, 128, 18]⟩
abbrev S2x128 : Shape := ⟨2, ![2, 128]⟩
abbrev S2x128x1 : Shape := ⟨3, ![2, 128, 1]⟩
abbrev S2x128x18x1 : Shape := ⟨4, ![2, 128, 18, 1]⟩
abbrev S2x128x18x128 : Shape := ⟨4, ![2, 128, 18, 128]⟩

abbrev nBuf : Space → Nat
  | .hbm => 5
  | .vmem => 5
  | .smem => 0
  | _ => 0

abbrev bufTy : (tb : Table) → Fin (tcTables nBuf tb) → BufTy
  | .hbm, ⟨0, _⟩ => ⟨S2x128x2304, .bf16⟩
  | .hbm, ⟨1, _⟩ => ⟨S2x128x18, .i32⟩
  | .hbm, ⟨2, _⟩ => ⟨S2x128x2304, .fp8e4m3⟩
  | .hbm, ⟨3, _⟩ => ⟨S2x128x18, .f32⟩
  | .hbm, ⟨4, _⟩ => ⟨S2x128x2304, .bf16⟩
  | .local _ .vmem, ⟨0, _⟩ => ⟨S2x128x2304, .bf16⟩
  | .local _ .vmem, ⟨1, _⟩ => ⟨S2x128x18, .i32⟩
  | .local _ .vmem, ⟨2, _⟩ => ⟨S2x128x2304, .fp8e4m3⟩
  | .local _ .vmem, ⟨3, _⟩ => ⟨S2x128x18, .f32⟩
  | .local _ .vmem, ⟨4, _⟩ => ⟨S2x128x2304, .bf16⟩
  | _, _ => ⟨S2x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x128x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x18 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Bits.Rolled.lean ====
/-
  The third loop's body as a short program: one step per pair of 128-row blocks, each step made of four tile steps
  per batch entry. `body_eq` says the printed body is this program, by unfolding.
-/
module

public import proofs.«01_k».proof.Proof.Gen.Kernel.Loops
public import Idealize.ShloMosaic.Lib.Pipeline.Regions

@[expose] public section

noncomputable section

namespace Cert.Kernel.Roll

open Idealize.ShloMosaic Idealize.ShloMosaic.TcCoe
open Idealize.SL Idealize.SL.Sem
open Cert.Kernel Cert.Kernel.Gen

variable {F : FTy → Type} [FloatOps F]

abbrev T3 := Fin k0_t3_loop.trips

/-- The trip's index, its slot, its two block columns, and where its exponent words stand. -/
def tI (t : T3) : Nat := k0_off16 t 0
def sI (t : T3) : Nat := k0_off19 t 0
def cI (t : T3) (n : Fin 2) : Nat := k0_off18 t (BitVec.ofNat 32 n.val) 2
def eI (t : T3) : Nat := k0_off17 t 0#32 0
def fI (t : T3) (n : Fin 2) : Nat := k0_off17 t (BitVec.ofNat 32 n.val) 1
def colI (t : T3) : Nat := k0_off228 t 2

theorem tI_eq : ∀ t : T3, tI t = t.val := by decide +kernel
theorem sI_eq : ∀ t : T3, sI t = t.val % 3 := by decide +kernel
theorem cI_eq : ∀ (t : T3) (n : Fin 2), cI t n = 2 * t.val + n.val := by decide +kernel
theorem eI_eq : ∀ t : T3, eI t = t.val / 4 := by decide +kernel
theorem fI_eq : ∀ (t : T3) (n : Fin 2), fI t n = 2 * (t.val % 4) + n.val := by decide +kernel
theorem colI_eq : ∀ t : T3, colI t = 256 * t.val := by decide +kernel

theorem trips36 : k0_t3_loop.trips = 36 := by decide +kernel
theorem t_lt (t : T3) : t.val < 36 := lt_of_lt_of_eq t.isLt trips36

/-! The rectangles a tile step touches. -/

def oW (t : T3) (k : Fin 18) (n : Fin 2) : Fin 3 → Nat := ![tI t, 128 * k.val, 128 * n.val]
theorem oW_inb (t : T3) (k : Fin 18) (n : Fin 2) : ∀ a, oW t k n a + S1x128x128.size a ≤ S36x2304x256.size a := by
  have := t_lt t; have := tI_eq t
  intro a; fin_cases a <;> simp [oW, S1x128x128, S36x2304x256] <;> omega
def rW (t : T3) (k : Fin 18) (n : Fin 2) : Rect S36x2304x256 := Rect.unit (oW t k n) S1x128x128.size (oW_inb t k n)

def oWk (t : T3) (kp : Fin 9) : Fin 3 → Nat := ![tI t, 256 * kp.val, 0]
theorem oWk_inb (t : T3) (kp : Fin 9) : ∀ a, oWk t kp a + S1x256x256.size a ≤ S36x2304x256.size a := by
  have := t_lt t; have := tI_eq t
  intro a; fin_cases a <;> simp [oWk, S1x256x256, S36x2304x256] <;> omega
def rWk (t : T3) (kp : Fin 9) : Rect S36x2304x256 := Rect.unit (oWk t kp) S1x256x256.size (oWk_inb t kp)

def oS (t : T3) (k : Fin 18) (n : Fin 2) : Fin 2 → Nat := ![k.val, cI t n]
theorem oS_inb (t : T3) (k : Fin 18) (n : Fin 2) : ∀ a, oS t k n a + S1x1.size a ≤ S18x72.size a := by
  have := t_lt t; have := cI_eq t n
  intro a; fin_cases a <;> simp [oS, S1x1, S18x72] <;> omega
def rS (t : T3) (k : Fin 18) (n : Fin 2) : Rect S18x72 := Rect.unit (oS t k n) S1x1.size (oS_inb t k n)

def oE (t : T3) (k : Fin 18) (n b : Fin 2) : Fin 3 → Nat := ![eI t, fI t n, 32 * (k.val % 4) + k.val / 4 + 5 * b.val]
theorem oE_inb (t : T3) (k : Fin 18) (n b : Fin 2) : ∀ a, oE t k n b a + S1x1x1.size a ≤ S9x8x128.size a := by
  have := t_lt t; have := eI_eq t; have := fI_eq t n
  intro a; fin_cases a <;> simp [oE, S1x1x1, S9x8x128] <;> omega
def rE (t : T3) (k : Fin 18) (n b : Fin 2) : Rect S9x8x128 := Rect.unit (oE t k n b) S1x1x1.size (oE_inb t k n b)

def oC (t : T3) (k : Fin 18) (n b : Fin 2) : Fin 3 → Nat := ![b.val, k.val, cI t n]
theorem oC_inb (t : T3) (k : Fin 18) (n b : Fin 2) : ∀ a, oC t k n b a + S1x1x1.size a ≤ S2x18x72.size a := by
  have := t_lt t; have := cI_eq t n
  intro a; fin_cases a <;> simp [oC, S1x1x1, S2x18x72] <;> omega
def rC (t : T3) (k : Fin 18) (n b : Fin 2) : Rect S2x18x72 := Rect.unit (oC t k n b) S1x1x1.size (oC_inb t k n b)

def oG (k : Fin 18) (b : Fin 2) : Fin 3 → Nat := ![b.val, 128 * k.val, 0]
theorem oG_inb (k : Fin 18) (b : Fin 2) : ∀ a, oG k b a + S1x128x128.size a ≤ S2x2304x128.size a := by
  intro a; fin_cases a <;> simp [oG, S1x128x128, S2x2304x128] <;> omega
def rG (k : Fin 18) (b : Fin 2) : Rect S2x2304x128 := Rect.unit (oG k b) S1x128x128.size (oG_inb k b)

def oH (k : Fin 18) : Fin 2 → Nat := ![0, 128 * k.val]
theorem oH_inb (k : Fin 18) : ∀ a, oH k a + S8x128.size a ≤ S8x2304.size a := by
  intro a; fin_cases a <;> simp [oH, S8x128, S8x2304] <;> omega
def rH (k : Fin 18) : Rect S8x2304 := Rect.unit (oH k) S8x128.size (oH_inb k)

def oX (kp : Fin 9) (b : Fin 2) : Fin 3 → Nat := ![b.val, 0, 256 * kp.val]
theorem oX_inb (kp : Fin 9) (b : Fin 2) : ∀ a, oX kp b a + S1x128x256.size a ≤ S2x128x2304.size a := by
  intro a; fin_cases a <;> simp [oX, S1x128x256, S2x128x2304] <;> omega
def rX (kp : Fin 9) (b : Fin 2) : Rect S2x128x2304 := Rect.unit (oX kp b) S1x128x256.size (oX_inb kp b)

def oT (t : T3) (k : Fin 18) (n b : Fin 2) : Fin 4 → Nat := ![sI t, b.val, 128 * k.val, 128 * n.val]
theorem oT_inb (t : T3) (k : Fin 18) (n b : Fin 2) : ∀ a, oT t k n b a + S1x1x128x128.size a ≤ S3x2x2304x256.size a := by
  have := t_lt t; have := sI_eq t
  intro a; fin_cases a <;> simp [oT, S1x1x128x128, S3x2x2304x256] <;> omega
def rT (t : T3) (k : Fin 18) (n b : Fin 2) : Rect S3x2x2304x256 := Rect.unit (oT t k n b) S1x1x128x128.size (oT_inb t k n b)
theorem rT_packed (t : T3) (k : Fin 18) (n b : Fin 2) : (rT t k n b).PackedRows (EltTy.packing .fp8e4m3) := by
  refine Or.inr ⟨by decide, rfl, Or.inl ⟨?_, ?_⟩⟩
  · show 4 ∣ 128 * k.val
    omega
  · show 4 ∣ 128
    decide

def oY (t : T3) (n b : Fin 2) : Fin 4 → Nat := ![sI t, b.val, 0, 128 * n.val]
theorem oY_inb (t : T3) (n b : Fin 2) : ∀ a, oY t n b a + S1x1x128x128.size a ≤ S3x2x128x256.size a := by
  have := t_lt t; have := sI_eq t
  intro a; fin_cases a <;> simp [oY, S1x1x128x128, S3x2x128x256] <;> omega
def rY (t : T3) (n b : Fin 2) : Rect S3x2x128x256 := Rect.unit (oY t n b) S1x1x128x128.size (oY_inb t n b)
theorem rY_packed (t : T3) (n b : Fin 2) : (rY t n b).PackedRows (EltTy.packing .bf16) := by
  refine Or.inr ⟨by decide, rfl, Or.inl ⟨?_, ?_⟩⟩
  · show 2 ∣ 0
    decide
  · show 2 ∣ 128
    decide

def oB (t : T3) (n : Fin 2) : Fin 2 → Nat := ![cI t n, 0]
theorem oB_inb (t : T3) (n : Fin 2) : ∀ a, oB t n a + S1x128.size a ≤ S72x128.size a := by
  have := t_lt t; have := cI_eq t n
  intro a; fin_cases a <;> simp [oB, S1x128, S72x128] <;> omega
def rB (t : T3) (n : Fin 2) : Rect S72x128 := Rect.unit (oB t n) S1x128.size (oB_inb t n)

/-! The words and tiles a tile step computes. -/

/-- The bits of the reciprocal block factor, and of the block's scale. -/
def invW (e : BitVec 32) : BitVec 32 :=
  Scalar.select (Scalar.cmpi .eq e 1048576#32) 1065353216#32 (Scalar.subi 1065353216#32 (Scalar.shli e 23#32))
def scW (ws e : BitVec 32) : BitVec 32 :=
  Scalar.select (Scalar.cmpi .eq e 1048576#32) 1065353216#32 (Scalar.addi ws (Scalar.shli e 23#32))
/-- A tile's codes, and the tile the matrix product takes. -/
def codesT (wf : FVec F S128x128 .f32) (e : BitVec 32) (g : Vec F S1x128x128 .f32) : FVec F S128x128 .fp8e4m3 :=
  k0_pay6 wf (invW e) g
def tileT (wf : FVec F S128x128 .f32) (ws e : BitVec 32) (g : Vec F S1x128x128 .f32) : FVec F S128x128 .bf16 :=
  k0_pay8 wf (invW e) (scW ws e) g

section Prog

variable (arg7 : Memref sig .tc .hbm S2x128x9216 .bf16) (harg7 : arg7.IsWhole)
  (arg8 : Memref sig .tc .hbm S2x2304x9216 .fp8e4m3) (harg8 : arg8.IsWhole)
variable (arg4 : Memref sig .tc .smem S18x72 .i32) (arg5 : Memref sig .tc .vmem S72x128 .f32)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)

/-- One tile of one batch entry: its scale word and its codes are stored, and the tile of the matrix product is returned. -/
def tileStep (t : T3) (k : Fin 18) (n b : Fin 2) (ws : BitVec 32) (wf : FVec F S128x128 .f32) :
    Prog (TpuEff nD τ sig (Elt F) Λ₀ .tc) (FVec F S128x128 .bf16) := do
  let e : Elt F .i32 ← smemLoad arg15 (rE t k n b) numel1_S1x1x1 rfl
  let _d : Elt F .i32 ← smemLoad arg9 (rC t k n b) numel1_S1x1x1 rfl
  Prog.lift (.store arg9 (rC t k n b) (fun _ => scW ws e) Finset.univ (View.stores_smem_one rfl numel1_S1x1x1) (.inl rfl))
  let g : Vec F S1x128x128 .f32 ← Prog.lift (.load arg12 (rG k b).toLoadRect (View.loadsAt_vmem h_S1x128x128))
  let _c : Vec F S1x1x128x128 .fp8e4m3 ← Prog.lift (.load arg16 (rT t k n b).toLoadRect (View.loadsAt_vmem h_S1x1x128x128))
  Prog.lift (.store arg16 (rT t k n b) (shapeCast S1x1x128x128 (codesT wf e g) shapeCasts_S128x128_S1x1x128x128) Finset.univ
    (View.stores_vmem h_S1x1x128x128 (harg16.storeExact_slice rfl _ (rT_packed t k n b)) (fun _ => rfl)) (.inl rfl))
  pure (tileT wf ws e g)

/-- One block of rows and one block of columns: the shift rows times the scale, and the two tiles. -/
def blkStep (t : T3) (k : Fin 18) (n : Fin 2) :
    Prog (TpuEff nD τ sig (Elt F) Λ₀ .tc) (FVec F S8x128 .f32 × FVec F S128x128 .bf16 × FVec F S128x128 .bf16) := do
  let ws : Elt F .i32 ← smemLoad arg4 (rS t k n) numel1_S1x1 rfl
  let h : Vec F S8x128 .f32 ← Prog.lift (.load arg13 (rH k).toLoadRect (View.loadsAt_vmem h_S8x128))
  let w : Vec F S1x128x128 .fp8e4m3 ← Prog.lift (.load arg10 (rW t k n).toLoadRect (View.loadsAt_vmem h_S1x128x128))
  let t0 ← tileStep arg9 arg12 arg15 arg16 harg16 t k n 0 ws (k0_pay5 w)
  let t1 ← tileStep arg9 arg12 arg15 arg16 harg16 t k n 1 ws (k0_pay5 w)
  pure (k0_pay4 ws h, t0, t1)

/-- The accumulators: the two batch entries' and the shift's. -/
abbrev Acc (F : FTy → Type) [FloatOps F] := FVec F S128x256 .f32 × FVec F S128x256 .f32 × FVec F S16x256 .f32

def kpStep (t : T3) (kp : Fin 9) (a : Acc F) : Prog (TpuEff nD τ sig (Elt F) Λ₀ .tc) (Acc F) := do
  let p00 ← blkStep arg4 arg9 arg10 arg12 arg13 arg15 arg16 harg16 t ⟨2 * kp.val, by omega⟩ 0
  let p01 ← blkStep arg4 arg9 arg10 arg12 arg13 arg15 arg16 harg16 t ⟨2 * kp.val, by omega⟩ 1
  let p10 ← blkStep arg4 arg9 arg10 arg12 arg13 arg15 arg16 harg16 t ⟨2 * kp.val + 1, by omega⟩ 0
  let p11 ← blkStep arg4 arg9 arg10 arg12 arg13 arg15 arg16 harg16 t ⟨2 * kp.val + 1, by omega⟩ 1
  let w : Vec F S1x256x256 .fp8e4m3 ← Prog.lift (.load arg10 (rWk t kp).toLoadRect (View.loadsAt_vmem h_S1x256x256))
  let x0 : Vec F S1x128x256 .bf16 ← Prog.lift (.load arg11 (rX kp 0).toLoadRect (View.loadsAt_vmem h_S1x128x256))
  let x1 : Vec F S1x128x256 .bf16 ← Prog.lift (.load arg11 (rX kp 1).toLoadRect (View.loadsAt_vmem h_S1x128x256))
  pure (k0_pay43 a.1 p00.2.1 p01.2.1 p10.2.1 p11.2.1 x0, k0_pay43 a.2.1 p00.2.2 p01.2.2 p10.2.2 p11.2.2 x1,
    k0_pay42 a.2.2 p00.1 p01.1 p10.1 p11.1 w)

/-- One quarter of the trip's rows of the product. -/
def yStep (t : T3) (n b : Fin 2) (pay : Vec F S1x128 .f32 → FVec F S1x1x128x128 .bf16) :
    Prog (TpuEff nD τ sig (Elt F) Λ₀ .tc) PUnit := do
  let r : Vec F S1x128 .f32 ← Prog.lift (.load arg5 (rB t n).toLoadRect (View.loadsAt_vmem h_S1x128))
  let _c : Vec F S1x1x128x128 .bf16 ← Prog.lift (.load arg17 (rY t n b).toLoadRect (View.loadsAt_vmem h_S1x1x128x128))
  Prog.lift (.store arg17 (rY t n b) (pay r) Finset.univ
    (View.stores_vmem h_S1x1x128x128 (harg17.storeExact_slice rfl _ (rY_packed t n b)) (fun _ => rfl)) (.inl rfl))

/-- All the rows, then the four quarters. -/
def mid (t : T3) : Prog (TpuEff nD τ sig (Elt F) Λ₀ .tc) PUnit := do
  let a ← kpStep arg4 arg9 arg10 arg11 arg12 arg13 arg15 arg16 harg16 t 0 (k0_pay1, k0_pay2, k0_pay3)
  let a ← kpStep arg4 arg9 arg10 arg11 arg12 arg13 arg15 arg16 harg16 t 1 a
  let a ← kpStep arg4 arg9 arg10 arg11 arg12 arg13 arg15 arg16 harg16 t 2 a
  let a ← kpStep arg4 arg9 arg10 arg11 arg12 arg13 arg15 arg16 harg16 t 3 a
  let a ← kpStep arg4 arg9 arg10 arg11 arg12 arg13 arg15 arg16 harg16 t 4 a
  let a ← kpStep arg4 arg9 arg10 arg11 arg12 arg13 arg15 arg16 harg16 t 5 a
  let a ← kpStep arg4 arg9 arg10 arg11 arg12 arg13 arg15 arg16 harg16 t 6 a
  let a ← kpStep arg4 arg9 arg10 arg11 arg12 arg13 arg15 arg16 harg16 t 7 a
  let a ← kpStep arg4 arg9 arg10 arg11 arg12 arg13 arg15 arg16 harg16 t 8 a
  yStep arg5 arg17 harg17 t 0 0 (k0_pay382 a.2.2 a.1)
  yStep arg5 arg17 harg17 t 1 0 (k0_pay383 a.2.2 a.1)
  yStep arg5 arg17 harg17 t 0 1 (fun r => k0_pay385 a.2.1 (k0_pay384 a.2.2) r)
  yStep arg5 arg17 harg17 t 1 1 (k0_pay386 a.2.2 a.2.1)

/-- Before a trip's work its slot is waited for, from the fourth trip on. -/
def pre (arg21 arg22 : DmaSems sig S3) (t : T3) : Prog (TpuEff nD τ sig (Elt F) Λ₀ .tc) PUnit :=
  if h1 : k0_cond1 t = 1#1 then do
    Prog.lift (.waitDma2 ((arg21.slice (Rect.unit (s := S3) (k0_off10 t) S1.size (k0_off10_inb t h1))).squeeze S_ squeezes_S1_S_).sem
      ((arg16.slice (Rect.unit (s := S3x2x2304x256) (k0_off12 t) S1x2x2304x256.size (k0_off12_inb t h1)) (fun _ => rfl)).squeeze S2x2304x256 squeezes_S1x2x2304x256_S2x2304x256)
      (arg8.slice (Rect.unit (s := S2x2304x9216) (k0_off11 t) S2x2304x256.size (k0_off11_inb t h1)) (fun _ => rfl))
      ((harg16.wordExact_slice rfl _ (k0_off12_wordsfp8e4m3 t h1)).reshape _ _) (harg8.wordExact_slice rfl _ (k0_off11_wordsfp8e4m3 t h1)))
    Prog.lift (.waitDma2 ((arg22.slice (Rect.unit (s := S3) (k0_off10 t) S1.size (k0_off10_inb t h1))).squeeze S_ squeezes_S1_S_).sem
      ((arg17.slice (Rect.unit (s := S3x2x128x256) (k0_off14 t) S1x2x128x256.size (k0_off14_inb t h1)) (fun _ => rfl)).squeeze S2x128x256 squeezes_S1x2x128x256_S2x128x256)
      (arg7.slice (Rect.unit (s := S2x128x9216) (k0_off13 t) S2x128x256.size (k0_off13_inb t h1)) (fun _ => rfl))
      ((harg17.wordExact_slice rfl _ (k0_off14_wordsbf16 t h1)).reshape _ _) (harg7.wordExact_slice rfl _ (k0_off13_wordsbf16 t h1)))
    pure ⟨⟩
  else do
    pure ⟨⟩

/-- After it the slot's two blocks are sent out. -/
def post (arg21 arg22 : DmaSems sig S3) (t : T3) : Prog (TpuEff nD τ sig (Elt F) Λ₀ .tc) PUnit := do
  Prog.lift (.enqueueDma ((arg16.slice (Rect.unit (s := S3x2x2304x256) (k0_off229 t) S1x2x2304x256.size (k0_off229_inb t)) (fun _ => rfl)).squeeze S2x2304x256 squeezes_S1x2x2304x256_S2x2304x256)
    (.here (arg8.slice (Rect.unit (s := S2x2304x9216) (k0_off228 t) S2x2304x256.size (k0_off228_inb t)) (fun _ => rfl)))
    (.dma ((arg21.slice (Rect.unit (s := S3) (k0_off227 t) S1.size (k0_off227_inb t))).squeeze S_ squeezes_S1_S_).sem)
    ((harg16.wordExact_slice rfl _ (k0_off229_wordsfp8e4m3 t)).reshape _ _) (harg8.wordExact_slice rfl _ (k0_off228_wordsfp8e4m3 t)) ⟨Or.inl rfl, trivial⟩)
  Prog.lift (.enqueueDma ((arg17.slice (Rect.unit (s := S3x2x128x256) (k0_off231 t) S1x2x128x256.size (k0_off231_inb t)) (fun _ => rfl)).squeeze S2x128x256 squeezes_S1x2x128x256_S2x128x256)
    (.here (arg7.slice (Rect.unit (s := S2x128x9216) (k0_off230 t) S2x128x256.size (k0_off230_inb t)) (fun _ => rfl)))
    (.dma ((arg22.slice (Rect.unit (s := S3) (k0_off227 t) S1.size (k0_off227_inb t))).squeeze S_ squeezes_S1_S_).sem)
    ((harg17.wordExact_slice rfl _ (k0_off231_wordsbf16 t)).reshape _ _) (harg7.wordExact_slice rfl _ (k0_off230_wordsbf16 t)) ⟨Or.inl rfl, trivial⟩)
  pure ⟨⟩

/-- A trip of the third loop. -/
def body3 (arg21 arg22 : DmaSems sig S3) (t : T3) (_ : Unit) : Prog (TpuEff nD τ sig (Elt F) Λ₀ .tc) Unit := do
  pre arg7 harg7 arg8 harg8 arg16 harg16 arg17 harg17 arg21 arg22 t
  mid arg4 arg5 arg9 arg10 arg11 arg12 arg13 arg15 arg16 harg16 arg17 harg17 t
  post arg7 harg7 arg8 harg8 arg16 harg16 arg17 harg17 arg21 arg22 t

end Prog

open Pipeline in
set_option maxRecDepth 65536 in
set_option maxHeartbeats 0 in
theorem body_eq (arg0 : Memref sig .tc .hbm S2x128x2304 .bf16) (harg0 : arg0.IsWhole) (arg1 : Memref sig .tc .vmem S2x2304 .f32) (harg1 : arg1.IsWhole) (arg2 : Memref sig .tc .vmem S2x2304 .f32) (harg2 : arg2.IsWhole) (arg3 : Memref sig .tc .hbm S2304x9216 .fp8e4m3) (harg3 : arg3.IsWhole) (arg4 : Memref sig .tc .smem S18x72 .i32) (harg4 : arg4.IsWhole) (arg5 : Memref sig .tc .vmem S72x128 .f32) (harg5 : arg5.IsWhole) (arg6 : Memref sig .tc .vmem S9x8x128 .i32) (harg6 : arg6.IsWhole) (arg7 : Memref sig .tc .hbm S2x128x9216 .bf16) (harg7 : arg7.IsWhole) (arg8 : Memref sig .tc .hbm S2x2304x9216 .fp8e4m3) (harg8 : arg8.IsWhole) (arg9 : Memref sig .tc .smem S2x18x72 .i32) (harg9 : arg9.IsWhole) (arg10 : Memref sig .tc .vmem S36x2304x256 .fp8e4m3) (harg10 : arg10.IsWhole) (arg11 : Memref sig .tc .vmem S2x128x2304 .bf16) (harg11 : arg11.IsWhole) (arg12 : Memref sig .tc .vmem S2x2304x128 .f32) (harg12 : arg12.IsWhole) (arg13 : Memref sig .tc .vmem S8x2304 .f32) (harg13 : arg13.IsWhole) (arg14 : Memref sig .tc .vmem S9x8x128 .i32) (harg14 : arg14.IsWhole) (arg15 : Memref sig .tc .smem S9x8x128 .i32) (harg15 : arg15.IsWhole) (arg16 : Memref sig .tc .vmem S3x2x2304x256 .fp8e4m3) (harg16 : arg16.IsWhole) (arg17 : Memref sig .tc .vmem S3x2x128x256 .bf16) (harg17 : arg17.IsWhole) (arg18 : DmaSems sig S_) (arg19 : DmaSems sig S36) (arg20 : DmaSems sig S9) (arg21 : DmaSems sig S3) (arg22 : DmaSems sig S3) (v329 : Vec F S2x2304 .f32) (v331 : FVec F S2x2304 .f32) (v332 : FVec F S1x2304 .f32) (v333 : Vec F S1x2304 .f32) (t : T3) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 v329 v331 v332 v333 t () = body3 arg7 harg7 arg8 harg8 arg4 arg5 arg9 arg10 arg11 arg12 arg13 arg15 arg16 harg16 arg17 harg17 arg21 arg22 t () := by
  rw [k0_t3_body, k0_part114_eq_skeleton, k0_part114_skel, k0_part2_eq_skeleton, k0_part2_skel]
  by_cases hc : k0_cond1 t = 1#1
  · rw [body3, pre, dif_pos hc, dif_pos hc]
    chain_rfl
  · rw [body3, pre, dif_neg hc, dif_neg hc]
    chain_rfl

end Cert.Kernel.Roll
-- ==== Proof.Cells.lean ====
/-
  Part of a buffer held with a fact about each of its cells: `KV c v S q P` is the share `q` of the cells `S` of the
  view `v`, every cell `i` of them holding a value `x` with `P i x`. The rules for loads, stores and transfers below keep
  that form, so a proof over a program never names a buffer's contents.
-/
module

public import Idealize.ShloMosaic.Lib.Exec
public import Idealize.ShloMosaic.Lib.Tactic
public import Idealize.ShloMosaic.Lib.Pipeline.Kit
public import Idealize.ShloMosaic.Lib.Transfers

@[expose] public section

noncomputable section

namespace Cert.Cells

open Idealize.ShloMosaic Idealize.ShloMosaic.TcCoe
open Idealize.SL Idealize.SL.RA Idealize.ShloMosaic.Transfers
open Idealize.SL.BI (sProp Storable bigSep)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} [Preorder Lvl] {Λ : Labels}
local notation "𝕄" => MT nD τ sig Ix Val Name U Lvl

/-- The indices with a property. -/
def cells {s : Shape} (p : s.Idx → Prop) : Finset s.Idx := by classical exact Finset.univ.filter p

@[simp] theorem mem_cells {s : Shape} {p : s.Idx → Prop} {i : s.Idx} : i ∈ cells p ↔ p i := by
  classical simp [cells]

/-- The cells `S` of the view `v`, each holding a value its property admits. -/
def KV (c : Thread nD τ) {sp : Space} {s : Shape} {e : EltTy} (v : View sig c.2.kind sp s e) (S : Finset s.Idx)
    (q : PosShare TreeShare) (P : s.Idx → Val e → Prop) : sProp 𝕄 :=
  iprop(∃ f, ⌜∀ i ∈ S, P i (v.read Val f i)⌝ ∗ (v.loc c ↦[v.setOn S]{q} f))

/-- Every value. -/
def any {s : Shape} {e : EltTy} : s.Idx → Val e → Prop := fun _ _ => True

/-- One value per cell. -/
def is {s : Shape} {e : EltTy} (T : s.Idx → Val e) : s.Idx → Val e → Prop := fun i x => x = T i

instance KV_storable (c : Thread nD τ) {sp : Space} {s : Shape} {e : EltTy} (v : View sig c.2.kind sp s e) (S : Finset s.Idx)
    (q : PosShare TreeShare) (P : s.Idx → Val e → Prop) : Storable (upEmb : UEmb _ 𝕄) (KV c v S q P : sProp 𝕄) := by
  unfold KV; infer_instance

section Facts
variable (c : Thread nD τ) {sp : Space} {s : Shape} {e : EltTy} {v : View sig c.2.kind sp s e} {S I J : Finset s.Idx}
  {q : PosShare TreeShare} {P P' : s.Idx → Val e → Prop}

theorem KV_mono (h : ∀ i ∈ S, ∀ x, P i x → P' i x) : (KV c v S q P : sProp 𝕄) ⊢ KV c v S q P' := by
  unfold KV
  iintro ⟨%f, %hf, H⟩
  iexists f
  isplitr
  · ipureintro; exact fun i hi => h i hi _ (hf i hi)
  · iexact H

theorem KV_congr_set (h : I = J) : (KV c v I q P : sProp 𝕄) ⊢ KV c v J q P := by subst h; exact .rfl

theorem KV_union (h : Disjoint I J) : (KV c v (I ∪ J) q P : sProp 𝕄) ⊢ KV c v I q P ∗ KV c v J q P := by
  classical
  unfold KV
  have hd : Disjoint (v.setOn I) (v.setOn J) := by
    rw [View.setOn, View.setOn]; exact (Finset.disjoint_map _).mpr h
  iintro ⟨%f, %hf, H⟩
  have e : v.setOn (I ∪ J) = v.setOn I ∪ v.setOn J := by
    rw [View.setOn, View.setOn, View.setOn]; exact Finset.map_union _ _
  rw [e]
  ihave H := (pointsTo_union hd).1 $$ H
  icases H with ⟨H1, H2⟩
  isplitl [H1]
  · iexists f; isplitr
    · ipureintro; exact fun i hi => hf i (Finset.mem_union_left _ hi)
    · iexact H1
  · iexists f; isplitr
    · ipureintro; exact fun i hi => hf i (Finset.mem_union_right _ hi)
    · iexact H2

theorem KV_join (h : Disjoint I J) : (iprop(KV c v I q P ∗ KV c v J q P) : sProp 𝕄) ⊢ KV c v (I ∪ J) q P := by
  classical
  unfold KV
  have hd : Disjoint (v.setOn I) (v.setOn J) := by
    rw [View.setOn, View.setOn]; exact (Finset.disjoint_map _).mpr h
  have e : v.setOn (I ∪ J) = v.setOn I ∪ v.setOn J := by
    rw [View.setOn, View.setOn, View.setOn]; exact Finset.map_union _ _
  iintro ⟨⟨%f, %hf, H1⟩, ⟨%g, %hg, H2⟩⟩
  iexists ((v.setOn J).piecewise g f)
  isplitr
  · ipureintro
    intro i hi
    by_cases hj : i ∈ J
    · have hm : v.emb i ∈ v.setOn J := Finset.mem_map_of_mem _ hj
      rw [v.read_congr_at (g := g) i (Finset.piecewise_eq_of_mem _ _ _ hm)]
      exact hg i hj
    · have hm : v.emb i ∉ v.setOn J := fun hm => hj ((Finset.mem_map' v.emb).mp hm)
      rw [v.read_congr_at (g := f) i (Finset.piecewise_eq_of_notMem _ _ _ hm)]
      exact hf i ((Finset.mem_union.mp hi).resolve_right hj)
  · rw [e]
    iapply (pointsTo_join hd)
    isplitl [H1] <;> iassumption

/-- A part taken out, and the rest. -/
theorem KV_take (h : I ⊆ S) : (KV c v S q P : sProp 𝕄) ⊢ KV c v I q P ∗ KV c v (S \ I) q P := by
  classical
  refine (KV_congr_set c (Finset.union_sdiff_of_subset h).symm).trans (KV_union c Finset.disjoint_sdiff)

theorem KV_slice (r : Rect s) (P' : r.shape.Idx → Val e → Prop) (h : ∀ j x, P' j x ↔ P (r.emb j) x) :
    (KV c (v.slice r) Finset.univ q P' : sProp 𝕄) = KV c v r.set q P := by
  have e1 : (v.slice r).setOn Finset.univ = v.setOn r.set := View.set_slice v r
  unfold KV
  have e2 : ∀ f, (∀ i ∈ (Finset.univ : Finset r.shape.Idx), P' i ((v.slice r).read Val f i)) ↔ (∀ i ∈ r.set, P i (v.read Val f i)) := by
    intro f
    constructor
    · intro hf i hi
      rw [← Rect.map_emb_univ] at hi
      obtain ⟨j, -, rfl⟩ := Finset.mem_map.mp hi
      exact (h j _).mp (hf j (Finset.mem_univ j))
    · intro hf j _
      exact (h j _).mpr (hf _ (by rw [← Rect.map_emb_univ]; exact Finset.mem_map_of_mem _ (Finset.mem_univ j)))
  simp only [e2]
  exact congrArg (fun X => iprop(∃ f, ⌜∀ i ∈ r.set, P i (v.read Val f i)⌝ ∗ (v.loc c ↦[X]{q} f))) e1

theorem KV_reshape (s' : Shape) (hn : s'.numel = s.numel) (P' : s'.Idx → Val e → Prop)
    (h : ∀ j x, P' j x ↔ P (Shape.reshapeEquiv hn j) x) :
    (KV c (v.reshape s' hn) Finset.univ q P' : sProp 𝕄) = KV c v Finset.univ q P := by
  have e1 : (v.reshape s' hn).setOn Finset.univ = v.setOn Finset.univ := View.set_reshape v hn
  unfold KV
  have e2 : ∀ f, (∀ i ∈ (Finset.univ : Finset s'.Idx), P' i ((v.reshape s' hn).read Val f i)) ↔ (∀ i ∈ (Finset.univ : Finset s.Idx), P i (v.read Val f i)) := by
    intro f
    constructor
    · intro hf i _
      have := (h ((Shape.reshapeEquiv hn).symm i) _).mp (hf _ (Finset.mem_univ _))
      rw [Equiv.apply_symm_apply] at this
      convert this using 1
      show v.read Val f i = v.read Val f (Shape.reshapeEquiv hn ((Shape.reshapeEquiv hn).symm i))
      rw [Equiv.apply_symm_apply]
    · intro hf j _
      exact (h j _).mpr (hf _ (Finset.mem_univ _))
  simp only [e2]
  exact congrArg (fun X => iprop(∃ f, ⌜∀ i ∈ (Finset.univ : Finset s.Idx), P i (v.read Val f i)⌝ ∗ (v.loc c ↦[X]{q} f))) e1

end Facts

section Rules
variable {defs : Defs nD τ sig Val Λ} (𝒱 : Variants) (c : Thread nD τ) (bd : Option 𝒱.V) (E : Set Name)
variable {sp sp' : Space} {s : Shape} {e : EltTy}

/-- A program that returns. -/
theorem pureStep {α : Type} {a : α} (b : α) (h : a = b) {Q : α → sProp 𝕄} :
    (Q b : sProp 𝕄) ⊢ wp frame (wpE defs 𝒱 c bd) E (pure a : Prog (TpuEff nD τ sig Val Λ c.2) α) Q := by
  subst h
  rw [show (pure a : Prog (TpuEff nD τ sig Val Λ c.2) α) = Prog.ret a from rfl, wp_ret]
  iintro H
  imodintro
  iexact H

theorem load {cs : CoreSpace} {m : Memref sig c.2.kind cs s e} {r : Rect s} {hl : m.view.LoadsAt r.toLoadRect}
    {S : Finset s.Idx} {q : PosShare TreeShare} {P : s.Idx → Val e → Prop} {Q : (r.shape.Idx → Val e) → sProp 𝕄} (hS : r.set ⊆ S) :
    (KV c m.view S q P : sProp 𝕄)
      ⊢ iprop((∀ v, ⌜∀ j, P (r.emb j) (v j)⌝ -∗ KV c m.view S q P -∗ Q v)
        -∗ wp frame (wpE defs 𝒱 c bd) E (Prog.lift (.load m r.toLoadRect hl)) Q) := by
  unfold KV
  iintro ⟨%f, %hf, H⟩ HK
  have h1 : (m.access r).set ⊆ m.view.setOn S := by
    show (m.view.slice r).set ⊆ _
    rw [View.set_slice]; exact Finset.map_subset_map.mpr hS
  iapply (wp_load_rect 𝒱 c bd E (r := r) (k := Prog.ret) h1) $$ H
  iintro H
  rw [wp_ret]
  imodintro
  iapply HK
  · ipureintro
    exact fun j => hf _ (hS (by rw [← Rect.map_emb_univ]; exact Finset.mem_map_of_mem _ (Finset.mem_univ j)))
  · iexists f; isplitr
    · ipureintro; exact hf
    · iexact H

/-- A load where every cell's value is known. -/
theorem loadIs {cs : CoreSpace} {m : Memref sig c.2.kind cs s e} {r : Rect s} {hl : m.view.LoadsAt r.toLoadRect}
    {S : Finset s.Idx} {q : PosShare TreeShare} {T : s.Idx → Val e} {Q : (r.shape.Idx → Val e) → sProp 𝕄} (hS : r.set ⊆ S) :
    (KV c m.view S q (is T) : sProp 𝕄)
      ⊢ iprop((KV c m.view S q (is T) -∗ Q (fun j => T (r.emb j)))
        -∗ wp frame (wpE defs 𝒱 c bd) E (Prog.lift (.load m r.toLoadRect hl)) Q) := by
  iintro H HK
  iapply (load 𝒱 c bd E hS) $$ H
  iintro %v %hv H
  obtain rfl : v = fun j => T (r.emb j) := funext hv
  iapply HK $$ H

theorem smemLd {m : Memref sig c.2.kind .smem s e} {r : Rect s} {h1 : r.shape.numel = 1} {hp : _}
    {S : Finset s.Idx} {q : PosShare TreeShare} {P : s.Idx → Val e → Prop} {Q : Val e → sProp 𝕄} (hS : r.set ⊆ S) :
    (KV c m.view S q P : sProp 𝕄)
      ⊢ iprop((∀ v, ⌜P (r.emb (Shape.Idx.first (h1.symm ▸ Nat.one_pos))) v⌝ -∗ KV c m.view S q P -∗ Q v)
        -∗ wp frame (wpE defs 𝒱 c bd) E (smemLoad m r h1 hp) Q) := by
  unfold KV
  iintro ⟨%f, %hf, H⟩ HK
  have h1' : (m.access r).set ⊆ m.view.setOn S := by
    show (m.view.slice r).set ⊆ _
    rw [View.set_slice]; exact Finset.map_subset_map.mpr hS
  iapply (wp_smemLoadElt 𝒱 c bd E (r := r) (k := Prog.ret) h1') $$ H
  iintro H
  rw [wp_ret]
  imodintro
  iapply HK
  · ipureintro
    exact hf _ (hS (by rw [← Rect.map_emb_univ]; exact Finset.mem_map_of_mem _ (Finset.mem_univ _)))
  · iexists f; isplitr
    · ipureintro; exact hf
    · iexact H

theorem smemLdIs {m : Memref sig c.2.kind .smem s e} {r : Rect s} {h1 : r.shape.numel = 1} {hp : _}
    {S : Finset s.Idx} {q : PosShare TreeShare} {T : s.Idx → Val e} {Q : Val e → sProp 𝕄} (hS : r.set ⊆ S) :
    (KV c m.view S q (is T) : sProp 𝕄)
      ⊢ iprop((KV c m.view S q (is T) -∗ Q (T (r.emb (Shape.Idx.first (h1.symm ▸ Nat.one_pos)))))
        -∗ wp frame (wpE defs 𝒱 c bd) E (smemLoad m r h1 hp) Q) := by
  iintro H HK
  iapply (smemLd 𝒱 c bd E hS) $$ H
  iintro %v %hv H
  obtain rfl := hv
  iapply HK $$ H

theorem store {cs : CoreSpace} {m : Memref sig c.2.kind cs s e} {r : Rect s} {w : r.shape.Idx → Val e} {hx : (m.access r).Stores Finset.univ}
    {hm : (Finset.univ : Finset r.shape.Idx) = Finset.univ ∨ ∀ a, r.stride a = 1}
    {S : Finset s.Idx} {P : s.Idx → Val e → Prop} {Q : PUnit → sProp 𝕄} (P' : s.Idx → Val e → Prop) (hS : r.set ⊆ S)
    (hw : ∀ j, P' (r.emb j) (w j)) (ho : ∀ i ∈ S, i ∉ r.set → ∀ x, P i x → P' i x) :
    (KV c m.view S fullShare P : sProp 𝕄)
      ⊢ iprop((KV c m.view S fullShare P' -∗ Q ⟨⟩)
        -∗ wp frame (wpE defs 𝒱 c bd) E (Prog.lift (.store m r w Finset.univ hx hm)) Q) := by
  unfold KV
  iintro ⟨%f, %hf, H⟩ HK
  have h1 : (m.access r).setOn Finset.univ ⊆ m.view.setOn S := by
    show (m.view.slice r).set ⊆ _
    rw [View.set_slice]; exact Finset.map_subset_map.mpr hS
  iapply (wp_store 𝒱 c bd E (r := r) (k := Prog.ret) h1) $$ H
  iintro H
  rw [wp_ret]
  imodintro
  iapply HK
  iexists ((m.access r).write Val f w Finset.univ)
  isplitr
  · ipureintro
    intro i hi
    by_cases hr : i ∈ r.set
    · rw [← Rect.map_emb_univ] at hr
      obtain ⟨j, -, rfl⟩ := Finset.mem_map.mp hr
      have := m.view.read_slice_write_emb r f w (Finset.mem_univ j)
      exact this ▸ hw j
    · have := m.view.read_slice_write_of_not_mem r f w Finset.univ (y := i) (by rw [Rect.map_emb_univ]; exact hr)
      exact this ▸ ho i hi hr _ (hf i hi)
  · iexact H

variable (EC : UEmb Counters (MT nD τ sig Ix Val Name U Lvl))

/-- A local copy of all of one view into all of another. -/
theorem dma [Infinite Name] [EC.LandsIn (upEmb : UEmb _ 𝕄)] {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {P P' : s.Idx → Val e → Prop} {Q : PUnit → sProp 𝕄} (ι : Ix) (N : ℕ) (hN : dst.view.amount sm = N) (hN0 : 0 < N) :
    (iprop(KV c src.view Finset.univ q P ∗ KV c dst.view Finset.univ fullShare P' ∗ semVal (c, sm) 0) : sProp 𝕄)
      ⊢ iprop((Flight EC c sm ι N iprop(KV c dst.view Finset.univ fullShare P ∗ KV c src.view Finset.univ q P) -∗ Q ⟨⟩)
        -∗ wp frame (wpE defs 𝒱 c bd) Set.univ (Prog.lift (.enqueueDma src (.here dst) sm hsrc hdst hsem)) Q) := by
  unfold KV
  iintro ⟨⟨%f, %hf, Hs⟩, ⟨%g, %hg, Hd⟩, Hv⟩ HK
  have h1 : dst.view.set ⊆ dst.view.setOn Finset.univ := subset_rfl
  iapply (wp_dmaLocal EC 𝒱 c bd ι N hN hN0 h1 (k := Prog.ret) (src := src) (via := ReadAs.same)) $$ [Hs Hd Hv]
  · isplitl [Hs]; · iexact Hs
    isplitl [Hd] <;> iassumption
  iintro HF
  rw [wp_ret]
  imodintro
  iapply HK
  iapply (Flight_mono EC c ?_) $$ HF
  iintro ⟨Hd, Hs⟩
  isplitl [Hd]
  · iexists _
    isplitr
    · ipureintro
      intro i hi
      rw [View.read_write_univ]
      exact hf i hi
    · iexact Hd
  · iexists f; isplitr
    · ipureintro; exact hf
    · iexact Hs

theorem wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {Q : PUnit → sProp 𝕄} (ι : Ix) {N : ℕ} (hN : dstw.view.dmaCredit = N) {D : sProp 𝕄} :
    (iprop(Flight EC c (.dma sem) ι N D ∗ (∃ W, owes c 0 W)) : sProp 𝕄)
      ⊢ iprop((iprop(D ∗ semVal (c, .dma sem) 0 ∗ (∃ W, owes c 0 W)) -∗ Q ⟨⟩)
          -∗ wp frame (wpE defs 𝒱 c bd) Set.univ (Prog.lift (.waitDma2 sem srcw dstw hsrc hdst)) Q) := by
  iintro ⟨HF, ⟨%W, HO⟩⟩ HK
  iapply (wp_waitLocal EC 𝒱 c bd ι hN (k := Prog.ret) (W := W)) $$ [HF HO]
  · isplitl [HF] <;> iassumption
  iintro ⟨HD, Hv, HO⟩
  rw [wp_ret]
  imodintro
  iapply HK
  isplitl [HD]; · iexact HD
  isplitl [Hv]; · iexact Hv
  iexists _; iexact HO

/-- A copy from a squeezed part of one memref to a part of another. -/
theorem dmaOut [Infinite Name] [EC.LandsIn (upEmb : UEmb _ 𝕄)] {s₀ s₁ : Shape} {e : EltTy} {ms : Memref sig c.2.kind sp s₀ e} {md : Memref sig c.2.kind sp' s₁ e}
    {rs : Rect s₀} {rd : Rect s₁} {hu : ∀ a, rs.stride a = 1} {hu' : ∀ a, rd.stride a = 1} {hq : rs.shape.Squeezes rd.shape} {sm sm' : DmaSem sig}
    {hsrc : ((ms.slice rs hu).squeeze rd.shape hq).view.WordExact} {hdst : (md.slice rd hu').view.WordExact}
    {hsem : DmaTarget.Typed (nD := nD) sp (.dma sm) (.here (md.slice rd hu'))}
    {I : Finset s₀.Idx} {J : Finset s₁.Idx} {q : PosShare TreeShare} {P' : s₁.Idx → Val e → Prop} {Q : PUnit → sProp 𝕄} (ι : Ix) (N : ℕ)
    (Ts : s₀.Idx → Val e) (Td : s₁.Idx → Val e) (hI : rs.set = I) (hJ : rd.set = J)
    (hT : ∀ j : rd.shape.Idx, Ts (rs.emb (Shape.reshapeEquiv hq.numel_eq j)) = Td (rd.emb j)) (hsm : sm = sm')
    (hN : (md.slice rd hu').view.dmaCredit = N) (hN0 : 0 < N) :
    (iprop(KV c ms.view I q (is Ts) ∗ KV c md.view J fullShare P' ∗ semVal (c, .dma sm') 0) : sProp 𝕄)
      ⊢ iprop((Flight EC c (.dma sm') ι N iprop(KV c md.view J fullShare (is Td) ∗ KV c ms.view I q (is Ts)) -∗ Q ⟨⟩)
        -∗ wp frame (wpE defs 𝒱 c bd) Set.univ (Prog.lift (.enqueueDma ((ms.slice rs hu).squeeze rd.shape hq) (.here (md.slice rd hu')) (.dma sm) hsrc hdst hsem)) Q) := by
  subst hsm hI hJ
  have e1 : (KV c ((ms.slice rs hu).squeeze rd.shape hq).view Finset.univ q (fun j x => x = Td (rd.emb j)) : sProp 𝕄) = KV c ms.view rs.set q (is Ts) :=
    (KV_reshape c (v := ms.view.slice rs) rd.shape hq.numel_eq _ (P := fun j x => x = Ts (rs.emb j)) (fun j x => by rw [hT])).trans (KV_slice c rs _ (fun j x => Iff.rfl))
  have e2 : (KV c (md.slice rd hu').view Finset.univ fullShare (fun j x => x = Td (rd.emb j)) : sProp 𝕄) = KV c md.view rd.set fullShare (is Td) :=
    KV_slice c rd _ (fun j x => Iff.rfl)
  have e3 : (KV c (md.slice rd hu').view Finset.univ fullShare (fun j x => P' (rd.emb j) x) : sProp 𝕄) = KV c md.view rd.set fullShare P' :=
    KV_slice c rd _ (fun j x => Iff.rfl)
  rw [← e1, ← e2, ← e3]
  exact dma 𝒱 c bd EC ι N hN hN0

/-- A copy from a part of one memref to a squeezed part of another. -/
theorem dmaIn [Infinite Name] [EC.LandsIn (upEmb : UEmb _ 𝕄)] {s₀ s₁ : Shape} {e : EltTy} {ms : Memref sig c.2.kind sp s₀ e} {md : Memref sig c.2.kind sp' s₁ e}
    {rs : Rect s₀} {rd : Rect s₁} {hu : ∀ a, rs.stride a = 1} {hu' : ∀ a, rd.stride a = 1} {hq : rd.shape.Squeezes rs.shape} {sm sm' : DmaSem sig}
    {hsrc : (ms.slice rs hu).view.WordExact} {hdst : ((md.slice rd hu').squeeze rs.shape hq).view.WordExact}
    {hsem : DmaTarget.Typed (nD := nD) sp (.dma sm) (.here ((md.slice rd hu').squeeze rs.shape hq))}
    {I : Finset s₀.Idx} {J : Finset s₁.Idx} {q : PosShare TreeShare} {P' : s₁.Idx → Val e → Prop} {Q : PUnit → sProp 𝕄} (ι : Ix) (N : ℕ)
    (Ts : s₀.Idx → Val e) (Td : s₁.Idx → Val e) (hI : rs.set = I) (hJ : rd.set = J)
    (hT : ∀ j : rs.shape.Idx, Ts (rs.emb j) = Td (rd.emb (Shape.reshapeEquiv hq.numel_eq j))) (hsm : sm = sm')
    (hN : ((md.slice rd hu').squeeze rs.shape hq).view.dmaCredit = N) (hN0 : 0 < N) :
    (iprop(KV c ms.view I q (is Ts) ∗ KV c md.view J fullShare P' ∗ semVal (c, .dma sm') 0) : sProp 𝕄)
      ⊢ iprop((Flight EC c (.dma sm') ι N iprop(KV c md.view J fullShare (is Td) ∗ KV c ms.view I q (is Ts)) -∗ Q ⟨⟩)
        -∗ wp frame (wpE defs 𝒱 c bd) Set.univ (Prog.lift (.enqueueDma (ms.slice rs hu) (.here ((md.slice rd hu').squeeze rs.shape hq)) (.dma sm) hsrc hdst hsem)) Q) := by
  subst hsm hI hJ
  have e1 : (KV c ((md.slice rd hu').squeeze rs.shape hq).view Finset.univ fullShare (fun j x => x = Ts (rs.emb j)) : sProp 𝕄) = KV c md.view rd.set fullShare (is Td) :=
    (KV_reshape c (v := md.view.slice rd) rs.shape hq.numel_eq _ (P := fun j x => x = Td (rd.emb j)) (fun j x => by rw [hT])).trans (KV_slice c rd _ (fun j x => Iff.rfl))
  have e2 : (KV c (ms.slice rs hu).view Finset.univ q (fun j x => x = Ts (rs.emb j)) : sProp 𝕄) = KV c ms.view rs.set q (is Ts) :=
    KV_slice c rs _ (fun j x => Iff.rfl)
  have e3 : (KV c ((md.slice rd hu').squeeze rs.shape hq).view Finset.univ fullShare (fun j x => P' (rd.emb (Shape.reshapeEquiv hq.numel_eq j)) x) : sProp 𝕄) = KV c md.view rd.set fullShare P' :=
    (KV_reshape c (v := md.view.slice rd) rs.shape hq.numel_eq _ (P := fun j x => P' (rd.emb j) x) (fun j x => Iff.rfl)).trans (KV_slice c rd _ (fun j x => Iff.rfl))
  rw [← e1, ← e2, ← e3]
  exact dma 𝒱 c bd EC ι N hN hN0

/-- A copy from a squeezed part of one memref to a squeezed part of another. -/
theorem dmaBoth [Infinite Name] [EC.LandsIn (upEmb : UEmb _ 𝕄)] {s₀ s₁ s' : Shape} {e : EltTy} {ms : Memref sig c.2.kind sp s₀ e} {md : Memref sig c.2.kind sp' s₁ e}
    {rs : Rect s₀} {rd : Rect s₁} {hu : ∀ a, rs.stride a = 1} {hu' : ∀ a, rd.stride a = 1} {hq : rs.shape.Squeezes s'} {hq' : rd.shape.Squeezes s'} {sm sm' : DmaSem sig}
    {hsrc : ((ms.slice rs hu).squeeze s' hq).view.WordExact} {hdst : ((md.slice rd hu').squeeze s' hq').view.WordExact}
    {hsem : DmaTarget.Typed (nD := nD) sp (.dma sm) (.here ((md.slice rd hu').squeeze s' hq'))}
    {I : Finset s₀.Idx} {J : Finset s₁.Idx} {q : PosShare TreeShare} {P' : s₁.Idx → Val e → Prop} {Q : PUnit → sProp 𝕄} (ι : Ix) (N : ℕ)
    (Ts : s₀.Idx → Val e) (Td : s₁.Idx → Val e) (hI : rs.set = I) (hJ : rd.set = J)
    (hT : ∀ j : s'.Idx, Ts (rs.emb (Shape.reshapeEquiv hq.numel_eq j)) = Td (rd.emb (Shape.reshapeEquiv hq'.numel_eq j))) (hsm : sm = sm')
    (hN : ((md.slice rd hu').squeeze s' hq').view.dmaCredit = N) (hN0 : 0 < N) :
    (iprop(KV c ms.view I q (is Ts) ∗ KV c md.view J fullShare P' ∗ semVal (c, .dma sm') 0) : sProp 𝕄)
      ⊢ iprop((Flight EC c (.dma sm') ι N iprop(KV c md.view J fullShare (is Td) ∗ KV c ms.view I q (is Ts)) -∗ Q ⟨⟩)
        -∗ wp frame (wpE defs 𝒱 c bd) Set.univ (Prog.lift (.enqueueDma ((ms.slice rs hu).squeeze s' hq) (.here ((md.slice rd hu').squeeze s' hq')) (.dma sm) hsrc hdst hsem)) Q) := by
  subst hsm hI hJ
  have e1 : (KV c ((ms.slice rs hu).squeeze s' hq).view Finset.univ q (fun j x => x = Td (rd.emb (Shape.reshapeEquiv hq'.numel_eq j))) : sProp 𝕄) = KV c ms.view rs.set q (is Ts) :=
    (KV_reshape c (v := ms.view.slice rs) s' hq.numel_eq _ (P := fun j x => x = Ts (rs.emb j)) (fun j x => by rw [hT])).trans (KV_slice c rs _ (fun j x => Iff.rfl))
  have e2 : (KV c ((md.slice rd hu').squeeze s' hq').view Finset.univ fullShare (fun j x => x = Td (rd.emb (Shape.reshapeEquiv hq'.numel_eq j))) : sProp 𝕄) = KV c md.view rd.set fullShare (is Td) :=
    (KV_reshape c (v := md.view.slice rd) s' hq'.numel_eq _ (P := fun j x => x = Td (rd.emb j)) (fun j x => Iff.rfl)).trans (KV_slice c rd _ (fun j x => Iff.rfl))
  have e3 : (KV c ((md.slice rd hu').squeeze s' hq').view Finset.univ fullShare (fun j x => P' (rd.emb (Shape.reshapeEquiv hq'.numel_eq j)) x) : sProp 𝕄) = KV c md.view rd.set fullShare P' :=
    (KV_reshape c (v := md.view.slice rd) s' hq'.numel_eq _ (P := fun j x => P' (rd.emb j) x) (fun j x => Iff.rfl)).trans (KV_slice c rd _ (fun j x => Iff.rfl))
  rw [← e1, ← e2, ← e3]
  exact dma 𝒱 c bd EC ι N hN hN0

/-- A wait at a semaphore named another way. -/
theorem waitAt [EC.LandsIn (upEmb : UEmb _ 𝕄)] {s' : Shape} {e' : EltTy} {κ' : Kind} {sem sem' : DmaSem sig}
    {srcw : Memref sig c.2.kind sp' s' e'} {dstw : Memref sig κ' sp s e} {hsrc : srcw.view.WordExact} {hdst : dstw.view.WordExact}
    {Q : PUnit → sProp 𝕄} (ι : Ix) {N : ℕ} (hsm : sem = sem') (hN : dstw.view.dmaCredit = N) {D : sProp 𝕄} :
    (iprop(Flight EC c (.dma sem') ι N D ∗ (∃ W, owes c 0 W)) : sProp 𝕄)
      ⊢ iprop((iprop(D ∗ semVal (c, .dma sem') 0 ∗ (∃ W, owes c 0 W)) -∗ Q ⟨⟩)
          -∗ wp frame (wpE defs 𝒱 c bd) Set.univ (Prog.lift (.waitDma2 sem srcw dstw hsrc hdst)) Q) := by
  subst hsm
  exact wait 𝒱 c bd EC ι hN

end Rules

end Cert.Cells
-- ==== Proof.Bits.Trip.lean ====
/-
  One trip of the third loop, between its waits and its sends: what it finds and what it leaves.
-/
module

public import proofs.«01_k».proof.Proof.Bits.Rolled
public import proofs.«01_k».proof.Proof.Cells
public import Idealize.ShloMosaic.Lib.ValueLayout

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.Kernel Cert.Kernel.Gen Cert.Cells

variable {F : FTy → Type} [FloatOps F]

/-! ## Where the rectangles lie -/

theorem unit_val {s : Shape} (off size : Fin s.rank → Nat) (h : ∀ a, off a + size a ≤ s.size a)
    (j : (Rect.unit off size h).shape.Idx) (a : Fin s.rank) :
    (((Rect.unit off size h).emb j a : Fin _) : Nat) = off a + (j a : Nat) := by
  rw [Rect.emb_apply]; show off a + 1 * _ = _; rw [Nat.one_mul]

theorem mem_rT {t : T3} {k : Fin 18} {n b : Fin 2} {i : S3x2x2304x256.Idx} : i ∈ (rT t k n b).set ↔
    ((i 0).val = t.val % 3 ∧ (i 1).val = b.val ∧ (i 2).val / 128 = k.val ∧ (i 3).val / 128 = n.val) := by
  rw [rT, Rect.mem_set_unit, ← sI_eq]
  constructor
  · intro h
    have h0 : sI t ≤ (i 0).val ∧ (i 0).val < sI t + 1 := h 0
    have h1 : b.val ≤ (i 1).val ∧ (i 1).val < b.val + 1 := h 1
    have h2 : 128 * k.val ≤ (i 2).val ∧ (i 2).val < 128 * k.val + 128 := h 2
    have h3 : 128 * n.val ≤ (i 3).val ∧ (i 3).val < 128 * n.val + 128 := h 3
    omega
  · rintro ⟨h0, h1, h2, h3⟩ a
    match a with
    | 0 => show sI t ≤ (i 0).val ∧ (i 0).val < sI t + 1; omega
    | 1 => show b.val ≤ (i 1).val ∧ (i 1).val < b.val + 1; omega
    | 2 => show 128 * k.val ≤ (i 2).val ∧ (i 2).val < 128 * k.val + 128; omega
    | 3 => show 128 * n.val ≤ (i 3).val ∧ (i 3).val < 128 * n.val + 128; omega

theorem mem_rY {t : T3} {n b : Fin 2} {i : S3x2x128x256.Idx} : i ∈ (rY t n b).set ↔
    ((i 0).val = t.val % 3 ∧ (i 1).val = b.val ∧ (i 3).val / 128 = n.val) := by
  rw [rY, Rect.mem_set_unit, ← sI_eq]
  constructor
  · intro h
    have h0 : sI t ≤ (i 0).val ∧ (i 0).val < sI t + 1 := h 0
    have h1 : b.val ≤ (i 1).val ∧ (i 1).val < b.val + 1 := h 1
    have h3 : 128 * n.val ≤ (i 3).val ∧ (i 3).val < 128 * n.val + 128 := h 3
    omega
  · rintro ⟨h0, h1, h3⟩ a
    match a with
    | 0 => show sI t ≤ (i 0).val ∧ (i 0).val < sI t + 1; omega
    | 1 => show b.val ≤ (i 1).val ∧ (i 1).val < b.val + 1; omega
    | 2 => show 0 ≤ (i 2).val ∧ (i 2).val < 0 + 128; have : (i 2).val < 128 := (i 2).isLt; omega
    | 3 => show 128 * n.val ≤ (i 3).val ∧ (i 3).val < 128 * n.val + 128; omega

theorem mem_rC {t : T3} {k : Fin 18} {n b : Fin 2} {i : S2x18x72.Idx} : i ∈ (rC t k n b).set ↔
    ((i 0).val = b.val ∧ (i 1).val = k.val ∧ (i 2).val = 2 * t.val + n.val) := by
  rw [rC, Rect.mem_set_unit, ← cI_eq]
  constructor
  · intro h
    have h0 : b.val ≤ (i 0).val ∧ (i 0).val < b.val + 1 := h 0
    have h1 : k.val ≤ (i 1).val ∧ (i 1).val < k.val + 1 := h 1
    have h2 : cI t n ≤ (i 2).val ∧ (i 2).val < cI t n + 1 := h 2
    omega
  · rintro ⟨h0, h1, h2⟩ a
    match a with
    | 0 => show b.val ≤ (i 0).val ∧ (i 0).val < b.val + 1; omega
    | 1 => show k.val ≤ (i 1).val ∧ (i 1).val < k.val + 1; omega
    | 2 => show cI t n ≤ (i 2).val ∧ (i 2).val < cI t n + 1; omega

/-! ## The values -/

section Values
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

def sV (t : T3) (k : Fin 18) (n : Fin 2) : Elt F .i32 := S4 ((rS t k n).emb (Shape.Idx.first (numel1_S1x1.symm ▸ Nat.one_pos)))
def eV (t : T3) (k : Fin 18) (n b : Fin 2) : Elt F .i32 := E15 ((rE t k n b).emb (Shape.Idx.first (numel1_S1x1x1.symm ▸ Nat.one_pos)))
def gV (k : Fin 18) (b : Fin 2) : Vec F S1x128x128 .f32 := fun j => G12 ((rG k b).emb j)
def wV (t : T3) (k : Fin 18) (n : Fin 2) : Vec F S1x128x128 .fp8e4m3 := fun j => W10 ((rW t k n).emb j)
def hV (k : Fin 18) : Vec F S8x128 .f32 := fun j => H13 ((rH k).emb j)
def wkV (t : T3) (kp : Fin 9) : Vec F S1x256x256 .fp8e4m3 := fun j => W10 ((rWk t kp).emb j)
def xV (kp : Fin 9) (b : Fin 2) : Vec F S1x128x256 .bf16 := fun j => X11 ((rX kp b).emb j)
def bV (t : T3) (n : Fin 2) : Vec F S1x128 .f32 := fun j => B5 ((rB t n).emb j)

/-- The codes of one tile of one batch entry, its scale word, its tile of the product. -/
def codesV (t : T3) (k : Fin 18) (n b : Fin 2) : FVec F S128x128 .fp8e4m3 :=
  codesT (k0_pay5 (wV W10 t k n)) (eV E15 t k n b) (gV G12 k b)
def scaleV (t : T3) (k : Fin 18) (n b : Fin 2) : Elt F .i32 := scW (sV S4 t k n) (eV E15 t k n b)
def tileV (t : T3) (k : Fin 18) (n b : Fin 2) : FVec F S128x128 .bf16 :=
  tileT (k0_pay5 (wV W10 t k n)) (sV S4 t k n) (eV E15 t k n b) (gV G12 k b)
def lhsV (t : T3) (k : Fin 18) (n : Fin 2) : FVec F S8x128 .f32 := k0_pay4 (sV S4 t k n) (hV H13 k)

/-- The accumulators after one more pair of row blocks. -/
def accStep (t : T3) (kp : Fin 9) (a : Acc F) : Acc F :=
  let k0 : Fin 18 := ⟨2 * kp.val, by omega⟩
  let k1 : Fin 18 := ⟨2 * kp.val + 1, by omega⟩
  (k0_pay43 a.1 (tileV S4 W10 G12 E15 t k0 0 0) (tileV S4 W10 G12 E15 t k0 1 0) (tileV S4 W10 G12 E15 t k1 0 0) (tileV S4 W10 G12 E15 t k1 1 0) (xV X11 kp 0),
   k0_pay43 a.2.1 (tileV S4 W10 G12 E15 t k0 0 1) (tileV S4 W10 G12 E15 t k0 1 1) (tileV S4 W10 G12 E15 t k1 0 1) (tileV S4 W10 G12 E15 t k1 1 1) (xV X11 kp 1),
   k0_pay42 a.2.2 (lhsV S4 H13 t k0 0) (lhsV S4 H13 t k0 1) (lhsV S4 H13 t k1 0) (lhsV S4 H13 t k1 1) (wkV W10 t kp))

/-- The accumulators after all the rows. -/
def accV (t : T3) : Acc F :=
  let st := accStep S4 W10 X11 G12 H13 E15 t
  st 8 (st 7 (st 6 (st 5 (st 4 (st 3 (st 2 (st 1 (st 0 (k0_pay1, k0_pay2, k0_pay3)))))))))

/-- One quarter of the trip's rows of the product. -/
def yV (t : T3) (n b : Fin 2) : FVec F S1x1x128x128 .bf16 :=
  let a := accV S4 W10 X11 G12 H13 E15 t
  if b = 0 then (if n = 0 then k0_pay382 a.2.2 a.1 (bV B5 t 0) else k0_pay383 a.2.2 a.1 (bV B5 t 1))
  else (if n = 0 then k0_pay385 a.2.1 (k0_pay384 a.2.2) (bV B5 t 0) else k0_pay386 a.2.2 a.2.1 (bV B5 t 1))

def T16 (t : T3) (i : S3x2x2304x256.Idx) : Elt F .fp8e4m3 :=
  shapeCast S1x1x128x128 (codesV W10 G12 E15 t ⟨(i 2).val / 128, by have : (i 2).val < 2304 := (i 2).isLt; omega⟩
    ⟨(i 3).val / 128, by have : (i 3).val < 256 := (i 3).isLt; omega⟩ (i 1)) shapeCasts_S128x128_S1x1x128x128
    (ix4 (0 : Fin 1) (0 : Fin 1) (⟨(i 2).val % 128, Nat.mod_lt _ (by decide)⟩ : Fin 128) (⟨(i 3).val % 128, Nat.mod_lt _ (by decide)⟩ : Fin 128))

def T17 (t : T3) (i : S3x2x128x256.Idx) : Elt F .bf16 :=
  yV S4 B5 W10 X11 G12 H13 E15 t ⟨(i 3).val / 128, by have : (i 3).val < 256 := (i 3).isLt; omega⟩ (i 1)
    (ix4 (0 : Fin 1) (0 : Fin 1) (i 2) (⟨(i 3).val % 128, Nat.mod_lt _ (by decide)⟩ : Fin 128))

def T9 (i : S2x18x72.Idx) : Elt F .i32 :=
  scaleV S4 E15 ⟨(i 2).val / 2, by rw [trips36]; have : (i 2).val < 72 := (i 2).isLt; omega⟩ (i 1) ⟨(i 2).val % 2, Nat.mod_lt _ (by decide)⟩ (i 0)

theorem T16_emb (t : T3) (k : Fin 18) (n b : Fin 2) (j : S1x1x128x128.Idx) :
    T16 W10 G12 E15 t ((rT t k n b).emb j) = shapeCast S1x1x128x128 (codesV W10 G12 E15 t k n b) shapeCasts_S128x128_S1x1x128x128 j := by
  have e1 : (((rT t k n b).emb j 1 : Fin _) : Nat) = b.val + (j 1).val := unit_val (s := S3x2x2304x256) (oT t k n b) S1x1x128x128.size (oT_inb t k n b) j 1
  have e2 : (((rT t k n b).emb j 2 : Fin _) : Nat) = 128 * k.val + (j 2).val := unit_val (s := S3x2x2304x256) (oT t k n b) S1x1x128x128.size (oT_inb t k n b) j 2
  have e3 : (((rT t k n b).emb j 3 : Fin _) : Nat) = 128 * n.val + (j 3).val := unit_val (s := S3x2x2304x256) (oT t k n b) S1x1x128x128.size (oT_inb t k n b) j 3
  have l0 : (j 0).val < 1 := (j 0).isLt
  have l1 : (j 1).val < 1 := (j 1).isLt
  have l2 : (j 2).val < 128 := (j 2).isLt
  have l3 : (j 3).val < 128 := (j 3).isLt
  have h1 : ((rT t k n b).emb j 1 : Fin 2) = b := Fin.ext (by rw [e1]; omega)
  unfold T16
  congr 2
  · exact Fin.ext (by show _ / 128 = _; rw [e2]; omega)
  · exact Fin.ext (by show _ / 128 = _; rw [e3]; omega)
  · funext a
    match a with
    | 0 => exact Fin.ext (by show 0 = (j 0).val; omega)
    | 1 => exact Fin.ext (by show 0 = (j 1).val; omega)
    | 2 => exact Fin.ext (by show _ % 128 = (j 2).val; rw [e2]; omega)
    | 3 => exact Fin.ext (by show _ % 128 = (j 3).val; rw [e3]; omega)

theorem T17_emb (t : T3) (n b : Fin 2) (j : S1x1x128x128.Idx) :
    T17 S4 B5 W10 X11 G12 H13 E15 t ((rY t n b).emb j) = yV S4 B5 W10 X11 G12 H13 E15 t n b j := by
  have e1 : (((rY t n b).emb j 1 : Fin _) : Nat) = b.val + (j 1).val := unit_val (s := S3x2x128x256) (oY t n b) S1x1x128x128.size (oY_inb t n b) j 1
  have e2 : (((rY t n b).emb j 2 : Fin _) : Nat) = 0 + (j 2).val := unit_val (s := S3x2x128x256) (oY t n b) S1x1x128x128.size (oY_inb t n b) j 2
  have e3 : (((rY t n b).emb j 3 : Fin _) : Nat) = 128 * n.val + (j 3).val := unit_val (s := S3x2x128x256) (oY t n b) S1x1x128x128.size (oY_inb t n b) j 3
  have l0 : (j 0).val < 1 := (j 0).isLt
  have l1 : (j 1).val < 1 := (j 1).isLt
  have l2 : (j 2).val < 128 := (j 2).isLt
  have l3 : (j 3).val < 128 := (j 3).isLt
  have h1 : ((rY t n b).emb j 1 : Fin 2) = b := Fin.ext (by rw [e1]; omega)
  unfold T17
  congr 1
  · exact Fin.ext (by show _ / 128 = _; rw [e3]; omega)
  · funext a
    match a with
    | 0 => exact Fin.ext (by show 0 = (j 0).val; omega)
    | 1 => exact Fin.ext (by show 0 = (j 1).val; omega)
    | 2 => exact Fin.ext (by show (((rY t n b).emb j 2 : Fin _) : Nat) = (j 2).val; rw [e2]; omega)
    | 3 => exact Fin.ext (by show _ % 128 = (j 3).val; rw [e3]; omega)

theorem T9_emb (t : T3) (k : Fin 18) (n b : Fin 2) (j : S1x1x1.Idx) :
    T9 S4 E15 ((rC t k n b).emb j) = scaleV S4 E15 t k n b := by
  have e0 : (((rC t k n b).emb j 0 : Fin _) : Nat) = b.val + (j 0).val := unit_val (s := S2x18x72) (oC t k n b) S1x1x1.size (oC_inb t k n b) j 0
  have e1 : (((rC t k n b).emb j 1 : Fin _) : Nat) = k.val + (j 1).val := unit_val (s := S2x18x72) (oC t k n b) S1x1x1.size (oC_inb t k n b) j 1
  have e2 : (((rC t k n b).emb j 2 : Fin _) : Nat) = cI t n + (j 2).val := unit_val (s := S2x18x72) (oC t k n b) S1x1x1.size (oC_inb t k n b) j 2
  have l0 : (j 0).val < 1 := (j 0).isLt
  have l1 : (j 1).val < 1 := (j 1).isLt
  have l2 : (j 2).val < 1 := (j 2).isLt
  rw [cI_eq] at e2
  have h0 : ((rC t k n b).emb j 0 : Fin 2) = b := Fin.ext (by rw [e0]; omega)
  have h1 : ((rC t k n b).emb j 1 : Fin 18) = k := Fin.ext (by rw [e1]; omega)
  unfold T9
  congr 1
  · exact Fin.ext (by show _ / 2 = _; rw [e2]; omega)
  · exact Fin.ext (by show _ % 2 = _; rw [e2]; omega)

end Values

/-! ## The steps -/

section Steps
variable (c : Dev nD)
local notation "𝕄" => MT nD τ sig Unit (Elt F) ℕ (Pipeline.UD sig nD τ) ℕ

/-- The value where it is known. -/
def upTo {s : Shape} {e : EltTy} (K : s.Idx → Prop) (T : s.Idx → Elt F e) : s.Idx → Elt F e → Prop := fun i x => K i → x = T i

/-- The scale words known within trip `t`: the columns of the earlier trips, the first `l` blocks of this one's and `b` of the next. -/
def K9 (t l b : Nat) (i : S2x18x72.Idx) : Prop :=
  (i 2).val < 2 * t ∨ ((i 2).val < 2 * t + 2 ∧
    (2 * (i 1).val + ((i 2).val - 2 * t) < l ∨ (2 * (i 1).val + ((i 2).val - 2 * t) = l ∧ (i 0).val < b)))

/-- The codes known within a trip. -/
def K16 (l b : Nat) (i : S3x2x2304x256.Idx) : Prop :=
  2 * ((i 2).val / 128) + (i 3).val / 128 < l ∨ (2 * ((i 2).val / 128) + (i 3).val / 128 = l ∧ (i 1).val < b)

/-- The quarters of the product's rows known within a trip. -/
def K17 (l : Nat) (i : S3x2x128x256.Idx) : Prop := 2 * (i 1).val + (i 3).val / 128 < l

/-- The slots of a trip. -/
def slot16 (t : Nat) : Finset S3x2x2304x256.Idx := cells fun i => (i 0).val = t % 3
def slot17 (t : Nat) : Finset S3x2x128x256.Idx := cells fun i => (i 0).val = t % 3

variable (arg4 : Memref sig .tc .smem S18x72 .i32) (arg5 : Memref sig .tc .vmem S72x128 .f32)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- What a tile step changes, with what it reads. -/
def TileRes (t : T3) (l b : Nat) : sProp 𝕄 :=
  iprop(KV (c : Thread nD τ) arg9.view Finset.univ fullShare (upTo (K9 t.val l b) (T9 S4 E15))
    ∗ KV (c : Thread nD τ) arg16.view (slot16 t.val) fullShare (upTo (K16 l b) (T16 W10 G12 E15 t))
    ∗ KV (c : Thread nD τ) arg12.view Finset.univ fullShare (is G12)
    ∗ KV (c : Thread nD τ) arg15.view Finset.univ fullShare (is E15))

theorem tileStep_wp (t : T3) (k : Fin 18) (n b : Fin 2) (Q : FVec F S128x128 .bf16 → sProp 𝕄) :
    TileRes c arg9 arg12 arg15 arg16 S4 W10 G12 E15 t (2 * k.val + n.val) b.val
      ⊢ iprop((TileRes c arg9 arg12 arg15 arg16 S4 W10 G12 E15 t (2 * k.val + n.val) (b.val + 1) -∗ Q (tileV S4 W10 G12 E15 t k n b))
        -∗ WP (tileStep arg9 arg12 arg15 arg16 harg16 t k n b (sV S4 t k n) (k0_pay5 (wV W10 t k n))) Q) := by
  unfold TileRes tileStep
  iintro ⟨H9, H16, H12, H15⟩ HK
  rw [wp_bind]
  iapply (smemLdIs Variants.none (c : Thread nD τ) none Set.univ (Finset.subset_univ _)) $$ H15
  iintro H15
  rw [wp_bind]
  iapply (smemLd Variants.none (c : Thread nD τ) none Set.univ (Finset.subset_univ _)) $$ H9
  iintro %v9 - H9
  rw [wp_bind]
  iapply (store Variants.none (c : Thread nD τ) none Set.univ (upTo (K9 t.val (2 * k.val + n.val) (b.val + 1)) (T9 S4 E15)) (Finset.subset_univ _) ?_ ?_) $$ H9
  · intro j _
    exact (T9_emb S4 E15 t k n b j).symm
  · intro i _ hi x hx hK
    refine hx ?_
    rw [mem_rC] at hi
    have h0 : (i 0).val < 2 := (i 0).isLt
    have h1 : (i 1).val < 18 := (i 1).isLt
    have hn := n.isLt
    unfold K9 at hK ⊢
    omega
  iintro H9
  rw [wp_bind]
  iapply (loadIs Variants.none (c : Thread nD τ) none Set.univ (Finset.subset_univ _)) $$ H12
  iintro H12
  rw [wp_bind]
  have hsub : (rT t k n b).set ⊆ slot16 t.val := fun i hi => mem_cells.mpr (mem_rT.mp hi).1
  iapply (load Variants.none (c : Thread nD τ) none Set.univ hsub) $$ H16
  iintro %v16 - H16
  rw [wp_bind]
  iapply (store Variants.none (c : Thread nD τ) none Set.univ (upTo (K16 (2 * k.val + n.val) (b.val + 1)) (T16 W10 G12 E15 t)) hsub ?_ ?_) $$ H16
  · intro j _
    exact (T16_emb W10 G12 E15 t k n b j).symm
  · intro i hs hi x hx hK
    refine hx ?_
    rw [mem_rT] at hi
    have hs := mem_cells.mp hs
    have h1 : (i 1).val < 2 := (i 1).isLt
    have h3 : (i 3).val < 256 := (i 3).isLt
    have hn := n.isLt
    unfold K16 at hK ⊢
    omega
  iintro H16
  iapply (pureStep Variants.none (c : Thread nD τ) none Set.univ (tileV S4 W10 G12 E15 t k n b) rfl)
  iapply HK
  isplitl [H9]; · iexact H9
  isplitl [H16]; · iexact H16
  isplitl [H12] <;> iassumption

/-- A block's step ends where the next block's begins. -/
theorem TileRes_next (t : T3) (l : Nat) :
    TileRes c arg9 arg12 arg15 arg16 S4 W10 G12 E15 t l 2 ⊢ TileRes c arg9 arg12 arg15 arg16 S4 W10 G12 E15 t (l + 1) 0 := by
  unfold TileRes
  iintro ⟨H9, H16, H12, H15⟩
  isplitl [H9]
  · iapply (KV_mono (c : Thread nD τ) ?_) $$ H9
    intro i _ x hx hK
    refine hx ?_
    have h0 : (i 0).val < 2 := (i 0).isLt
    unfold K9 at hK ⊢
    omega
  isplitl [H16]
  · iapply (KV_mono (c : Thread nD τ) ?_) $$ H16
    intro i _ x hx hK
    refine hx ?_
    have h1 : (i 1).val < 2 := (i 1).isLt
    unfold K16 at hK ⊢
    omega
  isplitl [H12] <;> iassumption

/-- What the rows' steps hold. -/
def MidRes (t : T3) (l : Nat) : sProp 𝕄 :=
  iprop(TileRes c arg9 arg12 arg15 arg16 S4 W10 G12 E15 t l 0
    ∗ KV (c : Thread nD τ) arg4.view Finset.univ fullShare (is S4)
    ∗ KV (c : Thread nD τ) arg13.view Finset.univ fullShare (is H13)
    ∗ KV (c : Thread nD τ) arg10.view Finset.univ fullShare (is W10)
    ∗ KV (c : Thread nD τ) arg11.view Finset.univ fullShare (is X11))

theorem blkStep_wp (t : T3) (k : Fin 18) (n : Fin 2) (Q : FVec F S8x128 .f32 × FVec F S128x128 .bf16 × FVec F S128x128 .bf16 → sProp 𝕄) :
    MidRes c arg4 arg9 arg10 arg11 arg12 arg13 arg15 arg16 S4 W10 X11 G12 H13 E15 t (2 * k.val + n.val)
      ⊢ iprop((MidRes c arg4 arg9 arg10 arg11 arg12 arg13 arg15 arg16 S4 W10 X11 G12 H13 E15 t (2 * k.val + n.val + 1)
          -∗ Q (lhsV S4 H13 t k n, tileV S4 W10 G12 E15 t k n 0, tileV S4 W10 G12 E15 t k n 1))
        -∗ WP (blkStep arg4 arg9 arg10 arg12 arg13 arg15 arg16 harg16 t k n) Q) := by
  unfold MidRes blkStep
  iintro ⟨HT, H4, H13, H10, H11⟩ HK
  rw [wp_bind]
  iapply (smemLdIs Variants.none (c : Thread nD τ) none Set.univ (Finset.subset_univ _)) $$ H4
  iintro H4
  rw [wp_bind]
  iapply (loadIs Variants.none (c : Thread nD τ) none Set.univ (Finset.subset_univ _)) $$ H13
  iintro H13
  rw [wp_bind]
  iapply (loadIs Variants.none (c : Thread nD τ) none Set.univ (Finset.subset_univ _)) $$ H10
  iintro H10
  rw [wp_bind]
  iapply (tileStep_wp c arg9 arg12 arg15 arg16 harg16 S4 W10 G12 E15 t k n 0) $$ [HT]
  · iexact HT
  iintro HT
  rw [wp_bind]
  iapply (tileStep_wp c arg9 arg12 arg15 arg16 harg16 S4 W10 G12 E15 t k n 1) $$ [HT]
  · iexact HT
  iintro HT
  iapply (pureStep Variants.none (c : Thread nD τ) none Set.univ (lhsV S4 H13 t k n, tileV S4 W10 G12 E15 t k n 0, tileV S4 W10 G12 E15 t k n 1) rfl)
  iapply HK
  isplitl [HT]
  · iapply (TileRes_next c arg9 arg12 arg15 arg16 S4 W10 G12 E15 t (2 * k.val + n.val)) $$ [HT]
    iexact HT
  isplitl [H4]; · iexact H4
  isplitl [H13]; · iexact H13
  isplitl [H10] <;> iassumption

theorem kpStep_wp (t : T3) (kp : Fin 9) (a : Acc F) (Q : Acc F → sProp 𝕄) :
    MidRes c arg4 arg9 arg10 arg11 arg12 arg13 arg15 arg16 S4 W10 X11 G12 H13 E15 t (4 * kp.val)
      ⊢ iprop((MidRes c arg4 arg9 arg10 arg11 arg12 arg13 arg15 arg16 S4 W10 X11 G12 H13 E15 t (4 * (kp.val + 1))
          -∗ Q (accStep S4 W10 X11 G12 H13 E15 t kp a))
        -∗ WP (kpStep arg4 arg9 arg10 arg11 arg12 arg13 arg15 arg16 harg16 t kp a) Q) := by
  unfold kpStep
  have hk0 : 2 * kp.val < 18 := by omega
  have hk1 : 2 * kp.val + 1 < 18 := by omega
  iintro HM HK
  rw [wp_bind]
  iapply (blkStep_wp c arg4 arg9 arg10 arg11 arg12 arg13 arg15 arg16 harg16 S4 W10 X11 G12 H13 E15 t ⟨2 * kp.val, hk0⟩ 0) $$ [HM]
  · rw [show 2 * (2 * kp.val) + (0 : Fin 2).val = 4 * kp.val by show _ + 0 = _; omega]; iexact HM
  iintro HM
  rw [wp_bind]
  iapply (blkStep_wp c arg4 arg9 arg10 arg11 arg12 arg13 arg15 arg16 harg16 S4 W10 X11 G12 H13 E15 t ⟨2 * kp.val, hk0⟩ 1) $$ [HM]
  · iexact HM
  iintro HM
  rw [wp_bind]
  iapply (blkStep_wp c arg4 arg9 arg10 arg11 arg12 arg13 arg15 arg16 harg16 S4 W10 X11 G12 H13 E15 t ⟨2 * kp.val + 1, hk1⟩ 0) $$ [HM]
  · rw [show 2 * (2 * kp.val + 1) + (0 : Fin 2).val = 2 * (2 * kp.val) + (1 : Fin 2).val + 1 by show _ + 0 = _ + 1 + 1; omega]; iexact HM
  iintro HM
  rw [wp_bind]
  iapply (blkStep_wp c arg4 arg9 arg10 arg11 arg12 arg13 arg15 arg16 harg16 S4 W10 X11 G12 H13 E15 t ⟨2 * kp.val + 1, hk1⟩ 1) $$ [HM]
  · iexact HM
  iintro HM
  rw [show 2 * (2 * kp.val + 1) + (1 : Fin 2).val + 1 = 4 * (kp.val + 1) by show _ + 1 + 1 = _; omega]
  unfold MidRes
  icases HM with ⟨HT, H4, H13, H10, H11⟩
  rw [wp_bind]
  iapply (loadIs Variants.none (c : Thread nD τ) none Set.univ (Finset.subset_univ _)) $$ H10
  iintro H10
  rw [wp_bind]
  iapply (loadIs Variants.none (c : Thread nD τ) none Set.univ (Finset.subset_univ _)) $$ H11
  iintro H11
  rw [wp_bind]
  iapply (loadIs Variants.none (c : Thread nD τ) none Set.univ (Finset.subset_univ _)) $$ H11
  iintro H11
  iapply (pureStep Variants.none (c : Thread nD τ) none Set.univ (accStep S4 W10 X11 G12 H13 E15 t kp a) rfl)
  iapply HK
  isplitl [HT]; · iexact HT
  isplitl [H4]; · iexact H4
  isplitl [H13]; · iexact H13
  isplitl [H10] <;> iassumption

theorem yStep_wp (t : T3) (n b : Fin 2) (pay : Vec F S1x128 .f32 → FVec F S1x1x128x128 .bf16) (l : Nat) (hl : 2 * b.val + n.val = l)
    (hp : pay (bV B5 t n) = yV S4 B5 W10 X11 G12 H13 E15 t n b) (Q : PUnit → sProp 𝕄) :
    iprop(KV (c : Thread nD τ) arg5.view Finset.univ fullShare (is B5)
      ∗ KV (c : Thread nD τ) arg17.view (slot17 t.val) fullShare (upTo (K17 l) (T17 S4 B5 W10 X11 G12 H13 E15 t)))
      ⊢ iprop((iprop(KV (c : Thread nD τ) arg5.view Finset.univ fullShare (is B5)
        ∗ KV (c : Thread nD τ) arg17.view (slot17 t.val) fullShare (upTo (K17 (l + 1)) (T17 S4 B5 W10 X11 G12 H13 E15 t))) -∗ Q ⟨⟩)
        -∗ WP (yStep arg5 arg17 harg17 t n b pay) Q) := by
  unfold yStep
  iintro ⟨H5, H17⟩ HK
  rw [wp_bind]
  iapply (loadIs Variants.none (c : Thread nD τ) none Set.univ (Finset.subset_univ _)) $$ H5
  iintro H5
  rw [wp_bind]
  have hsub : (rY t n b).set ⊆ slot17 t.val := fun i hi => mem_cells.mpr (mem_rY.mp hi).1
  iapply (load Variants.none (c : Thread nD τ) none Set.univ hsub) $$ H17
  iintro %v17 - H17
  iapply (store Variants.none (c : Thread nD τ) none Set.univ (upTo (K17 (l + 1)) (T17 S4 B5 W10 X11 G12 H13 E15 t)) hsub ?_ ?_) $$ H17
  · intro j _
    exact (congrFun hp j).trans (T17_emb S4 B5 W10 X11 G12 H13 E15 t n b j).symm
  · intro i hs hi x hx hK
    refine hx ?_
    rw [mem_rY] at hi
    have hs := mem_cells.mp hs
    have h1 : (i 1).val < 2 := (i 1).isLt
    have h3 : (i 3).val < 256 := (i 3).isLt
    have hn := n.isLt
    unfold K17 at hK ⊢
    omega
  iintro H17
  iapply HK
  isplitl [H5] <;> iassumption

/-- A trip's work: from nothing known of its slots to all of them known. -/
theorem mid_wp (t : T3) (Q : PUnit → sProp 𝕄) :
    iprop(MidRes c arg4 arg9 arg10 arg11 arg12 arg13 arg15 arg16 S4 W10 X11 G12 H13 E15 t 0
      ∗ KV (c : Thread nD τ) arg5.view Finset.univ fullShare (is B5)
      ∗ KV (c : Thread nD τ) arg17.view (slot17 t.val) fullShare (upTo (K17 0) (T17 S4 B5 W10 X11 G12 H13 E15 t)))
      ⊢ iprop((iprop(MidRes c arg4 arg9 arg10 arg11 arg12 arg13 arg15 arg16 S4 W10 X11 G12 H13 E15 t 36
      ∗ KV (c : Thread nD τ) arg5.view Finset.univ fullShare (is B5)
      ∗ KV (c : Thread nD τ) arg17.view (slot17 t.val) fullShare (upTo (K17 4) (T17 S4 B5 W10 X11 G12 H13 E15 t))) -∗ Q ⟨⟩)
        -∗ WP (mid arg4 arg5 arg9 arg10 arg11 arg12 arg13 arg15 arg16 harg16 arg17 harg17 t) Q) := by
  unfold mid
  iintro ⟨HM, H5, H17⟩ HK
  rw [wp_bind]
  iapply (kpStep_wp c arg4 arg9 arg10 arg11 arg12 arg13 arg15 arg16 harg16 S4 W10 X11 G12 H13 E15 t 0) $$ [HM]
  · iexact HM
  iintro HM
  rw [wp_bind]
  iapply (kpStep_wp c arg4 arg9 arg10 arg11 arg12 arg13 arg15 arg16 harg16 S4 W10 X11 G12 H13 E15 t 1) $$ [HM]
  · iexact HM
  iintro HM
  rw [wp_bind]
  iapply (kpStep_wp c arg4 arg9 arg10 arg11 arg12 arg13 arg15 arg16 harg16 S4 W10 X11 G12 H13 E15 t 2) $$ [HM]
  · iexact HM
  iintro HM
  rw [wp_bind]
  iapply (kpStep_wp c arg4 arg9 arg10 arg11 arg12 arg13 arg15 arg16 harg16 S4 W10 X11 G12 H13 E15 t 3) $$ [HM]
  · iexact HM
  iintro HM
  rw [wp_bind]
  iapply (kpStep_wp c arg4 arg9 arg10 arg11 arg12 arg13 arg15 arg16 harg16 S4 W10 X11 G12 H13 E15 t 4) $$ [HM]
  · iexact HM
  iintro HM
  rw [wp_bind]
  iapply (kpStep_wp c arg4 arg9 arg10 arg11 arg12 arg13 arg15 arg16 harg16 S4 W10 X11 G12 H13 E15 t 5) $$ [HM]
  · iexact HM
  iintro HM
  rw [wp_bind]
  iapply (kpStep_wp c arg4 arg9 arg10 arg11 arg12 arg13 arg15 arg16 harg16 S4 W10 X11 G12 H13 E15 t 6) $$ [HM]
  · iexact HM
  iintro HM
  rw [wp_bind]
  iapply (kpStep_wp c arg4 arg9 arg10 arg11 arg12 arg13 arg15 arg16 harg16 S4 W10 X11 G12 H13 E15 t 7) $$ [HM]
  · iexact HM
  iintro HM
  rw [wp_bind]
  iapply (kpStep_wp c arg4 arg9 arg10 arg11 arg12 arg13 arg15 arg16 harg16 S4 W10 X11 G12 H13 E15 t 8) $$ [HM]
  · iexact HM
  iintro HM
  rw [wp_bind]
  iapply (yStep_wp c arg5 arg17 harg17 S4 B5 W10 X11 G12 H13 E15 t 0 0 _ 0 rfl rfl) $$ [H5 H17]
  · isplitl [H5] <;> iassumption
  iintro ⟨H5, H17⟩
  rw [wp_bind]
  iapply (yStep_wp c arg5 arg17 harg17 S4 B5 W10 X11 G12 H13 E15 t 1 0 _ 1 rfl rfl) $$ [H5 H17]
  · isplitl [H5] <;> iassumption
  iintro ⟨H5, H17⟩
  rw [wp_bind]
  iapply (yStep_wp c arg5 arg17 harg17 S4 B5 W10 X11 G12 H13 E15 t 0 1 _ 2 rfl rfl) $$ [H5 H17]
  · isplitl [H5] <;> iassumption
  iintro ⟨H5, H17⟩
  iapply (yStep_wp c arg5 arg17 harg17 S4 B5 W10 X11 G12 H13 E15 t 1 1 _ 3 rfl rfl) $$ [H5 H17]
  · isplitl [H5] <;> iassumption
  iintro ⟨H5, H17⟩
  iapply HK
  isplitl [HM]; · iexact HM
  isplitl [H5] <;> iassumption

end Steps

end Cert.Kernel.Roll
-- ==== Proof.Bits.Loop3.lean ====
/-
  The third loop: 36 trips over three slots, each slot's blocks sent out while the next two are computed.
-/
module

public import proofs.«01_k».proof.Proof.Bits.Trip
public import Idealize.ShloMosaic.Lib.Transfers

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.Kernel Cert.Kernel.Gen Cert.Cells Idealize.ShloMosaic.Transfers

variable {F : FTy → Type} [FloatOps F]

/-! ## Offsets -/

set_option maxRecDepth 65536 in
theorem off10_eq (t : T3) : k0_off10 t 0 = t.val % 3 := by revert t; decide +kernel
set_option maxRecDepth 65536 in
theorem off227_eq (t : T3) : k0_off227 t 0 = t.val % 3 := by revert t; decide +kernel
set_option maxRecDepth 65536 in
theorem off228_eq (t : T3) : k0_off228 t = ![0, 0, 256 * t.val] := by revert t; decide +kernel
set_option maxRecDepth 65536 in
theorem off229_eq (t : T3) : k0_off229 t = ![t.val % 3, 0, 0, 0] := by revert t; decide +kernel
set_option maxRecDepth 65536 in
theorem off230_eq (t : T3) : k0_off230 t = ![0, 0, 256 * t.val] := by revert t; decide +kernel
set_option maxRecDepth 65536 in
theorem off231_eq (t : T3) : k0_off231 t = ![t.val % 3, 0, 0, 0] := by revert t; decide +kernel
set_option maxRecDepth 65536 in
theorem cond1_iff (t : T3) : k0_cond1 t = 1#1 ↔ 3 ≤ t.val := by revert t; decide +kernel

/-- A semaphore of an array, named by a slice and named by its index. -/
theorem sem_eq {n : Nat} (a : DmaSems sig ⟨1, ![n]⟩) (off : Fin 1 → Nat) (h : ∀ x, off x + S1.size x ≤ (⟨1, ![n]⟩ : Shape).size x) (k : Fin n) (hk : off 0 = k.val) :
    ((a.slice (Rect.unit (s := ⟨1, ![n]⟩) off S1.size h)).squeeze S_ squeezes_S1_S_).sem = a.ix (ix1 k) := by
  show a.ix _ = a.ix _
  congr 1
  funext x
  match x with
  | 0 =>
    refine Fin.ext ?_
    rw [unit_val (s := ⟨1, ![n]⟩) off S1.size h _ 0, hk]
    have : ∀ y : S1.Idx, (y 0).val = 0 := fun y => by have : (y 0).val < 1 := (y 0).isLt; omega
    rw [show ∀ y : S1.Idx, k.val + (y 0).val = k.val from fun y => by rw [this y]; rfl]
    rfl

/-! ## Blocks -/

def blk8 (t : Nat) : Finset S2x2304x9216.Idx := cells fun i => (i 2).val / 256 = t
def blk7 (t : Nat) : Finset S2x128x9216.Idx := cells fun i => (i 2).val / 256 = t

theorem slot16_set (t : T3) : (Rect.unit (s := S3x2x2304x256) (k0_off229 t) S1x2x2304x256.size (k0_off229_inb t)).set = slot16 t.val := by
  ext i
  rw [Rect.mem_set_unit, slot16, mem_cells, off229_eq]
  have h1 : (i 1).val < 2 := (i 1).isLt
  have h2 : (i 2).val < 2304 := (i 2).isLt
  have h3 : (i 3).val < 256 := (i 3).isLt
  constructor
  · intro h
    have h0 : t.val % 3 ≤ (i 0).val ∧ (i 0).val < t.val % 3 + 1 := h 0
    omega
  · intro h a
    match a with
    | 0 => exact ⟨(show t.val % 3 ≤ (i 0).val by omega), (show (i 0).val < t.val % 3 + 1 by omega)⟩
    | 1 => exact ⟨Nat.zero_le _, (show (i 1).val < 0 + 2 by omega)⟩
    | 2 => exact ⟨Nat.zero_le _, (show (i 2).val < 0 + 2304 by omega)⟩
    | 3 => exact ⟨Nat.zero_le _, (show (i 3).val < 0 + 256 by omega)⟩

theorem slot17_set (t : T3) : (Rect.unit (s := S3x2x128x256) (k0_off231 t) S1x2x128x256.size (k0_off231_inb t)).set = slot17 t.val := by
  ext i
  rw [Rect.mem_set_unit, slot17, mem_cells, off231_eq]
  have h1 : (i 1).val < 2 := (i 1).isLt
  have h2 : (i 2).val < 128 := (i 2).isLt
  have h3 : (i 3).val < 256 := (i 3).isLt
  constructor
  · intro h
    have h0 : t.val % 3 ≤ (i 0).val ∧ (i 0).val < t.val % 3 + 1 := h 0
    omega
  · intro h a
    match a with
    | 0 => exact ⟨(show t.val % 3 ≤ (i 0).val by omega), (show (i 0).val < t.val % 3 + 1 by omega)⟩
    | 1 => exact ⟨Nat.zero_le _, (show (i 1).val < 0 + 2 by omega)⟩
    | 2 => exact ⟨Nat.zero_le _, (show (i 2).val < 0 + 128 by omega)⟩
    | 3 => exact ⟨Nat.zero_le _, (show (i 3).val < 0 + 256 by omega)⟩

theorem blk8_set (t : T3) : (Rect.unit (s := S2x2304x9216) (k0_off228 t) S2x2304x256.size (k0_off228_inb t)).set = blk8 t.val := by
  ext i
  rw [Rect.mem_set_unit, blk8, mem_cells, off228_eq]
  have h0 : (i 0).val < 2 := (i 0).isLt
  have h1 : (i 1).val < 2304 := (i 1).isLt
  constructor
  · intro h
    have h2 : 256 * t.val ≤ (i 2).val ∧ (i 2).val < 256 * t.val + 256 := h 2
    omega
  · intro h a
    match a with
    | 0 => exact ⟨Nat.zero_le _, (show (i 0).val < 0 + 2 by omega)⟩
    | 1 => exact ⟨Nat.zero_le _, (show (i 1).val < 0 + 2304 by omega)⟩
    | 2 => exact ⟨(show 256 * t.val ≤ (i 2).val by omega), (show (i 2).val < 256 * t.val + 256 by omega)⟩

theorem blk7_set (t : T3) : (Rect.unit (s := S2x128x9216) (k0_off230 t) S2x128x256.size (k0_off230_inb t)).set = blk7 t.val := by
  ext i
  rw [Rect.mem_set_unit, blk7, mem_cells, off230_eq]
  have h0 : (i 0).val < 2 := (i 0).isLt
  have h1 : (i 1).val < 128 := (i 1).isLt
  constructor
  · intro h
    have h2 : 256 * t.val ≤ (i 2).val ∧ (i 2).val < 256 * t.val + 256 := h 2
    omega
  · intro h a
    match a with
    | 0 => exact ⟨Nat.zero_le _, (show (i 0).val < 0 + 2 by omega)⟩
    | 1 => exact ⟨Nat.zero_le _, (show (i 1).val < 0 + 128 by omega)⟩
    | 2 => exact ⟨(show 256 * t.val ≤ (i 2).val by omega), (show (i 2).val < 256 * t.val + 256 by omega)⟩

section Values
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

/-- The trip that writes a column. -/
def colTrip (n : Fin 9216) : T3 := ⟨n.val / 256, by rw [trips36]; omega⟩

/-- All the codes. -/
def WC (i : S2x2304x9216.Idx) : Elt F .fp8e4m3 :=
  T16 W10 G12 E15 (colTrip (i 2)) (ix4 (0 : Fin 3) (i 0) (i 1) (⟨(i 2).val % 256, Nat.mod_lt _ (by decide)⟩ : Fin 256))

/-- All the rows of the product. -/
def YC (i : S2x128x9216.Idx) : Elt F .bf16 :=
  T17 S4 B5 W10 X11 G12 H13 E15 (colTrip (i 2)) (ix4 (0 : Fin 3) (i 0) (i 1) (⟨(i 2).val % 256, Nat.mod_lt _ (by decide)⟩ : Fin 256))

theorem T16_congr (t : T3) {i i' : S3x2x2304x256.Idx} (h1 : (i 1).val = (i' 1).val) (h2 : (i 2).val = (i' 2).val) (h3 : (i 3).val = (i' 3).val) :
    T16 W10 G12 E15 t i = T16 W10 G12 E15 t i' := by
  have e1 : i 1 = i' 1 := Fin.ext h1
  have e2 : i 2 = i' 2 := Fin.ext h2
  have e3 : i 3 = i' 3 := Fin.ext h3
  unfold T16
  rw [e1]
  simp only [e2, e3]

theorem T17_congr (t : T3) {i i' : S3x2x128x256.Idx} (h1 : (i 1).val = (i' 1).val) (h2 : (i 2).val = (i' 2).val) (h3 : (i 3).val = (i' 3).val) :
    T17 S4 B5 W10 X11 G12 H13 E15 t i = T17 S4 B5 W10 X11 G12 H13 E15 t i' := by
  have e1 : i 1 = i' 1 := Fin.ext h1
  have e2 : i 2 = i' 2 := Fin.ext h2
  have e3 : i 3 = i' 3 := Fin.ext h3
  unfold T17
  rw [e1, e2]
  simp only [e3]

/-- A slot's codes are its block's. -/
theorem T16_blk (t : T3) (j : S2x2304x256.Idx) (hn : S2x2304x256.numel = S1x2x2304x256.numel) :
    T16 W10 G12 E15 t ((Rect.unit (s := S3x2x2304x256) (k0_off229 t) S1x2x2304x256.size (k0_off229_inb t)).emb (Shape.reshapeEquiv hn j))
      = WC W10 G12 E15 ((Rect.unit (s := S2x2304x9216) (k0_off228 t) S2x2304x256.size (k0_off228_inb t)).emb j) := by
  have hj : j = ix3 (j 0) (j 1) (j 2) := by funext a; match a with | 0 => rfl | 1 => rfl | 2 => rfl
  have l2 : (j 2).val < 256 := (j 2).isLt
  have v := fun a => (unit_val (s := S2x2304x9216) (k0_off228 t) S2x2304x256.size (k0_off228_inb t) j a).trans (congrArg (· + _) (congrFun (off228_eq t) a))
  have v0 := v 0; have v1 := v 1; have v2 := v 2
  replace v0 : _ = 0 + (j 0).val := v0
  replace v1 : _ = 0 + (j 1).val := v1
  replace v2 : _ = 256 * t.val + (j 2).val := v2
  rw [show Shape.reshapeEquiv hn j = ix4 (⟨0, Nat.one_pos⟩ : Fin 1) (j 0) (j 1) (j 2) from by
    conv_lhs => rw [hj]
    exact reshapeEquiv_ix3_1abc hn _ _ _]
  have u := fun a => (unit_val (s := S3x2x2304x256) (k0_off229 t) S1x2x2304x256.size (k0_off229_inb t) (ix4 (⟨0, Nat.one_pos⟩ : Fin 1) (j 0) (j 1) (j 2)) a).trans (congrArg (· + _) (congrFun (off229_eq t) a))
  have u1 := u 1; have u2 := u 2; have u3 := u 3
  replace u1 : _ = 0 + (j 0).val := u1
  replace u2 : _ = 0 + (j 1).val := u2
  replace u3 : _ = 0 + (j 2).val := u3
  unfold WC
  have ht : colTrip ((Rect.unit (s := S2x2304x9216) (k0_off228 t) S2x2304x256.size (k0_off228_inb t)).emb j 2) = t :=
    Fin.ext (by show _ / 256 = _; rw [v2]; omega)
  rw [ht]
  refine T16_congr W10 G12 E15 t (u1.trans v0.symm) (u2.trans v1.symm) ?_
  show _ = _ % 256
  rw [v2]
  exact u3.trans (by omega)

/-- A slot's rows of the product are its block's. -/
theorem T17_blk (t : T3) (j : S2x128x256.Idx) (hn : S2x128x256.numel = S1x2x128x256.numel) :
    T17 S4 B5 W10 X11 G12 H13 E15 t ((Rect.unit (s := S3x2x128x256) (k0_off231 t) S1x2x128x256.size (k0_off231_inb t)).emb (Shape.reshapeEquiv hn j))
      = YC S4 B5 W10 X11 G12 H13 E15 ((Rect.unit (s := S2x128x9216) (k0_off230 t) S2x128x256.size (k0_off230_inb t)).emb j) := by
  have hj : j = ix3 (j 0) (j 1) (j 2) := by funext a; match a with | 0 => rfl | 1 => rfl | 2 => rfl
  have l2 : (j 2).val < 256 := (j 2).isLt
  have v := fun a => (unit_val (s := S2x128x9216) (k0_off230 t) S2x128x256.size (k0_off230_inb t) j a).trans (congrArg (· + _) (congrFun (off230_eq t) a))
  have v0 := v 0; have v1 := v 1; have v2 := v 2
  replace v0 : _ = 0 + (j 0).val := v0
  replace v1 : _ = 0 + (j 1).val := v1
  replace v2 : _ = 256 * t.val + (j 2).val := v2
  rw [show Shape.reshapeEquiv hn j = ix4 (⟨0, Nat.one_pos⟩ : Fin 1) (j 0) (j 1) (j 2) from by
    conv_lhs => rw [hj]
    exact reshapeEquiv_ix3_1abc hn _ _ _]
  have u := fun a => (unit_val (s := S3x2x128x256) (k0_off231 t) S1x2x128x256.size (k0_off231_inb t) (ix4 (⟨0, Nat.one_pos⟩ : Fin 1) (j 0) (j 1) (j 2)) a).trans (congrArg (· + _) (congrFun (off231_eq t) a))
  have u1 := u 1; have u2 := u 2; have u3 := u 3
  replace u1 : _ = 0 + (j 0).val := u1
  replace u2 : _ = 0 + (j 1).val := u2
  replace u3 : _ = 0 + (j 2).val := u3
  unfold YC
  have ht : colTrip ((Rect.unit (s := S2x128x9216) (k0_off230 t) S2x128x256.size (k0_off230_inb t)).emb j 2) = t :=
    Fin.ext (by show _ / 256 = _; rw [v2]; omega)
  rw [ht]
  refine T17_congr S4 B5 W10 X11 G12 H13 E15 t (u1.trans v0.symm) (u2.trans v1.symm) ?_
  show _ = _ % 256
  rw [v2]
  exact u3.trans (by omega)

end Values

/-! ## The slots -/

section Steps
variable (c : Dev nD)
local notation "𝕄" => MT nD τ sig Unit (Elt F) ℕ (Pipeline.UD sig nD τ) ℕ

variable (arg4 : Memref sig .tc .smem S18x72 .i32) (arg5 : Memref sig .tc .vmem S72x128 .f32)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- The credits of a block's transfer. -/
def N8 : Nat := sig.dmaCredit .tc (Kind.tc.table .hbm) arg8.view.buf S2x2304x256 .fp8e4m3
def N7 : Nat := sig.dmaCredit .tc (Kind.tc.table .hbm) arg7.view.buf S2x128x256 .bf16

/-- A slot whose blocks `j` are on their way out. -/
def Busy (s : Fin 3) (j : Nat) : sProp 𝕄 :=
  iprop(Flight countersEmb (c : Thread nD τ) (.dma (arg21.ix (ix1 s))) () (N8 arg8)
      iprop(KV (c : Thread nD τ) arg8.view (blk8 j) fullShare (is (WC W10 G12 E15)) ∗ KV (c : Thread nD τ) arg16.view (slot16 j) fullShare any)
    ∗ Flight countersEmb (c : Thread nD τ) (.dma (arg22.ix (ix1 s))) () (N7 arg7)
      iprop(KV (c : Thread nD τ) arg7.view (blk7 j) fullShare (is (YC S4 B5 W10 X11 G12 H13 E15)) ∗ KV (c : Thread nD τ) arg17.view (slot17 j) fullShare any))

/-- A free slot. -/
def Free (s : Fin 3) : sProp 𝕄 :=
  iprop((KV (c : Thread nD τ) arg16.view (slot16 s.val) fullShare any ∗ semVal ((c : Thread nD τ), .dma (arg21.ix (ix1 s))) 0)
    ∗ (KV (c : Thread nD τ) arg17.view (slot17 s.val) fullShare any ∗ semVal ((c : Thread nD τ), .dma (arg22.ix (ix1 s))) 0))

/-- A slot before trip `t`. -/
def slotSt (t : Nat) (s : Fin 3) : sProp 𝕄 :=
  if s.val < t then Busy c arg7 arg8 arg16 arg17 arg21 arg22 S4 B5 W10 X11 G12 H13 E15 s (s.val + 3 * ((t - 1 - s.val) / 3))
  else Free c arg16 arg17 arg21 arg22 s

/-- The blocks not on their way out before trip `t`. -/
def out8 (t : Nat) : Finset S2x2304x9216.Idx := cells fun i => (i 2).val / 256 + 3 < t ∨ t ≤ (i 2).val / 256
def out7 (t : Nat) : Finset S2x128x9216.Idx := cells fun i => (i 2).val / 256 + 3 < t ∨ t ≤ (i 2).val / 256

/-- Those not on their way out within trip `t`. -/
def out8' (t : Nat) : Finset S2x2304x9216.Idx := cells fun i => (i 2).val / 256 + 3 < t + 1 ∨ t ≤ (i 2).val / 256
def out7' (t : Nat) : Finset S2x128x9216.Idx := cells fun i => (i 2).val / 256 + 3 < t + 1 ∨ t ≤ (i 2).val / 256

def P8 (t : Nat) : S2x2304x9216.Idx → Elt F .fp8e4m3 → Prop := upTo (fun i => (i 2).val / 256 + 3 < t) (WC W10 G12 E15)
def P7 (t : Nat) : S2x128x9216.Idx → Elt F .bf16 → Prop := upTo (fun i => (i 2).val / 256 + 3 < t) (YC S4 B5 W10 X11 G12 H13 E15)

def slotOf (t : Nat) : Fin 3 := ⟨t % 3, Nat.mod_lt _ (by decide)⟩

theorem slot16_mod (t : Nat) : slot16 (t % 3) = slot16 t := by unfold slot16; rw [Nat.mod_mod]
theorem slot17_mod (t : Nat) : slot17 (t % 3) = slot17 t := by unfold slot17; rw [Nat.mod_mod]

theorem slotSt_next (t : Nat) : slotSt c arg7 arg8 arg16 arg17 arg21 arg22 S4 B5 W10 X11 G12 H13 E15 (t + 1) (slotOf t)
    = Busy c arg7 arg8 arg16 arg17 arg21 arg22 S4 B5 W10 X11 G12 H13 E15 (slotOf t) t := by
  unfold slotSt slotOf
  rw [if_pos (show t % 3 < t + 1 by omega), show t % 3 + 3 * ((t + 1 - 1 - t % 3) / 3) = t by omega]

theorem slotSt_other (t : Nat) (s : Fin 3) (h : s ≠ slotOf t) : slotSt c arg7 arg8 arg16 arg17 arg21 arg22 S4 B5 W10 X11 G12 H13 E15 (t + 1) s
    = slotSt c arg7 arg8 arg16 arg17 arg21 arg22 S4 B5 W10 X11 G12 H13 E15 t s := by
  have h' : s.val ≠ t % 3 := fun e => h (Fin.ext e)
  unfold slotSt
  by_cases hs : s.val < t
  · rw [if_pos hs, if_pos (by omega), show s.val + 3 * ((t + 1 - 1 - s.val) / 3) = s.val + 3 * ((t - 1 - s.val) / 3) by omega]
  · rw [if_neg hs, if_neg (by omega)]

theorem slotSt_now (t : Nat) (h : 3 ≤ t) : slotSt c arg7 arg8 arg16 arg17 arg21 arg22 S4 B5 W10 X11 G12 H13 E15 t (slotOf t)
    = Busy c arg7 arg8 arg16 arg17 arg21 arg22 S4 B5 W10 X11 G12 H13 E15 (slotOf t) (t - 3) := by
  unfold slotSt slotOf
  rw [if_pos (show t % 3 < t by omega), show t % 3 + 3 * ((t - 1 - t % 3) / 3) = t - 3 by omega]

theorem slotSt_free (t : Nat) (h : ¬ 3 ≤ t) : slotSt c arg7 arg8 arg16 arg17 arg21 arg22 S4 B5 W10 X11 G12 H13 E15 t (slotOf t)
    = Free c arg16 arg17 arg21 arg22 (slotOf t) := by
  unfold slotSt slotOf
  rw [if_neg (show ¬ t % 3 < t by omega)]

/-- A block that arrived joins the others. -/
theorem join8 (t : Nat) (h : 3 ≤ t) :
    (iprop(KV (c : Thread nD τ) arg8.view (out8 t) fullShare (P8 W10 G12 E15 t) ∗ KV (c : Thread nD τ) arg8.view (blk8 (t - 3)) fullShare (is (WC W10 G12 E15))) : sProp 𝕄)
      ⊢ KV (c : Thread nD τ) arg8.view (out8' t) fullShare (P8 W10 G12 E15 (t + 1)) := by
  have hd : Disjoint (out8 t) (blk8 (t - 3)) := by
    rw [Finset.disjoint_left]; intro i hi hj
    rw [out8, mem_cells] at hi; rw [blk8, mem_cells] at hj; omega
  have hu : out8 t ∪ blk8 (t - 3) = out8' t := by
    ext i; rw [Finset.mem_union, out8, blk8, out8', mem_cells, mem_cells, mem_cells]; omega
  iintro ⟨H1, H2⟩
  rw [← hu]
  iapply (KV_join (c : Thread nD τ) hd)
  isplitl [H1]
  · iapply (KV_mono (c : Thread nD τ) ?_) $$ H1
    intro i hi x hx hK
    rw [out8, mem_cells] at hi
    exact hx (by omega)
  · iapply (KV_mono (c : Thread nD τ) ?_) $$ H2
    intro i hi x hx hK
    exact hx

theorem join7 (t : Nat) (h : 3 ≤ t) :
    (iprop(KV (c : Thread nD τ) arg7.view (out7 t) fullShare (P7 S4 B5 W10 X11 G12 H13 E15 t) ∗ KV (c : Thread nD τ) arg7.view (blk7 (t - 3)) fullShare (is (YC S4 B5 W10 X11 G12 H13 E15))) : sProp 𝕄)
      ⊢ KV (c : Thread nD τ) arg7.view (out7' t) fullShare (P7 S4 B5 W10 X11 G12 H13 E15 (t + 1)) := by
  have hd : Disjoint (out7 t) (blk7 (t - 3)) := by
    rw [Finset.disjoint_left]; intro i hi hj
    rw [out7, mem_cells] at hi; rw [blk7, mem_cells] at hj; omega
  have hu : out7 t ∪ blk7 (t - 3) = out7' t := by
    ext i; rw [Finset.mem_union, out7, blk7, out7', mem_cells, mem_cells, mem_cells]; omega
  iintro ⟨H1, H2⟩
  rw [← hu]
  iapply (KV_join (c : Thread nD τ) hd)
  isplitl [H1]
  · iapply (KV_mono (c : Thread nD τ) ?_) $$ H1
    intro i hi x hx hK
    rw [out7, mem_cells] at hi
    exact hx (by omega)
  · iapply (KV_mono (c : Thread nD τ) ?_) $$ H2
    intro i hi x hx hK
    exact hx

theorem early8 (t : Nat) (h : ¬ 3 ≤ t) :
    (KV (c : Thread nD τ) arg8.view (out8 t) fullShare (P8 W10 G12 E15 t) : sProp 𝕄)
      ⊢ KV (c : Thread nD τ) arg8.view (out8' t) fullShare (P8 W10 G12 E15 (t + 1)) := by
  have hu : out8 t = out8' t := by
    ext i; rw [out8, out8', mem_cells, mem_cells]; omega
  rw [← hu]
  refine KV_mono (c : Thread nD τ) ?_
  intro i hi x hx hK
  exact absurd hK (by omega)

theorem early7 (t : Nat) (h : ¬ 3 ≤ t) :
    (KV (c : Thread nD τ) arg7.view (out7 t) fullShare (P7 S4 B5 W10 X11 G12 H13 E15 t) : sProp 𝕄)
      ⊢ KV (c : Thread nD τ) arg7.view (out7' t) fullShare (P7 S4 B5 W10 X11 G12 H13 E15 (t + 1)) := by
  have hu : out7 t = out7' t := by
    ext i; rw [out7, out7', mem_cells, mem_cells]; omega
  rw [← hu]
  refine KV_mono (c : Thread nD τ) ?_
  intro i hi x hx hK
  exact absurd hK (by omega)

/-- The next block leaves the others. -/
theorem take8 (t : Nat) :
    (KV (c : Thread nD τ) arg8.view (out8' t) fullShare (P8 W10 G12 E15 (t + 1)) : sProp 𝕄)
      ⊢ iprop(KV (c : Thread nD τ) arg8.view (blk8 t) fullShare (P8 W10 G12 E15 (t + 1)) ∗ KV (c : Thread nD τ) arg8.view (out8 (t + 1)) fullShare (P8 W10 G12 E15 (t + 1))) := by
  have hd : Disjoint (blk8 t) (out8 (t + 1)) := by
    rw [Finset.disjoint_left]; intro i hi hj
    rw [out8, mem_cells] at hj; rw [blk8, mem_cells] at hi; omega
  have hu : blk8 t ∪ out8 (t + 1) = out8' t := by
    ext i; rw [Finset.mem_union, out8, blk8, out8', mem_cells, mem_cells, mem_cells]; omega
  rw [← hu]
  exact KV_union (c : Thread nD τ) hd

theorem take7 (t : Nat) :
    (KV (c : Thread nD τ) arg7.view (out7' t) fullShare (P7 S4 B5 W10 X11 G12 H13 E15 (t + 1)) : sProp 𝕄)
      ⊢ iprop(KV (c : Thread nD τ) arg7.view (blk7 t) fullShare (P7 S4 B5 W10 X11 G12 H13 E15 (t + 1)) ∗ KV (c : Thread nD τ) arg7.view (out7 (t + 1)) fullShare (P7 S4 B5 W10 X11 G12 H13 E15 (t + 1))) := by
  have hd : Disjoint (blk7 t) (out7 (t + 1)) := by
    rw [Finset.disjoint_left]; intro i hi hj
    rw [out7, mem_cells] at hj; rw [blk7, mem_cells] at hi; omega
  have hu : blk7 t ∪ out7 (t + 1) = out7' t := by
    ext i; rw [Finset.mem_union, out7, blk7, out7', mem_cells, mem_cells, mem_cells]; omega
  rw [← hu]
  exact KV_union (c : Thread nD τ) hd

/-- Before a trip: its slot becomes free and the blocks it held are in place. -/
theorem pre_wp (t : T3) (Q : PUnit → sProp 𝕄) :
    iprop(slotSt c arg7 arg8 arg16 arg17 arg21 arg22 S4 B5 W10 X11 G12 H13 E15 t.val (slotOf t.val)
      ∗ KV (c : Thread nD τ) arg8.view (out8 t.val) fullShare (P8 W10 G12 E15 t.val)
      ∗ KV (c : Thread nD τ) arg7.view (out7 t.val) fullShare (P7 S4 B5 W10 X11 G12 H13 E15 t.val)
      ∗ (∃ W, owes (c : Thread nD τ) 0 W))
    ⊢ iprop((iprop(Free c arg16 arg17 arg21 arg22 (slotOf t.val)
      ∗ KV (c : Thread nD τ) arg8.view (out8' t.val) fullShare (P8 W10 G12 E15 (t.val + 1))
      ∗ KV (c : Thread nD τ) arg7.view (out7' t.val) fullShare (P7 S4 B5 W10 X11 G12 H13 E15 (t.val + 1))
      ∗ (∃ W, owes (c : Thread nD τ) 0 W)) -∗ Q ⟨⟩)
      -∗ WP (pre arg7 harg7 arg8 harg8 arg16 harg16 arg17 harg17 arg21 arg22 t) Q) := by
  unfold pre
  by_cases hc : k0_cond1 t = 1#1
  · have h3 := (cond1_iff t).mp hc
    rw [dif_pos hc, slotSt_now _ _ _ _ _ _ _ _ _ _ _ _ _ _ _ h3]
    unfold Busy
    iintro ⟨⟨F1, F2⟩, H8, H7, HW⟩ HK
    rw [wp_bind]
    iapply (waitAt Variants.none (c : Thread nD τ) none countersEmb () (sem_eq arg21 _ _ (slotOf t.val) (off10_eq t)) rfl) $$ [F1 HW]
    · isplitl [F1]; · iexact F1
      iexact HW
    iintro ⟨⟨D8, D16⟩, S21, HW⟩
    rw [wp_bind]
    iapply (waitAt Variants.none (c : Thread nD τ) none countersEmb () (sem_eq arg22 _ _ (slotOf t.val) (off10_eq t)) rfl) $$ [F2 HW]
    · isplitl [F2]; · iexact F2
      iexact HW
    iintro ⟨⟨D7, D17⟩, S22, HW⟩
    iapply (pureStep Variants.none (c : Thread nD τ) none Set.univ ⟨⟩ rfl)
    iapply HK
    unfold Free
    isplitl [D16 S21 D17 S22]
    · isplitl [D16 S21]
      · isplitl [D16]
        · iapply (KV_congr_set (c : Thread nD τ) ?_) $$ D16
          show slot16 _ = slot16 (t.val % 3)
          unfold slot16; congr 1; funext i; rw [show (t.val - 3) % 3 = t.val % 3 % 3 by omega]
        · iexact S21
      · isplitl [D17]
        · iapply (KV_congr_set (c : Thread nD τ) ?_) $$ D17
          show slot17 _ = slot17 (t.val % 3)
          unfold slot17; congr 1; funext i; rw [show (t.val - 3) % 3 = t.val % 3 % 3 by omega]
        · iexact S22
    isplitl [H8 D8]
    · iapply (join8 c arg8 W10 G12 E15 t.val h3)
      isplitl [H8] <;> iassumption
    isplitl [H7 D7]
    · iapply (join7 c arg7 S4 B5 W10 X11 G12 H13 E15 t.val h3)
      isplitl [H7] <;> iassumption
    iexact HW
  · have h3 : ¬ 3 ≤ t.val := fun h => hc ((cond1_iff t).mpr h)
    rw [dif_neg hc, slotSt_free _ _ _ _ _ _ _ _ _ _ _ _ _ _ _ h3]
    iintro ⟨HF, H8, H7, HW⟩ HK
    iapply (pureStep Variants.none (c : Thread nD τ) none Set.univ ⟨⟩ rfl)
    iapply HK
    isplitl [HF]; · iexact HF
    isplitl [H8]; · iapply (early8 c arg8 W10 G12 E15 t.val h3) $$ H8
    isplitl [H7]; · iapply (early7 c arg7 S4 B5 W10 X11 G12 H13 E15 t.val h3) $$ H7
    iexact HW

/-- After a trip: its slot's blocks are on their way. -/
theorem post_wp (t : T3) (Q : PUnit → sProp 𝕄) :
    iprop((KV (c : Thread nD τ) arg16.view (slot16 t.val) fullShare (is (T16 W10 G12 E15 t)) ∗ KV (c : Thread nD τ) arg8.view (blk8 t.val) fullShare (P8 W10 G12 E15 (t.val + 1))
        ∗ semVal ((c : Thread nD τ), .dma (arg21.ix (ix1 (slotOf t.val)))) 0)
      ∗ (KV (c : Thread nD τ) arg17.view (slot17 t.val) fullShare (is (T17 S4 B5 W10 X11 G12 H13 E15 t)) ∗ KV (c : Thread nD τ) arg7.view (blk7 t.val) fullShare (P7 S4 B5 W10 X11 G12 H13 E15 (t.val + 1))
        ∗ semVal ((c : Thread nD τ), .dma (arg22.ix (ix1 (slotOf t.val)))) 0))
    ⊢ iprop((Busy c arg7 arg8 arg16 arg17 arg21 arg22 S4 B5 W10 X11 G12 H13 E15 (slotOf t.val) t.val -∗ Q ⟨⟩)
      -∗ WP (post arg7 harg7 arg8 harg8 arg16 harg16 arg17 harg17 arg21 arg22 t) Q) := by
  unfold post Busy
  iintro ⟨H16, H17⟩ HK
  rw [wp_bind]
  iapply (dmaOut Variants.none (c : Thread nD τ) none countersEmb () (N8 arg8) (T16 W10 G12 E15 t) (WC W10 G12 E15) (slot16_set t) (blk8_set t)
    (fun j => T16_blk W10 G12 E15 t j _) (sem_eq arg21 _ _ (slotOf t.val) (off227_eq t)) rfl ?_) $$ H16
  · exact sig.dmaCredit_pos _ _ _ _ _ (by decide)
  iintro F1
  rw [wp_bind]
  iapply (dmaOut Variants.none (c : Thread nD τ) none countersEmb () (N7 arg7) (T17 S4 B5 W10 X11 G12 H13 E15 t) (YC S4 B5 W10 X11 G12 H13 E15) (slot17_set t) (blk7_set t)
    (fun j => T17_blk S4 B5 W10 X11 G12 H13 E15 t j _) (sem_eq arg22 _ _ (slotOf t.val) (off227_eq t)) rfl ?_) $$ H17
  · exact sig.dmaCredit_pos _ _ _ _ _ (by decide)
  iintro F2
  iapply (pureStep Variants.none (c : Thread nD τ) none Set.univ ⟨⟩ rfl)
  iapply HK
  isplitl [F1]
  · iapply (Flight_mono countersEmb (c : Thread nD τ) ?_) $$ F1
    iintro ⟨A, B⟩
    isplitl [A]; · iexact A
    iapply (KV_mono (c : Thread nD τ) (fun _ _ _ _ => trivial)) $$ B
  · iapply (Flight_mono countersEmb (c : Thread nD τ) ?_) $$ F2
    iintro ⟨A, B⟩
    isplitl [A]; · iexact A
    iapply (KV_mono (c : Thread nD τ) (fun _ _ _ _ => trivial)) $$ B

end Steps

end Cert.Kernel.Roll
-- ==== Proof.Bits.Ring.lean ====
/-
  The third loop from its first trip to its last, and the six waits after it.
-/
module

public import proofs.«01_k».proof.Proof.Bits.Loop3

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.Kernel Cert.Kernel.Gen Cert.Cells Idealize.ShloMosaic.Transfers

variable {F : FTy → Type} [FloatOps F]

section Prog
variable (arg7 : Memref sig .tc .hbm S2x128x9216 .bf16) (harg7 : arg7.IsWhole)
  (arg8 : Memref sig .tc .hbm S2x2304x9216 .fp8e4m3) (harg8 : arg8.IsWhole)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)

/-- After the loop: the last three trips' blocks are waited for. -/
def drain : Prog (TpuEff nD τ sig (Elt F) Λ₀ .tc) PUnit := do
  Prog.lift (.waitDma2 ((arg21.slice (Rect.unit (s := S3) ![0] S1.size inb_S3_S1_0)).squeeze S_ squeezes_S1_S_).sem
    ((arg16.slice (Rect.unit (s := S3x2x2304x256) ![0, 0, 0, 0] S1x2x2304x256.size inb_S3x2x2304x256_S1x2x2304x256_0_0_0_0) (fun _ => rfl)).squeeze S2x2304x256 squeezes_S1x2x2304x256_S2x2304x256)
    (arg8.slice (Rect.unit (s := S2x2304x9216) ![0, 0, 8448] S2x2304x256.size inb_S2x2304x9216_S2x2304x256_0_0_8448) (fun _ => rfl))
    ((harg16.wordExact_slice rfl _ wordsfp8e4m3_S3x2x2304x256_S1x2x2304x256_0_0_0_0).reshape _ _) (harg8.wordExact_slice rfl _ wordsfp8e4m3_S2x2304x9216_S2x2304x256_0_0_8448))
  Prog.lift (.waitDma2 ((arg22.slice (Rect.unit (s := S3) ![0] S1.size inb_S3_S1_0)).squeeze S_ squeezes_S1_S_).sem
    ((arg17.slice (Rect.unit (s := S3x2x128x256) ![0, 0, 0, 0] S1x2x128x256.size inb_S3x2x128x256_S1x2x128x256_0_0_0_0) (fun _ => rfl)).squeeze S2x128x256 squeezes_S1x2x128x256_S2x128x256)
    (arg7.slice (Rect.unit (s := S2x128x9216) ![0, 0, 8448] S2x128x256.size inb_S2x128x9216_S2x128x256_0_0_8448) (fun _ => rfl))
    ((harg17.wordExact_slice rfl _ wordsbf16_S3x2x128x256_S1x2x128x256_0_0_0_0).reshape _ _) (harg7.wordExact_slice rfl _ wordsbf16_S2x128x9216_S2x128x256_0_0_8448))
  Prog.lift (.waitDma2 ((arg21.slice (Rect.unit (s := S3) ![1] S1.size inb_S3_S1_1)).squeeze S_ squeezes_S1_S_).sem
    ((arg16.slice (Rect.unit (s := S3x2x2304x256) ![1, 0, 0, 0] S1x2x2304x256.size inb_S3x2x2304x256_S1x2x2304x256_1_0_0_0) (fun _ => rfl)).squeeze S2x2304x256 squeezes_S1x2x2304x256_S2x2304x256)
    (arg8.slice (Rect.unit (s := S2x2304x9216) ![0, 0, 8704] S2x2304x256.size inb_S2x2304x9216_S2x2304x256_0_0_8704) (fun _ => rfl))
    ((harg16.wordExact_slice rfl _ wordsfp8e4m3_S3x2x2304x256_S1x2x2304x256_1_0_0_0).reshape _ _) (harg8.wordExact_slice rfl _ wordsfp8e4m3_S2x2304x9216_S2x2304x256_0_0_8704))
  Prog.lift (.waitDma2 ((arg22.slice (Rect.unit (s := S3) ![1] S1.size inb_S3_S1_1)).squeeze S_ squeezes_S1_S_).sem
    ((arg17.slice (Rect.unit (s := S3x2x128x256) ![1, 0, 0, 0] S1x2x128x256.size inb_S3x2x128x256_S1x2x128x256_1_0_0_0) (fun _ => rfl)).squeeze S2x128x256 squeezes_S1x2x128x256_S2x128x256)
    (arg7.slice (Rect.unit (s := S2x128x9216) ![0, 0, 8704] S2x128x256.size inb_S2x128x9216_S2x128x256_0_0_8704) (fun _ => rfl))
    ((harg17.wordExact_slice rfl _ wordsbf16_S3x2x128x256_S1x2x128x256_1_0_0_0).reshape _ _) (harg7.wordExact_slice rfl _ wordsbf16_S2x128x9216_S2x128x256_0_0_8704))
  Prog.lift (.waitDma2 ((arg21.slice (Rect.unit (s := S3) ![2] S1.size inb_S3_S1_2)).squeeze S_ squeezes_S1_S_).sem
    ((arg16.slice (Rect.unit (s := S3x2x2304x256) ![2, 0, 0, 0] S1x2x2304x256.size inb_S3x2x2304x256_S1x2x2304x256_2_0_0_0) (fun _ => rfl)).squeeze S2x2304x256 squeezes_S1x2x2304x256_S2x2304x256)
    (arg8.slice (Rect.unit (s := S2x2304x9216) ![0, 0, 8960] S2x2304x256.size inb_S2x2304x9216_S2x2304x256_0_0_8960) (fun _ => rfl))
    ((harg16.wordExact_slice rfl _ wordsfp8e4m3_S3x2x2304x256_S1x2x2304x256_2_0_0_0).reshape _ _) (harg8.wordExact_slice rfl _ wordsfp8e4m3_S2x2304x9216_S2x2304x256_0_0_8960))
  Prog.lift (.waitDma2 ((arg22.slice (Rect.unit (s := S3) ![2] S1.size inb_S3_S1_2)).squeeze S_ squeezes_S1_S_).sem
    ((arg17.slice (Rect.unit (s := S3x2x128x256) ![2, 0, 0, 0] S1x2x128x256.size inb_S3x2x128x256_S1x2x128x256_2_0_0_0) (fun _ => rfl)).squeeze S2x128x256 squeezes_S1x2x128x256_S2x128x256)
    (arg7.slice (Rect.unit (s := S2x128x9216) ![0, 0, 8960] S2x128x256.size inb_S2x128x9216_S2x128x256_0_0_8960) (fun _ => rfl))
    ((harg17.wordExact_slice rfl _ wordsbf16_S3x2x128x256_S1x2x128x256_2_0_0_0).reshape _ _) (harg7.wordExact_slice rfl _ wordsbf16_S2x128x9216_S2x128x256_0_0_8960))
  pure ⟨⟩

end Prog

section Steps
variable (c : Dev nD)
local notation "𝕄" => MT nD τ sig Unit (Elt F) ℕ (Pipeline.UD sig nD τ) ℕ

variable (arg4 : Memref sig .tc .smem S18x72 .i32) (arg5 : Memref sig .tc .vmem S72x128 .f32)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- What the third loop only reads. -/
def Known : sProp 𝕄 :=
  iprop(KV (c : Thread nD τ) arg12.view Finset.univ fullShare (is G12) ∗ KV (c : Thread nD τ) arg15.view Finset.univ fullShare (is E15)
    ∗ KV (c : Thread nD τ) arg4.view Finset.univ fullShare (is S4) ∗ KV (c : Thread nD τ) arg13.view Finset.univ fullShare (is H13)
    ∗ KV (c : Thread nD τ) arg10.view Finset.univ fullShare (is W10) ∗ KV (c : Thread nD τ) arg11.view Finset.univ fullShare (is X11)
    ∗ KV (c : Thread nD τ) arg5.view Finset.univ fullShare (is B5))

/-- What is held before trip `t`. -/
def Inv3 (t : Nat) : sProp 𝕄 :=
  iprop(bigSep Finset.univ (slotSt c arg7 arg8 arg16 arg17 arg21 arg22 S4 B5 W10 X11 G12 H13 E15 t)
    ∗ KV (c : Thread nD τ) arg8.view (out8 t) fullShare (P8 W10 G12 E15 t)
    ∗ KV (c : Thread nD τ) arg7.view (out7 t) fullShare (P7 S4 B5 W10 X11 G12 H13 E15 t)
    ∗ KV (c : Thread nD τ) arg9.view Finset.univ fullShare (upTo (K9 t 0 0) (T9 S4 E15))
    ∗ Known c arg4 arg5 arg10 arg11 arg12 arg13 arg15 S4 B5 W10 X11 G12 H13 E15
    ∗ (∃ W, owes (c : Thread nD τ) 0 W))

/-- A trip takes one to the next. -/
theorem body3_wp (t : T3) :
    Inv3 c arg4 arg5 arg7 arg8 arg9 arg10 arg11 arg12 arg13 arg15 arg16 arg17 arg21 arg22 S4 B5 W10 X11 G12 H13 E15 t.val
      ⊢ WP (body3 arg7 harg7 arg8 harg8 arg4 arg5 arg9 arg10 arg11 arg12 arg13 arg15 arg16 harg16 arg17 harg17 arg21 arg22 t ())
        (fun _ => Inv3 c arg4 arg5 arg7 arg8 arg9 arg10 arg11 arg12 arg13 arg15 arg16 arg17 arg21 arg22 S4 B5 W10 X11 G12 H13 E15 (t.val + 1)) := by
  unfold Inv3 body3
  rw [show ∀ Φ : Fin 3 → sProp 𝕄, bigSep Finset.univ Φ = iprop(Φ (slotOf t.val) ∗ bigSep (Finset.univ.erase (slotOf t.val)) Φ) from fun Φ => bigSep_univ_split (slotOf t.val),
    show ∀ Φ : Fin 3 → sProp 𝕄, bigSep Finset.univ Φ = iprop(Φ (slotOf t.val) ∗ bigSep (Finset.univ.erase (slotOf t.val)) Φ) from fun Φ => bigSep_univ_split (slotOf t.val),
    slotSt_next, bigSep_congr (s := Finset.univ.erase (slotOf t.val)) (Φ := slotSt c arg7 arg8 arg16 arg17 arg21 arg22 S4 B5 W10 X11 G12 H13 E15 (t.val + 1))
      (fun s hs => slotSt_other c arg7 arg8 arg16 arg17 arg21 arg22 S4 B5 W10 X11 G12 H13 E15 t.val s (Finset.ne_of_mem_erase hs))]
  iintro ⟨⟨HS, HR⟩, H8, H7, H9, HN, HW⟩
  rw [wp_bind]
  iapply (pre_wp c arg7 harg7 arg8 harg8 arg16 harg16 arg17 harg17 arg21 arg22 S4 B5 W10 X11 G12 H13 E15 t) $$ [HS H8 H7 HW]
  · isplitl [HS]; · iexact HS
    isplitl [H8]; · iexact H8
    isplitl [H7]; · iexact H7
    iexact HW
  unfold Free Known
  iintro ⟨⟨⟨H16, S21⟩, ⟨H17, S22⟩⟩, H8, H7, HW⟩
  icases HN with ⟨H12, H15, H4, H13, H10, H11, H5⟩
  rw [wp_bind]
  iapply (mid_wp c arg4 arg5 arg9 arg10 arg11 arg12 arg13 arg15 arg16 harg16 arg17 harg17 S4 B5 W10 X11 G12 H13 E15 t) $$ [H16 H17 H9 H12 H15 H4 H13 H10 H11 H5]
  · unfold MidRes TileRes
    isplitl [H16 H9 H12 H15 H4 H13 H10 H11]
    · isplitl [H16 H9 H12 H15]
      · isplitl [H9]; · iexact H9
        isplitl [H16]
        · rw [show slot16 (slotOf t.val).val = slot16 t.val from slot16_mod _]
          iapply (KV_mono (c : Thread nD τ) ?_) $$ H16
          intro i _ x _ hK
          unfold K16 at hK
          omega
        isplitl [H12] <;> iassumption
      isplitl [H4]; · iexact H4
      isplitl [H13]; · iexact H13
      isplitl [H10] <;> iassumption
    isplitl [H5]; · iexact H5
    rw [show slot17 (slotOf t.val).val = slot17 t.val from slot17_mod _]
    iapply (KV_mono (c : Thread nD τ) ?_) $$ H17
    intro i _ x _ hK
    unfold K17 at hK
    omega
  unfold MidRes TileRes
  iintro ⟨⟨⟨H9, H16, H12, H15⟩, H4, H13, H10, H11⟩, H5, H17⟩
  ihave H8 := (take8 c arg8 W10 G12 E15 t.val) $$ H8
  icases H8 with ⟨B8, H8⟩
  ihave H7 := (take7 c arg7 S4 B5 W10 X11 G12 H13 E15 t.val) $$ H7
  icases H7 with ⟨B7, H7⟩
  iapply (post_wp c arg7 harg7 arg8 harg8 arg16 harg16 arg17 harg17 arg21 arg22 S4 B5 W10 X11 G12 H13 E15 t) $$ [H16 H17 B8 B7 S21 S22]
  · isplitl [H16 B8 S21]
    · isplitl [H16]
      · iapply (KV_mono (c : Thread nD τ) ?_) $$ H16
        intro i _ x hx
        refine hx ?_
        have h2 : (i 2).val < 2304 := (i 2).isLt
        have h3 : (i 3).val < 256 := (i 3).isLt
        unfold K16
        omega
      isplitl [B8] <;> iassumption
    · isplitl [H17]
      · iapply (KV_mono (c : Thread nD τ) ?_) $$ H17
        intro i _ x hx
        refine hx ?_
        have h2 : (i 1).val < 2 := (i 1).isLt
        have h3 : (i 3).val < 256 := (i 3).isLt
        unfold K17
        omega
      isplitl [B7] <;> iassumption
  iintro HB
  isplitl [HB HR]
  · isplitl [HB] <;> iassumption
  isplitl [H8]; · iexact H8
  isplitl [H7]; · iexact H7
  isplitl [H9]
  · iapply (KV_mono (c : Thread nD τ) ?_) $$ H9
    intro i _ x hx hK
    refine hx ?_
    have h1 : (i 1).val < 18 := (i 1).isLt
    unfold K9 at hK ⊢
    omega
  isplitl [H12 H15 H4 H13 H10 H11 H5]
  · isplitl [H12]; · iexact H12
    isplitl [H15]; · iexact H15
    isplitl [H4]; · iexact H4
    isplitl [H13]; · iexact H13
    isplitl [H10]; · iexact H10
    isplitl [H11] <;> iassumption
  iexact HW

/-- The waits after the loop bring everything home. -/
theorem drain_wp (Q : PUnit → sProp 𝕄) :
    Inv3 c arg4 arg5 arg7 arg8 arg9 arg10 arg11 arg12 arg13 arg15 arg16 arg17 arg21 arg22 S4 B5 W10 X11 G12 H13 E15 36
      ⊢ iprop((iprop((Free c arg16 arg17 arg21 arg22 0 ∗ Free c arg16 arg17 arg21 arg22 1 ∗ Free c arg16 arg17 arg21 arg22 2)
          ∗ KV (c : Thread nD τ) arg8.view Finset.univ fullShare (is (WC W10 G12 E15))
          ∗ KV (c : Thread nD τ) arg7.view Finset.univ fullShare (is (YC S4 B5 W10 X11 G12 H13 E15))
          ∗ KV (c : Thread nD τ) arg9.view Finset.univ fullShare (is (T9 S4 E15))
          ∗ Known c arg4 arg5 arg10 arg11 arg12 arg13 arg15 S4 B5 W10 X11 G12 H13 E15
          ∗ (∃ W, owes (c : Thread nD τ) 0 W)) -∗ Q ⟨⟩)
        -∗ WP (drain arg7 harg7 arg8 harg8 arg16 harg16 arg17 harg17 arg21 arg22) Q) := by
  unfold Inv3 drain
  have h3 : ∀ Φ : Fin 3 → sProp 𝕄, bigSep Finset.univ Φ = iprop(Φ 0 ∗ Φ 1 ∗ Φ 2) := by
    intro Φ
    rw [bigSep_univ_split (0 : Fin 3), show (Finset.univ.erase 0 : Finset (Fin 3)) = insert 1 {2} by decide,
      BI.bigSep_insert (by decide), BI.bigSep_singleton]
    rfl
  rw [h3]
  have s0 := slotSt_now c arg7 arg8 arg16 arg17 arg21 arg22 S4 B5 W10 X11 G12 H13 E15 36 (by decide)
  have s1 : slotSt c arg7 arg8 arg16 arg17 arg21 arg22 S4 B5 W10 X11 G12 H13 E15 36 1 = Busy c arg7 arg8 arg16 arg17 arg21 arg22 S4 B5 W10 X11 G12 H13 E15 1 34 := if_pos (by decide)
  have s2 : slotSt c arg7 arg8 arg16 arg17 arg21 arg22 S4 B5 W10 X11 G12 H13 E15 36 2 = Busy c arg7 arg8 arg16 arg17 arg21 arg22 S4 B5 W10 X11 G12 H13 E15 2 35 := if_pos (by decide)
  replace s0 : slotSt c arg7 arg8 arg16 arg17 arg21 arg22 S4 B5 W10 X11 G12 H13 E15 36 0 = Busy c arg7 arg8 arg16 arg17 arg21 arg22 S4 B5 W10 X11 G12 H13 E15 0 33 := s0
  rw [s0, s1, s2]
  unfold Busy
  iintro ⟨⟨⟨F1, F2⟩, ⟨F3, F4⟩, ⟨F5, F6⟩⟩, H8, H7, H9, HN, HW⟩ HK
  rw [wp_bind]
  iapply (waitAt Variants.none (c : Thread nD τ) none countersEmb () (sem_eq arg21 _ _ (0 : Fin 3) rfl) rfl) $$ [F1 HW]
  · isplitl [F1]; · iexact F1
    iexact HW
  iintro ⟨⟨B1, D1⟩, S1, HW⟩
  rw [wp_bind]
  iapply (waitAt Variants.none (c : Thread nD τ) none countersEmb () (sem_eq arg22 _ _ (0 : Fin 3) rfl) rfl) $$ [F2 HW]
  · isplitl [F2]; · iexact F2
    iexact HW
  iintro ⟨⟨B2, D2⟩, S2, HW⟩
  rw [wp_bind]
  iapply (waitAt Variants.none (c : Thread nD τ) none countersEmb () (sem_eq arg21 _ _ (1 : Fin 3) rfl) rfl) $$ [F3 HW]
  · isplitl [F3]; · iexact F3
    iexact HW
  iintro ⟨⟨B3, D3⟩, S3, HW⟩
  rw [wp_bind]
  iapply (waitAt Variants.none (c : Thread nD τ) none countersEmb () (sem_eq arg22 _ _ (1 : Fin 3) rfl) rfl) $$ [F4 HW]
  · isplitl [F4]; · iexact F4
    iexact HW
  iintro ⟨⟨B4, D4⟩, S4', HW⟩
  rw [wp_bind]
  iapply (waitAt Variants.none (c : Thread nD τ) none countersEmb () (sem_eq arg21 _ _ (2 : Fin 3) rfl) rfl) $$ [F5 HW]
  · isplitl [F5]; · iexact F5
    iexact HW
  iintro ⟨⟨B5', D5⟩, S5, HW⟩
  rw [wp_bind]
  iapply (waitAt Variants.none (c : Thread nD τ) none countersEmb () (sem_eq arg22 _ _ (2 : Fin 3) rfl) rfl) $$ [F6 HW]
  · isplitl [F6]; · iexact F6
    iexact HW
  iintro ⟨⟨B6, D6⟩, S6, HW⟩
  iapply (pureStep Variants.none (c : Thread nD τ) none Set.univ ⟨⟩ rfl)
  iapply HK
  unfold Free
  isplitl [D1 D2 D3 D4 D5 D6 S1 S2 S3 S4' S5 S6]
  · isplitl [D1 D2 S1 S2]
    · isplitl [D1 S1]
      · isplitl [D1]; · iexact D1
        iexact S1
      · isplitl [D2]; · iexact D2
        iexact S2
    isplitl [D3 D4 S3 S4']
    · isplitl [D3 S3]
      · isplitl [D3]; · iexact D3
        iexact S3
      · isplitl [D4]; · iexact D4
        iexact S4'
    · isplitl [D5 S5]
      · isplitl [D5]; · iexact D5
        iexact S5
      · isplitl [D6]; · iexact D6
        iexact S6
  isplitl [H8 B1 B3 B5']
  · have e36 : out8' 36 = out8 37 := by
      ext i; rw [out8, out8', mem_cells, mem_cells]; have : (i 2).val < 9216 := (i 2).isLt; omega
    have e37 : out8' 37 = out8 38 := by
      ext i; rw [out8, out8', mem_cells, mem_cells]; have : (i 2).val < 9216 := (i 2).isLt; omega
    have e38 : out8' 38 = Finset.univ := by
      ext i; rw [out8', mem_cells]; have : (i 2).val < 9216 := (i 2).isLt; simp; omega
    ihave H8 := (join8 c arg8 W10 G12 E15 36 (by decide)) $$ [H8 B1]
    · isplitl [H8] <;> iassumption
    rw [e36]
    ihave H8 := (join8 c arg8 W10 G12 E15 37 (by decide)) $$ [H8 B3]
    · isplitl [H8] <;> iassumption
    rw [e37]
    ihave H8 := (join8 c arg8 W10 G12 E15 38 (by decide)) $$ [H8 B5']
    · isplitl [H8] <;> iassumption
    rw [e38]
    iapply (KV_mono (c : Thread nD τ) ?_) $$ H8
    intro i _ x hx
    have : (i 2).val < 9216 := (i 2).isLt
    exact hx (by omega)
  isplitl [H7 B2 B4 B6]
  · have e36 : out7' 36 = out7 37 := by
      ext i; rw [out7, out7', mem_cells, mem_cells]; have : (i 2).val < 9216 := (i 2).isLt; omega
    have e37 : out7' 37 = out7 38 := by
      ext i; rw [out7, out7', mem_cells, mem_cells]; have : (i 2).val < 9216 := (i 2).isLt; omega
    have e38 : out7' 38 = Finset.univ := by
      ext i; rw [out7', mem_cells]; have : (i 2).val < 9216 := (i 2).isLt; simp; omega
    ihave H7 := (join7 c arg7 S4 B5 W10 X11 G12 H13 E15 36 (by decide)) $$ [H7 B2]
    · isplitl [H7] <;> iassumption
    rw [e36]
    ihave H7 := (join7 c arg7 S4 B5 W10 X11 G12 H13 E15 37 (by decide)) $$ [H7 B4]
    · isplitl [H7] <;> iassumption
    rw [e37]
    ihave H7 := (join7 c arg7 S4 B5 W10 X11 G12 H13 E15 38 (by decide)) $$ [H7 B6]
    · isplitl [H7] <;> iassumption
    rw [e38]
    iapply (KV_mono (c : Thread nD τ) ?_) $$ H7
    intro i _ x hx
    have : (i 2).val < 9216 := (i 2).isLt
    exact hx (by omega)
  isplitl [H9]
  · iapply (KV_mono (c : Thread nD τ) ?_) $$ H9
    intro i _ x hx
    refine hx ?_
    have h2 : (i 2).val < 72 := (i 2).isLt
    unfold K9
    omega
  isplitl [HN]; · iexact HN
  iexact HW

end Steps

end Cert.Kernel.Roll
-- ==== Proof.Parts.lean ====
/-
  Copies that move an array piece by piece: what the pieces at rest and in flight hold.
-/
module

public import proofs.«01_k».proof.Proof.Cells

@[expose] public section

noncomputable section

namespace Cert.Cells

open Idealize.ShloMosaic Idealize.ShloMosaic.TcCoe
open Idealize.SL Idealize.SL.RA Idealize.ShloMosaic.Transfers
open Idealize.SL.BI (sProp Storable bigSep bigSep_univ_split bigSep_congr)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} [Preorder Lvl]
local notation "𝕄" => MT nD τ sig Ix Val Name U Lvl

/-- Those below `k` are `A`, the others `B`. -/
def prog {n : Nat} (A B : Fin n → sProp (MT nD τ sig Ix Val Name U Lvl)) (k : Nat) (i : Fin n) : sProp (MT nD τ sig Ix Val Name U Lvl) :=
  if i.val < k then A i else B i

/-- One more becomes `A`. -/
theorem prog_step {n : Nat} (A B : Fin n → sProp (MT nD τ sig Ix Val Name U Lvl)) (k : Nat) (i : Fin n) (h : i.val = k) :
    bigSep Finset.univ (prog A B k) ⊢ iprop(B i ∗ (A i -∗ bigSep Finset.univ (prog A B (k + 1)))) := by
  rw [show bigSep Finset.univ (prog A B k) = iprop(prog A B k i ∗ bigSep (Finset.univ.erase i) (prog A B k)) from bigSep_univ_split i,
    show bigSep Finset.univ (prog A B (k + 1)) = iprop(prog A B (k + 1) i ∗ bigSep (Finset.univ.erase i) (prog A B (k + 1))) from bigSep_univ_split i,
    bigSep_congr (s := Finset.univ.erase i) (Φ := prog A B (k + 1)) (Ψ := prog A B k) (fun j hj => by
      have h' : j.val ≠ k := fun e => Finset.ne_of_mem_erase hj (Fin.ext (e.trans h.symm))
      unfold prog
      by_cases hs : j.val < k
      · rw [if_pos hs, if_pos (by omega)]
      · rw [if_neg hs, if_neg (by omega)]),
    show prog A B k i = B i from if_neg (by omega), show prog A B (k + 1) i = A i from if_pos (by omega)]
  iintro ⟨HB, HR⟩
  isplitl [HB]; · iexact HB
  iintro HA
  isplitl [HA] <;> iassumption

theorem prog_zero {n : Nat} (A B : Fin n → sProp (MT nD τ sig Ix Val Name U Lvl)) : bigSep Finset.univ (prog A B 0) = bigSep Finset.univ B :=
  bigSep_congr fun i _ => if_neg (Nat.not_lt_zero _)

theorem prog_all {n : Nat} (A B : Fin n → sProp (MT nD τ sig Ix Val Name U Lvl)) : bigSep Finset.univ (prog A B n) = bigSep Finset.univ A :=
  bigSep_congr fun i _ => if_pos i.isLt

theorem sepE {I : Type} (T : Finset I) (A B : I → sProp (MT nD τ sig Ix Val Name U Lvl)) :
    bigSep T (fun k => iprop(A k ∗ B k)) = iprop(bigSep T A ∗ bigSep T B) := BI.bigSep_sep T A B

section Parts
variable (c : Thread nD τ) {sp : Space} {s : Shape} {e : EltTy} (v : View sig c.2.kind sp s e)
  (q : PosShare TreeShare) (P : s.Idx → Val e → Prop)

/-- A buffer in the parts a labelling of its indices makes. -/
theorem KV_parts {n : Nat} (f : s.Idx → Fin n) (T : Finset (Fin n)) :
    ((KV c v (cells fun i => f i ∈ T) q P : sProp 𝕄) ⊢ bigSep T fun k => KV c v (cells fun i => f i = k) q P)
    ∧ (T.Nonempty → ((bigSep T fun k => KV c v (cells fun i => f i = k) q P : sProp 𝕄) ⊢ KV c v (cells fun i => f i ∈ T) q P)) := by
  classical
  induction T using Finset.induction_on with
  | empty =>
    refine ⟨?_, fun h => absurd h Finset.not_nonempty_empty⟩
    rw [BI.bigSep_empty]
    have e0 : (cells fun i => f i ∈ (∅ : Finset (Fin n))) = ∅ := by ext i; rw [mem_cells]; simp
    rw [e0]
    unfold KV
    iintro ⟨%g, %hg, H⟩
    rw [show v.setOn (∅ : Finset s.Idx) = ∅ from Finset.map_empty _, pointsTo_empty]
    iempintro
  | insert a T ha ih =>
    have hd : Disjoint (cells fun i => f i = a) (cells fun i => f i ∈ T) := by
      rw [Finset.disjoint_left]; intro i hi hj
      rw [mem_cells] at hi hj; exact ha (hi ▸ hj)
    have hu : (cells fun i => f i ∈ insert a T) = (cells fun i => f i = a) ∪ (cells fun i => f i ∈ T) := by
      ext i; rw [Finset.mem_union, mem_cells, mem_cells, mem_cells, Finset.mem_insert]
    have hb : (bigSep (insert a T) fun k => KV c v (cells fun i => f i = k) q P : sProp 𝕄)
        = iprop(KV c v (cells fun i => f i = a) q P ∗ bigSep T fun k => KV c v (cells fun i => f i = k) q P) := BI.bigSep_insert ha
    rw [hu, hb]
    constructor
    · refine (KV_union c hd).trans ?_
      iintro ⟨H1, H2⟩
      isplitl [H1]; · iexact H1
      iapply ih.1 $$ H2
    · intro _
      rcases T.eq_empty_or_nonempty with rfl | hT
      · rw [BI.bigSep_empty]
        have e0 : (cells fun i => f i ∈ (∅ : Finset (Fin n))) = ∅ := by ext i; rw [mem_cells]; simp
        rw [e0, Finset.union_empty]
        iintro ⟨H1, H2⟩
        iexact H1
      · iintro ⟨H1, H2⟩
        iapply (KV_join c hd)
        isplitl [H1]; · iexact H1
        iapply (ih.2 hT) $$ H2

theorem KV_split {n : Nat} (f : s.Idx → Fin n) :
    (KV c v Finset.univ q P : sProp 𝕄) ⊢ bigSep Finset.univ fun k => KV c v (cells fun i => f i = k) q P := by
  refine (KV_congr_set c ?_).trans (KV_parts c v q P f Finset.univ).1
  ext i; rw [mem_cells]; simp

theorem KV_unite {n : Nat} (hn : 0 < n) (f : s.Idx → Fin n) :
    (bigSep Finset.univ (fun k => KV c v (cells fun i => f i = k) q P) : sProp 𝕄) ⊢ KV c v Finset.univ q P := by
  refine ((KV_parts c v q P f Finset.univ).2 ⟨⟨0, hn⟩, Finset.mem_univ _⟩).trans (KV_congr_set c ?_)
  ext i; rw [mem_cells]; simp

end Parts

end Cert.Cells

end
-- ==== Proof.Bits.Fetch.lean ====
/-
  The first and the second loop: the blocks of the weight are sent for, and each is waited for; the block exponents are
  copied into scalar memory on the way.
-/
module

public import proofs.«01_k».proof.Proof.Bits.Ring
public import proofs.«01_k».proof.Proof.Parts

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.Kernel Cert.Kernel.Gen Cert.Cells Idealize.ShloMosaic.Transfers

variable {F : FTy → Type} [FloatOps F]

/-! ## Offsets -/

theorem trips1 : k0_t1_loop.trips = 36 := by decide +kernel
theorem trips2 : k0_t2_loop.trips = 9 := by decide +kernel

/-- The trip numbers of the three loops. -/
def up1 (t : Fin k0_t1_loop.trips) : Fin 36 := ⟨t.val, trips1 ▸ t.isLt⟩
def up2 (t : Fin k0_t2_loop.trips) : Fin 9 := ⟨t.val, trips2 ▸ t.isLt⟩
/-- The block a wait of the second loop is for. -/
def quad (t : Fin k0_t2_loop.trips) (j : Fin 4) : Fin 36 := ⟨4 * t.val + j.val, by have := (up2 t).isLt; have : t.val < 9 := this; omega⟩

set_option maxRecDepth 65536 in
theorem off1_eq (t : Fin k0_t1_loop.trips) : k0_off1 t 0 = (up1 t).val := by revert t; decide +kernel
set_option maxRecDepth 65536 in
theorem off2_eq (t : Fin k0_t1_loop.trips) : k0_off2 t = ![t.val, 0, 0] := by revert t; decide +kernel
set_option maxRecDepth 65536 in
theorem off3_eq (t : Fin k0_t1_loop.trips) : k0_off3 t = ![0, 256 * t.val] := by revert t; decide +kernel
set_option maxRecDepth 65536 in
theorem off4_eq (t : Fin k0_t2_loop.trips) (j : Fin 4) : k0_off4 t (BitVec.ofNat 32 j.val) 0 = (quad t j).val := by revert t j; decide +kernel
set_option maxRecDepth 65536 in
theorem off7_eq (t : Fin k0_t2_loop.trips) : k0_off7 t = ![t.val, 0, 0] := by revert t; decide +kernel
set_option maxRecDepth 65536 in
theorem off8_eq (t : Fin k0_t2_loop.trips) : k0_off8 t 0 = (up2 t).val := by revert t; decide +kernel
set_option maxRecDepth 65536 in
theorem off9_eq (t : Fin k0_t2_loop.trips) : k0_off9 t = ![t.val, 0, 0] := by revert t; decide +kernel

theorem pay442_eq (v : Vec F S1x8x128 .i32) : k0_pay442 v = v := by
  funext j
  show v (Shape.reshapeEquiv _ (Shape.reshapeEquiv _ j)) = v j
  rw [Shape.reshapeEquiv_reshapeEquiv, Shape.reshapeEquiv_self]

/-! ## Blocks -/

/-- The block a column of the weight is in, the slot it goes to, and the row group of an exponent. -/
def ofCol (i : S2304x9216.Idx) : Fin 36 := ⟨(i 1).val / 256, by have : (i 1).val < 9216 := (i 1).isLt; omega⟩
def ofSlot (i : S36x2304x256.Idx) : Fin 36 := i 0
def ofGroup (i : S9x8x128.Idx) : Fin 9 := i 0

def colW (k : Fin 36) : Finset S2304x9216.Idx := cells fun i => ofCol i = k
def slotW (k : Fin 36) : Finset S36x2304x256.Idx := cells fun i => ofSlot i = k
def grpE (k : Fin 9) : Finset S9x8x128.Idx := cells fun i => ofGroup i = k

theorem slotW_set (t : Fin k0_t1_loop.trips) : (Rect.unit (s := S36x2304x256) (k0_off2 t) S1x2304x256.size (k0_off2_inb t)).set = slotW (up1 t) := by
  ext i
  rw [Rect.mem_set_unit, slotW, mem_cells, off2_eq]
  have h1 : (i 1).val < 2304 := (i 1).isLt
  have h2 : (i 2).val < 256 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 2304 by omega)⟩
    | 2 => exact ⟨Nat.zero_le _, (show (i 2).val < 0 + 256 by omega)⟩

theorem colW_set (t : Fin k0_t1_loop.trips) : (Rect.unit (s := S2304x9216) (k0_off3 t) S2304x256.size (k0_off3_inb t)).set = colW (up1 t) := by
  ext i
  rw [Rect.mem_set_unit, colW, mem_cells, off3_eq]
  have h0 : (i 0).val < 2304 := (i 0).isLt
  constructor
  · intro h
    have h1 : 256 * t.val ≤ (i 1).val ∧ (i 1).val < 256 * t.val + 256 := h 1
    exact Fin.ext (by show (i 1).val / 256 = t.val; omega)
  · intro h a
    have h1 : (i 1).val / 256 = t.val := congrArg Fin.val h
    match a with
    | 0 => exact ⟨Nat.zero_le _, (show (i 0).val < 0 + 2304 by omega)⟩
    | 1 => exact ⟨(show 256 * t.val ≤ (i 1).val by omega), (show (i 1).val < 256 * t.val + 256 by omega)⟩

theorem grpE_set7 (t : Fin k0_t2_loop.trips) : (Rect.unit (s := S9x8x128) (k0_off7 t) S1x8x128.size (k0_off7_inb t)).set = grpE (up2 t) := by
  ext i
  rw [Rect.mem_set_unit, grpE, mem_cells, off7_eq]
  have h1 : (i 1).val < 8 := (i 1).isLt
  have h2 : (i 2).val < 128 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 8 by omega)⟩
    | 2 => exact ⟨Nat.zero_le _, (show (i 2).val < 0 + 128 by omega)⟩

theorem grpE_set9 (t : Fin k0_t2_loop.trips) : (Rect.unit (s := S9x8x128) (k0_off9 t) S1x8x128.size (k0_off9_inb t)).set = grpE (up2 t) := by
  ext i
  rw [Rect.mem_set_unit, grpE, mem_cells, off9_eq]
  have h1 : (i 1).val < 8 := (i 1).isLt
  have h2 : (i 2).val < 128 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 8 by omega)⟩
    | 2 => exact ⟨Nat.zero_le _, (show (i 2).val < 0 + 128 by omega)⟩

/-- The weight laid out by blocks of columns. -/
def W10T (X3 : S2304x9216.Idx → Elt F .fp8e4m3) (i : S36x2304x256.Idx) : Elt F .fp8e4m3 :=
  X3 (ix2 (i 1) (⟨256 * (i 0).val + (i 2).val, by have h0 : (i 0).val < 36 := (i 0).isLt; have h2 : (i 2).val < 256 := (i 2).isLt; omega⟩ : Fin 9216))

theorem W10T_blk (X3 : S2304x9216.Idx → Elt F .fp8e4m3) (t : Fin k0_t1_loop.trips) (j : S2304x256.Idx) (hn : S2304x256.numel = S1x2304x256.numel) :
    X3 ((Rect.unit (s := S2304x9216) (k0_off3 t) S2304x256.size (k0_off3_inb t)).emb j)
      = W10T X3 ((Rect.unit (s := S36x2304x256) (k0_off2 t) S1x2304x256.size (k0_off2_inb t)).emb (Shape.reshapeEquiv hn j)) := by
  have hj : j = ix2 (j 0) (j 1) := by funext a; match a with | 0 => rfl | 1 => rfl
  have v := fun a => (unit_val (s := S2304x9216) (k0_off3 t) S2304x256.size (k0_off3_inb t) j a).trans (congrArg (· + _) (congrFun (off3_eq t) a))
  have v0 := v 0; have v1 := v 1
  replace v0 : _ = 0 + (j 0).val := v0
  replace v1 : _ = 256 * t.val + (j 1).val := v1
  rw [show Shape.reshapeEquiv hn j = ix3 (⟨0, Nat.one_pos⟩ : Fin 1) (j 0) (j 1) from by
    conv_lhs => rw [hj]
    exact reshapeEquiv_ix2_1ab hn _ _]
  have u := fun a => (unit_val (s := S36x2304x256) (k0_off2 t) S1x2304x256.size (k0_off2_inb t) (ix3 (⟨0, Nat.one_pos⟩ : Fin 1) (j 0) (j 1)) a).trans (congrArg (· + _) (congrFun (off2_eq t) a))
  have u0 := u 0; have u1 := u 1; have u2 := u 2
  replace u0 : _ = t.val + 0 := u0
  replace u1 : _ = 0 + (j 0).val := u1
  replace u2 : _ = 0 + (j 1).val := u2
  unfold W10T
  congr 1
  funext a
  match a with
  | 0 => exact Fin.ext (v0.trans u1.symm)
  | 1 => exact Fin.ext (v1.trans ((by omega : 256 * t.val + (j 1).val = 256 * (t.val + 0) + (0 + (j 1).val)).trans (congrArg₂ (fun a b => 256 * a + b) u0 u2).symm))

/-! ## The loops -/

section Steps
variable (c : Dev nD)
local notation "𝕄" => MT nD τ sig Unit (Elt F) ℕ (Pipeline.UD sig nD τ) ℕ

variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X3 : S2304x9216.Idx → Elt F .fp8e4m3) (E6 : S9x8x128.Idx → Elt F .i32)

local notation "WP" => wp frame (wpE (defs₀ (F := F)) Variants.none (c : Thread nD τ) none) Set.univ

/-- The credits of a block's transfer, and of an exponent group's. -/
def NW : Nat := sig.dmaCredit .tc (Kind.tc.table .vmem) arg10.view.buf S2304x256 .fp8e4m3
def NE : Nat := sig.dmaCredit .tc (Kind.tc.table .smem) arg15.view.buf S8x128 .i32

/-- A block that has not been sent for, one on its way, and one that arrived. -/
def Idle (k : Fin 36) : sProp 𝕄 :=
  iprop(KV (c : Thread nD τ) arg3.view (colW k) fullShare (is X3) ∗ KV (c : Thread nD τ) arg10.view (slotW k) fullShare any
    ∗ semVal ((c : Thread nD τ), .dma (arg19.ix (ix1 k))) 0)
def Coming (k : Fin 36) : sProp 𝕄 :=
  Flight countersEmb (c : Thread nD τ) (.dma (arg19.ix (ix1 k))) () (NW arg10)
    iprop(KV (c : Thread nD τ) arg10.view (slotW k) fullShare (is (W10T X3)) ∗ KV (c : Thread nD τ) arg3.view (colW k) fullShare (is X3))
def Here (k : Fin 36) : sProp 𝕄 :=
  iprop((KV (c : Thread nD τ) arg10.view (slotW k) fullShare (is (W10T X3)) ∗ KV (c : Thread nD τ) arg3.view (colW k) fullShare (is X3))
    ∗ semVal ((c : Thread nD τ), .dma (arg19.ix (ix1 k))) 0)

/-- A group of exponents not yet copied, and one copied. -/
def Fresh (k : Fin 9) : sProp 𝕄 :=
  iprop(KV (c : Thread nD τ) arg14.view (grpE k) fullShare any ∗ KV (c : Thread nD τ) arg15.view (grpE k) fullShare any
    ∗ semVal ((c : Thread nD τ), .dma (arg20.ix (ix1 k))) 0)
def Copied (k : Fin 9) : sProp 𝕄 :=
  iprop((KV (c : Thread nD τ) arg15.view (grpE k) fullShare (is E6) ∗ KV (c : Thread nD τ) arg14.view (grpE k) fullShare (is E6))
    ∗ semVal ((c : Thread nD τ), .dma (arg20.ix (ix1 k))) 0)

/-- What is held before a trip of the first loop, and of the second. -/
def Inv1 (t : Nat) : sProp 𝕄 := bigSep Finset.univ (prog (Coming c arg3 arg10 arg19 X3) (Idle c arg3 arg10 arg19 X3) t)
def Inv2 (t : Nat) : sProp 𝕄 :=
  iprop(bigSep Finset.univ (prog (Here c arg3 arg10 arg19 X3) (Coming c arg3 arg10 arg19 X3) (4 * t))
    ∗ bigSep Finset.univ (prog (Copied c arg14 arg15 arg20 E6) (Fresh c arg14 arg15 arg20) t)
    ∗ KV (c : Thread nD τ) arg6.view Finset.univ fullShare (is E6)
    ∗ (∃ W, owes (c : Thread nD τ) 0 W))

local notation "ARGS" f => f arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22

theorem body1_wp (t : Fin k0_t1_loop.trips) :
    Inv1 c arg3 arg10 arg19 X3 t.val
      ⊢ WP (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 t ())
        (fun _ => Inv1 c arg3 arg10 arg19 X3 (t.val + 1)) := by
  unfold Inv1
  refine (prog_step _ _ t.val (up1 t) rfl).trans ?_
  unfold k0_t1_body
  dsimp only
  iintro ⟨HI, HK⟩
  rw [wp_bind]
  unfold Idle
  iapply (dmaIn Variants.none (c : Thread nD τ) none countersEmb () (NW arg10) X3 (W10T X3) (colW_set t) (slotW_set t)
    (fun j => W10T_blk X3 t j _) (sem_eq arg19 _ _ (up1 t) (off1_eq t)) rfl ?_) $$ HI
  · exact sig.dmaCredit_pos _ _ _ _ _ (by decide)
  iintro HF
  iapply (pureStep Variants.none (c : Thread nD τ) none Set.univ ⟨⟩ rfl)
  iapply HK
  unfold Coming
  iexact HF

theorem body2_wp (v329 : Vec F S2x2304 .f32) (v331 : FVec F S2x2304 .f32) (v332 : FVec F S1x2304 .f32) (v333 : Vec F S1x2304 .f32) (t : Fin k0_t2_loop.trips) :
    Inv2 c arg3 arg6 arg10 arg14 arg15 arg19 arg20 X3 E6 t.val
      ⊢ WP (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 v329 v331 v332 v333 t ())
        (fun _ => Inv2 c arg3 arg6 arg10 arg14 arg15 arg19 arg20 X3 E6 (t.val + 1)) := by
  unfold Inv2
  have hs : ∀ (j : Fin 4) (n m : Nat), 4 * t.val + j.val = n → n + 1 = m →
      bigSep Finset.univ (prog (Here c arg3 arg10 arg19 X3) (Coming c arg3 arg10 arg19 X3) n)
      ⊢ iprop(Flight countersEmb (c : Thread nD τ) (.dma (arg19.ix (ix1 (quad t j)))) () (NW arg10)
          iprop(KV (c : Thread nD τ) arg10.view (slotW (quad t j)) fullShare (is (W10T X3)) ∗ KV (c : Thread nD τ) arg3.view (colW (quad t j)) fullShare (is X3))
        ∗ (iprop((KV (c : Thread nD τ) arg10.view (slotW (quad t j)) fullShare (is (W10T X3)) ∗ KV (c : Thread nD τ) arg3.view (colW (quad t j)) fullShare (is X3))
            ∗ semVal ((c : Thread nD τ), .dma (arg19.ix (ix1 (quad t j)))) 0)
          -∗ bigSep Finset.univ (prog (Here c arg3 arg10 arg19 X3) (Coming c arg3 arg10 arg19 X3) m))) :=
    fun j n m hn hm => by subst hn hm; exact prog_step _ _ _ (quad t j) rfl
  have h0 := hs 0 (4 * t.val) _ rfl rfl
  have h1 := hs 1 _ _ rfl rfl
  have h2 := hs 2 _ _ rfl rfl
  have h3 := hs 3 _ (4 * (t.val + 1)) rfl rfl
  have hE : bigSep Finset.univ (prog (Copied c arg14 arg15 arg20 E6) (Fresh c arg14 arg15 arg20) t.val)
      ⊢ iprop(iprop(KV (c : Thread nD τ) arg14.view (grpE (up2 t)) fullShare any ∗ KV (c : Thread nD τ) arg15.view (grpE (up2 t)) fullShare any
          ∗ semVal ((c : Thread nD τ), .dma (arg20.ix (ix1 (up2 t)))) 0)
        ∗ (iprop((KV (c : Thread nD τ) arg15.view (grpE (up2 t)) fullShare (is E6) ∗ KV (c : Thread nD τ) arg14.view (grpE (up2 t)) fullShare (is E6))
            ∗ semVal ((c : Thread nD τ), .dma (arg20.ix (ix1 (up2 t)))) 0)
          -∗ bigSep Finset.univ (prog (Copied c arg14 arg15 arg20 E6) (Fresh c arg14 arg15 arg20) (t.val + 1)))) :=
    prog_step _ _ _ (up2 t) rfl
  unfold k0_t2_body
  rw [k0_part1_eq_skeleton]
  unfold k0_part1_skel
  dsimp only
  iintro ⟨HA, HE, H6, HW⟩
  rw [wp_bind, wp_bind]
  ihave HA := h0 $$ HA
  icases HA with ⟨HF, HA⟩
  iapply (waitAt Variants.none (c : Thread nD τ) none countersEmb () (sem_eq arg19 _ _ (quad t 0) (off4_eq t 0)) rfl) $$ [HF HW]
  · isplitl [HF]; · iexact HF
    iexact HW
  iintro ⟨HD, HS, HW⟩
  ihave HA := HA $$ [HD HS]
  · isplitl [HD] <;> iassumption
  rw [wp_bind]
  ihave HA := h1 $$ HA
  icases HA with ⟨HF, HA⟩
  iapply (waitAt Variants.none (c : Thread nD τ) none countersEmb () (sem_eq arg19 _ _ (quad t 1) (off4_eq t 1)) rfl) $$ [HF HW]
  · isplitl [HF]; · iexact HF
    iexact HW
  iintro ⟨HD, HS, HW⟩
  ihave HA := HA $$ [HD HS]
  · isplitl [HD] <;> iassumption
  rw [wp_bind]
  ihave HA := h2 $$ HA
  icases HA with ⟨HF, HA⟩
  iapply (waitAt Variants.none (c : Thread nD τ) none countersEmb () (sem_eq arg19 _ _ (quad t 2) (off4_eq t 2)) rfl) $$ [HF HW]
  · isplitl [HF]; · iexact HF
    iexact HW
  iintro ⟨HD, HS, HW⟩
  ihave HA := HA $$ [HD HS]
  · isplitl [HD] <;> iassumption
  iapply (pureStep Variants.none (c : Thread nD τ) none Set.univ _ rfl)
  rw [wp_bind]
  ihave HA := h3 $$ HA
  icases HA with ⟨HF, HA⟩
  iapply (waitAt Variants.none (c : Thread nD τ) none countersEmb () (sem_eq arg19 _ _ (quad t 3) (off4_eq t 3)) rfl) $$ [HF HW]
  · isplitl [HF]; · iexact HF
    iexact HW
  iintro ⟨HD, HS, HW⟩
  ihave HA := HA $$ [HD HS]
  · isplitl [HD] <;> iassumption
  ihave HE := hE $$ HE
  icases HE with ⟨HF, HE⟩
  icases HF with ⟨H14, H15, HS⟩
  rw [wp_bind]
  iapply (loadIs Variants.none (c : Thread nD τ) none Set.univ (Finset.subset_univ _)) $$ H6
  iintro H6
  rw [wp_bind]
  iapply (load Variants.none (c : Thread nD τ) none Set.univ (grpE_set7 t).le) $$ H14
  iintro %v - H14
  rw [wp_bind]
  iapply (store Variants.none (c : Thread nD τ) none Set.univ (is E6) (grpE_set7 t).le ?_ ?_) $$ H14
  · intro j
    rw [pay442_eq]
    rfl
  · intro i hi hn
    exact absurd ((grpE_set7 t).ge hi) hn
  iintro H14
  rw [wp_bind]
  iapply (dmaBoth Variants.none (c : Thread nD τ) none countersEmb () (NE arg15) E6 E6 (grpE_set9 t) (grpE_set9 t)
    (fun j => rfl) (sem_eq arg20 _ _ (up2 t) (off8_eq t)) rfl ?_) $$ [H14 H15 HS]
  · exact sig.dmaCredit_pos _ _ _ _ _ (by decide)
  · isplitl [H14]; · iexact H14
    isplitl [H15] <;> iassumption
  iintro HF
  rw [wp_bind]
  iapply (waitAt Variants.none (c : Thread nD τ) none countersEmb () (sem_eq arg20 _ _ (up2 t) (off8_eq t)) rfl) $$ [HF HW]
  · isplitl [HF]; · iexact HF
    iexact HW
  iintro ⟨HD, HS, HW⟩
  ihave HE := HE $$ [HD HS]
  · isplitl [HD] <;> iassumption
  iapply (pureStep Variants.none (c : Thread nD τ) none Set.univ ⟨⟩ rfl)
  isplitl [HA]; · iexact HA
  isplitl [HE]; · iexact HE
  isplitl [H6] <;> iassumption

end Steps

end Cert.Kernel.Roll
-- ==== Proof.Bits.Setup.lean ====
/-
  The whole kernel as a program: what its setup writes, and the triple of all of it.
-/
module

public import proofs.«01_k».proof.Proof.Bits.Fetch

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.Kernel Cert.Kernel.Gen Cert.Cells Idealize.ShloMosaic.Transfers

variable {F : FTy → Type} [FloatOps F]

/-! ## The setup as a program -/

def oM (b : Fin 2) (k : Fin 18) : Fin 2 → Nat := ![b.val, 128 * k.val]
theorem oM_inb (b : Fin 2) (k : Fin 18) : ∀ a, oM b k a + S1x128.size a ≤ S2x2304.size a := by
  intro a; fin_cases a <;> simp [oM, S1x128, S2x2304] <;> omega
def rM (b : Fin 2) (k : Fin 18) : Rect S2x2304 := Rect.unit (oM b k) S1x128.size (oM_inb b k)
def oGs (b : Fin 2) (k : Fin 18) : Fin 3 → Nat := ![b.val, 128 * k.val, 0]
theorem oGs_inb (b : Fin 2) (k : Fin 18) : ∀ a, oGs b k a + S1x128x128.size a ≤ S2x2304x128.size a := by
  intro a; fin_cases a <;> simp [oGs, S1x128x128, S2x2304x128] <;> omega
def rGs (b : Fin 2) (k : Fin 18) : Rect S2x2304x128 := Rect.unit (oGs b k) S1x128x128.size (oGs_inb b k)

/-- One row block of the modulation factors: a row of them spread over 128 columns. -/
def gStep (arg1 : Memref sig .tc .vmem S2x2304 .f32) (arg12 : Memref sig .tc .vmem S2x2304x128 .f32) (b : Fin 2) (k : Fin 18) :
    Prog (TpuEff nD τ sig (Elt F) Λ₀ .tc) PUnit := do
  let v ← Prog.lift (.load arg1 (rM b k).toLoadRect (View.loadsAt_vmem h_S1x128))
  let _ ← Prog.lift (.load arg12 (rGs b k).toLoadRect (View.loadsAt_vmem h_S1x128x128))
  Prog.lift (.store arg12 (rGs b k) (k0_pay387 v) Finset.univ (View.stores_vmem_bits_univ h_S1x128x128 rfl) (.inl rfl))

def gRow (arg1 : Memref sig .tc .vmem S2x2304 .f32) (arg12 : Memref sig .tc .vmem S2x2304x128 .f32) (b : Fin 2) :
    Prog (TpuEff nD τ sig (Elt F) Λ₀ .tc) PUnit := do
  gStep arg1 arg12 b 0
  gStep arg1 arg12 b 1
  gStep arg1 arg12 b 2
  gStep arg1 arg12 b 3
  gStep arg1 arg12 b 4
  gStep arg1 arg12 b 5
  gStep arg1 arg12 b 6
  gStep arg1 arg12 b 7
  gStep arg1 arg12 b 8
  gStep arg1 arg12 b 9
  gStep arg1 arg12 b 10
  gStep arg1 arg12 b 11
  gStep arg1 arg12 b 12
  gStep arg1 arg12 b 13
  gStep arg1 arg12 b 14
  gStep arg1 arg12 b 15
  gStep arg1 arg12 b 16
  gStep arg1 arg12 b 17

section Prog
variable (arg0 : Memref sig .tc .hbm S2x128x2304 .bf16) (harg0 : arg0.IsWhole) (arg1 : Memref sig .tc .vmem S2x2304 .f32) (harg1 : arg1.IsWhole) (arg2 : Memref sig .tc .vmem S2x2304 .f32) (harg2 : arg2.IsWhole) (arg3 : Memref sig .tc .hbm S2304x9216 .fp8e4m3) (harg3 : arg3.IsWhole) (arg4 : Memref sig .tc .smem S18x72 .i32) (harg4 : arg4.IsWhole) (arg5 : Memref sig .tc .vmem S72x128 .f32) (harg5 : arg5.IsWhole) (arg6 : Memref sig .tc .vmem S9x8x128 .i32) (harg6 : arg6.IsWhole) (arg7 : Memref sig .tc .hbm S2x128x9216 .bf16) (harg7 : arg7.IsWhole) (arg8 : Memref sig .tc .hbm S2x2304x9216 .fp8e4m3) (harg8 : arg8.IsWhole) (arg9 : Memref sig .tc .smem S2x18x72 .i32) (harg9 : arg9.IsWhole) (arg10 : Memref sig .tc .vmem S36x2304x256 .fp8e4m3) (harg10 : arg10.IsWhole) (arg11 : Memref sig .tc .vmem S2x128x2304 .bf16) (harg11 : arg11.IsWhole) (arg12 : Memref sig .tc .vmem S2x2304x128 .f32) (harg12 : arg12.IsWhole) (arg13 : Memref sig .tc .vmem S8x2304 .f32) (harg13 : arg13.IsWhole) (arg14 : Memref sig .tc .vmem S9x8x128 .i32) (harg14 : arg14.IsWhole) (arg15 : Memref sig .tc .smem S9x8x128 .i32) (harg15 : arg15.IsWhole) (arg16 : Memref sig .tc .vmem S3x2x2304x256 .fp8e4m3) (harg16 : arg16.IsWhole) (arg17 : Memref sig .tc .vmem S3x2x128x256 .bf16) (harg17 : arg17.IsWhole) (arg18 : DmaSems sig S_) (arg19 : DmaSems sig S36) (arg20 : DmaSems sig S9) (arg21 : DmaSems sig S3) (arg22 : DmaSems sig S3)

/-- What the first part does after the first loop. -/
def rest116 : Prog (TpuEff nD τ sig (Elt F) Λ₀ .tc) (Σ' (v28 : Vec F S1x128 .f32), FVec F S1x128 .f32) := do
  let v1 : Vec F S1x128 .f32 ← Prog.lift (.load arg1 (Rect.unit (s := S2x2304) ![0, 0] S1x128.size inb_S2x2304_S1x128_0_0).toLoadRect (View.loadsAt_vmem h_S1x128))
  let v7 : Vec F S1x128x128 .f32 ← Prog.lift (.load arg12 (Rect.unit (s := S2x2304x128) ![0, 0, 0] S1x128x128.size inb_S2x2304x128_S1x128x128_0_0_0).toLoadRect (View.loadsAt_vmem h_S1x128x128))
  Prog.lift (.store arg12 (Rect.unit (s := S2x2304x128) ![0, 0, 0] S1x128x128.size inb_S2x2304x128_S1x128x128_0_0_0) (k0_pay387 v1) Finset.univ (View.stores_vmem_bits_univ h_S1x128x128 rfl) (.inl rfl))
  let v10 : Vec F S1x128 .f32 ← Prog.lift (.load arg1 (Rect.unit (s := S2x2304) ![0, 128] S1x128.size inb_S2x2304_S1x128_0_128).toLoadRect (View.loadsAt_vmem h_S1x128))
  let v16 : Vec F S1x128x128 .f32 ← Prog.lift (.load arg12 (Rect.unit (s := S2x2304x128) ![0, 128, 0] S1x128x128.size inb_S2x2304x128_S1x128x128_0_128_0).toLoadRect (View.loadsAt_vmem h_S1x128x128))
  Prog.lift (.store arg12 (Rect.unit (s := S2x2304x128) ![0, 128, 0] S1x128x128.size inb_S2x2304x128_S1x128x128_0_128_0) (k0_pay388 v10) Finset.univ (View.stores_vmem_bits_univ h_S1x128x128 rfl) (.inl rfl))
  let v19 : Vec F S1x128 .f32 ← Prog.lift (.load arg1 (Rect.unit (s := S2x2304) ![0, 256] S1x128.size inb_S2x2304_S1x128_0_256).toLoadRect (View.loadsAt_vmem h_S1x128))
  let v25 : Vec F S1x128x128 .f32 ← Prog.lift (.load arg12 (Rect.unit (s := S2x2304x128) ![0, 256, 0] S1x128x128.size inb_S2x2304x128_S1x128x128_0_256_0).toLoadRect (View.loadsAt_vmem h_S1x128x128))
  Prog.lift (.store arg12 (Rect.unit (s := S2x2304x128) ![0, 256, 0] S1x128x128.size inb_S2x2304x128_S1x128x128_0_256_0) (k0_pay389 v19) Finset.univ (View.stores_vmem_bits_univ h_S1x128x128 rfl) (.inl rfl))
  let v28 : Vec F S1x128 .f32 ← Prog.lift (.load arg1 (Rect.unit (s := S2x2304) ![0, 384] S1x128.size inb_S2x2304_S1x128_0_384).toLoadRect (View.loadsAt_vmem h_S1x128))
  pure ⟨v28, k0_pay390 (F := F)⟩

/-- The parts between the first and the main one, then `K`. -/
def mids (K : (Σ' (v329 : Vec F S2x2304 .f32) (v331 : FVec F S2x2304 .f32) (v332 : FVec F S1x2304 .f32), Vec F S1x2304 .f32) → Prog (TpuEff nD τ sig (Elt F) Λ₀ .tc) PUnit)
    (x : Σ' (v28 : Vec F S1x128 .f32), FVec F S1x128 .f32) : Prog (TpuEff nD τ sig (Elt F) Λ₀ .tc) PUnit := do
  k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  let y ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
  let z ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 y.1 y.2
  let x ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 z
  k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  let y ← k0_part122 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
  let z ← k0_part123 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 y.1 y.2
  let x ← k0_part124 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 z
  let w ← k0_part125 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  K w

theorem part116_eq : k0_part116 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
    = Prog.lift (.enqueueDma arg0 (.here arg11) (.dma arg18.sem) harg0.wordExact harg11.wordExact ⟨Or.inl rfl, trivial⟩)
      >>= fun _ => Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) >>= fun _ => rest116 arg1 arg12 := rfl

theorem cc0_eq : cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
    = k0_part116 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 >>= mids arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
        (fun w => k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 w.1 w.2.1 w.2.2.1 w.2.2.2
          >>= fun _ => drain arg7 harg7 arg8 harg8 arg16 harg16 arg17 harg17 arg21 arg22) := by
  rw [cc0_adaln_fp8_eq_skeleton, cc0_adaln_fp8_skel]
  unfold mids
  chain_rfl

/-- The shift rows' buffer cleared, and the shift read. -/
def shRead : Prog (TpuEff nD τ sig (Elt F) Λ₀ .tc) (Σ' (v329 : Vec F S2x2304 .f32) (v331 : FVec F S2x2304 .f32) (v332 : FVec F S1x2304 .f32), Vec F S1x2304 .f32) := do
  let v326 : Vec F S8x2304 .f32 ← Prog.lift (.load arg13 (Rect.unit (s := S8x2304) ![0, 0] S8x2304.size inb_S8x2304_S8x2304_0_0).toLoadRect (View.loadsAt_vmem h_S8x2304))
  Prog.lift (.store arg13 (Rect.unit (s := S8x2304) ![0, 0] S8x2304.size inb_S8x2304_S8x2304_0_0) (k0_pay430 (F := F)) Finset.univ (View.stores_vmem_bits_univ h_S8x2304 rfl) (.inl rfl))
  let v329 : Vec F S2x2304 .f32 ← Prog.lift (.load arg2 (Rect.unit (s := S2x2304) ![0, 0] S2x2304.size inb_S2x2304_S2x2304_0_0).toLoadRect (View.loadsAt_vmem h_S2x2304))
  let v333 : Vec F S1x2304 .f32 ← Prog.lift (.load arg13 (Rect.unit (s := S8x2304) ![0, 0] S1x2304.size inb_S8x2304_S1x2304_0_0).toLoadRect (View.loadsAt_vmem h_S1x2304))
  pure ⟨v329, k0_pay431 v329, k0_pay432 v329, v333⟩

set_option maxRecDepth 1000000 in
set_option maxHeartbeats 0 in
theorem setup_eq (K : (Σ' (v329 : Vec F S2x2304 .f32) (v331 : FVec F S2x2304 .f32) (v332 : FVec F S1x2304 .f32), Vec F S1x2304 .f32) → Prog (TpuEff nD τ sig (Elt F) Λ₀ .tc) PUnit) :
    (rest116 (F := F) arg1 arg12 >>= mids arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 K)
      = gRow arg1 arg12 0 >>= fun _ => gRow arg1 arg12 1 >>= fun _ => shRead arg2 arg13 >>= K := by
  chain_rfl

end Prog

end Cert.Kernel.Roll
-- ==== Proof.Bits.Whole.lean ====
/-
  The triple of the whole kernel: from the inputs' values to the three results' values.
-/
module

public import proofs.«01_k».proof.Proof.Bits.Setup

@[expose] public section

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep bigSep_univ_split bigSep_congr bigSep_mono)
open scoped Idealize.SL.BI
open Idealize.SL.BI.BIBase Idealize.SL.BI.Laws Idealize.SL.ProofMode
open Cert.Kernel Cert.Kernel.Gen Cert.Cells Idealize.ShloMosaic.Transfers

variable {F : FTy → Type} [FloatOps F]

/-! ## What the setup writes -/

/-- The modulation factors, each row spread over 128 columns. -/
def G12T (M1 : S2x2304.Idx → Elt F .f32) (i : S2x2304x128.Idx) : Elt F .f32 :=
  k0_pay387 (fun j => M1 ((rM (i 0) (⟨(i 1).val / 128, by have : (i 1).val < 2304 := (i 1).isLt; omega⟩ : Fin 18)).emb j))
    (ix3 (0 : Fin 1) (⟨(i 1).val % 128, Nat.mod_lt _ (by decide)⟩ : Fin 128) (i 2))

/-- The shift rows: three pieces per batch entry, and two rows of zeros. -/
def rowV (M2 : S2x2304.Idx → Elt F .f32) : Fin 8 → S1x2304.Idx → Elt F .f32 :=
  ![k0_pay433 (k0_pay432 M2), k0_pay437 M2 (k0_pay431 M2), k0_pay440 M2 (k0_pay431 M2),
    k0_pay434 (k0_pay431 M2), k0_pay438 M2 (k0_pay431 M2), k0_pay441 M2 (k0_pay431 M2),
    fun _ => Scalar.ofBits .f32 0x00000000#32, fun _ => Scalar.ofBits .f32 0x00000000#32]

def H13T (M2 : S2x2304.Idx → Elt F .f32) (i : S8x2304.Idx) : Elt F .f32 := rowV M2 (i 0) (ix2 (0 : Fin 1) (i 1))

def KG (n : Nat) (i : S2x2304x128.Idx) : Prop := 18 * (i 0).val + (i 1).val / 128 < n

section Steps
variable (c : Dev nD)
local notation "𝕄" => MT nD τ sig Unit (Elt F) ℕ (Pipeline.UD sig nD τ) ℕ

variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X0 : S2x128x2304.Idx → Elt F .bf16) (M1 M2 : S2x2304.Idx → Elt F .f32) (X3 : S2304x9216.Idx → Elt F .fp8e4m3)
  (S4 : S18x72.Idx → Elt F .i32) (B5 : S72x128.Idx → Elt F .f32) (E6 : S9x8x128.Idx → Elt F .i32)

local notation "WP" => wp frame (wpE (defs₀ (F := F)) Variants.none (c : Thread nD τ) none) Set.univ

theorem gStep_wp (b : Fin 2) (k : Fin 18) (Q : PUnit → sProp 𝕄) :
    iprop(KV (c : Thread nD τ) arg1.view Finset.univ fullShare (is M1) ∗ KV (c : Thread nD τ) arg12.view Finset.univ fullShare (upTo (KG (18 * b.val + k.val)) (G12T M1)))
    ⊢ iprop((iprop(KV (c : Thread nD τ) arg1.view Finset.univ fullShare (is M1) ∗ KV (c : Thread nD τ) arg12.view Finset.univ fullShare (upTo (KG (18 * b.val + k.val + 1)) (G12T M1))) -∗ Q ⟨⟩)
      -∗ WP (gStep arg1 arg12 b k) Q) := by
  unfold gStep
  iintro ⟨H1, H12⟩ HK
  rw [wp_bind]
  iapply (loadIs Variants.none (c : Thread nD τ) none Set.univ (Finset.subset_univ _)) $$ H1
  iintro H1
  rw [wp_bind]
  iapply (load Variants.none (c : Thread nD τ) none Set.univ (Finset.subset_univ _)) $$ H12
  iintro %v - H12
  have u := fun (j : (rGs b k).shape.Idx) a => unit_val (s := S2x2304x128) (oGs b k) S1x128x128.size (oGs_inb b k) j a
  iapply (store Variants.none (c : Thread nD τ) none Set.univ (upTo (KG (18 * b.val + k.val + 1)) (G12T M1)) (Finset.subset_univ _) ?_ ?_) $$ H12
  · intro j _
    have u0 := u j 0; have u1 := u j 1; have u2 := u j 2
    have l0 : (j 0).val < 1 := (j 0).isLt
    have l1 : (j 1).val < 128 := (j 1).isLt
    replace u0 : _ = b.val + (j 0).val := u0
    replace u1 : _ = 128 * k.val + (j 1).val := u1
    replace u2 : _ = 0 + (j 2).val := u2
    have e0 : ((rGs b k).emb j 0 : Fin 2) = b := Fin.ext (u0.trans (by omega))
    have e1 : ∀ h, (⟨((rGs b k).emb j 1 : Fin 2304).val / 128, h⟩ : Fin 18) = k := fun h => Fin.ext ((congrArg (· / 128) u1).trans (by show (128 * k.val + (j 1).val) / 128 = k.val; omega))
    show _ = G12T M1 _
    unfold G12T
    rw [e0, e1]
    congr 1
    funext a
    match a with
    | 0 => exact Fin.ext (by show (j 0).val = 0; omega)
    | 1 => exact Fin.ext (((congrArg (· % 128) u1).trans (by show (128 * k.val + (j 1).val) % 128 = (j 1).val; omega)).symm)
    | 2 => exact Fin.ext ((u2.trans (Nat.zero_add _)).symm)
  · intro i _ hn x hx hK
    refine hx ?_
    unfold KG at hK ⊢
    by_contra hlt
    refine hn ?_
    show i ∈ (Rect.unit (s := S2x2304x128) (oGs b k) S1x128x128.size (oGs_inb b k)).set
    rw [Rect.mem_set_unit]
    have h0 : (i 0).val < 2 := (i 0).isLt
    have h1 : (i 1).val < 2304 := (i 1).isLt
    have h2 : (i 2).val < 128 := (i 2).isLt
    have hb := b.isLt
    have hk := k.isLt
    intro a
    match a with
    | 0 => exact ⟨(show b.val ≤ (i 0).val by omega), (show (i 0).val < b.val + 1 by omega)⟩
    | 1 => exact ⟨(show 128 * k.val ≤ (i 1).val by omega), (show (i 1).val < 128 * k.val + 128 by omega)⟩
    | 2 => exact ⟨Nat.zero_le _, (show (i 2).val < 0 + 128 by omega)⟩
  iintro H12
  iapply HK
  isplitl [H1] <;> iassumption

theorem gRow_wp (b : Fin 2) (Q : PUnit → sProp 𝕄) :
    iprop(KV (c : Thread nD τ) arg1.view Finset.univ fullShare (is M1) ∗ KV (c : Thread nD τ) arg12.view Finset.univ fullShare (upTo (KG (18 * b.val)) (G12T M1)))
    ⊢ iprop((iprop(KV (c : Thread nD τ) arg1.view Finset.univ fullShare (is M1) ∗ KV (c : Thread nD τ) arg12.view Finset.univ fullShare (upTo (KG (18 * b.val + 18)) (G12T M1))) -∗ Q ⟨⟩)
      -∗ WP (gRow arg1 arg12 b) Q) := by
  unfold gRow
  iintro ⟨H1, H12⟩ HK
  rw [wp_bind]
  iapply (gStep_wp c arg1 arg12 M1 b 0) $$ [H1 H12]
  · isplitl [H1] <;> iassumption
  iintro ⟨H1, H12⟩
  rw [wp_bind]
  iapply (gStep_wp c arg1 arg12 M1 b 1) $$ [H1 H12]
  · isplitl [H1] <;> iassumption
  iintro ⟨H1, H12⟩
  rw [wp_bind]
  iapply (gStep_wp c arg1 arg12 M1 b 2) $$ [H1 H12]
  · isplitl [H1] <;> iassumption
  iintro ⟨H1, H12⟩
  rw [wp_bind]
  iapply (gStep_wp c arg1 arg12 M1 b 3) $$ [H1 H12]
  · isplitl [H1] <;> iassumption
  iintro ⟨H1, H12⟩
  rw [wp_bind]
  iapply (gStep_wp c arg1 arg12 M1 b 4) $$ [H1 H12]
  · isplitl [H1] <;> iassumption
  iintro ⟨H1, H12⟩
  rw [wp_bind]
  iapply (gStep_wp c arg1 arg12 M1 b 5) $$ [H1 H12]
  · isplitl [H1] <;> iassumption
  iintro ⟨H1, H12⟩
  rw [wp_bind]
  iapply (gStep_wp c arg1 arg12 M1 b 6) $$ [H1 H12]
  · isplitl [H1] <;> iassumption
  iintro ⟨H1, H12⟩
  rw [wp_bind]
  iapply (gStep_wp c arg1 arg12 M1 b 7) $$ [H1 H12]
  · isplitl [H1] <;> iassumption
  iintro ⟨H1, H12⟩
  rw [wp_bind]
  iapply (gStep_wp c arg1 arg12 M1 b 8) $$ [H1 H12]
  · isplitl [H1] <;> iassumption
  iintro ⟨H1, H12⟩
  rw [wp_bind]
  iapply (gStep_wp c arg1 arg12 M1 b 9) $$ [H1 H12]
  · isplitl [H1] <;> iassumption
  iintro ⟨H1, H12⟩
  rw [wp_bind]
  iapply (gStep_wp c arg1 arg12 M1 b 10) $$ [H1 H12]
  · isplitl [H1] <;> iassumption
  iintro ⟨H1, H12⟩
  rw [wp_bind]
  iapply (gStep_wp c arg1 arg12 M1 b 11) $$ [H1 H12]
  · isplitl [H1] <;> iassumption
  iintro ⟨H1, H12⟩
  rw [wp_bind]
  iapply (gStep_wp c arg1 arg12 M1 b 12) $$ [H1 H12]
  · isplitl [H1] <;> iassumption
  iintro ⟨H1, H12⟩
  rw [wp_bind]
  iapply (gStep_wp c arg1 arg12 M1 b 13) $$ [H1 H12]
  · isplitl [H1] <;> iassumption
  iintro ⟨H1, H12⟩
  rw [wp_bind]
  iapply (gStep_wp c arg1 arg12 M1 b 14) $$ [H1 H12]
  · isplitl [H1] <;> iassumption
  iintro ⟨H1, H12⟩
  rw [wp_bind]
  iapply (gStep_wp c arg1 arg12 M1 b 15) $$ [H1 H12]
  · isplitl [H1] <;> iassumption
  iintro ⟨H1, H12⟩
  rw [wp_bind]
  iapply (gStep_wp c arg1 arg12 M1 b 16) $$ [H1 H12]
  · isplitl [H1] <;> iassumption
  iintro ⟨H1, H12⟩
  iapply (gStep_wp c arg1 arg12 M1 b 17) $$ [H1 H12]
  · isplitl [H1] <;> iassumption
  iintro ⟨H1, H12⟩
  iapply HK
  isplitl [H1] <;> iassumption

theorem loadAny {r : Rect S8x2304} {hl : arg13.view.LoadsAt r.toLoadRect} {P : S8x2304.Idx → Elt F .f32 → Prop} {Q : (r.shape.Idx → Elt F .f32) → sProp 𝕄} :
    (KV (c : Thread nD τ) arg13.view Finset.univ fullShare P : sProp 𝕄)
      ⊢ iprop((∀ v, KV (c : Thread nD τ) arg13.view Finset.univ fullShare P -∗ Q v)
        -∗ WP (Prog.lift (.load arg13 r.toLoadRect hl)) Q) := by
  iintro H HK
  iapply (load Variants.none (c : Thread nD τ) none Set.univ (Finset.subset_univ _)) $$ H
  iintro %v - H
  iapply HK $$ H

theorem row_store (K : S8x2304.Idx → Prop) (r : Fin 8) (off : Fin 2 → Nat) (ho : off = ![r.val, 0]) {hi : ∀ a, off a + S1x2304.size a ≤ S8x2304.size a}
    (w : S1x2304.Idx → Elt F .f32) (hw : w = rowV M2 r) {hx : (arg13.access (Rect.unit (s := S8x2304) off S1x2304.size hi)).Stores Finset.univ}
    {hm : (Finset.univ : Finset (Rect.unit (s := S8x2304) off S1x2304.size hi).shape.Idx) = Finset.univ ∨ ∀ a, (Rect.unit (s := S8x2304) off S1x2304.size hi).stride a = 1} {Q : PUnit → sProp 𝕄} :
    (KV (c : Thread nD τ) arg13.view Finset.univ fullShare (upTo K (H13T M2)) : sProp 𝕄)
      ⊢ iprop((KV (c : Thread nD τ) arg13.view Finset.univ fullShare (upTo (fun i => K i ∨ (i 0).val = r.val) (H13T M2)) -∗ Q ⟨⟩)
        -∗ WP (Prog.lift (.store arg13 (Rect.unit (s := S8x2304) off S1x2304.size hi) w Finset.univ hx hm)) Q) := by
  subst ho hw
  have u := fun (j : (Rect.unit (s := S8x2304) ![r.val, 0] S1x2304.size hi).shape.Idx) a => unit_val (s := S8x2304) ![r.val, 0] S1x2304.size hi j a
  refine store Variants.none (c : Thread nD τ) none Set.univ _ (Finset.subset_univ _) ?_ ?_
  · intro j _
    have u0 := u j 0; have u1 := u j 1
    have l0 : (j 0).val < 1 := (j 0).isLt
    replace u0 : _ = r.val + (j 0).val := u0
    replace u1 : _ = 0 + (j 1).val := u1
    have e0 : ((Rect.unit (s := S8x2304) ![r.val, 0] S1x2304.size hi).emb j 0 : Fin 8) = r := Fin.ext (u0.trans (by omega))
    show _ = H13T M2 _
    unfold H13T
    rw [e0]
    congr 1
    funext a
    match a with
    | 0 => exact Fin.ext (by show (j 0).val = 0; omega)
    | 1 => exact Fin.ext ((u1.trans (Nat.zero_add _)).symm)
  · intro i _ hn x hx hK
    refine hx ?_
    rcases hK with hK | hK
    · exact hK
    · exfalso
      refine hn ?_
      rw [Rect.mem_set_unit]
      have h1 : (i 1).val < 2304 := (i 1).isLt
      intro a
      match a with
      | 0 => exact ⟨(show r.val ≤ (i 0).val by omega), (show (i 0).val < r.val + 1 by omega)⟩
      | 1 => exact ⟨Nat.zero_le _, (show (i 1).val < 0 + 2304 by omega)⟩

/-- What is held of every buffer and semaphore before the kernel. -/
def Start : sProp 𝕄 :=
  iprop((KV (c : Thread nD τ) arg0.view Finset.univ fullShare (is X0) ∗ KV (c : Thread nD τ) arg1.view Finset.univ fullShare (is M1)
      ∗ KV (c : Thread nD τ) arg2.view Finset.univ fullShare (is M2) ∗ KV (c : Thread nD τ) arg3.view Finset.univ fullShare (is X3)
      ∗ KV (c : Thread nD τ) arg4.view Finset.univ fullShare (is S4) ∗ KV (c : Thread nD τ) arg5.view Finset.univ fullShare (is B5)
      ∗ KV (c : Thread nD τ) arg6.view Finset.univ fullShare (is E6))
    ∗ (KV (c : Thread nD τ) arg7.view Finset.univ fullShare any ∗ KV (c : Thread nD τ) arg8.view Finset.univ fullShare any
      ∗ KV (c : Thread nD τ) arg9.view Finset.univ fullShare any)
    ∗ (KV (c : Thread nD τ) arg10.view Finset.univ fullShare any ∗ KV (c : Thread nD τ) arg11.view Finset.univ fullShare any
      ∗ KV (c : Thread nD τ) arg12.view Finset.univ fullShare any ∗ KV (c : Thread nD τ) arg13.view Finset.univ fullShare any
      ∗ KV (c : Thread nD τ) arg14.view Finset.univ fullShare any ∗ KV (c : Thread nD τ) arg15.view Finset.univ fullShare any
      ∗ KV (c : Thread nD τ) arg16.view Finset.univ fullShare any ∗ KV (c : Thread nD τ) arg17.view Finset.univ fullShare any)
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

/-- And after it. -/
def Done : sProp 𝕄 :=
  iprop((KV (c : Thread nD τ) arg0.view Finset.univ fullShare (is X0) ∗ KV (c : Thread nD τ) arg1.view Finset.univ fullShare (is M1)
      ∗ KV (c : Thread nD τ) arg2.view Finset.univ fullShare (is M2) ∗ KV (c : Thread nD τ) arg3.view Finset.univ fullShare (is X3)
      ∗ KV (c : Thread nD τ) arg4.view Finset.univ fullShare (is S4) ∗ KV (c : Thread nD τ) arg5.view Finset.univ fullShare (is B5)
      ∗ KV (c : Thread nD τ) arg6.view Finset.univ fullShare (is E6))
    ∗ (KV (c : Thread nD τ) arg7.view Finset.univ fullShare (is (YC S4 B5 (W10T X3) X0 (G12T M1) (H13T M2) E6))
      ∗ KV (c : Thread nD τ) arg8.view Finset.univ fullShare (is (WC (W10T X3) (G12T M1) E6))
      ∗ KV (c : Thread nD τ) arg9.view Finset.univ fullShare (is (T9 S4 E6)))
    ∗ (KV (c : Thread nD τ) arg10.view Finset.univ fullShare any ∗ KV (c : Thread nD τ) arg11.view Finset.univ fullShare any
      ∗ KV (c : Thread nD τ) arg12.view Finset.univ fullShare any ∗ KV (c : Thread nD τ) arg13.view Finset.univ fullShare any
      ∗ KV (c : Thread nD τ) arg14.view Finset.univ fullShare any ∗ KV (c : Thread nD τ) arg15.view Finset.univ fullShare any
      ∗ KV (c : Thread nD τ) arg16.view Finset.univ fullShare any ∗ KV (c : Thread nD τ) arg17.view Finset.univ fullShare any)
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

/-! ## Loops' starts and ends -/

theorem start1 :
    iprop(KV (c : Thread nD τ) arg3.view Finset.univ fullShare (is X3) ∗ KV (c : Thread nD τ) arg10.view Finset.univ fullShare any
      ∗ bigSep Finset.univ (fun k : Fin 36 => semVal ((c : Thread nD τ), .dma (arg19.ix (ix1 k))) 0))
    ⊢ (Inv1 c arg3 arg10 arg19 X3 0 : sProp 𝕄) := by
  unfold Inv1
  rw [prog_zero]
  unfold Idle
  have e : ∀ (A B C : Fin 36 → sProp 𝕄), iprop(bigSep Finset.univ A ∗ bigSep Finset.univ B ∗ bigSep Finset.univ C) ⊢ bigSep Finset.univ (fun k => iprop(A k ∗ B k ∗ C k)) := by
    intro A B C
    rw [sepE, sepE]
  iintro ⟨H3, H10, HS⟩
  iapply (e _ _ _)
  isplitl [H3]; · iapply (KV_split (c : Thread nD τ) arg3.view fullShare (is X3) ofCol) $$ H3
  isplitl [H10]; · iapply (KV_split (c : Thread nD τ) arg10.view fullShare any ofSlot) $$ H10
  iexact HS

theorem start2 :
    iprop(KV (c : Thread nD τ) arg14.view Finset.univ fullShare any ∗ KV (c : Thread nD τ) arg15.view Finset.univ fullShare any
      ∗ bigSep Finset.univ (fun k : Fin 9 => semVal ((c : Thread nD τ), .dma (arg20.ix (ix1 k))) 0))
    ⊢ (bigSep Finset.univ (prog (Copied c arg14 arg15 arg20 E6) (Fresh c arg14 arg15 arg20) 0) : sProp 𝕄) := by
  rw [prog_zero]
  unfold Fresh
  have e : ∀ (A B C : Fin 9 → sProp 𝕄), iprop(bigSep Finset.univ A ∗ bigSep Finset.univ B ∗ bigSep Finset.univ C) ⊢ bigSep Finset.univ (fun k => iprop(A k ∗ B k ∗ C k)) := by
    intro A B C
    rw [sepE, sepE]
  iintro ⟨H3, H10, HS⟩
  iapply (e _ _ _)
  isplitl [H3]; · iapply (KV_split (c : Thread nD τ) arg14.view fullShare any ofGroup) $$ H3
  isplitl [H10]; · iapply (KV_split (c : Thread nD τ) arg15.view fullShare any ofGroup) $$ H10
  iexact HS

theorem end2 :
    iprop(bigSep Finset.univ (prog (Here c arg3 arg10 arg19 X3) (Coming c arg3 arg10 arg19 X3) 36)
      ∗ bigSep Finset.univ (prog (Copied c arg14 arg15 arg20 E6) (Fresh c arg14 arg15 arg20) 9))
    ⊢ (iprop((KV (c : Thread nD τ) arg10.view Finset.univ fullShare (is (W10T X3)) ∗ KV (c : Thread nD τ) arg3.view Finset.univ fullShare (is X3)
        ∗ bigSep Finset.univ (fun k : Fin 36 => semVal ((c : Thread nD τ), .dma (arg19.ix (ix1 k))) 0))
      ∗ (KV (c : Thread nD τ) arg15.view Finset.univ fullShare (is E6) ∗ KV (c : Thread nD τ) arg14.view Finset.univ fullShare (is E6)
        ∗ bigSep Finset.univ (fun k : Fin 9 => semVal ((c : Thread nD τ), .dma (arg20.ix (ix1 k))) 0))) : sProp 𝕄) := by
  rw [prog_all, prog_all]
  unfold Here Copied
  have e : ∀ (n : Nat) (A B C : Fin n → sProp 𝕄), bigSep Finset.univ (fun k => iprop((A k ∗ B k) ∗ C k)) ⊢ iprop((bigSep Finset.univ A ∗ bigSep Finset.univ B) ∗ bigSep Finset.univ C) := by
    intro n A B C
    rw [sepE, sepE]
  iintro ⟨HA, HB⟩
  ihave HA := (e 36 _ _ _) $$ HA
  ihave HB := (e 9 _ _ _) $$ HB
  icases HA with ⟨⟨A1, A2⟩, A3⟩
  icases HB with ⟨⟨B1, B2⟩, B3⟩
  isplitl [A1 A2 A3]
  · isplitl [A1]; · iapply (show bigSep Finset.univ (fun k : Fin 36 => KV (c : Thread nD τ) arg10.view (slotW k) fullShare (is (W10T X3))) ⊢ (KV (c : Thread nD τ) arg10.view Finset.univ fullShare (is (W10T X3)) : sProp 𝕄) from KV_unite (c : Thread nD τ) arg10.view fullShare (is (W10T X3)) (by decide) ofSlot) $$ A1
    isplitl [A2]; · iapply (show bigSep Finset.univ (fun k : Fin 36 => KV (c : Thread nD τ) arg3.view (colW k) fullShare (is X3)) ⊢ (KV (c : Thread nD τ) arg3.view Finset.univ fullShare (is X3) : sProp 𝕄) from KV_unite (c : Thread nD τ) arg3.view fullShare (is X3) (by decide) ofCol) $$ A2
    iexact A3
  · isplitl [B1]; · iapply (show bigSep Finset.univ (fun k : Fin 9 => KV (c : Thread nD τ) arg15.view (grpE k) fullShare (is E6)) ⊢ (KV (c : Thread nD τ) arg15.view Finset.univ fullShare (is E6) : sProp 𝕄) from KV_unite (c : Thread nD τ) arg15.view fullShare (is E6) (by decide) ofGroup) $$ B1
    isplitl [B2]; · iapply (show bigSep Finset.univ (fun k : Fin 9 => KV (c : Thread nD τ) arg14.view (grpE k) fullShare (is E6)) ⊢ (KV (c : Thread nD τ) arg14.view Finset.univ fullShare (is E6) : sProp 𝕄) from KV_unite (c : Thread nD τ) arg14.view fullShare (is E6) (by decide) ofGroup) $$ B2
    iexact B3

theorem slots16 (k : Fin 3) : (cells fun i : S3x2x2304x256.Idx => (i 0 : Fin 3) = k) = slot16 k.val := by
  ext i; rw [mem_cells, slot16, mem_cells]
  constructor
  · intro h; have : (i 0).val = k.val := congrArg Fin.val h; omega
  · intro h; have : (i 0).val < 3 := (i 0).isLt; exact Fin.ext (by show (i 0).val = k.val; omega)

theorem split16 : (KV (c : Thread nD τ) arg16.view Finset.univ fullShare any : sProp 𝕄) ⊢ bigSep Finset.univ (fun k : Fin 3 => KV (c : Thread nD τ) arg16.view (slot16 k.val) fullShare any) := by
  rw [show (fun k : Fin 3 => (KV (c : Thread nD τ) arg16.view (slot16 k.val) fullShare any : sProp 𝕄)) = (fun k => KV (c : Thread nD τ) arg16.view (cells fun i => (i 0 : Fin 3) = k) fullShare any) from
    funext fun k => by rw [slots16]]
  exact KV_split (c : Thread nD τ) arg16.view fullShare any (n := 3) (fun i => i 0)

theorem unite16 : (bigSep Finset.univ (fun k : Fin 3 => KV (c : Thread nD τ) arg16.view (slot16 k.val) fullShare any) : sProp 𝕄) ⊢ KV (c : Thread nD τ) arg16.view Finset.univ fullShare any := by
  rw [show (fun k : Fin 3 => (KV (c : Thread nD τ) arg16.view (slot16 k.val) fullShare any : sProp 𝕄)) = (fun k => KV (c : Thread nD τ) arg16.view (cells fun i => (i 0 : Fin 3) = k) fullShare any) from
    funext fun k => by rw [slots16]]
  exact KV_unite (c : Thread nD τ) arg16.view fullShare any (n := 3) (by decide) (fun i => i 0)

theorem slots17 (k : Fin 3) : (cells fun i : S3x2x128x256.Idx => (i 0 : Fin 3) = k) = slot17 k.val := by
  ext i; rw [mem_cells, slot17, mem_cells]
  constructor
  · intro h; have : (i 0).val = k.val := congrArg Fin.val h; omega
  · intro h; have : (i 0).val < 3 := (i 0).isLt; exact Fin.ext (by show (i 0).val = k.val; omega)

theorem split17 : (KV (c : Thread nD τ) arg17.view Finset.univ fullShare any : sProp 𝕄) ⊢ bigSep Finset.univ (fun k : Fin 3 => KV (c : Thread nD τ) arg17.view (slot17 k.val) fullShare any) := by
  rw [show (fun k : Fin 3 => (KV (c : Thread nD τ) arg17.view (slot17 k.val) fullShare any : sProp 𝕄)) = (fun k => KV (c : Thread nD τ) arg17.view (cells fun i => (i 0 : Fin 3) = k) fullShare any) from
    funext fun k => by rw [slots17]]
  exact KV_split (c : Thread nD τ) arg17.view fullShare any (n := 3) (fun i => i 0)

theorem unite17 : (bigSep Finset.univ (fun k : Fin 3 => KV (c : Thread nD τ) arg17.view (slot17 k.val) fullShare any) : sProp 𝕄) ⊢ KV (c : Thread nD τ) arg17.view Finset.univ fullShare any := by
  rw [show (fun k : Fin 3 => (KV (c : Thread nD τ) arg17.view (slot17 k.val) fullShare any : sProp 𝕄)) = (fun k => KV (c : Thread nD τ) arg17.view (cells fun i => (i 0 : Fin 3) = k) fullShare any) from
    funext fun k => by rw [slots17]]
  exact KV_unite (c : Thread nD τ) arg17.view fullShare any (n := 3) (by decide) (fun i => i 0)

/-- The slots before the third loop. -/
theorem start3 :
    iprop(KV (c : Thread nD τ) arg16.view Finset.univ fullShare any ∗ KV (c : Thread nD τ) arg17.view Finset.univ fullShare any
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ⊢ (bigSep Finset.univ (fun s : Fin 3 => Free c arg16 arg17 arg21 arg22 s) : sProp 𝕄) := by
  unfold Free
  have e : ∀ (A B C D : Fin 3 → sProp 𝕄), iprop((bigSep Finset.univ A ∗ bigSep Finset.univ B) ∗ (bigSep Finset.univ C ∗ bigSep Finset.univ D)) ⊢ bigSep Finset.univ (fun k => iprop((A k ∗ B k) ∗ (C k ∗ D k))) := by
    intro A B C D
    rw [sepE, sepE, sepE]
  iintro ⟨H16, H17, S21, S22⟩
  iapply (e _ _ _ _)
  isplitl [H16 S21]
  · isplitl [H16]
    · iapply (split16 c arg16) $$ H16
    · iexact S21
  · isplitl [H17]
    · iapply (split17 c arg17) $$ H17
    · iexact S22

theorem end3 :
    iprop(Free c arg16 arg17 arg21 arg22 0 ∗ Free c arg16 arg17 arg21 arg22 1 ∗ Free c arg16 arg17 arg21 arg22 2)
    ⊢ (iprop(KV (c : Thread nD τ) arg16.view Finset.univ fullShare any ∗ KV (c : Thread nD τ) arg17.view Finset.univ fullShare any
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0)) : sProp 𝕄) := by
  have h3 : ∀ Φ : Fin 3 → sProp 𝕄, bigSep Finset.univ Φ = iprop(Φ 0 ∗ Φ 1 ∗ Φ 2) := by
    intro Φ
    rw [bigSep_univ_split (0 : Fin 3), show (Finset.univ.erase 0 : Finset (Fin 3)) = insert 1 {2} by decide,
      BI.bigSep_insert (by decide), BI.bigSep_singleton]
    rfl
  rw [← h3 (Free c arg16 arg17 arg21 arg22)]
  unfold Free
  have e : ∀ (A B C D : Fin 3 → sProp 𝕄), bigSep Finset.univ (fun k => iprop((A k ∗ B k) ∗ (C k ∗ D k))) ⊢ iprop((bigSep Finset.univ A ∗ bigSep Finset.univ B) ∗ (bigSep Finset.univ C ∗ bigSep Finset.univ D)) := by
    intro A B C D
    rw [sepE, sepE, sepE]
  iintro H
  ihave H := (e _ _ _ _) $$ H
  icases H with ⟨⟨H16, S21⟩, ⟨H17, S22⟩⟩
  isplitl [H16]
  · iapply (unite16 c arg16) $$ H16
  isplitl [H17]
  · iapply (unite17 c arg17) $$ H17
  isplitl [S21] <;> iassumption

/-- The credits of the copy of the normalised rows. -/
def NX : Nat := sig.dmaCredit .tc (Kind.tc.table .vmem) arg11.view.buf S2x128x2304 .bf16

/-- The whole kernel. -/
theorem whole_wp (Q : PUnit → sProp 𝕄) :
    Start c arg0 arg1 arg2 arg3 arg4 arg5 arg6 arg7 arg8 arg9 arg10 arg11 arg12 arg13 arg14 arg15 arg16 arg17 arg18 arg19 arg20 arg21 arg22 X0 M1 M2 X3 S4 B5 E6
    ⊢ iprop((Done c arg0 arg1 arg2 arg3 arg4 arg5 arg6 arg7 arg8 arg9 arg10 arg11 arg12 arg13 arg14 arg15 arg16 arg17 arg18 arg19 arg20 arg21 arg22 X0 M1 M2 X3 S4 B5 E6 -∗ Q ⟨⟩)
      -∗ WP (cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) Q) := by
  rw [cc0_eq, part116_eq]
  unfold Start
  iintro ⟨⟨H0, H1, H2, H3, H4, H5, H6⟩, ⟨H7, H8, H9⟩, ⟨H10, H11, H12, H13, H14, H15, H16, H17⟩, ⟨S18, S19, S20, S21, S22⟩, HW⟩ HK
  rw [wp_bind, wp_bind]
  iapply (dma Variants.none (c : Thread nD τ) none countersEmb () (NX arg11) rfl ?_) $$ [H0 H11 S18]
  · exact sig.dmaCredit_pos _ _ _ _ _ (by decide)
  · isplitl [H0]; · iexact H0
    isplitl [H11] <;> iassumption
  iintro HX
  iapply (Scf.wp_for_bind frame _ Set.univ k0_t1_loop.lb k0_t1_loop.ub k0_t1_loop.st k0_t1_ok () _
    (fun t _ => Inv1 c arg3 arg10 arg19 X3 t)
    (fun t _ => body1_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X3 t)) $$ [H3 H10 S19]
  · iapply (start1 c arg3 arg10 arg19 X3)
    isplitl [H3]; · iexact H3
    isplitl [H10] <;> iassumption
  iintro %acc HA
  ihave HA := (show Inv1 c arg3 arg10 arg19 X3 (Scf.trips k0_t1_loop.lb k0_t1_loop.ub k0_t1_loop.st)
      ⊢ bigSep Finset.univ (prog (Here c arg3 arg10 arg19 X3) (Coming c arg3 arg10 arg19 X3) (4 * 0)) from by
    rw [show Scf.trips k0_t1_loop.lb k0_t1_loop.ub k0_t1_loop.st = 36 from trips1]
    unfold Inv1
    rw [prog_all, show 4 * 0 = 0 from rfl, prog_zero]) $$ HA
  rw [← wp_bind, setup_eq]
  rw [wp_bind]
  iapply (gRow_wp c arg1 arg12 M1 0) $$ [H1 H12]
  · isplitl [H1]; · iexact H1
    iapply (KV_mono (c : Thread nD τ) ?_) $$ H12
    intro i _ x _ hK
    unfold KG at hK
    exact absurd hK (by show ¬ _ < 18 * 0; omega)
  iintro ⟨H1, H12⟩
  rw [wp_bind]
  iapply (gRow_wp c arg1 arg12 M1 1) $$ [H1 H12]
  · isplitl [H1] <;> iassumption
  iintro ⟨H1, H12⟩
  rw [wp_bind]
  unfold shRead
  rw [wp_bind]
  iapply (loadAny c arg13) $$ H13
  iintro %v0 H13
  rw [wp_bind]
  iapply (store Variants.none (c : Thread nD τ) none Set.univ (upTo (fun i => 6 ≤ (i 0).val) (H13T M2)) (Finset.subset_univ _) ?_ ?_) $$ H13
  · intro j hj
    have hz : ∀ (r : Fin 8) (y : S1x2304.Idx), 6 ≤ r.val → rowV M2 r y = Scalar.ofBits .f32 0x00000000#32 := by
      intro r y hr
      have : r = 6 ∨ r = 7 := by omega
      rcases this with rfl | rfl <;> rfl
    exact (hz _ _ hj).symm
  · intro i _ hn
    refine absurd ?_ hn
    rw [Rect.mem_set_unit]
    intro a
    match a with
    | 0 => exact ⟨Nat.zero_le _, (show (i 0).val < 0 + 8 by have : (i 0).val < 8 := (i 0).isLt; omega)⟩
    | 1 => exact ⟨Nat.zero_le _, (show (i 1).val < 0 + 2304 by have : (i 1).val < 2304 := (i 1).isLt; omega)⟩
  iintro H13
  rw [wp_bind]
  iapply (loadIs Variants.none (c : Thread nD τ) none Set.univ (Finset.subset_univ _)) $$ H2
  iintro H2
  have em : (fun j => M2 ((Rect.unit (s := S2x2304) ![0, 0] S2x2304.size inb_S2x2304_S2x2304_0_0).emb j)) = M2 := by
    funext j
    refine congrArg M2 (funext fun a => Fin.ext ?_)
    refine (unit_val (s := S2x2304) ![0, 0] S2x2304.size inb_S2x2304_S2x2304_0_0 j a).trans ?_
    match a with
    | 0 => exact Nat.zero_add _
    | 1 => exact Nat.zero_add _
  rw [em]
  rw [wp_bind]
  iapply (loadAny c arg13) $$ H13
  iintro %v333 H13
  iapply (pureStep Variants.none (c : Thread nD τ) none Set.univ _ rfl)
  dsimp only
  rw [wp_bind, k0_part126_eq_skeleton]
  unfold k0_part126_skel
  dsimp only
  rw [wp_bind]
  iapply (row_store c arg13 M2 _ 0 ![0, 0] rfl _ rfl) $$ H13
  iintro H13
  rw [wp_bind]
  iapply (loadAny c arg13) $$ H13
  iintro %v3 H13
  rw [wp_bind]
  iapply (row_store c arg13 M2 _ 3 ![3, 0] rfl _ rfl) $$ H13
  iintro H13
  rw [wp_bind]
  iapply (loadAny c arg13) $$ H13
  iintro %v1 H13
  rw [wp_bind]
  iapply (row_store c arg13 M2 _ 1 ![1, 0] rfl _ rfl) $$ H13
  iintro H13
  rw [wp_bind]
  iapply (loadAny c arg13) $$ H13
  iintro %v4 H13
  rw [wp_bind]
  iapply (row_store c arg13 M2 _ 4 ![4, 0] rfl _ rfl) $$ H13
  iintro H13
  rw [wp_bind]
  iapply (loadAny c arg13) $$ H13
  iintro %v2 H13
  rw [wp_bind]
  iapply (row_store c arg13 M2 _ 2 ![2, 0] rfl _ rfl) $$ H13
  iintro H13
  rw [wp_bind]
  iapply (loadAny c arg13) $$ H13
  iintro %v5 H13
  rw [wp_bind]
  iapply (row_store c arg13 M2 _ 5 ![5, 0] rfl _ rfl) $$ H13
  iintro H13
  rw [wp_bind]
  iapply (wait Variants.none (c : Thread nD τ) none countersEmb () rfl) $$ [HX HW]
  · isplitl [HX]; · iexact HX
    iexact HW
  iintro ⟨⟨H11, H0⟩, S18, HW⟩
  iapply (Scf.wp_for_bind frame _ Set.univ k0_t2_loop.lb k0_t2_loop.ub k0_t2_loop.st k0_t2_ok () _
    (fun t _ => Inv2 c arg3 arg6 arg10 arg14 arg15 arg19 arg20 X3 E6 t)
    (fun t _ => body2_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X3 E6 _ _ _ _ t)) $$ [HA H14 H15 S20 H6 HW]
  · unfold Inv2
    isplitl [HA]
    · iexact HA
    isplitl [H14 H15 S20]
    · iapply (start2 c arg14 arg15 arg20 E6)
      isplitl [H14]; · iexact H14
      isplitl [H15] <;> iassumption
    isplitl [H6] <;> iassumption
  iintro %acc2 HA
  unfold Inv2
  rw [show Scf.trips k0_t2_loop.lb k0_t2_loop.ub k0_t2_loop.st = 9 from trips2]
  icases HA with ⟨HA, HB, H6, HW⟩
  ihave HE := (end2 c arg3 arg10 arg14 arg15 arg19 arg20 X3 E6) $$ [HA HB]
  · isplitl [HA] <;> iassumption
  icases HE with ⟨⟨H10, H3, S19⟩, ⟨H15, H14, S20⟩⟩
  iapply (Scf.wp_for_bind frame _ Set.univ k0_t3_loop.lb k0_t3_loop.ub k0_t3_loop.st k0_t3_ok () _
    (fun t _ => Inv3 c arg4 arg5 arg7 arg8 arg9 arg10 arg11 arg12 arg13 arg15 arg16 arg17 arg21 arg22 S4 B5 (W10T X3) X0 (G12T M1) (H13T M2) E6 t)
    (fun t _ => by rw [body_eq]; exact body3_wp c arg4 arg5 arg7 harg7 arg8 harg8 arg9 arg10 arg11 arg12 arg13 arg15 arg16 harg16 arg17 harg17 arg21 arg22 S4 B5 (W10T X3) X0 (G12T M1) (H13T M2) E6 t))
    $$ [H16 H17 S21 S22 H8 H7 H9 H12 H15 H4 H13 H10 H11 H5 HW]
  · unfold Inv3 Known
    isplitl [H16 H17 S21 S22]
    · rw [show bigSep Finset.univ (slotSt c arg7 arg8 arg16 arg17 arg21 arg22 S4 B5 (W10T X3) X0 (G12T M1) (H13T M2) E6 0) = bigSep Finset.univ (fun s : Fin 3 => Free c arg16 arg17 arg21 arg22 s) from
        bigSep_congr fun s _ => if_neg (Nat.not_lt_zero _)]
      iapply (start3 c arg16 arg17 arg21 arg22)
      isplitl [H16]; · iexact H16
      isplitl [H17]; · iexact H17
      isplitl [S21] <;> iassumption
    isplitl [H8]
    · ihave H8 := (KV_congr_set (c : Thread nD τ) (J := out8 0) (by ext i; rw [out8, mem_cells]; simp)) $$ H8
      iapply (KV_mono (c : Thread nD τ) ?_) $$ H8
      intro i _ x _ hK
      exact absurd hK (by omega)
    isplitl [H7]
    · ihave H7 := (KV_congr_set (c : Thread nD τ) (J := out7 0) (by ext i; rw [out7, mem_cells]; simp)) $$ H7
      iapply (KV_mono (c : Thread nD τ) ?_) $$ H7
      intro i _ x _ hK
      exact absurd hK (by omega)
    isplitl [H9]
    · iapply (KV_mono (c : Thread nD τ) ?_) $$ H9
      intro i _ x _ hK
      unfold K9 at hK
      omega
    isplitl [H12 H15 H4 H13 H10 H11 H5]
    · isplitl [H12]
      · iapply (KV_mono (c : Thread nD τ) ?_) $$ H12
        intro i _ x hx
        refine hx ?_
        have h0 : (i 0).val < 2 := (i 0).isLt
        have h1 : (i 1).val < 2304 := (i 1).isLt
        show 18 * (i 0).val + (i 1).val / 128 < 18 * 1 + 18
        omega
      isplitl [H15]; · iexact H15
      isplitl [H4]; · iexact H4
      isplitl [H13]
      · iapply (KV_mono (c : Thread nD τ) ?_) $$ H13
        intro i _ x hx
        refine hx ?_
        have h0 : (i 0).val < 8 := (i 0).isLt
        show (((((6 ≤ (i 0).val ∨ (i 0).val = 0) ∨ (i 0).val = 3) ∨ (i 0).val = 1) ∨ (i 0).val = 4) ∨ (i 0).val = 2) ∨ (i 0).val = 5
        omega
      isplitl [H10]; · iexact H10
      isplitl [H11] <;> iassumption
    iexact HW
  iintro %acc3 HI
  rw [show Scf.trips k0_t3_loop.lb k0_t3_loop.ub k0_t3_loop.st = 36 from trips36]
  iapply (pureStep Variants.none (c : Thread nD τ) none Set.univ _ rfl)
  iapply (drain_wp c arg4 arg5 arg7 harg7 arg8 harg8 arg9 arg10 arg11 arg12 arg13 arg15 arg16 harg16 arg17 harg17 arg21 arg22 S4 B5 (W10T X3) X0 (G12T M1) (H13T M2) E6) $$ HI
  unfold Known
  iintro ⟨HF, H8, H7, H9, ⟨H12, H15, H4, H13, H10, H11, H5⟩, HW⟩
  ihave HF := (end3 c arg16 arg17 arg21 arg22) $$ HF
  icases HF with ⟨H16, H17, S21, S22⟩
  iapply HK
  unfold Done
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [H7 H8 H9]
  · isplitl [H7]; · iexact H7
    isplitl [H8] <;> iassumption
  isplitl [H10 H11 H12 H13 H14 H15 H16 H17]
  · isplitl [H10]; · iapply (KV_mono (c : Thread nD τ) (fun _ _ _ _ => trivial)) $$ H10
    isplitl [H11]; · iapply (KV_mono (c : Thread nD τ) (fun _ _ _ _ => trivial)) $$ H11
    isplitl [H12]; · iapply (KV_mono (c : Thread nD τ) (fun _ _ _ _ => trivial)) $$ H12
    isplitl [H13]; · iapply (KV_mono (c : Thread nD τ) (fun _ _ _ _ => trivial)) $$ H13
    isplitl [H14]; · iapply (KV_mono (c : Thread nD τ) (fun _ _ _ _ => trivial)) $$ H14
    isplitl [H15]; · iapply (KV_mono (c : Thread nD τ) (fun _ _ _ _ => trivial)) $$ H15
    isplitl [H16]; · iexact H16
    iexact H17
  isplitl [S18 S19 S20 S21 S22]
  · isplitl [S18]; · iexact S18
    isplitl [S19]; · iexact S19
    isplitl [S20]; · iexact S20
    isplitl [S21] <;> iassumption
  iexact HW

end Steps

end Cert.Kernel.Roll
-- ==== Proof.Bits.Run.lean ====
/-
  The launch of the whole program: its frame, and the values of its three results.
-/
module

public import proofs.«01_k».proof.Proof.Bits.Whole
public import proofs.«01_k».proof.Proof.Gen.Kernel.Frame
public import Idealize.ShloMosaic.Lib.Pipeline.FrameSuffixV

@[expose] public section

set_option maxRecDepth 16384

noncomputable section

namespace Cert.Kernel.Roll

open Idealize.ShloMosaic Idealize.ShloMosaic.TcCoe Idealize.ShloMosaic.ValueIdx
open Idealize.SL Idealize.SL.Sem Idealize.SL.RA
open Idealize.SL.BI (sProp Storable bigSep bigSep_univ_split bigSep_congr bigSep_mono)
open scoped Idealize.SL.BI
open Idealize.SL.BI.BIBase Idealize.SL.BI.Laws Idealize.SL.ProofMode
open Cert.Kernel Cert.Kernel.Gen Cert.Cells Idealize.ShloMosaic.Transfers
open Idealize.ShloMosaic.Pipeline (Dat Cfg Window BodyObligation cellOf)

variable {F : FTy → Type} [FloatOps F]
local notation "𝕄" => MT nD τ sig Unit (Elt F) ℕ (Pipeline.UD sig nD τ) ℕ

/-! ## Whole memrefs -/

section Whole
variable (c : Dev nD) {sp : Space} {s : Shape} {e : EltTy} (M : Memref sig .tc sp s e)

theorem KV_owns (X : s.Idx → Elt F e) :
    (KV (c : Thread nD τ) M.view Finset.univ fullShare (is X) : sProp 𝕄) = owns (c : Thread nD τ) M fullShare X := by
  unfold KV owns
  have e : ∀ f, (∀ i ∈ (Finset.univ : Finset s.Idx), is X i (M.view.read (Elt F) f i)) ↔ M.view.read (Elt F) f = X := by
    intro f
    constructor
    · intro h; funext i; exact h i (Finset.mem_univ i)
    · intro h i _; unfold is; rw [h]
  simp only [e]
  rfl

theorem KV_some (X : s.Idx → Elt F e) :
    (owns (c : Thread nD τ) M fullShare X : sProp 𝕄) ⊢ KV (c : Thread nD τ) M.view Finset.univ fullShare any := by
  rw [← KV_owns]
  exact KV_mono _ fun _ _ _ _ => trivial

theorem KV_has :
    (KV (c : Thread nD τ) M.view Finset.univ fullShare any : sProp 𝕄) ⊢ iprop(∃ X, owns (c : Thread nD τ) M fullShare X) := by
  unfold KV owns
  iintro ⟨%f, -, H⟩
  iexists (M.view.read (Elt F) f)
  iexists f
  isplitr
  · ipureintro; rfl
  iexact H

end Whole

section Owns
variable (c : Dev nD)
variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X0 : S2x128x2304.Idx → Elt F .bf16) (M1 M2 : S2x2304.Idx → Elt F .f32) (X3 : S2304x9216.Idx → Elt F .fp8e4m3)
  (S4 : S18x72.Idx → Elt F .i32) (B5 : S72x128.Idx → Elt F .f32) (E6 : S9x8x128.Idx → Elt F .i32)

/-- What is held before the kernel and after it, every buffer at its named or at some contents. -/
def Held0 : sProp 𝕄 :=
  iprop((owns (c : Thread nD τ) arg0 fullShare X0
      ∗ owns (c : Thread nD τ) arg1 fullShare M1
      ∗ owns (c : Thread nD τ) arg2 fullShare M2
      ∗ owns (c : Thread nD τ) arg3 fullShare X3
      ∗ owns (c : Thread nD τ) arg4 fullShare S4
      ∗ owns (c : Thread nD τ) arg5 fullShare B5
      ∗ owns (c : Thread nD τ) arg6 fullShare E6)
    ∗ ((∃ d, owns (c : Thread nD τ) arg7 fullShare d) ∗ (∃ d, owns (c : Thread nD τ) arg8 fullShare d) ∗ (∃ d, owns (c : Thread nD τ) arg9 fullShare d))
    ∗ ((∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d))
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

def Held1 : sProp 𝕄 :=
  iprop((owns (c : Thread nD τ) arg0 fullShare X0
      ∗ owns (c : Thread nD τ) arg1 fullShare M1
      ∗ owns (c : Thread nD τ) arg2 fullShare M2
      ∗ owns (c : Thread nD τ) arg3 fullShare X3
      ∗ owns (c : Thread nD τ) arg4 fullShare S4
      ∗ owns (c : Thread nD τ) arg5 fullShare B5
      ∗ owns (c : Thread nD τ) arg6 fullShare E6)
    ∗ (owns (c : Thread nD τ) arg7 fullShare (YC S4 B5 (W10T X3) X0 (G12T M1) (H13T M2) E6) ∗ owns (c : Thread nD τ) arg8 fullShare (WC (W10T X3) (G12T M1) E6) ∗ owns (c : Thread nD τ) arg9 fullShare (T9 S4 E6))
    ∗ ((∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d))
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

theorem start_held : Held0 c arg0 arg1 arg2 arg3 arg4 arg5 arg6 arg7 arg8 arg9 arg10 arg11 arg12 arg13 arg14 arg15 arg16 arg17 arg18 arg19 arg20 arg21 arg22 X0 M1 M2 X3 S4 B5 E6 ⊢ (Start c arg0 arg1 arg2 arg3 arg4 arg5 arg6 arg7 arg8 arg9 arg10 arg11 arg12 arg13 arg14 arg15 arg16 arg17 arg18 arg19 arg20 arg21 arg22 X0 M1 M2 X3 S4 B5 E6 : sProp 𝕄) := by
  unfold Held0 Start
  simp only [KV_owns]
  iintro ⟨HI, ⟨⟨%dH7, H7⟩, ⟨%dH8, H8⟩, ⟨%dH9, H9⟩⟩, ⟨⟨%dH10, H10⟩, ⟨%dH11, H11⟩, ⟨%dH12, H12⟩, ⟨%dH13, H13⟩, ⟨%dH14, H14⟩, ⟨%dH15, H15⟩, ⟨%dH16, H16⟩, ⟨%dH17, H17⟩⟩, HS, HW⟩
  isplitl [HI]; · iexact HI
  isplitl [H7 H8 H9]
  · isplitl [H7]; · iapply (KV_some c _ _) $$ H7
    isplitl [H8]; · iapply (KV_some c _ _) $$ H8
    iapply (KV_some c _ _) $$ H9
  isplitl [H10 H11 H12 H13 H14 H15 H16 H17]
  · isplitl [H10]; · iapply (KV_some c _ _) $$ H10
    isplitl [H11]; · iapply (KV_some c _ _) $$ H11
    isplitl [H12]; · iapply (KV_some c _ _) $$ H12
    isplitl [H13]; · iapply (KV_some c _ _) $$ H13
    isplitl [H14]; · iapply (KV_some c _ _) $$ H14
    isplitl [H15]; · iapply (KV_some c _ _) $$ H15
    isplitl [H16]; · iapply (KV_some c _ _) $$ H16
    iapply (KV_some c _ _) $$ H17
  isplitl [HS]; · iexact HS
  iexact HW

theorem held_done : (Done c arg0 arg1 arg2 arg3 arg4 arg5 arg6 arg7 arg8 arg9 arg10 arg11 arg12 arg13 arg14 arg15 arg16 arg17 arg18 arg19 arg20 arg21 arg22 X0 M1 M2 X3 S4 B5 E6 : sProp 𝕄) ⊢ Held1 c arg0 arg1 arg2 arg3 arg4 arg5 arg6 arg7 arg8 arg9 arg10 arg11 arg12 arg13 arg14 arg15 arg16 arg17 arg18 arg19 arg20 arg21 arg22 X0 M1 M2 X3 S4 B5 E6 := by
  unfold Held1 Done
  simp only [KV_owns]
  iintro ⟨HI, HR, ⟨H10, H11, H12, H13, H14, H15, H16, H17⟩, HS, HW⟩
  isplitl [HI]; · iexact HI
  isplitl [HR]; · iexact HR
  isplitl [H10 H11 H12 H13 H14 H15 H16 H17]
  · isplitl [H10]; · iapply (KV_has c _) $$ H10
    isplitl [H11]; · iapply (KV_has c _) $$ H11
    isplitl [H12]; · iapply (KV_has c _) $$ H12
    isplitl [H13]; · iapply (KV_has c _) $$ H13
    isplitl [H14]; · iapply (KV_has c _) $$ H14
    isplitl [H15]; · iapply (KV_has c _) $$ H15
    isplitl [H16]; · iapply (KV_has c _) $$ H16
    iapply (KV_has c _) $$ H17
  isplitl [HS]; · iexact HS
  iexact HW

theorem whole_owns (Q : PUnit → sProp 𝕄) :
    Held0 c arg0 arg1 arg2 arg3 arg4 arg5 arg6 arg7 arg8 arg9 arg10 arg11 arg12 arg13 arg14 arg15 arg16 arg17 arg18 arg19 arg20 arg21 arg22 X0 M1 M2 X3 S4 B5 E6
    ⊢ iprop((Held1 c arg0 arg1 arg2 arg3 arg4 arg5 arg6 arg7 arg8 arg9 arg10 arg11 arg12 arg13 arg14 arg15 arg16 arg17 arg18 arg19 arg20 arg21 arg22 X0 M1 M2 X3 S4 B5 E6 -∗ Q ⟨⟩)
      -∗ wp frame (wpE (defs₀ (F := F)) Variants.none (c : Thread nD τ) none) Set.univ (cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) Q) := by
  iintro H HK
  ihave H := (start_held c arg0 arg1 arg2 arg3 arg4 arg5 arg6 arg7 arg8 arg9 arg10 arg11 arg12 arg13 arg14 arg15 arg16 arg17 arg18 arg19 arg20 arg21 arg22 X0 M1 M2 X3 S4 B5 E6) $$ H
  iapply (whole_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X0 M1 M2 X3 S4 B5 E6 Q) $$ H
  iintro HD
  iapply HK
  iapply (held_done c arg0 arg1 arg2 arg3 arg4 arg5 arg6 arg7 arg8 arg9 arg10 arg11 arg12 arg13 arg14 arg15 arg16 arg17 arg18 arg19 arg20 arg21 arg22 X0 M1 M2 X3 S4 B5 E6) $$ HD

end Owns

/-- A separating conjunction over a sum type is one over each summand. -/
theorem sep_sum {A B : Type} [Fintype A] [Fintype B] (f : A ⊕ B → sProp 𝕄) :
    bigSep Finset.univ f = iprop(bigSep Finset.univ (fun a => f (.inl a)) ∗ bigSep Finset.univ (fun b => f (.inr b))) := by
  classical
  rw [show (Finset.univ : Finset (A ⊕ B)) = Finset.univ.map ⟨Sum.inl, Sum.inl_injective⟩ ∪ Finset.univ.map ⟨Sum.inr, Sum.inr_injective⟩ from by
    ext x; cases x <;> simp]
  rw [BI.bigSep_union (by
    rw [Finset.disjoint_left]; intro x hx hy
    simp only [Finset.mem_map, Finset.mem_univ, true_and, Function.Embedding.coeFn_mk] at hx hy
    obtain ⟨a, rfl⟩ := hx; obtain ⟨b, h⟩ := hy; cases h), BI.bigSep_map, BI.bigSep_map]
  rfl

/-! ## The kernel's own semaphores, and the buffers its copies read and write -/

abbrev OS : Type := Unit ⊕ Fin 36 ⊕ Fin 9 ⊕ Fin 3 ⊕ Fin 3

abbrev osem : OS → SemLoc sig
  | .inl _ => .dma cc0_scratch8.sem
  | .inr (.inl k) => .dma (cc0_scratch9.ix (ix1 k))
  | .inr (.inr (.inl k)) => .dma (cc0_scratch10.ix (ix1 k))
  | .inr (.inr (.inr (.inl k))) => .dma (cc0_scratch11.ix (ix1 k))
  | .inr (.inr (.inr (.inr k))) => .dma (cc0_scratch12.ix (ix1 k))

/-- Where each of the semaphores stands in the pool. -/
def opos : OS → Fin 58
  | .inl _ => 6
  | .inr (.inl k) => ⟨7 + k.val, by omega⟩
  | .inr (.inr (.inl k)) => ⟨43 + k.val, by omega⟩
  | .inr (.inr (.inr (.inl k))) => ⟨52 + k.val, by omega⟩
  | .inr (.inr (.inr (.inr k))) => ⟨55 + k.val, by omega⟩

theorem osem_eq : ∀ k : OS, osem k = .dma (opos k) := by decide +kernel

theorem ownSemFacts : Pipeline.OwnSemFacts spec0 osem where
  isScoped := by decide +kernel
  inj := by
    have h : Function.Injective opos := by decide +kernel
    intro a b e
    rw [osem_eq, osem_eq] at e
    exact h (by injection e)
  disj := by decide +kernel

theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), .dma cc0_scratch8.sem) 0
      ∗ bigSep Finset.univ (fun k : Fin 36 => semVal ((c : Thread nD τ), .dma (cc0_scratch9.ix (ix1 k))) 0)
      ∗ bigSep Finset.univ (fun k : Fin 9 => semVal ((c : Thread nD τ), .dma (cc0_scratch10.ix (ix1 k))) 0)
      ∗ bigSep Finset.univ (fun k : Fin 3 => semVal ((c : Thread nD τ), .dma (cc0_scratch11.ix (ix1 k))) 0)
      ∗ bigSep Finset.univ (fun k : Fin 3 => semVal ((c : Thread nD τ), .dma (cc0_scratch12.ix (ix1 k))) 0)) := by
  unfold Pipeline.ownSems0
  rw [sep_sum, sep_sum, sep_sum, sep_sum]
  rw [show (Finset.univ : Finset Unit) = {()} from rfl, BI.bigSep_singleton]

def Hs : Finset (Ref sig .tc) := {main_arg0, main_arg3}
def Rs : Finset (Ref sig .tc) := {main_v7_0, main_v7_1}
theorem Hs_sub : Hs ⊆ Pipeline.restRefs sig spec0 := by decide
theorem Rs_sub : Rs ⊆ Pipeline.restRefs sig spec0 \ Hs := by decide

variable (m : (ℓ : Loc nD τ sig) → Buf (Elt F) ℓ) (ρ : Dev nD → PrngReg)

/-! ## The three results -/

abbrev aX (c : Dev nD) : S2x128x2304.Idx → Elt F .bf16 := V m c main_arg0
abbrev aM (c : Dev nD) : S2x2304.Idx → Elt F .f32 := iblk m c 0 t0_0
abbrev aH (c : Dev nD) : S2x2304.Idx → Elt F .f32 := iblk m c 1 t0_0
abbrev aW (c : Dev nD) : S2304x9216.Idx → Elt F .fp8e4m3 := V m c main_arg3
abbrev aS (c : Dev nD) : S18x72.Idx → Elt F .i32 := iblk m c 2 t0_0
abbrev aB (c : Dev nD) : S72x128.Idx → Elt F .f32 := iblk m c 3 t0_0
abbrev aE (c : Dev nD) : S9x8x128.Idx → Elt F .i32 := iblk m c 4 t0_0

def resY (c : Dev nD) : S2x128x9216.Idx → Elt F .bf16 :=
  YC (aS m c) (aB m c) (W10T (aW m c)) (aX m c) (G12T (aM m c)) (H13T (aH m c)) (aE m c)
def resW (c : Dev nD) : S2x2304x9216.Idx → Elt F .fp8e4m3 := WC (W10T (aW m c)) (G12T (aM m c)) (aE m c)
def resS (c : Dev nD) : S2x18x72.Idx → Elt F .i32 := T9 (aS m c) (aE m c)

/-- The buffers when the region is left. -/
def G (c : Dev nD) (b : Ref sig .tc) : Buf (Elt F) ((c : Thread nD τ).loc b) :=
  Function.update (β := fun b : Ref sig .tc => Buf (Elt F) ((c : Thread nD τ).loc b))
    (Function.update (β := fun b : Ref sig .tc => Buf (Elt F) ((c : Thread nD τ).loc b)) (V m c) main_v7_0 (resY m c)) main_v7_1 (resW m c) b

theorem G_0 (c : Dev nD) : G m c main_v7_0 = resY m c := by
  unfold G
  rw [Function.update_of_ne (by decide), Function.update_self]
theorem G_1 (c : Dev nD) : G m c main_v7_1 = resW m c := by
  unfold G
  rw [Function.update_self]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resS m c
  Φ k := if k.val = 0 then Pipeline.ΦDRV osem spec0 Hs Rs (V m) (V m) c else Pipeline.ΦDRV osem spec0 Hs Rs (V m) (G m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = resS m c := by dsimp only [dats]

/-- An input's staging buffer holds the window's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem Phi_eq (c : Dev nD) (R : (c : Dev nD) → (b : Ref sig .tc) → Buf (Elt F) ((c : Thread nD τ).loc b)) :
    (Pipeline.ΦDRV osem spec0 Hs Rs (V m) R c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch6) fullShare d)
          ∗ (∃ d, owns (c : Thread nD τ) (Memref.whole cc0_scratch7) fullShare d) ∗ (∃ d, owns (c : Thread nD τ) (Memref.whole cc0_scratch5) fullShare d))
        ∗ (semVal ((c : Thread nD τ), .dma cc0_scratch8.sem) 0
          ∗ bigSep Finset.univ (fun k : Fin 36 => semVal ((c : Thread nD τ), .dma (cc0_scratch9.ix (ix1 k))) 0)
          ∗ bigSep Finset.univ (fun k : Fin 9 => semVal ((c : Thread nD τ), .dma (cc0_scratch10.ix (ix1 k))) 0)
          ∗ bigSep Finset.univ (fun k : Fin 3 => semVal ((c : Thread nD τ), .dma (cc0_scratch11.ix (ix1 k))) 0)
          ∗ bigSep Finset.univ (fun k : Fin 3 => semVal ((c : Thread nD τ), .dma (cc0_scratch12.ix (ix1 k))) 0))
        ∗ (owns (c : Thread nD τ) (Memref.whole main_arg0) fullShare (aX m c) ∗ owns (c : Thread nD τ) (Memref.whole main_arg3) fullShare (aW m c))
        ∗ (owns (c : Thread nD τ) (Memref.whole main_v7_0) fullShare (R c main_v7_0) ∗ owns (c : Thread nD τ) (Memref.whole main_v7_1) fullShare (R c main_v7_1))) := by
  unfold Pipeline.ΦDRV
  rw [scopedRest0_eq, ownSems_eq, BI.bigSep_eq_bigSepL_of_eq (S := Hs) [main_arg0, main_arg3] (by decide) (by decide),
    BI.bigSep_eq_bigSepL_of_eq (S := Rs) [main_v7_0, main_v7_1] (by decide) (by decide)]
  simp only [owns_whole]
  rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  simp only [before_0, before_1, before_2, before_3, before_4]
  rw [after_0, after_1, after_2, after_3, after_4, after_5]
  rw [show (dats m 0 c).Φ t0_0.castSucc = Pipeline.ΦDRV osem spec0 Hs Rs (V m) (V m) c from rfl, Phi_eq,
    show (dats m 0 c).Φ t0_0.succ = Pipeline.ΦDRV osem spec0 Hs Rs (V m) (G m) c from rfl, Phi_eq, G_0, G_1]
  unfold Dat.owesAt Pipeline.owesWithin
  rw [show (dats m 0 c).owed t0_0.castSucc = 0 from rfl, show (dats m 0 c).owed t0_0.succ = 0 from rfl]
  iintro ⟨⟨⟨⟨%d0, C0⟩, ⟨%d1, C1⟩, ⟨%d2, C2⟩, ⟨%d3, C3⟩, ⟨%d4, C4⟩, ⟨%d6, C6⟩, ⟨%d7, C7⟩, ⟨%d5, C5⟩⟩, HS, ⟨A0, A3⟩, ⟨R0, R1⟩⟩, ⟨%W, -, HW⟩, ⟨%e0, H0⟩, ⟨%e1, H1⟩, ⟨%e2, H2⟩, ⟨%e3, H3⟩, ⟨%e4, H4⟩, ⟨%e5, H5⟩⟩
  iapply (whole_owns c (Memref.whole main_arg0) (Memref.isWhole_whole _) (st0_0 t0_0) (hstage0_0 0) (st0_1 t0_0) (hstage0_1 0) (Memref.whole main_arg3) (Memref.isWhole_whole _)
    (st0_2 t0_0) (hstage0_2 0) (st0_3 t0_0) (hstage0_3 0) (st0_4 t0_0) (hstage0_4 0) (Memref.whole main_v7_0) (Memref.isWhole_whole _) (Memref.whole main_v7_1) (Memref.isWhole_whole _)
    (st0_5 t0_0) (hstage0_5 0) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 cc0_scratch10 cc0_scratch11 cc0_scratch12
    (aX m c) (aM m c) (aH m c) (aW m c) (aS m c) (aB m c) (aE m c) _) $$ [A0 H0 H1 A3 H2 H3 H4 R0 R1 H5 C0 C1 C2 C3 C4 C5 C6 C7 HS HW]
  · unfold Held0
    isplitl [A0 H0 H1 A3 H2 H3 H4]
    · isplitl [A0]; · iexact A0
      isplitl [H0]; · iexact H0
      isplitl [H1]; · iexact H1
      isplitl [A3]; · iexact A3
      isplitl [H2]; · iexact H2
      isplitl [H3]; · iexact H3
      iexact H4
    isplitl [R0 R1 H5]
    · isplitl [R0]; · iexists _; iexact R0
      isplitl [R1]; · iexists _; iexact R1
      iexists _; iexact H5
    isplitl [C0 C1 C2 C3 C4 C5 C6 C7]
    · isplitl [C0]; · iexists _; iexact C0
      isplitl [C1]; · iexists _; iexact C1
      isplitl [C2]; · iexists _; iexact C2
      isplitl [C3]; · iexists _; iexact C3
      isplitl [C4]; · iexists _; iexact C4
      isplitl [C5]; · iexists _; iexact C5
      isplitl [C6]; · iexists _; iexact C6
      iexists _; iexact C7
    isplitl [HS]; · iexact HS
    iexists W; iexact HW
  unfold Held1
  iintro ⟨⟨A0, H0, H1, A3, H2, H3, H4⟩, ⟨R0, R1, H5⟩, ⟨C0, C1, C2, C3, C4, C5, C6, C7⟩, HS, ⟨%W', HW⟩⟩
  isplitl [C0 C1 C2 C3 C4 C5 C6 C7 HS A0 A3 R0 R1]
  · isplitl [C0 C1 C2 C3 C4 C5 C6 C7]
    · isplitl [C0]; · iexact C0
      isplitl [C1]; · iexact C1
      isplitl [C2]; · iexact C2
      isplitl [C3]; · iexact C3
      isplitl [C4]; · iexact C4
      isplitl [C6]; · iexact C6
      isplitl [C7]; · iexact C7
      iexact C5
    isplitl [HS]; · iexact HS
    isplitl [A0 A3]
    · isplitl [A0]; · iexact A0
      iexact A3
    isplitl [R0]; · iexact R0
    iexact R1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer when the program ends: the host operations after the region on what the region left. -/
def endAt (c : Dev nD) (b : Ref sig .tc) : Buf (Elt F) ((c : Thread nD τ).loc b) :=
  StableHlo.after (List.flatten [hostOps1]) (Pipeline.withArrays spec0 c (Pipeline.withR (V0 m c) Rs c (G m c)) fun w => (dats m 0 c).arrAt w cfg0.N) (Proc.devRef .tc b)

set_option backward.isDefEq.respectTransparency.types false in
set_option maxHeartbeats 800000 in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endAt m c b) ∧ r.2.sem = fun _ => 0) :=
  Pipeline.θ_run_frame_dmaR_aroundV cfgs (dats m) (0 : Fin 1) launch0 osem defs₀ Variants.none ownSemFacts Hs Rs Hs_sub Rs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun _ => .rfl) (hout := fun _ => .rfl) (Q' := _) (hQ' := fun r h => h)

end Cert.Kernel.Roll

end
-- ==== Proof.Bits.Final.lean ====
/-
  What every buffer holds when the whole program ends: the arguments unchanged, the three results.
-/
module

public import proofs.«01_k».proof.Proof.Bits.Run
public import Idealize.ShloMosaic.Lib.StableHlo.RunRead

@[expose] public section

set_option maxRecDepth 16384

noncomputable section

namespace Cert.Kernel.Roll

open Idealize.ShloMosaic Idealize.ShloMosaic.TcCoe Idealize.ShloMosaic.ValueIdx
open Idealize.SL Idealize.SL.Sem
open Cert.Kernel Cert.Kernel.Gen
open Idealize.ShloMosaic.Pipeline (Dat Cfg Window BodyObligation cellOf)

variable {F : FTy → Type} [FloatOps F]
variable (m : (ℓ : Loc nD τ sig) → Buf (Elt F) ℓ) (ρ : Dev nD → PrngReg)

/-! ## A window is its whole array -/

theorem iblk_0 (c : Dev nD) : (iblk m c 0 t0_0 : S2x2304.Idx → Elt F .f32) = V m c main_arg1 := by
  funext j
  unfold iblk
  refine congrArg (V m c main_arg1) (funext fun a => Fin.ext ?_)
  show 0 * _ + 1 * (j a).val = (j a).val
  omega
theorem iblk_1 (c : Dev nD) : (iblk m c 1 t0_0 : S2x2304.Idx → Elt F .f32) = V m c main_arg2 := by
  funext j
  unfold iblk
  refine congrArg (V m c main_arg2) (funext fun a => Fin.ext ?_)
  show 0 * _ + 1 * (j a).val = (j a).val
  omega
theorem iblk_2 (c : Dev nD) : (iblk m c 2 t0_0 : S18x72.Idx → Elt F .i32) = V m c main_arg4 := by
  funext j
  unfold iblk
  refine congrArg (V m c main_arg4) (funext fun a => Fin.ext ?_)
  show 0 * _ + 1 * (j a).val = (j a).val
  omega
theorem iblk_3 (c : Dev nD) : (iblk m c 3 t0_0 : S72x128.Idx → Elt F .f32) = V m c main_v0 := by
  funext j
  unfold iblk
  refine congrArg (V m c main_v0) (funext fun a => Fin.ext ?_)
  show 0 * _ + 1 * (j a).val = (j a).val
  omega
theorem iblk_4 (c : Dev nD) : (iblk m c 4 t0_0 : S9x8x128.Idx → Elt F .i32) = V m c main_v6 := by
  funext j
  unfold iblk
  refine congrArg (V m c main_v6) (funext fun a => Fin.ext ?_)
  show 0 * _ + 1 * (j a).val = (j a).val
  omega

/-- The scales' array after the run. -/
theorem arr_5 (c : Dev nD) : ((dats m 0 c).arrAt 5 cfg0.N : S2x18x72.Idx → Elt F .i32) = resS m c := by
  have h := (dats m 0 c).read_blk_arrAt_eq_flushed 5
    (fun t t' _ _ hne => absurd ((fin_N0 t).trans (fin_N0 t').symm) hne) cfg0.N t0_0 t0_0.isLt (flush0_5 t0_0)
  funext j
  have e := congrFun h j
  refine Eq.trans ?_ (e.trans ?_)
  · refine congrArg ((dats m 0 c).arrAt 5 cfg0.N) (funext fun a => Fin.ext ?_)
    show (j a).val = 0 * _ + 1 * (j a).val
    omega
  · show (cfg0.win 5).cut (grid0.coords t0_0) ((dats m 0 c).after 5 t0_0) j = _
    rw [after_5]

/-! ## The end -/

theorem end_of (c : Dev nD) {b : Ref sig .tc} (hb : b ∉ [main_v8]) :
    endAt m c b = Pipeline.withArrays spec0 c (Pipeline.withR (V0 m c) Rs c (G m c)) (fun w => (dats m 0 c).arrAt w cfg0.N) (Proc.devRef .tc b) :=
  StableHlo.after_unwritten [main_v8] rfl hb _

/-- A buffer that is neither an array, nor a result, nor written by the host, ends as the region found it. -/
theorem end_kept (c : Dev nD) {b : Ref sig .tc} (hb : b ∉ [main_v8]) (hr : b ∉ Rs) (ha : ∀ w, Pipeline.arrRef spec0 w ≠ b) :
    endAt m c b = V m c b := by
  rw [end_of m c hb, Pipeline.withArrays_of_ne _ c _ _ b ha]
  exact Pipeline.withR_of_not_mem (V0 m c) Rs c (G m c) b hr

theorem end_result (c : Dev nD) {b : Ref sig .tc} (hb : b ∉ [main_v8]) (hr : b ∈ Rs) (ha : ∀ w, Pipeline.arrRef spec0 w ≠ b) :
    endAt m c b = G m c b := by
  rw [end_of m c hb, Pipeline.withArrays_of_ne _ c _ _ b ha]
  exact Pipeline.withR_of_mem (V0 m c) Rs c (G m c) b hr

theorem end_v8 (c : Dev nD) : (endAt m c main_v8 : S2x18x72.Idx → Elt F .f32) = bitcastToFloat .f32 (resS m c) := by
  unfold endAt
  simp only [hostOps1, List.flatten_cons, List.flatten_nil, List.append_nil]
  rw [StableHlo.after_cons, StableHlo.after_nil]
  refine (StableHlo.unary_result' _ _ _ _).trans ?_
  exact congrArg (bitcastToFloat .f32) ((Pipeline.withArrays_arr spec0 (by decide) c _ _ 5).trans (arr_5 m c))

/-! ## The whole program -/

/-- The arguments end as they were. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- Every run of the program ends with the three results named, the arguments as they were, and every semaphore at zero. -/
theorem results : θ_run defs (onTc (τ := τ) (main (F := F))) ⟨m, fun _ => 0, ρ⟩ (fun r =>
    (∀ c : Dev nD, r.2.mem ((c.tc : Thread nD τ).loc main_v7_0) = resY m c
      ∧ r.2.mem ((c.tc : Thread nD τ).loc main_v7_1) = resW m c
      ∧ r.2.mem ((c.tc : Thread nD τ).loc main_v8) = bitcastToFloat .f32 (resS m c)
      ∧ Kept m c r) ∧ r.2.sem = fun _ => 0) :=
  (θ_run defs _ _).mono (fun r h => ⟨fun c =>
    ⟨((h.1 c).2 main_v7_0 (Pipeline.mem_restRefs_of main_v7_0 (by decide) (by decide))).trans
        ((end_result m c (by decide) (by decide) (by decide)).trans (G_0 m c)),
      ((h.1 c).2 main_v7_1 (Pipeline.mem_restRefs_of main_v7_1 (by decide) (by decide))).trans
        ((end_result m c (by decide) (by decide) (by decide)).trans (G_1 m c)),
      ((h.1 c).2 main_v8 (Pipeline.mem_restRefs_of main_v8 (by decide) (by decide))).trans (end_v8 m c),
      ((h.1 c).2 main_arg0 (Pipeline.mem_restRefs_of main_arg0 (by decide) (by decide))).trans
        ((end_kept m c (by decide) (by decide) (by decide)).trans (V_main_arg0 m c)),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).2 main_arg3 (Pipeline.mem_restRefs_of main_arg3 (by decide) (by decide))).trans
        ((end_kept m c (by decide) (by decide) (by decide)).trans (V_main_arg3 m c)),
      ((h.1 c).1 2).trans (((dats m 0 c).arrAt_in 2 rfl _).trans ((A_eq m c 2).trans (V_main_arg4 m c))),
      ((h.1 c).2 main_arg5 (Pipeline.mem_restRefs_of main_arg5 (by decide) (by decide))).trans
        ((end_kept m c (by decide) (by decide) (by decide)).trans (V_main_arg5 m c)),
      ((h.1 c).2 main_arg6 (Pipeline.mem_restRefs_of main_arg6 (by decide) (by decide))).trans
        ((end_kept m c (by decide) (by decide) (by decide)).trans (V_main_arg6 m c))⟩, h.2⟩)
    (run_main m ρ)

end Cert.Kernel.Roll

end
-- ==== Proof.RolledIdeal.lean ====
/-
  The third loop's body as a short program: one step per pair of 128-row blocks, each step made of four tile steps
  per batch entry. `body_eq` says the printed body is this program, by unfolding.
-/
module

public import proofs.«01_k».proof.Proof.Gen.KernelIdeal.Loops
public import Idealize.ShloMosaic.Lib.Pipeline.Regions

@[expose] public section

noncomputable section

namespace Cert.KernelIdeal.Roll

open Idealize.ShloMosaic Idealize.ShloMosaic.TcCoe
open Idealize.SL Idealize.SL.Sem
open Cert.KernelIdeal Cert.KernelIdeal.Gen

variable {F : FTy → Type} [FloatOps F]

abbrev T3 := Fin k0_t3_loop.trips

/-- The trip's index, its slot, its two block columns, and where its exponent words stand. -/
def tI (t : T3) : Nat := k0_off16 t 0
def sI (t : T3) : Nat := k0_off19 t 0
def cI (t : T3) (n : Fin 2) : Nat := k0_off18 t (BitVec.ofNat 32 n.val) 2
def eI (t : T3) : Nat := k0_off17 t 0#32 0
def fI (t : T3) (n : Fin 2) : Nat := k0_off17 t (BitVec.ofNat 32 n.val) 1
def colI (t : T3) : Nat := k0_off228 t 2

theorem tI_eq : ∀ t : T3, tI t = t.val := by decide +kernel
theorem sI_eq : ∀ t : T3, sI t = t.val % 3 := by decide +kernel
theorem cI_eq : ∀ (t : T3) (n : Fin 2), cI t n = 2 * t.val + n.val := by decide +kernel
theorem eI_eq : ∀ t : T3, eI t = t.val / 4 := by decide +kernel
theorem fI_eq : ∀ (t : T3) (n : Fin 2), fI t n = 2 * (t.val % 4) + n.val := by decide +kernel
theorem colI_eq : ∀ t : T3, colI t = 256 * t.val := by decide +kernel

theorem trips36 : k0_t3_loop.trips = 36 := by decide +kernel
theorem t_lt (t : T3) : t.val < 36 := lt_of_lt_of_eq t.isLt trips36

/-! The rectangles a tile step touches. -/

def oW (t : T3) (k : Fin 18) (n : Fin 2) : Fin 3 → Nat := ![tI t, 128 * k.val, 128 * n.val]
theorem oW_inb (t : T3) (k : Fin 18) (n : Fin 2) : ∀ a, oW t k n a + S1x128x128.size a ≤ S36x2304x256.size a := by
  have := t_lt t; have := tI_eq t
  intro a; fin_cases a <;> simp [oW, S1x128x128, S36x2304x256] <;> omega
def rW (t : T3) (k : Fin 18) (n : Fin 2) : Rect S36x2304x256 := Rect.unit (oW t k n) S1x128x128.size (oW_inb t k n)

def oWk (t : T3) (kp : Fin 9) : Fin 3 → Nat := ![tI t, 256 * kp.val, 0]
theorem oWk_inb (t : T3) (kp : Fin 9) : ∀ a, oWk t kp a + S1x256x256.size a ≤ S36x2304x256.size a := by
  have := t_lt t; have := tI_eq t
  intro a; fin_cases a <;> simp [oWk, S1x256x256, S36x2304x256] <;> omega
def rWk (t : T3) (kp : Fin 9) : Rect S36x2304x256 := Rect.unit (oWk t kp) S1x256x256.size (oWk_inb t kp)

def oS (t : T3) (k : Fin 18) (n : Fin 2) : Fin 2 → Nat := ![k.val, cI t n]
theorem oS_inb (t : T3) (k : Fin 18) (n : Fin 2) : ∀ a, oS t k n a + S1x1.size a ≤ S18x72.size a := by
  have := t_lt t; have := cI_eq t n
  intro a; fin_cases a <;> simp [oS, S1x1, S18x72] <;> omega
def rS (t : T3) (k : Fin 18) (n : Fin 2) : Rect S18x72 := Rect.unit (oS t k n) S1x1.size (oS_inb t k n)

def oE (t : T3) (k : Fin 18) (n b : Fin 2) : Fin 3 → Nat := ![eI t, fI t n, 32 * (k.val % 4) + k.val / 4 + 5 * b.val]
theorem oE_inb (t : T3) (k : Fin 18) (n b : Fin 2) : ∀ a, oE t k n b a + S1x1x1.size a ≤ S9x8x128.size a := by
  have := t_lt t; have := eI_eq t; have := fI_eq t n
  intro a; fin_cases a <;> simp [oE, S1x1x1, S9x8x128] <;> omega
def rE (t : T3) (k : Fin 18) (n b : Fin 2) : Rect S9x8x128 := Rect.unit (oE t k n b) S1x1x1.size (oE_inb t k n b)

def oC (t : T3) (k : Fin 18) (n b : Fin 2) : Fin 3 → Nat := ![b.val, k.val, cI t n]
theorem oC_inb (t : T3) (k : Fin 18) (n b : Fin 2) : ∀ a, oC t k n b a + S1x1x1.size a ≤ S2x18x72.size a := by
  have := t_lt t; have := cI_eq t n
  intro a; fin_cases a <;> simp [oC, S1x1x1, S2x18x72] <;> omega
def rC (t : T3) (k : Fin 18) (n b : Fin 2) : Rect S2x18x72 := Rect.unit (oC t k n b) S1x1x1.size (oC_inb t k n b)

def oG (k : Fin 18) (b : Fin 2) : Fin 3 → Nat := ![b.val, 128 * k.val, 0]
theorem oG_inb (k : Fin 18) (b : Fin 2) : ∀ a, oG k b a + S1x128x128.size a ≤ S2x2304x128.size a := by
  intro a; fin_cases a <;> simp [oG, S1x128x128, S2x2304x128] <;> omega
def rG (k : Fin 18) (b : Fin 2) : Rect S2x2304x128 := Rect.unit (oG k b) S1x128x128.size (oG_inb k b)

def oH (k : Fin 18) : Fin 2 → Nat := ![0, 128 * k.val]
theorem oH_inb (k : Fin 18) : ∀ a, oH k a + S8x128.size a ≤ S8x2304.size a := by
  intro a; fin_cases a <;> simp [oH, S8x128, S8x2304] <;> omega
def rH (k : Fin 18) : Rect S8x2304 := Rect.unit (oH k) S8x128.size (oH_inb k)

def oX (kp : Fin 9) (b : Fin 2) : Fin 3 → Nat := ![b.val, 0, 256 * kp.val]
theorem oX_inb (kp : Fin 9) (b : Fin 2) : ∀ a, oX kp b a + S1x128x256.size a ≤ S2x128x2304.size a := by
  intro a; fin_cases a <;> simp [oX, S1x128x256, S2x128x2304] <;> omega
def rX (kp : Fin 9) (b : Fin 2) : Rect S2x128x2304 := Rect.unit (oX kp b) S1x128x256.size (oX_inb kp b)

def oT (t : T3) (k : Fin 18) (n b : Fin 2) : Fin 4 → Nat := ![sI t, b.val, 128 * k.val, 128 * n.val]
theorem oT_inb (t : T3) (k : Fin 18) (n b : Fin 2) : ∀ a, oT t k n b a + S1x1x128x128.size a ≤ S3x2x2304x256.size a := by
  have := t_lt t; have := sI_eq t
  intro a; fin_cases a <;> simp [oT, S1x1x128x128, S3x2x2304x256] <;> omega
def rT (t : T3) (k : Fin 18) (n b : Fin 2) : Rect S3x2x2304x256 := Rect.unit (oT t k n b) S1x1x128x128.size (oT_inb t k n b)
theorem rT_packed (t : T3) (k : Fin 18) (n b : Fin 2) : (rT t k n b).PackedRows (EltTy.packing .fp8e4m3) := by
  refine Or.inr ⟨by decide, rfl, Or.inl ⟨?_, ?_⟩⟩
  · show 4 ∣ 128 * k.val
    omega
  · show 4 ∣ 128
    decide

def oY (t : T3) (n b : Fin 2) : Fin 4 → Nat := ![sI t, b.val, 0, 128 * n.val]
theorem oY_inb (t : T3) (n b : Fin 2) : ∀ a, oY t n b a + S1x1x128x128.size a ≤ S3x2x128x256.size a := by
  have := t_lt t; have := sI_eq t
  intro a; fin_cases a <;> simp [oY, S1x1x128x128, S3x2x128x256] <;> omega
def rY (t : T3) (n b : Fin 2) : Rect S3x2x128x256 := Rect.unit (oY t n b) S1x1x128x128.size (oY_inb t n b)
theorem rY_packed (t : T3) (n b : Fin 2) : (rY t n b).PackedRows (EltTy.packing .bf16) := by
  refine Or.inr ⟨by decide, rfl, Or.inl ⟨?_, ?_⟩⟩
  · show 2 ∣ 0
    decide
  · show 2 ∣ 128
    decide

def oB (t : T3) (n : Fin 2) : Fin 2 → Nat := ![cI t n, 0]
theorem oB_inb (t : T3) (n : Fin 2) : ∀ a, oB t n a + S1x128.size a ≤ S72x128.size a := by
  have := t_lt t; have := cI_eq t n
  intro a; fin_cases a <;> simp [oB, S1x128, S72x128] <;> omega
def rB (t : T3) (n : Fin 2) : Rect S72x128 := Rect.unit (oB t n) S1x128.size (oB_inb t n)

/-! The words and tiles a tile step computes. -/

/-- The bits of the reciprocal block factor, and of the block's scale. -/
def invW (e : BitVec 32) : BitVec 32 :=
  Scalar.select (Scalar.cmpi .eq e 1048576#32) 1065353216#32 (Scalar.subi 1065353216#32 (Scalar.shli e 23#32))
def scW (ws e : BitVec 32) : BitVec 32 :=
  Scalar.select (Scalar.cmpi .eq e 1048576#32) 1065353216#32 (Scalar.addi ws (Scalar.shli e 23#32))
/-- A tile's codes, and the tile the matrix product takes. -/
def codesT (wf : FVec F S128x128 .f32) (e : BitVec 32) (g : Vec F S1x128x128 .f32) : FVec F S128x128 .fp8e4m3 :=
  k0_pay6 wf (invW e) g
def tileT (wf : FVec F S128x128 .f32) (ws e : BitVec 32) (g : Vec F S1x128x128 .f32) : FVec F S128x128 .bf16 :=
  k0_pay8 wf (invW e) (scW ws e) g

section Prog

variable (arg7 : Memref sig .tc .hbm S2x128x9216 .bf16) (harg7 : arg7.IsWhole)
  (arg8 : Memref sig .tc .hbm S2x2304x9216 .fp8e4m3) (harg8 : arg8.IsWhole)
variable (arg4 : Memref sig .tc .smem S18x72 .i32) (arg5 : Memref sig .tc .vmem S72x128 .f32)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)

/-- One tile of one batch entry: its scale word and its codes are stored, and the tile of the matrix product is returned. -/
def tileStep (t : T3) (k : Fin 18) (n b : Fin 2) (ws : BitVec 32) (wf : FVec F S128x128 .f32) :
    Prog (TpuEff nD τ sig (Elt F) Λ₀ .tc) (FVec F S128x128 .bf16) := do
  let e : Elt F .i32 ← smemLoad arg15 (rE t k n b) numel1_S1x1x1 rfl
  let _d : Elt F .i32 ← smemLoad arg9 (rC t k n b) numel1_S1x1x1 rfl
  Prog.lift (.store arg9 (rC t k n b) (fun _ => scW ws e) Finset.univ (View.stores_smem_one rfl numel1_S1x1x1) (.inl rfl))
  let g : Vec F S1x128x128 .f32 ← Prog.lift (.load arg12 (rG k b).toLoadRect (View.loadsAt_vmem h_S1x128x128))
  let _c : Vec F S1x1x128x128 .fp8e4m3 ← Prog.lift (.load arg16 (rT t k n b).toLoadRect (View.loadsAt_vmem h_S1x1x128x128))
  Prog.lift (.store arg16 (rT t k n b) (shapeCast S1x1x128x128 (codesT wf e g) shapeCasts_S128x128_S1x1x128x128) Finset.univ
    (View.stores_vmem h_S1x1x128x128 (harg16.storeExact_slice rfl _ (rT_packed t k n b)) (fun _ => rfl)) (.inl rfl))
  pure (tileT wf ws e g)

/-- One block of rows and one block of columns: the shift rows times the scale, and the two tiles. -/
def blkStep (t : T3) (k : Fin 18) (n : Fin 2) :
    Prog (TpuEff nD τ sig (Elt F) Λ₀ .tc) (FVec F S8x128 .f32 × FVec F S128x128 .bf16 × FVec F S128x128 .bf16) := do
  let ws : Elt F .i32 ← smemLoad arg4 (rS t k n) numel1_S1x1 rfl
  let h : Vec F S8x128 .f32 ← Prog.lift (.load arg13 (rH k).toLoadRect (View.loadsAt_vmem h_S8x128))
  let w : Vec F S1x128x128 .fp8e4m3 ← Prog.lift (.load arg10 (rW t k n).toLoadRect (View.loadsAt_vmem h_S1x128x128))
  let t0 ← tileStep arg9 arg12 arg15 arg16 harg16 t k n 0 ws (k0_pay5 w)
  let t1 ← tileStep arg9 arg12 arg15 arg16 harg16 t k n 1 ws (k0_pay5 w)
  pure (k0_pay4 ws h, t0, t1)

/-- The accumulators: the two batch entries' and the shift's. -/
abbrev Acc (F : FTy → Type) [FloatOps F] := FVec F S128x256 .f32 × FVec F S128x256 .f32 × FVec F S16x256 .f32

def kpStep (t : T3) (kp : Fin 9) (a : Acc F) : Prog (TpuEff nD τ sig (Elt F) Λ₀ .tc) (Acc F) := do
  let p00 ← blkStep arg4 arg9 arg10 arg12 arg13 arg15 arg16 harg16 t ⟨2 * kp.val, by omega⟩ 0
  let p01 ← blkStep arg4 arg9 arg10 arg12 arg13 arg15 arg16 harg16 t ⟨2 * kp.val, by omega⟩ 1
  let p10 ← blkStep arg4 arg9 arg10 arg12 arg13 arg15 arg16 harg16 t ⟨2 * kp.val + 1, by omega⟩ 0
  let p11 ← blkStep arg4 arg9 arg10 arg12 arg13 arg15 arg16 harg16 t ⟨2 * kp.val + 1, by omega⟩ 1
  let w : Vec F S1x256x256 .fp8e4m3 ← Prog.lift (.load arg10 (rWk t kp).toLoadRect (View.loadsAt_vmem h_S1x256x256))
  let x0 : Vec F S1x128x256 .bf16 ← Prog.lift (.load arg11 (rX kp 0).toLoadRect (View.loadsAt_vmem h_S1x128x256))
  let x1 : Vec F S1x128x256 .bf16 ← Prog.lift (.load arg11 (rX kp 1).toLoadRect (View.loadsAt_vmem h_S1x128x256))
  pure (k0_pay43 a.1 p00.2.1 p01.2.1 p10.2.1 p11.2.1 x0, k0_pay43 a.2.1 p00.2.2 p01.2.2 p10.2.2 p11.2.2 x1,
    k0_pay42 a.2.2 p00.1 p01.1 p10.1 p11.1 w)

/-- One quarter of the trip's rows of the product. -/
def yStep (t : T3) (n b : Fin 2) (pay : Vec F S1x128 .f32 → FVec F S1x1x128x128 .bf16) :
    Prog (TpuEff nD τ sig (Elt F) Λ₀ .tc) PUnit := do
  let r : Vec F S1x128 .f32 ← Prog.lift (.load arg5 (rB t n).toLoadRect (View.loadsAt_vmem h_S1x128))
  let _c : Vec F S1x1x128x128 .bf16 ← Prog.lift (.load arg17 (rY t n b).toLoadRect (View.loadsAt_vmem h_S1x1x128x128))
  Prog.lift (.store arg17 (rY t n b) (pay r) Finset.univ
    (View.stores_vmem h_S1x1x128x128 (harg17.storeExact_slice rfl _ (rY_packed t n b)) (fun _ => rfl)) (.inl rfl))

/-- All the rows, then the four quarters. -/
def mid (t : T3) : Prog (TpuEff nD τ sig (Elt F) Λ₀ .tc) PUnit := do
  let a ← kpStep arg4 arg9 arg10 arg11 arg12 arg13 arg15 arg16 harg16 t 0 (k0_pay1, k0_pay2, k0_pay3)
  let a ← kpStep arg4 arg9 arg10 arg11 arg12 arg13 arg15 arg16 harg16 t 1 a
  let a ← kpStep arg4 arg9 arg10 arg11 arg12 arg13 arg15 arg16 harg16 t 2 a
  let a ← kpStep arg4 arg9 arg10 arg11 arg12 arg13 arg15 arg16 harg16 t 3 a
  let a ← kpStep arg4 arg9 arg10 arg11 arg12 arg13 arg15 arg16 harg16 t 4 a
  let a ← kpStep arg4 arg9 arg10 arg11 arg12 arg13 arg15 arg16 harg16 t 5 a
  let a ← kpStep arg4 arg9 arg10 arg11 arg12 arg13 arg15 arg16 harg16 t 6 a
  let a ← kpStep arg4 arg9 arg10 arg11 arg12 arg13 arg15 arg16 harg16 t 7 a
  let a ← kpStep arg4 arg9 arg10 arg11 arg12 arg13 arg15 arg16 harg16 t 8 a
  yStep arg5 arg17 harg17 t 0 0 (k0_pay382 a.2.2 a.1)
  yStep arg5 arg17 harg17 t 1 0 (k0_pay383 a.2.2 a.1)
  yStep arg5 arg17 harg17 t 0 1 (fun r => k0_pay385 a.2.1 (k0_pay384 a.2.2) r)
  yStep arg5 arg17 harg17 t 1 1 (k0_pay386 a.2.2 a.2.1)

/-- Before a trip's work its slot is waited for, from the fourth trip on. -/
def pre (arg21 arg22 : DmaSems sig S3) (t : T3) : Prog (TpuEff nD τ sig (Elt F) Λ₀ .tc) PUnit :=
  if h1 : k0_cond1 t = 1#1 then do
    Prog.lift (.waitDma2 ((arg21.slice (Rect.unit (s := S3) (k0_off10 t) S1.size (k0_off10_inb t h1))).squeeze S_ squeezes_S1_S_).sem
      ((arg16.slice (Rect.unit (s := S3x2x2304x256) (k0_off12 t) S1x2x2304x256.size (k0_off12_inb t h1)) (fun _ => rfl)).squeeze S2x2304x256 squeezes_S1x2x2304x256_S2x2304x256)
      (arg8.slice (Rect.unit (s := S2x2304x9216) (k0_off11 t) S2x2304x256.size (k0_off11_inb t h1)) (fun _ => rfl))
      ((harg16.wordExact_slice rfl _ (k0_off12_wordsfp8e4m3 t h1)).reshape _ _) (harg8.wordExact_slice rfl _ (k0_off11_wordsfp8e4m3 t h1)))
    Prog.lift (.waitDma2 ((arg22.slice (Rect.unit (s := S3) (k0_off10 t) S1.size (k0_off10_inb t h1))).squeeze S_ squeezes_S1_S_).sem
      ((arg17.slice (Rect.unit (s := S3x2x128x256) (k0_off14 t) S1x2x128x256.size (k0_off14_inb t h1)) (fun _ => rfl)).squeeze S2x128x256 squeezes_S1x2x128x256_S2x128x256)
      (arg7.slice (Rect.unit (s := S2x128x9216) (k0_off13 t) S2x128x256.size (k0_off13_inb t h1)) (fun _ => rfl))
      ((harg17.wordExact_slice rfl _ (k0_off14_wordsbf16 t h1)).reshape _ _) (harg7.wordExact_slice rfl _ (k0_off13_wordsbf16 t h1)))
    pure ⟨⟩
  else do
    pure ⟨⟩

/-- After it the slot's two blocks are sent out. -/
def post (arg21 arg22 : DmaSems sig S3) (t : T3) : Prog (TpuEff nD τ sig (Elt F) Λ₀ .tc) PUnit := do
  Prog.lift (.enqueueDma ((arg16.slice (Rect.unit (s := S3x2x2304x256) (k0_off229 t) S1x2x2304x256.size (k0_off229_inb t)) (fun _ => rfl)).squeeze S2x2304x256 squeezes_S1x2x2304x256_S2x2304x256)
    (.here (arg8.slice (Rect.unit (s := S2x2304x9216) (k0_off228 t) S2x2304x256.size (k0_off228_inb t)) (fun _ => rfl)))
    (.dma ((arg21.slice (Rect.unit (s := S3) (k0_off227 t) S1.size (k0_off227_inb t))).squeeze S_ squeezes_S1_S_).sem)
    ((harg16.wordExact_slice rfl _ (k0_off229_wordsfp8e4m3 t)).reshape _ _) (harg8.wordExact_slice rfl _ (k0_off228_wordsfp8e4m3 t)) ⟨Or.inl rfl, trivial⟩)
  Prog.lift (.enqueueDma ((arg17.slice (Rect.unit (s := S3x2x128x256) (k0_off231 t) S1x2x128x256.size (k0_off231_inb t)) (fun _ => rfl)).squeeze S2x128x256 squeezes_S1x2x128x256_S2x128x256)
    (.here (arg7.slice (Rect.unit (s := S2x128x9216) (k0_off230 t) S2x128x256.size (k0_off230_inb t)) (fun _ => rfl)))
    (.dma ((arg22.slice (Rect.unit (s := S3) (k0_off227 t) S1.size (k0_off227_inb t))).squeeze S_ squeezes_S1_S_).sem)
    ((harg17.wordExact_slice rfl _ (k0_off231_wordsbf16 t)).reshape _ _) (harg7.wordExact_slice rfl _ (k0_off230_wordsbf16 t)) ⟨Or.inl rfl, trivial⟩)
  pure ⟨⟩

/-- A trip of the third loop. -/
def body3 (arg21 arg22 : DmaSems sig S3) (t : T3) (_ : Unit) : Prog (TpuEff nD τ sig (Elt F) Λ₀ .tc) Unit := do
  pre arg7 harg7 arg8 harg8 arg16 harg16 arg17 harg17 arg21 arg22 t
  mid arg4 arg5 arg9 arg10 arg11 arg12 arg13 arg15 arg16 harg16 arg17 harg17 t
  post arg7 harg7 arg8 harg8 arg16 harg16 arg17 harg17 arg21 arg22 t

end Prog

open Pipeline in
set_option maxRecDepth 65536 in
set_option maxHeartbeats 0 in
theorem body_eq (arg0 : Memref sig .tc .hbm S2x128x2304 .bf16) (harg0 : arg0.IsWhole) (arg1 : Memref sig .tc .vmem S2x2304 .f32) (harg1 : arg1.IsWhole) (arg2 : Memref sig .tc .vmem S2x2304 .f32) (harg2 : arg2.IsWhole) (arg3 : Memref sig .tc .hbm S2304x9216 .fp8e4m3) (harg3 : arg3.IsWhole) (arg4 : Memref sig .tc .smem S18x72 .i32) (harg4 : arg4.IsWhole) (arg5 : Memref sig .tc .vmem S72x128 .f32) (harg5 : arg5.IsWhole) (arg6 : Memref sig .tc .vmem S9x8x128 .i32) (harg6 : arg6.IsWhole) (arg7 : Memref sig .tc .hbm S2x128x9216 .bf16) (harg7 : arg7.IsWhole) (arg8 : Memref sig .tc .hbm S2x2304x9216 .fp8e4m3) (harg8 : arg8.IsWhole) (arg9 : Memref sig .tc .smem S2x18x72 .i32) (harg9 : arg9.IsWhole) (arg10 : Memref sig .tc .vmem S36x2304x256 .fp8e4m3) (harg10 : arg10.IsWhole) (arg11 : Memref sig .tc .vmem S2x128x2304 .bf16) (harg11 : arg11.IsWhole) (arg12 : Memref sig .tc .vmem S2x2304x128 .f32) (harg12 : arg12.IsWhole) (arg13 : Memref sig .tc .vmem S8x2304 .f32) (harg13 : arg13.IsWhole) (arg14 : Memref sig .tc .vmem S9x8x128 .i32) (harg14 : arg14.IsWhole) (arg15 : Memref sig .tc .smem S9x8x128 .i32) (harg15 : arg15.IsWhole) (arg16 : Memref sig .tc .vmem S3x2x2304x256 .fp8e4m3) (harg16 : arg16.IsWhole) (arg17 : Memref sig .tc .vmem S3x2x128x256 .bf16) (harg17 : arg17.IsWhole) (arg18 : DmaSems sig S_) (arg19 : DmaSems sig S36) (arg20 : DmaSems sig S9) (arg21 : DmaSems sig S3) (arg22 : DmaSems sig S3) (v329 : Vec F S2x2304 .f32) (v331 : FVec F S2x2304 .f32) (v332 : FVec F S1x2304 .f32) (v333 : Vec F S1x2304 .f32) (t : T3) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 v329 v331 v332 v333 t () = body3 arg7 harg7 arg8 harg8 arg4 arg5 arg9 arg10 arg11 arg12 arg13 arg15 arg16 harg16 arg17 harg17 arg21 arg22 t () := by
  rw [k0_t3_body, k0_part114_eq_skeleton, k0_part114_skel, k0_part2_eq_skeleton, k0_part2_skel]
  by_cases hc : k0_cond1 t = 1#1
  · rw [body3, pre, dif_pos hc, dif_pos hc]
    chain_rfl
  · rw [body3, pre, dif_neg hc, dif_neg hc]
    chain_rfl

end Cert.KernelIdeal.Roll
-- ==== Proof.Trip.lean ====
/-
  One trip of the third loop, between its waits and its sends: what it finds and what it leaves.
-/
module

public import proofs.«01_k».proof.Proof.RolledIdeal
public import proofs.«01_k».proof.Proof.Cells
public import Idealize.ShloMosaic.Lib.ValueLayout

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.KernelIdeal Cert.KernelIdeal.Gen Cert.Cells

variable {F : FTy → Type} [FloatOps F]

/-! ## Where the rectangles lie -/

theorem unit_val {s : Shape} (off size : Fin s.rank → Nat) (h : ∀ a, off a + size a ≤ s.size a)
    (j : (Rect.unit off size h).shape.Idx) (a : Fin s.rank) :
    (((Rect.unit off size h).emb j a : Fin _) : Nat) = off a + (j a : Nat) := by
  rw [Rect.emb_apply]; show off a + 1 * _ = _; rw [Nat.one_mul]

theorem mem_rT {t : T3} {k : Fin 18} {n b : Fin 2} {i : S3x2x2304x256.Idx} : i ∈ (rT t k n b).set ↔
    ((i 0).val = t.val % 3 ∧ (i 1).val = b.val ∧ (i 2).val / 128 = k.val ∧ (i 3).val / 128 = n.val) := by
  rw [rT, Rect.mem_set_unit, ← sI_eq]
  constructor
  · intro h
    have h0 : sI t ≤ (i 0).val ∧ (i 0).val < sI t + 1 := h 0
    have h1 : b.val ≤ (i 1).val ∧ (i 1).val < b.val + 1 := h 1
    have h2 : 128 * k.val ≤ (i 2).val ∧ (i 2).val < 128 * k.val + 128 := h 2
    have h3 : 128 * n.val ≤ (i 3).val ∧ (i 3).val < 128 * n.val + 128 := h 3
    omega
  · rintro ⟨h0, h1, h2, h3⟩ a
    match a with
    | 0 => show sI t ≤ (i 0).val ∧ (i 0).val < sI t + 1; omega
    | 1 => show b.val ≤ (i 1).val ∧ (i 1).val < b.val + 1; omega
    | 2 => show 128 * k.val ≤ (i 2).val ∧ (i 2).val < 128 * k.val + 128; omega
    | 3 => show 128 * n.val ≤ (i 3).val ∧ (i 3).val < 128 * n.val + 128; omega

theorem mem_rY {t : T3} {n b : Fin 2} {i : S3x2x128x256.Idx} : i ∈ (rY t n b).set ↔
    ((i 0).val = t.val % 3 ∧ (i 1).val = b.val ∧ (i 3).val / 128 = n.val) := by
  rw [rY, Rect.mem_set_unit, ← sI_eq]
  constructor
  · intro h
    have h0 : sI t ≤ (i 0).val ∧ (i 0).val < sI t + 1 := h 0
    have h1 : b.val ≤ (i 1).val ∧ (i 1).val < b.val + 1 := h 1
    have h3 : 128 * n.val ≤ (i 3).val ∧ (i 3).val < 128 * n.val + 128 := h 3
    omega
  · rintro ⟨h0, h1, h3⟩ a
    match a with
    | 0 => show sI t ≤ (i 0).val ∧ (i 0).val < sI t + 1; omega
    | 1 => show b.val ≤ (i 1).val ∧ (i 1).val < b.val + 1; omega
    | 2 => show 0 ≤ (i 2).val ∧ (i 2).val < 0 + 128; have : (i 2).val < 128 := (i 2).isLt; omega
    | 3 => show 128 * n.val ≤ (i 3).val ∧ (i 3).val < 128 * n.val + 128; omega

theorem mem_rC {t : T3} {k : Fin 18} {n b : Fin 2} {i : S2x18x72.Idx} : i ∈ (rC t k n b).set ↔
    ((i 0).val = b.val ∧ (i 1).val = k.val ∧ (i 2).val = 2 * t.val + n.val) := by
  rw [rC, Rect.mem_set_unit, ← cI_eq]
  constructor
  · intro h
    have h0 : b.val ≤ (i 0).val ∧ (i 0).val < b.val + 1 := h 0
    have h1 : k.val ≤ (i 1).val ∧ (i 1).val < k.val + 1 := h 1
    have h2 : cI t n ≤ (i 2).val ∧ (i 2).val < cI t n + 1 := h 2
    omega
  · rintro ⟨h0, h1, h2⟩ a
    match a with
    | 0 => show b.val ≤ (i 0).val ∧ (i 0).val < b.val + 1; omega
    | 1 => show k.val ≤ (i 1).val ∧ (i 1).val < k.val + 1; omega
    | 2 => show cI t n ≤ (i 2).val ∧ (i 2).val < cI t n + 1; omega

/-! ## The values -/

section Values
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

def sV (t : T3) (k : Fin 18) (n : Fin 2) : Elt F .i32 := S4 ((rS t k n).emb (Shape.Idx.first (numel1_S1x1.symm ▸ Nat.one_pos)))
def eV (t : T3) (k : Fin 18) (n b : Fin 2) : Elt F .i32 := E15 ((rE t k n b).emb (Shape.Idx.first (numel1_S1x1x1.symm ▸ Nat.one_pos)))
def gV (k : Fin 18) (b : Fin 2) : Vec F S1x128x128 .f32 := fun j => G12 ((rG k b).emb j)
def wV (t : T3) (k : Fin 18) (n : Fin 2) : Vec F S1x128x128 .fp8e4m3 := fun j => W10 ((rW t k n).emb j)
def hV (k : Fin 18) : Vec F S8x128 .f32 := fun j => H13 ((rH k).emb j)
def wkV (t : T3) (kp : Fin 9) : Vec F S1x256x256 .fp8e4m3 := fun j => W10 ((rWk t kp).emb j)
def xV (kp : Fin 9) (b : Fin 2) : Vec F S1x128x256 .bf16 := fun j => X11 ((rX kp b).emb j)
def bV (t : T3) (n : Fin 2) : Vec F S1x128 .f32 := fun j => B5 ((rB t n).emb j)

/-- The codes of one tile of one batch entry, its scale word, its tile of the product. -/
def codesV (t : T3) (k : Fin 18) (n b : Fin 2) : FVec F S128x128 .fp8e4m3 :=
  codesT (k0_pay5 (wV W10 t k n)) (eV E15 t k n b) (gV G12 k b)
def scaleV (t : T3) (k : Fin 18) (n b : Fin 2) : Elt F .i32 := scW (sV S4 t k n) (eV E15 t k n b)
def tileV (t : T3) (k : Fin 18) (n b : Fin 2) : FVec F S128x128 .bf16 :=
  tileT (k0_pay5 (wV W10 t k n)) (sV S4 t k n) (eV E15 t k n b) (gV G12 k b)
def lhsV (t : T3) (k : Fin 18) (n : Fin 2) : FVec F S8x128 .f32 := k0_pay4 (sV S4 t k n) (hV H13 k)

/-- The accumulators after one more pair of row blocks. -/
def accStep (t : T3) (kp : Fin 9) (a : Acc F) : Acc F :=
  let k0 : Fin 18 := ⟨2 * kp.val, by omega⟩
  let k1 : Fin 18 := ⟨2 * kp.val + 1, by omega⟩
  (k0_pay43 a.1 (tileV S4 W10 G12 E15 t k0 0 0) (tileV S4 W10 G12 E15 t k0 1 0) (tileV S4 W10 G12 E15 t k1 0 0) (tileV S4 W10 G12 E15 t k1 1 0) (xV X11 kp 0),
   k0_pay43 a.2.1 (tileV S4 W10 G12 E15 t k0 0 1) (tileV S4 W10 G12 E15 t k0 1 1) (tileV S4 W10 G12 E15 t k1 0 1) (tileV S4 W10 G12 E15 t k1 1 1) (xV X11 kp 1),
   k0_pay42 a.2.2 (lhsV S4 H13 t k0 0) (lhsV S4 H13 t k0 1) (lhsV S4 H13 t k1 0) (lhsV S4 H13 t k1 1) (wkV W10 t kp))

/-- The accumulators after all the rows. -/
def accV (t : T3) : Acc F :=
  let st := accStep S4 W10 X11 G12 H13 E15 t
  st 8 (st 7 (st 6 (st 5 (st 4 (st 3 (st 2 (st 1 (st 0 (k0_pay1, k0_pay2, k0_pay3)))))))))

/-- One quarter of the trip's rows of the product. -/
def yV (t : T3) (n b : Fin 2) : FVec F S1x1x128x128 .bf16 :=
  let a := accV S4 W10 X11 G12 H13 E15 t
  if b = 0 then (if n = 0 then k0_pay382 a.2.2 a.1 (bV B5 t 0) else k0_pay383 a.2.2 a.1 (bV B5 t 1))
  else (if n = 0 then k0_pay385 a.2.1 (k0_pay384 a.2.2) (bV B5 t 0) else k0_pay386 a.2.2 a.2.1 (bV B5 t 1))

def T16 (t : T3) (i : S3x2x2304x256.Idx) : Elt F .fp8e4m3 :=
  shapeCast S1x1x128x128 (codesV W10 G12 E15 t ⟨(i 2).val / 128, by have : (i 2).val < 2304 := (i 2).isLt; omega⟩
    ⟨(i 3).val / 128, by have : (i 3).val < 256 := (i 3).isLt; omega⟩ (i 1)) shapeCasts_S128x128_S1x1x128x128
    (ix4 (0 : Fin 1) (0 : Fin 1) (⟨(i 2).val % 128, Nat.mod_lt _ (by decide)⟩ : Fin 128) (⟨(i 3).val % 128, Nat.mod_lt _ (by decide)⟩ : Fin 128))

def T17 (t : T3) (i : S3x2x128x256.Idx) : Elt F .bf16 :=
  yV S4 B5 W10 X11 G12 H13 E15 t ⟨(i 3).val / 128, by have : (i 3).val < 256 := (i 3).isLt; omega⟩ (i 1)
    (ix4 (0 : Fin 1) (0 : Fin 1) (i 2) (⟨(i 3).val % 128, Nat.mod_lt _ (by decide)⟩ : Fin 128))

def T9 (i : S2x18x72.Idx) : Elt F .i32 :=
  scaleV S4 E15 ⟨(i 2).val / 2, by rw [trips36]; have : (i 2).val < 72 := (i 2).isLt; omega⟩ (i 1) ⟨(i 2).val % 2, Nat.mod_lt _ (by decide)⟩ (i 0)

theorem T16_emb (t : T3) (k : Fin 18) (n b : Fin 2) (j : S1x1x128x128.Idx) :
    T16 W10 G12 E15 t ((rT t k n b).emb j) = shapeCast S1x1x128x128 (codesV W10 G12 E15 t k n b) shapeCasts_S128x128_S1x1x128x128 j := by
  have e1 : (((rT t k n b).emb j 1 : Fin _) : Nat) = b.val + (j 1).val := unit_val (s := S3x2x2304x256) (oT t k n b) S1x1x128x128.size (oT_inb t k n b) j 1
  have e2 : (((rT t k n b).emb j 2 : Fin _) : Nat) = 128 * k.val + (j 2).val := unit_val (s := S3x2x2304x256) (oT t k n b) S1x1x128x128.size (oT_inb t k n b) j 2
  have e3 : (((rT t k n b).emb j 3 : Fin _) : Nat) = 128 * n.val + (j 3).val := unit_val (s := S3x2x2304x256) (oT t k n b) S1x1x128x128.size (oT_inb t k n b) j 3
  have l0 : (j 0).val < 1 := (j 0).isLt
  have l1 : (j 1).val < 1 := (j 1).isLt
  have l2 : (j 2).val < 128 := (j 2).isLt
  have l3 : (j 3).val < 128 := (j 3).isLt
  have h1 : ((rT t k n b).emb j 1 : Fin 2) = b := Fin.ext (by rw [e1]; omega)
  unfold T16
  congr 2
  · exact Fin.ext (by show _ / 128 = _; rw [e2]; omega)
  · exact Fin.ext (by show _ / 128 = _; rw [e3]; omega)
  · funext a
    match a with
    | 0 => exact Fin.ext (by show 0 = (j 0).val; omega)
    | 1 => exact Fin.ext (by show 0 = (j 1).val; omega)
    | 2 => exact Fin.ext (by show _ % 128 = (j 2).val; rw [e2]; omega)
    | 3 => exact Fin.ext (by show _ % 128 = (j 3).val; rw [e3]; omega)

theorem T17_emb (t : T3) (n b : Fin 2) (j : S1x1x128x128.Idx) :
    T17 S4 B5 W10 X11 G12 H13 E15 t ((rY t n b).emb j) = yV S4 B5 W10 X11 G12 H13 E15 t n b j := by
  have e1 : (((rY t n b).emb j 1 : Fin _) : Nat) = b.val + (j 1).val := unit_val (s := S3x2x128x256) (oY t n b) S1x1x128x128.size (oY_inb t n b) j 1
  have e2 : (((rY t n b).emb j 2 : Fin _) : Nat) = 0 + (j 2).val := unit_val (s := S3x2x128x256) (oY t n b) S1x1x128x128.size (oY_inb t n b) j 2
  have e3 : (((rY t n b).emb j 3 : Fin _) : Nat) = 128 * n.val + (j 3).val := unit_val (s := S3x2x128x256) (oY t n b) S1x1x128x128.size (oY_inb t n b) j 3
  have l0 : (j 0).val < 1 := (j 0).isLt
  have l1 : (j 1).val < 1 := (j 1).isLt
  have l2 : (j 2).val < 128 := (j 2).isLt
  have l3 : (j 3).val < 128 := (j 3).isLt
  have h1 : ((rY t n b).emb j 1 : Fin 2) = b := Fin.ext (by rw [e1]; omega)
  unfold T17
  congr 1
  · exact Fin.ext (by show _ / 128 = _; rw [e3]; omega)
  · funext a
    match a with
    | 0 => exact Fin.ext (by show 0 = (j 0).val; omega)
    | 1 => exact Fin.ext (by show 0 = (j 1).val; omega)
    | 2 => exact Fin.ext (by show (((rY t n b).emb j 2 : Fin _) : Nat) = (j 2).val; rw [e2]; omega)
    | 3 => exact Fin.ext (by show _ % 128 = (j 3).val; rw [e3]; omega)

theorem T9_emb (t : T3) (k : Fin 18) (n b : Fin 2) (j : S1x1x1.Idx) :
    T9 S4 E15 ((rC t k n b).emb j) = scaleV S4 E15 t k n b := by
  have e0 : (((rC t k n b).emb j 0 : Fin _) : Nat) = b.val + (j 0).val := unit_val (s := S2x18x72) (oC t k n b) S1x1x1.size (oC_inb t k n b) j 0
  have e1 : (((rC t k n b).emb j 1 : Fin _) : Nat) = k.val + (j 1).val := unit_val (s := S2x18x72) (oC t k n b) S1x1x1.size (oC_inb t k n b) j 1
  have e2 : (((rC t k n b).emb j 2 : Fin _) : Nat) = cI t n + (j 2).val := unit_val (s := S2x18x72) (oC t k n b) S1x1x1.size (oC_inb t k n b) j 2
  have l0 : (j 0).val < 1 := (j 0).isLt
  have l1 : (j 1).val < 1 := (j 1).isLt
  have l2 : (j 2).val < 1 := (j 2).isLt
  rw [cI_eq] at e2
  have h0 : ((rC t k n b).emb j 0 : Fin 2) = b := Fin.ext (by rw [e0]; omega)
  have h1 : ((rC t k n b).emb j 1 : Fin 18) = k := Fin.ext (by rw [e1]; omega)
  unfold T9
  congr 1
  · exact Fin.ext (by show _ / 2 = _; rw [e2]; omega)
  · exact Fin.ext (by show _ % 2 = _; rw [e2]; omega)

end Values

/-! ## The steps -/

section Steps
variable (c : Dev nD)
local notation "𝕄" => MT nD τ sig Unit (Elt F) ℕ (Pipeline.UD sig nD τ) ℕ

/-- The value where it is known. -/
def upTo {s : Shape} {e : EltTy} (K : s.Idx → Prop) (T : s.Idx → Elt F e) : s.Idx → Elt F e → Prop := fun i x => K i → x = T i

/-- The scale words known within trip `t`: the columns of the earlier trips, the first `l` blocks of this one's and `b` of the next. -/
def K9 (t l b : Nat) (i : S2x18x72.Idx) : Prop :=
  (i 2).val < 2 * t ∨ ((i 2).val < 2 * t + 2 ∧
    (2 * (i 1).val + ((i 2).val - 2 * t) < l ∨ (2 * (i 1).val + ((i 2).val - 2 * t) = l ∧ (i 0).val < b)))

/-- The codes known within a trip. -/
def K16 (l b : Nat) (i : S3x2x2304x256.Idx) : Prop :=
  2 * ((i 2).val / 128) + (i 3).val / 128 < l ∨ (2 * ((i 2).val / 128) + (i 3).val / 128 = l ∧ (i 1).val < b)

/-- The quarters of the product's rows known within a trip. -/
def K17 (l : Nat) (i : S3x2x128x256.Idx) : Prop := 2 * (i 1).val + (i 3).val / 128 < l

/-- The slots of a trip. -/
def slot16 (t : Nat) : Finset S3x2x2304x256.Idx := cells fun i => (i 0).val = t % 3
def slot17 (t : Nat) : Finset S3x2x128x256.Idx := cells fun i => (i 0).val = t % 3

variable (arg4 : Memref sig .tc .smem S18x72 .i32) (arg5 : Memref sig .tc .vmem S72x128 .f32)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- What a tile step changes, with what it reads. -/
def TileRes (t : T3) (l b : Nat) : sProp 𝕄 :=
  iprop(KV (c : Thread nD τ) arg9.view Finset.univ fullShare (upTo (K9 t.val l b) (T9 S4 E15))
    ∗ KV (c : Thread nD τ) arg16.view (slot16 t.val) fullShare (upTo (K16 l b) (T16 W10 G12 E15 t))
    ∗ KV (c : Thread nD τ) arg12.view Finset.univ fullShare (is G12)
    ∗ KV (c : Thread nD τ) arg15.view Finset.univ fullShare (is E15))

theorem tileStep_wp (t : T3) (k : Fin 18) (n b : Fin 2) (Q : FVec F S128x128 .bf16 → sProp 𝕄) :
    TileRes c arg9 arg12 arg15 arg16 S4 W10 G12 E15 t (2 * k.val + n.val) b.val
      ⊢ iprop((TileRes c arg9 arg12 arg15 arg16 S4 W10 G12 E15 t (2 * k.val + n.val) (b.val + 1) -∗ Q (tileV S4 W10 G12 E15 t k n b))
        -∗ WP (tileStep arg9 arg12 arg15 arg16 harg16 t k n b (sV S4 t k n) (k0_pay5 (wV W10 t k n))) Q) := by
  unfold TileRes tileStep
  iintro ⟨H9, H16, H12, H15⟩ HK
  rw [wp_bind]
  iapply (smemLdIs Variants.none (c : Thread nD τ) none Set.univ (Finset.subset_univ _)) $$ H15
  iintro H15
  rw [wp_bind]
  iapply (smemLd Variants.none (c : Thread nD τ) none Set.univ (Finset.subset_univ _)) $$ H9
  iintro %v9 - H9
  rw [wp_bind]
  iapply (store Variants.none (c : Thread nD τ) none Set.univ (upTo (K9 t.val (2 * k.val + n.val) (b.val + 1)) (T9 S4 E15)) (Finset.subset_univ _) ?_ ?_) $$ H9
  · intro j _
    exact (T9_emb S4 E15 t k n b j).symm
  · intro i _ hi x hx hK
    refine hx ?_
    rw [mem_rC] at hi
    have h0 : (i 0).val < 2 := (i 0).isLt
    have h1 : (i 1).val < 18 := (i 1).isLt
    have hn := n.isLt
    unfold K9 at hK ⊢
    omega
  iintro H9
  rw [wp_bind]
  iapply (loadIs Variants.none (c : Thread nD τ) none Set.univ (Finset.subset_univ _)) $$ H12
  iintro H12
  rw [wp_bind]
  have hsub : (rT t k n b).set ⊆ slot16 t.val := fun i hi => mem_cells.mpr (mem_rT.mp hi).1
  iapply (load Variants.none (c : Thread nD τ) none Set.univ hsub) $$ H16
  iintro %v16 - H16
  rw [wp_bind]
  iapply (store Variants.none (c : Thread nD τ) none Set.univ (upTo (K16 (2 * k.val + n.val) (b.val + 1)) (T16 W10 G12 E15 t)) hsub ?_ ?_) $$ H16
  · intro j _
    exact (T16_emb W10 G12 E15 t k n b j).symm
  · intro i hs hi x hx hK
    refine hx ?_
    rw [mem_rT] at hi
    have hs := mem_cells.mp hs
    have h1 : (i 1).val < 2 := (i 1).isLt
    have h3 : (i 3).val < 256 := (i 3).isLt
    have hn := n.isLt
    unfold K16 at hK ⊢
    omega
  iintro H16
  iapply (pureStep Variants.none (c : Thread nD τ) none Set.univ (tileV S4 W10 G12 E15 t k n b) rfl)
  iapply HK
  isplitl [H9]; · iexact H9
  isplitl [H16]; · iexact H16
  isplitl [H12] <;> iassumption

/-- A block's step ends where the next block's begins. -/
theorem TileRes_next (t : T3) (l : Nat) :
    TileRes c arg9 arg12 arg15 arg16 S4 W10 G12 E15 t l 2 ⊢ TileRes c arg9 arg12 arg15 arg16 S4 W10 G12 E15 t (l + 1) 0 := by
  unfold TileRes
  iintro ⟨H9, H16, H12, H15⟩
  isplitl [H9]
  · iapply (KV_mono (c : Thread nD τ) ?_) $$ H9
    intro i _ x hx hK
    refine hx ?_
    have h0 : (i 0).val < 2 := (i 0).isLt
    unfold K9 at hK ⊢
    omega
  isplitl [H16]
  · iapply (KV_mono (c : Thread nD τ) ?_) $$ H16
    intro i _ x hx hK
    refine hx ?_
    have h1 : (i 1).val < 2 := (i 1).isLt
    unfold K16 at hK ⊢
    omega
  isplitl [H12] <;> iassumption

/-- What the rows' steps hold. -/
def MidRes (t : T3) (l : Nat) : sProp 𝕄 :=
  iprop(TileRes c arg9 arg12 arg15 arg16 S4 W10 G12 E15 t l 0
    ∗ KV (c : Thread nD τ) arg4.view Finset.univ fullShare (is S4)
    ∗ KV (c : Thread nD τ) arg13.view Finset.univ fullShare (is H13)
    ∗ KV (c : Thread nD τ) arg10.view Finset.univ fullShare (is W10)
    ∗ KV (c : Thread nD τ) arg11.view Finset.univ fullShare (is X11))

theorem blkStep_wp (t : T3) (k : Fin 18) (n : Fin 2) (Q : FVec F S8x128 .f32 × FVec F S128x128 .bf16 × FVec F S128x128 .bf16 → sProp 𝕄) :
    MidRes c arg4 arg9 arg10 arg11 arg12 arg13 arg15 arg16 S4 W10 X11 G12 H13 E15 t (2 * k.val + n.val)
      ⊢ iprop((MidRes c arg4 arg9 arg10 arg11 arg12 arg13 arg15 arg16 S4 W10 X11 G12 H13 E15 t (2 * k.val + n.val + 1)
          -∗ Q (lhsV S4 H13 t k n, tileV S4 W10 G12 E15 t k n 0, tileV S4 W10 G12 E15 t k n 1))
        -∗ WP (blkStep arg4 arg9 arg10 arg12 arg13 arg15 arg16 harg16 t k n) Q) := by
  unfold MidRes blkStep
  iintro ⟨HT, H4, H13, H10, H11⟩ HK
  rw [wp_bind]
  iapply (smemLdIs Variants.none (c : Thread nD τ) none Set.univ (Finset.subset_univ _)) $$ H4
  iintro H4
  rw [wp_bind]
  iapply (loadIs Variants.none (c : Thread nD τ) none Set.univ (Finset.subset_univ _)) $$ H13
  iintro H13
  rw [wp_bind]
  iapply (loadIs Variants.none (c : Thread nD τ) none Set.univ (Finset.subset_univ _)) $$ H10
  iintro H10
  rw [wp_bind]
  iapply (tileStep_wp c arg9 arg12 arg15 arg16 harg16 S4 W10 G12 E15 t k n 0) $$ [HT]
  · iexact HT
  iintro HT
  rw [wp_bind]
  iapply (tileStep_wp c arg9 arg12 arg15 arg16 harg16 S4 W10 G12 E15 t k n 1) $$ [HT]
  · iexact HT
  iintro HT
  iapply (pureStep Variants.none (c : Thread nD τ) none Set.univ (lhsV S4 H13 t k n, tileV S4 W10 G12 E15 t k n 0, tileV S4 W10 G12 E15 t k n 1) rfl)
  iapply HK
  isplitl [HT]
  · iapply (TileRes_next c arg9 arg12 arg15 arg16 S4 W10 G12 E15 t (2 * k.val + n.val)) $$ [HT]
    iexact HT
  isplitl [H4]; · iexact H4
  isplitl [H13]; · iexact H13
  isplitl [H10] <;> iassumption

theorem kpStep_wp (t : T3) (kp : Fin 9) (a : Acc F) (Q : Acc F → sProp 𝕄) :
    MidRes c arg4 arg9 arg10 arg11 arg12 arg13 arg15 arg16 S4 W10 X11 G12 H13 E15 t (4 * kp.val)
      ⊢ iprop((MidRes c arg4 arg9 arg10 arg11 arg12 arg13 arg15 arg16 S4 W10 X11 G12 H13 E15 t (4 * (kp.val + 1))
          -∗ Q (accStep S4 W10 X11 G12 H13 E15 t kp a))
        -∗ WP (kpStep arg4 arg9 arg10 arg11 arg12 arg13 arg15 arg16 harg16 t kp a) Q) := by
  unfold kpStep
  have hk0 : 2 * kp.val < 18 := by omega
  have hk1 : 2 * kp.val + 1 < 18 := by omega
  iintro HM HK
  rw [wp_bind]
  iapply (blkStep_wp c arg4 arg9 arg10 arg11 arg12 arg13 arg15 arg16 harg16 S4 W10 X11 G12 H13 E15 t ⟨2 * kp.val, hk0⟩ 0) $$ [HM]
  · rw [show 2 * (2 * kp.val) + (0 : Fin 2).val = 4 * kp.val by show _ + 0 = _; omega]; iexact HM
  iintro HM
  rw [wp_bind]
  iapply (blkStep_wp c arg4 arg9 arg10 arg11 arg12 arg13 arg15 arg16 harg16 S4 W10 X11 G12 H13 E15 t ⟨2 * kp.val, hk0⟩ 1) $$ [HM]
  · iexact HM
  iintro HM
  rw [wp_bind]
  iapply (blkStep_wp c arg4 arg9 arg10 arg11 arg12 arg13 arg15 arg16 harg16 S4 W10 X11 G12 H13 E15 t ⟨2 * kp.val + 1, hk1⟩ 0) $$ [HM]
  · rw [show 2 * (2 * kp.val + 1) + (0 : Fin 2).val = 2 * (2 * kp.val) + (1 : Fin 2).val + 1 by show _ + 0 = _ + 1 + 1; omega]; iexact HM
  iintro HM
  rw [wp_bind]
  iapply (blkStep_wp c arg4 arg9 arg10 arg11 arg12 arg13 arg15 arg16 harg16 S4 W10 X11 G12 H13 E15 t ⟨2 * kp.val + 1, hk1⟩ 1) $$ [HM]
  · iexact HM
  iintro HM
  rw [show 2 * (2 * kp.val + 1) + (1 : Fin 2).val + 1 = 4 * (kp.val + 1) by show _ + 1 + 1 = _; omega]
  unfold MidRes
  icases HM with ⟨HT, H4, H13, H10, H11⟩
  rw [wp_bind]
  iapply (loadIs Variants.none (c : Thread nD τ) none Set.univ (Finset.subset_univ _)) $$ H10
  iintro H10
  rw [wp_bind]
  iapply (loadIs Variants.none (c : Thread nD τ) none Set.univ (Finset.subset_univ _)) $$ H11
  iintro H11
  rw [wp_bind]
  iapply (loadIs Variants.none (c : Thread nD τ) none Set.univ (Finset.subset_univ _)) $$ H11
  iintro H11
  iapply (pureStep Variants.none (c : Thread nD τ) none Set.univ (accStep S4 W10 X11 G12 H13 E15 t kp a) rfl)
  iapply HK
  isplitl [HT]; · iexact HT
  isplitl [H4]; · iexact H4
  isplitl [H13]; · iexact H13
  isplitl [H10] <;> iassumption

theorem yStep_wp (t : T3) (n b : Fin 2) (pay : Vec F S1x128 .f32 → FVec F S1x1x128x128 .bf16) (l : Nat) (hl : 2 * b.val + n.val = l)
    (hp : pay (bV B5 t n) = yV S4 B5 W10 X11 G12 H13 E15 t n b) (Q : PUnit → sProp 𝕄) :
    iprop(KV (c : Thread nD τ) arg5.view Finset.univ fullShare (is B5)
      ∗ KV (c : Thread nD τ) arg17.view (slot17 t.val) fullShare (upTo (K17 l) (T17 S4 B5 W10 X11 G12 H13 E15 t)))
      ⊢ iprop((iprop(KV (c : Thread nD τ) arg5.view Finset.univ fullShare (is B5)
        ∗ KV (c : Thread nD τ) arg17.view (slot17 t.val) fullShare (upTo (K17 (l + 1)) (T17 S4 B5 W10 X11 G12 H13 E15 t))) -∗ Q ⟨⟩)
        -∗ WP (yStep arg5 arg17 harg17 t n b pay) Q) := by
  unfold yStep
  iintro ⟨H5, H17⟩ HK
  rw [wp_bind]
  iapply (loadIs Variants.none (c : Thread nD τ) none Set.univ (Finset.subset_univ _)) $$ H5
  iintro H5
  rw [wp_bind]
  have hsub : (rY t n b).set ⊆ slot17 t.val := fun i hi => mem_cells.mpr (mem_rY.mp hi).1
  iapply (load Variants.none (c : Thread nD τ) none Set.univ hsub) $$ H17
  iintro %v17 - H17
  iapply (store Variants.none (c : Thread nD τ) none Set.univ (upTo (K17 (l + 1)) (T17 S4 B5 W10 X11 G12 H13 E15 t)) hsub ?_ ?_) $$ H17
  · intro j _
    exact (congrFun hp j).trans (T17_emb S4 B5 W10 X11 G12 H13 E15 t n b j).symm
  · intro i hs hi x hx hK
    refine hx ?_
    rw [mem_rY] at hi
    have hs := mem_cells.mp hs
    have h1 : (i 1).val < 2 := (i 1).isLt
    have h3 : (i 3).val < 256 := (i 3).isLt
    have hn := n.isLt
    unfold K17 at hK ⊢
    omega
  iintro H17
  iapply HK
  isplitl [H5] <;> iassumption

/-- A trip's work: from nothing known of its slots to all of them known. -/
theorem mid_wp (t : T3) (Q : PUnit → sProp 𝕄) :
    iprop(MidRes c arg4 arg9 arg10 arg11 arg12 arg13 arg15 arg16 S4 W10 X11 G12 H13 E15 t 0
      ∗ KV (c : Thread nD τ) arg5.view Finset.univ fullShare (is B5)
      ∗ KV (c : Thread nD τ) arg17.view (slot17 t.val) fullShare (upTo (K17 0) (T17 S4 B5 W10 X11 G12 H13 E15 t)))
      ⊢ iprop((iprop(MidRes c arg4 arg9 arg10 arg11 arg12 arg13 arg15 arg16 S4 W10 X11 G12 H13 E15 t 36
      ∗ KV (c : Thread nD τ) arg5.view Finset.univ fullShare (is B5)
      ∗ KV (c : Thread nD τ) arg17.view (slot17 t.val) fullShare (upTo (K17 4) (T17 S4 B5 W10 X11 G12 H13 E15 t))) -∗ Q ⟨⟩)
        -∗ WP (mid arg4 arg5 arg9 arg10 arg11 arg12 arg13 arg15 arg16 harg16 arg17 harg17 t) Q) := by
  unfold mid
  iintro ⟨HM, H5, H17⟩ HK
  rw [wp_bind]
  iapply (kpStep_wp c arg4 arg9 arg10 arg11 arg12 arg13 arg15 arg16 harg16 S4 W10 X11 G12 H13 E15 t 0) $$ [HM]
  · iexact HM
  iintro HM
  rw [wp_bind]
  iapply (kpStep_wp c arg4 arg9 arg10 arg11 arg12 arg13 arg15 arg16 harg16 S4 W10 X11 G12 H13 E15 t 1) $$ [HM]
  · iexact HM
  iintro HM
  rw [wp_bind]
  iapply (kpStep_wp c arg4 arg9 arg10 arg11 arg12 arg13 arg15 arg16 harg16 S4 W10 X11 G12 H13 E15 t 2) $$ [HM]
  · iexact HM
  iintro HM
  rw [wp_bind]
  iapply (kpStep_wp c arg4 arg9 arg10 arg11 arg12 arg13 arg15 arg16 harg16 S4 W10 X11 G12 H13 E15 t 3) $$ [HM]
  · iexact HM
  iintro HM
  rw [wp_bind]
  iapply (kpStep_wp c arg4 arg9 arg10 arg11 arg12 arg13 arg15 arg16 harg16 S4 W10 X11 G12 H13 E15 t 4) $$ [HM]
  · iexact HM
  iintro HM
  rw [wp_bind]
  iapply (kpStep_wp c arg4 arg9 arg10 arg11 arg12 arg13 arg15 arg16 harg16 S4 W10 X11 G12 H13 E15 t 5) $$ [HM]
  · iexact HM
  iintro HM
  rw [wp_bind]
  iapply (kpStep_wp c arg4 arg9 arg10 arg11 arg12 arg13 arg15 arg16 harg16 S4 W10 X11 G12 H13 E15 t 6) $$ [HM]
  · iexact HM
  iintro HM
  rw [wp_bind]
  iapply (kpStep_wp c arg4 arg9 arg10 arg11 arg12 arg13 arg15 arg16 harg16 S4 W10 X11 G12 H13 E15 t 7) $$ [HM]
  · iexact HM
  iintro HM
  rw [wp_bind]
  iapply (kpStep_wp c arg4 arg9 arg10 arg11 arg12 arg13 arg15 arg16 harg16 S4 W10 X11 G12 H13 E15 t 8) $$ [HM]
  · iexact HM
  iintro HM
  rw [wp_bind]
  iapply (yStep_wp c arg5 arg17 harg17 S4 B5 W10 X11 G12 H13 E15 t 0 0 _ 0 rfl rfl) $$ [H5 H17]
  · isplitl [H5] <;> iassumption
  iintro ⟨H5, H17⟩
  rw [wp_bind]
  iapply (yStep_wp c arg5 arg17 harg17 S4 B5 W10 X11 G12 H13 E15 t 1 0 _ 1 rfl rfl) $$ [H5 H17]
  · isplitl [H5] <;> iassumption
  iintro ⟨H5, H17⟩
  rw [wp_bind]
  iapply (yStep_wp c arg5 arg17 harg17 S4 B5 W10 X11 G12 H13 E15 t 0 1 _ 2 rfl rfl) $$ [H5 H17]
  · isplitl [H5] <;> iassumption
  iintro ⟨H5, H17⟩
  iapply (yStep_wp c arg5 arg17 harg17 S4 B5 W10 X11 G12 H13 E15 t 1 1 _ 3 rfl rfl) $$ [H5 H17]
  · isplitl [H5] <;> iassumption
  iintro ⟨H5, H17⟩
  iapply HK
  isplitl [HM]; · iexact HM
  isplitl [H5] <;> iassumption

end Steps

end Cert.KernelIdeal.Roll
-- ==== Proof.Loop3.lean ====
/-
  The third loop: 36 trips over three slots, each slot's blocks sent out while the next two are computed.
-/
module

public import proofs.«01_k».proof.Proof.Trip
public import Idealize.ShloMosaic.Lib.Transfers

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.KernelIdeal Cert.KernelIdeal.Gen Cert.Cells Idealize.ShloMosaic.Transfers

variable {F : FTy → Type} [FloatOps F]

/-! ## Offsets -/

set_option maxRecDepth 65536 in
theorem off10_eq (t : T3) : k0_off10 t 0 = t.val % 3 := by revert t; decide +kernel
set_option maxRecDepth 65536 in
theorem off227_eq (t : T3) : k0_off227 t 0 = t.val % 3 := by revert t; decide +kernel
set_option maxRecDepth 65536 in
theorem off228_eq (t : T3) : k0_off228 t = ![0, 0, 256 * t.val] := by revert t; decide +kernel
set_option maxRecDepth 65536 in
theorem off229_eq (t : T3) : k0_off229 t = ![t.val % 3, 0, 0, 0] := by revert t; decide +kernel
set_option maxRecDepth 65536 in
theorem off230_eq (t : T3) : k0_off230 t = ![0, 0, 256 * t.val] := by revert t; decide +kernel
set_option maxRecDepth 65536 in
theorem off231_eq (t : T3) : k0_off231 t = ![t.val % 3, 0, 0, 0] := by revert t; decide +kernel
set_option maxRecDepth 65536 in
theorem cond1_iff (t : T3) : k0_cond1 t = 1#1 ↔ 3 ≤ t.val := by revert t; decide +kernel

/-- A semaphore of an array, named by a slice and named by its index. -/
theorem sem_eq {n : Nat} (a : DmaSems sig ⟨1, ![n]⟩) (off : Fin 1 → Nat) (h : ∀ x, off x + S1.size x ≤ (⟨1, ![n]⟩ : Shape).size x) (k : Fin n) (hk : off 0 = k.val) :
    ((a.slice (Rect.unit (s := ⟨1, ![n]⟩) off S1.size h)).squeeze S_ squeezes_S1_S_).sem = a.ix (ix1 k) := by
  show a.ix _ = a.ix _
  congr 1
  funext x
  match x with
  | 0 =>
    refine Fin.ext ?_
    rw [unit_val (s := ⟨1, ![n]⟩) off S1.size h _ 0, hk]
    have : ∀ y : S1.Idx, (y 0).val = 0 := fun y => by have : (y 0).val < 1 := (y 0).isLt; omega
    rw [show ∀ y : S1.Idx, k.val + (y 0).val = k.val from fun y => by rw [this y]; rfl]
    rfl

/-! ## Blocks -/

def blk8 (t : Nat) : Finset S2x2304x9216.Idx := cells fun i => (i 2).val / 256 = t
def blk7 (t : Nat) : Finset S2x128x9216.Idx := cells fun i => (i 2).val / 256 = t

theorem slot16_set (t : T3) : (Rect.unit (s := S3x2x2304x256) (k0_off229 t) S1x2x2304x256.size (k0_off229_inb t)).set = slot16 t.val := by
  ext i
  rw [Rect.mem_set_unit, slot16, mem_cells, off229_eq]
  have h1 : (i 1).val < 2 := (i 1).isLt
  have h2 : (i 2).val < 2304 := (i 2).isLt
  have h3 : (i 3).val < 256 := (i 3).isLt
  constructor
  · intro h
    have h0 : t.val % 3 ≤ (i 0).val ∧ (i 0).val < t.val % 3 + 1 := h 0
    omega
  · intro h a
    match a with
    | 0 => exact ⟨(show t.val % 3 ≤ (i 0).val by omega), (show (i 0).val < t.val % 3 + 1 by omega)⟩
    | 1 => exact ⟨Nat.zero_le _, (show (i 1).val < 0 + 2 by omega)⟩
    | 2 => exact ⟨Nat.zero_le _, (show (i 2).val < 0 + 2304 by omega)⟩
    | 3 => exact ⟨Nat.zero_le _, (show (i 3).val < 0 + 256 by omega)⟩

theorem slot17_set (t : T3) : (Rect.unit (s := S3x2x128x256) (k0_off231 t) S1x2x128x256.size (k0_off231_inb t)).set = slot17 t.val := by
  ext i
  rw [Rect.mem_set_unit, slot17, mem_cells, off231_eq]
  have h1 : (i 1).val < 2 := (i 1).isLt
  have h2 : (i 2).val < 128 := (i 2).isLt
  have h3 : (i 3).val < 256 := (i 3).isLt
  constructor
  · intro h
    have h0 : t.val % 3 ≤ (i 0).val ∧ (i 0).val < t.val % 3 + 1 := h 0
    omega
  · intro h a
    match a with
    | 0 => exact ⟨(show t.val % 3 ≤ (i 0).val by omega), (show (i 0).val < t.val % 3 + 1 by omega)⟩
    | 1 => exact ⟨Nat.zero_le _, (show (i 1).val < 0 + 2 by omega)⟩
    | 2 => exact ⟨Nat.zero_le _, (show (i 2).val < 0 + 128 by omega)⟩
    | 3 => exact ⟨Nat.zero_le _, (show (i 3).val < 0 + 256 by omega)⟩

theorem blk8_set (t : T3) : (Rect.unit (s := S2x2304x9216) (k0_off228 t) S2x2304x256.size (k0_off228_inb t)).set = blk8 t.val := by
  ext i
  rw [Rect.mem_set_unit, blk8, mem_cells, off228_eq]
  have h0 : (i 0).val < 2 := (i 0).isLt
  have h1 : (i 1).val < 2304 := (i 1).isLt
  constructor
  · intro h
    have h2 : 256 * t.val ≤ (i 2).val ∧ (i 2).val < 256 * t.val + 256 := h 2
    omega
  · intro h a
    match a with
    | 0 => exact ⟨Nat.zero_le _, (show (i 0).val < 0 + 2 by omega)⟩
    | 1 => exact ⟨Nat.zero_le _, (show (i 1).val < 0 + 2304 by omega)⟩
    | 2 => exact ⟨(show 256 * t.val ≤ (i 2).val by omega), (show (i 2).val < 256 * t.val + 256 by omega)⟩

theorem blk7_set (t : T3) : (Rect.unit (s := S2x128x9216) (k0_off230 t) S2x128x256.size (k0_off230_inb t)).set = blk7 t.val := by
  ext i
  rw [Rect.mem_set_unit, blk7, mem_cells, off230_eq]
  have h0 : (i 0).val < 2 := (i 0).isLt
  have h1 : (i 1).val < 128 := (i 1).isLt
  constructor
  · intro h
    have h2 : 256 * t.val ≤ (i 2).val ∧ (i 2).val < 256 * t.val + 256 := h 2
    omega
  · intro h a
    match a with
    | 0 => exact ⟨Nat.zero_le _, (show (i 0).val < 0 + 2 by omega)⟩
    | 1 => exact ⟨Nat.zero_le _, (show (i 1).val < 0 + 128 by omega)⟩
    | 2 => exact ⟨(show 256 * t.val ≤ (i 2).val by omega), (show (i 2).val < 256 * t.val + 256 by omega)⟩

section Values
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

/-- The trip that writes a column. -/
def colTrip (n : Fin 9216) : T3 := ⟨n.val / 256, by rw [trips36]; omega⟩

/-- All the codes. -/
def WC (i : S2x2304x9216.Idx) : Elt F .fp8e4m3 :=
  T16 W10 G12 E15 (colTrip (i 2)) (ix4 (0 : Fin 3) (i 0) (i 1) (⟨(i 2).val % 256, Nat.mod_lt _ (by decide)⟩ : Fin 256))

/-- All the rows of the product. -/
def YC (i : S2x128x9216.Idx) : Elt F .bf16 :=
  T17 S4 B5 W10 X11 G12 H13 E15 (colTrip (i 2)) (ix4 (0 : Fin 3) (i 0) (i 1) (⟨(i 2).val % 256, Nat.mod_lt _ (by decide)⟩ : Fin 256))

theorem T16_congr (t : T3) {i i' : S3x2x2304x256.Idx} (h1 : (i 1).val = (i' 1).val) (h2 : (i 2).val = (i' 2).val) (h3 : (i 3).val = (i' 3).val) :
    T16 W10 G12 E15 t i = T16 W10 G12 E15 t i' := by
  have e1 : i 1 = i' 1 := Fin.ext h1
  have e2 : i 2 = i' 2 := Fin.ext h2
  have e3 : i 3 = i' 3 := Fin.ext h3
  unfold T16
  rw [e1]
  simp only [e2, e3]

theorem T17_congr (t : T3) {i i' : S3x2x128x256.Idx} (h1 : (i 1).val = (i' 1).val) (h2 : (i 2).val = (i' 2).val) (h3 : (i 3).val = (i' 3).val) :
    T17 S4 B5 W10 X11 G12 H13 E15 t i = T17 S4 B5 W10 X11 G12 H13 E15 t i' := by
  have e1 : i 1 = i' 1 := Fin.ext h1
  have e2 : i 2 = i' 2 := Fin.ext h2
  have e3 : i 3 = i' 3 := Fin.ext h3
  unfold T17
  rw [e1, e2]
  simp only [e3]

/-- A slot's codes are its block's. -/
theorem T16_blk (t : T3) (j : S2x2304x256.Idx) (hn : S2x2304x256.numel = S1x2x2304x256.numel) :
    T16 W10 G12 E15 t ((Rect.unit (s := S3x2x2304x256) (k0_off229 t) S1x2x2304x256.size (k0_off229_inb t)).emb (Shape.reshapeEquiv hn j))
      = WC W10 G12 E15 ((Rect.unit (s := S2x2304x9216) (k0_off228 t) S2x2304x256.size (k0_off228_inb t)).emb j) := by
  have hj : j = ix3 (j 0) (j 1) (j 2) := by funext a; match a with | 0 => rfl | 1 => rfl | 2 => rfl
  have l2 : (j 2).val < 256 := (j 2).isLt
  have v := fun a => (unit_val (s := S2x2304x9216) (k0_off228 t) S2x2304x256.size (k0_off228_inb t) j a).trans (congrArg (· + _) (congrFun (off228_eq t) a))
  have v0 := v 0; have v1 := v 1; have v2 := v 2
  replace v0 : _ = 0 + (j 0).val := v0
  replace v1 : _ = 0 + (j 1).val := v1
  replace v2 : _ = 256 * t.val + (j 2).val := v2
  rw [show Shape.reshapeEquiv hn j = ix4 (⟨0, Nat.one_pos⟩ : Fin 1) (j 0) (j 1) (j 2) from by
    conv_lhs => rw [hj]
    exact reshapeEquiv_ix3_1abc hn _ _ _]
  have u := fun a => (unit_val (s := S3x2x2304x256) (k0_off229 t) S1x2x2304x256.size (k0_off229_inb t) (ix4 (⟨0, Nat.one_pos⟩ : Fin 1) (j 0) (j 1) (j 2)) a).trans (congrArg (· + _) (congrFun (off229_eq t) a))
  have u1 := u 1; have u2 := u 2; have u3 := u 3
  replace u1 : _ = 0 + (j 0).val := u1
  replace u2 : _ = 0 + (j 1).val := u2
  replace u3 : _ = 0 + (j 2).val := u3
  unfold WC
  have ht : colTrip ((Rect.unit (s := S2x2304x9216) (k0_off228 t) S2x2304x256.size (k0_off228_inb t)).emb j 2) = t :=
    Fin.ext (by show _ / 256 = _; rw [v2]; omega)
  rw [ht]
  refine T16_congr W10 G12 E15 t (u1.trans v0.symm) (u2.trans v1.symm) ?_
  show _ = _ % 256
  rw [v2]
  exact u3.trans (by omega)

/-- A slot's rows of the product are its block's. -/
theorem T17_blk (t : T3) (j : S2x128x256.Idx) (hn : S2x128x256.numel = S1x2x128x256.numel) :
    T17 S4 B5 W10 X11 G12 H13 E15 t ((Rect.unit (s := S3x2x128x256) (k0_off231 t) S1x2x128x256.size (k0_off231_inb t)).emb (Shape.reshapeEquiv hn j))
      = YC S4 B5 W10 X11 G12 H13 E15 ((Rect.unit (s := S2x128x9216) (k0_off230 t) S2x128x256.size (k0_off230_inb t)).emb j) := by
  have hj : j = ix3 (j 0) (j 1) (j 2) := by funext a; match a with | 0 => rfl | 1 => rfl | 2 => rfl
  have l2 : (j 2).val < 256 := (j 2).isLt
  have v := fun a => (unit_val (s := S2x128x9216) (k0_off230 t) S2x128x256.size (k0_off230_inb t) j a).trans (congrArg (· + _) (congrFun (off230_eq t) a))
  have v0 := v 0; have v1 := v 1; have v2 := v 2
  replace v0 : _ = 0 + (j 0).val := v0
  replace v1 : _ = 0 + (j 1).val := v1
  replace v2 : _ = 256 * t.val + (j 2).val := v2
  rw [show Shape.reshapeEquiv hn j = ix4 (⟨0, Nat.one_pos⟩ : Fin 1) (j 0) (j 1) (j 2) from by
    conv_lhs => rw [hj]
    exact reshapeEquiv_ix3_1abc hn _ _ _]
  have u := fun a => (unit_val (s := S3x2x128x256) (k0_off231 t) S1x2x128x256.size (k0_off231_inb t) (ix4 (⟨0, Nat.one_pos⟩ : Fin 1) (j 0) (j 1) (j 2)) a).trans (congrArg (· + _) (congrFun (off231_eq t) a))
  have u1 := u 1; have u2 := u 2; have u3 := u 3
  replace u1 : _ = 0 + (j 0).val := u1
  replace u2 : _ = 0 + (j 1).val := u2
  replace u3 : _ = 0 + (j 2).val := u3
  unfold YC
  have ht : colTrip ((Rect.unit (s := S2x128x9216) (k0_off230 t) S2x128x256.size (k0_off230_inb t)).emb j 2) = t :=
    Fin.ext (by show _ / 256 = _; rw [v2]; omega)
  rw [ht]
  refine T17_congr S4 B5 W10 X11 G12 H13 E15 t (u1.trans v0.symm) (u2.trans v1.symm) ?_
  show _ = _ % 256
  rw [v2]
  exact u3.trans (by omega)

end Values

/-! ## The slots -/

section Steps
variable (c : Dev nD)
local notation "𝕄" => MT nD τ sig Unit (Elt F) ℕ (Pipeline.UD sig nD τ) ℕ

variable (arg4 : Memref sig .tc .smem S18x72 .i32) (arg5 : Memref sig .tc .vmem S72x128 .f32)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- The credits of a block's transfer. -/
def N8 : Nat := sig.dmaCredit .tc (Kind.tc.table .hbm) arg8.view.buf S2x2304x256 .fp8e4m3
def N7 : Nat := sig.dmaCredit .tc (Kind.tc.table .hbm) arg7.view.buf S2x128x256 .bf16

/-- A slot whose blocks `j` are on their way out. -/
def Busy (s : Fin 3) (j : Nat) : sProp 𝕄 :=
  iprop(Flight countersEmb (c : Thread nD τ) (.dma (arg21.ix (ix1 s))) () (N8 arg8)
      iprop(KV (c : Thread nD τ) arg8.view (blk8 j) fullShare (is (WC W10 G12 E15)) ∗ KV (c : Thread nD τ) arg16.view (slot16 j) fullShare any)
    ∗ Flight countersEmb (c : Thread nD τ) (.dma (arg22.ix (ix1 s))) () (N7 arg7)
      iprop(KV (c : Thread nD τ) arg7.view (blk7 j) fullShare (is (YC S4 B5 W10 X11 G12 H13 E15)) ∗ KV (c : Thread nD τ) arg17.view (slot17 j) fullShare any))

/-- A free slot. -/
def Free (s : Fin 3) : sProp 𝕄 :=
  iprop((KV (c : Thread nD τ) arg16.view (slot16 s.val) fullShare any ∗ semVal ((c : Thread nD τ), .dma (arg21.ix (ix1 s))) 0)
    ∗ (KV (c : Thread nD τ) arg17.view (slot17 s.val) fullShare any ∗ semVal ((c : Thread nD τ), .dma (arg22.ix (ix1 s))) 0))

/-- A slot before trip `t`. -/
def slotSt (t : Nat) (s : Fin 3) : sProp 𝕄 :=
  if s.val < t then Busy c arg7 arg8 arg16 arg17 arg21 arg22 S4 B5 W10 X11 G12 H13 E15 s (s.val + 3 * ((t - 1 - s.val) / 3))
  else Free c arg16 arg17 arg21 arg22 s

/-- The blocks not on their way out before trip `t`. -/
def out8 (t : Nat) : Finset S2x2304x9216.Idx := cells fun i => (i 2).val / 256 + 3 < t ∨ t ≤ (i 2).val / 256
def out7 (t : Nat) : Finset S2x128x9216.Idx := cells fun i => (i 2).val / 256 + 3 < t ∨ t ≤ (i 2).val / 256

/-- Those not on their way out within trip `t`. -/
def out8' (t : Nat) : Finset S2x2304x9216.Idx := cells fun i => (i 2).val / 256 + 3 < t + 1 ∨ t ≤ (i 2).val / 256
def out7' (t : Nat) : Finset S2x128x9216.Idx := cells fun i => (i 2).val / 256 + 3 < t + 1 ∨ t ≤ (i 2).val / 256

def P8 (t : Nat) : S2x2304x9216.Idx → Elt F .fp8e4m3 → Prop := upTo (fun i => (i 2).val / 256 + 3 < t) (WC W10 G12 E15)
def P7 (t : Nat) : S2x128x9216.Idx → Elt F .bf16 → Prop := upTo (fun i => (i 2).val / 256 + 3 < t) (YC S4 B5 W10 X11 G12 H13 E15)

def slotOf (t : Nat) : Fin 3 := ⟨t % 3, Nat.mod_lt _ (by decide)⟩

theorem slot16_mod (t : Nat) : slot16 (t % 3) = slot16 t := by unfold slot16; rw [Nat.mod_mod]
theorem slot17_mod (t : Nat) : slot17 (t % 3) = slot17 t := by unfold slot17; rw [Nat.mod_mod]

theorem slotSt_next (t : Nat) : slotSt c arg7 arg8 arg16 arg17 arg21 arg22 S4 B5 W10 X11 G12 H13 E15 (t + 1) (slotOf t)
    = Busy c arg7 arg8 arg16 arg17 arg21 arg22 S4 B5 W10 X11 G12 H13 E15 (slotOf t) t := by
  unfold slotSt slotOf
  rw [if_pos (show t % 3 < t + 1 by omega), show t % 3 + 3 * ((t + 1 - 1 - t % 3) / 3) = t by omega]

theorem slotSt_other (t : Nat) (s : Fin 3) (h : s ≠ slotOf t) : slotSt c arg7 arg8 arg16 arg17 arg21 arg22 S4 B5 W10 X11 G12 H13 E15 (t + 1) s
    = slotSt c arg7 arg8 arg16 arg17 arg21 arg22 S4 B5 W10 X11 G12 H13 E15 t s := by
  have h' : s.val ≠ t % 3 := fun e => h (Fin.ext e)
  unfold slotSt
  by_cases hs : s.val < t
  · rw [if_pos hs, if_pos (by omega), show s.val + 3 * ((t + 1 - 1 - s.val) / 3) = s.val + 3 * ((t - 1 - s.val) / 3) by omega]
  · rw [if_neg hs, if_neg (by omega)]

theorem slotSt_now (t : Nat) (h : 3 ≤ t) : slotSt c arg7 arg8 arg16 arg17 arg21 arg22 S4 B5 W10 X11 G12 H13 E15 t (slotOf t)
    = Busy c arg7 arg8 arg16 arg17 arg21 arg22 S4 B5 W10 X11 G12 H13 E15 (slotOf t) (t - 3) := by
  unfold slotSt slotOf
  rw [if_pos (show t % 3 < t by omega), show t % 3 + 3 * ((t - 1 - t % 3) / 3) = t - 3 by omega]

theorem slotSt_free (t : Nat) (h : ¬ 3 ≤ t) : slotSt c arg7 arg8 arg16 arg17 arg21 arg22 S4 B5 W10 X11 G12 H13 E15 t (slotOf t)
    = Free c arg16 arg17 arg21 arg22 (slotOf t) := by
  unfold slotSt slotOf
  rw [if_neg (show ¬ t % 3 < t by omega)]

/-- A block that arrived joins the others. -/
theorem join8 (t : Nat) (h : 3 ≤ t) :
    (iprop(KV (c : Thread nD τ) arg8.view (out8 t) fullShare (P8 W10 G12 E15 t) ∗ KV (c : Thread nD τ) arg8.view (blk8 (t - 3)) fullShare (is (WC W10 G12 E15))) : sProp 𝕄)
      ⊢ KV (c : Thread nD τ) arg8.view (out8' t) fullShare (P8 W10 G12 E15 (t + 1)) := by
  have hd : Disjoint (out8 t) (blk8 (t - 3)) := by
    rw [Finset.disjoint_left]; intro i hi hj
    rw [out8, mem_cells] at hi; rw [blk8, mem_cells] at hj; omega
  have hu : out8 t ∪ blk8 (t - 3) = out8' t := by
    ext i; rw [Finset.mem_union, out8, blk8, out8', mem_cells, mem_cells, mem_cells]; omega
  iintro ⟨H1, H2⟩
  rw [← hu]
  iapply (KV_join (c : Thread nD τ) hd)
  isplitl [H1]
  · iapply (KV_mono (c : Thread nD τ) ?_) $$ H1
    intro i hi x hx hK
    rw [out8, mem_cells] at hi
    exact hx (by omega)
  · iapply (KV_mono (c : Thread nD τ) ?_) $$ H2
    intro i hi x hx hK
    exact hx

theorem join7 (t : Nat) (h : 3 ≤ t) :
    (iprop(KV (c : Thread nD τ) arg7.view (out7 t) fullShare (P7 S4 B5 W10 X11 G12 H13 E15 t) ∗ KV (c : Thread nD τ) arg7.view (blk7 (t - 3)) fullShare (is (YC S4 B5 W10 X11 G12 H13 E15))) : sProp 𝕄)
      ⊢ KV (c : Thread nD τ) arg7.view (out7' t) fullShare (P7 S4 B5 W10 X11 G12 H13 E15 (t + 1)) := by
  have hd : Disjoint (out7 t) (blk7 (t - 3)) := by
    rw [Finset.disjoint_left]; intro i hi hj
    rw [out7, mem_cells] at hi; rw [blk7, mem_cells] at hj; omega
  have hu : out7 t ∪ blk7 (t - 3) = out7' t := by
    ext i; rw [Finset.mem_union, out7, blk7, out7', mem_cells, mem_cells, mem_cells]; omega
  iintro ⟨H1, H2⟩
  rw [← hu]
  iapply (KV_join (c : Thread nD τ) hd)
  isplitl [H1]
  · iapply (KV_mono (c : Thread nD τ) ?_) $$ H1
    intro i hi x hx hK
    rw [out7, mem_cells] at hi
    exact hx (by omega)
  · iapply (KV_mono (c : Thread nD τ) ?_) $$ H2
    intro i hi x hx hK
    exact hx

theorem early8 (t : Nat) (h : ¬ 3 ≤ t) :
    (KV (c : Thread nD τ) arg8.view (out8 t) fullShare (P8 W10 G12 E15 t) : sProp 𝕄)
      ⊢ KV (c : Thread nD τ) arg8.view (out8' t) fullShare (P8 W10 G12 E15 (t + 1)) := by
  have hu : out8 t = out8' t := by
    ext i; rw [out8, out8', mem_cells, mem_cells]; omega
  rw [← hu]
  refine KV_mono (c : Thread nD τ) ?_
  intro i hi x hx hK
  exact absurd hK (by omega)

theorem early7 (t : Nat) (h : ¬ 3 ≤ t) :
    (KV (c : Thread nD τ) arg7.view (out7 t) fullShare (P7 S4 B5 W10 X11 G12 H13 E15 t) : sProp 𝕄)
      ⊢ KV (c : Thread nD τ) arg7.view (out7' t) fullShare (P7 S4 B5 W10 X11 G12 H13 E15 (t + 1)) := by
  have hu : out7 t = out7' t := by
    ext i; rw [out7, out7', mem_cells, mem_cells]; omega
  rw [← hu]
  refine KV_mono (c : Thread nD τ) ?_
  intro i hi x hx hK
  exact absurd hK (by omega)

/-- The next block leaves the others. -/
theorem take8 (t : Nat) :
    (KV (c : Thread nD τ) arg8.view (out8' t) fullShare (P8 W10 G12 E15 (t + 1)) : sProp 𝕄)
      ⊢ iprop(KV (c : Thread nD τ) arg8.view (blk8 t) fullShare (P8 W10 G12 E15 (t + 1)) ∗ KV (c : Thread nD τ) arg8.view (out8 (t + 1)) fullShare (P8 W10 G12 E15 (t + 1))) := by
  have hd : Disjoint (blk8 t) (out8 (t + 1)) := by
    rw [Finset.disjoint_left]; intro i hi hj
    rw [out8, mem_cells] at hj; rw [blk8, mem_cells] at hi; omega
  have hu : blk8 t ∪ out8 (t + 1) = out8' t := by
    ext i; rw [Finset.mem_union, out8, blk8, out8', mem_cells, mem_cells, mem_cells]; omega
  rw [← hu]
  exact KV_union (c : Thread nD τ) hd

theorem take7 (t : Nat) :
    (KV (c : Thread nD τ) arg7.view (out7' t) fullShare (P7 S4 B5 W10 X11 G12 H13 E15 (t + 1)) : sProp 𝕄)
      ⊢ iprop(KV (c : Thread nD τ) arg7.view (blk7 t) fullShare (P7 S4 B5 W10 X11 G12 H13 E15 (t + 1)) ∗ KV (c : Thread nD τ) arg7.view (out7 (t + 1)) fullShare (P7 S4 B5 W10 X11 G12 H13 E15 (t + 1))) := by
  have hd : Disjoint (blk7 t) (out7 (t + 1)) := by
    rw [Finset.disjoint_left]; intro i hi hj
    rw [out7, mem_cells] at hj; rw [blk7, mem_cells] at hi; omega
  have hu : blk7 t ∪ out7 (t + 1) = out7' t := by
    ext i; rw [Finset.mem_union, out7, blk7, out7', mem_cells, mem_cells, mem_cells]; omega
  rw [← hu]
  exact KV_union (c : Thread nD τ) hd

/-- Before a trip: its slot becomes free and the blocks it held are in place. -/
theorem pre_wp (t : T3) (Q : PUnit → sProp 𝕄) :
    iprop(slotSt c arg7 arg8 arg16 arg17 arg21 arg22 S4 B5 W10 X11 G12 H13 E15 t.val (slotOf t.val)
      ∗ KV (c : Thread nD τ) arg8.view (out8 t.val) fullShare (P8 W10 G12 E15 t.val)
      ∗ KV (c : Thread nD τ) arg7.view (out7 t.val) fullShare (P7 S4 B5 W10 X11 G12 H13 E15 t.val)
      ∗ (∃ W, owes (c : Thread nD τ) 0 W))
    ⊢ iprop((iprop(Free c arg16 arg17 arg21 arg22 (slotOf t.val)
      ∗ KV (c : Thread nD τ) arg8.view (out8' t.val) fullShare (P8 W10 G12 E15 (t.val + 1))
      ∗ KV (c : Thread nD τ) arg7.view (out7' t.val) fullShare (P7 S4 B5 W10 X11 G12 H13 E15 (t.val + 1))
      ∗ (∃ W, owes (c : Thread nD τ) 0 W)) -∗ Q ⟨⟩)
      -∗ WP (pre arg7 harg7 arg8 harg8 arg16 harg16 arg17 harg17 arg21 arg22 t) Q) := by
  unfold pre
  by_cases hc : k0_cond1 t = 1#1
  · have h3 := (cond1_iff t).mp hc
    rw [dif_pos hc, slotSt_now _ _ _ _ _ _ _ _ _ _ _ _ _ _ _ h3]
    unfold Busy
    iintro ⟨⟨F1, F2⟩, H8, H7, HW⟩ HK
    rw [wp_bind]
    iapply (waitAt Variants.none (c : Thread nD τ) none countersEmb () (sem_eq arg21 _ _ (slotOf t.val) (off10_eq t)) rfl) $$ [F1 HW]
    · isplitl [F1]; · iexact F1
      iexact HW
    iintro ⟨⟨D8, D16⟩, S21, HW⟩
    rw [wp_bind]
    iapply (waitAt Variants.none (c : Thread nD τ) none countersEmb () (sem_eq arg22 _ _ (slotOf t.val) (off10_eq t)) rfl) $$ [F2 HW]
    · isplitl [F2]; · iexact F2
      iexact HW
    iintro ⟨⟨D7, D17⟩, S22, HW⟩
    iapply (pureStep Variants.none (c : Thread nD τ) none Set.univ ⟨⟩ rfl)
    iapply HK
    unfold Free
    isplitl [D16 S21 D17 S22]
    · isplitl [D16 S21]
      · isplitl [D16]
        · iapply (KV_congr_set (c : Thread nD τ) ?_) $$ D16
          show slot16 _ = slot16 (t.val % 3)
          unfold slot16; congr 1; funext i; rw [show (t.val - 3) % 3 = t.val % 3 % 3 by omega]
        · iexact S21
      · isplitl [D17]
        · iapply (KV_congr_set (c : Thread nD τ) ?_) $$ D17
          show slot17 _ = slot17 (t.val % 3)
          unfold slot17; congr 1; funext i; rw [show (t.val - 3) % 3 = t.val % 3 % 3 by omega]
        · iexact S22
    isplitl [H8 D8]
    · iapply (join8 c arg8 W10 G12 E15 t.val h3)
      isplitl [H8] <;> iassumption
    isplitl [H7 D7]
    · iapply (join7 c arg7 S4 B5 W10 X11 G12 H13 E15 t.val h3)
      isplitl [H7] <;> iassumption
    iexact HW
  · have h3 : ¬ 3 ≤ t.val := fun h => hc ((cond1_iff t).mpr h)
    rw [dif_neg hc, slotSt_free _ _ _ _ _ _ _ _ _ _ _ _ _ _ _ h3]
    iintro ⟨HF, H8, H7, HW⟩ HK
    iapply (pureStep Variants.none (c : Thread nD τ) none Set.univ ⟨⟩ rfl)
    iapply HK
    isplitl [HF]; · iexact HF
    isplitl [H8]; · iapply (early8 c arg8 W10 G12 E15 t.val h3) $$ H8
    isplitl [H7]; · iapply (early7 c arg7 S4 B5 W10 X11 G12 H13 E15 t.val h3) $$ H7
    iexact HW

/-- After a trip: its slot's blocks are on their way. -/
theorem post_wp (t : T3) (Q : PUnit → sProp 𝕄) :
    iprop((KV (c : Thread nD τ) arg16.view (slot16 t.val) fullShare (is (T16 W10 G12 E15 t)) ∗ KV (c : Thread nD τ) arg8.view (blk8 t.val) fullShare (P8 W10 G12 E15 (t.val + 1))
        ∗ semVal ((c : Thread nD τ), .dma (arg21.ix (ix1 (slotOf t.val)))) 0)
      ∗ (KV (c : Thread nD τ) arg17.view (slot17 t.val) fullShare (is (T17 S4 B5 W10 X11 G12 H13 E15 t)) ∗ KV (c : Thread nD τ) arg7.view (blk7 t.val) fullShare (P7 S4 B5 W10 X11 G12 H13 E15 (t.val + 1))
        ∗ semVal ((c : Thread nD τ), .dma (arg22.ix (ix1 (slotOf t.val)))) 0))
    ⊢ iprop((Busy c arg7 arg8 arg16 arg17 arg21 arg22 S4 B5 W10 X11 G12 H13 E15 (slotOf t.val) t.val -∗ Q ⟨⟩)
      -∗ WP (post arg7 harg7 arg8 harg8 arg16 harg16 arg17 harg17 arg21 arg22 t) Q) := by
  unfold post Busy
  iintro ⟨H16, H17⟩ HK
  rw [wp_bind]
  iapply (dmaOut Variants.none (c : Thread nD τ) none countersEmb () (N8 arg8) (T16 W10 G12 E15 t) (WC W10 G12 E15) (slot16_set t) (blk8_set t)
    (fun j => T16_blk W10 G12 E15 t j _) (sem_eq arg21 _ _ (slotOf t.val) (off227_eq t)) rfl ?_) $$ H16
  · exact sig.dmaCredit_pos _ _ _ _ _ (by decide)
  iintro F1
  rw [wp_bind]
  iapply (dmaOut Variants.none (c : Thread nD τ) none countersEmb () (N7 arg7) (T17 S4 B5 W10 X11 G12 H13 E15 t) (YC S4 B5 W10 X11 G12 H13 E15) (slot17_set t) (blk7_set t)
    (fun j => T17_blk S4 B5 W10 X11 G12 H13 E15 t j _) (sem_eq arg22 _ _ (slotOf t.val) (off227_eq t)) rfl ?_) $$ H17
  · exact sig.dmaCredit_pos _ _ _ _ _ (by decide)
  iintro F2
  iapply (pureStep Variants.none (c : Thread nD τ) none Set.univ ⟨⟩ rfl)
  iapply HK
  isplitl [F1]
  · iapply (Flight_mono countersEmb (c : Thread nD τ) ?_) $$ F1
    iintro ⟨A, B⟩
    isplitl [A]; · iexact A
    iapply (KV_mono (c : Thread nD τ) (fun _ _ _ _ => trivial)) $$ B
  · iapply (Flight_mono countersEmb (c : Thread nD τ) ?_) $$ F2
    iintro ⟨A, B⟩
    isplitl [A]; · iexact A
    iapply (KV_mono (c : Thread nD τ) (fun _ _ _ _ => trivial)) $$ B

end Steps

end Cert.KernelIdeal.Roll
-- ==== Proof.Ring.lean ====
/-
  The third loop from its first trip to its last, and the six waits after it.
-/
module

public import proofs.«01_k».proof.Proof.Loop3

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.KernelIdeal Cert.KernelIdeal.Gen Cert.Cells Idealize.ShloMosaic.Transfers

variable {F : FTy → Type} [FloatOps F]

section Prog
variable (arg7 : Memref sig .tc .hbm S2x128x9216 .bf16) (harg7 : arg7.IsWhole)
  (arg8 : Memref sig .tc .hbm S2x2304x9216 .fp8e4m3) (harg8 : arg8.IsWhole)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)

/-- After the loop: the last three trips' blocks are waited for. -/
def drain : Prog (TpuEff nD τ sig (Elt F) Λ₀ .tc) PUnit := do
  Prog.lift (.waitDma2 ((arg21.slice (Rect.unit (s := S3) ![0] S1.size inb_S3_S1_0)).squeeze S_ squeezes_S1_S_).sem
    ((arg16.slice (Rect.unit (s := S3x2x2304x256) ![0, 0, 0, 0] S1x2x2304x256.size inb_S3x2x2304x256_S1x2x2304x256_0_0_0_0) (fun _ => rfl)).squeeze S2x2304x256 squeezes_S1x2x2304x256_S2x2304x256)
    (arg8.slice (Rect.unit (s := S2x2304x9216) ![0, 0, 8448] S2x2304x256.size inb_S2x2304x9216_S2x2304x256_0_0_8448) (fun _ => rfl))
    ((harg16.wordExact_slice rfl _ wordsfp8e4m3_S3x2x2304x256_S1x2x2304x256_0_0_0_0).reshape _ _) (harg8.wordExact_slice rfl _ wordsfp8e4m3_S2x2304x9216_S2x2304x256_0_0_8448))
  Prog.lift (.waitDma2 ((arg22.slice (Rect.unit (s := S3) ![0] S1.size inb_S3_S1_0)).squeeze S_ squeezes_S1_S_).sem
    ((arg17.slice (Rect.unit (s := S3x2x128x256) ![0, 0, 0, 0] S1x2x128x256.size inb_S3x2x128x256_S1x2x128x256_0_0_0_0) (fun _ => rfl)).squeeze S2x128x256 squeezes_S1x2x128x256_S2x128x256)
    (arg7.slice (Rect.unit (s := S2x128x9216) ![0, 0, 8448] S2x128x256.size inb_S2x128x9216_S2x128x256_0_0_8448) (fun _ => rfl))
    ((harg17.wordExact_slice rfl _ wordsbf16_S3x2x128x256_S1x2x128x256_0_0_0_0).reshape _ _) (harg7.wordExact_slice rfl _ wordsbf16_S2x128x9216_S2x128x256_0_0_8448))
  Prog.lift (.waitDma2 ((arg21.slice (Rect.unit (s := S3) ![1] S1.size inb_S3_S1_1)).squeeze S_ squeezes_S1_S_).sem
    ((arg16.slice (Rect.unit (s := S3x2x2304x256) ![1, 0, 0, 0] S1x2x2304x256.size inb_S3x2x2304x256_S1x2x2304x256_1_0_0_0) (fun _ => rfl)).squeeze S2x2304x256 squeezes_S1x2x2304x256_S2x2304x256)
    (arg8.slice (Rect.unit (s := S2x2304x9216) ![0, 0, 8704] S2x2304x256.size inb_S2x2304x9216_S2x2304x256_0_0_8704) (fun _ => rfl))
    ((harg16.wordExact_slice rfl _ wordsfp8e4m3_S3x2x2304x256_S1x2x2304x256_1_0_0_0).reshape _ _) (harg8.wordExact_slice rfl _ wordsfp8e4m3_S2x2304x9216_S2x2304x256_0_0_8704))
  Prog.lift (.waitDma2 ((arg22.slice (Rect.unit (s := S3) ![1] S1.size inb_S3_S1_1)).squeeze S_ squeezes_S1_S_).sem
    ((arg17.slice (Rect.unit (s := S3x2x128x256) ![1, 0, 0, 0] S1x2x128x256.size inb_S3x2x128x256_S1x2x128x256_1_0_0_0) (fun _ => rfl)).squeeze S2x128x256 squeezes_S1x2x128x256_S2x128x256)
    (arg7.slice (Rect.unit (s := S2x128x9216) ![0, 0, 8704] S2x128x256.size inb_S2x128x9216_S2x128x256_0_0_8704) (fun _ => rfl))
    ((harg17.wordExact_slice rfl _ wordsbf16_S3x2x128x256_S1x2x128x256_1_0_0_0).reshape _ _) (harg7.wordExact_slice rfl _ wordsbf16_S2x128x9216_S2x128x256_0_0_8704))
  Prog.lift (.waitDma2 ((arg21.slice (Rect.unit (s := S3) ![2] S1.size inb_S3_S1_2)).squeeze S_ squeezes_S1_S_).sem
    ((arg16.slice (Rect.unit (s := S3x2x2304x256) ![2, 0, 0, 0] S1x2x2304x256.size inb_S3x2x2304x256_S1x2x2304x256_2_0_0_0) (fun _ => rfl)).squeeze S2x2304x256 squeezes_S1x2x2304x256_S2x2304x256)
    (arg8.slice (Rect.unit (s := S2x2304x9216) ![0, 0, 8960] S2x2304x256.size inb_S2x2304x9216_S2x2304x256_0_0_8960) (fun _ => rfl))
    ((harg16.wordExact_slice rfl _ wordsfp8e4m3_S3x2x2304x256_S1x2x2304x256_2_0_0_0).reshape _ _) (harg8.wordExact_slice rfl _ wordsfp8e4m3_S2x2304x9216_S2x2304x256_0_0_8960))
  Prog.lift (.waitDma2 ((arg22.slice (Rect.unit (s := S3) ![2] S1.size inb_S3_S1_2)).squeeze S_ squeezes_S1_S_).sem
    ((arg17.slice (Rect.unit (s := S3x2x128x256) ![2, 0, 0, 0] S1x2x128x256.size inb_S3x2x128x256_S1x2x128x256_2_0_0_0) (fun _ => rfl)).squeeze S2x128x256 squeezes_S1x2x128x256_S2x128x256)
    (arg7.slice (Rect.unit (s := S2x128x9216) ![0, 0, 8960] S2x128x256.size inb_S2x128x9216_S2x128x256_0_0_8960) (fun _ => rfl))
    ((harg17.wordExact_slice rfl _ wordsbf16_S3x2x128x256_S1x2x128x256_2_0_0_0).reshape _ _) (harg7.wordExact_slice rfl _ wordsbf16_S2x128x9216_S2x128x256_0_0_8960))
  pure ⟨⟩

end Prog

section Steps
variable (c : Dev nD)
local notation "𝕄" => MT nD τ sig Unit (Elt F) ℕ (Pipeline.UD sig nD τ) ℕ

variable (arg4 : Memref sig .tc .smem S18x72 .i32) (arg5 : Memref sig .tc .vmem S72x128 .f32)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (arg10 : Memref sig .tc .vmem S36x2304x256 .fp8e4m3)
  (arg11 : Memref sig .tc .vmem S2x128x2304 .bf16) (arg12 : Memref sig .tc .vmem S2x2304x128 .f32)
  (arg13 : Memref sig .tc .vmem S8x2304 .f32) (arg15 : Memref sig .tc .smem S9x8x128 .i32)
  (arg16 : Memref sig .tc .vmem S3x2x2304x256 .fp8e4m3) (harg16 : arg16.IsWhole)
  (arg17 : Memref sig .tc .vmem S3x2x128x256 .bf16) (harg17 : arg17.IsWhole)
  (arg21 arg22 : DmaSems sig S3)
variable (S4 : S18x72.Idx → Elt F .i32) (B5 : S72x128.Idx → Elt F .f32) (W10 : S36x2304x256.Idx → Elt F .fp8e4m3)
  (X11 : S2x128x2304.Idx → Elt F .bf16) (G12 : S2x2304x128.Idx → Elt F .f32) (H13 : S8x2304.Idx → Elt F .f32)
  (E15 : S9x8x128.Idx → Elt F .i32)

local notation "WP" => wp frame (wpE (defs₀ (F := F)) Variants.none (c : Thread nD τ) none) Set.univ

/-- What the third loop only reads. -/
def Known : sProp 𝕄 :=
  iprop(KV (c : Thread nD τ) arg12.view Finset.univ fullShare (is G12) ∗ KV (c : Thread nD τ) arg15.view Finset.univ fullShare (is E15)
    ∗ KV (c : Thread nD τ) arg4.view Finset.univ fullShare (is S4) ∗ KV (c : Thread nD τ) arg13.view Finset.univ fullShare (is H13)
    ∗ KV (c : Thread nD τ) arg10.view Finset.univ fullShare (is W10) ∗ KV (c : Thread nD τ) arg11.view Finset.univ fullShare (is X11)
    ∗ KV (c : Thread nD τ) arg5.view Finset.univ fullShare (is B5))

/-- What is held before trip `t`. -/
def Inv3 (t : Nat) : sProp 𝕄 :=
  iprop(bigSep Finset.univ (slotSt c arg7 arg8 arg16 arg17 arg21 arg22 S4 B5 W10 X11 G12 H13 E15 t)
    ∗ KV (c : Thread nD τ) arg8.view (out8 t) fullShare (P8 W10 G12 E15 t)
    ∗ KV (c : Thread nD τ) arg7.view (out7 t) fullShare (P7 S4 B5 W10 X11 G12 H13 E15 t)
    ∗ KV (c : Thread nD τ) arg9.view Finset.univ fullShare (upTo (K9 t 0 0) (T9 S4 E15))
    ∗ Known c arg4 arg5 arg10 arg11 arg12 arg13 arg15 S4 B5 W10 X11 G12 H13 E15
    ∗ (∃ W, owes (c : Thread nD τ) 0 W))

/-- A trip takes one to the next. -/
theorem body3_wp (t : T3) :
    Inv3 c arg4 arg5 arg7 arg8 arg9 arg10 arg11 arg12 arg13 arg15 arg16 arg17 arg21 arg22 S4 B5 W10 X11 G12 H13 E15 t.val
      ⊢ WP (body3 arg7 harg7 arg8 harg8 arg4 arg5 arg9 arg10 arg11 arg12 arg13 arg15 arg16 harg16 arg17 harg17 arg21 arg22 t ())
        (fun _ => Inv3 c arg4 arg5 arg7 arg8 arg9 arg10 arg11 arg12 arg13 arg15 arg16 arg17 arg21 arg22 S4 B5 W10 X11 G12 H13 E15 (t.val + 1)) := by
  unfold Inv3 body3
  rw [show ∀ Φ : Fin 3 → sProp 𝕄, bigSep Finset.univ Φ = iprop(Φ (slotOf t.val) ∗ bigSep (Finset.univ.erase (slotOf t.val)) Φ) from fun Φ => bigSep_univ_split (slotOf t.val),
    show ∀ Φ : Fin 3 → sProp 𝕄, bigSep Finset.univ Φ = iprop(Φ (slotOf t.val) ∗ bigSep (Finset.univ.erase (slotOf t.val)) Φ) from fun Φ => bigSep_univ_split (slotOf t.val),
    slotSt_next, bigSep_congr (s := Finset.univ.erase (slotOf t.val)) (Φ := slotSt c arg7 arg8 arg16 arg17 arg21 arg22 S4 B5 W10 X11 G12 H13 E15 (t.val + 1))
      (fun s hs => slotSt_other c arg7 arg8 arg16 arg17 arg21 arg22 S4 B5 W10 X11 G12 H13 E15 t.val s (Finset.ne_of_mem_erase hs))]
  iintro ⟨⟨HS, HR⟩, H8, H7, H9, HN, HW⟩
  rw [wp_bind]
  iapply (pre_wp c arg7 harg7 arg8 harg8 arg16 harg16 arg17 harg17 arg21 arg22 S4 B5 W10 X11 G12 H13 E15 t) $$ [HS H8 H7 HW]
  · isplitl [HS]; · iexact HS
    isplitl [H8]; · iexact H8
    isplitl [H7]; · iexact H7
    iexact HW
  unfold Free Known
  iintro ⟨⟨⟨H16, S21⟩, ⟨H17, S22⟩⟩, H8, H7, HW⟩
  icases HN with ⟨H12, H15, H4, H13, H10, H11, H5⟩
  rw [wp_bind]
  iapply (mid_wp c arg4 arg5 arg9 arg10 arg11 arg12 arg13 arg15 arg16 harg16 arg17 harg17 S4 B5 W10 X11 G12 H13 E15 t) $$ [H16 H17 H9 H12 H15 H4 H13 H10 H11 H5]
  · unfold MidRes TileRes
    isplitl [H16 H9 H12 H15 H4 H13 H10 H11]
    · isplitl [H16 H9 H12 H15]
      · isplitl [H9]; · iexact H9
        isplitl [H16]
        · rw [show slot16 (slotOf t.val).val = slot16 t.val from slot16_mod _]
          iapply (KV_mono (c : Thread nD τ) ?_) $$ H16
          intro i _ x _ hK
          unfold K16 at hK
          omega
        isplitl [H12] <;> iassumption
      isplitl [H4]; · iexact H4
      isplitl [H13]; · iexact H13
      isplitl [H10] <;> iassumption
    isplitl [H5]; · iexact H5
    rw [show slot17 (slotOf t.val).val = slot17 t.val from slot17_mod _]
    iapply (KV_mono (c : Thread nD τ) ?_) $$ H17
    intro i _ x _ hK
    unfold K17 at hK
    omega
  unfold MidRes TileRes
  iintro ⟨⟨⟨H9, H16, H12, H15⟩, H4, H13, H10, H11⟩, H5, H17⟩
  ihave H8 := (take8 c arg8 W10 G12 E15 t.val) $$ H8
  icases H8 with ⟨B8, H8⟩
  ihave H7 := (take7 c arg7 S4 B5 W10 X11 G12 H13 E15 t.val) $$ H7
  icases H7 with ⟨B7, H7⟩
  iapply (post_wp c arg7 harg7 arg8 harg8 arg16 harg16 arg17 harg17 arg21 arg22 S4 B5 W10 X11 G12 H13 E15 t) $$ [H16 H17 B8 B7 S21 S22]
  · isplitl [H16 B8 S21]
    · isplitl [H16]
      · iapply (KV_mono (c : Thread nD τ) ?_) $$ H16
        intro i _ x hx
        refine hx ?_
        have h2 : (i 2).val < 2304 := (i 2).isLt
        have h3 : (i 3).val < 256 := (i 3).isLt
        unfold K16
        omega
      isplitl [B8] <;> iassumption
    · isplitl [H17]
      · iapply (KV_mono (c : Thread nD τ) ?_) $$ H17
        intro i _ x hx
        refine hx ?_
        have h2 : (i 1).val < 2 := (i 1).isLt
        have h3 : (i 3).val < 256 := (i 3).isLt
        unfold K17
        omega
      isplitl [B7] <;> iassumption
  iintro HB
  isplitl [HB HR]
  · isplitl [HB] <;> iassumption
  isplitl [H8]; · iexact H8
  isplitl [H7]; · iexact H7
  isplitl [H9]
  · iapply (KV_mono (c : Thread nD τ) ?_) $$ H9
    intro i _ x hx hK
    refine hx ?_
    have h1 : (i 1).val < 18 := (i 1).isLt
    unfold K9 at hK ⊢
    omega
  isplitl [H12 H15 H4 H13 H10 H11 H5]
  · isplitl [H12]; · iexact H12
    isplitl [H15]; · iexact H15
    isplitl [H4]; · iexact H4
    isplitl [H13]; · iexact H13
    isplitl [H10]; · iexact H10
    isplitl [H11] <;> iassumption
  iexact HW

/-- The waits after the loop bring everything home. -/
theorem drain_wp (Q : PUnit → sProp 𝕄) :
    Inv3 c arg4 arg5 arg7 arg8 arg9 arg10 arg11 arg12 arg13 arg15 arg16 arg17 arg21 arg22 S4 B5 W10 X11 G12 H13 E15 36
      ⊢ iprop((iprop((Free c arg16 arg17 arg21 arg22 0 ∗ Free c arg16 arg17 arg21 arg22 1 ∗ Free c arg16 arg17 arg21 arg22 2)
          ∗ KV (c : Thread nD τ) arg8.view Finset.univ fullShare (is (WC W10 G12 E15))
          ∗ KV (c : Thread nD τ) arg7.view Finset.univ fullShare (is (YC S4 B5 W10 X11 G12 H13 E15))
          ∗ KV (c : Thread nD τ) arg9.view Finset.univ fullShare (is (T9 S4 E15))
          ∗ Known c arg4 arg5 arg10 arg11 arg12 arg13 arg15 S4 B5 W10 X11 G12 H13 E15
          ∗ (∃ W, owes (c : Thread nD τ) 0 W)) -∗ Q ⟨⟩)
        -∗ WP (drain arg7 harg7 arg8 harg8 arg16 harg16 arg17 harg17 arg21 arg22) Q) := by
  unfold Inv3 drain
  have h3 : ∀ Φ : Fin 3 → sProp 𝕄, bigSep Finset.univ Φ = iprop(Φ 0 ∗ Φ 1 ∗ Φ 2) := by
    intro Φ
    rw [bigSep_univ_split (0 : Fin 3), show (Finset.univ.erase 0 : Finset (Fin 3)) = insert 1 {2} by decide,
      BI.bigSep_insert (by decide), BI.bigSep_singleton]
    rfl
  rw [h3]
  have s0 := slotSt_now c arg7 arg8 arg16 arg17 arg21 arg22 S4 B5 W10 X11 G12 H13 E15 36 (by decide)
  have s1 : slotSt c arg7 arg8 arg16 arg17 arg21 arg22 S4 B5 W10 X11 G12 H13 E15 36 1 = Busy c arg7 arg8 arg16 arg17 arg21 arg22 S4 B5 W10 X11 G12 H13 E15 1 34 := if_pos (by decide)
  have s2 : slotSt c arg7 arg8 arg16 arg17 arg21 arg22 S4 B5 W10 X11 G12 H13 E15 36 2 = Busy c arg7 arg8 arg16 arg17 arg21 arg22 S4 B5 W10 X11 G12 H13 E15 2 35 := if_pos (by decide)
  replace s0 : slotSt c arg7 arg8 arg16 arg17 arg21 arg22 S4 B5 W10 X11 G12 H13 E15 36 0 = Busy c arg7 arg8 arg16 arg17 arg21 arg22 S4 B5 W10 X11 G12 H13 E15 0 33 := s0
  rw [s0, s1, s2]
  unfold Busy
  iintro ⟨⟨⟨F1, F2⟩, ⟨F3, F4⟩, ⟨F5, F6⟩⟩, H8, H7, H9, HN, HW⟩ HK
  rw [wp_bind]
  iapply (waitAt Variants.none (c : Thread nD τ) none countersEmb () (sem_eq arg21 _ _ (0 : Fin 3) rfl) rfl) $$ [F1 HW]
  · isplitl [F1]; · iexact F1
    iexact HW
  iintro ⟨⟨B1, D1⟩, S1, HW⟩
  rw [wp_bind]
  iapply (waitAt Variants.none (c : Thread nD τ) none countersEmb () (sem_eq arg22 _ _ (0 : Fin 3) rfl) rfl) $$ [F2 HW]
  · isplitl [F2]; · iexact F2
    iexact HW
  iintro ⟨⟨B2, D2⟩, S2, HW⟩
  rw [wp_bind]
  iapply (waitAt Variants.none (c : Thread nD τ) none countersEmb () (sem_eq arg21 _ _ (1 : Fin 3) rfl) rfl) $$ [F3 HW]
  · isplitl [F3]; · iexact F3
    iexact HW
  iintro ⟨⟨B3, D3⟩, S3, HW⟩
  rw [wp_bind]
  iapply (waitAt Variants.none (c : Thread nD τ) none countersEmb () (sem_eq arg22 _ _ (1 : Fin 3) rfl) rfl) $$ [F4 HW]
  · isplitl [F4]; · iexact F4
    iexact HW
  iintro ⟨⟨B4, D4⟩, S4', HW⟩
  rw [wp_bind]
  iapply (waitAt Variants.none (c : Thread nD τ) none countersEmb () (sem_eq arg21 _ _ (2 : Fin 3) rfl) rfl) $$ [F5 HW]
  · isplitl [F5]; · iexact F5
    iexact HW
  iintro ⟨⟨B5', D5⟩, S5, HW⟩
  rw [wp_bind]
  iapply (waitAt Variants.none (c : Thread nD τ) none countersEmb () (sem_eq arg22 _ _ (2 : Fin 3) rfl) rfl) $$ [F6 HW]
  · isplitl [F6]; · iexact F6
    iexact HW
  iintro ⟨⟨B6, D6⟩, S6, HW⟩
  iapply (pureStep Variants.none (c : Thread nD τ) none Set.univ ⟨⟩ rfl)
  iapply HK
  unfold Free
  isplitl [D1 D2 D3 D4 D5 D6 S1 S2 S3 S4' S5 S6]
  · isplitl [D1 D2 S1 S2]
    · isplitl [D1 S1]
      · isplitl [D1]; · iexact D1
        iexact S1
      · isplitl [D2]; · iexact D2
        iexact S2
    isplitl [D3 D4 S3 S4']
    · isplitl [D3 S3]
      · isplitl [D3]; · iexact D3
        iexact S3
      · isplitl [D4]; · iexact D4
        iexact S4'
    · isplitl [D5 S5]
      · isplitl [D5]; · iexact D5
        iexact S5
      · isplitl [D6]; · iexact D6
        iexact S6
  isplitl [H8 B1 B3 B5']
  · have e36 : out8' 36 = out8 37 := by
      ext i; rw [out8, out8', mem_cells, mem_cells]; have : (i 2).val < 9216 := (i 2).isLt; omega
    have e37 : out8' 37 = out8 38 := by
      ext i; rw [out8, out8', mem_cells, mem_cells]; have : (i 2).val < 9216 := (i 2).isLt; omega
    have e38 : out8' 38 = Finset.univ := by
      ext i; rw [out8', mem_cells]; have : (i 2).val < 9216 := (i 2).isLt; simp; omega
    ihave H8 := (join8 c arg8 W10 G12 E15 36 (by decide)) $$ [H8 B1]
    · isplitl [H8] <;> iassumption
    rw [e36]
    ihave H8 := (join8 c arg8 W10 G12 E15 37 (by decide)) $$ [H8 B3]
    · isplitl [H8] <;> iassumption
    rw [e37]
    ihave H8 := (join8 c arg8 W10 G12 E15 38 (by decide)) $$ [H8 B5']
    · isplitl [H8] <;> iassumption
    rw [e38]
    iapply (KV_mono (c : Thread nD τ) ?_) $$ H8
    intro i _ x hx
    have : (i 2).val < 9216 := (i 2).isLt
    exact hx (by omega)
  isplitl [H7 B2 B4 B6]
  · have e36 : out7' 36 = out7 37 := by
      ext i; rw [out7, out7', mem_cells, mem_cells]; have : (i 2).val < 9216 := (i 2).isLt; omega
    have e37 : out7' 37 = out7 38 := by
      ext i; rw [out7, out7', mem_cells, mem_cells]; have : (i 2).val < 9216 := (i 2).isLt; omega
    have e38 : out7' 38 = Finset.univ := by
      ext i; rw [out7', mem_cells]; have : (i 2).val < 9216 := (i 2).isLt; simp; omega
    ihave H7 := (join7 c arg7 S4 B5 W10 X11 G12 H13 E15 36 (by decide)) $$ [H7 B2]
    · isplitl [H7] <;> iassumption
    rw [e36]
    ihave H7 := (join7 c arg7 S4 B5 W10 X11 G12 H13 E15 37 (by decide)) $$ [H7 B4]
    · isplitl [H7] <;> iassumption
    rw [e37]
    ihave H7 := (join7 c arg7 S4 B5 W10 X11 G12 H13 E15 38 (by decide)) $$ [H7 B6]
    · isplitl [H7] <;> iassumption
    rw [e38]
    iapply (KV_mono (c : Thread nD τ) ?_) $$ H7
    intro i _ x hx
    have : (i 2).val < 9216 := (i 2).isLt
    exact hx (by omega)
  isplitl [H9]
  · iapply (KV_mono (c : Thread nD τ) ?_) $$ H9
    intro i _ x hx
    refine hx ?_
    have h2 : (i 2).val < 72 := (i 2).isLt
    unfold K9
    omega
  isplitl [HN]; · iexact HN
  iexact HW

end Steps

end Cert.KernelIdeal.Roll
-- ==== Proof.Fetch.lean ====
/-
  The first and the second loop: the blocks of the weight are sent for, and each is waited for; the block exponents are
  copied into scalar memory on the way.
-/
module

public import proofs.«01_k».proof.Proof.Ring
public import proofs.«01_k».proof.Proof.Parts

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.KernelIdeal Cert.KernelIdeal.Gen Cert.Cells Idealize.ShloMosaic.Transfers

variable {F : FTy → Type} [FloatOps F]

/-! ## Offsets -/

theorem trips1 : k0_t1_loop.trips = 36 := by decide +kernel
theorem trips2 : k0_t2_loop.trips = 9 := by decide +kernel

/-- The trip numbers of the three loops. -/
def up1 (t : Fin k0_t1_loop.trips) : Fin 36 := ⟨t.val, trips1 ▸ t.isLt⟩
def up2 (t : Fin k0_t2_loop.trips) : Fin 9 := ⟨t.val, trips2 ▸ t.isLt⟩
/-- The block a wait of the second loop is for. -/
def quad (t : Fin k0_t2_loop.trips) (j : Fin 4) : Fin 36 := ⟨4 * t.val + j.val, by have := (up2 t).isLt; have : t.val < 9 := this; omega⟩

set_option maxRecDepth 65536 in
theorem off1_eq (t : Fin k0_t1_loop.trips) : k0_off1 t 0 = (up1 t).val := by revert t; decide +kernel
set_option maxRecDepth 65536 in
theorem off2_eq (t : Fin k0_t1_loop.trips) : k0_off2 t = ![t.val, 0, 0] := by revert t; decide +kernel
set_option maxRecDepth 65536 in
theorem off3_eq (t : Fin k0_t1_loop.trips) : k0_off3 t = ![0, 256 * t.val] := by revert t; decide +kernel
set_option maxRecDepth 65536 in
theorem off4_eq (t : Fin k0_t2_loop.trips) (j : Fin 4) : k0_off4 t (BitVec.ofNat 32 j.val) 0 = (quad t j).val := by revert t j; decide +kernel
set_option maxRecDepth 65536 in
theorem off7_eq (t : Fin k0_t2_loop.trips) : k0_off7 t = ![t.val, 0, 0] := by revert t; decide +kernel
set_option maxRecDepth 65536 in
theorem off8_eq (t : Fin k0_t2_loop.trips) : k0_off8 t 0 = (up2 t).val := by revert t; decide +kernel
set_option maxRecDepth 65536 in
theorem off9_eq (t : Fin k0_t2_loop.trips) : k0_off9 t = ![t.val, 0, 0] := by revert t; decide +kernel

theorem pay442_eq (v : Vec F S1x8x128 .i32) : k0_pay442 v = v := by
  funext j
  show v (Shape.reshapeEquiv _ (Shape.reshapeEquiv _ j)) = v j
  rw [Shape.reshapeEquiv_reshapeEquiv, Shape.reshapeEquiv_self]

/-! ## Blocks -/

/-- The block a column of the weight is in, the slot it goes to, and the row group of an exponent. -/
def ofCol (i : S2304x9216.Idx) : Fin 36 := ⟨(i 1).val / 256, by have : (i 1).val < 9216 := (i 1).isLt; omega⟩
def ofSlot (i : S36x2304x256.Idx) : Fin 36 := i 0
def ofGroup (i : S9x8x128.Idx) : Fin 9 := i 0

def colW (k : Fin 36) : Finset S2304x9216.Idx := cells fun i => ofCol i = k
def slotW (k : Fin 36) : Finset S36x2304x256.Idx := cells fun i => ofSlot i = k
def grpE (k : Fin 9) : Finset S9x8x128.Idx := cells fun i => ofGroup i = k

theorem slotW_set (t : Fin k0_t1_loop.trips) : (Rect.unit (s := S36x2304x256) (k0_off2 t) S1x2304x256.size (k0_off2_inb t)).set = slotW (up1 t) := by
  ext i
  rw [Rect.mem_set_unit, slotW, mem_cells, off2_eq]
  have h1 : (i 1).val < 2304 := (i 1).isLt
  have h2 : (i 2).val < 256 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 2304 by omega)⟩
    | 2 => exact ⟨Nat.zero_le _, (show (i 2).val < 0 + 256 by omega)⟩

theorem colW_set (t : Fin k0_t1_loop.trips) : (Rect.unit (s := S2304x9216) (k0_off3 t) S2304x256.size (k0_off3_inb t)).set = colW (up1 t) := by
  ext i
  rw [Rect.mem_set_unit, colW, mem_cells, off3_eq]
  have h0 : (i 0).val < 2304 := (i 0).isLt
  constructor
  · intro h
    have h1 : 256 * t.val ≤ (i 1).val ∧ (i 1).val < 256 * t.val + 256 := h 1
    exact Fin.ext (by show (i 1).val / 256 = t.val; omega)
  · intro h a
    have h1 : (i 1).val / 256 = t.val := congrArg Fin.val h
    match a with
    | 0 => exact ⟨Nat.zero_le _, (show (i 0).val < 0 + 2304 by omega)⟩
    | 1 => exact ⟨(show 256 * t.val ≤ (i 1).val by omega), (show (i 1).val < 256 * t.val + 256 by omega)⟩

theorem grpE_set7 (t : Fin k0_t2_loop.trips) : (Rect.unit (s := S9x8x128) (k0_off7 t) S1x8x128.size (k0_off7_inb t)).set = grpE (up2 t) := by
  ext i
  rw [Rect.mem_set_unit, grpE, mem_cells, off7_eq]
  have h1 : (i 1).val < 8 := (i 1).isLt
  have h2 : (i 2).val < 128 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 8 by omega)⟩
    | 2 => exact ⟨Nat.zero_le _, (show (i 2).val < 0 + 128 by omega)⟩

theorem grpE_set9 (t : Fin k0_t2_loop.trips) : (Rect.unit (s := S9x8x128) (k0_off9 t) S1x8x128.size (k0_off9_inb t)).set = grpE (up2 t) := by
  ext i
  rw [Rect.mem_set_unit, grpE, mem_cells, off9_eq]
  have h1 : (i 1).val < 8 := (i 1).isLt
  have h2 : (i 2).val < 128 := (i 2).isLt
  constructor
  · intro h
    have h0 : t.val ≤ (i 0).val ∧ (i 0).val < t.val + 1 := h 0
    exact Fin.ext (by show (i 0).val = t.val; omega)
  · intro h a
    have h0 : (i 0).val = t.val := congrArg Fin.val h
    match a with
    | 0 => exact ⟨(show t.val ≤ (i 0).val by omega), (show (i 0).val < t.val + 1 by omega)⟩
    | 1 => exact ⟨Nat.zero_le _, (show (i 1).val < 0 + 8 by omega)⟩
    | 2 => exact ⟨Nat.zero_le _, (show (i 2).val < 0 + 128 by omega)⟩

/-- The weight laid out by blocks of columns. -/
def W10T (X3 : S2304x9216.Idx → Elt F .fp8e4m3) (i : S36x2304x256.Idx) : Elt F .fp8e4m3 :=
  X3 (ix2 (i 1) (⟨256 * (i 0).val + (i 2).val, by have h0 : (i 0).val < 36 := (i 0).isLt; have h2 : (i 2).val < 256 := (i 2).isLt; omega⟩ : Fin 9216))

theorem W10T_blk (X3 : S2304x9216.Idx → Elt F .fp8e4m3) (t : Fin k0_t1_loop.trips) (j : S2304x256.Idx) (hn : S2304x256.numel = S1x2304x256.numel) :
    X3 ((Rect.unit (s := S2304x9216) (k0_off3 t) S2304x256.size (k0_off3_inb t)).emb j)
      = W10T X3 ((Rect.unit (s := S36x2304x256) (k0_off2 t) S1x2304x256.size (k0_off2_inb t)).emb (Shape.reshapeEquiv hn j)) := by
  have hj : j = ix2 (j 0) (j 1) := by funext a; match a with | 0 => rfl | 1 => rfl
  have v := fun a => (unit_val (s := S2304x9216) (k0_off3 t) S2304x256.size (k0_off3_inb t) j a).trans (congrArg (· + _) (congrFun (off3_eq t) a))
  have v0 := v 0; have v1 := v 1
  replace v0 : _ = 0 + (j 0).val := v0
  replace v1 : _ = 256 * t.val + (j 1).val := v1
  rw [show Shape.reshapeEquiv hn j = ix3 (⟨0, Nat.one_pos⟩ : Fin 1) (j 0) (j 1) from by
    conv_lhs => rw [hj]
    exact reshapeEquiv_ix2_1ab hn _ _]
  have u := fun a => (unit_val (s := S36x2304x256) (k0_off2 t) S1x2304x256.size (k0_off2_inb t) (ix3 (⟨0, Nat.one_pos⟩ : Fin 1) (j 0) (j 1)) a).trans (congrArg (· + _) (congrFun (off2_eq t) a))
  have u0 := u 0; have u1 := u 1; have u2 := u 2
  replace u0 : _ = t.val + 0 := u0
  replace u1 : _ = 0 + (j 0).val := u1
  replace u2 : _ = 0 + (j 1).val := u2
  unfold W10T
  congr 1
  funext a
  match a with
  | 0 => exact Fin.ext (v0.trans u1.symm)
  | 1 => exact Fin.ext (v1.trans ((by omega : 256 * t.val + (j 1).val = 256 * (t.val + 0) + (0 + (j 1).val)).trans (congrArg₂ (fun a b => 256 * a + b) u0 u2).symm))

/-! ## The loops -/

section Steps
variable (c : Dev nD)
local notation "𝕄" => MT nD τ sig Unit (Elt F) ℕ (Pipeline.UD sig nD τ) ℕ

variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X3 : S2304x9216.Idx → Elt F .fp8e4m3) (E6 : S9x8x128.Idx → Elt F .i32)

local notation "WP" => wp frame (wpE (defs₀ (F := F)) Variants.none (c : Thread nD τ) none) Set.univ

/-- The credits of a block's transfer, and of an exponent group's. -/
def NW : Nat := sig.dmaCredit .tc (Kind.tc.table .vmem) arg10.view.buf S2304x256 .fp8e4m3
def NE : Nat := sig.dmaCredit .tc (Kind.tc.table .smem) arg15.view.buf S8x128 .i32

/-- A block that has not been sent for, one on its way, and one that arrived. -/
def Idle (k : Fin 36) : sProp 𝕄 :=
  iprop(KV (c : Thread nD τ) arg3.view (colW k) fullShare (is X3) ∗ KV (c : Thread nD τ) arg10.view (slotW k) fullShare any
    ∗ semVal ((c : Thread nD τ), .dma (arg19.ix (ix1 k))) 0)
def Coming (k : Fin 36) : sProp 𝕄 :=
  Flight countersEmb (c : Thread nD τ) (.dma (arg19.ix (ix1 k))) () (NW arg10)
    iprop(KV (c : Thread nD τ) arg10.view (slotW k) fullShare (is (W10T X3)) ∗ KV (c : Thread nD τ) arg3.view (colW k) fullShare (is X3))
def Here (k : Fin 36) : sProp 𝕄 :=
  iprop((KV (c : Thread nD τ) arg10.view (slotW k) fullShare (is (W10T X3)) ∗ KV (c : Thread nD τ) arg3.view (colW k) fullShare (is X3))
    ∗ semVal ((c : Thread nD τ), .dma (arg19.ix (ix1 k))) 0)

/-- A group of exponents not yet copied, and one copied. -/
def Fresh (k : Fin 9) : sProp 𝕄 :=
  iprop(KV (c : Thread nD τ) arg14.view (grpE k) fullShare any ∗ KV (c : Thread nD τ) arg15.view (grpE k) fullShare any
    ∗ semVal ((c : Thread nD τ), .dma (arg20.ix (ix1 k))) 0)
def Copied (k : Fin 9) : sProp 𝕄 :=
  iprop((KV (c : Thread nD τ) arg15.view (grpE k) fullShare (is E6) ∗ KV (c : Thread nD τ) arg14.view (grpE k) fullShare (is E6))
    ∗ semVal ((c : Thread nD τ), .dma (arg20.ix (ix1 k))) 0)

/-- What is held before a trip of the first loop, and of the second. -/
def Inv1 (t : Nat) : sProp 𝕄 := bigSep Finset.univ (prog (Coming c arg3 arg10 arg19 X3) (Idle c arg3 arg10 arg19 X3) t)
def Inv2 (t : Nat) : sProp 𝕄 :=
  iprop(bigSep Finset.univ (prog (Here c arg3 arg10 arg19 X3) (Coming c arg3 arg10 arg19 X3) (4 * t))
    ∗ bigSep Finset.univ (prog (Copied c arg14 arg15 arg20 E6) (Fresh c arg14 arg15 arg20) t)
    ∗ KV (c : Thread nD τ) arg6.view Finset.univ fullShare (is E6)
    ∗ (∃ W, owes (c : Thread nD τ) 0 W))

local notation "ARGS" f => f arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22

theorem body1_wp (t : Fin k0_t1_loop.trips) :
    Inv1 c arg3 arg10 arg19 X3 t.val
      ⊢ WP (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 t ())
        (fun _ => Inv1 c arg3 arg10 arg19 X3 (t.val + 1)) := by
  unfold Inv1
  refine (prog_step _ _ t.val (up1 t) rfl).trans ?_
  unfold k0_t1_body
  dsimp only
  iintro ⟨HI, HK⟩
  rw [wp_bind]
  unfold Idle
  iapply (dmaIn Variants.none (c : Thread nD τ) none countersEmb () (NW arg10) X3 (W10T X3) (colW_set t) (slotW_set t)
    (fun j => W10T_blk X3 t j _) (sem_eq arg19 _ _ (up1 t) (off1_eq t)) rfl ?_) $$ HI
  · exact sig.dmaCredit_pos _ _ _ _ _ (by decide)
  iintro HF
  iapply (pureStep Variants.none (c : Thread nD τ) none Set.univ ⟨⟩ rfl)
  iapply HK
  unfold Coming
  iexact HF

theorem body2_wp (v329 : Vec F S2x2304 .f32) (v331 : FVec F S2x2304 .f32) (v332 : FVec F S1x2304 .f32) (v333 : Vec F S1x2304 .f32) (t : Fin k0_t2_loop.trips) :
    Inv2 c arg3 arg6 arg10 arg14 arg15 arg19 arg20 X3 E6 t.val
      ⊢ WP (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 v329 v331 v332 v333 t ())
        (fun _ => Inv2 c arg3 arg6 arg10 arg14 arg15 arg19 arg20 X3 E6 (t.val + 1)) := by
  unfold Inv2
  have hs : ∀ (j : Fin 4) (n m : Nat), 4 * t.val + j.val = n → n + 1 = m →
      bigSep Finset.univ (prog (Here c arg3 arg10 arg19 X3) (Coming c arg3 arg10 arg19 X3) n)
      ⊢ iprop(Flight countersEmb (c : Thread nD τ) (.dma (arg19.ix (ix1 (quad t j)))) () (NW arg10)
          iprop(KV (c : Thread nD τ) arg10.view (slotW (quad t j)) fullShare (is (W10T X3)) ∗ KV (c : Thread nD τ) arg3.view (colW (quad t j)) fullShare (is X3))
        ∗ (iprop((KV (c : Thread nD τ) arg10.view (slotW (quad t j)) fullShare (is (W10T X3)) ∗ KV (c : Thread nD τ) arg3.view (colW (quad t j)) fullShare (is X3))
            ∗ semVal ((c : Thread nD τ), .dma (arg19.ix (ix1 (quad t j)))) 0)
          -∗ bigSep Finset.univ (prog (Here c arg3 arg10 arg19 X3) (Coming c arg3 arg10 arg19 X3) m))) :=
    fun j n m hn hm => by subst hn hm; exact prog_step _ _ _ (quad t j) rfl
  have h0 := hs 0 (4 * t.val) _ rfl rfl
  have h1 := hs 1 _ _ rfl rfl
  have h2 := hs 2 _ _ rfl rfl
  have h3 := hs 3 _ (4 * (t.val + 1)) rfl rfl
  have hE : bigSep Finset.univ (prog (Copied c arg14 arg15 arg20 E6) (Fresh c arg14 arg15 arg20) t.val)
      ⊢ iprop(iprop(KV (c : Thread nD τ) arg14.view (grpE (up2 t)) fullShare any ∗ KV (c : Thread nD τ) arg15.view (grpE (up2 t)) fullShare any
          ∗ semVal ((c : Thread nD τ), .dma (arg20.ix (ix1 (up2 t)))) 0)
        ∗ (iprop((KV (c : Thread nD τ) arg15.view (grpE (up2 t)) fullShare (is E6) ∗ KV (c : Thread nD τ) arg14.view (grpE (up2 t)) fullShare (is E6))
            ∗ semVal ((c : Thread nD τ), .dma (arg20.ix (ix1 (up2 t)))) 0)
          -∗ bigSep Finset.univ (prog (Copied c arg14 arg15 arg20 E6) (Fresh c arg14 arg15 arg20) (t.val + 1)))) :=
    prog_step _ _ _ (up2 t) rfl
  unfold k0_t2_body
  rw [k0_part1_eq_skeleton]
  unfold k0_part1_skel
  dsimp only
  iintro ⟨HA, HE, H6, HW⟩
  rw [wp_bind, wp_bind]
  ihave HA := h0 $$ HA
  icases HA with ⟨HF, HA⟩
  iapply (waitAt Variants.none (c : Thread nD τ) none countersEmb () (sem_eq arg19 _ _ (quad t 0) (off4_eq t 0)) rfl) $$ [HF HW]
  · isplitl [HF]; · iexact HF
    iexact HW
  iintro ⟨HD, HS, HW⟩
  ihave HA := HA $$ [HD HS]
  · isplitl [HD] <;> iassumption
  rw [wp_bind]
  ihave HA := h1 $$ HA
  icases HA with ⟨HF, HA⟩
  iapply (waitAt Variants.none (c : Thread nD τ) none countersEmb () (sem_eq arg19 _ _ (quad t 1) (off4_eq t 1)) rfl) $$ [HF HW]
  · isplitl [HF]; · iexact HF
    iexact HW
  iintro ⟨HD, HS, HW⟩
  ihave HA := HA $$ [HD HS]
  · isplitl [HD] <;> iassumption
  rw [wp_bind]
  ihave HA := h2 $$ HA
  icases HA with ⟨HF, HA⟩
  iapply (waitAt Variants.none (c : Thread nD τ) none countersEmb () (sem_eq arg19 _ _ (quad t 2) (off4_eq t 2)) rfl) $$ [HF HW]
  · isplitl [HF]; · iexact HF
    iexact HW
  iintro ⟨HD, HS, HW⟩
  ihave HA := HA $$ [HD HS]
  · isplitl [HD] <;> iassumption
  iapply (pureStep Variants.none (c : Thread nD τ) none Set.univ _ rfl)
  rw [wp_bind]
  ihave HA := h3 $$ HA
  icases HA with ⟨HF, HA⟩
  iapply (waitAt Variants.none (c : Thread nD τ) none countersEmb () (sem_eq arg19 _ _ (quad t 3) (off4_eq t 3)) rfl) $$ [HF HW]
  · isplitl [HF]; · iexact HF
    iexact HW
  iintro ⟨HD, HS, HW⟩
  ihave HA := HA $$ [HD HS]
  · isplitl [HD] <;> iassumption
  ihave HE := hE $$ HE
  icases HE with ⟨HF, HE⟩
  icases HF with ⟨H14, H15, HS⟩
  rw [wp_bind]
  iapply (loadIs Variants.none (c : Thread nD τ) none Set.univ (Finset.subset_univ _)) $$ H6
  iintro H6
  rw [wp_bind]
  iapply (load Variants.none (c : Thread nD τ) none Set.univ (grpE_set7 t).le) $$ H14
  iintro %v - H14
  rw [wp_bind]
  iapply (store Variants.none (c : Thread nD τ) none Set.univ (is E6) (grpE_set7 t).le ?_ ?_) $$ H14
  · intro j
    rw [pay442_eq]
    rfl
  · intro i hi hn
    exact absurd ((grpE_set7 t).ge hi) hn
  iintro H14
  rw [wp_bind]
  iapply (dmaBoth Variants.none (c : Thread nD τ) none countersEmb () (NE arg15) E6 E6 (grpE_set9 t) (grpE_set9 t)
    (fun j => rfl) (sem_eq arg20 _ _ (up2 t) (off8_eq t)) rfl ?_) $$ [H14 H15 HS]
  · exact sig.dmaCredit_pos _ _ _ _ _ (by decide)
  · isplitl [H14]; · iexact H14
    isplitl [H15] <;> iassumption
  iintro HF
  rw [wp_bind]
  iapply (waitAt Variants.none (c : Thread nD τ) none countersEmb () (sem_eq arg20 _ _ (up2 t) (off8_eq t)) rfl) $$ [HF HW]
  · isplitl [HF]; · iexact HF
    iexact HW
  iintro ⟨HD, HS, HW⟩
  ihave HE := HE $$ [HD HS]
  · isplitl [HD] <;> iassumption
  iapply (pureStep Variants.none (c : Thread nD τ) none Set.univ ⟨⟩ rfl)
  isplitl [HA]; · iexact HA
  isplitl [HE]; · iexact HE
  isplitl [H6] <;> iassumption

end Steps

end Cert.KernelIdeal.Roll
-- ==== Proof.Setup.lean ====
/-
  The whole kernel as a program: what its setup writes, and the triple of all of it.
-/
module

public import proofs.«01_k».proof.Proof.Fetch

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep bigSep_univ_split bigSep_congr)
open scoped Idealize.SL.BI
open Idealize.SL.BI.BIBase Idealize.SL.BI.Laws Idealize.SL.ProofMode
open Cert.KernelIdeal Cert.KernelIdeal.Gen Cert.Cells Idealize.ShloMosaic.Transfers

variable {F : FTy → Type} [FloatOps F]

/-! ## The setup as a program -/

def oM (b : Fin 2) (k : Fin 18) : Fin 2 → Nat := ![b.val, 128 * k.val]
theorem oM_inb (b : Fin 2) (k : Fin 18) : ∀ a, oM b k a + S1x128.size a ≤ S2x2304.size a := by
  intro a; fin_cases a <;> simp [oM, S1x128, S2x2304] <;> omega
def rM (b : Fin 2) (k : Fin 18) : Rect S2x2304 := Rect.unit (oM b k) S1x128.size (oM_inb b k)
def oGs (b : Fin 2) (k : Fin 18) : Fin 3 → Nat := ![b.val, 128 * k.val, 0]
theorem oGs_inb (b : Fin 2) (k : Fin 18) : ∀ a, oGs b k a + S1x128x128.size a ≤ S2x2304x128.size a := by
  intro a; fin_cases a <;> simp [oGs, S1x128x128, S2x2304x128] <;> omega
def rGs (b : Fin 2) (k : Fin 18) : Rect S2x2304x128 := Rect.unit (oGs b k) S1x128x128.size (oGs_inb b k)

/-- One row block of the modulation factors: a row of them spread over 128 columns. -/
def gStep (arg1 : Memref sig .tc .vmem S2x2304 .f32) (arg12 : Memref sig .tc .vmem S2x2304x128 .f32) (b : Fin 2) (k : Fin 18) :
    Prog (TpuEff nD τ sig (Elt F) Λ₀ .tc) PUnit := do
  let v ← Prog.lift (.load arg1 (rM b k).toLoadRect (View.loadsAt_vmem h_S1x128))
  let _ ← Prog.lift (.load arg12 (rGs b k).toLoadRect (View.loadsAt_vmem h_S1x128x128))
  Prog.lift (.store arg12 (rGs b k) (k0_pay387 v) Finset.univ (View.stores_vmem_bits_univ h_S1x128x128 rfl) (.inl rfl))

def gRow (arg1 : Memref sig .tc .vmem S2x2304 .f32) (arg12 : Memref sig .tc .vmem S2x2304x128 .f32) (b : Fin 2) :
    Prog (TpuEff nD τ sig (Elt F) Λ₀ .tc) PUnit := do
  gStep arg1 arg12 b 0
  gStep arg1 arg12 b 1
  gStep arg1 arg12 b 2
  gStep arg1 arg12 b 3
  gStep arg1 arg12 b 4
  gStep arg1 arg12 b 5
  gStep arg1 arg12 b 6
  gStep arg1 arg12 b 7
  gStep arg1 arg12 b 8
  gStep arg1 arg12 b 9
  gStep arg1 arg12 b 10
  gStep arg1 arg12 b 11
  gStep arg1 arg12 b 12
  gStep arg1 arg12 b 13
  gStep arg1 arg12 b 14
  gStep arg1 arg12 b 15
  gStep arg1 arg12 b 16
  gStep arg1 arg12 b 17

section Prog
variable (arg0 : Memref sig .tc .hbm S2x128x2304 .bf16) (harg0 : arg0.IsWhole) (arg1 : Memref sig .tc .vmem S2x2304 .f32) (harg1 : arg1.IsWhole) (arg2 : Memref sig .tc .vmem S2x2304 .f32) (harg2 : arg2.IsWhole) (arg3 : Memref sig .tc .hbm S2304x9216 .fp8e4m3) (harg3 : arg3.IsWhole) (arg4 : Memref sig .tc .smem S18x72 .i32) (harg4 : arg4.IsWhole) (arg5 : Memref sig .tc .vmem S72x128 .f32) (harg5 : arg5.IsWhole) (arg6 : Memref sig .tc .vmem S9x8x128 .i32) (harg6 : arg6.IsWhole) (arg7 : Memref sig .tc .hbm S2x128x9216 .bf16) (harg7 : arg7.IsWhole) (arg8 : Memref sig .tc .hbm S2x2304x9216 .fp8e4m3) (harg8 : arg8.IsWhole) (arg9 : Memref sig .tc .smem S2x18x72 .i32) (harg9 : arg9.IsWhole) (arg10 : Memref sig .tc .vmem S36x2304x256 .fp8e4m3) (harg10 : arg10.IsWhole) (arg11 : Memref sig .tc .vmem S2x128x2304 .bf16) (harg11 : arg11.IsWhole) (arg12 : Memref sig .tc .vmem S2x2304x128 .f32) (harg12 : arg12.IsWhole) (arg13 : Memref sig .tc .vmem S8x2304 .f32) (harg13 : arg13.IsWhole) (arg14 : Memref sig .tc .vmem S9x8x128 .i32) (harg14 : arg14.IsWhole) (arg15 : Memref sig .tc .smem S9x8x128 .i32) (harg15 : arg15.IsWhole) (arg16 : Memref sig .tc .vmem S3x2x2304x256 .fp8e4m3) (harg16 : arg16.IsWhole) (arg17 : Memref sig .tc .vmem S3x2x128x256 .bf16) (harg17 : arg17.IsWhole) (arg18 : DmaSems sig S_) (arg19 : DmaSems sig S36) (arg20 : DmaSems sig S9) (arg21 : DmaSems sig S3) (arg22 : DmaSems sig S3)

/-- What the first part does after the first loop. -/
def rest116 : Prog (TpuEff nD τ sig (Elt F) Λ₀ .tc) (Σ' (v28 : Vec F S1x128 .f32), FVec F S1x128 .f32) := do
  let v1 : Vec F S1x128 .f32 ← Prog.lift (.load arg1 (Rect.unit (s := S2x2304) ![0, 0] S1x128.size inb_S2x2304_S1x128_0_0).toLoadRect (View.loadsAt_vmem h_S1x128))
  let v7 : Vec F S1x128x128 .f32 ← Prog.lift (.load arg12 (Rect.unit (s := S2x2304x128) ![0, 0, 0] S1x128x128.size inb_S2x2304x128_S1x128x128_0_0_0).toLoadRect (View.loadsAt_vmem h_S1x128x128))
  Prog.lift (.store arg12 (Rect.unit (s := S2x2304x128) ![0, 0, 0] S1x128x128.size inb_S2x2304x128_S1x128x128_0_0_0) (k0_pay387 v1) Finset.univ (View.stores_vmem_bits_univ h_S1x128x128 rfl) (.inl rfl))
  let v10 : Vec F S1x128 .f32 ← Prog.lift (.load arg1 (Rect.unit (s := S2x2304) ![0, 128] S1x128.size inb_S2x2304_S1x128_0_128).toLoadRect (View.loadsAt_vmem h_S1x128))
  let v16 : Vec F S1x128x128 .f32 ← Prog.lift (.load arg12 (Rect.unit (s := S2x2304x128) ![0, 128, 0] S1x128x128.size inb_S2x2304x128_S1x128x128_0_128_0).toLoadRect (View.loadsAt_vmem h_S1x128x128))
  Prog.lift (.store arg12 (Rect.unit (s := S2x2304x128) ![0, 128, 0] S1x128x128.size inb_S2x2304x128_S1x128x128_0_128_0) (k0_pay388 v10) Finset.univ (View.stores_vmem_bits_univ h_S1x128x128 rfl) (.inl rfl))
  let v19 : Vec F S1x128 .f32 ← Prog.lift (.load arg1 (Rect.unit (s := S2x2304) ![0, 256] S1x128.size inb_S2x2304_S1x128_0_256).toLoadRect (View.loadsAt_vmem h_S1x128))
  let v25 : Vec F S1x128x128 .f32 ← Prog.lift (.load arg12 (Rect.unit (s := S2x2304x128) ![0, 256, 0] S1x128x128.size inb_S2x2304x128_S1x128x128_0_256_0).toLoadRect (View.loadsAt_vmem h_S1x128x128))
  Prog.lift (.store arg12 (Rect.unit (s := S2x2304x128) ![0, 256, 0] S1x128x128.size inb_S2x2304x128_S1x128x128_0_256_0) (k0_pay389 v19) Finset.univ (View.stores_vmem_bits_univ h_S1x128x128 rfl) (.inl rfl))
  let v28 : Vec F S1x128 .f32 ← Prog.lift (.load arg1 (Rect.unit (s := S2x2304) ![0, 384] S1x128.size inb_S2x2304_S1x128_0_384).toLoadRect (View.loadsAt_vmem h_S1x128))
  pure ⟨v28, k0_pay390 (F := F)⟩

/-- The parts between the first and the main one, then `K`. -/
def mids (K : (Σ' (v329 : Vec F S2x2304 .f32) (v331 : FVec F S2x2304 .f32) (v332 : FVec F S1x2304 .f32), Vec F S1x2304 .f32) → Prog (TpuEff nD τ sig (Elt F) Λ₀ .tc) PUnit)
    (x : Σ' (v28 : Vec F S1x128 .f32), FVec F S1x128 .f32) : Prog (TpuEff nD τ sig (Elt F) Λ₀ .tc) PUnit := do
  k0_part117 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  let y ← k0_part118 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
  let z ← k0_part119 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 y.1 y.2
  let x ← k0_part120 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 z
  k0_part121 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  let y ← k0_part122 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
  let z ← k0_part123 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 y.1 y.2
  let x ← k0_part124 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 z
  let w ← k0_part125 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 x.1 x.2
  K w

theorem part116_eq : k0_part116 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
    = Prog.lift (.enqueueDma arg0 (.here arg11) (.dma arg18.sem) harg0.wordExact harg11.wordExact ⟨Or.inl rfl, trivial⟩)
      >>= fun _ => Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) >>= fun _ => rest116 arg1 arg12 := rfl

theorem cc0_eq : cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
    = k0_part116 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 >>= mids arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22
        (fun w => k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 w.1 w.2.1 w.2.2.1 w.2.2.2
          >>= fun _ => drain arg7 harg7 arg8 harg8 arg16 harg16 arg17 harg17 arg21 arg22) := by
  rw [cc0_adaln_fp8_eq_skeleton, cc0_adaln_fp8_skel]
  unfold mids
  chain_rfl

/-- The shift rows' buffer cleared, and the shift read. -/
def shRead : Prog (TpuEff nD τ sig (Elt F) Λ₀ .tc) (Σ' (v329 : Vec F S2x2304 .f32) (v331 : FVec F S2x2304 .f32) (v332 : FVec F S1x2304 .f32), Vec F S1x2304 .f32) := do
  let v326 : Vec F S8x2304 .f32 ← Prog.lift (.load arg13 (Rect.unit (s := S8x2304) ![0, 0] S8x2304.size inb_S8x2304_S8x2304_0_0).toLoadRect (View.loadsAt_vmem h_S8x2304))
  Prog.lift (.store arg13 (Rect.unit (s := S8x2304) ![0, 0] S8x2304.size inb_S8x2304_S8x2304_0_0) (k0_pay430 (F := F)) Finset.univ (View.stores_vmem_bits_univ h_S8x2304 rfl) (.inl rfl))
  let v329 : Vec F S2x2304 .f32 ← Prog.lift (.load arg2 (Rect.unit (s := S2x2304) ![0, 0] S2x2304.size inb_S2x2304_S2x2304_0_0).toLoadRect (View.loadsAt_vmem h_S2x2304))
  let v333 : Vec F S1x2304 .f32 ← Prog.lift (.load arg13 (Rect.unit (s := S8x2304) ![0, 0] S1x2304.size inb_S8x2304_S1x2304_0_0).toLoadRect (View.loadsAt_vmem h_S1x2304))
  pure ⟨v329, k0_pay431 v329, k0_pay432 v329, v333⟩

set_option maxRecDepth 1000000 in
set_option maxHeartbeats 0 in
theorem setup_eq (K : (Σ' (v329 : Vec F S2x2304 .f32) (v331 : FVec F S2x2304 .f32) (v332 : FVec F S1x2304 .f32), Vec F S1x2304 .f32) → Prog (TpuEff nD τ sig (Elt F) Λ₀ .tc) PUnit) :
    (rest116 (F := F) arg1 arg12 >>= mids arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 K)
      = gRow arg1 arg12 0 >>= fun _ => gRow arg1 arg12 1 >>= fun _ => shRead arg2 arg13 >>= K := by
  chain_rfl

end Prog

end Cert.KernelIdeal.Roll
-- ==== Proof.Whole.lean ====
/-
  The triple of the whole kernel: from the inputs' values to the three results' values.
-/
module

public import proofs.«01_k».proof.Proof.Setup

@[expose] public section

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep bigSep_univ_split bigSep_congr bigSep_mono)
open scoped Idealize.SL.BI
open Idealize.SL.BI.BIBase Idealize.SL.BI.Laws Idealize.SL.ProofMode
open Cert.KernelIdeal Cert.KernelIdeal.Gen Cert.Cells Idealize.ShloMosaic.Transfers

variable {F : FTy → Type} [FloatOps F]

/-! ## What the setup writes -/

/-- The modulation factors, each row spread over 128 columns. -/
def G12T (M1 : S2x2304.Idx → Elt F .f32) (i : S2x2304x128.Idx) : Elt F .f32 :=
  k0_pay387 (fun j => M1 ((rM (i 0) (⟨(i 1).val / 128, by have : (i 1).val < 2304 := (i 1).isLt; omega⟩ : Fin 18)).emb j))
    (ix3 (0 : Fin 1) (⟨(i 1).val % 128, Nat.mod_lt _ (by decide)⟩ : Fin 128) (i 2))

/-- The shift rows: three pieces per batch entry, and two rows of zeros. -/
def rowV (M2 : S2x2304.Idx → Elt F .f32) : Fin 8 → S1x2304.Idx → Elt F .f32 :=
  ![k0_pay433 (k0_pay432 M2), k0_pay437 M2 (k0_pay431 M2), k0_pay440 M2 (k0_pay431 M2),
    k0_pay434 (k0_pay431 M2), k0_pay438 M2 (k0_pay431 M2), k0_pay441 M2 (k0_pay431 M2),
    fun _ => Scalar.ofBits .f32 0x00000000#32, fun _ => Scalar.ofBits .f32 0x00000000#32]

def H13T (M2 : S2x2304.Idx → Elt F .f32) (i : S8x2304.Idx) : Elt F .f32 := rowV M2 (i 0) (ix2 (0 : Fin 1) (i 1))

def KG (n : Nat) (i : S2x2304x128.Idx) : Prop := 18 * (i 0).val + (i 1).val / 128 < n

section Steps
variable (c : Dev nD)
local notation "𝕄" => MT nD τ sig Unit (Elt F) ℕ (Pipeline.UD sig nD τ) ℕ

variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X0 : S2x128x2304.Idx → Elt F .bf16) (M1 M2 : S2x2304.Idx → Elt F .f32) (X3 : S2304x9216.Idx → Elt F .fp8e4m3)
  (S4 : S18x72.Idx → Elt F .i32) (B5 : S72x128.Idx → Elt F .f32) (E6 : S9x8x128.Idx → Elt F .i32)

local notation "WP" => wp frame (wpE (defs₀ (F := F)) Variants.none (c : Thread nD τ) none) Set.univ

theorem gStep_wp (b : Fin 2) (k : Fin 18) (Q : PUnit → sProp 𝕄) :
    iprop(KV (c : Thread nD τ) arg1.view Finset.univ fullShare (is M1) ∗ KV (c : Thread nD τ) arg12.view Finset.univ fullShare (upTo (KG (18 * b.val + k.val)) (G12T M1)))
    ⊢ iprop((iprop(KV (c : Thread nD τ) arg1.view Finset.univ fullShare (is M1) ∗ KV (c : Thread nD τ) arg12.view Finset.univ fullShare (upTo (KG (18 * b.val + k.val + 1)) (G12T M1))) -∗ Q ⟨⟩)
      -∗ WP (gStep arg1 arg12 b k) Q) := by
  unfold gStep
  iintro ⟨H1, H12⟩ HK
  rw [wp_bind]
  iapply (loadIs Variants.none (c : Thread nD τ) none Set.univ (Finset.subset_univ _)) $$ H1
  iintro H1
  rw [wp_bind]
  iapply (load Variants.none (c : Thread nD τ) none Set.univ (Finset.subset_univ _)) $$ H12
  iintro %v - H12
  have u := fun (j : (rGs b k).shape.Idx) a => unit_val (s := S2x2304x128) (oGs b k) S1x128x128.size (oGs_inb b k) j a
  iapply (store Variants.none (c : Thread nD τ) none Set.univ (upTo (KG (18 * b.val + k.val + 1)) (G12T M1)) (Finset.subset_univ _) ?_ ?_) $$ H12
  · intro j _
    have u0 := u j 0; have u1 := u j 1; have u2 := u j 2
    have l0 : (j 0).val < 1 := (j 0).isLt
    have l1 : (j 1).val < 128 := (j 1).isLt
    replace u0 : _ = b.val + (j 0).val := u0
    replace u1 : _ = 128 * k.val + (j 1).val := u1
    replace u2 : _ = 0 + (j 2).val := u2
    have e0 : ((rGs b k).emb j 0 : Fin 2) = b := Fin.ext (u0.trans (by omega))
    have e1 : ∀ h, (⟨((rGs b k).emb j 1 : Fin 2304).val / 128, h⟩ : Fin 18) = k := fun h => Fin.ext ((congrArg (· / 128) u1).trans (by show (128 * k.val + (j 1).val) / 128 = k.val; omega))
    show _ = G12T M1 _
    unfold G12T
    rw [e0, e1]
    congr 1
    funext a
    match a with
    | 0 => exact Fin.ext (by show (j 0).val = 0; omega)
    | 1 => exact Fin.ext (((congrArg (· % 128) u1).trans (by show (128 * k.val + (j 1).val) % 128 = (j 1).val; omega)).symm)
    | 2 => exact Fin.ext ((u2.trans (Nat.zero_add _)).symm)
  · intro i _ hn x hx hK
    refine hx ?_
    unfold KG at hK ⊢
    by_contra hlt
    refine hn ?_
    show i ∈ (Rect.unit (s := S2x2304x128) (oGs b k) S1x128x128.size (oGs_inb b k)).set
    rw [Rect.mem_set_unit]
    have h0 : (i 0).val < 2 := (i 0).isLt
    have h1 : (i 1).val < 2304 := (i 1).isLt
    have h2 : (i 2).val < 128 := (i 2).isLt
    have hb := b.isLt
    have hk := k.isLt
    intro a
    match a with
    | 0 => exact ⟨(show b.val ≤ (i 0).val by omega), (show (i 0).val < b.val + 1 by omega)⟩
    | 1 => exact ⟨(show 128 * k.val ≤ (i 1).val by omega), (show (i 1).val < 128 * k.val + 128 by omega)⟩
    | 2 => exact ⟨Nat.zero_le _, (show (i 2).val < 0 + 128 by omega)⟩
  iintro H12
  iapply HK
  isplitl [H1] <;> iassumption

theorem gRow_wp (b : Fin 2) (Q : PUnit → sProp 𝕄) :
    iprop(KV (c : Thread nD τ) arg1.view Finset.univ fullShare (is M1) ∗ KV (c : Thread nD τ) arg12.view Finset.univ fullShare (upTo (KG (18 * b.val)) (G12T M1)))
    ⊢ iprop((iprop(KV (c : Thread nD τ) arg1.view Finset.univ fullShare (is M1) ∗ KV (c : Thread nD τ) arg12.view Finset.univ fullShare (upTo (KG (18 * b.val + 18)) (G12T M1))) -∗ Q ⟨⟩)
      -∗ WP (gRow arg1 arg12 b) Q) := by
  unfold gRow
  iintro ⟨H1, H12⟩ HK
  rw [wp_bind]
  iapply (gStep_wp c arg1 arg12 M1 b 0) $$ [H1 H12]
  · isplitl [H1] <;> iassumption
  iintro ⟨H1, H12⟩
  rw [wp_bind]
  iapply (gStep_wp c arg1 arg12 M1 b 1) $$ [H1 H12]
  · isplitl [H1] <;> iassumption
  iintro ⟨H1, H12⟩
  rw [wp_bind]
  iapply (gStep_wp c arg1 arg12 M1 b 2) $$ [H1 H12]
  · isplitl [H1] <;> iassumption
  iintro ⟨H1, H12⟩
  rw [wp_bind]
  iapply (gStep_wp c arg1 arg12 M1 b 3) $$ [H1 H12]
  · isplitl [H1] <;> iassumption
  iintro ⟨H1, H12⟩
  rw [wp_bind]
  iapply (gStep_wp c arg1 arg12 M1 b 4) $$ [H1 H12]
  · isplitl [H1] <;> iassumption
  iintro ⟨H1, H12⟩
  rw [wp_bind]
  iapply (gStep_wp c arg1 arg12 M1 b 5) $$ [H1 H12]
  · isplitl [H1] <;> iassumption
  iintro ⟨H1, H12⟩
  rw [wp_bind]
  iapply (gStep_wp c arg1 arg12 M1 b 6) $$ [H1 H12]
  · isplitl [H1] <;> iassumption
  iintro ⟨H1, H12⟩
  rw [wp_bind]
  iapply (gStep_wp c arg1 arg12 M1 b 7) $$ [H1 H12]
  · isplitl [H1] <;> iassumption
  iintro ⟨H1, H12⟩
  rw [wp_bind]
  iapply (gStep_wp c arg1 arg12 M1 b 8) $$ [H1 H12]
  · isplitl [H1] <;> iassumption
  iintro ⟨H1, H12⟩
  rw [wp_bind]
  iapply (gStep_wp c arg1 arg12 M1 b 9) $$ [H1 H12]
  · isplitl [H1] <;> iassumption
  iintro ⟨H1, H12⟩
  rw [wp_bind]
  iapply (gStep_wp c arg1 arg12 M1 b 10) $$ [H1 H12]
  · isplitl [H1] <;> iassumption
  iintro ⟨H1, H12⟩
  rw [wp_bind]
  iapply (gStep_wp c arg1 arg12 M1 b 11) $$ [H1 H12]
  · isplitl [H1] <;> iassumption
  iintro ⟨H1, H12⟩
  rw [wp_bind]
  iapply (gStep_wp c arg1 arg12 M1 b 12) $$ [H1 H12]
  · isplitl [H1] <;> iassumption
  iintro ⟨H1, H12⟩
  rw [wp_bind]
  iapply (gStep_wp c arg1 arg12 M1 b 13) $$ [H1 H12]
  · isplitl [H1] <;> iassumption
  iintro ⟨H1, H12⟩
  rw [wp_bind]
  iapply (gStep_wp c arg1 arg12 M1 b 14) $$ [H1 H12]
  · isplitl [H1] <;> iassumption
  iintro ⟨H1, H12⟩
  rw [wp_bind]
  iapply (gStep_wp c arg1 arg12 M1 b 15) $$ [H1 H12]
  · isplitl [H1] <;> iassumption
  iintro ⟨H1, H12⟩
  rw [wp_bind]
  iapply (gStep_wp c arg1 arg12 M1 b 16) $$ [H1 H12]
  · isplitl [H1] <;> iassumption
  iintro ⟨H1, H12⟩
  iapply (gStep_wp c arg1 arg12 M1 b 17) $$ [H1 H12]
  · isplitl [H1] <;> iassumption
  iintro ⟨H1, H12⟩
  iapply HK
  isplitl [H1] <;> iassumption

theorem loadAny {r : Rect S8x2304} {hl : arg13.view.LoadsAt r.toLoadRect} {P : S8x2304.Idx → Elt F .f32 → Prop} {Q : (r.shape.Idx → Elt F .f32) → sProp 𝕄} :
    (KV (c : Thread nD τ) arg13.view Finset.univ fullShare P : sProp 𝕄)
      ⊢ iprop((∀ v, KV (c : Thread nD τ) arg13.view Finset.univ fullShare P -∗ Q v)
        -∗ WP (Prog.lift (.load arg13 r.toLoadRect hl)) Q) := by
  iintro H HK
  iapply (load Variants.none (c : Thread nD τ) none Set.univ (Finset.subset_univ _)) $$ H
  iintro %v - H
  iapply HK $$ H

theorem row_store (K : S8x2304.Idx → Prop) (r : Fin 8) (off : Fin 2 → Nat) (ho : off = ![r.val, 0]) {hi : ∀ a, off a + S1x2304.size a ≤ S8x2304.size a}
    (w : S1x2304.Idx → Elt F .f32) (hw : w = rowV M2 r) {hx : (arg13.access (Rect.unit (s := S8x2304) off S1x2304.size hi)).Stores Finset.univ}
    {hm : (Finset.univ : Finset (Rect.unit (s := S8x2304) off S1x2304.size hi).shape.Idx) = Finset.univ ∨ ∀ a, (Rect.unit (s := S8x2304) off S1x2304.size hi).stride a = 1} {Q : PUnit → sProp 𝕄} :
    (KV (c : Thread nD τ) arg13.view Finset.univ fullShare (upTo K (H13T M2)) : sProp 𝕄)
      ⊢ iprop((KV (c : Thread nD τ) arg13.view Finset.univ fullShare (upTo (fun i => K i ∨ (i 0).val = r.val) (H13T M2)) -∗ Q ⟨⟩)
        -∗ WP (Prog.lift (.store arg13 (Rect.unit (s := S8x2304) off S1x2304.size hi) w Finset.univ hx hm)) Q) := by
  subst ho hw
  have u := fun (j : (Rect.unit (s := S8x2304) ![r.val, 0] S1x2304.size hi).shape.Idx) a => unit_val (s := S8x2304) ![r.val, 0] S1x2304.size hi j a
  refine store Variants.none (c : Thread nD τ) none Set.univ _ (Finset.subset_univ _) ?_ ?_
  · intro j _
    have u0 := u j 0; have u1 := u j 1
    have l0 : (j 0).val < 1 := (j 0).isLt
    replace u0 : _ = r.val + (j 0).val := u0
    replace u1 : _ = 0 + (j 1).val := u1
    have e0 : ((Rect.unit (s := S8x2304) ![r.val, 0] S1x2304.size hi).emb j 0 : Fin 8) = r := Fin.ext (u0.trans (by omega))
    show _ = H13T M2 _
    unfold H13T
    rw [e0]
    congr 1
    funext a
    match a with
    | 0 => exact Fin.ext (by show (j 0).val = 0; omega)
    | 1 => exact Fin.ext ((u1.trans (Nat.zero_add _)).symm)
  · intro i _ hn x hx hK
    refine hx ?_
    rcases hK with hK | hK
    · exact hK
    · exfalso
      refine hn ?_
      rw [Rect.mem_set_unit]
      have h1 : (i 1).val < 2304 := (i 1).isLt
      intro a
      match a with
      | 0 => exact ⟨(show r.val ≤ (i 0).val by omega), (show (i 0).val < r.val + 1 by omega)⟩
      | 1 => exact ⟨Nat.zero_le _, (show (i 1).val < 0 + 2304 by omega)⟩

/-- What is held of every buffer and semaphore before the kernel. -/
def Start : sProp 𝕄 :=
  iprop((KV (c : Thread nD τ) arg0.view Finset.univ fullShare (is X0) ∗ KV (c : Thread nD τ) arg1.view Finset.univ fullShare (is M1)
      ∗ KV (c : Thread nD τ) arg2.view Finset.univ fullShare (is M2) ∗ KV (c : Thread nD τ) arg3.view Finset.univ fullShare (is X3)
      ∗ KV (c : Thread nD τ) arg4.view Finset.univ fullShare (is S4) ∗ KV (c : Thread nD τ) arg5.view Finset.univ fullShare (is B5)
      ∗ KV (c : Thread nD τ) arg6.view Finset.univ fullShare (is E6))
    ∗ (KV (c : Thread nD τ) arg7.view Finset.univ fullShare any ∗ KV (c : Thread nD τ) arg8.view Finset.univ fullShare any
      ∗ KV (c : Thread nD τ) arg9.view Finset.univ fullShare any)
    ∗ (KV (c : Thread nD τ) arg10.view Finset.univ fullShare any ∗ KV (c : Thread nD τ) arg11.view Finset.univ fullShare any
      ∗ KV (c : Thread nD τ) arg12.view Finset.univ fullShare any ∗ KV (c : Thread nD τ) arg13.view Finset.univ fullShare any
      ∗ KV (c : Thread nD τ) arg14.view Finset.univ fullShare any ∗ KV (c : Thread nD τ) arg15.view Finset.univ fullShare any
      ∗ KV (c : Thread nD τ) arg16.view Finset.univ fullShare any ∗ KV (c : Thread nD τ) arg17.view Finset.univ fullShare any)
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

/-- And after it. -/
def Done : sProp 𝕄 :=
  iprop((KV (c : Thread nD τ) arg0.view Finset.univ fullShare (is X0) ∗ KV (c : Thread nD τ) arg1.view Finset.univ fullShare (is M1)
      ∗ KV (c : Thread nD τ) arg2.view Finset.univ fullShare (is M2) ∗ KV (c : Thread nD τ) arg3.view Finset.univ fullShare (is X3)
      ∗ KV (c : Thread nD τ) arg4.view Finset.univ fullShare (is S4) ∗ KV (c : Thread nD τ) arg5.view Finset.univ fullShare (is B5)
      ∗ KV (c : Thread nD τ) arg6.view Finset.univ fullShare (is E6))
    ∗ (KV (c : Thread nD τ) arg7.view Finset.univ fullShare (is (YC S4 B5 (W10T X3) X0 (G12T M1) (H13T M2) E6))
      ∗ KV (c : Thread nD τ) arg8.view Finset.univ fullShare (is (WC (W10T X3) (G12T M1) E6))
      ∗ KV (c : Thread nD τ) arg9.view Finset.univ fullShare (is (T9 S4 E6)))
    ∗ (KV (c : Thread nD τ) arg10.view Finset.univ fullShare any ∗ KV (c : Thread nD τ) arg11.view Finset.univ fullShare any
      ∗ KV (c : Thread nD τ) arg12.view Finset.univ fullShare any ∗ KV (c : Thread nD τ) arg13.view Finset.univ fullShare any
      ∗ KV (c : Thread nD τ) arg14.view Finset.univ fullShare any ∗ KV (c : Thread nD τ) arg15.view Finset.univ fullShare any
      ∗ KV (c : Thread nD τ) arg16.view Finset.univ fullShare any ∗ KV (c : Thread nD τ) arg17.view Finset.univ fullShare any)
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

/-! ## Loops' starts and ends -/

theorem start1 :
    iprop(KV (c : Thread nD τ) arg3.view Finset.univ fullShare (is X3) ∗ KV (c : Thread nD τ) arg10.view Finset.univ fullShare any
      ∗ bigSep Finset.univ (fun k : Fin 36 => semVal ((c : Thread nD τ), .dma (arg19.ix (ix1 k))) 0))
    ⊢ (Inv1 c arg3 arg10 arg19 X3 0 : sProp 𝕄) := by
  unfold Inv1
  rw [prog_zero]
  unfold Idle
  have e : ∀ (A B C : Fin 36 → sProp 𝕄), iprop(bigSep Finset.univ A ∗ bigSep Finset.univ B ∗ bigSep Finset.univ C) ⊢ bigSep Finset.univ (fun k => iprop(A k ∗ B k ∗ C k)) := by
    intro A B C
    rw [sepE, sepE]
  iintro ⟨H3, H10, HS⟩
  iapply (e _ _ _)
  isplitl [H3]; · iapply (KV_split (c : Thread nD τ) arg3.view fullShare (is X3) ofCol) $$ H3
  isplitl [H10]; · iapply (KV_split (c : Thread nD τ) arg10.view fullShare any ofSlot) $$ H10
  iexact HS

theorem start2 :
    iprop(KV (c : Thread nD τ) arg14.view Finset.univ fullShare any ∗ KV (c : Thread nD τ) arg15.view Finset.univ fullShare any
      ∗ bigSep Finset.univ (fun k : Fin 9 => semVal ((c : Thread nD τ), .dma (arg20.ix (ix1 k))) 0))
    ⊢ (bigSep Finset.univ (prog (Copied c arg14 arg15 arg20 E6) (Fresh c arg14 arg15 arg20) 0) : sProp 𝕄) := by
  rw [prog_zero]
  unfold Fresh
  have e : ∀ (A B C : Fin 9 → sProp 𝕄), iprop(bigSep Finset.univ A ∗ bigSep Finset.univ B ∗ bigSep Finset.univ C) ⊢ bigSep Finset.univ (fun k => iprop(A k ∗ B k ∗ C k)) := by
    intro A B C
    rw [sepE, sepE]
  iintro ⟨H3, H10, HS⟩
  iapply (e _ _ _)
  isplitl [H3]; · iapply (KV_split (c : Thread nD τ) arg14.view fullShare any ofGroup) $$ H3
  isplitl [H10]; · iapply (KV_split (c : Thread nD τ) arg15.view fullShare any ofGroup) $$ H10
  iexact HS

theorem end2 :
    iprop(bigSep Finset.univ (prog (Here c arg3 arg10 arg19 X3) (Coming c arg3 arg10 arg19 X3) 36)
      ∗ bigSep Finset.univ (prog (Copied c arg14 arg15 arg20 E6) (Fresh c arg14 arg15 arg20) 9))
    ⊢ (iprop((KV (c : Thread nD τ) arg10.view Finset.univ fullShare (is (W10T X3)) ∗ KV (c : Thread nD τ) arg3.view Finset.univ fullShare (is X3)
        ∗ bigSep Finset.univ (fun k : Fin 36 => semVal ((c : Thread nD τ), .dma (arg19.ix (ix1 k))) 0))
      ∗ (KV (c : Thread nD τ) arg15.view Finset.univ fullShare (is E6) ∗ KV (c : Thread nD τ) arg14.view Finset.univ fullShare (is E6)
        ∗ bigSep Finset.univ (fun k : Fin 9 => semVal ((c : Thread nD τ), .dma (arg20.ix (ix1 k))) 0))) : sProp 𝕄) := by
  rw [prog_all, prog_all]
  unfold Here Copied
  have e : ∀ (n : Nat) (A B C : Fin n → sProp 𝕄), bigSep Finset.univ (fun k => iprop((A k ∗ B k) ∗ C k)) ⊢ iprop((bigSep Finset.univ A ∗ bigSep Finset.univ B) ∗ bigSep Finset.univ C) := by
    intro n A B C
    rw [sepE, sepE]
  iintro ⟨HA, HB⟩
  ihave HA := (e 36 _ _ _) $$ HA
  ihave HB := (e 9 _ _ _) $$ HB
  icases HA with ⟨⟨A1, A2⟩, A3⟩
  icases HB with ⟨⟨B1, B2⟩, B3⟩
  isplitl [A1 A2 A3]
  · isplitl [A1]; · iapply (show bigSep Finset.univ (fun k : Fin 36 => KV (c : Thread nD τ) arg10.view (slotW k) fullShare (is (W10T X3))) ⊢ (KV (c : Thread nD τ) arg10.view Finset.univ fullShare (is (W10T X3)) : sProp 𝕄) from KV_unite (c : Thread nD τ) arg10.view fullShare (is (W10T X3)) (by decide) ofSlot) $$ A1
    isplitl [A2]; · iapply (show bigSep Finset.univ (fun k : Fin 36 => KV (c : Thread nD τ) arg3.view (colW k) fullShare (is X3)) ⊢ (KV (c : Thread nD τ) arg3.view Finset.univ fullShare (is X3) : sProp 𝕄) from KV_unite (c : Thread nD τ) arg3.view fullShare (is X3) (by decide) ofCol) $$ A2
    iexact A3
  · isplitl [B1]; · iapply (show bigSep Finset.univ (fun k : Fin 9 => KV (c : Thread nD τ) arg15.view (grpE k) fullShare (is E6)) ⊢ (KV (c : Thread nD τ) arg15.view Finset.univ fullShare (is E6) : sProp 𝕄) from KV_unite (c : Thread nD τ) arg15.view fullShare (is E6) (by decide) ofGroup) $$ B1
    isplitl [B2]; · iapply (show bigSep Finset.univ (fun k : Fin 9 => KV (c : Thread nD τ) arg14.view (grpE k) fullShare (is E6)) ⊢ (KV (c : Thread nD τ) arg14.view Finset.univ fullShare (is E6) : sProp 𝕄) from KV_unite (c : Thread nD τ) arg14.view fullShare (is E6) (by decide) ofGroup) $$ B2
    iexact B3

theorem slots16 (k : Fin 3) : (cells fun i : S3x2x2304x256.Idx => (i 0 : Fin 3) = k) = slot16 k.val := by
  ext i; rw [mem_cells, slot16, mem_cells]
  constructor
  · intro h; have : (i 0).val = k.val := congrArg Fin.val h; omega
  · intro h; have : (i 0).val < 3 := (i 0).isLt; exact Fin.ext (by show (i 0).val = k.val; omega)

theorem split16 : (KV (c : Thread nD τ) arg16.view Finset.univ fullShare any : sProp 𝕄) ⊢ bigSep Finset.univ (fun k : Fin 3 => KV (c : Thread nD τ) arg16.view (slot16 k.val) fullShare any) := by
  rw [show (fun k : Fin 3 => (KV (c : Thread nD τ) arg16.view (slot16 k.val) fullShare any : sProp 𝕄)) = (fun k => KV (c : Thread nD τ) arg16.view (cells fun i => (i 0 : Fin 3) = k) fullShare any) from
    funext fun k => by rw [slots16]]
  exact KV_split (c : Thread nD τ) arg16.view fullShare any (n := 3) (fun i => i 0)

theorem unite16 : (bigSep Finset.univ (fun k : Fin 3 => KV (c : Thread nD τ) arg16.view (slot16 k.val) fullShare any) : sProp 𝕄) ⊢ KV (c : Thread nD τ) arg16.view Finset.univ fullShare any := by
  rw [show (fun k : Fin 3 => (KV (c : Thread nD τ) arg16.view (slot16 k.val) fullShare any : sProp 𝕄)) = (fun k => KV (c : Thread nD τ) arg16.view (cells fun i => (i 0 : Fin 3) = k) fullShare any) from
    funext fun k => by rw [slots16]]
  exact KV_unite (c : Thread nD τ) arg16.view fullShare any (n := 3) (by decide) (fun i => i 0)

theorem slots17 (k : Fin 3) : (cells fun i : S3x2x128x256.Idx => (i 0 : Fin 3) = k) = slot17 k.val := by
  ext i; rw [mem_cells, slot17, mem_cells]
  constructor
  · intro h; have : (i 0).val = k.val := congrArg Fin.val h; omega
  · intro h; have : (i 0).val < 3 := (i 0).isLt; exact Fin.ext (by show (i 0).val = k.val; omega)

theorem split17 : (KV (c : Thread nD τ) arg17.view Finset.univ fullShare any : sProp 𝕄) ⊢ bigSep Finset.univ (fun k : Fin 3 => KV (c : Thread nD τ) arg17.view (slot17 k.val) fullShare any) := by
  rw [show (fun k : Fin 3 => (KV (c : Thread nD τ) arg17.view (slot17 k.val) fullShare any : sProp 𝕄)) = (fun k => KV (c : Thread nD τ) arg17.view (cells fun i => (i 0 : Fin 3) = k) fullShare any) from
    funext fun k => by rw [slots17]]
  exact KV_split (c : Thread nD τ) arg17.view fullShare any (n := 3) (fun i => i 0)

theorem unite17 : (bigSep Finset.univ (fun k : Fin 3 => KV (c : Thread nD τ) arg17.view (slot17 k.val) fullShare any) : sProp 𝕄) ⊢ KV (c : Thread nD τ) arg17.view Finset.univ fullShare any := by
  rw [show (fun k : Fin 3 => (KV (c : Thread nD τ) arg17.view (slot17 k.val) fullShare any : sProp 𝕄)) = (fun k => KV (c : Thread nD τ) arg17.view (cells fun i => (i 0 : Fin 3) = k) fullShare any) from
    funext fun k => by rw [slots17]]
  exact KV_unite (c : Thread nD τ) arg17.view fullShare any (n := 3) (by decide) (fun i => i 0)

/-- The slots before the third loop. -/
theorem start3 :
    iprop(KV (c : Thread nD τ) arg16.view Finset.univ fullShare any ∗ KV (c : Thread nD τ) arg17.view Finset.univ fullShare any
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ⊢ (bigSep Finset.univ (fun s : Fin 3 => Free c arg16 arg17 arg21 arg22 s) : sProp 𝕄) := by
  unfold Free
  have e : ∀ (A B C D : Fin 3 → sProp 𝕄), iprop((bigSep Finset.univ A ∗ bigSep Finset.univ B) ∗ (bigSep Finset.univ C ∗ bigSep Finset.univ D)) ⊢ bigSep Finset.univ (fun k => iprop((A k ∗ B k) ∗ (C k ∗ D k))) := by
    intro A B C D
    rw [sepE, sepE, sepE]
  iintro ⟨H16, H17, S21, S22⟩
  iapply (e _ _ _ _)
  isplitl [H16 S21]
  · isplitl [H16]
    · iapply (split16 c arg16) $$ H16
    · iexact S21
  · isplitl [H17]
    · iapply (split17 c arg17) $$ H17
    · iexact S22

theorem end3 :
    iprop(Free c arg16 arg17 arg21 arg22 0 ∗ Free c arg16 arg17 arg21 arg22 1 ∗ Free c arg16 arg17 arg21 arg22 2)
    ⊢ (iprop(KV (c : Thread nD τ) arg16.view Finset.univ fullShare any ∗ KV (c : Thread nD τ) arg17.view Finset.univ fullShare any
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0)) : sProp 𝕄) := by
  have h3 : ∀ Φ : Fin 3 → sProp 𝕄, bigSep Finset.univ Φ = iprop(Φ 0 ∗ Φ 1 ∗ Φ 2) := by
    intro Φ
    rw [bigSep_univ_split (0 : Fin 3), show (Finset.univ.erase 0 : Finset (Fin 3)) = insert 1 {2} by decide,
      BI.bigSep_insert (by decide), BI.bigSep_singleton]
    rfl
  rw [← h3 (Free c arg16 arg17 arg21 arg22)]
  unfold Free
  have e : ∀ (A B C D : Fin 3 → sProp 𝕄), bigSep Finset.univ (fun k => iprop((A k ∗ B k) ∗ (C k ∗ D k))) ⊢ iprop((bigSep Finset.univ A ∗ bigSep Finset.univ B) ∗ (bigSep Finset.univ C ∗ bigSep Finset.univ D)) := by
    intro A B C D
    rw [sepE, sepE, sepE]
  iintro H
  ihave H := (e _ _ _ _) $$ H
  icases H with ⟨⟨H16, S21⟩, ⟨H17, S22⟩⟩
  isplitl [H16]
  · iapply (unite16 c arg16) $$ H16
  isplitl [H17]
  · iapply (unite17 c arg17) $$ H17
  isplitl [S21] <;> iassumption

/-- The credits of the copy of the normalised rows. -/
def NX : Nat := sig.dmaCredit .tc (Kind.tc.table .vmem) arg11.view.buf S2x128x2304 .bf16

/-- The whole kernel. -/
theorem whole_wp (Q : PUnit → sProp 𝕄) :
    Start c arg0 arg1 arg2 arg3 arg4 arg5 arg6 arg7 arg8 arg9 arg10 arg11 arg12 arg13 arg14 arg15 arg16 arg17 arg18 arg19 arg20 arg21 arg22 X0 M1 M2 X3 S4 B5 E6
    ⊢ iprop((Done c arg0 arg1 arg2 arg3 arg4 arg5 arg6 arg7 arg8 arg9 arg10 arg11 arg12 arg13 arg14 arg15 arg16 arg17 arg18 arg19 arg20 arg21 arg22 X0 M1 M2 X3 S4 B5 E6 -∗ Q ⟨⟩)
      -∗ WP (cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) Q) := by
  rw [cc0_eq, part116_eq]
  unfold Start
  iintro ⟨⟨H0, H1, H2, H3, H4, H5, H6⟩, ⟨H7, H8, H9⟩, ⟨H10, H11, H12, H13, H14, H15, H16, H17⟩, ⟨S18, S19, S20, S21, S22⟩, HW⟩ HK
  rw [wp_bind, wp_bind]
  iapply (dma Variants.none (c : Thread nD τ) none countersEmb () (NX arg11) rfl ?_) $$ [H0 H11 S18]
  · exact sig.dmaCredit_pos _ _ _ _ _ (by decide)
  · isplitl [H0]; · iexact H0
    isplitl [H11] <;> iassumption
  iintro HX
  iapply (Scf.wp_for_bind frame _ Set.univ k0_t1_loop.lb k0_t1_loop.ub k0_t1_loop.st k0_t1_ok () _
    (fun t _ => Inv1 c arg3 arg10 arg19 X3 t)
    (fun t _ => body1_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X3 t)) $$ [H3 H10 S19]
  · iapply (start1 c arg3 arg10 arg19 X3)
    isplitl [H3]; · iexact H3
    isplitl [H10] <;> iassumption
  iintro %acc HA
  ihave HA := (show Inv1 c arg3 arg10 arg19 X3 (Scf.trips k0_t1_loop.lb k0_t1_loop.ub k0_t1_loop.st)
      ⊢ bigSep Finset.univ (prog (Here c arg3 arg10 arg19 X3) (Coming c arg3 arg10 arg19 X3) (4 * 0)) from by
    rw [show Scf.trips k0_t1_loop.lb k0_t1_loop.ub k0_t1_loop.st = 36 from trips1]
    unfold Inv1
    rw [prog_all, show 4 * 0 = 0 from rfl, prog_zero]) $$ HA
  rw [← wp_bind, setup_eq]
  rw [wp_bind]
  iapply (gRow_wp c arg1 arg12 M1 0) $$ [H1 H12]
  · isplitl [H1]; · iexact H1
    iapply (KV_mono (c : Thread nD τ) ?_) $$ H12
    intro i _ x _ hK
    unfold KG at hK
    exact absurd hK (by show ¬ _ < 18 * 0; omega)
  iintro ⟨H1, H12⟩
  rw [wp_bind]
  iapply (gRow_wp c arg1 arg12 M1 1) $$ [H1 H12]
  · isplitl [H1] <;> iassumption
  iintro ⟨H1, H12⟩
  rw [wp_bind]
  unfold shRead
  rw [wp_bind]
  iapply (loadAny c arg13) $$ H13
  iintro %v0 H13
  rw [wp_bind]
  iapply (store Variants.none (c : Thread nD τ) none Set.univ (upTo (fun i => 6 ≤ (i 0).val) (H13T M2)) (Finset.subset_univ _) ?_ ?_) $$ H13
  · intro j hj
    have hz : ∀ (r : Fin 8) (y : S1x2304.Idx), 6 ≤ r.val → rowV M2 r y = Scalar.ofBits .f32 0x00000000#32 := by
      intro r y hr
      have : r = 6 ∨ r = 7 := by omega
      rcases this with rfl | rfl <;> rfl
    exact (hz _ _ hj).symm
  · intro i _ hn
    refine absurd ?_ hn
    rw [Rect.mem_set_unit]
    intro a
    match a with
    | 0 => exact ⟨Nat.zero_le _, (show (i 0).val < 0 + 8 by have : (i 0).val < 8 := (i 0).isLt; omega)⟩
    | 1 => exact ⟨Nat.zero_le _, (show (i 1).val < 0 + 2304 by have : (i 1).val < 2304 := (i 1).isLt; omega)⟩
  iintro H13
  rw [wp_bind]
  iapply (loadIs Variants.none (c : Thread nD τ) none Set.univ (Finset.subset_univ _)) $$ H2
  iintro H2
  have em : (fun j => M2 ((Rect.unit (s := S2x2304) ![0, 0] S2x2304.size inb_S2x2304_S2x2304_0_0).emb j)) = M2 := by
    funext j
    refine congrArg M2 (funext fun a => Fin.ext ?_)
    refine (unit_val (s := S2x2304) ![0, 0] S2x2304.size inb_S2x2304_S2x2304_0_0 j a).trans ?_
    match a with
    | 0 => exact Nat.zero_add _
    | 1 => exact Nat.zero_add _
  rw [em]
  rw [wp_bind]
  iapply (loadAny c arg13) $$ H13
  iintro %v333 H13
  iapply (pureStep Variants.none (c : Thread nD τ) none Set.univ _ rfl)
  dsimp only
  rw [wp_bind, k0_part126_eq_skeleton]
  unfold k0_part126_skel
  dsimp only
  rw [wp_bind]
  iapply (row_store c arg13 M2 _ 0 ![0, 0] rfl _ rfl) $$ H13
  iintro H13
  rw [wp_bind]
  iapply (loadAny c arg13) $$ H13
  iintro %v3 H13
  rw [wp_bind]
  iapply (row_store c arg13 M2 _ 3 ![3, 0] rfl _ rfl) $$ H13
  iintro H13
  rw [wp_bind]
  iapply (loadAny c arg13) $$ H13
  iintro %v1 H13
  rw [wp_bind]
  iapply (row_store c arg13 M2 _ 1 ![1, 0] rfl _ rfl) $$ H13
  iintro H13
  rw [wp_bind]
  iapply (loadAny c arg13) $$ H13
  iintro %v4 H13
  rw [wp_bind]
  iapply (row_store c arg13 M2 _ 4 ![4, 0] rfl _ rfl) $$ H13
  iintro H13
  rw [wp_bind]
  iapply (loadAny c arg13) $$ H13
  iintro %v2 H13
  rw [wp_bind]
  iapply (row_store c arg13 M2 _ 2 ![2, 0] rfl _ rfl) $$ H13
  iintro H13
  rw [wp_bind]
  iapply (loadAny c arg13) $$ H13
  iintro %v5 H13
  rw [wp_bind]
  iapply (row_store c arg13 M2 _ 5 ![5, 0] rfl _ rfl) $$ H13
  iintro H13
  rw [wp_bind]
  iapply (wait Variants.none (c : Thread nD τ) none countersEmb () rfl) $$ [HX HW]
  · isplitl [HX]; · iexact HX
    iexact HW
  iintro ⟨⟨H11, H0⟩, S18, HW⟩
  iapply (Scf.wp_for_bind frame _ Set.univ k0_t2_loop.lb k0_t2_loop.ub k0_t2_loop.st k0_t2_ok () _
    (fun t _ => Inv2 c arg3 arg6 arg10 arg14 arg15 arg19 arg20 X3 E6 t)
    (fun t _ => body2_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X3 E6 _ _ _ _ t)) $$ [HA H14 H15 S20 H6 HW]
  · unfold Inv2
    isplitl [HA]
    · iexact HA
    isplitl [H14 H15 S20]
    · iapply (start2 c arg14 arg15 arg20 E6)
      isplitl [H14]; · iexact H14
      isplitl [H15] <;> iassumption
    isplitl [H6] <;> iassumption
  iintro %acc2 HA
  unfold Inv2
  rw [show Scf.trips k0_t2_loop.lb k0_t2_loop.ub k0_t2_loop.st = 9 from trips2]
  icases HA with ⟨HA, HB, H6, HW⟩
  ihave HE := (end2 c arg3 arg10 arg14 arg15 arg19 arg20 X3 E6) $$ [HA HB]
  · isplitl [HA] <;> iassumption
  icases HE with ⟨⟨H10, H3, S19⟩, ⟨H15, H14, S20⟩⟩
  iapply (Scf.wp_for_bind frame _ Set.univ k0_t3_loop.lb k0_t3_loop.ub k0_t3_loop.st k0_t3_ok () _
    (fun t _ => Inv3 c arg4 arg5 arg7 arg8 arg9 arg10 arg11 arg12 arg13 arg15 arg16 arg17 arg21 arg22 S4 B5 (W10T X3) X0 (G12T M1) (H13T M2) E6 t)
    (fun t _ => by rw [body_eq]; exact body3_wp c arg4 arg5 arg7 harg7 arg8 harg8 arg9 arg10 arg11 arg12 arg13 arg15 arg16 harg16 arg17 harg17 arg21 arg22 S4 B5 (W10T X3) X0 (G12T M1) (H13T M2) E6 t))
    $$ [H16 H17 S21 S22 H8 H7 H9 H12 H15 H4 H13 H10 H11 H5 HW]
  · unfold Inv3 Known
    isplitl [H16 H17 S21 S22]
    · rw [show bigSep Finset.univ (slotSt c arg7 arg8 arg16 arg17 arg21 arg22 S4 B5 (W10T X3) X0 (G12T M1) (H13T M2) E6 0) = bigSep Finset.univ (fun s : Fin 3 => Free c arg16 arg17 arg21 arg22 s) from
        bigSep_congr fun s _ => if_neg (Nat.not_lt_zero _)]
      iapply (start3 c arg16 arg17 arg21 arg22)
      isplitl [H16]; · iexact H16
      isplitl [H17]; · iexact H17
      isplitl [S21] <;> iassumption
    isplitl [H8]
    · ihave H8 := (KV_congr_set (c : Thread nD τ) (J := out8 0) (by ext i; rw [out8, mem_cells]; simp)) $$ H8
      iapply (KV_mono (c : Thread nD τ) ?_) $$ H8
      intro i _ x _ hK
      exact absurd hK (by omega)
    isplitl [H7]
    · ihave H7 := (KV_congr_set (c : Thread nD τ) (J := out7 0) (by ext i; rw [out7, mem_cells]; simp)) $$ H7
      iapply (KV_mono (c : Thread nD τ) ?_) $$ H7
      intro i _ x _ hK
      exact absurd hK (by omega)
    isplitl [H9]
    · iapply (KV_mono (c : Thread nD τ) ?_) $$ H9
      intro i _ x _ hK
      unfold K9 at hK
      omega
    isplitl [H12 H15 H4 H13 H10 H11 H5]
    · isplitl [H12]
      · iapply (KV_mono (c : Thread nD τ) ?_) $$ H12
        intro i _ x hx
        refine hx ?_
        have h0 : (i 0).val < 2 := (i 0).isLt
        have h1 : (i 1).val < 2304 := (i 1).isLt
        show 18 * (i 0).val + (i 1).val / 128 < 18 * 1 + 18
        omega
      isplitl [H15]; · iexact H15
      isplitl [H4]; · iexact H4
      isplitl [H13]
      · iapply (KV_mono (c : Thread nD τ) ?_) $$ H13
        intro i _ x hx
        refine hx ?_
        have h0 : (i 0).val < 8 := (i 0).isLt
        show (((((6 ≤ (i 0).val ∨ (i 0).val = 0) ∨ (i 0).val = 3) ∨ (i 0).val = 1) ∨ (i 0).val = 4) ∨ (i 0).val = 2) ∨ (i 0).val = 5
        omega
      isplitl [H10]; · iexact H10
      isplitl [H11] <;> iassumption
    iexact HW
  iintro %acc3 HI
  rw [show Scf.trips k0_t3_loop.lb k0_t3_loop.ub k0_t3_loop.st = 36 from trips36]
  iapply (pureStep Variants.none (c : Thread nD τ) none Set.univ _ rfl)
  iapply (drain_wp c arg4 arg5 arg7 harg7 arg8 harg8 arg9 arg10 arg11 arg12 arg13 arg15 arg16 harg16 arg17 harg17 arg21 arg22 S4 B5 (W10T X3) X0 (G12T M1) (H13T M2) E6) $$ HI
  unfold Known
  iintro ⟨HF, H8, H7, H9, ⟨H12, H15, H4, H13, H10, H11, H5⟩, HW⟩
  ihave HF := (end3 c arg16 arg17 arg21 arg22) $$ HF
  icases HF with ⟨H16, H17, S21, S22⟩
  iapply HK
  unfold Done
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [H7 H8 H9]
  · isplitl [H7]; · iexact H7
    isplitl [H8] <;> iassumption
  isplitl [H10 H11 H12 H13 H14 H15 H16 H17]
  · isplitl [H10]; · iapply (KV_mono (c : Thread nD τ) (fun _ _ _ _ => trivial)) $$ H10
    isplitl [H11]; · iapply (KV_mono (c : Thread nD τ) (fun _ _ _ _ => trivial)) $$ H11
    isplitl [H12]; · iapply (KV_mono (c : Thread nD τ) (fun _ _ _ _ => trivial)) $$ H12
    isplitl [H13]; · iapply (KV_mono (c : Thread nD τ) (fun _ _ _ _ => trivial)) $$ H13
    isplitl [H14]; · iapply (KV_mono (c : Thread nD τ) (fun _ _ _ _ => trivial)) $$ H14
    isplitl [H15]; · iapply (KV_mono (c : Thread nD τ) (fun _ _ _ _ => trivial)) $$ H15
    isplitl [H16]; · iexact H16
    iexact H17
  isplitl [S18 S19 S20 S21 S22]
  · isplitl [S18]; · iexact S18
    isplitl [S19]; · iexact S19
    isplitl [S20]; · iexact S20
    isplitl [S21] <;> iassumption
  iexact HW

end Steps

end Cert.KernelIdeal.Roll
-- ==== Proof.Run.lean ====
/-
  The launch of the whole program: its frame, and the values of its three results.
-/
module

public import proofs.«01_k».proof.Proof.Whole
public import proofs.«01_k».proof.Proof.Gen.KernelIdeal.Frame
public import Idealize.ShloMosaic.Lib.Pipeline.FrameSuffixV

@[expose] public section

set_option maxRecDepth 16384

noncomputable section

namespace Cert.KernelIdeal.Roll

open Idealize.ShloMosaic Idealize.ShloMosaic.TcCoe Idealize.ShloMosaic.ValueIdx
open Idealize.SL Idealize.SL.Sem Idealize.SL.RA
open Idealize.SL.BI (sProp Storable bigSep bigSep_univ_split bigSep_congr bigSep_mono)
open scoped Idealize.SL.BI
open Idealize.SL.BI.BIBase Idealize.SL.BI.Laws Idealize.SL.ProofMode
open Cert.KernelIdeal Cert.KernelIdeal.Gen Cert.Cells Idealize.ShloMosaic.Transfers
open Idealize.ShloMosaic.Pipeline (Dat Cfg Window BodyObligation cellOf)

variable {F : FTy → Type} [FloatOps F]
local notation "𝕄" => MT nD τ sig Unit (Elt F) ℕ (Pipeline.UD sig nD τ) ℕ

/-! ## Whole memrefs -/

section Whole
variable (c : Dev nD) {sp : Space} {s : Shape} {e : EltTy} (M : Memref sig .tc sp s e)

theorem KV_owns (X : s.Idx → Elt F e) :
    (KV (c : Thread nD τ) M.view Finset.univ fullShare (is X) : sProp 𝕄) = owns (c : Thread nD τ) M fullShare X := by
  unfold KV owns
  have e : ∀ f, (∀ i ∈ (Finset.univ : Finset s.Idx), is X i (M.view.read (Elt F) f i)) ↔ M.view.read (Elt F) f = X := by
    intro f
    constructor
    · intro h; funext i; exact h i (Finset.mem_univ i)
    · intro h i _; unfold is; rw [h]
  simp only [e]
  rfl

theorem KV_some (X : s.Idx → Elt F e) :
    (owns (c : Thread nD τ) M fullShare X : sProp 𝕄) ⊢ KV (c : Thread nD τ) M.view Finset.univ fullShare any := by
  rw [← KV_owns]
  exact KV_mono _ fun _ _ _ _ => trivial

theorem KV_has :
    (KV (c : Thread nD τ) M.view Finset.univ fullShare any : sProp 𝕄) ⊢ iprop(∃ X, owns (c : Thread nD τ) M fullShare X) := by
  unfold KV owns
  iintro ⟨%f, -, H⟩
  iexists (M.view.read (Elt F) f)
  iexists f
  isplitr
  · ipureintro; rfl
  iexact H

end Whole

section Owns
variable (c : Dev nD)
variable (arg0 : Memref sig .tc .hbm S2x128x2304 .bf16) (harg0 : arg0.IsWhole)
  (arg1 : Memref sig .tc .vmem S2x2304 .f32) (harg1 : arg1.IsWhole) (arg2 : Memref sig .tc .vmem S2x2304 .f32) (harg2 : arg2.IsWhole)
  (arg3 : Memref sig .tc .hbm S2304x9216 .fp8e4m3) (harg3 : arg3.IsWhole) (arg4 : Memref sig .tc .smem S18x72 .i32) (harg4 : arg4.IsWhole)
  (arg5 : Memref sig .tc .vmem S72x128 .f32) (harg5 : arg5.IsWhole) (arg6 : Memref sig .tc .vmem S9x8x128 .i32) (harg6 : arg6.IsWhole)
  (arg7 : Memref sig .tc .hbm S2x128x9216 .bf16) (harg7 : arg7.IsWhole)
  (arg8 : Memref sig .tc .hbm S2x2304x9216 .fp8e4m3) (harg8 : arg8.IsWhole)
  (arg9 : Memref sig .tc .smem S2x18x72 .i32) (harg9 : arg9.IsWhole) (arg10 : Memref sig .tc .vmem S36x2304x256 .fp8e4m3) (harg10 : arg10.IsWhole)
  (arg11 : Memref sig .tc .vmem S2x128x2304 .bf16) (harg11 : arg11.IsWhole) (arg12 : Memref sig .tc .vmem S2x2304x128 .f32) (harg12 : arg12.IsWhole)
  (arg13 : Memref sig .tc .vmem S8x2304 .f32) (harg13 : arg13.IsWhole) (arg14 : Memref sig .tc .vmem S9x8x128 .i32) (harg14 : arg14.IsWhole)
  (arg15 : Memref sig .tc .smem S9x8x128 .i32) (harg15 : arg15.IsWhole)
  (arg16 : Memref sig .tc .vmem S3x2x2304x256 .fp8e4m3) (harg16 : arg16.IsWhole)
  (arg17 : Memref sig .tc .vmem S3x2x128x256 .bf16) (harg17 : arg17.IsWhole)
  (arg18 : DmaSems sig S_) (arg19 : DmaSems sig S36) (arg20 : DmaSems sig S9) (arg21 arg22 : DmaSems sig S3)
variable (X0 : S2x128x2304.Idx → Elt F .bf16) (M1 M2 : S2x2304.Idx → Elt F .f32) (X3 : S2304x9216.Idx → Elt F .fp8e4m3)
  (S4 : S18x72.Idx → Elt F .i32) (B5 : S72x128.Idx → Elt F .f32) (E6 : S9x8x128.Idx → Elt F .i32)

/-- What is held before the kernel and after it, every buffer at its named or at some contents. -/
def Held0 : sProp 𝕄 :=
  iprop((owns (c : Thread nD τ) arg0 fullShare X0
      ∗ owns (c : Thread nD τ) arg1 fullShare M1
      ∗ owns (c : Thread nD τ) arg2 fullShare M2
      ∗ owns (c : Thread nD τ) arg3 fullShare X3
      ∗ owns (c : Thread nD τ) arg4 fullShare S4
      ∗ owns (c : Thread nD τ) arg5 fullShare B5
      ∗ owns (c : Thread nD τ) arg6 fullShare E6)
    ∗ ((∃ d, owns (c : Thread nD τ) arg7 fullShare d) ∗ (∃ d, owns (c : Thread nD τ) arg8 fullShare d) ∗ (∃ d, owns (c : Thread nD τ) arg9 fullShare d))
    ∗ ((∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d))
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

def Held1 : sProp 𝕄 :=
  iprop((owns (c : Thread nD τ) arg0 fullShare X0
      ∗ owns (c : Thread nD τ) arg1 fullShare M1
      ∗ owns (c : Thread nD τ) arg2 fullShare M2
      ∗ owns (c : Thread nD τ) arg3 fullShare X3
      ∗ owns (c : Thread nD τ) arg4 fullShare S4
      ∗ owns (c : Thread nD τ) arg5 fullShare B5
      ∗ owns (c : Thread nD τ) arg6 fullShare E6)
    ∗ (owns (c : Thread nD τ) arg7 fullShare (YC S4 B5 (W10T X3) X0 (G12T M1) (H13T M2) E6) ∗ owns (c : Thread nD τ) arg8 fullShare (WC (W10T X3) (G12T M1) E6) ∗ owns (c : Thread nD τ) arg9 fullShare (T9 S4 E6))
    ∗ ((∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d))
    ∗ (semVal ((c : Thread nD τ), .dma arg18.sem) 0
      ∗ bigSep Finset.univ (fun k : Fin 36 => semVal ((c : Thread nD τ), .dma (arg19.ix (ix1 k))) 0)
      ∗ bigSep Finset.univ (fun k : Fin 9 => semVal ((c : Thread nD τ), .dma (arg20.ix (ix1 k))) 0)
      ∗ bigSep Finset.univ (fun k : Fin 3 => semVal ((c : Thread nD τ), .dma (arg21.ix (ix1 k))) 0)
      ∗ bigSep Finset.univ (fun k : Fin 3 => semVal ((c : Thread nD τ), .dma (arg22.ix (ix1 k))) 0))
    ∗ (∃ W, owes (c : Thread nD τ) 0 W))

theorem start_held : Held0 c arg0 arg1 arg2 arg3 arg4 arg5 arg6 arg7 arg8 arg9 arg10 arg11 arg12 arg13 arg14 arg15 arg16 arg17 arg18 arg19 arg20 arg21 arg22 X0 M1 M2 X3 S4 B5 E6 ⊢ (Start c arg0 arg1 arg2 arg3 arg4 arg5 arg6 arg7 arg8 arg9 arg10 arg11 arg12 arg13 arg14 arg15 arg16 arg17 arg18 arg19 arg20 arg21 arg22 X0 M1 M2 X3 S4 B5 E6 : sProp 𝕄) := by
  unfold Held0 Start
  simp only [KV_owns]
  iintro ⟨HI, ⟨⟨%dH7, H7⟩, ⟨%dH8, H8⟩, ⟨%dH9, H9⟩⟩, ⟨⟨%dH10, H10⟩, ⟨%dH11, H11⟩, ⟨%dH12, H12⟩, ⟨%dH13, H13⟩, ⟨%dH14, H14⟩, ⟨%dH15, H15⟩, ⟨%dH16, H16⟩, ⟨%dH17, H17⟩⟩, HS, HW⟩
  isplitl [HI]; · iexact HI
  isplitl [H7 H8 H9]
  · isplitl [H7]; · iapply (KV_some c _ _) $$ H7
    isplitl [H8]; · iapply (KV_some c _ _) $$ H8
    iapply (KV_some c _ _) $$ H9
  isplitl [H10 H11 H12 H13 H14 H15 H16 H17]
  · isplitl [H10]; · iapply (KV_some c _ _) $$ H10
    isplitl [H11]; · iapply (KV_some c _ _) $$ H11
    isplitl [H12]; · iapply (KV_some c _ _) $$ H12
    isplitl [H13]; · iapply (KV_some c _ _) $$ H13
    isplitl [H14]; · iapply (KV_some c _ _) $$ H14
    isplitl [H15]; · iapply (KV_some c _ _) $$ H15
    isplitl [H16]; · iapply (KV_some c _ _) $$ H16
    iapply (KV_some c _ _) $$ H17
  isplitl [HS]; · iexact HS
  iexact HW

theorem held_done : (Done c arg0 arg1 arg2 arg3 arg4 arg5 arg6 arg7 arg8 arg9 arg10 arg11 arg12 arg13 arg14 arg15 arg16 arg17 arg18 arg19 arg20 arg21 arg22 X0 M1 M2 X3 S4 B5 E6 : sProp 𝕄) ⊢ Held1 c arg0 arg1 arg2 arg3 arg4 arg5 arg6 arg7 arg8 arg9 arg10 arg11 arg12 arg13 arg14 arg15 arg16 arg17 arg18 arg19 arg20 arg21 arg22 X0 M1 M2 X3 S4 B5 E6 := by
  unfold Held1 Done
  simp only [KV_owns]
  iintro ⟨HI, HR, ⟨H10, H11, H12, H13, H14, H15, H16, H17⟩, HS, HW⟩
  isplitl [HI]; · iexact HI
  isplitl [HR]; · iexact HR
  isplitl [H10 H11 H12 H13 H14 H15 H16 H17]
  · isplitl [H10]; · iapply (KV_has c _) $$ H10
    isplitl [H11]; · iapply (KV_has c _) $$ H11
    isplitl [H12]; · iapply (KV_has c _) $$ H12
    isplitl [H13]; · iapply (KV_has c _) $$ H13
    isplitl [H14]; · iapply (KV_has c _) $$ H14
    isplitl [H15]; · iapply (KV_has c _) $$ H15
    isplitl [H16]; · iapply (KV_has c _) $$ H16
    iapply (KV_has c _) $$ H17
  isplitl [HS]; · iexact HS
  iexact HW

theorem whole_owns (Q : PUnit → sProp 𝕄) :
    Held0 c arg0 arg1 arg2 arg3 arg4 arg5 arg6 arg7 arg8 arg9 arg10 arg11 arg12 arg13 arg14 arg15 arg16 arg17 arg18 arg19 arg20 arg21 arg22 X0 M1 M2 X3 S4 B5 E6
    ⊢ iprop((Held1 c arg0 arg1 arg2 arg3 arg4 arg5 arg6 arg7 arg8 arg9 arg10 arg11 arg12 arg13 arg14 arg15 arg16 arg17 arg18 arg19 arg20 arg21 arg22 X0 M1 M2 X3 S4 B5 E6 -∗ Q ⟨⟩)
      -∗ wp frame (wpE (defs₀ (F := F)) Variants.none (c : Thread nD τ) none) Set.univ (cc0_adaln_fp8 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22) Q) := by
  iintro H HK
  ihave H := (start_held c arg0 arg1 arg2 arg3 arg4 arg5 arg6 arg7 arg8 arg9 arg10 arg11 arg12 arg13 arg14 arg15 arg16 arg17 arg18 arg19 arg20 arg21 arg22 X0 M1 M2 X3 S4 B5 E6) $$ H
  iapply (whole_wp c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 arg22 X0 M1 M2 X3 S4 B5 E6 Q) $$ H
  iintro HD
  iapply HK
  iapply (held_done c arg0 arg1 arg2 arg3 arg4 arg5 arg6 arg7 arg8 arg9 arg10 arg11 arg12 arg13 arg14 arg15 arg16 arg17 arg18 arg19 arg20 arg21 arg22 X0 M1 M2 X3 S4 B5 E6) $$ HD

end Owns

/-- A separating conjunction over a sum type is one over each summand. -/
theorem sep_sum {A B : Type} [Fintype A] [Fintype B] (f : A ⊕ B → sProp 𝕄) :
    bigSep Finset.univ f = iprop(bigSep Finset.univ (fun a => f (.inl a)) ∗ bigSep Finset.univ (fun b => f (.inr b))) := by
  classical
  rw [show (Finset.univ : Finset (A ⊕ B)) = Finset.univ.map ⟨Sum.inl, Sum.inl_injective⟩ ∪ Finset.univ.map ⟨Sum.inr, Sum.inr_injective⟩ from by
    ext x; cases x <;> simp]
  rw [BI.bigSep_union (by
    rw [Finset.disjoint_left]; intro x hx hy
    simp only [Finset.mem_map, Finset.mem_univ, true_and, Function.Embedding.coeFn_mk] at hx hy
    obtain ⟨a, rfl⟩ := hx; obtain ⟨b, h⟩ := hy; cases h), BI.bigSep_map, BI.bigSep_map]
  rfl

/-! ## The kernel's own semaphores, and the buffers its copies read and write -/

abbrev OS : Type := Unit ⊕ Fin 36 ⊕ Fin 9 ⊕ Fin 3 ⊕ Fin 3

abbrev osem : OS → SemLoc sig
  | .inl _ => .dma cc0_scratch8.sem
  | .inr (.inl k) => .dma (cc0_scratch9.ix (ix1 k))
  | .inr (.inr (.inl k)) => .dma (cc0_scratch10.ix (ix1 k))
  | .inr (.inr (.inr (.inl k))) => .dma (cc0_scratch11.ix (ix1 k))
  | .inr (.inr (.inr (.inr k))) => .dma (cc0_scratch12.ix (ix1 k))

/-- Where each of the semaphores stands in the pool. -/
def opos : OS → Fin 58
  | .inl _ => 6
  | .inr (.inl k) => ⟨7 + k.val, by omega⟩
  | .inr (.inr (.inl k)) => ⟨43 + k.val, by omega⟩
  | .inr (.inr (.inr (.inl k))) => ⟨52 + k.val, by omega⟩
  | .inr (.inr (.inr (.inr k))) => ⟨55 + k.val, by omega⟩

theorem osem_eq : ∀ k : OS, osem k = .dma (opos k) := by decide +kernel

theorem ownSemFacts : Pipeline.OwnSemFacts spec0 osem where
  isScoped := by decide +kernel
  inj := by
    have h : Function.Injective opos := by decide +kernel
    intro a b e
    rw [osem_eq, osem_eq] at e
    exact h (by injection e)
  disj := by decide +kernel

theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), .dma cc0_scratch8.sem) 0
      ∗ bigSep Finset.univ (fun k : Fin 36 => semVal ((c : Thread nD τ), .dma (cc0_scratch9.ix (ix1 k))) 0)
      ∗ bigSep Finset.univ (fun k : Fin 9 => semVal ((c : Thread nD τ), .dma (cc0_scratch10.ix (ix1 k))) 0)
      ∗ bigSep Finset.univ (fun k : Fin 3 => semVal ((c : Thread nD τ), .dma (cc0_scratch11.ix (ix1 k))) 0)
      ∗ bigSep Finset.univ (fun k : Fin 3 => semVal ((c : Thread nD τ), .dma (cc0_scratch12.ix (ix1 k))) 0)) := by
  unfold Pipeline.ownSems0
  rw [sep_sum, sep_sum, sep_sum, sep_sum]
  rw [show (Finset.univ : Finset Unit) = {()} from rfl, BI.bigSep_singleton]

def Hs : Finset (Ref sig .tc) := {main_arg0, main_arg3}
def Rs : Finset (Ref sig .tc) := {main_v7_0, main_v7_1}
theorem Hs_sub : Hs ⊆ Pipeline.restRefs sig spec0 := by decide
theorem Rs_sub : Rs ⊆ Pipeline.restRefs sig spec0 \ Hs := by decide

variable (m : (ℓ : Loc nD τ sig) → Buf (Elt F) ℓ) (ρ : Dev nD → PrngReg)

/-! ## The three results -/

abbrev aX (c : Dev nD) : S2x128x2304.Idx → Elt F .bf16 := V m c main_arg0
abbrev aM (c : Dev nD) : S2x2304.Idx → Elt F .f32 := iblk m c 0 t0_0
abbrev aH (c : Dev nD) : S2x2304.Idx → Elt F .f32 := iblk m c 1 t0_0
abbrev aW (c : Dev nD) : S2304x9216.Idx → Elt F .fp8e4m3 := V m c main_arg3
abbrev aS (c : Dev nD) : S18x72.Idx → Elt F .i32 := iblk m c 2 t0_0
abbrev aB (c : Dev nD) : S72x128.Idx → Elt F .f32 := iblk m c 3 t0_0
abbrev aE (c : Dev nD) : S9x8x128.Idx → Elt F .i32 := iblk m c 4 t0_0

def resY (c : Dev nD) : S2x128x9216.Idx → Elt F .bf16 :=
  YC (aS m c) (aB m c) (W10T (aW m c)) (aX m c) (G12T (aM m c)) (H13T (aH m c)) (aE m c)
def resW (c : Dev nD) : S2x2304x9216.Idx → Elt F .fp8e4m3 := WC (W10T (aW m c)) (G12T (aM m c)) (aE m c)
def resS (c : Dev nD) : S2x18x72.Idx → Elt F .i32 := T9 (aS m c) (aE m c)

/-- The buffers when the region is left. -/
def G (c : Dev nD) (b : Ref sig .tc) : Buf (Elt F) ((c : Thread nD τ).loc b) :=
  Function.update (β := fun b : Ref sig .tc => Buf (Elt F) ((c : Thread nD τ).loc b))
    (Function.update (β := fun b : Ref sig .tc => Buf (Elt F) ((c : Thread nD τ).loc b)) (V m c) main_v7_0 (resY m c)) main_v7_1 (resW m c) b

theorem G_0 (c : Dev nD) : G m c main_v7_0 = resY m c := by
  unfold G
  rw [Function.update_of_ne (by decide), Function.update_self]
theorem G_1 (c : Dev nD) : G m c main_v7_1 = resW m c := by
  unfold G
  rw [Function.update_self]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resS m c
  Φ k := if k.val = 0 then Pipeline.ΦDRV osem spec0 Hs Rs (V m) (V m) c else Pipeline.ΦDRV osem spec0 Hs Rs (V m) (G m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = resS m c := by dsimp only [dats]

/-- An input's staging buffer holds the window's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem Phi_eq (c : Dev nD) (R : (c : Dev nD) → (b : Ref sig .tc) → Buf (Elt F) ((c : Thread nD τ).loc b)) :
    (Pipeline.ΦDRV osem spec0 Hs Rs (V m) R c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch6) fullShare d)
          ∗ (∃ d, owns (c : Thread nD τ) (Memref.whole cc0_scratch7) fullShare d) ∗ (∃ d, owns (c : Thread nD τ) (Memref.whole cc0_scratch5) fullShare d))
        ∗ (semVal ((c : Thread nD τ), .dma cc0_scratch8.sem) 0
          ∗ bigSep Finset.univ (fun k : Fin 36 => semVal ((c : Thread nD τ), .dma (cc0_scratch9.ix (ix1 k))) 0)
          ∗ bigSep Finset.univ (fun k : Fin 9 => semVal ((c : Thread nD τ), .dma (cc0_scratch10.ix (ix1 k))) 0)
          ∗ bigSep Finset.univ (fun k : Fin 3 => semVal ((c : Thread nD τ), .dma (cc0_scratch11.ix (ix1 k))) 0)
          ∗ bigSep Finset.univ (fun k : Fin 3 => semVal ((c : Thread nD τ), .dma (cc0_scratch12.ix (ix1 k))) 0))
        ∗ (owns (c : Thread nD τ) (Memref.whole main_arg0) fullShare (aX m c) ∗ owns (c : Thread nD τ) (Memref.whole main_arg3) fullShare (aW m c))
        ∗ (owns (c : Thread nD τ) (Memref.whole main_v7_0) fullShare (R c main_v7_0) ∗ owns (c : Thread nD τ) (Memref.whole main_v7_1) fullShare (R c main_v7_1))) := by
  unfold Pipeline.ΦDRV
  rw [scopedRest0_eq, ownSems_eq, BI.bigSep_eq_bigSepL_of_eq (S := Hs) [main_arg0, main_arg3] (by decide) (by decide),
    BI.bigSep_eq_bigSepL_of_eq (S := Rs) [main_v7_0, main_v7_1] (by decide) (by decide)]
  simp only [owns_whole]
  rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  simp only [before_0, before_1, before_2, before_3, before_4]
  rw [after_0, after_1, after_2, after_3, after_4, after_5]
  rw [show (dats m 0 c).Φ t0_0.castSucc = Pipeline.ΦDRV osem spec0 Hs Rs (V m) (V m) c from rfl, Phi_eq,
    show (dats m 0 c).Φ t0_0.succ = Pipeline.ΦDRV osem spec0 Hs Rs (V m) (G m) c from rfl, Phi_eq, G_0, G_1]
  unfold Dat.owesAt Pipeline.owesWithin
  rw [show (dats m 0 c).owed t0_0.castSucc = 0 from rfl, show (dats m 0 c).owed t0_0.succ = 0 from rfl]
  iintro ⟨⟨⟨⟨%d0, C0⟩, ⟨%d1, C1⟩, ⟨%d2, C2⟩, ⟨%d3, C3⟩, ⟨%d4, C4⟩, ⟨%d6, C6⟩, ⟨%d7, C7⟩, ⟨%d5, C5⟩⟩, HS, ⟨A0, A3⟩, ⟨R0, R1⟩⟩, ⟨%W, -, HW⟩, ⟨%e0, H0⟩, ⟨%e1, H1⟩, ⟨%e2, H2⟩, ⟨%e3, H3⟩, ⟨%e4, H4⟩, ⟨%e5, H5⟩⟩
  iapply (whole_owns c (Memref.whole main_arg0) (Memref.isWhole_whole _) (st0_0 t0_0) (hstage0_0 0) (st0_1 t0_0) (hstage0_1 0) (Memref.whole main_arg3) (Memref.isWhole_whole _)
    (st0_2 t0_0) (hstage0_2 0) (st0_3 t0_0) (hstage0_3 0) (st0_4 t0_0) (hstage0_4 0) (Memref.whole main_v7_0) (Memref.isWhole_whole _) (Memref.whole main_v7_1) (Memref.isWhole_whole _)
    (st0_5 t0_0) (hstage0_5 0) (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 cc0_scratch10 cc0_scratch11 cc0_scratch12
    (aX m c) (aM m c) (aH m c) (aW m c) (aS m c) (aB m c) (aE m c) _) $$ [A0 H0 H1 A3 H2 H3 H4 R0 R1 H5 C0 C1 C2 C3 C4 C5 C6 C7 HS HW]
  · unfold Held0
    isplitl [A0 H0 H1 A3 H2 H3 H4]
    · isplitl [A0]; · iexact A0
      isplitl [H0]; · iexact H0
      isplitl [H1]; · iexact H1
      isplitl [A3]; · iexact A3
      isplitl [H2]; · iexact H2
      isplitl [H3]; · iexact H3
      iexact H4
    isplitl [R0 R1 H5]
    · isplitl [R0]; · iexists _; iexact R0
      isplitl [R1]; · iexists _; iexact R1
      iexists _; iexact H5
    isplitl [C0 C1 C2 C3 C4 C5 C6 C7]
    · isplitl [C0]; · iexists _; iexact C0
      isplitl [C1]; · iexists _; iexact C1
      isplitl [C2]; · iexists _; iexact C2
      isplitl [C3]; · iexists _; iexact C3
      isplitl [C4]; · iexists _; iexact C4
      isplitl [C5]; · iexists _; iexact C5
      isplitl [C6]; · iexists _; iexact C6
      iexists _; iexact C7
    isplitl [HS]; · iexact HS
    iexists W; iexact HW
  unfold Held1
  iintro ⟨⟨A0, H0, H1, A3, H2, H3, H4⟩, ⟨R0, R1, H5⟩, ⟨C0, C1, C2, C3, C4, C5, C6, C7⟩, HS, ⟨%W', HW⟩⟩
  isplitl [C0 C1 C2 C3 C4 C5 C6 C7 HS A0 A3 R0 R1]
  · isplitl [C0 C1 C2 C3 C4 C5 C6 C7]
    · isplitl [C0]; · iexact C0
      isplitl [C1]; · iexact C1
      isplitl [C2]; · iexact C2
      isplitl [C3]; · iexact C3
      isplitl [C4]; · iexact C4
      isplitl [C6]; · iexact C6
      isplitl [C7]; · iexact C7
      iexact C5
    isplitl [HS]; · iexact HS
    isplitl [A0 A3]
    · isplitl [A0]; · iexact A0
      iexact A3
    isplitl [R0]; · iexact R0
    iexact R1
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer when the program ends: the host operations after the region on what the region left. -/
def endAt (c : Dev nD) (b : Ref sig .tc) : Buf (Elt F) ((c : Thread nD τ).loc b) :=
  StableHlo.after (List.flatten [hostOps1]) (Pipeline.withArrays spec0 c (Pipeline.withR (V0 m c) Rs c (G m c)) fun w => (dats m 0 c).arrAt w cfg0.N) (Proc.devRef .tc b)

set_option backward.isDefEq.respectTransparency.types false in
set_option maxHeartbeats 800000 in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endAt m c b) ∧ r.2.sem = fun _ => 0) :=
  Pipeline.θ_run_frame_dmaR_aroundV cfgs (dats m) (0 : Fin 1) launch0 osem defs₀ Variants.none ownSemFacts Hs Rs Hs_sub Rs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun _ => .rfl) (hout := fun _ => .rfl) (Q' := _) (hQ' := fun r h => h)

end Cert.KernelIdeal.Roll

end
-- ==== Proof.Final.lean ====
/-
  What every buffer holds when the whole program ends: the arguments unchanged, the three results.
-/
module

public import proofs.«01_k».proof.Proof.Run
public import Idealize.ShloMosaic.Lib.StableHlo.RunRead

@[expose] public section

set_option maxRecDepth 16384

noncomputable section

namespace Cert.KernelIdeal.Roll

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

/-! ## A window is its whole array -/

theorem iblk_0 (c : Dev nD) : (iblk m c 0 t0_0 : S2x2304.Idx → Elt F .f32) = V m c main_arg1 := by
  funext j
  unfold iblk
  refine congrArg (V m c main_arg1) (funext fun a => Fin.ext ?_)
  show 0 * _ + 1 * (j a).val = (j a).val
  omega
theorem iblk_1 (c : Dev nD) : (iblk m c 1 t0_0 : S2x2304.Idx → Elt F .f32) = V m c main_arg2 := by
  funext j
  unfold iblk
  refine congrArg (V m c main_arg2) (funext fun a => Fin.ext ?_)
  show 0 * _ + 1 * (j a).val = (j a).val
  omega
theorem iblk_2 (c : Dev nD) : (iblk m c 2 t0_0 : S18x72.Idx → Elt F .i32) = V m c main_arg4 := by
  funext j
  unfold iblk
  refine congrArg (V m c main_arg4) (funext fun a => Fin.ext ?_)
  show 0 * _ + 1 * (j a).val = (j a).val
  omega
theorem iblk_3 (c : Dev nD) : (iblk m c 3 t0_0 : S72x128.Idx → Elt F .f32) = V m c main_v0 := by
  funext j
  unfold iblk
  refine congrArg (V m c main_v0) (funext fun a => Fin.ext ?_)
  show 0 * _ + 1 * (j a).val = (j a).val
  omega
theorem iblk_4 (c : Dev nD) : (iblk m c 4 t0_0 : S9x8x128.Idx → Elt F .i32) = V m c main_v6 := by
  funext j
  unfold iblk
  refine congrArg (V m c main_v6) (funext fun a => Fin.ext ?_)
  show 0 * _ + 1 * (j a).val = (j a).val
  omega

/-- The scales' array after the run. -/
theorem arr_5 (c : Dev nD) : ((dats m 0 c).arrAt 5 cfg0.N : S2x18x72.Idx → Elt F .i32) = resS m c := by
  have h := (dats m 0 c).read_blk_arrAt_eq_flushed 5
    (fun t t' _ _ hne => absurd ((fin_N0 t).trans (fin_N0 t').symm) hne) cfg0.N t0_0 t0_0.isLt (flush0_5 t0_0)
  funext j
  have e := congrFun h j
  refine Eq.trans ?_ (e.trans ?_)
  · refine congrArg ((dats m 0 c).arrAt 5 cfg0.N) (funext fun a => Fin.ext ?_)
    show (j a).val = 0 * _ + 1 * (j a).val
    omega
  · show (cfg0.win 5).cut (grid0.coords t0_0) ((dats m 0 c).after 5 t0_0) j = _
    rw [after_5]

/-! ## The end -/

theorem end_of (c : Dev nD) {b : Ref sig .tc} (hb : b ∉ [main_v8]) :
    endAt m c b = Pipeline.withArrays spec0 c (Pipeline.withR (V0 m c) Rs c (G m c)) (fun w => (dats m 0 c).arrAt w cfg0.N) (Proc.devRef .tc b) :=
  StableHlo.after_unwritten [main_v8] rfl hb _

/-- A buffer that is neither an array, nor a result, nor written by the host, ends as the region found it. -/
theorem end_kept (c : Dev nD) {b : Ref sig .tc} (hb : b ∉ [main_v8]) (hr : b ∉ Rs) (ha : ∀ w, Pipeline.arrRef spec0 w ≠ b) :
    endAt m c b = V m c b := by
  rw [end_of m c hb, Pipeline.withArrays_of_ne _ c _ _ b ha]
  exact Pipeline.withR_of_not_mem (V0 m c) Rs c (G m c) b hr

theorem end_result (c : Dev nD) {b : Ref sig .tc} (hb : b ∉ [main_v8]) (hr : b ∈ Rs) (ha : ∀ w, Pipeline.arrRef spec0 w ≠ b) :
    endAt m c b = G m c b := by
  rw [end_of m c hb, Pipeline.withArrays_of_ne _ c _ _ b ha]
  exact Pipeline.withR_of_mem (V0 m c) Rs c (G m c) b hr

theorem end_v8 (c : Dev nD) : (endAt m c main_v8 : S2x18x72.Idx → Elt F .f32) = bitcastToFloat .f32 (resS m c) := by
  unfold endAt
  simp only [hostOps1, List.flatten_cons, List.flatten_nil, List.append_nil]
  rw [StableHlo.after_cons, StableHlo.after_nil]
  refine (StableHlo.unary_result' _ _ _ _).trans ?_
  exact congrArg (bitcastToFloat .f32) ((Pipeline.withArrays_arr spec0 (by decide) c _ _ 5).trans (arr_5 m c))

/-! ## The whole program -/

/-- The arguments end as they were. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- Every run of the program ends with the three results named, the arguments as they were, and every semaphore at zero. -/
theorem results : θ_run defs (onTc (τ := τ) (main (F := F))) ⟨m, fun _ => 0, ρ⟩ (fun r =>
    (∀ c : Dev nD, r.2.mem ((c.tc : Thread nD τ).loc main_v7_0) = resY m c
      ∧ r.2.mem ((c.tc : Thread nD τ).loc main_v7_1) = resW m c
      ∧ r.2.mem ((c.tc : Thread nD τ).loc main_v8) = bitcastToFloat .f32 (resS m c)
      ∧ Kept m c r) ∧ r.2.sem = fun _ => 0) :=
  (θ_run defs _ _).mono (fun r h => ⟨fun c =>
    ⟨((h.1 c).2 main_v7_0 (Pipeline.mem_restRefs_of main_v7_0 (by decide) (by decide))).trans
        ((end_result m c (by decide) (by decide) (by decide)).trans (G_0 m c)),
      ((h.1 c).2 main_v7_1 (Pipeline.mem_restRefs_of main_v7_1 (by decide) (by decide))).trans
        ((end_result m c (by decide) (by decide) (by decide)).trans (G_1 m c)),
      ((h.1 c).2 main_v8 (Pipeline.mem_restRefs_of main_v8 (by decide) (by decide))).trans (end_v8 m c),
      ((h.1 c).2 main_arg0 (Pipeline.mem_restRefs_of main_arg0 (by decide) (by decide))).trans
        ((end_kept m c (by decide) (by decide) (by decide)).trans (V_main_arg0 m c)),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c))),
      ((h.1 c).2 main_arg3 (Pipeline.mem_restRefs_of main_arg3 (by decide) (by decide))).trans
        ((end_kept m c (by decide) (by decide) (by decide)).trans (V_main_arg3 m c)),
      ((h.1 c).1 2).trans (((dats m 0 c).arrAt_in 2 rfl _).trans ((A_eq m c 2).trans (V_main_arg4 m c))),
      ((h.1 c).2 main_arg5 (Pipeline.mem_restRefs_of main_arg5 (by decide) (by decide))).trans
        ((end_kept m c (by decide) (by decide) (by decide)).trans (V_main_arg5 m c)),
      ((h.1 c).2 main_arg6 (Pipeline.mem_restRefs_of main_arg6 (by decide) (by decide))).trans
        ((end_kept m c (by decide) (by decide) (by decide)).trans (V_main_arg6 m c))⟩, h.2⟩)
    (run_main m ρ)

end Cert.KernelIdeal.Roll

end
-- ==== Proof.Words.lean ====
/-
  THE SCALE WORDS: a 32-bit word whose only set bits are an exponent field denotes a power of two; the words the kernel
  builds from a scale's bit pattern and a block's exponent are of that form, and so are their upper halves.
-/
module

public import Idealize.ShloMosaic.PureOps
public import Idealize.ShloMosaic.PureOps.Ideal.Laws
public import Idealize.ShloMosaic.Lib.IdealHost
public import Idealize.ShloMosaic.Lib.Pointwise

@[expose] public section

noncomputable section

namespace Cert.Words

open Idealize.ShloMosaic

/-- The binary32 word with exponent field `n`, sign and fraction zero. -/
def pw (n : Nat) : BitVec 32 := BitVec.ofNat 32 (n * 8388608)

/-- The bfloat16 word with exponent field `n`, sign and fraction zero. -/
def hw (n : Nat) : BitVec 16 := BitVec.ofNat 16 (n * 128)

/-- The power of two that exponent field `n` stands for. -/
def p2 (n : Nat) : ℝ := (2 : ℝ) ^ ((n : Int) - 127)

theorem pw_fields : ∀ n : Fin 255, (pw n).extractLsb' 31 1 = 0#1 ∧ ((pw n).extractLsb' 23 8).toNat = n ∧ ((pw n).extractLsb' 0 23).toNat = 0 := by
  decide

theorem hw_fields : ∀ n : Fin 255, (hw n).extractLsb' 15 1 = 0#1 ∧ ((hw n).extractLsb' 7 8).toNat = n ∧ ((hw n).extractLsb' 0 7).toNat = 0 := by
  decide

/-- A binary32 word that is an exponent field alone denotes its power of two. -/
theorem ofBits_pw (n : Nat) (h1 : 1 ≤ n) (h2 : n ≤ 254) : Ideal.ofBits .f32 (pw n) = ((p2 n : ℝ) : EReal) := by
  obtain ⟨hs, he, hf⟩ := pw_fields ⟨n, by omega⟩
  simp only at hs he hf
  show Ideal.ieee 8 23 (pw n) = _
  unfold Ideal.ieee
  simp only [Nat.reduceAdd, hs, he, hf]
  rw [if_neg (by omega), if_neg (by omega)]
  congr 1
  simp only [p2]
  rw [show ((n : Int) - (2 ^ (8 - 1) - 1) - ((23 : Nat) : Int)) = ((n : Int) - 127) + (-23) by norm_num; omega,
    zpow_add₀ (by norm_num)]
  norm_num
  ring

/-- A bfloat16 word that is an exponent field alone denotes its power of two. -/
theorem ofBits_hw (n : Nat) (h1 : 1 ≤ n) (h2 : n ≤ 254) : Ideal.ofBits .bf16 (hw n) = ((p2 n : ℝ) : EReal) := by
  obtain ⟨hs, he, hf⟩ := hw_fields ⟨n, by omega⟩
  simp only at hs he hf
  show Ideal.ieee 8 7 (hw n) = _
  unfold Ideal.ieee
  simp only [Nat.reduceAdd, hs, he, hf]
  rw [if_neg (by omega), if_neg (by omega)]
  congr 1
  simp only [p2]
  rw [show ((n : Int) - (2 ^ (8 - 1) - 1) - ((7 : Nat) : Int)) = ((n : Int) - 127) + (-7) by norm_num; omega,
    zpow_add₀ (by norm_num)]
  norm_num
  ring

theorem p2_pos (n : Nat) : 0 < p2 n := by unfold p2; positivity

/-- Both halves of a word or-ed with its own upper half, when the word is an exponent field alone. -/
theorem halves : ∀ n : Fin 255, (pw n ||| (pw n >>> 16)).extractLsb' 0 16 = hw n ∧ (pw n ||| (pw n >>> 16)).extractLsb' 16 16 = hw n := by
  decide

/-- What is asked of a scale's word `w` and a block's exponent `e`: `w` is an exponent field `n` alone, and both `n` and
    `n` moved by `e` are fields of normal numbers. -/
theorem word_of (w e : BitVec 32) (hm : w &&& 8388607#32 = 0#32) (hk1 : (1#32).sle (w.sshiftRight' 23#32) = true)
    (hk2 : (w.sshiftRight' 23#32).sle 254#32 = true) (he1 : (4294967169#32).sle e = true) (he2 : e.sle 126#32 = true)
    (ha1 : (1#32).sle (w.sshiftRight' 23#32 + e) = true) (ha2 : (w.sshiftRight' 23#32 + e).sle 254#32 = true) :
    ∃ n : Nat, 1 ≤ n ∧ n ≤ 254 ∧ w = pw n ∧ -127 ≤ e.toInt ∧ e.toInt ≤ 126 ∧ 1 ≤ (n : Int) + e.toInt ∧ (n : Int) + e.toInt ≤ 254 := by
  have hsh : (w.sshiftRight' 23#32).toInt = w.toInt / 8388608 := by
    rw [BitVec.sshiftRight', BitVec.toInt_sshiftRight, Int.shiftRight_eq_div_pow]; norm_num
  rw [BitVec.sle_eq_decide, decide_eq_true_eq] at hk1 hk2 he1 he2 ha1 ha2
  have hmod : w.toNat % 8388608 = 0 := by
    have := congrArg BitVec.toNat hm
    rw [BitVec.toNat_and, show (8388607#32).toNat = 2 ^ 23 - 1 from rfl, Nat.and_two_pow_sub_one_eq_mod] at this
    simpa using this
  have hw32 : w.toNat < 4294967296 := w.isLt
  have he32 : e.toNat < 4294967296 := e.isLt
  have c1 : (1#32).toInt = 1 := by decide
  have c2 : (254#32).toInt = 254 := by decide
  have c3 : (4294967169#32).toInt = -127 := by decide
  have c4 : (126#32).toInt = 126 := by decide
  rw [c1] at hk1 ha1; rw [c2] at hk2 ha2; rw [c3] at he1; rw [c4] at he2
  rw [hsh] at hk1 hk2
  rw [BitVec.toInt_add, hsh] at ha1 ha2
  rw [BitVec.toInt_eq_toNat_cond] at hk1 hk2
  have hadd : (w.toInt / 8388608 + e.toInt).bmod (2 ^ 32) = w.toInt / 8388608 + e.toInt := by
    rw [BitVec.toInt_eq_toNat_cond w]
    refine Int.bmod_eq_of_le ?_ ?_ <;> norm_num <;> split at hk1 <;> omega
  rw [hadd] at ha1 ha2
  rw [BitVec.toInt_eq_toNat_cond w] at ha1 ha2
  refine ⟨w.toNat / 8388608, ?_, ?_, ?_, he1, he2, ?_, ?_⟩
  · split at hk1 <;> omega
  · split at hk1 <;> omega
  · refine BitVec.eq_of_toNat_eq ?_
    rw [pw, BitVec.toNat_ofNat]; omega
  · split at ha1 <;> omega
  · split at ha1 <;> split at hk1 <;> omega

/-- The word of the scale moved by the block's exponent. -/
theorem add_shl (n : Nat) (e : BitVec 32) (h1 : 1 ≤ (n : Int) + e.toInt) (h2 : (n : Int) + e.toInt ≤ 254) (he : -127 ≤ e.toInt) (he' : e.toInt ≤ 126) :
    pw n + (e <<< (23#32)) = pw ((n : Int) + e.toInt).toNat := by
  refine BitVec.eq_of_toNat_eq ?_
  rw [BitVec.toNat_add, BitVec.shiftLeft_eq', BitVec.toNat_shiftLeft, Nat.shiftLeft_eq, pw, pw, BitVec.toNat_ofNat, BitVec.toNat_ofNat]
  have he32 : e.toNat < 4294967296 := e.isLt
  rw [BitVec.toInt_eq_toNat_cond] at *
  rw [show (2 ^ (23 % 2 ^ 32) : Nat) = 8388608 by norm_num, BitVec.toNat_ofNat]
  split at h1 <;> rename_i hh <;> simp only [hh, if_true, if_false, ↓reduceIte] at * <;> omega

/-- The word of one over the block's power of two. -/
theorem sub_shl (e : BitVec 32) (he : -127 ≤ e.toInt) (he' : e.toInt ≤ 126) :
    1065353216#32 - (e <<< (23#32)) = pw (127 - e.toInt).toNat := by
  refine BitVec.eq_of_toNat_eq ?_
  rw [BitVec.toNat_sub, BitVec.shiftLeft_eq', BitVec.toNat_shiftLeft, Nat.shiftLeft_eq, pw, BitVec.toNat_ofNat]
  have he32 : e.toNat < 4294967296 := e.isLt
  rw [BitVec.toInt_eq_toNat_cond] at *
  rw [show (2 ^ (23 % 2 ^ 32) : Nat) = 8388608 by norm_num, show (1065353216#32).toNat = 1065353216 from rfl, BitVec.toNat_ofNat]
  split at he <;> rename_i hh <;> simp only [hh, if_true, if_false, ↓reduceIte] at * <;> omega

theorem p2_add (n : Nat) (e : Int) (h : 0 ≤ (n : Int) + e) : p2 ((n : Int) + e).toNat = p2 n * (2 : ℝ) ^ e := by
  unfold p2
  rw [Int.toNat_of_nonneg h, ← zpow_add₀ (by norm_num)]
  congr 1; omega

theorem p2_sub (e : Int) (h : 0 ≤ 127 - e) : p2 (127 - e).toNat = ((2 : ℝ) ^ e)⁻¹ := by
  unfold p2
  rw [Int.toNat_of_nonneg h, ← zpow_neg]
  congr 1; omega

end Cert.Words

end
-- ==== Proof.PayVal.lean ====
/-
  What the kernel's block payloads hold at an index, over the extended reals.
-/
module

public import proofs.«01_k».proof.Proof.Gen.KernelIdeal.Skeleton
public import proofs.«01_k».proof.Proof.Words
public import Idealize.ShloMosaic.Lib.Pointwise
public import Idealize.ShloMosaic.Lib.BitcastPair

@[expose] public section

set_option maxRecDepth 16384

noncomputable section

namespace Cert.KernelIdeal.Val

open Idealize.ShloMosaic
open Cert.KernelIdeal Cert.KernelIdeal.Gen Cert.Words

/-- The greatest and the least finite value of the code's format, as the body writes them. -/
def clip (x : EReal) : EReal := min (Ideal.ofBits .f32 0x43E00000#32) (max (Ideal.ofBits .f32 0xC3E00000#32) x)

theorem pay5_at (v : FVec Ideal S1x128x128 .fp8e4m3) (i j : Fin 128) : k0_pay5 (F := Ideal) v (ix2 i j) = v (ix3 0 i j) := by
  pointwise [k0_pay5]

theorem pay4_at (s : BitVec 32) (h : FVec Ideal S8x128 .f32) (a : Fin 8) (j : Fin 128) :
    k0_pay4 (F := Ideal) s h (ix2 a j) = h (ix2 a j) * Ideal.ofBits .f32 s := by
  pointwise [k0_pay4]
  try rfl

theorem pay6_at (wf : FVec Ideal S128x128 .f32) (inv : BitVec 32) (g : FVec Ideal S1x128x128 .f32) (i j : Fin 128) :
    k0_pay6 (F := Ideal) wf inv g (ix2 i j) = clip (wf (ix2 i j) * (g (ix3 0 i j) * Ideal.ofBits .f32 inv)) := by
  unfold clip
  pointwise [k0_pay6]
  try rfl

theorem half_at (n : Nat) (h : n ≤ 254) (j : S128x128.Idx) :
    bitcast S128x128 16 (broadcast S64x128 (pw n ||| (pw n >>> 16))) bitcasts_S64x128_w32_S128x128_w16 j = hw n := by
  obtain ⟨h0, h1⟩ := halves ⟨n, by omega⟩
  rw [bitcast_32_16]
  show (pw n ||| (pw n >>> 16)).extractLsb' _ 16 = _
  generalize S128x128.row j = q
  rcases Nat.mod_two_eq_zero_or_one q with e | e
  · rw [e]; exact h0
  · rw [e]; exact h1

theorem shr16 (w : BitVec 32) : Scalar.shrui w 16#32 = w >>> 16 := by
  unfold Scalar.shrui IntOp.shrui
  rw [if_pos (by decide)]
  rfl

theorem or16 (w : BitVec 32) : Scalar.ori w (Scalar.shrui w 16#32) = w ||| (w >>> 16) := by
  rw [shr16]
  rfl

theorem pay8_word (wf : FVec Ideal S128x128 .f32) (inv w : BitVec 32) (g : FVec Ideal S1x128x128 .f32) (i j : Fin 128) :
    k0_pay8 (F := Ideal) wf inv w g (ix2 i j) = (k0_pay6 (F := Ideal) wf inv g (ix2 i j) : EReal)
      * Ideal.ofBits .bf16 (bitcast S128x128 16 (broadcast S64x128 (Scalar.ori w (Scalar.shrui w 16#32))) bitcasts_S64x128_w32_S128x128_w16 (ix2 i j)) := by
  unfold k0_pay8
  rfl

theorem pay8_at (wf : FVec Ideal S128x128 .f32) (inv : BitVec 32) (n : Nat) (hn : 1 ≤ n) (h : n ≤ 254) (g : FVec Ideal S1x128x128 .f32) (i j : Fin 128) :
    k0_pay8 (F := Ideal) wf inv (pw n) g (ix2 i j)
      = clip (wf (ix2 i j) * (g (ix3 0 i j) * Ideal.ofBits .f32 inv)) * ((p2 n : ℝ) : EReal) := by
  have h1 : Ideal.ofBits .bf16 (bitcast S128x128 16 (broadcast S64x128 (Scalar.ori (pw n) (Scalar.shrui (pw n) 16#32))) bitcasts_S64x128_w32_S128x128_w16 (ix2 i j))
      = ((p2 n : ℝ) : EReal) := by
    refine Eq.trans (congrArg (Ideal.ofBits .bf16) ?_) (ofBits_hw n hn h)
    refine Eq.trans ?_ (half_at n h (ix2 i j))
    exact congrArg (fun w => bitcast S128x128 16 (broadcast S64x128 w) bitcasts_S64x128_w32_S128x128_w16 (ix2 i j)) (or16 (pw n))
  exact (pay8_word wf inv (pw n) g i j).trans (congrArg₂ (· * ·) (pay6_at wf inv g i j) h1)

theorem pay43_lo (acc : FVec Ideal S128x256 .f32) (a b c d : FVec Ideal S128x128 .bf16) (x : FVec Ideal S1x128x256 .bf16) (s j : Fin 128) :
    k0_pay43 (F := Ideal) acc a b c d x (ix2 s ⟨j.val, by omega⟩) = acc (ix2 s ⟨j.val, by omega⟩)
      + ((∑ i : Fin 128, x (ix3 0 s ⟨i.val, by omega⟩) * a (ix2 i j)) + ∑ i : Fin 128, x (ix3 0 s ⟨128 + i.val, by omega⟩) * c (ix2 i j)) := by
  pointwise [k0_pay43]

theorem pay43_hi (acc : FVec Ideal S128x256 .f32) (a b c d : FVec Ideal S128x128 .bf16) (x : FVec Ideal S1x128x256 .bf16) (s j : Fin 128) :
    k0_pay43 (F := Ideal) acc a b c d x (ix2 s ⟨128 + j.val, by omega⟩) = acc (ix2 s ⟨128 + j.val, by omega⟩)
      + ((∑ i : Fin 128, x (ix3 0 s ⟨i.val, by omega⟩) * b (ix2 i j)) + ∑ i : Fin 128, x (ix3 0 s ⟨128 + i.val, by omega⟩) * d (ix2 i j)) := by
  pointwise [k0_pay43]

theorem pay42_lo (acc : FVec Ideal S16x256 .f32) (a b c d : FVec Ideal S8x128 .f32) (x : FVec Ideal S1x256x256 .fp8e4m3) (r : Fin 8) (j : Fin 256) :
    k0_pay42 (F := Ideal) acc a b c d x (ix2 ⟨r.val, by omega⟩ j) = acc (ix2 ⟨r.val, by omega⟩ j)
      + ((∑ i : Fin 128, a (ix2 r i) * x (ix3 0 ⟨i.val, by omega⟩ j)) + ∑ i : Fin 128, c (ix2 r i) * x (ix3 0 ⟨128 + i.val, by omega⟩ j)) := by
  pointwise [k0_pay42]

theorem pay42_hi (acc : FVec Ideal S16x256 .f32) (a b c d : FVec Ideal S8x128 .f32) (x : FVec Ideal S1x256x256 .fp8e4m3) (r : Fin 8) (j : Fin 256) :
    k0_pay42 (F := Ideal) acc a b c d x (ix2 ⟨8 + r.val, by omega⟩ j) = acc (ix2 ⟨8 + r.val, by omega⟩ j)
      + ((∑ i : Fin 128, b (ix2 r i) * x (ix3 0 ⟨i.val, by omega⟩ j)) + ∑ i : Fin 128, d (ix2 r i) * x (ix3 0 ⟨128 + i.val, by omega⟩ j)) := by
  pointwise [k0_pay42]

theorem pay382_at (r : FVec Ideal S16x256 .f32) (a : FVec Ideal S128x256 .f32) (b : FVec Ideal S1x128 .f32) (s j : Fin 128) :
    k0_pay382 (F := Ideal) r a b (ix4 0 0 s j) = a (ix2 s ⟨j.val, by omega⟩)
      + (((r (ix2 0 ⟨j.val, by omega⟩) + r (ix2 1 ⟨j.val, by omega⟩)) + r (ix2 2 ⟨j.val, by omega⟩)) + b (ix2 0 j)) := by
  pointwise [k0_pay382]
  try rfl

theorem pay383_at (r : FVec Ideal S16x256 .f32) (a : FVec Ideal S128x256 .f32) (b : FVec Ideal S1x128 .f32) (s j : Fin 128) :
    k0_pay383 (F := Ideal) r a b (ix4 0 0 s j) = a (ix2 s ⟨128 + j.val, by omega⟩)
      + (((r (ix2 8 ⟨128 + j.val, by omega⟩) + r (ix2 9 ⟨128 + j.val, by omega⟩)) + r (ix2 10 ⟨128 + j.val, by omega⟩)) + b (ix2 0 j)) := by
  pointwise [k0_pay383]
  try rfl

theorem pay385_at (r : FVec Ideal S16x256 .f32) (a : FVec Ideal S128x256 .f32) (b : FVec Ideal S1x128 .f32) (s j : Fin 128) :
    k0_pay385 (F := Ideal) a (k0_pay384 r) b (ix4 0 0 s j) = a (ix2 s ⟨j.val, by omega⟩)
      + (((r (ix2 3 ⟨j.val, by omega⟩) + r (ix2 4 ⟨j.val, by omega⟩)) + r (ix2 5 ⟨j.val, by omega⟩)) + b (ix2 0 j)) := by
  pointwise [k0_pay385, k0_pay384]
  try rfl

theorem pay386_at (r : FVec Ideal S16x256 .f32) (a : FVec Ideal S128x256 .f32) (b : FVec Ideal S1x128 .f32) (s j : Fin 128) :
    k0_pay386 (F := Ideal) r a b (ix4 0 0 s j) = a (ix2 s ⟨128 + j.val, by omega⟩)
      + (((r (ix2 11 ⟨128 + j.val, by omega⟩) + r (ix2 12 ⟨128 + j.val, by omega⟩)) + r (ix2 13 ⟨128 + j.val, by omega⟩)) + b (ix2 0 j)) := by
  pointwise [k0_pay386]
  try rfl

theorem pay387_at (v : FVec Ideal S1x128 .f32) (i j : Fin 128) : k0_pay387 (F := Ideal) v (ix3 0 i j) = 1 + v (ix2 0 i) := by
  pointwise [k0_pay387]
  try rfl

/-! ## The shift's three pieces: the first is the shift, the others are its difference with itself -/

variable (v : FVec Ideal S2x2304 .f32) (k : Fin 2304)

theorem piece0_0 : k0_pay433 (F := Ideal) (k0_pay432 v) (ix2 0 k) = v (ix2 0 k) := by
  pointwise [k0_pay433, k0_pay432, k0_pay431]
theorem piece0_1 : k0_pay434 (F := Ideal) (k0_pay431 v) (ix2 0 k) = v (ix2 1 k) := by
  pointwise [k0_pay434, k0_pay431]
theorem piece1_0 : k0_pay437 (F := Ideal) v (k0_pay431 v) (ix2 0 k) = v (ix2 0 k) - v (ix2 0 k) := by
  pointwise [k0_pay437, k0_pay436, k0_pay435, k0_pay431]
theorem piece1_1 : k0_pay438 (F := Ideal) v (k0_pay431 v) (ix2 0 k) = v (ix2 1 k) - v (ix2 1 k) := by
  pointwise [k0_pay438, k0_pay436, k0_pay435, k0_pay431]
theorem piece2_0 : k0_pay440 (F := Ideal) v (k0_pay431 v) (ix2 0 k) = (v (ix2 0 k) - v (ix2 0 k)) - (v (ix2 0 k) - v (ix2 0 k)) := by
  pointwise [k0_pay440, k0_pay439, k0_pay436, k0_pay435, k0_pay431]
theorem piece2_1 : k0_pay441 (F := Ideal) v (k0_pay431 v) (ix2 0 k) = (v (ix2 1 k) - v (ix2 1 k)) - (v (ix2 1 k) - v (ix2 1 k)) := by
  pointwise [k0_pay441, k0_pay439, k0_pay436, k0_pay435, k0_pay431]

end Cert.KernelIdeal.Val

end
-- ==== Proof.RefVal.lean ====
/-
  What the reference's payloads hold at an index, over the extended reals.
-/
module

public import proofs.«01_k».proof.Proof.Gen.ReferenceIdeal.Frame
public import Idealize.ShloMosaic.Lib.Pointwise

@[expose] public section

noncomputable section

namespace Cert.ReferenceIdeal.Read

open Idealize.ShloMosaic
open Cert.ReferenceIdeal Cert.ReferenceIdeal.Gen

/-- The block scale of image `b`'s weight: the weight's own scale times two to the block's exponent. -/
def sc (wsb : IVec S18x72 32) (e : IVec S2x18x72 32) (b : Fin 2) (k : Fin 18) (n : Fin 72) : EReal :=
  Ideal.ofBits .f32 (wsb (ix2 k n)) * Ideal.exp2 (FloatOps.sitofp (F := Ideal) .f32 (e (ix3 b k n)))

/-- The weight with its scale multiplied in. -/
def wt (wsb : IVec S18x72 32) (w : FVec Ideal S2304x9216 .fp8e4m3) (k : Fin 2304) (n : Fin 9216) : EReal :=
  w (ix2 k n) * Ideal.ofBits .f32 (wsb (ix2 ⟨k.val / 128, by omega⟩ ⟨n.val / 128, by omega⟩))

/-- The code of image `b`'s modulated weight. -/
def code (wsb : IVec S18x72 32) (w : FVec Ideal S2304x9216 .fp8e4m3) (e : IVec S2x18x72 32) (ms : FVec Ideal S2x2304 .f32)
    (b : Fin 2) (k : Fin 2304) (n : Fin 9216) : EReal :=
  min (Ideal.ofBits .f32 0x43E00000#32) (max (Ideal.ofBits .f32 0xC3E00000#32)
    (Ideal.div ((1 + ms (ix2 b k)) * wt wsb w k n) (sc wsb e b ⟨k.val / 128, by omega⟩ ⟨n.val / 128, by omega⟩)))

set_option maxRecDepth 16384

theorem pay5_at (wsb : IVec S18x72 32) (e : IVec S2x18x72 32) (b : Fin 2) (k : Fin 18) (n : Fin 72) :
    k0_pay5 (F := Ideal) wsb e (ix3 b k n) = sc wsb e b k n := by
  unfold sc
  pointwise [k0_pay5, k0_pay2]
  rfl

theorem pay6_at (wsb : IVec S18x72 32) (e : IVec S2x18x72 32) (b : Fin 2) (k : Fin 2304) (n : Fin 9216) :
    k0_pay6 (F := Ideal) wsb e (ix3 b k n) = sc wsb e b ⟨k.val / 128, by omega⟩ ⟨n.val / 128, by omega⟩ := by
  rw [← pay5_at]
  pointwise [k0_pay6]

theorem pay4_at (wsb : IVec S18x72 32) (k : Fin 2304) (n : Fin 9216) :
    k0_pay4 (F := Ideal) wsb (ix2 k n) = Ideal.ofBits .f32 (wsb (ix2 ⟨k.val / 128, by omega⟩ ⟨n.val / 128, by omega⟩)) := by
  pointwise [k0_pay4, k0_pay2]

theorem pay7_at (wsb : IVec S18x72 32) (w : FVec Ideal S2304x9216 .fp8e4m3) (e : IVec S2x18x72 32) (ms : FVec Ideal S2x2304 .f32)
    (b : Fin 2) (k : Fin 2304) (n : Fin 9216) :
    k0_pay7 (F := Ideal) wsb w e ms (ix3 b k n) = code wsb w e ms b k n := by
  unfold code wt
  rw [← pay4_at, ← pay6_at]
  pointwise [k0_pay7, k0_pay3]

theorem pay8_at (wsb : IVec S18x72 32) (w : FVec Ideal S2304x9216 .fp8e4m3) (e : IVec S2x18x72 32) (ms : FVec Ideal S2x2304 .f32)
    (hb : FVec Ideal S2x128x2304 .bf16) (b : Fin 2) (s : Fin 128) (n : Fin 9216) :
    k0_pay8 (F := Ideal) wsb w e ms hb (ix3 b s n)
      = ∑ k : Fin 2304, hb (ix3 b s k) * (code wsb w e ms b k n * sc wsb e b ⟨k.val / 128, by omega⟩ ⟨n.val / 128, by omega⟩) := by
  simp only [← pay7_at, ← pay6_at]
  pointwise [k0_pay8]

theorem pay9_at (wsb : IVec S18x72 32) (w : FVec Ideal S2304x9216 .fp8e4m3) (sh : FVec Ideal S2x2304 .f32) (b : Fin 2) (n : Fin 9216) :
    k0_pay9 (F := Ideal) wsb w sh (ix2 b n) = ∑ k : Fin 2304, sh (ix2 b k) * wt wsb w k n := by
  unfold wt
  simp only [← pay4_at]
  pointwise [k0_pay9, k0_pay3]

theorem pay1_at (x : FVec Ideal S2x128x9216 .f32) (y : FVec Ideal S2x9216 .f32) (z : FVec Ideal S1x9216 .f32) (b : Fin 2) (s : Fin 128) (n : Fin 9216) :
    k0_pay1 (F := Ideal) x y z (ix3 b s n) = x (ix3 b s n) + (y (ix2 b n) + z (ix2 0 n)) := by
  pointwise [k0_pay1]

end Cert.ReferenceIdeal.Read

end
-- ==== Proof.BlockVal.lean ====
/-
  What the blocks of one trip hold, over the extended reals and in terms of the arguments: the codes, the scales, the tiles
  of the matrix product, the rows of the shift's product.
-/
module

public import proofs.«01_k».proof.Proof.PayVal
public import proofs.«01_k».proof.Proof.RefVal
public import proofs.«01_k».proof.Proof.Run

@[expose] public section

set_option maxRecDepth 16384

noncomputable section

namespace Cert.KernelIdeal.Val

open Idealize.ShloMosaic
open Cert.KernelIdeal Cert.KernelIdeal.Gen Cert.KernelIdeal.Roll Cert.Words
open Cert.ReferenceIdeal.Read (code sc wt)

/-! ## Positions -/

/-- The block column of half `n` of trip `t`. -/
def col (t : T3) (n : Fin 2) : Fin 72 := ⟨2 * t.val + n.val, by have := t_lt t; omega⟩
/-- Row `i` of row block `k`. -/
def row (k : Fin 18) (i : Fin 128) : Fin 2304 := ⟨128 * k.val + i.val, by omega⟩
/-- Column `j` of half `n` of trip `t`. -/
def lane (t : T3) (n : Fin 2) (j : Fin 128) : Fin 9216 := ⟨256 * t.val + 128 * n.val + j.val, by have := t_lt t; omega⟩

theorem row_div (k : Fin 18) (i : Fin 128) (h : (row k i).val / 128 < 18) : (⟨(row k i).val / 128, h⟩ : Fin 18) = k :=
  Fin.ext (by show (128 * k.val + i.val) / 128 = k.val; omega)
theorem lane_div (t : T3) (n : Fin 2) (j : Fin 128) (h : (lane t n j).val / 128 < 72) : (⟨(lane t n j).val / 128, h⟩ : Fin 72) = col t n :=
  Fin.ext (by show (256 * t.val + 128 * n.val + j.val) / 128 = 2 * t.val + n.val; omega)

/-! ## The scale words -/

variable (wsb : IVec S18x72 32) (e : IVec S2x18x72 32)

/-- Every scale of the weight is a power of two, and stays one, in the normal range, when a block's exponent moves it. -/
def Good : Prop := ∀ (b : Fin 2) (k : Fin 18) (n : Fin 72), ∃ N : Nat, 1 ≤ N ∧ N ≤ 254 ∧ wsb (ix2 k n) = pw N
  ∧ -127 ≤ (e (ix3 b k n)).toInt ∧ (e (ix3 b k n)).toInt ≤ 126 ∧ 1 ≤ (N : Int) + (e (ix3 b k n)).toInt ∧ (N : Int) + (e (ix3 b k n)).toInt ≤ 254

theorem not_big (x : BitVec 32) (h : x.toInt ≤ 126) : Scalar.cmpi .eq x 1048576#32 = 0#1 := by
  have hne : x ≠ 1048576#32 := by
    rintro rfl
    exact absurd h (by decide)
  have hb : (x == 1048576#32) = false := by simpa using hne
  show BitVec.ofBool (x == 1048576#32) = 0#1
  rw [hb]
  rfl

theorem shl23 (x : BitVec 32) : Scalar.shli x 23#32 = x <<< (23#32) := by
  unfold Scalar.shli IntOp.shli
  rw [if_pos (by decide)]

theorem invW_eq (x : BitVec 32) (h : -127 ≤ x.toInt) (h' : x.toInt ≤ 126) : invW x = pw (127 - x.toInt).toNat := by
  unfold invW
  rw [not_big x h', ← sub_shl x h h', ← shl23]
  rfl

theorem scW_eq (N : Nat) (x : BitVec 32) (h : -127 ≤ x.toInt) (h' : x.toInt ≤ 126) (h1 : 1 ≤ (N : Int) + x.toInt) (h2 : (N : Int) + x.toInt ≤ 254) :
    scW (pw N) x = pw ((N : Int) + x.toInt).toNat := by
  unfold scW
  rw [not_big x h', ← add_shl N x h1 h2 h h', ← shl23]
  rfl

/-- One over the block's power of two. -/
theorem inv_val (x : BitVec 32) (h : -127 ≤ x.toInt) (h' : x.toInt ≤ 126) :
    Ideal.ofBits .f32 (invW x) = ((((2 : ℝ) ^ x.toInt)⁻¹ : ℝ) : EReal) := by
  rw [invW_eq x h h', ofBits_pw _ (by omega) (by omega), p2_sub _ (by omega)]

theorem exp2_val (x : BitVec 32) : Ideal.exp2 (FloatOps.sitofp (F := Ideal) .f32 x) = (((2 : ℝ) ^ x.toInt : ℝ) : EReal) := by
  show Ideal.exp2 (((x.toInt : ℝ) : EReal)) = _
  rw [Ideal.exp2_coe]
  exact congrArg _ (Real.rpow_intCast 2 x.toInt)

theorem sc_val (b : Fin 2) (k : Fin 18) (n : Fin 72) (N : Nat) (h1 : 1 ≤ N) (h2 : N ≤ 254) (hw : wsb (ix2 k n) = pw N) :
    sc wsb e b k n = ((p2 N * (2 : ℝ) ^ (e (ix3 b k n)).toInt : ℝ) : EReal) := by
  unfold sc
  rw [hw, ofBits_pw N h1 h2, exp2_val, ← EReal.coe_mul]

/-- A quotient by a product of powers of two. -/
theorem div_alg (a w : EReal) (p q : ℝ) (hp : 0 < p) (hq : 0 < q) :
    Ideal.div (a * (w * (p : EReal))) ((p * q : ℝ) : EReal) = w * (a * ((q⁻¹ : ℝ) : EReal)) := by
  rw [Ideal.div_coe (by positivity)]
  have h : (p : EReal) * ((1 / (p * q) : ℝ) : EReal) = ((q⁻¹ : ℝ) : EReal) := by
    rw [← EReal.coe_mul]
    congr 1
    field_simp
  rw [← h]
  ac_rfl

/-! ## The reads -/

variable (w : FVec Ideal S2304x9216 .fp8e4m3) (ms sh : FVec Ideal S2x2304 .f32)

theorem rS_at (t : T3) (k : Fin 18) (n : Fin 2) (f : S1x1.Idx) : wsb ((rS t k n).emb f) = wsb (ix2 k (col t n)) := by
  refine congrArg wsb (funext fun a => Fin.ext ?_)
  refine (unit_val (s := S18x72) (oS t k n) S1x1.size (oS_inb t k n) f a).trans ?_
  have f0 : (f 0).val < 1 := (f 0).isLt
  have f1 : (f 1).val < 1 := (f 1).isLt
  match a with
  | ⟨0, _⟩ => show k.val + (f 0).val = k.val; omega
  | ⟨1, _⟩ => show cI t n + (f 1).val = 2 * t.val + n.val; rw [cI_eq]; omega

theorem sV_at (t : T3) (k : Fin 18) (n : Fin 2) : sV (F := Ideal) wsb t k n = wsb (ix2 k (col t n)) := rS_at wsb t k n _

theorem wV_at (t : T3) (k : Fin 18) (n : Fin 2) (i j : Fin 128) :
    wV (F := Ideal) (W10T w) t k n (ix3 0 i j) = w (ix2 (row k i) (lane t n j)) := by
  unfold wV W10T
  refine congrArg w (funext fun a => Fin.ext ?_)
  have v := fun a => unit_val (s := S36x2304x256) (oW t k n) S1x128x128.size (oW_inb t k n) (ix3 0 i j) a
  match a with
  | ⟨0, _⟩ => refine (v 1).trans ?_; show 128 * k.val + i.val = 128 * k.val + i.val; rfl
  | ⟨1, _⟩ =>
    have v0 : (((rW t k n).emb (ix3 0 i j) 0 : Fin _) : Nat) = tI t + 0 := v 0
    have v2 : (((rW t k n).emb (ix3 0 i j) 2 : Fin _) : Nat) = 128 * n.val + j.val := v 2
    rw [tI_eq] at v0
    show 256 * ((rW t k n).emb (ix3 0 i j) 0).val + ((rW t k n).emb (ix3 0 i j) 2).val = 256 * t.val + 128 * n.val + j.val
    omega

theorem wkV_at (t : T3) (kp : Fin 9) (i c : Fin 256) :
    wkV (F := Ideal) (W10T w) t kp (ix3 0 i c) = w (ix2 ⟨256 * kp.val + i.val, by omega⟩ ⟨256 * t.val + c.val, by have := t_lt t; omega⟩) := by
  unfold wkV W10T
  refine congrArg w (funext fun a => Fin.ext ?_)
  have v := fun a => unit_val (s := S36x2304x256) (oWk t kp) S1x256x256.size (oWk_inb t kp) (ix3 0 i c) a
  match a with
  | ⟨0, _⟩ => refine (v 1).trans ?_; show 256 * kp.val + i.val = 256 * kp.val + i.val; rfl
  | ⟨1, _⟩ =>
    have v0 : (((rWk t kp).emb (ix3 0 i c) 0 : Fin _) : Nat) = tI t + 0 := v 0
    have v2 : (((rWk t kp).emb (ix3 0 i c) 2 : Fin _) : Nat) = 0 + c.val := v 2
    rw [tI_eq] at v0
    show 256 * ((rWk t kp).emb (ix3 0 i c) 0).val + ((rWk t kp).emb (ix3 0 i c) 2).val = 256 * t.val + c.val
    omega

theorem hV_at (H : FVec Ideal S8x2304 .f32) (k : Fin 18) (a : Fin 8) (i : Fin 128) : hV (F := Ideal) H k (ix2 a i) = H (ix2 a (row k i)) := by
  unfold hV
  refine congrArg H (funext fun x => Fin.ext ?_)
  refine (unit_val (s := S8x2304) (oH k) S8x128.size (oH_inb k) (ix2 a i) x).trans ?_
  match x with
  | ⟨0, _⟩ => show 0 + a.val = a.val; omega
  | ⟨1, _⟩ => show 128 * k.val + i.val = 128 * k.val + i.val; rfl

theorem xV_at (X : FVec Ideal S2x128x2304 .bf16) (kp : Fin 9) (b : Fin 2) (s : Fin 128) (i : Fin 256) :
    xV (F := Ideal) X kp b (ix3 0 s i) = X (ix3 b s ⟨256 * kp.val + i.val, by omega⟩) := by
  unfold xV
  refine congrArg X (funext fun x => Fin.ext ?_)
  refine (unit_val (s := S2x128x2304) (oX kp b) S1x128x256.size (oX_inb kp b) (ix3 0 s i) x).trans ?_
  match x with
  | ⟨0, _⟩ => show b.val + 0 = b.val; omega
  | ⟨1, _⟩ => show 0 + s.val = s.val; omega
  | ⟨2, _⟩ => show 256 * kp.val + i.val = 256 * kp.val + i.val; rfl

theorem bV_at (B : FVec Ideal S72x128 .f32) (t : T3) (n : Fin 2) (j : Fin 128) : bV (F := Ideal) B t n (ix2 0 j) = B (ix2 (col t n) j) := by
  unfold bV
  refine congrArg B (funext fun x => Fin.ext ?_)
  refine (unit_val (s := S72x128) (oB t n) S1x128.size (oB_inb t n) (ix2 0 j) x).trans ?_
  match x with
  | ⟨0, _⟩ => show cI t n + 0 = 2 * t.val + n.val; rw [cI_eq]; omega
  | ⟨1, _⟩ => show 0 + j.val = j.val; omega

theorem G12T_at (b : Fin 2) (K : Fin 2304) (j : Fin 128) : G12T (F := Ideal) ms (ix3 b K j) = 1 + ms (ix2 b K) := by
  unfold G12T
  refine (congrArg (k0_pay387 (F := Ideal) _) (ix3_eq_valueIdx _ _ _).symm).trans ?_
  refine (pay387_at _ _ _).trans (congrArg (fun x => 1 + ms x) (funext fun a => Fin.ext ?_))
  refine (unit_val (s := S2x2304) _ S1x128.size _ _ a).trans ?_
  match a with
  | ⟨0, _⟩ => show b.val + 0 = b.val; omega
  | ⟨1, _⟩ => show 128 * (K.val / 128) + K.val % 128 = K.val; omega

theorem gV_at (k : Fin 18) (b : Fin 2) (i j : Fin 128) : gV (F := Ideal) (G12T ms) k b (ix3 0 i j) = 1 + ms (ix2 b (row k i)) := by
  rw [← G12T_at ms b (row k i) j]
  unfold gV
  refine congrArg (G12T (F := Ideal) ms) (funext fun x => Fin.ext ?_)
  refine (unit_val (s := S2x2304x128) (oG k b) S1x128x128.size (oG_inb k b) (ix3 0 i j) x).trans ?_
  match x with
  | ⟨0, _⟩ => show b.val + 0 = b.val; omega
  | ⟨1, _⟩ => show 128 * k.val + i.val = 128 * k.val + i.val; rfl
  | ⟨2, _⟩ => show 0 + j.val = j.val; omega

/-! ## Codes, scales, tiles, rows -/

variable (E15 : IVec S9x8x128 32)

/-- The packed exponents are the exponents. -/
def Packed : Prop := ∀ (t : T3) (k : Fin 18) (n b : Fin 2), eV (F := Ideal) E15 t k n b = e (ix3 b k (col t n))

variable {wsb e E15} (hg : Good wsb e) (hp : Packed e E15)
include hg hp

theorem codes_at (t : T3) (k : Fin 18) (n b : Fin 2) (i j : Fin 128) :
    codesV (F := Ideal) (W10T w) (G12T ms) E15 t k n b (ix2 i j) = code wsb w e ms b (row k i) (lane t n j) := by
  obtain ⟨N, h1, h2, hw, h3, h4, h5, h6⟩ := hg b k (col t n)
  unfold codesV codesT
  rw [pay6_at, pay5_at, wV_at, gV_at, hp, inv_val _ h3 h4]
  unfold code wt clip
  rw [row_div, lane_div, sc_val wsb e b k (col t n) N h1 h2 hw, hw, ofBits_pw N h1 h2, div_alg _ _ _ _ (p2_pos N) (by positivity)]

theorem scale_at (t : T3) (k : Fin 18) (n b : Fin 2) :
    Ideal.ofBits .f32 (scaleV (F := Ideal) wsb E15 t k n b) = sc wsb e b k (col t n) := by
  obtain ⟨N, h1, h2, hw, h3, h4, h5, h6⟩ := hg b k (col t n)
  unfold scaleV
  rw [sV_at, hp, hw, scW_eq N _ h3 h4 h5 h6, ofBits_pw _ (by omega) (by omega), p2_add _ _ (by omega), sc_val wsb e b k (col t n) N h1 h2 hw]

theorem tile_at (t : T3) (k : Fin 18) (n b : Fin 2) (i j : Fin 128) :
    tileV (F := Ideal) wsb (W10T w) (G12T ms) E15 t k n b (ix2 i j)
      = code wsb w e ms b (row k i) (lane t n j) * sc wsb e b k (col t n) := by
  obtain ⟨N, h1, h2, hw, h3, h4, h5, h6⟩ := hg b k (col t n)
  rw [← codes_at w ms hg hp t k n b i j]
  unfold tileV tileT codesV codesT
  rw [sV_at, hp, hw, scW_eq N _ h3 h4 h5 h6, pay8_at _ _ _ (by omega) (by omega), ← pay6_at, p2_add _ _ (by omega),
    sc_val wsb e b k (col t n) N h1 h2 hw]

omit hg hp in
theorem lhs_at (H : FVec Ideal S8x2304 .f32) (t : T3) (k : Fin 18) (n : Fin 2) (a : Fin 8) (i : Fin 128) :
    lhsV (F := Ideal) wsb H t k n (ix2 a i) = H (ix2 a (row k i)) * Ideal.ofBits .f32 (wsb (ix2 k (col t n))) := by
  unfold lhsV
  rw [pay4_at, hV_at, sV_at]

end Cert.KernelIdeal.Val

end
-- ==== Proof.AccVal.lean ====
/-
  The accumulators of one trip, and its rows of the product, as sums over all the rows of the weight.
-/
module

public import proofs.«01_k».proof.Proof.BlockVal

@[expose] public section

set_option maxRecDepth 16384

noncomputable section

namespace Cert.KernelIdeal.Val

open Idealize.ShloMosaic
open Cert.KernelIdeal Cert.KernelIdeal.Gen Cert.KernelIdeal.Roll Cert.Words
open Cert.ReferenceIdeal.Read (code sc wt)

/-! ## Sums -/

/-- The row blocks together are all the rows. -/
theorem sum_rows (f : Fin 2304 → EReal) : (∑ k : Fin 18, ∑ i : Fin 128, f (row k i)) = ∑ K : Fin 2304, f K := by
  rw [← Fintype.sum_prod_type']
  refine Fintype.sum_equiv (finProdFinEquiv : Fin 18 × Fin 128 ≃ Fin (18 * 128)) _ _ (fun x => congrArg f (Fin.ext ?_))
  show 128 * x.1.val + x.2.val = x.2.val + 128 * x.1.val
  omega

/-- Nine steps, each adding two terms, add all eighteen. -/
theorem st_sum {α : Type} (f : Fin 9 → α → α) (p : α → EReal) (A : Fin 18 → EReal)
    (h : ∀ (kp : Fin 9) (a : α), p (f kp a) = p a + (A ⟨2 * kp.val, by omega⟩ + A ⟨2 * kp.val + 1, by omega⟩)) (a : α) (h0 : p a = 0) :
    p (f 8 (f 7 (f 6 (f 5 (f 4 (f 3 (f 2 (f 1 (f 0 a))))))))) = ∑ k : Fin 18, A k := by
  rw [h 8, h 7, h 6, h 5, h 4, h 3, h 2, h 1, h 0, h0]
  simp only [Fin.sum_univ_castSucc, Fin.sum_univ_zero, zero_add, ← add_assoc]
  rfl

variable (wsb : IVec S18x72 32) (w : FVec Ideal S2304x9216 .fp8e4m3) (e : IVec S2x18x72 32) (ms sh : FVec Ideal S2x2304 .f32)
variable (X : FVec Ideal S2x128x2304 .bf16) (B : FVec Ideal S72x128 .f32) (H : FVec Ideal S8x2304 .f32) (E15 : IVec S9x8x128 32)

/-- One row block's part of the product with the codes. -/
def partA (b n : Fin 2) (t : T3) (s j : Fin 128) (k : Fin 18) : EReal :=
  ∑ i : Fin 128, X (ix3 b s (row k i)) * (code wsb w e ms b (row k i) (lane t n j) * sc wsb e b k (col t n))

/-- One row block's part of the product of a row of the shift's pieces with the weight. -/
def partC (n : Fin 2) (t : T3) (r : Fin 8) (j : Fin 128) (k : Fin 18) : EReal :=
  ∑ i : Fin 128, (H (ix2 r (row k i)) * Ideal.ofBits .f32 (wsb (ix2 k (col t n)))) * w (ix2 (row k i) (lane t n j))

theorem x_lo (kp : Fin 9) (b : Fin 2) (s i : Fin 128) :
    xV (F := Ideal) X kp b (ix3 0 s ⟨i.val, by omega⟩) = X (ix3 b s (row ⟨2 * kp.val, by omega⟩ i)) := by
  rw [xV_at]
  exact congrArg (fun z => X (ix3 b s z)) (Fin.ext (by show 256 * kp.val + i.val = 128 * (2 * kp.val) + i.val; omega))

theorem x_hi (kp : Fin 9) (b : Fin 2) (s i : Fin 128) :
    xV (F := Ideal) X kp b (ix3 0 s ⟨128 + i.val, by omega⟩) = X (ix3 b s (row ⟨2 * kp.val + 1, by omega⟩ i)) := by
  rw [xV_at]
  exact congrArg (fun z => X (ix3 b s z)) (Fin.ext (by show 256 * kp.val + (128 + i.val) = 128 * (2 * kp.val + 1) + i.val; omega))

theorem wk_at (t : T3) (kp : Fin 9) (n : Fin 2) (i : Fin 256) (c : Fin 256) (k : Fin 18) (i' j : Fin 128)
    (hi : 256 * kp.val + i.val = 128 * k.val + i'.val) (hc : c.val = 128 * n.val + j.val) :
    wkV (F := Ideal) (W10T w) t kp (ix3 0 i c) = w (ix2 (row k i') (lane t n j)) := by
  rw [wkV_at]
  exact congrArg₂ (fun x y => w (ix2 x y)) (Fin.ext hi) (Fin.ext (by show 256 * t.val + c.val = 256 * t.val + 128 * n.val + j.val; omega))

variable {wsb e E15} (hg : Good wsb e) (hp : Packed e E15)

section Steps
include hg hp

theorem step00 (t : T3) (kp : Fin 9) (a : Acc Ideal) (s j : Fin 128) :
    (accStep (F := Ideal) wsb (W10T w) X (G12T ms) H E15 t kp a).1 (ix2 s ⟨j.val, by omega⟩)
      = a.1 (ix2 s ⟨j.val, by omega⟩) + (partA wsb w e ms X 0 0 t s j ⟨2 * kp.val, by omega⟩ + partA wsb w e ms X 0 0 t s j ⟨2 * kp.val + 1, by omega⟩) := by
  refine (pay43_lo _ _ _ _ _ _ s j).trans (congrArg (a.1 _ + ·) (congrArg₂ (· + ·) (Finset.sum_congr rfl fun i _ => ?_) (Finset.sum_congr rfl fun i _ => ?_)))
  · exact congrArg₂ (· * ·) (x_lo X kp 0 s i) (tile_at w ms hg hp t _ 0 0 i j)
  · exact congrArg₂ (· * ·) (x_hi X kp 0 s i) (tile_at w ms hg hp t _ 0 0 i j)

theorem step01 (t : T3) (kp : Fin 9) (a : Acc Ideal) (s j : Fin 128) :
    (accStep (F := Ideal) wsb (W10T w) X (G12T ms) H E15 t kp a).1 (ix2 s ⟨128 + j.val, by omega⟩)
      = a.1 (ix2 s ⟨128 + j.val, by omega⟩) + (partA wsb w e ms X 0 1 t s j ⟨2 * kp.val, by omega⟩ + partA wsb w e ms X 0 1 t s j ⟨2 * kp.val + 1, by omega⟩) := by
  refine (pay43_hi _ _ _ _ _ _ s j).trans (congrArg (a.1 _ + ·) (congrArg₂ (· + ·) (Finset.sum_congr rfl fun i _ => ?_) (Finset.sum_congr rfl fun i _ => ?_)))
  · exact congrArg₂ (· * ·) (x_lo X kp 0 s i) (tile_at w ms hg hp t _ 1 0 i j)
  · exact congrArg₂ (· * ·) (x_hi X kp 0 s i) (tile_at w ms hg hp t _ 1 0 i j)

theorem step10 (t : T3) (kp : Fin 9) (a : Acc Ideal) (s j : Fin 128) :
    (accStep (F := Ideal) wsb (W10T w) X (G12T ms) H E15 t kp a).2.1 (ix2 s ⟨j.val, by omega⟩)
      = a.2.1 (ix2 s ⟨j.val, by omega⟩) + (partA wsb w e ms X 1 0 t s j ⟨2 * kp.val, by omega⟩ + partA wsb w e ms X 1 0 t s j ⟨2 * kp.val + 1, by omega⟩) := by
  refine (pay43_lo _ _ _ _ _ _ s j).trans (congrArg (a.2.1 _ + ·) (congrArg₂ (· + ·) (Finset.sum_congr rfl fun i _ => ?_) (Finset.sum_congr rfl fun i _ => ?_)))
  · exact congrArg₂ (· * ·) (x_lo X kp 1 s i) (tile_at w ms hg hp t _ 0 1 i j)
  · exact congrArg₂ (· * ·) (x_hi X kp 1 s i) (tile_at w ms hg hp t _ 0 1 i j)

theorem step11 (t : T3) (kp : Fin 9) (a : Acc Ideal) (s j : Fin 128) :
    (accStep (F := Ideal) wsb (W10T w) X (G12T ms) H E15 t kp a).2.1 (ix2 s ⟨128 + j.val, by omega⟩)
      = a.2.1 (ix2 s ⟨128 + j.val, by omega⟩) + (partA wsb w e ms X 1 1 t s j ⟨2 * kp.val, by omega⟩ + partA wsb w e ms X 1 1 t s j ⟨2 * kp.val + 1, by omega⟩) := by
  refine (pay43_hi _ _ _ _ _ _ s j).trans (congrArg (a.2.1 _ + ·) (congrArg₂ (· + ·) (Finset.sum_congr rfl fun i _ => ?_) (Finset.sum_congr rfl fun i _ => ?_)))
  · exact congrArg₂ (· * ·) (x_lo X kp 1 s i) (tile_at w ms hg hp t _ 1 1 i j)
  · exact congrArg₂ (· * ·) (x_hi X kp 1 s i) (tile_at w ms hg hp t _ 1 1 i j)

end Steps

theorem row0 (t : T3) (kp : Fin 9) (a : Acc Ideal) (r : Fin 8) (j : Fin 128) :
    (accStep (F := Ideal) wsb (W10T w) X (G12T ms) H E15 t kp a).2.2 (ix2 ⟨r.val, by omega⟩ ⟨j.val, by omega⟩)
      = a.2.2 (ix2 ⟨r.val, by omega⟩ ⟨j.val, by omega⟩) + (partC wsb w H 0 t r j ⟨2 * kp.val, by omega⟩ + partC wsb w H 0 t r j ⟨2 * kp.val + 1, by omega⟩) := by
  refine (pay42_lo _ _ _ _ _ _ r ⟨j.val, by omega⟩).trans (congrArg (a.2.2 _ + ·) (congrArg₂ (· + ·) (Finset.sum_congr rfl fun i _ => ?_) (Finset.sum_congr rfl fun i _ => ?_)))
  · exact congrArg₂ (· * ·) (lhs_at H t _ 0 r i) (wk_at w t kp 0 _ _ _ i j (by show 256 * kp.val + i.val = 128 * (2 * kp.val) + i.val; omega) (by show j.val = 128 * 0 + j.val; omega))
  · exact congrArg₂ (· * ·) (lhs_at H t _ 0 r i) (wk_at w t kp 0 _ _ _ i j (by show 256 * kp.val + (128 + i.val) = 128 * (2 * kp.val + 1) + i.val; omega) (by show j.val = 128 * 0 + j.val; omega))

theorem row1 (t : T3) (kp : Fin 9) (a : Acc Ideal) (r : Fin 8) (j : Fin 128) :
    (accStep (F := Ideal) wsb (W10T w) X (G12T ms) H E15 t kp a).2.2 (ix2 ⟨8 + r.val, by omega⟩ ⟨128 + j.val, by omega⟩)
      = a.2.2 (ix2 ⟨8 + r.val, by omega⟩ ⟨128 + j.val, by omega⟩) + (partC wsb w H 1 t r j ⟨2 * kp.val, by omega⟩ + partC wsb w H 1 t r j ⟨2 * kp.val + 1, by omega⟩) := by
  refine (pay42_hi _ _ _ _ _ _ r ⟨128 + j.val, by omega⟩).trans (congrArg (a.2.2 _ + ·) (congrArg₂ (· + ·) (Finset.sum_congr rfl fun i _ => ?_) (Finset.sum_congr rfl fun i _ => ?_)))
  · exact congrArg₂ (· * ·) (lhs_at H t _ 1 r i) (wk_at w t kp 1 _ _ _ i j (by show 256 * kp.val + i.val = 128 * (2 * kp.val) + i.val; omega) (by show 128 + j.val = 128 * 1 + j.val; omega))
  · exact congrArg₂ (· * ·) (lhs_at H t _ 1 r i) (wk_at w t kp 1 _ _ _ i j (by show 256 * kp.val + (128 + i.val) = 128 * (2 * kp.val + 1) + i.val; omega) (by show 128 + j.val = 128 * 1 + j.val; omega))

/-! ## The accumulators -/

theorem zero1 (i : S128x256.Idx) : k0_pay1 (F := Ideal) i = 0 := Ideal.ofBits_zero .f32
theorem zero2 (i : S128x256.Idx) : k0_pay2 (F := Ideal) i = 0 := Ideal.ofBits_zero .f32
theorem zero3 (i : S16x256.Idx) : k0_pay3 (F := Ideal) i = 0 := Ideal.ofBits_zero .f32

section Accs
include hg hp

theorem acc00 (t : T3) (s j : Fin 128) :
    (accV (F := Ideal) wsb (W10T w) X (G12T ms) H E15 t).1 (ix2 s ⟨j.val, by omega⟩) = ∑ k : Fin 18, partA wsb w e ms X 0 0 t s j k :=
  st_sum (accStep (F := Ideal) wsb (W10T w) X (G12T ms) H E15 t) (fun a => a.1 (ix2 s ⟨j.val, by omega⟩)) _ (fun kp a => step00 w ms X H hg hp t kp a s j) _ (zero1 (ix2 s ⟨j.val, by omega⟩))
theorem acc01 (t : T3) (s j : Fin 128) :
    (accV (F := Ideal) wsb (W10T w) X (G12T ms) H E15 t).1 (ix2 s ⟨128 + j.val, by omega⟩) = ∑ k : Fin 18, partA wsb w e ms X 0 1 t s j k :=
  st_sum (accStep (F := Ideal) wsb (W10T w) X (G12T ms) H E15 t) (fun a => a.1 (ix2 s ⟨128 + j.val, by omega⟩)) _ (fun kp a => step01 w ms X H hg hp t kp a s j) _ (zero1 (ix2 s ⟨128 + j.val, by omega⟩))
theorem acc10 (t : T3) (s j : Fin 128) :
    (accV (F := Ideal) wsb (W10T w) X (G12T ms) H E15 t).2.1 (ix2 s ⟨j.val, by omega⟩) = ∑ k : Fin 18, partA wsb w e ms X 1 0 t s j k :=
  st_sum (accStep (F := Ideal) wsb (W10T w) X (G12T ms) H E15 t) (fun a => a.2.1 (ix2 s ⟨j.val, by omega⟩)) _ (fun kp a => step10 w ms X H hg hp t kp a s j) _ (zero2 (ix2 s ⟨j.val, by omega⟩))
theorem acc11 (t : T3) (s j : Fin 128) :
    (accV (F := Ideal) wsb (W10T w) X (G12T ms) H E15 t).2.1 (ix2 s ⟨128 + j.val, by omega⟩) = ∑ k : Fin 18, partA wsb w e ms X 1 1 t s j k :=
  st_sum (accStep (F := Ideal) wsb (W10T w) X (G12T ms) H E15 t) (fun a => a.2.1 (ix2 s ⟨128 + j.val, by omega⟩)) _ (fun kp a => step11 w ms X H hg hp t kp a s j) _ (zero2 (ix2 s ⟨128 + j.val, by omega⟩))

end Accs

theorem accR0 (t : T3) (r : Fin 8) (j : Fin 128) :
    (accV (F := Ideal) wsb (W10T w) X (G12T ms) H E15 t).2.2 (ix2 ⟨r.val, by omega⟩ ⟨j.val, by omega⟩) = ∑ k : Fin 18, partC wsb w H 0 t r j k :=
  st_sum (accStep (F := Ideal) wsb (W10T w) X (G12T ms) H E15 t) (fun a => a.2.2 (ix2 ⟨r.val, by omega⟩ ⟨j.val, by omega⟩)) _ (fun kp a => row0 w ms X H t kp a r j) _ (zero3 (ix2 ⟨r.val, by omega⟩ ⟨j.val, by omega⟩))
theorem accR1 (t : T3) (r : Fin 8) (j : Fin 128) :
    (accV (F := Ideal) wsb (W10T w) X (G12T ms) H E15 t).2.2 (ix2 ⟨8 + r.val, by omega⟩ ⟨128 + j.val, by omega⟩) = ∑ k : Fin 18, partC wsb w H 1 t r j k :=
  st_sum (accStep (F := Ideal) wsb (W10T w) X (G12T ms) H E15 t) (fun a => a.2.2 (ix2 ⟨8 + r.val, by omega⟩ ⟨128 + j.val, by omega⟩)) _ (fun kp a => row1 w ms X H t kp a r j) _ (zero3 (ix2 ⟨8 + r.val, by omega⟩ ⟨128 + j.val, by omega⟩))

/-! ## The sums over all the rows -/

theorem sumA (b n : Fin 2) (t : T3) (s j : Fin 128) :
    (∑ k : Fin 18, partA wsb w e ms X b n t s j k)
      = ∑ K : Fin 2304, X (ix3 b s K) * (code wsb w e ms b K (lane t n j) * sc wsb e b ⟨K.val / 128, by omega⟩ ⟨(lane t n j).val / 128, by omega⟩) := by
  rw [← sum_rows]
  refine Finset.sum_congr rfl fun k _ => Finset.sum_congr rfl fun i _ => ?_
  rw [row_div, lane_div]

theorem sumC (n : Fin 2) (t : T3) (r : Fin 8) (j : Fin 128) :
    (∑ k : Fin 18, partC wsb w H n t r j k) = ∑ K : Fin 2304, H (ix2 r K) * wt wsb w K (lane t n j) := by
  rw [← sum_rows]
  refine Finset.sum_congr rfl fun k _ => Finset.sum_congr rfl fun i _ => ?_
  unfold wt
  rw [row_div, lane_div, mul_assoc, mul_comm (Ideal.ofBits .f32 _)]

/-! ## The shift's pieces -/

theorem piece_main (b : Fin 2) (r : Fin 8) (hr : r.val = 3 * b.val) (K : Fin 2304) : H13T (F := Ideal) sh (ix2 r K) = sh (ix2 b K) := by
  match b, r, hr with
  | ⟨0, _⟩, ⟨0, _⟩, _ => exact (congrArg _ (ix2_eq_valueIdx _ _).symm).trans (piece0_0 sh K)
  | ⟨1, _⟩, ⟨3, _⟩, _ => exact (congrArg _ (ix2_eq_valueIdx _ _).symm).trans (piece0_1 sh K)

theorem piece_rest (hsh : ∀ (b : Fin 2) (K : Fin 2304), sh (ix2 b K) - sh (ix2 b K) = 0) (r : Fin 8) (hr : r.val = 1 ∨ r.val = 2 ∨ r.val = 4 ∨ r.val = 5) (K : Fin 2304) :
    H13T (F := Ideal) sh (ix2 r K) = 0 := by
  match r, hr with
  | ⟨1, _⟩, _ => exact (congrArg _ (ix2_eq_valueIdx _ _).symm).trans ((piece1_0 sh K).trans (hsh 0 K))
  | ⟨2, _⟩, _ => exact (congrArg _ (ix2_eq_valueIdx _ _).symm).trans ((piece2_0 sh K).trans (by rw [hsh 0 K]; exact sub_zero _))
  | ⟨4, _⟩, _ => exact (congrArg _ (ix2_eq_valueIdx _ _).symm).trans ((piece1_1 sh K).trans (hsh 1 K))
  | ⟨5, _⟩, _ => exact (congrArg _ (ix2_eq_valueIdx _ _).symm).trans ((piece2_1 sh K).trans (by rw [hsh 1 K]; exact sub_zero _))

theorem sumC_main (b n : Fin 2) (t : T3) (r : Fin 8) (hr : r.val = 3 * b.val) (j : Fin 128) :
    (∑ k : Fin 18, partC wsb w (H13T (F := Ideal) sh) n t r j k) = ∑ K : Fin 2304, sh (ix2 b K) * wt wsb w K (lane t n j) :=
  (sumC w _ n t r j).trans (Finset.sum_congr rfl fun K _ => by rw [piece_main sh b r hr K])

theorem sumC_rest (hsh : ∀ (b : Fin 2) (K : Fin 2304), sh (ix2 b K) - sh (ix2 b K) = 0) (n : Fin 2) (t : T3) (r : Fin 8)
    (hr : r.val = 1 ∨ r.val = 2 ∨ r.val = 4 ∨ r.val = 5) (j : Fin 128) :
    (∑ k : Fin 18, partC wsb w (H13T (F := Ideal) sh) n t r j k) = 0 :=
  (sumC w _ n t r j).trans (Finset.sum_eq_zero fun K _ => by rw [piece_rest sh hsh r hr K, zero_mul])

/-! ## The rows of the product -/

theorem add_pieces (a a' c0 c1 c2 c' z : EReal) (ha : a = a') (h0 : c0 = c') (h1 : c1 = 0) (h2 : c2 = 0) : a + (((c0 + c1) + c2) + z) = a' + (c' + z) := by
  rw [ha, h0, h1, h2, add_zero, add_zero]

/-- The rows of the product of one image, half `n` of trip `t`, as the reference has them. -/
def outY (t : T3) (n b : Fin 2) (s j : Fin 128) : EReal :=
  (∑ K : Fin 2304, X (ix3 b s K) * (code wsb w e ms b K (lane t n j) * sc wsb e b ⟨K.val / 128, by omega⟩ ⟨(lane t n j).val / 128, by have := (lane t n j).isLt; omega⟩))
    + ((∑ K : Fin 2304, sh (ix2 b K) * wt wsb w K (lane t n j)) + B (ix2 (col t n) j))

theorem accR0' (t : T3) (r : Fin 8) (q : Fin 16) (hq : q.val = r.val) (j : Fin 128) :
    (accV (F := Ideal) wsb (W10T w) X (G12T ms) H E15 t).2.2 (ix2 q ⟨j.val, by omega⟩) = ∑ k : Fin 18, partC wsb w H 0 t r j k := by
  have hx : q = ⟨r.val, by omega⟩ := Fin.ext hq
  rw [hx]
  exact accR0 w ms X H t r j
theorem accR1' (t : T3) (r : Fin 8) (q : Fin 16) (hq : q.val = 8 + r.val) (j : Fin 128) :
    (accV (F := Ideal) wsb (W10T w) X (G12T ms) H E15 t).2.2 (ix2 q ⟨128 + j.val, by omega⟩) = ∑ k : Fin 18, partC wsb w H 1 t r j k := by
  have hx : q = ⟨8 + r.val, by omega⟩ := Fin.ext hq
  rw [hx]
  exact accR1 w ms X H t r j

variable (hsh : ∀ (b : Fin 2) (K : Fin 2304), sh (ix2 b K) - sh (ix2 b K) = 0)

theorem yV00 (t : T3) :
    yV (F := Ideal) wsb B (W10T w) X (G12T ms) (H13T (F := Ideal) sh) E15 t 0 0
      = k0_pay382 (F := Ideal) (accV (F := Ideal) wsb (W10T w) X (G12T ms) (H13T (F := Ideal) sh) E15 t).2.2 (accV (F := Ideal) wsb (W10T w) X (G12T ms) (H13T (F := Ideal) sh) E15 t).1 (bV B t 0) := by
  unfold yV
  rw [if_pos rfl, if_pos rfl]

include hg hp hsh in
theorem yVat00 (t : T3) (s j : Fin 128) :
    yV (F := Ideal) wsb B (W10T w) X (G12T ms) (H13T (F := Ideal) sh) E15 t 0 0 (ix4 0 0 s j) = outY w ms sh X B (wsb := wsb) (e := e) t 0 0 s j := by
  rw [yV00, pay382_at, bV_at]
  exact add_pieces _ _ _ _ _ _ _ ((acc00 w ms X _ hg hp t s j).trans (sumA w ms X 0 0 t s j))
    ((accR0' w ms X _ t 0 0 rfl j).trans (sumC_main w sh 0 0 t 0 rfl j))
    ((accR0' w ms X _ t 1 1 rfl j).trans (sumC_rest w sh hsh 0 t 1 (by decide) j))
    ((accR0' w ms X _ t 2 2 rfl j).trans (sumC_rest w sh hsh 0 t 2 (by decide) j))

theorem yV01 (t : T3) :
    yV (F := Ideal) wsb B (W10T w) X (G12T ms) (H13T (F := Ideal) sh) E15 t 1 0
      = k0_pay383 (F := Ideal) (accV (F := Ideal) wsb (W10T w) X (G12T ms) (H13T (F := Ideal) sh) E15 t).2.2 (accV (F := Ideal) wsb (W10T w) X (G12T ms) (H13T (F := Ideal) sh) E15 t).1 (bV B t 1) := by
  unfold yV
  rw [if_pos rfl, if_neg (by decide)]

include hg hp hsh in
theorem yVat01 (t : T3) (s j : Fin 128) :
    yV (F := Ideal) wsb B (W10T w) X (G12T ms) (H13T (F := Ideal) sh) E15 t 1 0 (ix4 0 0 s j) = outY w ms sh X B (wsb := wsb) (e := e) t 1 0 s j := by
  rw [yV01, pay383_at, bV_at]
  exact add_pieces _ _ _ _ _ _ _ ((acc01 w ms X _ hg hp t s j).trans (sumA w ms X 0 1 t s j))
    ((accR1' w ms X _ t 0 8 rfl j).trans (sumC_main w sh 0 1 t 0 rfl j))
    ((accR1' w ms X _ t 1 9 rfl j).trans (sumC_rest w sh hsh 1 t 1 (by decide) j))
    ((accR1' w ms X _ t 2 10 rfl j).trans (sumC_rest w sh hsh 1 t 2 (by decide) j))

theorem yV10 (t : T3) :
    yV (F := Ideal) wsb B (W10T w) X (G12T ms) (H13T (F := Ideal) sh) E15 t 0 1
      = k0_pay385 (F := Ideal) (accV (F := Ideal) wsb (W10T w) X (G12T ms) (H13T (F := Ideal) sh) E15 t).2.1 (k0_pay384 (accV (F := Ideal) wsb (W10T w) X (G12T ms) (H13T (F := Ideal) sh) E15 t).2.2) (bV B t 0) := by
  unfold yV
  rw [if_neg (by decide), if_pos rfl]

include hg hp hsh in
theorem yVat10 (t : T3) (s j : Fin 128) :
    yV (F := Ideal) wsb B (W10T w) X (G12T ms) (H13T (F := Ideal) sh) E15 t 0 1 (ix4 0 0 s j) = outY w ms sh X B (wsb := wsb) (e := e) t 0 1 s j := by
  rw [yV10, pay385_at, bV_at]
  exact add_pieces _ _ _ _ _ _ _ ((acc10 w ms X _ hg hp t s j).trans (sumA w ms X 1 0 t s j))
    ((accR0' w ms X _ t 3 3 rfl j).trans (sumC_main w sh 1 0 t 3 rfl j))
    ((accR0' w ms X _ t 4 4 rfl j).trans (sumC_rest w sh hsh 0 t 4 (by decide) j))
    ((accR0' w ms X _ t 5 5 rfl j).trans (sumC_rest w sh hsh 0 t 5 (by decide) j))

theorem yV11 (t : T3) :
    yV (F := Ideal) wsb B (W10T w) X (G12T ms) (H13T (F := Ideal) sh) E15 t 1 1
      = k0_pay386 (F := Ideal) (accV (F := Ideal) wsb (W10T w) X (G12T ms) (H13T (F := Ideal) sh) E15 t).2.2 (accV (F := Ideal) wsb (W10T w) X (G12T ms) (H13T (F := Ideal) sh) E15 t).2.1 (bV B t 1) := by
  unfold yV
  rw [if_neg (by decide), if_neg (by decide)]

include hg hp hsh in
theorem yVat11 (t : T3) (s j : Fin 128) :
    yV (F := Ideal) wsb B (W10T w) X (G12T ms) (H13T (F := Ideal) sh) E15 t 1 1 (ix4 0 0 s j) = outY w ms sh X B (wsb := wsb) (e := e) t 1 1 s j := by
  rw [yV11, pay386_at, bV_at]
  exact add_pieces _ _ _ _ _ _ _ ((acc11 w ms X _ hg hp t s j).trans (sumA w ms X 1 1 t s j))
    ((accR1' w ms X _ t 3 11 rfl j).trans (sumC_main w sh 1 1 t 3 rfl j))
    ((accR1' w ms X _ t 4 12 rfl j).trans (sumC_rest w sh hsh 1 t 4 (by decide) j))
    ((accR1' w ms X _ t 5 13 rfl j).trans (sumC_rest w sh hsh 1 t 5 (by decide) j))

include hg hp hsh in
theorem yV_at (t : T3) (n b : Fin 2) (s j : Fin 128) :
    yV (F := Ideal) wsb B (W10T w) X (G12T ms) (H13T (F := Ideal) sh) E15 t n b (ix4 0 0 s j) = outY w ms sh X B (wsb := wsb) (e := e) t n b s j := by
  match b, n with
  | ⟨0, _⟩, ⟨0, _⟩ => exact yVat00 w ms sh X B hg hp hsh t s j
  | ⟨0, _⟩, ⟨1, _⟩ => exact yVat01 w ms sh X B hg hp hsh t s j
  | ⟨1, _⟩, ⟨0, _⟩ => exact yVat10 w ms sh X B hg hp hsh t s j
  | ⟨1, _⟩, ⟨1, _⟩ => exact yVat11 w ms sh X B hg hp hsh t s j

end Cert.KernelIdeal.Val

end
-- ==== Proof.PackVal.lean ====
/-
  The two operands the host lays out: the bias by blocks of columns, the block exponents packed by groups of four rows.
-/
module

public import proofs.«01_k».proof.Proof.BlockVal
public import proofs.«01_k».proof.Proof.Final
public import Idealize.ShloMosaic.Lib.Claim

@[expose] public section

set_option maxRecDepth 16384

noncomputable section

namespace Cert.KernelIdeal.Val

open Idealize.ShloMosaic Idealize.ShloMosaic.TcCoe
open Cert.KernelIdeal Cert.KernelIdeal.Gen Cert.KernelIdeal.Roll Cert.Words

variable (m : (ℓ : Loc nD τ sig) → Buf (Elt Ideal) ℓ) (c : Dev nD)

def gB : FVec Ideal S9216 .f32 := m ((c : Thread nD τ).loc main_arg5)
def gE : IVec S2x18x72 32 := m ((c : Thread nD τ).loc main_arg6)

theorem v0_eq : (V m c main_v0 : S72x128.Idx → Elt Ideal .f32) = shapeCast S72x128 (gB m c) shapeCasts_S9216_S72x128 := by
  entry_read
  rfl

theorem bias_at (n : Fin 72) (j : Fin 128) : (V m c main_v0 : S72x128.Idx → Elt Ideal .f32) (ix2 n j) = gB m c (ix1 ⟨128 * n.val + j.val, by omega⟩) := by
  rw [v0_eq]
  pointwise
  exact congrArg (fun z => gB m c (ix1 z)) (Fin.ext (by show n.val * 128 + j.val = 128 * n.val + j.val; omega))

/-- The block exponents as the host packs them: in each lane row, four groups of 32 lanes, one per residue of the row block
    modulo four. -/
def packE (x : IVec S2x18x72 32) : IVec S9x8x128 32 :=
  shapeCast S9x8x128 (pad S72x4x32 ![0, 0, 0] ![0, 0, 22] ![0, 0, 0]
    (shapeCast S72x4x10 (transpose S72x4x2x5 [3, 2, 0, 1] (shapeCast S2x5x4x72
      (pad S2x20x72 ![0, 0, 0] ![0, 2, 0] ![0, 0, 0] x (constantI S_ 32 0#32) pads_S2x18x72_S2x20x72_000_020_000 h_S_)
      shapeCasts_S2x20x72_S2x5x4x72) transposes_S2x5x4x72_S72x4x2x5_3_2_0_1) shapeCasts_S72x4x2x5_S72x4x10)
    (constantI S_ 32 0#32) pads_S72x4x10_S72x4x32_000_000_0220 h_S_) shapeCasts_S72x4x32_S9x8x128

theorem v6_eq : (V m c main_v6 : S9x8x128.Idx → Elt Ideal .i32) = packE (gE m c) := by
  entry_read
  rfl

theorem packE_at (x : IVec S2x18x72 32) (sb : Fin 9) (ln : Fin 8) (s : Fin 4) (b : Fin 2) (q : Fin 5) (hq : 4 * q.val + s.val < 18) :
    packE x (ix3 sb ln ⟨32 * s.val + 5 * b.val + q.val, by omega⟩) = x (ix3 b ⟨4 * q.val + s.val, hq⟩ ⟨8 * sb.val + ln.val, by omega⟩) := by
  pointwise [packE]
  have hm : (32 * s.val + 5 * b.val + q.val) % 32 = 5 * b.val + q.val := by
    rw [show 32 * s.val + 5 * b.val + q.val = 5 * b.val + q.val + 32 * s.val by omega, Nat.add_mul_mod_self_left, Nat.mod_eq_of_lt (by omega)]
  have hd : (5 * b.val + q.val) / 5 = b.val := by
    rw [Nat.mul_add_div (by decide), Nat.div_eq_of_lt q.isLt, Nat.add_zero]
  have hr : (5 * b.val + q.val) % 5 = q.val := by
    rw [Nat.mul_add_mod, Nat.mod_eq_of_lt q.isLt]
  rw [dif_pos ⟨by omega, by rw [hm]; omega⟩, dif_pos ⟨by rw [hm, hd]; omega, by rw [hm, hr]; omega, by omega⟩]
  exact congrArg x (congr (congrArg₂ ix3 (Fin.ext (by show (32 * s.val + 5 * b.val + q.val) % 32 / 5 = b.val; rw [hm, hd]))
    (Fin.ext (by show (32 * s.val + 5 * b.val + q.val) % 32 % 5 * 4 + s.val = 4 * q.val + s.val; rw [hm, hr]; omega)))
    (Fin.ext (by show sb.val * 8 + ln.val = 8 * sb.val + ln.val; omega)))

theorem rE_at (E : IVec S9x8x128 32) (t : T3) (k : Fin 18) (n b : Fin 2) (f : S1x1x1.Idx) :
    E ((rE t k n b).emb f) = E (ix3 ⟨t.val / 4, by have := t_lt t; omega⟩ ⟨2 * (t.val % 4) + n.val, by omega⟩ ⟨32 * (k.val % 4) + 5 * b.val + k.val / 4, by omega⟩) := by
  refine congrArg E (funext fun a => Fin.ext ?_)
  refine (unit_val (s := S9x8x128) (oE t k n b) S1x1x1.size (oE_inb t k n b) f a).trans ?_
  have f0 : (f 0).val < 1 := (f 0).isLt
  have f1 : (f 1).val < 1 := (f 1).isLt
  have f2 : (f 2).val < 1 := (f 2).isLt
  match a with
  | ⟨0, _⟩ => show eI t + (f 0).val = t.val / 4; rw [eI_eq]; omega
  | ⟨1, _⟩ => show fI t n + (f 1).val = 2 * (t.val % 4) + n.val; rw [fI_eq]; omega
  | ⟨2, _⟩ => show (32 * (k.val % 4) + k.val / 4 + 5 * b.val) + (f 2).val = 32 * (k.val % 4) + 5 * b.val + k.val / 4; omega

theorem packed (x : IVec S2x18x72 32) : Packed x (packE x) := by
  intro t k n b
  refine (rE_at _ t k n b _).trans ((packE_at x _ _ ⟨k.val % 4, by omega⟩ b ⟨k.val / 4, by omega⟩ (by show 4 * (k.val / 4) + k.val % 4 < 18; omega)).trans ?_)
  refine congrArg₂ (fun y z => x (ix3 b y z)) (Fin.ext ?_) (Fin.ext ?_)
  · show 4 * (k.val / 4) + k.val % 4 = k.val; omega
  · show 8 * (t.val / 4) + (2 * (t.val % 4) + n.val) = 2 * t.val + n.val; omega

end Cert.KernelIdeal.Val

end
-- ==== Proof.KerVal.lean ====
/-
  The kernel's three results, index by index, over the extended reals.
-/
module

public import proofs.«01_k».proof.Proof.AccVal
public import proofs.«01_k».proof.Proof.PackVal

@[expose] public section

set_option maxRecDepth 16384

noncomputable section

namespace Cert.KernelIdeal.Val

open Idealize.ShloMosaic Idealize.ShloMosaic.TcCoe
open Cert.KernelIdeal Cert.KernelIdeal.Gen Cert.KernelIdeal.Roll Cert.Words
open Cert.ReferenceIdeal.Read (code sc wt)

/-! ## Every position lies in one block -/

theorem row_eq (K : Fin 2304) : row ⟨K.val / 128, by omega⟩ ⟨K.val % 128, by omega⟩ = K :=
  Fin.ext (by show 128 * (K.val / 128) + K.val % 128 = K.val; omega)
theorem lane_eq (n : Fin 9216) : lane (colTrip n) ⟨n.val % 256 / 128, by omega⟩ ⟨n.val % 256 % 128, by omega⟩ = n :=
  Fin.ext (by show 256 * (n.val / 256) + 128 * (n.val % 256 / 128) + n.val % 256 % 128 = n.val; omega)
theorem col_eq (n : Fin 72) : col ⟨n.val / 2, by rw [trips36]; omega⟩ ⟨n.val % 2, by omega⟩ = n :=
  Fin.ext (by show 2 * (n.val / 2) + n.val % 2 = n.val; omega)

theorem cast_at (v : FVec Ideal S128x128 .fp8e4m3) (i j : Fin 128) :
    shapeCast S1x1x128x128 v shapeCasts_S128x128_S1x1x128x128 (ix4 0 0 i j) = v (ix2 i j) := by
  pointwise

theorem cast_at' (v : FVec Ideal S128x128 .fp8e4m3) (i j : Fin 128) :
    shapeCast S1x1x128x128 v shapeCasts_S128x128_S1x1x128x128 (ValueIdx.ix4 (0 : Fin 1) (0 : Fin 1) i j) = v (ix2 i j) := by
  rw [← ix4_eq_valueIdx, cast_at]

/-! ## The results of blocks that hold the arguments -/

section Generic

variable (wsb : IVec S18x72 32) (w : FVec Ideal S2304x9216 .fp8e4m3) (e : IVec S2x18x72 32) (ms sh : FVec Ideal S2x2304 .f32)
variable (X : FVec Ideal S2x128x2304 .bf16) (B : FVec Ideal S72x128 .f32) (E15 : IVec S9x8x128 32)
variable {wsb e E15} (hg : Good wsb e) (hp : Packed e E15)
variable (hsh : ∀ (b : Fin 2) (K : Fin 2304), sh (ix2 b K) - sh (ix2 b K) = 0)

theorem WC_def (W10 : S36x2304x256.Idx → Elt Ideal .fp8e4m3) (G12 : S2x2304x128.Idx → Elt Ideal .f32) (b : Fin 2) (K : Fin 2304) (n : Fin 9216) :
    WC (F := Ideal) W10 G12 E15 (ix3 b K n)
      = shapeCast S1x1x128x128 (codesV (F := Ideal) W10 G12 E15 (colTrip n) ⟨K.val / 128, by omega⟩ ⟨n.val % 256 / 128, by omega⟩ b) shapeCasts_S128x128_S1x1x128x128
          (ValueIdx.ix4 (0 : Fin 1) (0 : Fin 1) (⟨K.val % 128, by omega⟩ : Fin 128) (⟨n.val % 256 % 128, by omega⟩ : Fin 128)) := by
  unfold WC T16
  rfl

include hg hp in
theorem WC_at (b : Fin 2) (K : Fin 2304) (n : Fin 9216) :
    WC (F := Ideal) (W10T w) (G12T ms) E15 (ix3 b K n) = code wsb w e ms b K n := by
  have h := codes_at w ms hg hp (colTrip n) ⟨K.val / 128, by omega⟩ ⟨n.val % 256 / 128, by omega⟩ b ⟨K.val % 128, by omega⟩ ⟨n.val % 256 % 128, by omega⟩
  rw [row_eq, lane_eq] at h
  rw [WC_def, cast_at', h]

include hg hp in
theorem T9_at (b : Fin 2) (k : Fin 18) (n : Fin 72) :
    Ideal.ofBits .f32 (T9 (F := Ideal) wsb E15 (ix3 b k n)) = sc wsb e b k n := by
  have h := scale_at hg hp ⟨n.val / 2, by rw [trips36]; omega⟩ k ⟨n.val % 2, by omega⟩ b
  rw [col_eq] at h
  exact h

include hg hp hsh in
theorem YC_at (b : Fin 2) (s : Fin 128) (n : Fin 9216) :
    YC (F := Ideal) wsb B (W10T w) X (G12T ms) (H13T (F := Ideal) sh) E15 (ix3 b s n)
      = (∑ K : Fin 2304, X (ix3 b s K) * (code wsb w e ms b K n * sc wsb e b ⟨K.val / 128, by omega⟩ ⟨n.val / 128, by omega⟩))
        + ((∑ K : Fin 2304, sh (ix2 b K) * wt wsb w K n) + B (ix2 ⟨n.val / 128, by omega⟩ ⟨n.val % 128, by omega⟩)) := by
  have h := yV_at w ms sh X B hg hp hsh (colTrip n) ⟨n.val % 256 / 128, by omega⟩ b s ⟨n.val % 256 % 128, by omega⟩
  have hc : col (colTrip n) ⟨n.val % 256 / 128, by omega⟩ = ⟨n.val / 128, by omega⟩ :=
    Fin.ext (by show 2 * (n.val / 256) + n.val % 256 / 128 = n.val / 128; omega)
  have hj : (⟨n.val % 256 % 128, by omega⟩ : Fin 128) = ⟨n.val % 128, by omega⟩ := Fin.ext (by show n.val % 256 % 128 = n.val % 128; omega)
  unfold outY at h
  simp only [lane_eq, hc] at h
  refine Eq.trans ?_ (h.trans ?_)
  · exact congrArg _ (ix4_eq_valueIdx _ _ _ _).symm
  · exact congrArg (fun z => _ + (_ + B (ix2 _ z))) hj

end Generic

/-! ## The results of a run -/

variable (m : (ℓ : Loc nD τ sig) → Buf (Elt Ideal) ℓ) (c : Dev nD)

def gX : FVec Ideal S2x128x2304 .bf16 := m ((c : Thread nD τ).loc main_arg0)
def gM : FVec Ideal S2x2304 .f32 := m ((c : Thread nD τ).loc main_arg1)
def gS : FVec Ideal S2x2304 .f32 := m ((c : Thread nD τ).loc main_arg2)
def gW : FVec Ideal S2304x9216 .fp8e4m3 := m ((c : Thread nD τ).loc main_arg3)
def gK : IVec S18x72 32 := m ((c : Thread nD τ).loc main_arg4)

theorem aX_eq : aX m c = gX m c := V_main_arg0 m c
theorem aW_eq : aW m c = gW m c := V_main_arg3 m c
theorem aM_eq : aM m c = gM m c := (iblk_0 m c).trans (V_main_arg1 m c)
theorem aH_eq : aH m c = gS m c := (iblk_1 m c).trans (V_main_arg2 m c)
theorem aS_eq : aS m c = gK m c := (iblk_2 m c).trans (V_main_arg4 m c)
theorem aE_eq : aE m c = packE (gE m c) := (iblk_4 m c).trans (v6_eq m c)
theorem aB_at (n : Fin 9216) : aB m c (ix2 ⟨n.val / 128, by omega⟩ ⟨n.val % 128, by omega⟩) = gB m c (ix1 n) :=
  (congrFun (iblk_3 m c) _).trans ((bias_at m c _ _).trans (congrArg (fun z => gB m c (ix1 z))
    (Fin.ext (by show 128 * (n.val / 128) + n.val % 128 = n.val; omega))))

variable (hg : Good (gK m c) (gE m c)) (hsh : ∀ (b : Fin 2) (K : Fin 2304), gS m c (ix2 b K) - gS m c (ix2 b K) = 0)

include hg in
theorem resW_at (b : Fin 2) (K : Fin 2304) (n : Fin 9216) :
    resW m c (ix3 b K n) = code (gK m c) (gW m c) (gE m c) (gM m c) b K n := by
  unfold resW
  rw [aW_eq, aM_eq, aE_eq]
  exact WC_at _ _ hg (packed _) b K n

include hg in
theorem resS_at (b : Fin 2) (k : Fin 18) (n : Fin 72) :
    (bitcastToFloat .f32 (resS m c) : FVec Ideal S2x18x72 .f32) (ix3 b k n) = sc (gK m c) (gE m c) b k n := by
  unfold resS
  rw [aS_eq, aE_eq]
  exact T9_at hg (packed _) b k n

include hg hsh in
theorem resY_at (b : Fin 2) (s : Fin 128) (n : Fin 9216) :
    resY m c (ix3 b s n)
      = (∑ K : Fin 2304, gX m c (ix3 b s K) * (code (gK m c) (gW m c) (gE m c) (gM m c) b K n
          * sc (gK m c) (gE m c) b ⟨K.val / 128, by omega⟩ ⟨n.val / 128, by omega⟩))
        + ((∑ K : Fin 2304, gS m c (ix2 b K) * wt (gK m c) (gW m c) K n) + gB m c (ix1 n)) := by
  unfold resY
  rw [aW_eq, aM_eq, aE_eq, aS_eq, aX_eq, aH_eq, ← aB_at]
  exact YC_at _ _ _ _ _ hg (packed _) hsh b s n

end Cert.KernelIdeal.Val

end
-- ==== Proof.Tame.lean ====
/-
  What the precondition says of the arguments, element by element.
-/
module

public import proofs.«01_k».proof.Defs
public import proofs.«01_k».proof.Proof.KerVal

@[expose] public section

set_option maxRecDepth 16384

noncomputable section

namespace Cert.KernelIdeal.Val

open Idealize.ShloMosaic Idealize.ShloMosaic.TcCoe
open Cert.KernelIdeal Cert.KernelIdeal.Gen Cert.Words

/-- The shape relations the precondition's operations take. -/
theorem tameFacts : Cert.Pre_tame.Facts where
  bcast_S_S18x72 := by decide
  bcast_S_S2x2304 := by decide
  bcast_S_S2x18x72 := by decide
  bcast_S18x72_S1x18x72_1_2 := by decide
  bcast_S1x18x72_S2x18x72_0_1_2 := by decide

variable [hPre : Cert.Pre_tame.Facts]
variable (m : (ℓ : Loc nD τ sig) → Buf (Elt Ideal) ℓ) (c : Dev nD)

theorem shr23 (x : BitVec 32) : IntOp.shrsi ArithUnit.host x 23#32 = x.sshiftRight' 23#32 := by
  unfold IntOp.shrsi
  rw [if_pos (by decide)]

theorem bit_true {p : Bool} (h : BitVec.ofBool p = 1#1) : p = true := by
  cases p
  · exact absurd h (by decide)
  · rfl

section Reads

variable (X : FVec Ideal S2x128x2304 .bf16) (ms sh : FVec Ideal S2x2304 .f32) (w : FVec Ideal S2304x9216 .fp8e4m3) (k : IVec S18x72 32)
  (B : FVec Ideal S9216 .f32) (e : IVec S2x18x72 32)

theorem read1 (b : Fin 2) (K : Fin 2304) : (Cert.Pre_tame.fn X ms sh w k B e).1 (ix2 b K) = FloatOps.cmpf (F := Ideal) .oeq (sh (ix2 b K) - sh (ix2 b K) : EReal) 0 := by
  pointwise [Cert.Pre_tame.fn, Cert.Pre_tame.fn_part1]

theorem read2 (r : Fin 18) (n : Fin 72) : (Cert.Pre_tame.fn X ms sh w k B e).2.1 (ix2 r n) = BitVec.ofBool (k (ix2 r n) &&& 8388607#32 == 0#32) := by
  pointwise [Cert.Pre_tame.fn, Cert.Pre_tame.fn_part1]
  rfl

theorem read3 (r : Fin 18) (n : Fin 72) : (Cert.Pre_tame.fn X ms sh w k B e).2.2.1 (ix2 r n) = BitVec.ofBool ((1#32).sle ((k (ix2 r n)).sshiftRight' 23#32)) := by
  pointwise [Cert.Pre_tame.fn, Cert.Pre_tame.fn_part1]
  rw [shr23]
  rfl

theorem read4 (r : Fin 18) (n : Fin 72) : (Cert.Pre_tame.fn X ms sh w k B e).2.2.2.1 (ix2 r n) = BitVec.ofBool (((k (ix2 r n)).sshiftRight' 23#32).sle 254#32) := by
  pointwise [Cert.Pre_tame.fn, Cert.Pre_tame.fn_part1]
  rw [shr23]
  rfl

theorem read5 (b : Fin 2) (r : Fin 18) (n : Fin 72) : (Cert.Pre_tame.fn X ms sh w k B e).2.2.2.2.1 (ix3 b r n) = BitVec.ofBool ((4294967169#32).sle (e (ix3 b r n))) := by
  pointwise [Cert.Pre_tame.fn, Cert.Pre_tame.fn_part1]
  rfl

theorem read6 (b : Fin 2) (r : Fin 18) (n : Fin 72) : (Cert.Pre_tame.fn X ms sh w k B e).2.2.2.2.2.1 (ix3 b r n) = BitVec.ofBool ((e (ix3 b r n)).sle 126#32) := by
  pointwise [Cert.Pre_tame.fn, Cert.Pre_tame.fn_part1]
  rfl

theorem read7 (b : Fin 2) (r : Fin 18) (n : Fin 72) : (Cert.Pre_tame.fn X ms sh w k B e).2.2.2.2.2.2.1 (ix3 b r n) = BitVec.ofBool ((1#32).sle ((k (ix2 r n)).sshiftRight' 23#32 + e (ix3 b r n))) := by
  pointwise [Cert.Pre_tame.fn, Cert.Pre_tame.fn_part1]
  rw [shr23]
  rfl

theorem read8 (b : Fin 2) (r : Fin 18) (n : Fin 72) : (Cert.Pre_tame.fn X ms sh w k B e).2.2.2.2.2.2.2 (ix3 b r n) = BitVec.ofBool (((k (ix2 r n)).sshiftRight' 23#32 + e (ix3 b r n)).sle 254#32) := by
  pointwise [Cert.Pre_tame.fn, Cert.Pre_tame.fn_part1]
  rw [shr23]
  rfl

end Reads

/-- A value that equals itself less itself only at zero. -/
theorem sub_zero_of (x : EReal) (h : FloatOps.cmpf (F := Ideal) (φ := .f32) .oeq (x : EReal) 0 = 1#1) : x = 0 := by
  have h' : BitVec.ofBool (decide (x = 0)) = 1#1 := h
  exact of_decide_eq_true (bit_true h')

/-- The shift is finite. -/
theorem tame_shift (h : Cert.Pre_KernelIdeal_tame m) (b : Fin 2) (K : Fin 2304) : gS m c (ix2 b K) - gS m c (ix2 b K) = 0 :=
  sub_zero_of _ ((read1 (gX m c) (gM m c) (gS m c) (gW m c) (gK m c) (gB m c) (gE m c) b K).symm.trans (congrFun (h c).1 (ix2 b K)))

/-- The scale words and the block exponents are in range. -/
theorem tame_good (h : Cert.Pre_KernelIdeal_tame m) : Good (gK m c) (gE m c) := by
  intro b r n
  obtain ⟨-, h2, h3, h4, h5, h6, h7, h8⟩ := h c
  refine word_of _ _ ?_ ?_ ?_ ?_ ?_ ?_ ?_
  · exact eq_of_beq (bit_true ((read2 (gX m c) (gM m c) (gS m c) (gW m c) (gK m c) (gB m c) (gE m c) r n).symm.trans (congrFun h2 (ix2 r n))))
  · exact bit_true ((read3 (gX m c) (gM m c) (gS m c) (gW m c) (gK m c) (gB m c) (gE m c) r n).symm.trans (congrFun h3 (ix2 r n)))
  · exact bit_true ((read4 (gX m c) (gM m c) (gS m c) (gW m c) (gK m c) (gB m c) (gE m c) r n).symm.trans (congrFun h4 (ix2 r n)))
  · exact bit_true ((read5 (gX m c) (gM m c) (gS m c) (gW m c) (gK m c) (gB m c) (gE m c) b r n).symm.trans (congrFun h5 (ix3 b r n)))
  · exact bit_true ((read6 (gX m c) (gM m c) (gS m c) (gW m c) (gK m c) (gB m c) (gE m c) b r n).symm.trans (congrFun h6 (ix3 b r n)))
  · exact bit_true ((read7 (gX m c) (gM m c) (gS m c) (gW m c) (gK m c) (gB m c) (gE m c) b r n).symm.trans (congrFun h7 (ix3 b r n)))
  · exact bit_true ((read8 (gX m c) (gM m c) (gS m c) (gW m c) (gK m c) (gB m c) (gE m c) b r n).symm.trans (congrFun h8 (ix3 b r n)))

end Cert.KernelIdeal.Val

end
-- ==== Proof.RefRun.lean ====
/-
  The reference's run: its three results, index by index, over the extended reals.
-/
module

public import proofs.«01_k».proof.Proof.RefVal
public import Idealize.ShloMosaic.Lib.Pipeline.Value
public import Idealize.ShloMosaic.Lib.Claim

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as the body reads them -/

def aH (c : Dev nD) : FVec Ideal S2x128x2304 .bf16 := m ((c : Thread nD τ).loc main_arg0)
def aM (c : Dev nD) : FVec Ideal S2x2304 .f32 := m ((c : Thread nD τ).loc main_arg1)
def aS (c : Dev nD) : FVec Ideal S2x2304 .f32 := m ((c : Thread nD τ).loc main_arg2)
def aW (c : Dev nD) : FVec Ideal S2304x9216 .fp8e4m3 := m ((c : Thread nD τ).loc main_arg3)
def aK (c : Dev nD) : IVec S18x72 32 := m ((c : Thread nD τ).loc main_arg4)
def aB (c : Dev nD) : FVec Ideal S9216 .f32 := m ((c : Thread nD τ).loc main_arg5)
def aE (c : Dev nD) : IVec S2x18x72 32 := m ((c : Thread nD τ).loc main_arg6)

variable (t : Fin cfg0.N)

theorem iblk_0 (c : Dev nD) : (iblk m c 0 t : S2x128x2304.Idx → Elt Ideal .bf16) = aH m c := by
  refine Eq.trans ?_ (V_main_arg0 m c)
  obtain rfl : t = ⟨0, by decide⟩ := (fin_N0 t)
  funext j
  unfold iblk
  refine congrArg (V m c main_arg0) (funext fun a => Fin.ext ?_)
  show 0 * _ + 1 * (j a).val = (j a).val
  omega
theorem iblk_1 (c : Dev nD) : (iblk m c 1 t : S2x2304.Idx → Elt Ideal .f32) = aM m c := by
  refine Eq.trans ?_ (V_main_arg1 m c)
  obtain rfl : t = ⟨0, by decide⟩ := (fin_N0 t)
  funext j
  unfold iblk
  refine congrArg (V m c main_arg1) (funext fun a => Fin.ext ?_)
  show 0 * _ + 1 * (j a).val = (j a).val
  omega
theorem iblk_2 (c : Dev nD) : (iblk m c 2 t : S2x2304.Idx → Elt Ideal .f32) = aS m c := by
  refine Eq.trans ?_ (V_main_arg2 m c)
  obtain rfl : t = ⟨0, by decide⟩ := (fin_N0 t)
  funext j
  unfold iblk
  refine congrArg (V m c main_arg2) (funext fun a => Fin.ext ?_)
  show 0 * _ + 1 * (j a).val = (j a).val
  omega
theorem iblk_3 (c : Dev nD) : (iblk m c 3 t : S2304x9216.Idx → Elt Ideal .fp8e4m3) = aW m c := by
  refine Eq.trans ?_ (V_main_arg3 m c)
  obtain rfl : t = ⟨0, by decide⟩ := (fin_N0 t)
  funext j
  unfold iblk
  refine congrArg (V m c main_arg3) (funext fun a => Fin.ext ?_)
  show 0 * _ + 1 * (j a).val = (j a).val
  omega
theorem iblk_4 (c : Dev nD) : (iblk m c 4 t : S18x72.Idx → Elt Ideal .i32) = aK m c := by
  refine Eq.trans ?_ (V_main_arg4 m c)
  obtain rfl : t = ⟨0, by decide⟩ := (fin_N0 t)
  funext j
  unfold iblk
  refine congrArg (V m c main_arg4) (funext fun a => Fin.ext ?_)
  show 0 * _ + 1 * (j a).val = (j a).val
  omega
theorem iblk_6 (c : Dev nD) : (iblk m c 6 t : S2x18x72.Idx → Elt Ideal .i32) = aE m c := by
  refine Eq.trans ?_ (V_main_arg6 m c)
  obtain rfl : t = ⟨0, by decide⟩ := (fin_N0 t)
  funext j
  unfold iblk
  refine congrArg (V m c main_arg6) (funext fun a => Fin.ext ?_)
  show 0 * _ + 1 * (j a).val = (j a).val
  omega
theorem iblk_5 (c : Dev nD) : (iblk m c 5 t : S1x9216.Idx → Elt Ideal .f32) = shapeCast S1x9216 (aB m c) shapeCasts_S9216_S1x9216 := by
  refine Eq.trans (b := (V m c main_v0 : S1x9216.Idx → Elt Ideal .f32)) ?_ ?_
  · obtain rfl : t = ⟨0, by decide⟩ := (fin_N0 t)
    funext j
    unfold iblk
    refine congrArg (V m c main_v0) (funext fun a => Fin.ext ?_)
    show 0 * _ + 1 * (j a).val = (j a).val
    omega
  · entry_read
    rfl

/-- The bias as the body reads it. -/
theorem bias_at (c : Dev nD) (n : Fin 9216) : (iblk m c 5 t : S1x9216.Idx → Elt Ideal .f32) (ix2 0 n) = aB m c (ix1 n) := by
  rw [iblk_5]
  pointwise

/-! ## A load or a store of the whole block -/

theorem ld_0 (x : Vec Ideal S18x72 .i32) : View.ld x r0_0 = x := by
  funext j; refine congrArg x (funext fun a => Fin.ext ?_); show _ + 1 * (j a).val = (j a).val; revert a; intro a; fin_cases a <;> simp
theorem ld_1 (x : Vec Ideal S2304x9216 .fp8e4m3) : View.ld x r0_1 = x := by
  funext j; refine congrArg x (funext fun a => Fin.ext ?_); show _ + 1 * (j a).val = (j a).val; revert a; intro a; fin_cases a <;> simp
theorem ld_2 (x : Vec Ideal S2x18x72 .i32) : View.ld x r0_2 = x := by
  funext j; refine congrArg x (funext fun a => Fin.ext ?_); show _ + 1 * (j a).val = (j a).val; revert a; intro a; fin_cases a <;> simp
theorem ld_3 (x : Vec Ideal S2x2304 .f32) : View.ld x r0_3 = x := by
  funext j; refine congrArg x (funext fun a => Fin.ext ?_); show _ + 1 * (j a).val = (j a).val; revert a; intro a; fin_cases a <;> simp
theorem ld_4 (x : Vec Ideal S2x128x2304 .bf16) : View.ld x r0_4 = x := by
  funext j; refine congrArg x (funext fun a => Fin.ext ?_); show _ + 1 * (j a).val = (j a).val; revert a; intro a; fin_cases a <;> simp
theorem ld_5 (x : Vec Ideal S1x9216 .f32) : View.ld x r0_5 = x := by
  funext j; refine congrArg x (funext fun a => Fin.ext ?_); show _ + 1 * (j a).val = (j a).val; revert a; intro a; fin_cases a <;> simp

theorem canon_7 (p : Vec Ideal S2x128x9216 .bf16) : View.canon [⟨r0_6, p⟩] = p := by
  funext y
  refine View.canon_apply_of_pieces p _ ?_ y (cover0_7 _ y)
  intro pc hpc
  rcases List.mem_cons.mp hpc with rfl | hpc
  · intro x
    refine congrArg p (funext fun a => Fin.ext ?_)
    show (x a).val = _ + 1 * (x a).val; fin_cases a <;> simp
  nomatch hpc
theorem canon_8 (p : Vec Ideal S2x2304x9216 .fp8e4m3) : View.canon [⟨r0_7, p⟩] = p := by
  funext y
  refine View.canon_apply_of_pieces p _ ?_ y (cover0_8 _ y)
  intro pc hpc
  rcases List.mem_cons.mp hpc with rfl | hpc
  · intro x
    refine congrArg p (funext fun a => Fin.ext ?_)
    show (x a).val = _ + 1 * (x a).val; fin_cases a <;> simp
  nomatch hpc
theorem canon_9 (p : Vec Ideal S2x18x72 .f32) : View.canon [⟨r0_2, p⟩] = p := by
  funext y
  refine View.canon_apply_of_pieces p _ ?_ y (cover0_9 _ y)
  intro pc hpc
  rcases List.mem_cons.mp hpc with rfl | hpc
  · intro x
    refine congrArg p (funext fun a => Fin.ext ?_)
    show (x a).val = _ + 1 * (x a).val; fin_cases a <;> simp
  nomatch hpc

/-! ## The final arrays -/

theorem arr_7 (c : Dev nD) : ((dats m 0 c).arrAt 7 cfg0.N : S2x128x9216.Idx → Elt Ideal .bf16)
    = out0_7 (iblk m c 0 t) (iblk m c 1 t) (iblk m c 2 t) (iblk m c 3 t) (iblk m c 4 t) (iblk m c 5 t) (iblk m c 6 t) := by
  have h := (dats m 0 c).read_blk_arrAt_eq_flushed 7
    (fun t t' _ _ hne => absurd ((fin_N0 t).trans (fin_N0 t').symm) hne) cfg0.N t t.isLt (flush0_7 t)
  funext j
  have e := congrFun h j
  refine Eq.trans ?_ (e.trans ?_)
  · refine congrArg ((dats m 0 c).arrAt 7 cfg0.N) (funext fun a => Fin.ext ?_)
    show (j a).val = 0 * _ + 1 * (j a).val
    omega
  · show (cfg0.win 7).cut (grid0.coords t) ((dats m 0 c).after 7 t) j = _
    rw [after0_7]
theorem arr_8 (c : Dev nD) : ((dats m 0 c).arrAt 8 cfg0.N : S2x2304x9216.Idx → Elt Ideal .fp8e4m3)
    = out0_8 (iblk m c 0 t) (iblk m c 1 t) (iblk m c 2 t) (iblk m c 3 t) (iblk m c 4 t) (iblk m c 5 t) (iblk m c 6 t) := by
  have h := (dats m 0 c).read_blk_arrAt_eq_flushed 8
    (fun t t' _ _ hne => absurd ((fin_N0 t).trans (fin_N0 t').symm) hne) cfg0.N t t.isLt (flush0_8 t)
  funext j
  have e := congrFun h j
  refine Eq.trans ?_ (e.trans ?_)
  · refine congrArg ((dats m 0 c).arrAt 8 cfg0.N) (funext fun a => Fin.ext ?_)
    show (j a).val = 0 * _ + 1 * (j a).val
    omega
  · show (cfg0.win 8).cut (grid0.coords t) ((dats m 0 c).after 8 t) j = _
    rw [after0_8]
theorem arr_9 (c : Dev nD) : ((dats m 0 c).arrAt 9 cfg0.N : S2x18x72.Idx → Elt Ideal .f32)
    = out0_9 (iblk m c 0 t) (iblk m c 1 t) (iblk m c 2 t) (iblk m c 3 t) (iblk m c 4 t) (iblk m c 5 t) (iblk m c 6 t) := by
  have h := (dats m 0 c).read_blk_arrAt_eq_flushed 9
    (fun t t' _ _ hne => absurd ((fin_N0 t).trans (fin_N0 t').symm) hne) cfg0.N t t.isLt (flush0_9 t)
  funext j
  have e := congrFun h j
  refine Eq.trans ?_ (e.trans ?_)
  · refine congrArg ((dats m 0 c).arrAt 9 cfg0.N) (funext fun a => Fin.ext ?_)
    show (j a).val = 0 * _ + 1 * (j a).val
    omega
  · show (cfg0.win 9).cut (grid0.coords t) ((dats m 0 c).after 9 t) j = _
    rw [after0_9]

/-! ## The results -/

/-- Result 1: the product of the normalised image and its modulated weight, plus the shift's row and the bias. -/
def refY (c : Dev nD) (b : Fin 2) (s : Fin 128) (n : Fin 9216) : EReal :=
  (∑ k : Fin 2304, aH m c (ix3 b s k) * (code (aK m c) (aW m c) (aE m c) (aM m c) b k n
      * sc (aK m c) (aE m c) b ⟨k.val / 128, by omega⟩ ⟨n.val / 128, by omega⟩))
    + ((∑ k : Fin 2304, aS m c (ix2 b k) * wt (aK m c) (aW m c) k n) + aB m c (ix1 n))

theorem val_7 (c : Dev nD) (b : Fin 2) (s : Fin 128) (n : Fin 9216) :
    ((dats m 0 c).arrAt 7 cfg0.N : S2x128x9216.Idx → Elt Ideal .bf16) (ix3 b s n) = refY m c b s n := by
  rw [arr_7 m ⟨0, by decide⟩]
  unfold out0_7
  rw [canon_7, ld_0, ld_1, ld_2, ld_3, ld_3, ld_4, ld_5, pay1_at, pay8_at, pay9_at, bias_at]
  simp only [iblk_0, iblk_1, iblk_2, iblk_3, iblk_4, iblk_6]
  rfl

theorem val_8 (c : Dev nD) (b : Fin 2) (k : Fin 2304) (n : Fin 9216) :
    ((dats m 0 c).arrAt 8 cfg0.N : S2x2304x9216.Idx → Elt Ideal .fp8e4m3) (ix3 b k n)
      = code (aK m c) (aW m c) (aE m c) (aM m c) b k n := by
  rw [arr_8 m ⟨0, by decide⟩]
  unfold out0_8
  rw [canon_8, ld_0, ld_1, ld_2, ld_3, pay7_at, iblk_1, iblk_3, iblk_4, iblk_6]

theorem val_9 (c : Dev nD) (b : Fin 2) (k : Fin 18) (n : Fin 72) :
    ((dats m 0 c).arrAt 9 cfg0.N : S2x18x72.Idx → Elt Ideal .f32) (ix3 b k n) = sc (aK m c) (aE m c) b k n := by
  rw [arr_9 m ⟨0, by decide⟩]
  unfold out0_9
  rw [canon_9, ld_0, ld_2, pay5_at, iblk_4, iblk_6]

/-! ## The run -/

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v1_0) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v1_1) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v1_2) = (dats m 0 c).arrAt 9 cfg0.N :=
  (h c).1 9

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED and the
    arguments unchanged. -/
theorem run_blocks : θ_run defs (onTc (τ := τ) (main (F := Ideal))) ⟨m, fun _ => 0, ρ⟩ fun r => ∀ c : Dev nD,
      r.2.mem ((c : Thread nD τ).loc main_v1_0) = (dats m 0 c).arrAt 7 cfg0.N
      ∧ r.2.mem ((c : Thread nD τ).loc main_v1_1) = (dats m 0 c).arrAt 8 cfg0.N
      ∧ r.2.mem ((c : Thread nD τ).loc main_v1_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Read

end
-- ==== Proof.Same.lean ====
/-
  The kernel's results are the reference's.
-/
module

public import proofs.«01_k».proof.Proof.Tame
public import proofs.«01_k».proof.Proof.RefRun

@[expose] public section

set_option maxRecDepth 16384

noncomputable section

namespace Cert.Same

open Idealize.ShloMosaic Idealize.ShloMosaic.TcCoe
open Cert.KernelIdeal.Val Cert.ReferenceIdeal.Read

theorem idx3 {a b c : ℕ} (i : (⟨3, ![a, b, c]⟩ : Shape).Idx) : i = ix3 (i 0) (i 1) (i 2) := by
  funext x
  match x with
  | ⟨0, _⟩ => rfl
  | ⟨1, _⟩ => rfl
  | ⟨2, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

variable (h0 : aH m' c = gX m c) (h1 : aM m' c = gM m c) (h2 : aS m' c = gS m c) (h3 : aW m' c = gW m c) (h4 : aK m' c = gK m c)
  (h5 : aB m' c = gB m c) (h6 : aE m' c = gE m c)
variable (hg : Good (gK m c) (gE m c)) (hsh : ∀ (b : Fin 2) (K : Fin 2304), gS m c (ix2 b K) - gS m c (ix2 b K) = 0)

include h0 h1 h2 h3 h4 h5 h6 hg hsh in
theorem same_y : ((Cert.ReferenceIdeal.Gen.dats m' 0 c).arrAt 7 Cert.ReferenceIdeal.cfg0.N : Cert.ReferenceIdeal.S2x128x9216.Idx → Elt Ideal .bf16)
    = Cert.KernelIdeal.Roll.resY m c := by
  funext i
  rw [idx3 i]
  refine (val_7 m' c _ _ _).trans ?_
  refine Eq.trans ?_ (resY_at m c hg hsh _ _ _).symm
  unfold refY
  rw [h0, h1, h2, h3, h4, h5, h6]

include h1 h3 h4 h6 hg in
theorem same_w : ((Cert.ReferenceIdeal.Gen.dats m' 0 c).arrAt 8 Cert.ReferenceIdeal.cfg0.N : Cert.ReferenceIdeal.S2x2304x9216.Idx → Elt Ideal .fp8e4m3)
    = Cert.KernelIdeal.Roll.resW m c := by
  funext i
  rw [idx3 i]
  refine (val_8 m' c _ _ _).trans ?_
  refine Eq.trans ?_ (resW_at m c hg _ _ _).symm
  rw [h1, h3, h4, h6]

include h4 h6 hg in
theorem same_s : ((Cert.ReferenceIdeal.Gen.dats m' 0 c).arrAt 9 Cert.ReferenceIdeal.cfg0.N : Cert.ReferenceIdeal.S2x18x72.Idx → Elt Ideal .f32)
    = (bitcastToFloat .f32 (Cert.KernelIdeal.Roll.resS m c) : FVec Ideal Cert.KernelIdeal.S2x18x72 .f32) := by
  funext i
  rw [idx3 i]
  refine (val_9 m' c _ _ _).trans ?_
  refine Eq.trans ?_ (resS_at m c hg _ _ _).symm
  rw [h4, h6]

end Cert.Same

end
-- ==== Proof.Bits.NormRolled.lean ====
/-
  The normalising kernel's loop body as a short program: one step per block of 128 columns. `body_eq` says the printed
  body is this program, by unfolding.
-/
module

public import proofs.«01_k».proof.Proof.Gen.Norm.Loops
public import Idealize.ShloMosaic.Lib.Pipeline.Regions

@[expose] public section

noncomputable section

namespace Cert.Norm.Roll

open Idealize.ShloMosaic Idealize.ShloMosaic.TcCoe
open Idealize.SL Idealize.SL.Sem
open Cert.Norm Cert.Norm.Gen

variable {F : FTy → Type} [FloatOps F]

abbrev T1 := Fin k0_t1_loop.trips

/-- The trip's batch entry and its first row. -/
def bI (t : T1) : Nat := k0_off1 t 0
def rI (t : T1) : Nat := k0_off1 t 1

theorem bI_eq : ∀ t : T1, bI t = t.val / 4 := by decide +kernel
theorem rI_eq : ∀ t : T1, rI t = 32 * (t.val % 4) := by decide +kernel
theorem trips8 : k0_t1_loop.trips = 8 := by decide +kernel
theorem t_lt (t : T1) : t.val < 8 := lt_of_lt_of_eq t.isLt trips8

/-! The rectangles a trip touches. -/

def oX (t : T1) : Fin 3 → Nat := ![bI t, rI t, 0]
theorem oX_inb (t : T1) : ∀ a, oX t a + S1x32x2304.size a ≤ S2x128x2304.size a := by
  have := t_lt t; have := bI_eq t; have := rI_eq t
  intro a; fin_cases a <;> simp [oX, S1x32x2304, S2x128x2304] <;> omega
def rX (t : T1) : Rect S2x128x2304 := Rect.unit (oX t) S1x32x2304.size (oX_inb t)

theorem oE_inb (t : T1) : ∀ a, oX t a + S1x32x18.size a ≤ S2x128x18.size a := by
  have := t_lt t; have := bI_eq t; have := rI_eq t
  intro a; fin_cases a <;> simp [oX, S1x32x18, S2x128x18] <;> omega
def rE (t : T1) : Rect S2x128x18 := Rect.unit (oX t) S1x32x18.size (oE_inb t)

def oT (t : T1) (k : Fin 18) : Fin 3 → Nat := ![bI t, rI t, 128 * k.val]
theorem oT_inb (t : T1) (k : Fin 18) : ∀ a, oT t k a + S1x32x128.size a ≤ S2x128x2304.size a := by
  have := t_lt t; have := bI_eq t; have := rI_eq t
  intro a; fin_cases a <;> simp [oT, S1x32x128, S2x128x2304] <;> omega
def rT (t : T1) (k : Fin 18) : Rect S2x128x2304 := Rect.unit (oT t k) S1x32x128.size (oT_inb t k)
theorem rT_packed8 (t : T1) (k : Fin 18) : (rT t k).PackedRows (EltTy.packing .fp8e4m3) := by
  refine Or.inr ⟨by decide, rfl, Or.inl ⟨?_, ?_⟩⟩
  · show 4 ∣ rI t
    rw [rI_eq]; omega
  · show 4 ∣ 32
    decide
theorem rT_packed16 (t : T1) (k : Fin 18) : (rT t k).PackedRows (EltTy.packing .bf16) := by
  refine Or.inr ⟨by decide, rfl, Or.inl ⟨?_, ?_⟩⟩
  · show 2 ∣ rI t
    rw [rI_eq]; omega
  · show 2 ∣ 32
    decide

/-! What a trip computes. -/

theorem slT : ∀ k : Fin 18, S32x2304.Slices ![0, 128 * k.val] S32x128 := by decide +kernel
theorem slE : ∀ k : Fin 18, S32x18.Slices ![0, k.val] S32x1 := by decide +kernel

/-- The block's column of exponents. -/
def expK (k : Fin 18) (es : IVec S32x18 32) : IVec S32x1 32 := extractStridedSlice S32x1 ![0, k.val] es (slE k)

/-- Two to a column of exponents. -/
def powK (e : IVec S32x1 32) : FVec F S32x1 .f32 :=
  bitcastToFloat .f32 (shli (addi e (broadcast S32x1 127#32)) (broadcast S32x1 23#32))

/-- The block's codes. -/
def codeK (k : Fin 18) (h : FVec F S32x2304 .f32) (es : IVec S32x18 32) : FVec F S32x128 .fp8e4m3 :=
  truncf .fp8e4m3 (minimumf (broadcast S32x128 (Scalar.ofBits .f32 0x43E00000#32)) (maximumf (broadcast S32x128 (Scalar.ofBits .f32 0xC3E00000#32))
    (mulf (extractStridedSlice S32x128 ![0, 128 * k.val] h (slT k))
      (broadcastTo S32x128 (powK (F := F) (subi (broadcast S32x1 0#32) (expK k es))) broadcasts_S32x1_S32x128)))) bitsLt_fp8e4m3_f32

/-- The block's codes times its scale. -/
def hbK (k : Fin 18) (h : FVec F S32x2304 .f32) (es : IVec S32x18 32) : FVec F S32x128 .bf16 :=
  truncf .bf16 (mulf (extf .f32 (codeK k h es) bitsLt_fp8e4m3_f32) (broadcastTo S32x128 (powK (F := F) (expK k es)) broadcasts_S32x1_S32x128)) bitsLt_bf16_f32

/-- The scales' rows, with the block's scale put in its lane. -/
def accK (k : Fin 18) (es : IVec S32x18 32) (a : FVec F S32x128 .f32) : FVec F S32x128 .f32 :=
  select (cmpi .eq (iota .tc S32x128 32 [1] iota_S32x128_d1_w32) (broadcast S32x128 (BitVec.ofNat 32 k.val)))
    (broadcastTo S32x128 (shapeCast S32x1 (powK (F := F) (expK k es)) shapeCasts_S32x1_S32x1) broadcasts_S32x1_S32x128) a

section Prog

variable (arg1 : Memref sig .tc .vmem S2x128x18 .i32) (arg2 : Memref sig .tc .vmem S2x128x2304 .fp8e4m3) (harg2 : arg2.IsWhole)
  (arg3 : Memref sig .tc .vmem S2x128x18 .f32) (arg4 : Memref sig .tc .vmem S2x128x2304 .bf16) (harg4 : arg4.IsWhole)
  (arg5 : Memref sig .tc .vmem S2x128x2304 .bf16)

/-- One block: its codes and their products with the scale are stored. -/
def blk (t : T1) (h : FVec F S32x2304 .f32) (es : IVec S32x18 32) (k : Fin 18) (a : FVec F S32x128 .f32) :
    Prog (TpuEff nD τ sig (Elt F) Λ₀ .tc) (FVec F S32x128 .f32) := do
  let _c : Vec F S1x32x128 .fp8e4m3 ← Prog.lift (.load arg2 (rT t k).toLoadRect (View.loadsAt_vmem h_S1x32x128))
  Prog.lift (.store arg2 (rT t k) (shapeCast S1x32x128 (codeK k h es) shapeCasts_S32x128_S1x32x128) Finset.univ
    (View.stores_vmem h_S1x32x128 (harg2.storeExact_slice rfl _ (rT_packed8 t k)) (fun _ => rfl)) (.inl rfl))
  let _d : Vec F S1x32x128 .bf16 ← Prog.lift (.load arg4 (rT t k).toLoadRect (View.loadsAt_vmem h_S1x32x128))
  Prog.lift (.store arg4 (rT t k) (shapeCast S1x32x128 (hbK k h es) shapeCasts_S32x128_S1x32x128) Finset.univ
    (View.stores_vmem h_S1x32x128 (harg4.storeExact_slice rfl _ (rT_packed16 t k)) (fun _ => rfl)) (.inl rfl))
  pure (accK k es a)

/-- A trip of the loop. -/
def trip (t : T1) : Prog (TpuEff nD τ sig (Elt F) Λ₀ .tc) Unit := do
  let xv : Vec F S1x32x2304 .bf16 ← Prog.lift (.load arg5 (rX t).toLoadRect (View.loadsAt_vmem h_S1x32x2304))
  let ev : Vec F S1x32x18 .i32 ← Prog.lift (.load arg1 (rE t).toLoadRect (View.loadsAt_vmem h_S1x32x18))
  let h : FVec F S32x2304 .f32 := k0_pay4 (k0_pay2 xv) (k0_pay3 xv)
  let es : IVec S32x18 32 := k0_pay6 ev
  let a ← blk arg2 harg2 arg4 harg4 t h es 0 k0_pay5
  let a ← blk arg2 harg2 arg4 harg4 t h es 1 a
  let a ← blk arg2 harg2 arg4 harg4 t h es 2 a
  let a ← blk arg2 harg2 arg4 harg4 t h es 3 a
  let a ← blk arg2 harg2 arg4 harg4 t h es 4 a
  let a ← blk arg2 harg2 arg4 harg4 t h es 5 a
  let a ← blk arg2 harg2 arg4 harg4 t h es 6 a
  let a ← blk arg2 harg2 arg4 harg4 t h es 7 a
  let a ← blk arg2 harg2 arg4 harg4 t h es 8 a
  let a ← blk arg2 harg2 arg4 harg4 t h es 9 a
  let a ← blk arg2 harg2 arg4 harg4 t h es 10 a
  let a ← blk arg2 harg2 arg4 harg4 t h es 11 a
  let a ← blk arg2 harg2 arg4 harg4 t h es 12 a
  let a ← blk arg2 harg2 arg4 harg4 t h es 13 a
  let a ← blk arg2 harg2 arg4 harg4 t h es 14 a
  let a ← blk arg2 harg2 arg4 harg4 t h es 15 a
  let a ← blk arg2 harg2 arg4 harg4 t h es 16 a
  let a ← blk arg2 harg2 arg4 harg4 t h es 17 a
  let _s : Vec F S1x32x18 .f32 ← Prog.lift (.load arg3 (rE t).toLoadRect (View.loadsAt_vmem h_S1x32x18))
  Prog.lift (.store arg3 (rE t) (k0_pay1 (extractStridedSlice S32x18 ![0, 0] a slices_S32x128_o0_0_S32x18)) Finset.univ (View.stores_vmem_bits_univ h_S1x32x18 rfl) (.inl rfl))
  pure ⟨⟩

end Prog

open Pipeline in
set_option maxRecDepth 65536 in
set_option maxHeartbeats 0 in
theorem body_eq (arg0 : Memref sig .tc .hbm S2x128x2304 .bf16) (harg0 : arg0.IsWhole) (arg1 : Memref sig .tc .vmem S2x128x18 .i32) (harg1 : arg1.IsWhole)
    (arg2 : Memref sig .tc .vmem S2x128x2304 .fp8e4m3) (harg2 : arg2.IsWhole) (arg3 : Memref sig .tc .vmem S2x128x18 .f32) (harg3 : arg3.IsWhole)
    (arg4 : Memref sig .tc .vmem S2x128x2304 .bf16) (harg4 : arg4.IsWhole) (arg5 : Memref sig .tc .vmem S2x128x2304 .bf16) (harg5 : arg5.IsWhole)
    (arg6 : DmaSems sig S_) (t : T1) :
    k0_t1_body (F := F) arg0 harg0 arg1 harg1 arg2 harg2 arg3 harg3 arg4 harg4 arg5 harg5 arg6 t () = trip arg1 arg2 harg2 arg3 arg4 harg4 arg5 t := by
  rw [k0_t1_body, k0_part1_eq_skeleton, k0_part1_skel, trip]
  chain_rfl

end Cert.Norm.Roll

end
-- ==== Proof.Bits.NormTrip.lean ====
/-
  One trip of the normalising kernel's loop, and the whole kernel: what each finds and what it leaves.
-/
module

public import proofs.«01_k».proof.Proof.Bits.NormRolled
public import proofs.«01_k».proof.Proof.Cells
public import Idealize.ShloMosaic.Lib.ValueLayout

@[expose] public section

noncomputable section

namespace Cert.Norm.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.Norm Cert.Norm.Gen Cert.Cells Idealize.ShloMosaic.Transfers

variable {F : FTy → Type} [FloatOps F]

/-! ## Where the rectangles lie -/

theorem unit_val {s : Shape} (off size : Fin s.rank → Nat) (h : ∀ a, off a + size a ≤ s.size a)
    (j : (Rect.unit off size h).shape.Idx) (a : Fin s.rank) :
    (((Rect.unit off size h).emb j a : Fin _) : Nat) = off a + (j a : Nat) := by
  rw [Rect.emb_apply]; show off a + 1 * _ = _; rw [Nat.one_mul]

theorem mem_rT {t : T1} {k : Fin 18} {i : S2x128x2304.Idx} : i ∈ (rT t k).set ↔
    (4 * (i 0).val + (i 1).val / 32 = t.val ∧ (i 2).val / 128 = k.val) := by
  have hb := bI_eq t; have hr := rI_eq t; have ht := t_lt t
  have l0 : (i 0).val < 2 := (i 0).isLt
  have l1 : (i 1).val < 128 := (i 1).isLt
  rw [rT, Rect.mem_set_unit]
  constructor
  · intro h
    have h0 : bI t ≤ (i 0).val ∧ (i 0).val < bI t + 1 := h 0
    have h1 : rI t ≤ (i 1).val ∧ (i 1).val < rI t + 32 := h 1
    have h2 : 128 * k.val ≤ (i 2).val ∧ (i 2).val < 128 * k.val + 128 := h 2
    omega
  · rintro ⟨h0, h2⟩ a
    match a with
    | 0 => show bI t ≤ (i 0).val ∧ (i 0).val < bI t + 1; omega
    | 1 => show rI t ≤ (i 1).val ∧ (i 1).val < rI t + 32; omega
    | 2 => show 128 * k.val ≤ (i 2).val ∧ (i 2).val < 128 * k.val + 128; omega

theorem mem_rE {t : T1} {i : S2x128x18.Idx} : i ∈ (rE t).set ↔ 4 * (i 0).val + (i 1).val / 32 = t.val := by
  have hb := bI_eq t; have hr := rI_eq t; have ht := t_lt t
  have l0 : (i 0).val < 2 := (i 0).isLt
  have l1 : (i 1).val < 128 := (i 1).isLt
  rw [rE, Rect.mem_set_unit]
  constructor
  · intro h
    have h0 : bI t ≤ (i 0).val ∧ (i 0).val < bI t + 1 := h 0
    have h1 : rI t ≤ (i 1).val ∧ (i 1).val < rI t + 32 := h 1
    omega
  · rintro h0 a
    match a with
    | 0 => show bI t ≤ (i 0).val ∧ (i 0).val < bI t + 1; omega
    | 1 => show rI t ≤ (i 1).val ∧ (i 1).val < rI t + 32; omega
    | 2 => show 0 ≤ (i 2).val ∧ (i 2).val < 0 + 18; have : (i 2).val < 18 := (i 2).isLt; omega

/-! ## The values -/

section Values
variable (X : S2x128x2304.Idx → Elt F .bf16) (E : S2x128x18.Idx → Elt F .i32)

def xV (t : T1) : Vec F S1x32x2304 .bf16 := fun j => X ((rX t).emb j)
def eV (t : T1) : Vec F S1x32x18 .i32 := fun j => E ((rE t).emb j)
def hV (t : T1) : FVec F S32x2304 .f32 := k0_pay4 (k0_pay2 (xV X t)) (k0_pay3 (xV X t))
def esV (t : T1) : IVec S32x18 32 := k0_pay6 (F := F) (eV E t)

/-- The scales' rows after all the blocks. -/
def accV (t : T1) : FVec F S32x128 .f32 :=
  let st := fun k => accK (F := F) k (esV E t)
  st 17 (st 16 (st 15 (st 14 (st 13 (st 12 (st 11 (st 10 (st 9 (st 8 (st 7 (st 6 (st 5 (st 4 (st 3 (st 2 (st 1 (st 0 k0_pay5)))))))))))))))))

/-- The trip that a row belongs to. -/
def tOf (b : Fin 2) (r : Fin 128) : T1 := ⟨4 * b.val + r.val / 32, by rw [trips8]; omega⟩

def T2 (i : S2x128x2304.Idx) : Elt F .fp8e4m3 :=
  shapeCast S1x32x128 (codeK ⟨(i 2).val / 128, by have : (i 2).val < 2304 := (i 2).isLt; omega⟩ (hV X (tOf (i 0) (i 1))) (esV E (tOf (i 0) (i 1))))
    shapeCasts_S32x128_S1x32x128
    (ix3 (0 : Fin 1) (⟨(i 1).val % 32, Nat.mod_lt _ (by decide)⟩ : Fin 32) (⟨(i 2).val % 128, Nat.mod_lt _ (by decide)⟩ : Fin 128))

def T4 (i : S2x128x2304.Idx) : Elt F .bf16 :=
  shapeCast S1x32x128 (hbK ⟨(i 2).val / 128, by have : (i 2).val < 2304 := (i 2).isLt; omega⟩ (hV X (tOf (i 0) (i 1))) (esV E (tOf (i 0) (i 1))))
    shapeCasts_S32x128_S1x32x128
    (ix3 (0 : Fin 1) (⟨(i 1).val % 32, Nat.mod_lt _ (by decide)⟩ : Fin 32) (⟨(i 2).val % 128, Nat.mod_lt _ (by decide)⟩ : Fin 128))

def T3 (i : S2x128x18.Idx) : Elt F .f32 :=
  k0_pay1 (extractStridedSlice S32x18 ![0, 0] (accV E (tOf (i 0) (i 1))) slices_S32x128_o0_0_S32x18)
    (ix3 (0 : Fin 1) (⟨(i 1).val % 32, Nat.mod_lt _ (by decide)⟩ : Fin 32) (i 2))

theorem rT_emb (t : T1) (k : Fin 18) (j : S1x32x128.Idx) :
    tOf ((rT t k).emb j 0) ((rT t k).emb j 1) = t ∧ (((rT t k).emb j 2 : Fin _) : Nat) = 128 * k.val + (j 2).val
      ∧ (((rT t k).emb j 1 : Fin _) : Nat) % 32 = (j 1).val := by
  have e0 : (((rT t k).emb j 0 : Fin _) : Nat) = bI t + (j 0).val := unit_val (s := S2x128x2304) (oT t k) S1x32x128.size (oT_inb t k) j 0
  have e1 : (((rT t k).emb j 1 : Fin _) : Nat) = rI t + (j 1).val := unit_val (s := S2x128x2304) (oT t k) S1x32x128.size (oT_inb t k) j 1
  have e2 : (((rT t k).emb j 2 : Fin _) : Nat) = 128 * k.val + (j 2).val := unit_val (s := S2x128x2304) (oT t k) S1x32x128.size (oT_inb t k) j 2
  have hb := bI_eq t; have hr := rI_eq t; have ht := t_lt t
  have l0 : (j 0).val < 1 := (j 0).isLt
  have l1 : (j 1).val < 32 := (j 1).isLt
  refine ⟨Fin.ext ?_, e2, ?_⟩
  · show 4 * (((rT t k).emb j 0 : Fin _) : Nat) + (((rT t k).emb j 1 : Fin _) : Nat) / 32 = t.val
    rw [e0, e1]; omega
  · rw [e1]; omega

theorem T2_emb (t : T1) (k : Fin 18) (j : S1x32x128.Idx) :
    T2 X E ((rT t k).emb j) = shapeCast S1x32x128 (codeK k (hV X t) (esV E t)) shapeCasts_S32x128_S1x32x128 j := by
  obtain ⟨ht, e2, e1⟩ := rT_emb t k j
  have l0 : (j 0).val < 1 := (j 0).isLt
  have l2 : (j 2).val < 128 := (j 2).isLt
  unfold T2
  rw [ht]
  congr 2
  · exact Fin.ext (by show _ / 128 = _; rw [e2]; omega)
  · funext a
    match a with
    | 0 => exact Fin.ext (by show 0 = (j 0).val; omega)
    | 1 => exact Fin.ext (by show _ % 32 = (j 1).val; exact e1)
    | 2 => exact Fin.ext (by show _ % 128 = (j 2).val; rw [e2]; omega)

theorem T4_emb (t : T1) (k : Fin 18) (j : S1x32x128.Idx) :
    T4 X E ((rT t k).emb j) = shapeCast S1x32x128 (hbK k (hV X t) (esV E t)) shapeCasts_S32x128_S1x32x128 j := by
  obtain ⟨ht, e2, e1⟩ := rT_emb t k j
  have l0 : (j 0).val < 1 := (j 0).isLt
  have l2 : (j 2).val < 128 := (j 2).isLt
  unfold T4
  rw [ht]
  congr 2
  · exact Fin.ext (by show _ / 128 = _; rw [e2]; omega)
  · funext a
    match a with
    | 0 => exact Fin.ext (by show 0 = (j 0).val; omega)
    | 1 => exact Fin.ext (by show _ % 32 = (j 1).val; exact e1)
    | 2 => exact Fin.ext (by show _ % 128 = (j 2).val; rw [e2]; omega)

theorem T3_emb (t : T1) (j : S1x32x18.Idx) :
    T3 E ((rE t).emb j) = k0_pay1 (extractStridedSlice S32x18 ![0, 0] (accV (F := F) E t) slices_S32x128_o0_0_S32x18) j := by
  have e0 : (((rE t).emb j 0 : Fin _) : Nat) = bI t + (j 0).val := unit_val (s := S2x128x18) (oX t) S1x32x18.size (oE_inb t) j 0
  have e1 : (((rE t).emb j 1 : Fin _) : Nat) = rI t + (j 1).val := unit_val (s := S2x128x18) (oX t) S1x32x18.size (oE_inb t) j 1
  have e2 : (((rE t).emb j 2 : Fin _) : Nat) = 0 + (j 2).val := unit_val (s := S2x128x18) (oX t) S1x32x18.size (oE_inb t) j 2
  have hb := bI_eq t; have hr := rI_eq t; have ht := t_lt t
  have l0 : (j 0).val < 1 := (j 0).isLt
  have l1 : (j 1).val < 32 := (j 1).isLt
  have hT : tOf ((rE t).emb j 0) ((rE t).emb j 1) = t := by
    refine Fin.ext ?_
    show 4 * (((rE t).emb j 0 : Fin _) : Nat) + (((rE t).emb j 1 : Fin _) : Nat) / 32 = t.val
    rw [e0, e1]; omega
  unfold T3
  rw [hT]
  congr 1
  funext a
  match a with
  | 0 => exact Fin.ext (by show 0 = (j 0).val; omega)
  | 1 => exact Fin.ext (by show _ % 32 = (j 1).val; rw [e1]; omega)
  | 2 => exact Fin.ext (by show (((rE t).emb j 2 : Fin _) : Nat) = (j 2).val; rw [e2]; omega)

end Values

/-! ## The steps -/

section Steps
variable (c : Dev nD)
local notation "𝕄" => MT nD τ sig Unit (Elt F) ℕ (Pipeline.UD sig nD τ) ℕ

/-- The value where it is known. -/
def upTo {s : Shape} {e : EltTy} (K : s.Idx → Prop) (T : s.Idx → Elt F e) : s.Idx → Elt F e → Prop := fun i x => K i → x = T i

/-- Known: the rows of the earlier trips, and the first blocks of this one's. -/
def KT (t l : Nat) (i : S2x128x2304.Idx) : Prop :=
  4 * (i 0).val + (i 1).val / 32 < t ∨ (4 * (i 0).val + (i 1).val / 32 = t ∧ (i 2).val / 128 < l)
def KE (t : Nat) (i : S2x128x18.Idx) : Prop := 4 * (i 0).val + (i 1).val / 32 < t

variable (arg0 : Memref sig .tc .hbm S2x128x2304 .bf16) (harg0 : arg0.IsWhole)
  (arg1 : Memref sig .tc .vmem S2x128x18 .i32) (harg1 : arg1.IsWhole) (arg2 : Memref sig .tc .vmem S2x128x2304 .fp8e4m3) (harg2 : arg2.IsWhole)
  (arg3 : Memref sig .tc .vmem S2x128x18 .f32) (harg3 : arg3.IsWhole) (arg4 : Memref sig .tc .vmem S2x128x2304 .bf16) (harg4 : arg4.IsWhole)
  (arg5 : Memref sig .tc .vmem S2x128x2304 .bf16) (harg5 : arg5.IsWhole) (arg6 : DmaSems sig S_)
variable (X : S2x128x2304.Idx → Elt F .bf16) (E : S2x128x18.Idx → Elt F .i32)

local notation "WP" => wp frame (wpE (defs₀ (F := F)) Variants.none (c : Thread nD τ) none) Set.univ

/-- What a block's step changes. -/
def BlkRes (t l : Nat) : sProp 𝕄 :=
  iprop(KV (c : Thread nD τ) arg2.view Finset.univ fullShare (upTo (KT t l) (T2 X E))
    ∗ KV (c : Thread nD τ) arg4.view Finset.univ fullShare (upTo (KT t l) (T4 X E)))

theorem blk_wp (t : T1) (k : Fin 18) (a : FVec F S32x128 .f32) (Q : FVec F S32x128 .f32 → sProp 𝕄) :
    BlkRes c arg2 arg4 X E t.val k.val
      ⊢ iprop((BlkRes c arg2 arg4 X E t.val (k.val + 1) -∗ Q (accK k (esV E t) a))
        -∗ WP (blk arg2 harg2 arg4 harg4 t (hV X t) (esV E t) k a) Q) := by
  unfold BlkRes blk
  have hk : ∀ i : S2x128x2304.Idx, i ∉ (rT t k).set → KT t.val (k.val + 1) i → KT t.val k.val i := by
    intro i hi hK
    rw [mem_rT] at hi
    unfold KT at hK ⊢
    omega
  iintro ⟨H2, H4⟩ HK
  rw [wp_bind]
  iapply (load Variants.none (c : Thread nD τ) none Set.univ (Finset.subset_univ _)) $$ H2
  iintro %v2 - H2
  rw [wp_bind]
  iapply (store Variants.none (c : Thread nD τ) none Set.univ (upTo (KT t.val (k.val + 1)) (T2 X E)) (Finset.subset_univ _) ?_ ?_) $$ H2
  · intro j _
    exact (T2_emb X E t k j).symm
  · intro i _ hi x hx hK
    exact hx (hk i hi hK)
  iintro H2
  rw [wp_bind]
  iapply (load Variants.none (c : Thread nD τ) none Set.univ (Finset.subset_univ _)) $$ H4
  iintro %v4 - H4
  rw [wp_bind]
  iapply (store Variants.none (c : Thread nD τ) none Set.univ (upTo (KT t.val (k.val + 1)) (T4 X E)) (Finset.subset_univ _) ?_ ?_) $$ H4
  · intro j _
    exact (T4_emb X E t k j).symm
  · intro i _ hi x hx hK
    exact hx (hk i hi hK)
  iintro H4
  iapply (pureStep Variants.none (c : Thread nD τ) none Set.univ (accK k (esV E t) a) rfl)
  iapply HK
  isplitl [H2] <;> iassumption

/-- What the loop holds before a trip. -/
def Inv (t : Nat) : sProp 𝕄 :=
  iprop(BlkRes c arg2 arg4 X E t 0
    ∗ KV (c : Thread nD τ) arg3.view Finset.univ fullShare (upTo (KE t) (T3 E))
    ∗ KV (c : Thread nD τ) arg1.view Finset.univ fullShare (is E)
    ∗ KV (c : Thread nD τ) arg5.view Finset.univ fullShare (is X))

theorem BlkRes_next (t : Nat) : BlkRes c arg2 arg4 X E t 18 ⊢ (BlkRes c arg2 arg4 X E (t + 1) 0 : sProp 𝕄) := by
  unfold BlkRes
  have hk : ∀ i : S2x128x2304.Idx, KT (t + 1) 0 i → KT t 18 i := by
    intro i hK
    have l2 : (i 2).val < 2304 := (i 2).isLt
    unfold KT at hK ⊢
    omega
  iintro ⟨H2, H4⟩
  isplitl [H2]
  · iapply (KV_mono (c : Thread nD τ) ?_) $$ H2
    exact fun i _ x hx hK => hx (hk i hK)
  · iapply (KV_mono (c : Thread nD τ) ?_) $$ H4
    exact fun i _ x hx hK => hx (hk i hK)

theorem trip_wp (t : T1) :
    Inv c arg1 arg2 arg3 arg4 arg5 X E t.val
      ⊢ WP (trip arg1 arg2 harg2 arg3 arg4 harg4 arg5 t) (fun _ => Inv c arg1 arg2 arg3 arg4 arg5 X E (t.val + 1)) := by
  unfold Inv trip
  iintro ⟨HB, H3, H1, H5⟩
  rw [wp_bind]
  iapply (loadIs Variants.none (c : Thread nD τ) none Set.univ (Finset.subset_univ _)) $$ H5
  iintro H5
  rw [wp_bind]
  iapply (loadIs Variants.none (c : Thread nD τ) none Set.univ (Finset.subset_univ _)) $$ H1
  iintro H1
  rw [wp_bind]
  iapply (blk_wp c arg2 harg2 arg4 harg4 X E t 0) $$ [HB]
  · iexact HB
  iintro HB
  rw [wp_bind]
  iapply (blk_wp c arg2 harg2 arg4 harg4 X E t 1) $$ [HB]
  · iexact HB
  iintro HB
  rw [wp_bind]
  iapply (blk_wp c arg2 harg2 arg4 harg4 X E t 2) $$ [HB]
  · iexact HB
  iintro HB
  rw [wp_bind]
  iapply (blk_wp c arg2 harg2 arg4 harg4 X E t 3) $$ [HB]
  · iexact HB
  iintro HB
  rw [wp_bind]
  iapply (blk_wp c arg2 harg2 arg4 harg4 X E t 4) $$ [HB]
  · iexact HB
  iintro HB
  rw [wp_bind]
  iapply (blk_wp c arg2 harg2 arg4 harg4 X E t 5) $$ [HB]
  · iexact HB
  iintro HB
  rw [wp_bind]
  iapply (blk_wp c arg2 harg2 arg4 harg4 X E t 6) $$ [HB]
  · iexact HB
  iintro HB
  rw [wp_bind]
  iapply (blk_wp c arg2 harg2 arg4 harg4 X E t 7) $$ [HB]
  · iexact HB
  iintro HB
  rw [wp_bind]
  iapply (blk_wp c arg2 harg2 arg4 harg4 X E t 8) $$ [HB]
  · iexact HB
  iintro HB
  rw [wp_bind]
  iapply (blk_wp c arg2 harg2 arg4 harg4 X E t 9) $$ [HB]
  · iexact HB
  iintro HB
  rw [wp_bind]
  iapply (blk_wp c arg2 harg2 arg4 harg4 X E t 10) $$ [HB]
  · iexact HB
  iintro HB
  rw [wp_bind]
  iapply (blk_wp c arg2 harg2 arg4 harg4 X E t 11) $$ [HB]
  · iexact HB
  iintro HB
  rw [wp_bind]
  iapply (blk_wp c arg2 harg2 arg4 harg4 X E t 12) $$ [HB]
  · iexact HB
  iintro HB
  rw [wp_bind]
  iapply (blk_wp c arg2 harg2 arg4 harg4 X E t 13) $$ [HB]
  · iexact HB
  iintro HB
  rw [wp_bind]
  iapply (blk_wp c arg2 harg2 arg4 harg4 X E t 14) $$ [HB]
  · iexact HB
  iintro HB
  rw [wp_bind]
  iapply (blk_wp c arg2 harg2 arg4 harg4 X E t 15) $$ [HB]
  · iexact HB
  iintro HB
  rw [wp_bind]
  iapply (blk_wp c arg2 harg2 arg4 harg4 X E t 16) $$ [HB]
  · iexact HB
  iintro HB
  rw [wp_bind]
  iapply (blk_wp c arg2 harg2 arg4 harg4 X E t 17) $$ [HB]
  · iexact HB
  iintro HB
  rw [wp_bind]
  iapply (load Variants.none (c : Thread nD τ) none Set.univ (Finset.subset_univ _)) $$ H3
  iintro %v3 - H3
  rw [wp_bind]
  iapply (store Variants.none (c : Thread nD τ) none Set.univ (upTo (KE (t.val + 1)) (T3 E)) (Finset.subset_univ _) ?_ ?_) $$ H3
  · intro j _
    exact (T3_emb E t j).symm
  · intro i _ hi x hx hK
    refine hx ?_
    rw [mem_rE] at hi
    unfold KE at hK ⊢
    omega
  iintro H3
  iapply (pureStep Variants.none (c : Thread nD τ) none Set.univ ⟨⟩ rfl)
  isplitl [HB]
  · iapply (BlkRes_next c arg2 arg4 X E t.val) $$ [HB]
    iexact HB
  isplitl [H3]; · iexact H3
  isplitl [H1] <;> iassumption

/-- The credits of the copy of the image. -/
def NX : Nat := sig.dmaCredit .tc (Kind.tc.table .vmem) arg5.view.buf S2x128x2304 .bf16

/-- The whole kernel. -/
theorem whole_wp (Q : PUnit → sProp 𝕄) :
    iprop(KV (c : Thread nD τ) arg0.view Finset.univ fullShare (is X)
      ∗ KV (c : Thread nD τ) arg1.view Finset.univ fullShare (is E)
      ∗ KV (c : Thread nD τ) arg2.view Finset.univ fullShare any
      ∗ KV (c : Thread nD τ) arg3.view Finset.univ fullShare any
      ∗ KV (c : Thread nD τ) arg4.view Finset.univ fullShare any
      ∗ KV (c : Thread nD τ) arg5.view Finset.univ fullShare any
      ∗ semVal ((c : Thread nD τ), .dma arg6.sem) 0
      ∗ (∃ W, owes (c : Thread nD τ) 0 W))
    ⊢ iprop((iprop(KV (c : Thread nD τ) arg0.view Finset.univ fullShare (is X)
      ∗ KV (c : Thread nD τ) arg1.view Finset.univ fullShare (is E)
      ∗ KV (c : Thread nD τ) arg2.view Finset.univ fullShare (is (T2 X E))
      ∗ KV (c : Thread nD τ) arg3.view Finset.univ fullShare (is (T3 E))
      ∗ KV (c : Thread nD τ) arg4.view Finset.univ fullShare (is (T4 X E))
      ∗ KV (c : Thread nD τ) arg5.view Finset.univ fullShare (is X)
      ∗ semVal ((c : Thread nD τ), .dma arg6.sem) 0
      ∗ (∃ W, owes (c : Thread nD τ) 0 W)) -∗ Q ⟨⟩)
      -∗ WP (cc0_adaln_fp8_norm (F := F) arg0 harg0 arg1 harg1 arg2 harg2 arg3 harg3 arg4 harg4 arg5 harg5 arg6) Q) := by
  rw [cc0_adaln_fp8_norm_eq_skeleton, cc0_adaln_fp8_norm_skel]
  iintro ⟨H0, H1, H2, H3, H4, H5, S6, HW⟩ HK
  rw [wp_bind]
  iapply (dma Variants.none (c : Thread nD τ) none countersEmb () (NX arg5) rfl ?_) $$ [H0 H5 S6]
  · exact sig.dmaCredit_pos _ _ _ _ _ (by decide)
  · isplitl [H0]; · iexact H0
    isplitl [H5] <;> iassumption
  iintro HX
  rw [wp_bind]
  iapply (wait Variants.none (c : Thread nD τ) none countersEmb () rfl) $$ [HX HW]
  · isplitl [HX]; · iexact HX
    iexact HW
  iintro ⟨⟨H5, H0⟩, S6, HW⟩
  iapply (Scf.wp_for_bind frame _ Set.univ k0_t1_loop.lb k0_t1_loop.ub k0_t1_loop.st k0_t1_ok () _
    (fun t _ => Inv c arg1 arg2 arg3 arg4 arg5 X E t)
    (fun t _ => by rw [body_eq]; exact trip_wp c arg1 arg2 harg2 arg3 arg4 harg4 arg5 X E t)) $$ [H1 H2 H3 H4 H5]
  · unfold Inv BlkRes
    isplitl [H2 H4]
    · isplitl [H2]
      · iapply (KV_mono (c : Thread nD τ) ?_) $$ H2
        intro i _ x _ hK
        unfold KT at hK
        omega
      · iapply (KV_mono (c : Thread nD τ) ?_) $$ H4
        intro i _ x _ hK
        unfold KT at hK
        omega
    isplitl [H3]
    · iapply (KV_mono (c : Thread nD τ) ?_) $$ H3
      intro i _ x _ hK
      unfold KE at hK
      omega
    isplitl [H1] <;> iassumption
  iintro %acc HA
  unfold Inv BlkRes
  rw [show Scf.trips k0_t1_loop.lb k0_t1_loop.ub k0_t1_loop.st = 8 from trips8]
  icases HA with ⟨⟨H2, H4⟩, H3, H1, H5⟩
  have hk : ∀ i : S2x128x2304.Idx, KT 8 0 i := by
    intro i
    have l0 : (i 0).val < 2 := (i 0).isLt
    have l1 : (i 1).val < 128 := (i 1).isLt
    unfold KT
    omega
  have he : ∀ i : S2x128x18.Idx, KE 8 i := by
    intro i
    have l0 : (i 0).val < 2 := (i 0).isLt
    have l1 : (i 1).val < 128 := (i 1).isLt
    unfold KE
    omega
  iapply (pureStep Variants.none (c : Thread nD τ) none Set.univ ⟨⟩ rfl)
  iapply HK
  isplitl [H0]; · iexact H0
  isplitl [H1]; · iexact H1
  isplitl [H2]
  · iapply (KV_mono (c : Thread nD τ) ?_) $$ H2
    exact fun i _ x hx => hx (hk i)
  isplitl [H3]
  · iapply (KV_mono (c : Thread nD τ) ?_) $$ H3
    exact fun i _ x hx => hx (he i)
  isplitl [H4]
  · iapply (KV_mono (c : Thread nD τ) ?_) $$ H4
    exact fun i _ x hx => hx (hk i)
  isplitl [H5]; · iexact H5
  isplitl [S6] <;> iassumption

end Steps

end Cert.Norm.Roll

end
-- ==== Proof.Bits.NormRun.lean ====
/-
  The launch of the normalising kernel: its arguments as they were, and its three results named.
-/
module

public import proofs.«01_k».proof.Proof.Bits.NormTrip
public import proofs.«01_k».proof.Proof.Gen.Norm.Frame

@[expose] public section

set_option maxRecDepth 16384

noncomputable section

namespace Cert.Norm.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.Norm Cert.Norm.Gen Cert.Cells Idealize.ShloMosaic.Transfers
open Idealize.ShloMosaic.Pipeline (Dat Cfg Window BodyObligation cellOf)

variable {F : FTy → Type} [FloatOps F]
local notation "𝕄" => MT nD τ sig Unit (Elt F) ℕ (Pipeline.UD sig nD τ) ℕ

/-! ## Whole memrefs -/

section Whole
variable (c : Dev nD) {sp : Space} {s : Shape} {e : EltTy} (M : Memref sig .tc sp s e)

theorem KV_owns (X : s.Idx → Elt F e) :
    (KV (c : Thread nD τ) M.view Finset.univ fullShare (is X) : sProp 𝕄) = owns (c : Thread nD τ) M fullShare X := by
  unfold KV owns
  have e : ∀ f, (∀ i ∈ (Finset.univ : Finset s.Idx), is X i (M.view.read (Elt F) f i)) ↔ M.view.read (Elt F) f = X := by
    intro f
    constructor
    · intro h; funext i; exact h i (Finset.mem_univ i)
    · intro h i _; unfold is; rw [h]
  simp only [e]
  rfl

theorem KV_some (X : s.Idx → Elt F e) :
    (owns (c : Thread nD τ) M fullShare X : sProp 𝕄) ⊢ KV (c : Thread nD τ) M.view Finset.univ fullShare any := by
  rw [← KV_owns]
  exact KV_mono _ fun _ _ _ _ => trivial

end Whole

section Owns
variable (c : Dev nD)
variable (arg0 : Memref sig .tc .hbm S2x128x2304 .bf16) (harg0 : arg0.IsWhole)
  (arg1 : Memref sig .tc .vmem S2x128x18 .i32) (harg1 : arg1.IsWhole) (arg2 : Memref sig .tc .vmem S2x128x2304 .fp8e4m3) (harg2 : arg2.IsWhole)
  (arg3 : Memref sig .tc .vmem S2x128x18 .f32) (harg3 : arg3.IsWhole) (arg4 : Memref sig .tc .vmem S2x128x2304 .bf16) (harg4 : arg4.IsWhole)
  (arg5 : Memref sig .tc .vmem S2x128x2304 .bf16) (harg5 : arg5.IsWhole) (arg6 : DmaSems sig S_)
variable (X : S2x128x2304.Idx → Elt F .bf16) (E : S2x128x18.Idx → Elt F .i32)

theorem whole_owns (Q : PUnit → sProp 𝕄) :
    iprop(owns (c : Thread nD τ) arg0 fullShare X
      ∗ owns (c : Thread nD τ) arg1 fullShare E
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ semVal ((c : Thread nD τ), .dma arg6.sem) 0
      ∗ (∃ W, owes (c : Thread nD τ) 0 W))
    ⊢ iprop((iprop(owns (c : Thread nD τ) arg0 fullShare X
      ∗ owns (c : Thread nD τ) arg1 fullShare E
      ∗ owns (c : Thread nD τ) arg2 fullShare (T2 X E)
      ∗ owns (c : Thread nD τ) arg3 fullShare (T3 E)
      ∗ owns (c : Thread nD τ) arg4 fullShare (T4 X E)
      ∗ owns (c : Thread nD τ) arg5 fullShare X
      ∗ semVal ((c : Thread nD τ), .dma arg6.sem) 0
      ∗ (∃ W, owes (c : Thread nD τ) 0 W)) -∗ Q ⟨⟩)
      -∗ wp frame (wpE (defs₀ (F := F)) Variants.none (c : Thread nD τ) none) Set.univ
        (cc0_adaln_fp8_norm (F := F) arg0 harg0 arg1 harg1 arg2 harg2 arg3 harg3 arg4 harg4 arg5 harg5 arg6) Q) := by
  have hw := whole_wp c arg0 harg0 arg1 harg1 arg2 harg2 arg3 harg3 arg4 harg4 arg5 harg5 arg6 X E Q
  simp only [KV_owns] at hw
  iintro ⟨H0, H1, ⟨%d2, H2⟩, ⟨%d3, H3⟩, ⟨%d4, H4⟩, ⟨%d5, H5⟩, S6, HW⟩ HK
  iapply hw $$ [H0 H1 H2 H3 H4 H5 S6 HW]
  · isplitl [H0]; · iexact H0
    isplitl [H1]; · iexact H1
    isplitl [H2]; · iapply (KV_some c _ _) $$ H2
    isplitl [H3]; · iapply (KV_some c _ _) $$ H3
    isplitl [H4]; · iapply (KV_some c _ _) $$ H4
    isplitl [H5]; · iapply (KV_some c _ _) $$ H5
    isplitl [S6] <;> iassumption
  iexact HK

end Owns

/-! ## The kernel's own semaphore, and the buffer its copy reads -/

abbrev osem : Unit → SemLoc sig := fun _ => .dma cc0_scratch1.sem

theorem ownSemFacts : Pipeline.OwnSemFacts spec0 osem where
  isScoped := by decide +kernel
  inj := fun _ _ _ => rfl
  disj := by decide +kernel

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), .dma cc0_scratch1.sem) 0 := by
  unfold Pipeline.ownSems0
  rw [show (Finset.univ : Finset Unit) = {()} from rfl, BI.bigSep_singleton]

def Hs : Finset (Ref sig .tc) := {main_arg0}
theorem Hs_sub : Hs ⊆ Pipeline.restRefs sig spec0 := by decide

variable (m : (ℓ : Loc nD τ sig) → Buf (Elt F) ℓ) (ρ : Dev nD → PrngReg)

/-! ## The three results -/

abbrev aX (c : Dev nD) : S2x128x2304.Idx → Elt F .bf16 := V m c main_arg0
abbrev aE (c : Dev nD) : S2x128x18.Idx → Elt F .i32 := V m c main_arg1

def resC (c : Dev nD) : S2x128x2304.Idx → Elt F .fp8e4m3 := T2 (aX m c) (aE m c)
def resS (c : Dev nD) : S2x128x18.Idx → Elt F .f32 := T3 (aE m c)
def resB (c : Dev nD) : S2x128x2304.Idx → Elt F .bf16 := T4 (aX m c) (aE m c)

theorem iblk_0 (c : Dev nD) : (iblk m c 0 t0_0 : S2x128x18.Idx → Elt F .i32) = V m c main_arg1 := by
  funext j
  unfold iblk
  refine congrArg (V m c main_arg1) (funext fun a => Fin.ext ?_)
  show 0 * _ + 1 * (j a).val = (j a).val
  omega

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => resC m c
    | ⟨2, _⟩ => resS m c
    | ⟨3, _⟩ => resB m c
  Φ _ := Pipeline.ΦD osem spec0 Hs (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = resC m c := by dsimp only [dats]
theorem after_2 (c : Dev nD) (t : Fin cfg0.N) : (dats m 0 c).after 2 t = resS m c := by dsimp only [dats]
theorem after_3 (c : Dev nD) (t : Fin cfg0.N) : (dats m 0 c).after 3 t = resB m c := by dsimp only [dats]

/-- The input's staging buffer holds the window's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem Phi_eq (c : Dev nD) :
    (Pipeline.ΦD osem spec0 Hs (V m) c : sProp 𝕄)
      = iprop((∃ d, owns (c : Thread nD τ) (Memref.whole cc0_scratch0) fullShare d)
        ∗ (∃ r, prngReg c r)
        ∗ semVal ((c : Thread nD τ), .dma cc0_scratch1.sem) 0
        ∗ owns (c : Thread nD τ) (Memref.whole main_arg0) fullShare (aX m c)) := by
  unfold Pipeline.ΦD
  rw [scopedRest0_eq, ownSems_eq, BI.bigSep_eq_bigSepL_of_eq (S := Hs) [main_arg0] (by decide) (by decide)]
  simp only [owns_whole]
  rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  simp only [before_0]
  rw [after_0, after_1, after_2, after_3]
  rw [show (dats m 0 c).Φ t0_0.castSucc = Pipeline.ΦD osem spec0 Hs (V m) c from rfl,
    show (dats m 0 c).Φ t0_0.succ = Pipeline.ΦD osem spec0 Hs (V m) c from rfl, Phi_eq]
  unfold Dat.owesAt Pipeline.owesWithin
  rw [show (dats m 0 c).owed t0_0.castSucc = 0 from rfl, show (dats m 0 c).owed t0_0.succ = 0 from rfl]
  rw [show iblk m c 0 t0_0 = aE m c from iblk_0 m c]
  iintro ⟨⟨⟨%d0, C0⟩, HP, HS, A0⟩, ⟨%W, -, HW⟩, ⟨%e0, H0⟩, ⟨%e1, H1⟩, ⟨%e2, H2⟩, ⟨%e3, H3⟩⟩
  iapply (whole_owns c (Memref.whole main_arg0) (Memref.isWhole_whole _) (st0_0 t0_0) (hstage0_0 0) (st0_1 t0_0) (hstage0_1 0) (st0_2 t0_0) (hstage0_2 0)
    (st0_3 t0_0) (hstage0_3 0) (Memref.whole cc0_scratch0) (Memref.isWhole_whole _) cc0_scratch1 (aX m c) (aE m c) _) $$ [C0 HS A0 HW H0 H1 H2 H3]
  · isplitl [A0]; · iexact A0
    isplitl [H0]; · iexact H0
    isplitl [H1]; · iexists _; iexact H1
    isplitl [H2]; · iexists _; iexact H2
    isplitl [H3]; · iexists _; iexact H3
    isplitl [C0]; · iexists _; iexact C0
    isplitl [HS]; · iexact HS
    iexists W; iexact HW
  iintro ⟨A0, H0, H1, H2, H3, C0, HS, ⟨%W', HW⟩⟩
  isplitl [C0 HP HS A0]
  · isplitl [C0]; · iexists _; iexact C0
    isplitl [HP]; · iexact HP
    isplitl [HS] <;> iassumption
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
set_option maxHeartbeats 800000 in
theorem run_main : θ_run defs (onTc (τ := τ) (main (F := F))) (s₀ m ρ)
    (fun r => Pipeline.FramePost cfgs (dats m) 0 (V m) r ∧ r.2.sem = fun _ => 0) :=
  Pipeline.θ_run_frame_dma cfgs (dats m) (0 : Fin 1) launch0 osem defs₀ Variants.none ownSemFacts Hs Hs_sub m ρ main
    (hbody := fun c => (body_obligation m c).loose) (hshare := fun c => (dats m 0 c).share_full fun _ => rfl)
    (howed := fun _ _ => rfl) (V := V m) (hmain := hmainD m) (hA := A_eq m)
    (hin := fun _ => .rfl) (hout := fun _ => .rfl) (Q' := _) (hQ' := fun r h => h)

/-! ## The results' arrays -/

theorem arr_1 (c : Dev nD) : ((dats m 0 c).arrAt 1 cfg0.N : S2x128x2304.Idx → Elt F .fp8e4m3) = resC m c := by
  have h := (dats m 0 c).read_blk_arrAt_eq_flushed 1
    (fun t t' _ _ hne => absurd ((fin_N0 t).trans (fin_N0 t').symm) hne) cfg0.N t0_0 t0_0.isLt (flush0_1 t0_0)
  funext j
  have e := congrFun h j
  refine Eq.trans ?_ (e.trans ?_)
  · refine congrArg ((dats m 0 c).arrAt 1 cfg0.N) (funext fun a => Fin.ext ?_)
    show (j a).val = 0 * _ + 1 * (j a).val
    omega
  · show (cfg0.win 1).cut (grid0.coords t0_0) ((dats m 0 c).after 1 t0_0) j = _
    rw [after_1]
theorem arr_2 (c : Dev nD) : ((dats m 0 c).arrAt 2 cfg0.N : S2x128x18.Idx → Elt F .f32) = resS m c := by
  have h := (dats m 0 c).read_blk_arrAt_eq_flushed 2
    (fun t t' _ _ hne => absurd ((fin_N0 t).trans (fin_N0 t').symm) hne) cfg0.N t0_0 t0_0.isLt (flush0_2 t0_0)
  funext j
  have e := congrFun h j
  refine Eq.trans ?_ (e.trans ?_)
  · refine congrArg ((dats m 0 c).arrAt 2 cfg0.N) (funext fun a => Fin.ext ?_)
    show (j a).val = 0 * _ + 1 * (j a).val
    omega
  · show (cfg0.win 2).cut (grid0.coords t0_0) ((dats m 0 c).after 2 t0_0) j = _
    rw [after_2]
theorem arr_3 (c : Dev nD) : ((dats m 0 c).arrAt 3 cfg0.N : S2x128x2304.Idx → Elt F .bf16) = resB m c := by
  have h := (dats m 0 c).read_blk_arrAt_eq_flushed 3
    (fun t t' _ _ hne => absurd ((fin_N0 t).trans (fin_N0 t').symm) hne) cfg0.N t0_0 t0_0.isLt (flush0_3 t0_0)
  funext j
  have e := congrFun h j
  refine Eq.trans ?_ (e.trans ?_)
  · refine congrArg ((dats m 0 c).arrAt 3 cfg0.N) (funext fun a => Fin.ext ?_)
    show (j a).val = 0 * _ + 1 * (j a).val
    omega
  · show (cfg0.win 3).cut (grid0.coords t0_0) ((dats m 0 c).after 3 t0_0) j = _
    rw [after_3]

/-- The arguments end as they were. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)

/-- Every run of the program ends with the three results named, the arguments as they were, and every semaphore at zero. -/
theorem results : θ_run defs (onTc (τ := τ) (main (F := F))) ⟨m, fun _ => 0, ρ⟩ (fun r =>
    (∀ c : Dev nD, r.2.mem ((c.tc : Thread nD τ).loc main_v0_0) = resC m c
      ∧ r.2.mem ((c.tc : Thread nD τ).loc main_v0_1) = resS m c
      ∧ r.2.mem ((c.tc : Thread nD τ).loc main_v0_2) = resB m c
      ∧ Kept m c r) ∧ r.2.sem = fun _ => 0) :=
  (θ_run defs _ _).mono (fun r h => ⟨fun c =>
    ⟨((h.1 c).1 1).trans (arr_1 m c), ((h.1 c).1 2).trans (arr_2 m c), ((h.1 c).1 3).trans (arr_3 m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c)))⟩, h.2⟩)
    (run_main m ρ)

end Cert.Norm.Roll

end
-- ==== Proof.NormRolled.lean ====
/-
  The normalising kernel's loop body as a short program: one step per block of 128 columns. `body_eq` says the printed
  body is this program, by unfolding.
-/
module

public import proofs.«01_k».proof.Proof.Gen.NormIdeal.Loops
public import Idealize.ShloMosaic.Lib.Pipeline.Regions

@[expose] public section

noncomputable section

namespace Cert.NormIdeal.Roll

open Idealize.ShloMosaic Idealize.ShloMosaic.TcCoe
open Idealize.SL Idealize.SL.Sem
open Cert.NormIdeal Cert.NormIdeal.Gen

variable {F : FTy → Type} [FloatOps F]

abbrev T1 := Fin k0_t1_loop.trips

/-- The trip's batch entry and its first row. -/
def bI (t : T1) : Nat := k0_off1 t 0
def rI (t : T1) : Nat := k0_off1 t 1

theorem bI_eq : ∀ t : T1, bI t = t.val / 4 := by decide +kernel
theorem rI_eq : ∀ t : T1, rI t = 32 * (t.val % 4) := by decide +kernel
theorem trips8 : k0_t1_loop.trips = 8 := by decide +kernel
theorem t_lt (t : T1) : t.val < 8 := lt_of_lt_of_eq t.isLt trips8

/-! The rectangles a trip touches. -/

def oX (t : T1) : Fin 3 → Nat := ![bI t, rI t, 0]
theorem oX_inb (t : T1) : ∀ a, oX t a + S1x32x2304.size a ≤ S2x128x2304.size a := by
  have := t_lt t; have := bI_eq t; have := rI_eq t
  intro a; fin_cases a <;> simp [oX, S1x32x2304, S2x128x2304] <;> omega
def rX (t : T1) : Rect S2x128x2304 := Rect.unit (oX t) S1x32x2304.size (oX_inb t)

theorem oE_inb (t : T1) : ∀ a, oX t a + S1x32x18.size a ≤ S2x128x18.size a := by
  have := t_lt t; have := bI_eq t; have := rI_eq t
  intro a; fin_cases a <;> simp [oX, S1x32x18, S2x128x18] <;> omega
def rE (t : T1) : Rect S2x128x18 := Rect.unit (oX t) S1x32x18.size (oE_inb t)

def oT (t : T1) (k : Fin 18) : Fin 3 → Nat := ![bI t, rI t, 128 * k.val]
theorem oT_inb (t : T1) (k : Fin 18) : ∀ a, oT t k a + S1x32x128.size a ≤ S2x128x2304.size a := by
  have := t_lt t; have := bI_eq t; have := rI_eq t
  intro a; fin_cases a <;> simp [oT, S1x32x128, S2x128x2304] <;> omega
def rT (t : T1) (k : Fin 18) : Rect S2x128x2304 := Rect.unit (oT t k) S1x32x128.size (oT_inb t k)
theorem rT_packed8 (t : T1) (k : Fin 18) : (rT t k).PackedRows (EltTy.packing .fp8e4m3) := by
  refine Or.inr ⟨by decide, rfl, Or.inl ⟨?_, ?_⟩⟩
  · show 4 ∣ rI t
    rw [rI_eq]; omega
  · show 4 ∣ 32
    decide
theorem rT_packed16 (t : T1) (k : Fin 18) : (rT t k).PackedRows (EltTy.packing .bf16) := by
  refine Or.inr ⟨by decide, rfl, Or.inl ⟨?_, ?_⟩⟩
  · show 2 ∣ rI t
    rw [rI_eq]; omega
  · show 2 ∣ 32
    decide

/-! What a trip computes. -/

theorem slT : ∀ k : Fin 18, S32x2304.Slices ![0, 128 * k.val] S32x128 := by decide +kernel
theorem slE : ∀ k : Fin 18, S32x18.Slices ![0, k.val] S32x1 := by decide +kernel

/-- The block's column of exponents. -/
def expK (k : Fin 18) (es : IVec S32x18 32) : IVec S32x1 32 := extractStridedSlice S32x1 ![0, k.val] es (slE k)

/-- Two to a column of exponents. -/
def powK (e : IVec S32x1 32) : FVec F S32x1 .f32 :=
  bitcastToFloat .f32 (shli (addi e (broadcast S32x1 127#32)) (broadcast S32x1 23#32))

/-- The block's codes. -/
def codeK (k : Fin 18) (h : FVec F S32x2304 .f32) (es : IVec S32x18 32) : FVec F S32x128 .fp8e4m3 :=
  truncf .fp8e4m3 (minimumf (broadcast S32x128 (Scalar.ofBits .f32 0x43E00000#32)) (maximumf (broadcast S32x128 (Scalar.ofBits .f32 0xC3E00000#32))
    (mulf (extractStridedSlice S32x128 ![0, 128 * k.val] h (slT k))
      (broadcastTo S32x128 (powK (F := F) (subi (broadcast S32x1 0#32) (expK k es))) broadcasts_S32x1_S32x128)))) bitsLt_fp8e4m3_f32

/-- The block's codes times its scale. -/
def hbK (k : Fin 18) (h : FVec F S32x2304 .f32) (es : IVec S32x18 32) : FVec F S32x128 .bf16 :=
  truncf .bf16 (mulf (extf .f32 (codeK k h es) bitsLt_fp8e4m3_f32) (broadcastTo S32x128 (powK (F := F) (expK k es)) broadcasts_S32x1_S32x128)) bitsLt_bf16_f32

/-- The scales' rows, with the block's scale put in its lane. -/
def accK (k : Fin 18) (es : IVec S32x18 32) (a : FVec F S32x128 .f32) : FVec F S32x128 .f32 :=
  select (cmpi .eq (iota .tc S32x128 32 [1] iota_S32x128_d1_w32) (broadcast S32x128 (BitVec.ofNat 32 k.val)))
    (broadcastTo S32x128 (shapeCast S32x1 (powK (F := F) (expK k es)) shapeCasts_S32x1_S32x1) broadcasts_S32x1_S32x128) a

section Prog

variable (arg1 : Memref sig .tc .vmem S2x128x18 .i32) (arg2 : Memref sig .tc .vmem S2x128x2304 .fp8e4m3) (harg2 : arg2.IsWhole)
  (arg3 : Memref sig .tc .vmem S2x128x18 .f32) (arg4 : Memref sig .tc .vmem S2x128x2304 .bf16) (harg4 : arg4.IsWhole)
  (arg5 : Memref sig .tc .vmem S2x128x2304 .bf16)

/-- One block: its codes and their products with the scale are stored. -/
def blk (t : T1) (h : FVec F S32x2304 .f32) (es : IVec S32x18 32) (k : Fin 18) (a : FVec F S32x128 .f32) :
    Prog (TpuEff nD τ sig (Elt F) Λ₀ .tc) (FVec F S32x128 .f32) := do
  let _c : Vec F S1x32x128 .fp8e4m3 ← Prog.lift (.load arg2 (rT t k).toLoadRect (View.loadsAt_vmem h_S1x32x128))
  Prog.lift (.store arg2 (rT t k) (shapeCast S1x32x128 (codeK k h es) shapeCasts_S32x128_S1x32x128) Finset.univ
    (View.stores_vmem h_S1x32x128 (harg2.storeExact_slice rfl _ (rT_packed8 t k)) (fun _ => rfl)) (.inl rfl))
  let _d : Vec F S1x32x128 .bf16 ← Prog.lift (.load arg4 (rT t k).toLoadRect (View.loadsAt_vmem h_S1x32x128))
  Prog.lift (.store arg4 (rT t k) (shapeCast S1x32x128 (hbK k h es) shapeCasts_S32x128_S1x32x128) Finset.univ
    (View.stores_vmem h_S1x32x128 (harg4.storeExact_slice rfl _ (rT_packed16 t k)) (fun _ => rfl)) (.inl rfl))
  pure (accK k es a)

/-- A trip of the loop. -/
def trip (t : T1) : Prog (TpuEff nD τ sig (Elt F) Λ₀ .tc) Unit := do
  let xv : Vec F S1x32x2304 .bf16 ← Prog.lift (.load arg5 (rX t).toLoadRect (View.loadsAt_vmem h_S1x32x2304))
  let ev : Vec F S1x32x18 .i32 ← Prog.lift (.load arg1 (rE t).toLoadRect (View.loadsAt_vmem h_S1x32x18))
  let h : FVec F S32x2304 .f32 := k0_pay4 (k0_pay2 xv) (k0_pay3 xv)
  let es : IVec S32x18 32 := k0_pay6 ev
  let a ← blk arg2 harg2 arg4 harg4 t h es 0 k0_pay5
  let a ← blk arg2 harg2 arg4 harg4 t h es 1 a
  let a ← blk arg2 harg2 arg4 harg4 t h es 2 a
  let a ← blk arg2 harg2 arg4 harg4 t h es 3 a
  let a ← blk arg2 harg2 arg4 harg4 t h es 4 a
  let a ← blk arg2 harg2 arg4 harg4 t h es 5 a
  let a ← blk arg2 harg2 arg4 harg4 t h es 6 a
  let a ← blk arg2 harg2 arg4 harg4 t h es 7 a
  let a ← blk arg2 harg2 arg4 harg4 t h es 8 a
  let a ← blk arg2 harg2 arg4 harg4 t h es 9 a
  let a ← blk arg2 harg2 arg4 harg4 t h es 10 a
  let a ← blk arg2 harg2 arg4 harg4 t h es 11 a
  let a ← blk arg2 harg2 arg4 harg4 t h es 12 a
  let a ← blk arg2 harg2 arg4 harg4 t h es 13 a
  let a ← blk arg2 harg2 arg4 harg4 t h es 14 a
  let a ← blk arg2 harg2 arg4 harg4 t h es 15 a
  let a ← blk arg2 harg2 arg4 harg4 t h es 16 a
  let a ← blk arg2 harg2 arg4 harg4 t h es 17 a
  let _s : Vec F S1x32x18 .f32 ← Prog.lift (.load arg3 (rE t).toLoadRect (View.loadsAt_vmem h_S1x32x18))
  Prog.lift (.store arg3 (rE t) (k0_pay1 (extractStridedSlice S32x18 ![0, 0] a slices_S32x128_o0_0_S32x18)) Finset.univ (View.stores_vmem_bits_univ h_S1x32x18 rfl) (.inl rfl))
  pure ⟨⟩

end Prog

open Pipeline in
set_option maxRecDepth 65536 in
set_option maxHeartbeats 0 in
theorem body_eq (arg0 : Memref sig .tc .hbm S2x128x2304 .bf16) (harg0 : arg0.IsWhole) (arg1 : Memref sig .tc .vmem S2x128x18 .i32) (harg1 : arg1.IsWhole)
    (arg2 : Memref sig .tc .vmem S2x128x2304 .fp8e4m3) (harg2 : arg2.IsWhole) (arg3 : Memref sig .tc .vmem S2x128x18 .f32) (harg3 : arg3.IsWhole)
    (arg4 : Memref sig .tc .vmem S2x128x2304 .bf16) (harg4 : arg4.IsWhole) (arg5 : Memref sig .tc .vmem S2x128x2304 .bf16) (harg5 : arg5.IsWhole)
    (arg6 : DmaSems sig S_) (t : T1) :
    k0_t1_body (F := F) arg0 harg0 arg1 harg1 arg2 harg2 arg3 harg3 arg4 harg4 arg5 harg5 arg6 t () = trip arg1 arg2 harg2 arg3 arg4 harg4 arg5 t := by
  rw [k0_t1_body, k0_part1_eq_skeleton, k0_part1_skel, trip]
  chain_rfl

end Cert.NormIdeal.Roll

end
-- ==== Proof.NormTrip.lean ====
/-
  One trip of the normalising kernel's loop, and the whole kernel: what each finds and what it leaves.
-/
module

public import proofs.«01_k».proof.Proof.NormRolled
public import proofs.«01_k».proof.Proof.Cells
public import Idealize.ShloMosaic.Lib.ValueLayout

@[expose] public section

noncomputable section

namespace Cert.NormIdeal.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.NormIdeal Cert.NormIdeal.Gen Cert.Cells Idealize.ShloMosaic.Transfers

variable {F : FTy → Type} [FloatOps F]

/-! ## Where the rectangles lie -/

theorem unit_val {s : Shape} (off size : Fin s.rank → Nat) (h : ∀ a, off a + size a ≤ s.size a)
    (j : (Rect.unit off size h).shape.Idx) (a : Fin s.rank) :
    (((Rect.unit off size h).emb j a : Fin _) : Nat) = off a + (j a : Nat) := by
  rw [Rect.emb_apply]; show off a + 1 * _ = _; rw [Nat.one_mul]

theorem mem_rT {t : T1} {k : Fin 18} {i : S2x128x2304.Idx} : i ∈ (rT t k).set ↔
    (4 * (i 0).val + (i 1).val / 32 = t.val ∧ (i 2).val / 128 = k.val) := by
  have hb := bI_eq t; have hr := rI_eq t; have ht := t_lt t
  have l0 : (i 0).val < 2 := (i 0).isLt
  have l1 : (i 1).val < 128 := (i 1).isLt
  rw [rT, Rect.mem_set_unit]
  constructor
  · intro h
    have h0 : bI t ≤ (i 0).val ∧ (i 0).val < bI t + 1 := h 0
    have h1 : rI t ≤ (i 1).val ∧ (i 1).val < rI t + 32 := h 1
    have h2 : 128 * k.val ≤ (i 2).val ∧ (i 2).val < 128 * k.val + 128 := h 2
    omega
  · rintro ⟨h0, h2⟩ a
    match a with
    | 0 => show bI t ≤ (i 0).val ∧ (i 0).val < bI t + 1; omega
    | 1 => show rI t ≤ (i 1).val ∧ (i 1).val < rI t + 32; omega
    | 2 => show 128 * k.val ≤ (i 2).val ∧ (i 2).val < 128 * k.val + 128; omega

theorem mem_rE {t : T1} {i : S2x128x18.Idx} : i ∈ (rE t).set ↔ 4 * (i 0).val + (i 1).val / 32 = t.val := by
  have hb := bI_eq t; have hr := rI_eq t; have ht := t_lt t
  have l0 : (i 0).val < 2 := (i 0).isLt
  have l1 : (i 1).val < 128 := (i 1).isLt
  rw [rE, Rect.mem_set_unit]
  constructor
  · intro h
    have h0 : bI t ≤ (i 0).val ∧ (i 0).val < bI t + 1 := h 0
    have h1 : rI t ≤ (i 1).val ∧ (i 1).val < rI t + 32 := h 1
    omega
  · rintro h0 a
    match a with
    | 0 => show bI t ≤ (i 0).val ∧ (i 0).val < bI t + 1; omega
    | 1 => show rI t ≤ (i 1).val ∧ (i 1).val < rI t + 32; omega
    | 2 => show 0 ≤ (i 2).val ∧ (i 2).val < 0 + 18; have : (i 2).val < 18 := (i 2).isLt; omega

/-! ## The values -/

section Values
variable (X : S2x128x2304.Idx → Elt F .bf16) (E : S2x128x18.Idx → Elt F .i32)

def xV (t : T1) : Vec F S1x32x2304 .bf16 := fun j => X ((rX t).emb j)
def eV (t : T1) : Vec F S1x32x18 .i32 := fun j => E ((rE t).emb j)
def hV (t : T1) : FVec F S32x2304 .f32 := k0_pay4 (k0_pay2 (xV X t)) (k0_pay3 (xV X t))
def esV (t : T1) : IVec S32x18 32 := k0_pay6 (F := F) (eV E t)

/-- The scales' rows after all the blocks. -/
def accV (t : T1) : FVec F S32x128 .f32 :=
  let st := fun k => accK (F := F) k (esV E t)
  st 17 (st 16 (st 15 (st 14 (st 13 (st 12 (st 11 (st 10 (st 9 (st 8 (st 7 (st 6 (st 5 (st 4 (st 3 (st 2 (st 1 (st 0 k0_pay5)))))))))))))))))

/-- The trip that a row belongs to. -/
def tOf (b : Fin 2) (r : Fin 128) : T1 := ⟨4 * b.val + r.val / 32, by rw [trips8]; omega⟩

def T2 (i : S2x128x2304.Idx) : Elt F .fp8e4m3 :=
  shapeCast S1x32x128 (codeK ⟨(i 2).val / 128, by have : (i 2).val < 2304 := (i 2).isLt; omega⟩ (hV X (tOf (i 0) (i 1))) (esV E (tOf (i 0) (i 1))))
    shapeCasts_S32x128_S1x32x128
    (ix3 (0 : Fin 1) (⟨(i 1).val % 32, Nat.mod_lt _ (by decide)⟩ : Fin 32) (⟨(i 2).val % 128, Nat.mod_lt _ (by decide)⟩ : Fin 128))

def T4 (i : S2x128x2304.Idx) : Elt F .bf16 :=
  shapeCast S1x32x128 (hbK ⟨(i 2).val / 128, by have : (i 2).val < 2304 := (i 2).isLt; omega⟩ (hV X (tOf (i 0) (i 1))) (esV E (tOf (i 0) (i 1))))
    shapeCasts_S32x128_S1x32x128
    (ix3 (0 : Fin 1) (⟨(i 1).val % 32, Nat.mod_lt _ (by decide)⟩ : Fin 32) (⟨(i 2).val % 128, Nat.mod_lt _ (by decide)⟩ : Fin 128))

def T3 (i : S2x128x18.Idx) : Elt F .f32 :=
  k0_pay1 (extractStridedSlice S32x18 ![0, 0] (accV E (tOf (i 0) (i 1))) slices_S32x128_o0_0_S32x18)
    (ix3 (0 : Fin 1) (⟨(i 1).val % 32, Nat.mod_lt _ (by decide)⟩ : Fin 32) (i 2))

theorem rT_emb (t : T1) (k : Fin 18) (j : S1x32x128.Idx) :
    tOf ((rT t k).emb j 0) ((rT t k).emb j 1) = t ∧ (((rT t k).emb j 2 : Fin _) : Nat) = 128 * k.val + (j 2).val
      ∧ (((rT t k).emb j 1 : Fin _) : Nat) % 32 = (j 1).val := by
  have e0 : (((rT t k).emb j 0 : Fin _) : Nat) = bI t + (j 0).val := unit_val (s := S2x128x2304) (oT t k) S1x32x128.size (oT_inb t k) j 0
  have e1 : (((rT t k).emb j 1 : Fin _) : Nat) = rI t + (j 1).val := unit_val (s := S2x128x2304) (oT t k) S1x32x128.size (oT_inb t k) j 1
  have e2 : (((rT t k).emb j 2 : Fin _) : Nat) = 128 * k.val + (j 2).val := unit_val (s := S2x128x2304) (oT t k) S1x32x128.size (oT_inb t k) j 2
  have hb := bI_eq t; have hr := rI_eq t; have ht := t_lt t
  have l0 : (j 0).val < 1 := (j 0).isLt
  have l1 : (j 1).val < 32 := (j 1).isLt
  refine ⟨Fin.ext ?_, e2, ?_⟩
  · show 4 * (((rT t k).emb j 0 : Fin _) : Nat) + (((rT t k).emb j 1 : Fin _) : Nat) / 32 = t.val
    rw [e0, e1]; omega
  · rw [e1]; omega

theorem T2_emb (t : T1) (k : Fin 18) (j : S1x32x128.Idx) :
    T2 X E ((rT t k).emb j) = shapeCast S1x32x128 (codeK k (hV X t) (esV E t)) shapeCasts_S32x128_S1x32x128 j := by
  obtain ⟨ht, e2, e1⟩ := rT_emb t k j
  have l0 : (j 0).val < 1 := (j 0).isLt
  have l2 : (j 2).val < 128 := (j 2).isLt
  unfold T2
  rw [ht]
  congr 2
  · exact Fin.ext (by show _ / 128 = _; rw [e2]; omega)
  · funext a
    match a with
    | 0 => exact Fin.ext (by show 0 = (j 0).val; omega)
    | 1 => exact Fin.ext (by show _ % 32 = (j 1).val; exact e1)
    | 2 => exact Fin.ext (by show _ % 128 = (j 2).val; rw [e2]; omega)

theorem T4_emb (t : T1) (k : Fin 18) (j : S1x32x128.Idx) :
    T4 X E ((rT t k).emb j) = shapeCast S1x32x128 (hbK k (hV X t) (esV E t)) shapeCasts_S32x128_S1x32x128 j := by
  obtain ⟨ht, e2, e1⟩ := rT_emb t k j
  have l0 : (j 0).val < 1 := (j 0).isLt
  have l2 : (j 2).val < 128 := (j 2).isLt
  unfold T4
  rw [ht]
  congr 2
  · exact Fin.ext (by show _ / 128 = _; rw [e2]; omega)
  · funext a
    match a with
    | 0 => exact Fin.ext (by show 0 = (j 0).val; omega)
    | 1 => exact Fin.ext (by show _ % 32 = (j 1).val; exact e1)
    | 2 => exact Fin.ext (by show _ % 128 = (j 2).val; rw [e2]; omega)

theorem T3_emb (t : T1) (j : S1x32x18.Idx) :
    T3 E ((rE t).emb j) = k0_pay1 (extractStridedSlice S32x18 ![0, 0] (accV (F := F) E t) slices_S32x128_o0_0_S32x18) j := by
  have e0 : (((rE t).emb j 0 : Fin _) : Nat) = bI t + (j 0).val := unit_val (s := S2x128x18) (oX t) S1x32x18.size (oE_inb t) j 0
  have e1 : (((rE t).emb j 1 : Fin _) : Nat) = rI t + (j 1).val := unit_val (s := S2x128x18) (oX t) S1x32x18.size (oE_inb t) j 1
  have e2 : (((rE t).emb j 2 : Fin _) : Nat) = 0 + (j 2).val := unit_val (s := S2x128x18) (oX t) S1x32x18.size (oE_inb t) j 2
  have hb := bI_eq t; have hr := rI_eq t; have ht := t_lt t
  have l0 : (j 0).val < 1 := (j 0).isLt
  have l1 : (j 1).val < 32 := (j 1).isLt
  have hT : tOf ((rE t).emb j 0) ((rE t).emb j 1) = t := by
    refine Fin.ext ?_
    show 4 * (((rE t).emb j 0 : Fin _) : Nat) + (((rE t).emb j 1 : Fin _) : Nat) / 32 = t.val
    rw [e0, e1]; omega
  unfold T3
  rw [hT]
  congr 1
  funext a
  match a with
  | 0 => exact Fin.ext (by show 0 = (j 0).val; omega)
  | 1 => exact Fin.ext (by show _ % 32 = (j 1).val; rw [e1]; omega)
  | 2 => exact Fin.ext (by show (((rE t).emb j 2 : Fin _) : Nat) = (j 2).val; rw [e2]; omega)

end Values

/-! ## The steps -/

section Steps
variable (c : Dev nD)
local notation "𝕄" => MT nD τ sig Unit (Elt F) ℕ (Pipeline.UD sig nD τ) ℕ

/-- The value where it is known. -/
def upTo {s : Shape} {e : EltTy} (K : s.Idx → Prop) (T : s.Idx → Elt F e) : s.Idx → Elt F e → Prop := fun i x => K i → x = T i

/-- Known: the rows of the earlier trips, and the first blocks of this one's. -/
def KT (t l : Nat) (i : S2x128x2304.Idx) : Prop :=
  4 * (i 0).val + (i 1).val / 32 < t ∨ (4 * (i 0).val + (i 1).val / 32 = t ∧ (i 2).val / 128 < l)
def KE (t : Nat) (i : S2x128x18.Idx) : Prop := 4 * (i 0).val + (i 1).val / 32 < t

variable (arg0 : Memref sig .tc .hbm S2x128x2304 .bf16) (harg0 : arg0.IsWhole)
  (arg1 : Memref sig .tc .vmem S2x128x18 .i32) (harg1 : arg1.IsWhole) (arg2 : Memref sig .tc .vmem S2x128x2304 .fp8e4m3) (harg2 : arg2.IsWhole)
  (arg3 : Memref sig .tc .vmem S2x128x18 .f32) (harg3 : arg3.IsWhole) (arg4 : Memref sig .tc .vmem S2x128x2304 .bf16) (harg4 : arg4.IsWhole)
  (arg5 : Memref sig .tc .vmem S2x128x2304 .bf16) (harg5 : arg5.IsWhole) (arg6 : DmaSems sig S_)
variable (X : S2x128x2304.Idx → Elt F .bf16) (E : S2x128x18.Idx → Elt F .i32)

local notation "WP" => wp frame (wpE (defs₀ (F := F)) Variants.none (c : Thread nD τ) none) Set.univ

/-- What a block's step changes. -/
def BlkRes (t l : Nat) : sProp 𝕄 :=
  iprop(KV (c : Thread nD τ) arg2.view Finset.univ fullShare (upTo (KT t l) (T2 X E))
    ∗ KV (c : Thread nD τ) arg4.view Finset.univ fullShare (upTo (KT t l) (T4 X E)))

theorem blk_wp (t : T1) (k : Fin 18) (a : FVec F S32x128 .f32) (Q : FVec F S32x128 .f32 → sProp 𝕄) :
    BlkRes c arg2 arg4 X E t.val k.val
      ⊢ iprop((BlkRes c arg2 arg4 X E t.val (k.val + 1) -∗ Q (accK k (esV E t) a))
        -∗ WP (blk arg2 harg2 arg4 harg4 t (hV X t) (esV E t) k a) Q) := by
  unfold BlkRes blk
  have hk : ∀ i : S2x128x2304.Idx, i ∉ (rT t k).set → KT t.val (k.val + 1) i → KT t.val k.val i := by
    intro i hi hK
    rw [mem_rT] at hi
    unfold KT at hK ⊢
    omega
  iintro ⟨H2, H4⟩ HK
  rw [wp_bind]
  iapply (load Variants.none (c : Thread nD τ) none Set.univ (Finset.subset_univ _)) $$ H2
  iintro %v2 - H2
  rw [wp_bind]
  iapply (store Variants.none (c : Thread nD τ) none Set.univ (upTo (KT t.val (k.val + 1)) (T2 X E)) (Finset.subset_univ _) ?_ ?_) $$ H2
  · intro j _
    exact (T2_emb X E t k j).symm
  · intro i _ hi x hx hK
    exact hx (hk i hi hK)
  iintro H2
  rw [wp_bind]
  iapply (load Variants.none (c : Thread nD τ) none Set.univ (Finset.subset_univ _)) $$ H4
  iintro %v4 - H4
  rw [wp_bind]
  iapply (store Variants.none (c : Thread nD τ) none Set.univ (upTo (KT t.val (k.val + 1)) (T4 X E)) (Finset.subset_univ _) ?_ ?_) $$ H4
  · intro j _
    exact (T4_emb X E t k j).symm
  · intro i _ hi x hx hK
    exact hx (hk i hi hK)
  iintro H4
  iapply (pureStep Variants.none (c : Thread nD τ) none Set.univ (accK k (esV E t) a) rfl)
  iapply HK
  isplitl [H2] <;> iassumption

/-- What the loop holds before a trip. -/
def Inv (t : Nat) : sProp 𝕄 :=
  iprop(BlkRes c arg2 arg4 X E t 0
    ∗ KV (c : Thread nD τ) arg3.view Finset.univ fullShare (upTo (KE t) (T3 E))
    ∗ KV (c : Thread nD τ) arg1.view Finset.univ fullShare (is E)
    ∗ KV (c : Thread nD τ) arg5.view Finset.univ fullShare (is X))

theorem BlkRes_next (t : Nat) : BlkRes c arg2 arg4 X E t 18 ⊢ (BlkRes c arg2 arg4 X E (t + 1) 0 : sProp 𝕄) := by
  unfold BlkRes
  have hk : ∀ i : S2x128x2304.Idx, KT (t + 1) 0 i → KT t 18 i := by
    intro i hK
    have l2 : (i 2).val < 2304 := (i 2).isLt
    unfold KT at hK ⊢
    omega
  iintro ⟨H2, H4⟩
  isplitl [H2]
  · iapply (KV_mono (c : Thread nD τ) ?_) $$ H2
    exact fun i _ x hx hK => hx (hk i hK)
  · iapply (KV_mono (c : Thread nD τ) ?_) $$ H4
    exact fun i _ x hx hK => hx (hk i hK)

theorem trip_wp (t : T1) :
    Inv c arg1 arg2 arg3 arg4 arg5 X E t.val
      ⊢ WP (trip arg1 arg2 harg2 arg3 arg4 harg4 arg5 t) (fun _ => Inv c arg1 arg2 arg3 arg4 arg5 X E (t.val + 1)) := by
  unfold Inv trip
  iintro ⟨HB, H3, H1, H5⟩
  rw [wp_bind]
  iapply (loadIs Variants.none (c : Thread nD τ) none Set.univ (Finset.subset_univ _)) $$ H5
  iintro H5
  rw [wp_bind]
  iapply (loadIs Variants.none (c : Thread nD τ) none Set.univ (Finset.subset_univ _)) $$ H1
  iintro H1
  rw [wp_bind]
  iapply (blk_wp c arg2 harg2 arg4 harg4 X E t 0) $$ [HB]
  · iexact HB
  iintro HB
  rw [wp_bind]
  iapply (blk_wp c arg2 harg2 arg4 harg4 X E t 1) $$ [HB]
  · iexact HB
  iintro HB
  rw [wp_bind]
  iapply (blk_wp c arg2 harg2 arg4 harg4 X E t 2) $$ [HB]
  · iexact HB
  iintro HB
  rw [wp_bind]
  iapply (blk_wp c arg2 harg2 arg4 harg4 X E t 3) $$ [HB]
  · iexact HB
  iintro HB
  rw [wp_bind]
  iapply (blk_wp c arg2 harg2 arg4 harg4 X E t 4) $$ [HB]
  · iexact HB
  iintro HB
  rw [wp_bind]
  iapply (blk_wp c arg2 harg2 arg4 harg4 X E t 5) $$ [HB]
  · iexact HB
  iintro HB
  rw [wp_bind]
  iapply (blk_wp c arg2 harg2 arg4 harg4 X E t 6) $$ [HB]
  · iexact HB
  iintro HB
  rw [wp_bind]
  iapply (blk_wp c arg2 harg2 arg4 harg4 X E t 7) $$ [HB]
  · iexact HB
  iintro HB
  rw [wp_bind]
  iapply (blk_wp c arg2 harg2 arg4 harg4 X E t 8) $$ [HB]
  · iexact HB
  iintro HB
  rw [wp_bind]
  iapply (blk_wp c arg2 harg2 arg4 harg4 X E t 9) $$ [HB]
  · iexact HB
  iintro HB
  rw [wp_bind]
  iapply (blk_wp c arg2 harg2 arg4 harg4 X E t 10) $$ [HB]
  · iexact HB
  iintro HB
  rw [wp_bind]
  iapply (blk_wp c arg2 harg2 arg4 harg4 X E t 11) $$ [HB]
  · iexact HB
  iintro HB
  rw [wp_bind]
  iapply (blk_wp c arg2 harg2 arg4 harg4 X E t 12) $$ [HB]
  · iexact HB
  iintro HB
  rw [wp_bind]
  iapply (blk_wp c arg2 harg2 arg4 harg4 X E t 13) $$ [HB]
  · iexact HB
  iintro HB
  rw [wp_bind]
  iapply (blk_wp c arg2 harg2 arg4 harg4 X E t 14) $$ [HB]
  · iexact HB
  iintro HB
  rw [wp_bind]
  iapply (blk_wp c arg2 harg2 arg4 harg4 X E t 15) $$ [HB]
  · iexact HB
  iintro HB
  rw [wp_bind]
  iapply (blk_wp c arg2 harg2 arg4 harg4 X E t 16) $$ [HB]
  · iexact HB
  iintro HB
  rw [wp_bind]
  iapply (blk_wp c arg2 harg2 arg4 harg4 X E t 17) $$ [HB]
  · iexact HB
  iintro HB
  rw [wp_bind]
  iapply (load Variants.none (c : Thread nD τ) none Set.univ (Finset.subset_univ _)) $$ H3
  iintro %v3 - H3
  rw [wp_bind]
  iapply (store Variants.none (c : Thread nD τ) none Set.univ (upTo (KE (t.val + 1)) (T3 E)) (Finset.subset_univ _) ?_ ?_) $$ H3
  · intro j _
    exact (T3_emb E t j).symm
  · intro i _ hi x hx hK
    refine hx ?_
    rw [mem_rE] at hi
    unfold KE at hK ⊢
    omega
  iintro H3
  iapply (pureStep Variants.none (c : Thread nD τ) none Set.univ ⟨⟩ rfl)
  isplitl [HB]
  · iapply (BlkRes_next c arg2 arg4 X E t.val) $$ [HB]
    iexact HB
  isplitl [H3]; · iexact H3
  isplitl [H1] <;> iassumption

/-- The credits of the copy of the image. -/
def NX : Nat := sig.dmaCredit .tc (Kind.tc.table .vmem) arg5.view.buf S2x128x2304 .bf16

/-- The whole kernel. -/
theorem whole_wp (Q : PUnit → sProp 𝕄) :
    iprop(KV (c : Thread nD τ) arg0.view Finset.univ fullShare (is X)
      ∗ KV (c : Thread nD τ) arg1.view Finset.univ fullShare (is E)
      ∗ KV (c : Thread nD τ) arg2.view Finset.univ fullShare any
      ∗ KV (c : Thread nD τ) arg3.view Finset.univ fullShare any
      ∗ KV (c : Thread nD τ) arg4.view Finset.univ fullShare any
      ∗ KV (c : Thread nD τ) arg5.view Finset.univ fullShare any
      ∗ semVal ((c : Thread nD τ), .dma arg6.sem) 0
      ∗ (∃ W, owes (c : Thread nD τ) 0 W))
    ⊢ iprop((iprop(KV (c : Thread nD τ) arg0.view Finset.univ fullShare (is X)
      ∗ KV (c : Thread nD τ) arg1.view Finset.univ fullShare (is E)
      ∗ KV (c : Thread nD τ) arg2.view Finset.univ fullShare (is (T2 X E))
      ∗ KV (c : Thread nD τ) arg3.view Finset.univ fullShare (is (T3 E))
      ∗ KV (c : Thread nD τ) arg4.view Finset.univ fullShare (is (T4 X E))
      ∗ KV (c : Thread nD τ) arg5.view Finset.univ fullShare (is X)
      ∗ semVal ((c : Thread nD τ), .dma arg6.sem) 0
      ∗ (∃ W, owes (c : Thread nD τ) 0 W)) -∗ Q ⟨⟩)
      -∗ WP (cc0_adaln_fp8_norm (F := F) arg0 harg0 arg1 harg1 arg2 harg2 arg3 harg3 arg4 harg4 arg5 harg5 arg6) Q) := by
  rw [cc0_adaln_fp8_norm_eq_skeleton, cc0_adaln_fp8_norm_skel]
  iintro ⟨H0, H1, H2, H3, H4, H5, S6, HW⟩ HK
  rw [wp_bind]
  iapply (dma Variants.none (c : Thread nD τ) none countersEmb () (NX arg5) rfl ?_) $$ [H0 H5 S6]
  · exact sig.dmaCredit_pos _ _ _ _ _ (by decide)
  · isplitl [H0]; · iexact H0
    isplitl [H5] <;> iassumption
  iintro HX
  rw [wp_bind]
  iapply (wait Variants.none (c : Thread nD τ) none countersEmb () rfl) $$ [HX HW]
  · isplitl [HX]; · iexact HX
    iexact HW
  iintro ⟨⟨H5, H0⟩, S6, HW⟩
  iapply (Scf.wp_for_bind frame _ Set.univ k0_t1_loop.lb k0_t1_loop.ub k0_t1_loop.st k0_t1_ok () _
    (fun t _ => Inv c arg1 arg2 arg3 arg4 arg5 X E t)
    (fun t _ => by rw [body_eq]; exact trip_wp c arg1 arg2 harg2 arg3 arg4 harg4 arg5 X E t)) $$ [H1 H2 H3 H4 H5]
  · unfold Inv BlkRes
    isplitl [H2 H4]
    · isplitl [H2]
      · iapply (KV_mono (c : Thread nD τ) ?_) $$ H2
        intro i _ x _ hK
        unfold KT at hK
        omega
      · iapply (KV_mono (c : Thread nD τ) ?_) $$ H4
        intro i _ x _ hK
        unfold KT at hK
        omega
    isplitl [H3]
    · iapply (KV_mono (c : Thread nD τ) ?_) $$ H3
      intro i _ x _ hK
      unfold KE at hK
      omega
    isplitl [H1] <;> iassumption
  iintro %acc HA
  unfold Inv BlkRes
  rw [show Scf.trips k0_t1_loop.lb k0_t1_loop.ub k0_t1_loop.st = 8 from trips8]
  icases HA with ⟨⟨H2, H4⟩, H3, H1, H5⟩
  have hk : ∀ i : S2x128x2304.Idx, KT 8 0 i := by
    intro i
    have l0 : (i 0).val < 2 := (i 0).isLt
    have l1 : (i 1).val < 128 := (i 1).isLt
    unfold KT
    omega
  have he : ∀ i : S2x128x18.Idx, KE 8 i := by
    intro i
    have l0 : (i 0).val < 2 := (i 0).isLt
    have l1 : (i 1).val < 128 := (i 1).isLt
    unfold KE
    omega
  iapply (pureStep Variants.none (c : Thread nD τ) none Set.univ ⟨⟩ rfl)
  iapply HK
  isplitl [H0]; · iexact H0
  isplitl [H1]; · iexact H1
  isplitl [H2]
  · iapply (KV_mono (c : Thread nD τ) ?_) $$ H2
    exact fun i _ x hx => hx (hk i)
  isplitl [H3]
  · iapply (KV_mono (c : Thread nD τ) ?_) $$ H3
    exact fun i _ x hx => hx (he i)
  isplitl [H4]
  · iapply (KV_mono (c : Thread nD τ) ?_) $$ H4
    exact fun i _ x hx => hx (hk i)
  isplitl [H5]; · iexact H5
  isplitl [S6] <;> iassumption

end Steps

end Cert.NormIdeal.Roll

end
-- ==== Proof.NormRun.lean ====
/-
  The launch of the normalising kernel: its arguments as they were, and its three results named.
-/
module

public import proofs.«01_k».proof.Proof.NormTrip
public import proofs.«01_k».proof.Proof.Gen.NormIdeal.Frame

@[expose] public section

set_option maxRecDepth 16384

noncomputable section

namespace Cert.NormIdeal.Roll

open Idealize.ShloMosaic Idealize.ShloMosaic.TcCoe Idealize.ShloMosaic.ValueIdx
open Idealize.SL Idealize.SL.Sem Idealize.SL.RA
open Idealize.SL.BI (sProp Storable bigSep)
open scoped Idealize.SL.BI
open Idealize.SL.BI.BIBase Idealize.SL.BI.Laws Idealize.SL.ProofMode
open Cert.NormIdeal Cert.NormIdeal.Gen Cert.Cells Idealize.ShloMosaic.Transfers
open Idealize.ShloMosaic.Pipeline (Dat Cfg Window BodyObligation cellOf)

variable {F : FTy → Type} [FloatOps F]
local notation "𝕄" => MT nD τ sig Unit (Elt F) ℕ (Pipeline.UD sig nD τ) ℕ

/-! ## Whole memrefs -/

section Whole
variable (c : Dev nD) {sp : Space} {s : Shape} {e : EltTy} (M : Memref sig .tc sp s e)

theorem KV_owns (X : s.Idx → Elt F e) :
    (KV (c : Thread nD τ) M.view Finset.univ fullShare (is X) : sProp 𝕄) = owns (c : Thread nD τ) M fullShare X := by
  unfold KV owns
  have e : ∀ f, (∀ i ∈ (Finset.univ : Finset s.Idx), is X i (M.view.read (Elt F) f i)) ↔ M.view.read (Elt F) f = X := by
    intro f
    constructor
    · intro h; funext i; exact h i (Finset.mem_univ i)
    · intro h i _; unfold is; rw [h]
  simp only [e]
  rfl

theorem KV_some (X : s.Idx → Elt F e) :
    (owns (c : Thread nD τ) M fullShare X : sProp 𝕄) ⊢ KV (c : Thread nD τ) M.view Finset.univ fullShare any := by
  rw [← KV_owns]
  exact KV_mono _ fun _ _ _ _ => trivial

end Whole

section Owns
variable (c : Dev nD)
variable (arg0 : Memref sig .tc .hbm S2x128x2304 .bf16) (harg0 : arg0.IsWhole)
  (arg1 : Memref sig .tc .vmem S2x128x18 .i32) (harg1 : arg1.IsWhole) (arg2 : Memref sig .tc .vmem S2x128x2304 .fp8e4m3) (harg2 : arg2.IsWhole)
  (arg3 : Memref sig .tc .vmem S2x128x18 .f32) (harg3 : arg3.IsWhole) (arg4 : Memref sig .tc .vmem S2x128x2304 .bf16) (harg4 : arg4.IsWhole)
  (arg5 : Memref sig .tc .vmem S2x128x2304 .bf16) (harg5 : arg5.IsWhole) (arg6 : DmaSems sig S_)
variable (X : S2x128x2304.Idx → Elt F .bf16) (E : S2x128x18.Idx → Elt F .i32)

theorem whole_owns (Q : PUnit → sProp 𝕄) :
    iprop(owns (c : Thread nD τ) arg0 fullShare X
      ∗ owns (c : Thread nD τ) arg1 fullShare E
      ∗ (∃ d, owns (c : Thread nD τ) arg2 fullShare d)
      ∗ (∃ d, owns (c : Thread nD τ) arg3 fullShare d)
      ∗ (∃ d, owns (c : Thread nD τ) arg4 fullShare d)
      ∗ (∃ d, owns (c : Thread nD τ) arg5 fullShare d)
      ∗ semVal ((c : Thread nD τ), .dma arg6.sem) 0
      ∗ (∃ W, owes (c : Thread nD τ) 0 W))
    ⊢ iprop((iprop(owns (c : Thread nD τ) arg0 fullShare X
      ∗ owns (c : Thread nD τ) arg1 fullShare E
      ∗ owns (c : Thread nD τ) arg2 fullShare (T2 X E)
      ∗ owns (c : Thread nD τ) arg3 fullShare (T3 E)
      ∗ owns (c : Thread nD τ) arg4 fullShare (T4 X E)
      ∗ owns (c : Thread nD τ) arg5 fullShare X
      ∗ semVal ((c : Thread nD τ), .dma arg6.sem) 0
      ∗ (∃ W, owes (c : Thread nD τ) 0 W)) -∗ Q ⟨⟩)
      -∗ wp frame (wpE (defs₀ (F := F)) Variants.none (c : Thread nD τ) none) Set.univ
        (cc0_adaln_fp8_norm (F := F) arg0 harg0 arg1 harg1 arg2 harg2 arg3 harg3 arg4 harg4 arg5 harg5 arg6) Q) := by
  have hw := whole_wp c arg0 harg0 arg1 harg1 arg2 harg2 arg3 harg3 arg4 harg4 arg5 harg5 arg6 X E Q
  simp only [KV_owns] at hw
  iintro ⟨H0, H1, ⟨%d2, H2⟩, ⟨%d3, H3⟩, ⟨%d4, H4⟩, ⟨%d5, H5⟩, S6, HW⟩ HK
  iapply hw $$ [H0 H1 H2 H3 H4 H5 S6 HW]
  · isplitl [H0]; · iexact H0
    isplitl [H1]; · iexact H1
    isplitl [H2]; · iapply (KV_some c _ _) $$ H2
    isplitl [H3]; · iapply (KV_some c _ _) $$ H3
    isplitl [H4]; · iapply (KV_some c _ _) $$ H4
    isplitl [H5]; · iapply (KV_some c _ _) $$ H5
    isplitl [S6] <;> iassumption
  iexact HK

end Owns

/-! ## The kernel's own semaphore, and the buffer its copy reads -/

abbrev osem : Unit → SemLoc sig := fun _ => .dma cc0_scratch1.sem

theorem ownSemFacts : Pipeline.OwnSemFacts spec0 osem where
  isScoped := by decide +kernel
  inj := fun _ _ _ => rfl
  disj := by decide +kernel

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), .dma cc0_scratch1.sem) 0 := by
  unfold Pipeline.ownSems0
  rw [show (Finset.univ : Finset Unit) = {()} from rfl, BI.bigSep_singleton]

def Hs : Finset (Ref sig .tc) := {main_arg0}
theorem Hs_sub : Hs ⊆ Pipeline.restRefs sig spec0 := by decide

variable (m : (ℓ : Loc nD τ sig) → Buf (Elt F) ℓ) (ρ : Dev nD → PrngReg)

/-! ## The three results -/

abbrev aX (c : Dev nD) : S2x128x2304.Idx → Elt F .bf16 := V m c main_arg0
abbrev aE (c : Dev nD) : S2x128x18.Idx → Elt F .i32 := V m c main_arg1

def resC (c : Dev nD) : S2x128x2304.Idx → Elt F .fp8e4m3 := T2 (aX m c) (aE m c)
def resS (c : Dev nD) : S2x128x18.Idx → Elt F .f32 := T3 (aE m c)
def resB (c : Dev nD) : S2x128x2304.Idx → Elt F .bf16 := T4 (aX m c) (aE m c)

theorem iblk_0 (c : Dev nD) : (iblk m c 0 t0_0 : S2x128x18.Idx → Elt F .i32) = V m c main_arg1 := by
  funext j
  unfold iblk
  refine congrArg (V m c main_arg1) (funext fun a => Fin.ext ?_)
  show 0 * _ + 1 * (j a).val = (j a).val
  omega

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => resC m c
    | ⟨2, _⟩ => resS m c
    | ⟨3, _⟩ => resB m c
  Φ _ := Pipeline.ΦD osem spec0 Hs (V m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = resC m c := by dsimp only [dats]
theorem after_2 (c : Dev nD) (t : Fin cfg0.N) : (dats m 0 c).after 2 t = resS m c := by dsimp only [dats]
theorem after_3 (c : Dev nD) (t : Fin cfg0.N) : (dats m 0 c).after 3 t = resB m c := by dsimp only [dats]

/-- The input's staging buffer holds the window's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem Phi_eq (c : Dev nD) :
    (Pipeline.ΦD osem spec0 Hs (V m) c : sProp 𝕄)
      = iprop((∃ d, owns (c : Thread nD τ) (Memref.whole cc0_scratch0) fullShare d)
        ∗ (∃ r, prngReg c r)
        ∗ semVal ((c : Thread nD τ), .dma cc0_scratch1.sem) 0
        ∗ owns (c : Thread nD τ) (Memref.whole main_arg0) fullShare (aX m c)) := by
  unfold Pipeline.ΦD
  rw [scopedRest0_eq, ownSems_eq, BI.bigSep_eq_bigSepL_of_eq (S := Hs) [main_arg0] (by decide) (by decide)]
  simp only [owns_whole]
  rfl

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost
  simp only [before_0]
  rw [after_0, after_1, after_2, after_3]
  rw [show (dats m 0 c).Φ t0_0.castSucc = Pipeline.ΦD osem spec0 Hs (V m) c from rfl,
    show (dats m 0 c).Φ t0_0.succ = Pipeline.ΦD osem spec0 Hs (V m) c from rfl, Phi_eq]
  unfold Dat.owesAt Pipeline.owesWithin
  rw [show (dats m 0 c).owed t0_0.castSucc = 0 from rfl, show (dats m 0 c).owed t0_0.succ = 0 from rfl]
  rw [show iblk m c 0 t0_0 = aE m c from iblk_0 m c]
  iintro ⟨⟨⟨%d0, C0⟩, HP, HS, A0⟩, ⟨%W, -, HW⟩, ⟨%e0, H0⟩, ⟨%e1, H1⟩, ⟨%e2, H2⟩, ⟨%e3, H3⟩⟩
  iapply (whole_owns c (Memref.whole main_arg0) (Memref.isWhole_whole _) (st0_0 t0_0) (hstage0_0 0) (st0_1 t0_0) (hstage0_1 0) (st0_2 t0_0) (hstage0_2 0)
    (st0_3 t0_0) (hstage0_3 0) (Memref.whole cc0_scratch0) (Memref.isWhole_whole _) cc0_scratch1 (aX m c) (aE m c) _) $$ [C0 HS A0 HW H0 H1 H2 H3]
  · isplitl [A0]; · iexact A0
    isplitl [H0]; · iexact H0
    isplitl [H1]; · iexists _; iexact H1
    isplitl [H2]; · iexists _; iexact H2
    isplitl [H3]; · iexists _; iexact H3
    isplitl [C0]; · iexists _; iexact C0
    isplitl [HS]; · iexact HS
    iexists W; iexact HW
  iintro ⟨A0, H0, H1, H2, H3, C0, HS, ⟨%W', HW⟩⟩
  isplitl [C0 HP HS A0]
  · isplitl [C0]; · iexists _; iexact C0
    isplitl [HP]; · iexact HP
    isplitl [HS] <;> iassumption
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
set_option maxHeartbeats 800000 in
theorem run_main : θ_run defs (onTc (τ := τ) (main (F := F))) (s₀ m ρ)
    (fun r => Pipeline.FramePost cfgs (dats m) 0 (V m) r ∧ r.2.sem = fun _ => 0) :=
  Pipeline.θ_run_frame_dma cfgs (dats m) (0 : Fin 1) launch0 osem defs₀ Variants.none ownSemFacts Hs Hs_sub m ρ main
    (hbody := fun c => (body_obligation m c).loose) (hshare := fun c => (dats m 0 c).share_full fun _ => rfl)
    (howed := fun _ _ => rfl) (V := V m) (hmain := hmainD m) (hA := A_eq m)
    (hin := fun _ => .rfl) (hout := fun _ => .rfl) (Q' := _) (hQ' := fun r h => h)

/-! ## The results' arrays -/

theorem arr_1 (c : Dev nD) : ((dats m 0 c).arrAt 1 cfg0.N : S2x128x2304.Idx → Elt F .fp8e4m3) = resC m c := by
  have h := (dats m 0 c).read_blk_arrAt_eq_flushed 1
    (fun t t' _ _ hne => absurd ((fin_N0 t).trans (fin_N0 t').symm) hne) cfg0.N t0_0 t0_0.isLt (flush0_1 t0_0)
  funext j
  have e := congrFun h j
  refine Eq.trans ?_ (e.trans ?_)
  · refine congrArg ((dats m 0 c).arrAt 1 cfg0.N) (funext fun a => Fin.ext ?_)
    show (j a).val = 0 * _ + 1 * (j a).val
    omega
  · show (cfg0.win 1).cut (grid0.coords t0_0) ((dats m 0 c).after 1 t0_0) j = _
    rw [after_1]
theorem arr_2 (c : Dev nD) : ((dats m 0 c).arrAt 2 cfg0.N : S2x128x18.Idx → Elt F .f32) = resS m c := by
  have h := (dats m 0 c).read_blk_arrAt_eq_flushed 2
    (fun t t' _ _ hne => absurd ((fin_N0 t).trans (fin_N0 t').symm) hne) cfg0.N t0_0 t0_0.isLt (flush0_2 t0_0)
  funext j
  have e := congrFun h j
  refine Eq.trans ?_ (e.trans ?_)
  · refine congrArg ((dats m 0 c).arrAt 2 cfg0.N) (funext fun a => Fin.ext ?_)
    show (j a).val = 0 * _ + 1 * (j a).val
    omega
  · show (cfg0.win 2).cut (grid0.coords t0_0) ((dats m 0 c).after 2 t0_0) j = _
    rw [after_2]
theorem arr_3 (c : Dev nD) : ((dats m 0 c).arrAt 3 cfg0.N : S2x128x2304.Idx → Elt F .bf16) = resB m c := by
  have h := (dats m 0 c).read_blk_arrAt_eq_flushed 3
    (fun t t' _ _ hne => absurd ((fin_N0 t).trans (fin_N0 t').symm) hne) cfg0.N t0_0 t0_0.isLt (flush0_3 t0_0)
  funext j
  have e := congrFun h j
  refine Eq.trans ?_ (e.trans ?_)
  · refine congrArg ((dats m 0 c).arrAt 3 cfg0.N) (funext fun a => Fin.ext ?_)
    show (j a).val = 0 * _ + 1 * (j a).val
    omega
  · show (cfg0.win 3).cut (grid0.coords t0_0) ((dats m 0 c).after 3 t0_0) j = _
    rw [after_3]

/-- The arguments end as they were. -/
def Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)

/-- Every run of the program ends with the three results named, the arguments as they were, and every semaphore at zero. -/
theorem results : θ_run defs (onTc (τ := τ) (main (F := F))) ⟨m, fun _ => 0, ρ⟩ (fun r =>
    (∀ c : Dev nD, r.2.mem ((c.tc : Thread nD τ).loc main_v0_0) = resC m c
      ∧ r.2.mem ((c.tc : Thread nD τ).loc main_v0_1) = resS m c
      ∧ r.2.mem ((c.tc : Thread nD τ).loc main_v0_2) = resB m c
      ∧ Kept m c r) ∧ r.2.sem = fun _ => 0) :=
  (θ_run defs _ _).mono (fun r h => ⟨fun c =>
    ⟨((h.1 c).1 1).trans (arr_1 m c), ((h.1 c).1 2).trans (arr_2 m c), ((h.1 c).1 3).trans (arr_3 m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c)))⟩, h.2⟩)
    (run_main m ρ)

end Cert.NormIdeal.Roll

end
-- ==== Proof.NormRef.lean ====
/-
  The normalising reference's run: its three results, index by index, over the extended reals.
-/
module

public import proofs.«01_k».proof.Proof.Gen.NormReferenceIdeal.Frame
public import Idealize.ShloMosaic.Lib.Pointwise
public import Idealize.ShloMosaic.Lib.Pipeline.Value
public import Idealize.ShloMosaic.Lib.Claim

@[expose] public section

set_option maxRecDepth 16384

noncomputable section

namespace Cert.NormReferenceIdeal.Read

open Cert.NormReferenceIdeal Cert.NormReferenceIdeal.Gen Idealize.ShloMosaic Idealize.ShloMosaic.TcCoe Idealize.SL.Sem
open Idealize.ShloMosaic.Pipeline (Dat)

/-! ## What the payloads hold -/

section Values
variable (x : FVec Ideal S2x128x2304 .bf16) (e : IVec S2x128x18 32)

/-- A row's mean, and its entries less the mean. -/
def mean (b : Fin 2) (s : Fin 128) : EReal := (∑ k : Fin 2304, (x (ix3 b s k) : EReal)) * Ideal.ofBits .f32 0x39E38E39#32
def cent (b : Fin 2) (s : Fin 128) (k : Fin 2304) : EReal := (x (ix3 b s k) : EReal) - mean x b s

/-- The normalised row. -/
def nrm (b : Fin 2) (s : Fin 128) (k : Fin 2304) : EReal :=
  cent x b s k * Ideal.rsqrt ((∑ k : Fin 2304, cent x b s k * cent x b s k) * Ideal.ofBits .f32 0x39E38E39#32 + Ideal.ofBits .f32 0x358637BD#32)

/-- A block's scale, a code, and the code times the scale. -/
def scale (b : Fin 2) (s : Fin 128) (k : Fin 18) : EReal := Ideal.exp2 (FloatOps.sitofp (F := Ideal) .f32 (e (ix3 b s k)))
def code (b : Fin 2) (s : Fin 128) (k : Fin 2304) : EReal :=
  min (Ideal.ofBits .f32 0x43E00000#32) (max (Ideal.ofBits .f32 0xC3E00000#32)
    (Ideal.div (nrm x b s k) (scale e b s ⟨k.val / 128, by omega⟩)))

theorem pay1_at (b : Fin 2) (s : Fin 128) (k : Fin 18) : k0_pay1 (F := Ideal) e (ix3 b s k) = scale e b s k := by
  unfold scale
  pointwise [k0_pay1]
  rfl

theorem pay2_at (b : Fin 2) (s : Fin 128) (k : Fin 2304) : k0_pay2 (F := Ideal) e (ix3 b s k) = scale e b s ⟨k.val / 128, by omega⟩ := by
  rw [← pay1_at]
  pointwise [k0_pay2]

theorem pay3_at (b : Fin 2) (s : Fin 128) (k : Fin 2304) : k0_pay3 (F := Ideal) x e (ix3 b s k) = code x e b s k := by
  unfold code nrm cent mean
  rw [← pay2_at]
  pointwise [k0_pay3]

theorem pay4_at (b : Fin 2) (s : Fin 128) (k : Fin 2304) :
    k0_pay4 (F := Ideal) x e (ix3 b s k) = code x e b s k * scale e b s ⟨k.val / 128, by omega⟩ := by
  rw [← pay3_at, ← pay2_at]
  pointwise [k0_pay4]

end Values

variable (m : (ℓ : Loc nD τ sig) → Buf (Elt Ideal) ℓ) (ρ : Dev nD → PrngReg)

/-! ## The arguments as the body reads them -/

def aX (c : Dev nD) : FVec Ideal S2x128x2304 .bf16 := m ((c : Thread nD τ).loc main_arg0)
def aE (c : Dev nD) : IVec S2x128x18 32 := m ((c : Thread nD τ).loc main_arg1)

variable (t : Fin cfg0.N)

theorem iblk_0 (c : Dev nD) : (iblk m c 0 t : S2x128x2304.Idx → Elt Ideal .bf16) = aX m c := by
  refine Eq.trans ?_ (V_main_arg0 m c)
  obtain rfl : t = ⟨0, by decide⟩ := (fin_N0 t)
  funext j
  unfold iblk
  refine congrArg (V m c main_arg0) (funext fun a => Fin.ext ?_)
  show 0 * _ + 1 * (j a).val = (j a).val
  omega
theorem iblk_1 (c : Dev nD) : (iblk m c 1 t : S2x128x18.Idx → Elt Ideal .i32) = aE m c := by
  refine Eq.trans ?_ (V_main_arg1 m c)
  obtain rfl : t = ⟨0, by decide⟩ := (fin_N0 t)
  funext j
  unfold iblk
  refine congrArg (V m c main_arg1) (funext fun a => Fin.ext ?_)
  show 0 * _ + 1 * (j a).val = (j a).val
  omega

/-! ## A load or a store of the whole block -/

theorem ld_0 (x : Vec Ideal S2x128x2304 .bf16) : View.ld x r0_0 = x := by
  funext j; refine congrArg x (funext fun a => Fin.ext ?_); show _ + 1 * (j a).val = (j a).val; revert a; intro a; fin_cases a <;> simp
theorem ld_1 (x : Vec Ideal S2x128x18 .i32) : View.ld x r0_1 = x := by
  funext j; refine congrArg x (funext fun a => Fin.ext ?_); show _ + 1 * (j a).val = (j a).val; revert a; intro a; fin_cases a <;> simp

theorem canon_2 (p : Vec Ideal S2x128x2304 .fp8e4m3) : View.canon [⟨r0_0, p⟩] = p := by
  funext y
  refine View.canon_apply_of_pieces p _ ?_ y (cover0_2 _ y)
  intro pc hpc
  rcases List.mem_cons.mp hpc with rfl | hpc
  · intro x
    refine congrArg p (funext fun a => Fin.ext ?_)
    show (x a).val = _ + 1 * (x a).val; fin_cases a <;> simp
  nomatch hpc
theorem canon_3 (p : Vec Ideal S2x128x18 .f32) : View.canon [⟨r0_1, p⟩] = p := by
  funext y
  refine View.canon_apply_of_pieces p _ ?_ y (cover0_3 _ y)
  intro pc hpc
  rcases List.mem_cons.mp hpc with rfl | hpc
  · intro x
    refine congrArg p (funext fun a => Fin.ext ?_)
    show (x a).val = _ + 1 * (x a).val; fin_cases a <;> simp
  nomatch hpc
theorem canon_4 (p : Vec Ideal S2x128x2304 .bf16) : View.canon [⟨r0_0, p⟩] = p := by
  funext y
  refine View.canon_apply_of_pieces p _ ?_ y (cover0_4 _ y)
  intro pc hpc
  rcases List.mem_cons.mp hpc with rfl | hpc
  · intro x
    refine congrArg p (funext fun a => Fin.ext ?_)
    show (x a).val = _ + 1 * (x a).val; fin_cases a <;> simp
  nomatch hpc

/-! ## The final arrays -/

theorem arr_2 (c : Dev nD) : ((dats m 0 c).arrAt 2 cfg0.N : S2x128x2304.Idx → Elt Ideal .fp8e4m3) = out0_2 (iblk m c 0 t) (iblk m c 1 t) := by
  have h := (dats m 0 c).read_blk_arrAt_eq_flushed 2
    (fun t t' _ _ hne => absurd ((fin_N0 t).trans (fin_N0 t').symm) hne) cfg0.N t t.isLt (flush0_2 t)
  funext j
  have e := congrFun h j
  refine Eq.trans ?_ (e.trans ?_)
  · refine congrArg ((dats m 0 c).arrAt 2 cfg0.N) (funext fun a => Fin.ext ?_)
    show (j a).val = 0 * _ + 1 * (j a).val
    omega
  · show (cfg0.win 2).cut (grid0.coords t) ((dats m 0 c).after 2 t) j = _
    rw [after0_2]
theorem arr_3 (c : Dev nD) : ((dats m 0 c).arrAt 3 cfg0.N : S2x128x18.Idx → Elt Ideal .f32) = out0_3 (iblk m c 0 t) (iblk m c 1 t) := by
  have h := (dats m 0 c).read_blk_arrAt_eq_flushed 3
    (fun t t' _ _ hne => absurd ((fin_N0 t).trans (fin_N0 t').symm) hne) cfg0.N t t.isLt (flush0_3 t)
  funext j
  have e := congrFun h j
  refine Eq.trans ?_ (e.trans ?_)
  · refine congrArg ((dats m 0 c).arrAt 3 cfg0.N) (funext fun a => Fin.ext ?_)
    show (j a).val = 0 * _ + 1 * (j a).val
    omega
  · show (cfg0.win 3).cut (grid0.coords t) ((dats m 0 c).after 3 t) j = _
    rw [after0_3]
theorem arr_4 (c : Dev nD) : ((dats m 0 c).arrAt 4 cfg0.N : S2x128x2304.Idx → Elt Ideal .bf16) = out0_4 (iblk m c 0 t) (iblk m c 1 t) := by
  have h := (dats m 0 c).read_blk_arrAt_eq_flushed 4
    (fun t t' _ _ hne => absurd ((fin_N0 t).trans (fin_N0 t').symm) hne) cfg0.N t t.isLt (flush0_4 t)
  funext j
  have e := congrFun h j
  refine Eq.trans ?_ (e.trans ?_)
  · refine congrArg ((dats m 0 c).arrAt 4 cfg0.N) (funext fun a => Fin.ext ?_)
    show (j a).val = 0 * _ + 1 * (j a).val
    omega
  · show (cfg0.win 4).cut (grid0.coords t) ((dats m 0 c).after 4 t) j = _
    rw [after0_4]

theorem val_2 (c : Dev nD) (b : Fin 2) (s : Fin 128) (k : Fin 2304) :
    ((dats m 0 c).arrAt 2 cfg0.N : S2x128x2304.Idx → Elt Ideal .fp8e4m3) (ix3 b s k) = code (aX m c) (aE m c) b s k := by
  rw [arr_2 m ⟨0, by decide⟩]
  unfold out0_2
  rw [canon_2, ld_0, ld_1, pay3_at, iblk_0, iblk_1]
theorem val_3 (c : Dev nD) (b : Fin 2) (s : Fin 128) (k : Fin 18) :
    ((dats m 0 c).arrAt 3 cfg0.N : S2x128x18.Idx → Elt Ideal .f32) (ix3 b s k) = scale (aE m c) b s k := by
  rw [arr_3 m ⟨0, by decide⟩]
  unfold out0_3
  rw [canon_3, ld_1, pay1_at, iblk_1]
theorem val_4 (c : Dev nD) (b : Fin 2) (s : Fin 128) (k : Fin 2304) :
    ((dats m 0 c).arrAt 4 cfg0.N : S2x128x2304.Idx → Elt Ideal .bf16) (ix3 b s k)
      = code (aX m c) (aE m c) b s k * scale (aE m c) b s ⟨k.val / 128, by omega⟩ := by
  rw [arr_4 m ⟨0, by decide⟩]
  unfold out0_4
  rw [canon_4, ld_0, ld_1, pay4_at, iblk_0, iblk_1]

/-! ## The run -/

/-- Every run of the reference ends with its results' arrays named and the arguments as they were. -/
theorem run_blocks : θ_run defs (onTc (τ := τ) (main (F := Ideal))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.NormReferenceIdeal.Read

end
-- ==== Proof.NormVal.lean ====
/-
  What the normalising kernel's results hold at an index, over the extended reals.
-/
module

public import proofs.«01_k».proof.Proof.NormRun
public import proofs.«01_k».proof.Proof.NormRef
public import proofs.«01_k».proof.Proof.Words
public import Idealize.ShloMosaic.Lib.Pointwise

@[expose] public section

set_option maxRecDepth 16384

noncomputable section

namespace Cert.NormIdeal.Val

open Idealize.ShloMosaic Idealize.ShloMosaic.TcCoe
open Cert.NormIdeal Cert.NormIdeal.Gen Cert.NormIdeal.Roll Cert.Words
open Cert.NormReferenceIdeal.Read (mean cent nrm)

variable (X : FVec Ideal S2x128x2304 .bf16) (E : IVec S2x128x18 32)

/-- The row that a trip's row is. -/
def bO (t : T1) : Fin 2 := ⟨t.val / 4, by have := t_lt t; omega⟩
def rO (t : T1) (r : Fin 32) : Fin 128 := ⟨32 * (t.val % 4) + r.val, by omega⟩

theorem xV_at (t : T1) (r : Fin 32) (k : Fin 2304) : xV (F := Ideal) X t (ix3 0 r k) = X (ix3 (bO t) (rO t r) k) := by
  refine congrArg X (funext fun a => Fin.ext ?_)
  refine (unit_val (s := S2x128x2304) (oX t) S1x32x2304.size (oX_inb t) (ix3 0 r k) a).trans ?_
  have hb := bI_eq t; have hr := rI_eq t
  match a with
  | ⟨0, _⟩ => show bI t + 0 = t.val / 4; omega
  | ⟨1, _⟩ => show rI t + r.val = 32 * (t.val % 4) + r.val; omega
  | ⟨2, _⟩ => show 0 + k.val = k.val; omega

theorem eV_at (t : T1) (r : Fin 32) (k : Fin 18) : eV (F := Ideal) E t (ix3 0 r k) = E (ix3 (bO t) (rO t r) k) := by
  refine congrArg E (funext fun a => Fin.ext ?_)
  refine (unit_val (s := S2x128x18) (oX t) S1x32x18.size (oE_inb t) (ix3 0 r k) a).trans ?_
  have hb := bI_eq t; have hr := rI_eq t
  match a with
  | ⟨0, _⟩ => show bI t + 0 = t.val / 4; omega
  | ⟨1, _⟩ => show rI t + r.val = 32 * (t.val % 4) + r.val; omega
  | ⟨2, _⟩ => show 0 + k.val = k.val; omega

theorem hV_at (t : T1) (r : Fin 32) (k : Fin 2304) : hV (F := Ideal) X t (ix2 r k) = nrm X (bO t) (rO t r) k := by
  unfold nrm cent mean hV
  simp only [← xV_at]
  pointwise [k0_pay4, k0_pay3, k0_pay2]

theorem esV_at (t : T1) (r : Fin 32) (k : Fin 18) : esV (F := Ideal) E t (ix2 r k) = E (ix3 (bO t) (rO t r) k) := by
  rw [← eV_at E]
  unfold esV
  pointwise [k0_pay6]

/-- Two to an exponent, as the kernel's word. -/
def wordOf (x : BitVec 32) : BitVec 32 := IntOp.shli ArithUnit.vector (x + 127#32) 23#32

theorem powK_at (v : IVec S32x1 32) (r : Fin 32) : powK (F := Ideal) v (ix2 r 0) = Ideal.ofBits .f32 (wordOf (v (ix2 r 0))) := by
  unfold wordOf
  pointwise [powK]
  rfl

theorem expK_at (k : Fin 18) (es : IVec S32x18 32) (r : Fin 32) : expK k es (ix2 r 0) = es (ix2 r k) := by
  unfold expK
  pointwise

theorem codeK_at (k : Fin 18) (h : FVec Ideal S32x2304 .f32) (es : IVec S32x18 32) (r : Fin 32) (l : Fin 128) :
    codeK (F := Ideal) k h es (ix2 r l) = min (Ideal.ofBits .f32 0x43E00000#32) (max (Ideal.ofBits .f32 0xC3E00000#32)
      ((h (ix2 r ⟨128 * k.val + l.val, by omega⟩) : EReal) * Ideal.ofBits .f32 (wordOf (0#32 - es (ix2 r k))))) := by
  rw [← expK_at k es r]
  have e := powK_at (subi (broadcast S32x1 0#32) (expK k es)) r
  refine Eq.trans ?_ (congrArg (fun z => min (Ideal.ofBits .f32 0x43E00000#32) (max (Ideal.ofBits .f32 0xC3E00000#32)
      ((h (ix2 r ⟨128 * k.val + l.val, by omega⟩) : EReal) * z))) e)
  pointwise [codeK]

theorem hbK_at (k : Fin 18) (h : FVec Ideal S32x2304 .f32) (es : IVec S32x18 32) (r : Fin 32) (l : Fin 128) :
    hbK (F := Ideal) k h es (ix2 r l) = codeK (F := Ideal) k h es (ix2 r l) * Ideal.ofBits .f32 (wordOf (es (ix2 r k))) := by
  rw [← expK_at k es r, ← powK_at]
  pointwise [hbK]

theorem accK_at (k : Fin 18) (es : IVec S32x18 32) (a : FVec Ideal S32x128 .f32) (r : Fin 32) (l : Fin 128) :
    accK (F := Ideal) k es a (ix2 r l) = if l.val = k.val then Ideal.ofBits .f32 (wordOf (es (ix2 r k))) else a (ix2 r l) := by
  rw [← expK_at k es r, ← powK_at]
  pointwise [accK]
  have e : (BitVec.ofNat 32 l.val = BitVec.ofNat 32 k.val) ↔ l.val = k.val := by
    constructor
    · intro h
      have := congrArg BitVec.toNat h
      rw [BitVec.toNat_ofNat, BitVec.toNat_ofNat] at this
      omega
    · intro h; rw [h]
  unfold Scalar.select IntOp.cmpi
  by_cases h : l.val = k.val
  · simp [h]
  · have h' : ¬ (BitVec.ofNat 32 l.val = BitVec.ofNat 32 k.val) := fun hh => h (e.mp hh)
    have hb : (BitVec.ofNat 32 l.val == BitVec.ofNat 32 k.val) = false := by simpa using h'
    rw [if_neg h]
    refine if_neg ?_
    show ¬ BitVec.ofBool (BitVec.ofNat 32 l.val == BitVec.ofNat 32 k.val) = 1#1
    rw [hb]
    decide

/-! ## The powers of two -/

/-- The exponents are those of normal numbers. -/
def Fit : Prop := ∀ (b : Fin 2) (s : Fin 128) (k : Fin 18), -126 ≤ (E (ix3 b s k)).toInt ∧ (E (ix3 b s k)).toInt ≤ 126

theorem wordOf_eq (x : BitVec 32) (h : -126 ≤ x.toInt) (h' : x.toInt ≤ 126) : wordOf x = pw (127 + x.toInt).toNat := by
  unfold wordOf IntOp.shli
  rw [if_pos (by decide)]
  refine BitVec.eq_of_toNat_eq ?_
  rw [BitVec.shiftLeft_eq', BitVec.toNat_shiftLeft, Nat.shiftLeft_eq, BitVec.toNat_add, pw]
  simp only [BitVec.toNat_ofNat, Nat.reducePow, Nat.reduceMod]
  have he32 : x.toNat < 4294967296 := x.isLt
  rw [BitVec.toInt_eq_toNat_cond] at *
  split at h <;> rename_i hh <;> simp only [hh, if_true, if_false, ↓reduceIte] at * <;> omega

theorem word_val (x : BitVec 32) (h : -126 ≤ x.toInt) (h' : x.toInt ≤ 126) : Ideal.ofBits .f32 (wordOf x) = (((2 : ℝ) ^ x.toInt : ℝ) : EReal) := by
  rw [wordOf_eq x h h', ofBits_pw _ (by omega) (by omega)]
  congr 1
  unfold p2
  congr 1
  omega

theorem neg_toInt (x : BitVec 32) (h : -126 ≤ x.toInt) (h' : x.toInt ≤ 126) : (0#32 - x).toInt = - x.toInt := by
  rw [BitVec.toInt_sub]
  refine (Int.bmod_eq_of_le ?_ ?_).trans ?_ <;> simp <;> omega

theorem exp2_val (x : BitVec 32) : Ideal.exp2 (FloatOps.sitofp (F := Ideal) .f32 x) = (((2 : ℝ) ^ x.toInt : ℝ) : EReal) := by
  show Ideal.exp2 (((x.toInt : ℝ) : EReal)) = _
  rw [Ideal.exp2_coe]
  exact congrArg _ (Real.rpow_intCast 2 x.toInt)

/-- The kernel's word of an exponent is the reference's scale. -/
theorem word_scale (hE : Fit E) (b : Fin 2) (s : Fin 128) (k : Fin 18) :
    Ideal.ofBits .f32 (wordOf (E (ix3 b s k))) = Cert.NormReferenceIdeal.Read.scale E b s k := by
  unfold Cert.NormReferenceIdeal.Read.scale
  rw [exp2_val, word_val _ (hE b s k).1 (hE b s k).2]

/-- A product with the word of the negated exponent is a quotient by the scale. -/
theorem word_div (hE : Fit E) (b : Fin 2) (s : Fin 128) (k : Fin 18) (a : EReal) :
    a * Ideal.ofBits .f32 (wordOf (0#32 - E (ix3 b s k))) = Ideal.div a (Cert.NormReferenceIdeal.Read.scale E b s k) := by
  obtain ⟨h1, h2⟩ := hE b s k
  have hn := neg_toInt _ h1 h2
  unfold Cert.NormReferenceIdeal.Read.scale
  rw [exp2_val, word_val _ (by omega) (by omega), hn, Ideal.div_coe (by positivity), zpow_neg, one_div]

/-! ## The results -/

theorem cast_at {φ : FTy} (v : FVec Ideal S32x128 φ) (r : Fin 32) (l : Fin 128) :
    shapeCast S1x32x128 v shapeCasts_S32x128_S1x32x128 (ix3 0 r l) = v (ix2 r l) := by
  pointwise

theorem acc_at (es : IVec S32x18 32) (r : Fin 32) (k : Fin 18) (t : T1) :
    accV (F := Ideal) E t (ix2 r ⟨k.val, by omega⟩) = Ideal.ofBits .f32 (wordOf (esV (F := Ideal) E t (ix2 r k))) := by
  unfold accV
  simp only [accK_at]
  fin_cases k <;> rfl

theorem bO_tOf (b : Fin 2) (s : Fin 128) : bO (tOf b s) = b := Fin.ext (by show (4 * b.val + s.val / 32) / 4 = b.val; omega)
theorem rO_tOf (b : Fin 2) (s : Fin 128) : rO (tOf b s) ⟨s.val % 32, by omega⟩ = s :=
  Fin.ext (by show 32 * ((4 * b.val + s.val / 32) % 4) + s.val % 32 = s.val; omega)

/-- The code as the trip computes it. -/
theorem trip_code (hE : Fit E) (b : Fin 2) (s : Fin 128) (k : Fin 2304) :
    codeK (F := Ideal) ⟨k.val / 128, by omega⟩ (hV X (tOf b s)) (esV (F := Ideal) E (tOf b s)) (ix2 ⟨s.val % 32, by omega⟩ ⟨k.val % 128, by omega⟩)
      = Cert.NormReferenceIdeal.Read.code X E b s k := by
  unfold Cert.NormReferenceIdeal.Read.code
  rw [codeK_at, hV_at, esV_at, bO_tOf, rO_tOf, word_div E hE]
  have e : (⟨128 * (k.val / 128) + k.val % 128, by omega⟩ : Fin 2304) = k := Fin.ext (by show 128 * (k.val / 128) + k.val % 128 = k.val; omega)
  simp only [e]

theorem T2_at (hE : Fit E) (b : Fin 2) (s : Fin 128) (k : Fin 2304) :
    T2 (F := Ideal) X E (ix3 b s k) = Cert.NormReferenceIdeal.Read.code X E b s k :=
  (cast_at _ _ _).trans (trip_code X E hE b s k)

theorem T4_at (hE : Fit E) (b : Fin 2) (s : Fin 128) (k : Fin 2304) :
    T4 (F := Ideal) X E (ix3 b s k)
      = Cert.NormReferenceIdeal.Read.code X E b s k * Cert.NormReferenceIdeal.Read.scale E b s ⟨k.val / 128, by omega⟩ := by
  refine (cast_at _ _ _).trans ?_
  refine (hbK_at _ _ _ _ _).trans ?_
  refine congrArg₂ (fun x y : EReal => x * y) (trip_code X E hE b s k) ?_
  rw [esV_at]
  refine Eq.trans ?_ (word_scale E hE b s _)
  exact congrArg₂ (fun (x : Fin 2) (y : Fin 128) => Ideal.ofBits .f32 (wordOf (E (ix3 x y ⟨k.val / 128, by omega⟩)))) (bO_tOf b s) (rO_tOf b s)

theorem T3_at (hE : Fit E) (b : Fin 2) (s : Fin 128) (k : Fin 18) :
    T3 (F := Ideal) E (ix3 b s k) = Cert.NormReferenceIdeal.Read.scale E b s k := by
  have h : T3 (F := Ideal) E (ix3 b s k) = accV (F := Ideal) E (tOf b s) (ix2 ⟨s.val % 32, by omega⟩ ⟨k.val, by omega⟩) := by
    show k0_pay1 (F := Ideal) (extractStridedSlice S32x18 ![0, 0] (accV (F := Ideal) E (tOf b s)) slices_S32x128_o0_0_S32x18)
      (ix3 0 ⟨s.val % 32, by omega⟩ k) = _
    generalize accV (F := Ideal) E (tOf b s) = a
    pointwise [k0_pay1]
  rw [h, acc_at E (esV (F := Ideal) E (tOf b s)), esV_at, bO_tOf, rO_tOf, word_scale E hE]

end Cert.NormIdeal.Val

end
-- ==== Proof.NormSame.lean ====
/-
  The normalising kernel's results are its reference's, once the exponents are those of normal numbers.
-/
module

public import proofs.«01_k».proof.Defs
public import proofs.«01_k».proof.Proof.NormVal
public import proofs.«01_k».proof.Proof.Tame
public import proofs.«01_k».proof.Proof.Same

@[expose] public section

set_option maxRecDepth 16384

noncomputable section

namespace Cert.NormSame

open Idealize.ShloMosaic Idealize.ShloMosaic.TcCoe
open Cert.NormIdeal Cert.NormIdeal.Val Cert.NormReferenceIdeal.Read Cert.KernelIdeal.Val

/-- The shape relation the precondition's operations take. -/
theorem normalFacts : Cert.Pre_normal.Facts where
  bcast_S_S2x128x18 := by decide

section Reads

variable [hPre : Cert.Pre_normal.Facts]
variable (X : FVec Ideal S2x128x2304 .bf16) (e : IVec S2x128x18 32)

theorem read1 (b : Fin 2) (s : Fin 128) (k : Fin 18) : (Cert.Pre_normal.fn X e).1 (ix3 b s k) = BitVec.ofBool ((4294967170#32).sle (e (ix3 b s k))) := by
  pointwise [Cert.Pre_normal.fn]
  rfl

theorem read2 (b : Fin 2) (s : Fin 128) (k : Fin 18) : (Cert.Pre_normal.fn X e).2 (ix3 b s k) = BitVec.ofBool ((e (ix3 b s k)).sle 126#32) := by
  pointwise [Cert.Pre_normal.fn]
  rfl

end Reads

variable (m : (ℓ : Loc nD τ sig) → Buf (Elt Ideal) ℓ)
  (m' : (ℓ : Loc Cert.NormReferenceIdeal.nD Cert.NormReferenceIdeal.τ Cert.NormReferenceIdeal.sig) → Buf (Elt Ideal) ℓ) (c : Dev nD)

theorem fit [hPre : Cert.Pre_normal.Facts] (h : Cert.Pre_NormIdeal_normal m) : Fit (Cert.NormIdeal.Roll.aE m c) := by
  intro b s k
  have h1 := bit_true (hPre := Cert.KernelIdeal.Val.tameFacts) ((read1 (Cert.NormIdeal.Roll.aX m c) (Cert.NormIdeal.Roll.aE m c) b s k).symm.trans (congrFun (h c).1 _))
  have h2 := bit_true (hPre := Cert.KernelIdeal.Val.tameFacts) ((read2 (Cert.NormIdeal.Roll.aX m c) (Cert.NormIdeal.Roll.aE m c) b s k).symm.trans (congrFun (h c).2 _))
  rw [BitVec.sle_eq_decide, decide_eq_true_eq] at h1 h2
  rw [show (4294967170#32).toInt = -126 by decide] at h1
  rw [show (126#32).toInt = 126 by decide] at h2
  exact ⟨h1, h2⟩

variable (h0 : Cert.NormReferenceIdeal.Read.aX m' c = Cert.NormIdeal.Roll.aX m c) (h1 : Cert.NormReferenceIdeal.Read.aE m' c = Cert.NormIdeal.Roll.aE m c)
variable (hE : Fit (Cert.NormIdeal.Roll.aE m c))

include h0 h1 hE in
theorem same_c : ((Cert.NormReferenceIdeal.Gen.dats m' 0 c).arrAt 2 Cert.NormReferenceIdeal.cfg0.N : Cert.NormReferenceIdeal.S2x128x2304.Idx → Elt Ideal .fp8e4m3)
    = Cert.NormIdeal.Roll.resC m c := by
  funext i
  rw [Cert.Same.idx3 i]
  refine (val_2 m' c _ _ _).trans ?_
  refine Eq.trans ?_ (T2_at _ _ hE _ _ _).symm
  rw [h0, h1]

include h1 hE in
theorem same_s : ((Cert.NormReferenceIdeal.Gen.dats m' 0 c).arrAt 3 Cert.NormReferenceIdeal.cfg0.N : Cert.NormReferenceIdeal.S2x128x18.Idx → Elt Ideal .f32)
    = Cert.NormIdeal.Roll.resS m c := by
  funext i
  rw [Cert.Same.idx3 i]
  refine (val_3 m' c _ _ _).trans ?_
  refine Eq.trans ?_ (T3_at _ hE _ _ _).symm
  rw [h1]

include h0 h1 hE in
theorem same_b : ((Cert.NormReferenceIdeal.Gen.dats m' 0 c).arrAt 4 Cert.NormReferenceIdeal.cfg0.N : Cert.NormReferenceIdeal.S2x128x2304.Idx → Elt Ideal .bf16)
    = Cert.NormIdeal.Roll.resB m c := by
  funext i
  rw [Cert.Same.idx3 i]
  refine (val_4 m' c _ _ _).trans ?_
  refine Eq.trans ?_ (T4_at _ _ hE _ _ _).symm
  rw [h0, h1]

end Cert.NormSame

end
-- ==== Proof.lean ====
/-
  The proof of `Cert.Claim`: the programs leave their arguments as they were and every semaphore at zero, and over the
  extended reals the three results of either kernel are its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Bits.Final
public import proofs.«01_k».proof.Proof.Final
public import proofs.«01_k».proof.Proof.Same
public import proofs.«01_k».proof.Proof.Gen.Norm
public import proofs.«01_k».proof.Proof.Gen.NormIdeal
public import proofs.«01_k».proof.Proof.Gen.NormReferenceIdeal
public import proofs.«01_k».proof.Proof.Gen.NormReferenceIdeal.Frame
public import proofs.«01_k».proof.Proof.Bits.NormRun
public import proofs.«01_k».proof.Proof.NormRun
public import proofs.«01_k».proof.Proof.NormSame

@[expose] public section

noncomputable section

namespace Cert.Proof

open Idealize.ShloMosaic Idealize.SL.Sem

theorem algebraic : Cert.algebraic_KernelIdeal_ReferenceIdeal_pre_tame (hKernelIdeal := Cert.KernelIdeal.Gen.facts)
    (hReferenceIdeal := Cert.ReferenceIdeal.Gen.facts) (hPre_tame := Cert.KernelIdeal.Val.tameFacts) := by
  intro m g m' g' hpre heq
  refine ⟨fun c => Cert.KernelIdeal.Roll.resY m c, fun c => Cert.KernelIdeal.Roll.resW m c,
    fun c => (bitcastToFloat .f32 (Cert.KernelIdeal.Roll.resS m c) : FVec Ideal Cert.KernelIdeal.S2x18x72 .f32), ?_, ?_⟩
  · exact (θ_run _ _ _).mono (fun _ h c => h.1 c) (Cert.KernelIdeal.Roll.results m g)
  · refine (θ_run _ _ _).mono (fun _ h c => ?_) (Cert.ReferenceIdeal.Read.run_blocks m' g')
    obtain ⟨e0, e1, e2, e3, e4, e5, e6⟩ := heq c
    have hg := Cert.KernelIdeal.Val.tame_good (hPre := Cert.KernelIdeal.Val.tameFacts) m c hpre
    have hs := Cert.KernelIdeal.Val.tame_shift (hPre := Cert.KernelIdeal.Val.tameFacts) m c hpre
    obtain ⟨r0, r1, r2, k⟩ := h c
    exact ⟨r0.trans (Cert.Same.same_y m m' c e0 e1 e2 e3 e4 e5 e6 hg hs), r1.trans (Cert.Same.same_w m m' c e1 e3 e4 e6 hg),
      r2.trans (Cert.Same.same_s m m' c e4 e6 hg), k⟩

theorem norm_algebraic : Cert.algebraic_NormIdeal_NormReferenceIdeal_pre_normal (hNormIdeal := Cert.NormIdeal.Gen.facts)
    (hNormReferenceIdeal := Cert.NormReferenceIdeal.Gen.facts) (hPre_normal := Cert.NormSame.normalFacts) := by
  intro m g m' g' hpre heq
  refine ⟨fun c => Cert.NormIdeal.Roll.resC m c, fun c => Cert.NormIdeal.Roll.resS m c, fun c => Cert.NormIdeal.Roll.resB m c, ?_, ?_⟩
  · exact (θ_run _ _ _).mono (fun _ h c => h.1 c) (Cert.NormIdeal.Roll.results m g)
  · refine (θ_run _ _ _).mono (fun _ h c => ?_) (Cert.NormReferenceIdeal.Read.run_blocks m' g')
    obtain ⟨e0, e1⟩ := heq c
    have hE := Cert.NormSame.fit (hPre := Cert.NormSame.normalFacts) m c hpre
    obtain ⟨r0, r1, r2, k⟩ := h c
    exact ⟨r0.trans (Cert.NormSame.same_c m m' c e0 e1 hE), r1.trans (Cert.NormSame.same_s m m' c e1 hE),
      r2.trans (Cert.NormSame.same_b m m' c e0 e1 hE), k⟩

theorem claim : Cert.Claim := ⟨Cert.Kernel.Gen.facts, Cert.KernelIdeal.Gen.facts, Cert.ReferenceIdeal.Gen.facts,
  Cert.Norm.Gen.facts, Cert.NormIdeal.Gen.facts, Cert.NormReferenceIdeal.Gen.facts, Cert.KernelIdeal.Val.tameFacts, Cert.NormSame.normalFacts,
  fun m ρ _ => (θ_run _ _ _).mono (fun _ h => ⟨fun c => (h.1 c).2.2.2, h.2⟩) (Cert.Kernel.Roll.results m ρ),
  fun m ρ _ => (θ_run _ _ _).mono (fun _ h => ⟨fun c => (h.1 c).2.2.2, h.2⟩) (Cert.KernelIdeal.Roll.results m ρ),
  fun m ρ _ => (θ_run _ _ _).mono (fun _ h => ⟨fun c => (h.1 c).2.2.2, h.2⟩) (Cert.KernelIdeal.Roll.results m ρ),
  fun m ρ _ => Cert.ReferenceIdeal.Gen.frame m ρ,
  fun m ρ _ => Cert.ReferenceIdeal.Gen.frame m ρ,
  fun m ρ _ => (θ_run _ _ _).mono (fun _ h => ⟨fun c => (h.1 c).2.2.2, h.2⟩) (Cert.Norm.Roll.results m ρ),
  fun m ρ _ => (θ_run _ _ _).mono (fun _ h => ⟨fun c => (h.1 c).2.2.2, h.2⟩) (Cert.NormIdeal.Roll.results m ρ),
  fun m ρ _ => (θ_run _ _ _).mono (fun _ h => ⟨fun c => (h.1 c).2.2.2, h.2⟩) (Cert.NormIdeal.Roll.results m ρ),
  fun m ρ _ => Cert.NormReferenceIdeal.Gen.frame m ρ,
  fun m ρ _ => Cert.NormReferenceIdeal.Gen.frame m ρ,
  trivial, algebraic, trivial, norm_algebraic⟩

end Cert.Proof

end
